-- ==== Defs.lean ====
def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9)
      ∧ r.2.mem ((c.tc : Thread Cert.Out.nD Cert.Out.τ).loc Cert.Out.main_arg10) = m ((c.tc : Thread Cert.Out.nD Cert.Out.τ).loc Cert.Out.main_arg10)
      ∧ r.2.mem ((c.tc : Thread Cert.Out.nD Cert.Out.τ).loc Cert.Out.main_arg11) = m ((c.tc : Thread Cert.Out.nD Cert.Out.τ).loc Cert.Out.main_arg11)
      ∧ r.2.mem ((c.tc : Thread Cert.Out.nD Cert.Out.τ).loc Cert.Out.main_arg12) = m ((c.tc : Thread Cert.Out.nD Cert.Out.τ).loc Cert.Out.main_arg12))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
      ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
      ∧ r.2.mem ((c.tc : Thread Cert.OutIdeal.nD Cert.OutIdeal.τ).loc Cert.OutIdeal.main_arg12) = m ((c.tc : Thread Cert.OutIdeal.nD Cert.OutIdeal.τ).loc Cert.OutIdeal.main_arg12))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10)
      ∧ r.2.mem ((c.tc : Thread Cert.OutRefIdeal.nD Cert.OutRefIdeal.τ).loc Cert.OutRefIdeal.main_arg11) = m ((c.tc : Thread Cert.OutRefIdeal.nD Cert.OutRefIdeal.τ).loc Cert.OutRefIdeal.main_arg11)
      ∧ r.2.mem ((c.tc : Thread Cert.OutRefIdeal.nD Cert.OutRefIdeal.τ).loc Cert.OutRefIdeal.main_arg12) = m ((c.tc : Thread Cert.OutRefIdeal.nD Cert.OutRefIdeal.τ).loc Cert.OutRefIdeal.main_arg12))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6)
      ∧ r.2.mem ((c.tc : Thread Cert.Loss.nD Cert.Loss.τ).loc Cert.Loss.main_arg7) = m ((c.tc : Thread Cert.Loss.nD Cert.Loss.τ).loc Cert.Loss.main_arg7))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9)
      ∧ r.2.mem ((c.tc : Thread Cert.Qkv.nD Cert.Qkv.τ).loc Cert.Qkv.main_arg10) = m ((c.tc : Thread Cert.Qkv.nD Cert.Qkv.τ).loc Cert.Qkv.main_arg10)
      ∧ r.2.mem ((c.tc : Thread Cert.Qkv.nD Cert.Qkv.τ).loc Cert.Qkv.main_arg11) = m ((c.tc : Thread Cert.Qkv.nD Cert.Qkv.τ).loc Cert.Qkv.main_arg11)
      ∧ r.2.mem ((c.tc : Thread Cert.Qkv.nD Cert.Qkv.τ).loc Cert.Qkv.main_arg12) = m ((c.tc : Thread Cert.Qkv.nD Cert.Qkv.τ).loc Cert.Qkv.main_arg12)
      ∧ r.2.mem ((c.tc : Thread Cert.Qkv.nD Cert.Qkv.τ).loc Cert.Qkv.main_arg13) = m ((c.tc : Thread Cert.Qkv.nD Cert.Qkv.τ).loc Cert.Qkv.main_arg13)
      ∧ r.2.mem ((c.tc : Thread Cert.Qkv.nD Cert.Qkv.τ).loc Cert.Qkv.main_arg14) = m ((c.tc : Thread Cert.Qkv.nD Cert.Qkv.τ).loc Cert.Qkv.main_arg14)
      ∧ r.2.mem ((c.tc : Thread Cert.Qkv.nD Cert.Qkv.τ).loc Cert.Qkv.main_arg15) = m ((c.tc : Thread Cert.Qkv.nD Cert.Qkv.τ).loc Cert.Qkv.main_arg15))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
      ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11)
      ∧ r.2.mem ((c.tc : Thread Cert.QkvIdeal.nD Cert.QkvIdeal.τ).loc Cert.QkvIdeal.main_arg12) = m ((c.tc : Thread Cert.QkvIdeal.nD Cert.QkvIdeal.τ).loc Cert.QkvIdeal.main_arg12)
      ∧ r.2.mem ((c.tc : Thread Cert.QkvIdeal.nD Cert.QkvIdeal.τ).loc Cert.QkvIdeal.main_arg13) = m ((c.tc : Thread Cert.QkvIdeal.nD Cert.QkvIdeal.τ).loc Cert.QkvIdeal.main_arg13)
      ∧ r.2.mem ((c.tc : Thread Cert.QkvIdeal.nD Cert.QkvIdeal.τ).loc Cert.QkvIdeal.main_arg14) = m ((c.tc : Thread Cert.QkvIdeal.nD Cert.QkvIdeal.τ).loc Cert.QkvIdeal.main_arg14)
      ∧ r.2.mem ((c.tc : Thread Cert.QkvIdeal.nD Cert.QkvIdeal.τ).loc Cert.QkvIdeal.main_arg15) = m ((c.tc : Thread Cert.QkvIdeal.nD Cert.QkvIdeal.τ).loc Cert.QkvIdeal.main_arg15))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9)
      ∧ r.2.mem ((c.tc : Thread Cert.QkvRefIdeal.nD Cert.QkvRefIdeal.τ).loc Cert.QkvRefIdeal.main_arg10) = m ((c.tc : Thread Cert.QkvRefIdeal.nD Cert.QkvRefIdeal.τ).loc Cert.QkvRefIdeal.main_arg10)
      ∧ r.2.mem ((c.tc : Thread Cert.QkvRefIdeal.nD Cert.QkvRefIdeal.τ).loc Cert.QkvRefIdeal.main_arg11) = m ((c.tc : Thread Cert.QkvRefIdeal.nD Cert.QkvRefIdeal.τ).loc Cert.QkvRefIdeal.main_arg11)
      ∧ r.2.mem ((c.tc : Thread Cert.QkvRefIdeal.nD Cert.QkvRefIdeal.τ).loc Cert.QkvRefIdeal.main_arg12) = m ((c.tc : Thread Cert.QkvRefIdeal.nD Cert.QkvRefIdeal.τ).loc Cert.QkvRefIdeal.main_arg12)
      ∧ r.2.mem ((c.tc : Thread Cert.QkvRefIdeal.nD Cert.QkvRefIdeal.τ).loc Cert.QkvRefIdeal.main_arg13) = m ((c.tc : Thread Cert.QkvRefIdeal.nD Cert.QkvRefIdeal.τ).loc Cert.QkvRefIdeal.main_arg13)
      ∧ r.2.mem ((c.tc : Thread Cert.QkvRefIdeal.nD Cert.QkvRefIdeal.τ).loc Cert.QkvRefIdeal.main_arg14) = m ((c.tc : Thread Cert.QkvRefIdeal.nD Cert.QkvRefIdeal.τ).loc Cert.QkvRefIdeal.main_arg14)
      ∧ r.2.mem ((c.tc : Thread Cert.QkvRefIdeal.nD Cert.QkvRefIdeal.τ).loc Cert.QkvRefIdeal.main_arg15) = m ((c.tc : Thread Cert.QkvRefIdeal.nD Cert.QkvRefIdeal.τ).loc Cert.QkvRefIdeal.main_arg15))
      ∧ r.2.sem = fun _ => 0)

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v0)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Attn_AttnIdeal : Prop :=
  IdealRules.named_const.Statement Cert.AttnIdeal.κ "mask" .f32 0xF149F2CA#32 ⊥
  ∧ IdealRules.named_const.Statement Cert.AttnIdeal.κ "ln2" .f32 0x3F317218#32 ((Real.log 2 : ℝ) : EReal)

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v62)) (v1 : (c : Dev Cert.AttnIdeal.nD) → Buf (Elt Ideal) ((c.tc : Thread Cert.AttnIdeal.nD Cert.AttnIdeal.τ).loc Cert.AttnIdeal.main_v63)) (v2 : (c : Dev Cert.AttnIdeal.nD) → Buf (Elt Ideal) ((c.tc : Thread Cert.AttnIdeal.nD Cert.AttnIdeal.τ).loc Cert.AttnIdeal.main_v57_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v62) = v0 c
          ∧ r.2.mem ((c.tc : Thread Cert.AttnIdeal.nD Cert.AttnIdeal.τ).loc Cert.AttnIdeal.main_v63) = v1 c
          ∧ r.2.mem ((c.tc : Thread Cert.AttnIdeal.nD Cert.AttnIdeal.τ).loc Cert.AttnIdeal.main_v57_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v58) = v0 c
          ∧ r.2.mem ((c.tc : Thread Cert.AttnRefIdeal.nD Cert.AttnRefIdeal.τ).loc Cert.AttnRefIdeal.main_v57) = v1 c
          ∧ r.2.mem ((c.tc : Thread Cert.AttnRefIdeal.nD Cert.AttnRefIdeal.τ).loc Cert.AttnRefIdeal.main_v40) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v29)) (v1 : (c : Dev Cert.MlpIdeal.nD) → Buf (Elt Ideal) ((c.tc : Thread Cert.MlpIdeal.nD Cert.MlpIdeal.τ).loc Cert.MlpIdeal.main_v33)) (v2 : (c : Dev Cert.MlpIdeal.nD) → Buf (Elt Ideal) ((c.tc : Thread Cert.MlpIdeal.nD Cert.MlpIdeal.τ).loc Cert.MlpIdeal.main_v35)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v29) = v0 c
          ∧ r.2.mem ((c.tc : Thread Cert.MlpIdeal.nD Cert.MlpIdeal.τ).loc Cert.MlpIdeal.main_v33) = v1 c
          ∧ r.2.mem ((c.tc : Thread Cert.MlpIdeal.nD Cert.MlpIdeal.τ).loc Cert.MlpIdeal.main_v35) = v2 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v19) = v0 c
          ∧ r.2.mem ((c.tc : Thread Cert.MlpRefIdeal.nD Cert.MlpRefIdeal.τ).loc Cert.MlpRefIdeal.main_v18) = v1 c
          ∧ r.2.mem ((c.tc : Thread Cert.MlpRefIdeal.nD Cert.MlpRefIdeal.τ).loc Cert.MlpRefIdeal.main_v11) = v2 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v18_0)) (v1 : (c : Dev Cert.ProjIdeal.nD) → Buf (Elt Ideal) ((c.tc : Thread Cert.ProjIdeal.nD Cert.ProjIdeal.τ).loc Cert.ProjIdeal.main_v24)) (v2 : (c : Dev Cert.ProjIdeal.nD) → Buf (Elt Ideal) ((c.tc : Thread Cert.ProjIdeal.nD Cert.ProjIdeal.τ).loc Cert.ProjIdeal.main_v18_2)) (v3 : (c : Dev Cert.ProjIdeal.nD) → Buf (Elt Ideal) ((c.tc : Thread Cert.ProjIdeal.nD Cert.ProjIdeal.τ).loc Cert.ProjIdeal.main_v18_3)) (v4 : (c : Dev Cert.ProjIdeal.nD) → Buf (Elt Ideal) ((c.tc : Thread Cert.ProjIdeal.nD Cert.ProjIdeal.τ).loc Cert.ProjIdeal.main_v26)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v18_0) = v0 c
          ∧ r.2.mem ((c.tc : Thread Cert.ProjIdeal.nD Cert.ProjIdeal.τ).loc Cert.ProjIdeal.main_v24) = v1 c
          ∧ r.2.mem ((c.tc : Thread Cert.ProjIdeal.nD Cert.ProjIdeal.τ).loc Cert.ProjIdeal.main_v18_2) = v2 c
          ∧ r.2.mem ((c.tc : Thread Cert.ProjIdeal.nD Cert.ProjIdeal.τ).loc Cert.ProjIdeal.main_v18_3) = v3 c
          ∧ r.2.mem ((c.tc : Thread Cert.ProjIdeal.nD Cert.ProjIdeal.τ).loc Cert.ProjIdeal.main_v26) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v53) = v0 c
          ∧ r.2.mem ((c.tc : Thread Cert.ProjRefIdeal.nD Cert.ProjRefIdeal.τ).loc Cert.ProjRefIdeal.main_v38) = v1 c
          ∧ r.2.mem ((c.tc : Thread Cert.ProjRefIdeal.nD Cert.ProjRefIdeal.τ).loc Cert.ProjRefIdeal.main_v27) = v2 c
          ∧ r.2.mem ((c.tc : Thread Cert.ProjRefIdeal.nD Cert.ProjRefIdeal.τ).loc Cert.ProjRefIdeal.main_v30) = v3 c
          ∧ r.2.mem ((c.tc : Thread Cert.ProjRefIdeal.nD Cert.ProjRefIdeal.τ).loc Cert.ProjRefIdeal.main_v24) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)
      ∧ m' ((c.tc : Thread Cert.OutRefIdeal.nD Cert.OutRefIdeal.τ).loc Cert.OutRefIdeal.main_arg10) = m ((c.tc : Thread Cert.OutIdeal.nD Cert.OutIdeal.τ).loc Cert.OutIdeal.main_arg10)
      ∧ m' ((c.tc : Thread Cert.OutRefIdeal.nD Cert.OutRefIdeal.τ).loc Cert.OutRefIdeal.main_arg11) = m ((c.tc : Thread Cert.OutIdeal.nD Cert.OutIdeal.τ).loc Cert.OutIdeal.main_arg11)
      ∧ m' ((c.tc : Thread Cert.OutRefIdeal.nD Cert.OutRefIdeal.τ).loc Cert.OutRefIdeal.main_arg12) = m ((c.tc : Thread Cert.OutIdeal.nD Cert.OutIdeal.τ).loc Cert.OutIdeal.main_arg12)) →
    ∃ (v0 : (c : Dev Cert.OutIdeal.nD) → Buf (Elt Ideal) ((c.tc : Thread Cert.OutIdeal.nD Cert.OutIdeal.τ).loc Cert.OutIdeal.main_v35_0)) (v1 : (c : Dev Cert.OutIdeal.nD) → Buf (Elt Ideal) ((c.tc : Thread Cert.OutIdeal.nD Cert.OutIdeal.τ).loc Cert.OutIdeal.main_v36)) (v2 : (c : Dev Cert.OutIdeal.nD) → Buf (Elt Ideal) ((c.tc : Thread Cert.OutIdeal.nD Cert.OutIdeal.τ).loc Cert.OutIdeal.main_v35_2)) (v3 : (c : Dev Cert.OutIdeal.nD) → Buf (Elt Ideal) ((c.tc : Thread Cert.OutIdeal.nD Cert.OutIdeal.τ).loc Cert.OutIdeal.main_v35_3)) (v4 : (c : Dev Cert.OutIdeal.nD) → Buf (Elt Ideal) ((c.tc : Thread Cert.OutIdeal.nD Cert.OutIdeal.τ).loc Cert.OutIdeal.main_v38)) (v5 : (c : Dev Cert.OutIdeal.nD) → Buf (Elt Ideal) ((c.tc : Thread Cert.OutIdeal.nD Cert.OutIdeal.τ).loc Cert.OutIdeal.main_v42)) (v6 : (c : Dev Cert.OutIdeal.nD) → Buf (Elt Ideal) ((c.tc : Thread Cert.OutIdeal.nD Cert.OutIdeal.τ).loc Cert.OutIdeal.main_v35_5)) (v7 : (c : Dev Cert.OutIdeal.nD) → Buf (Elt Ideal) ((c.tc : Thread Cert.OutIdeal.nD Cert.OutIdeal.τ).loc Cert.OutIdeal.main_v35_6)) (v8 : (c : Dev Cert.OutIdeal.nD) → Buf (Elt Ideal) ((c.tc : Thread Cert.OutIdeal.nD Cert.OutIdeal.τ).loc Cert.OutIdeal.main_v35_7)) (v9 : (c : Dev Cert.OutIdeal.nD) → Buf (Elt Ideal) ((c.tc : Thread Cert.OutIdeal.nD Cert.OutIdeal.τ).loc Cert.OutIdeal.main_v43)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v35_0) = v0 c
          ∧ r.2.mem ((c.tc : Thread Cert.OutIdeal.nD Cert.OutIdeal.τ).loc Cert.OutIdeal.main_v36) = v1 c
          ∧ r.2.mem ((c.tc : Thread Cert.OutIdeal.nD Cert.OutIdeal.τ).loc Cert.OutIdeal.main_v35_2) = v2 c
          ∧ r.2.mem ((c.tc : Thread Cert.OutIdeal.nD Cert.OutIdeal.τ).loc Cert.OutIdeal.main_v35_3) = v3 c
          ∧ r.2.mem ((c.tc : Thread Cert.OutIdeal.nD Cert.OutIdeal.τ).loc Cert.OutIdeal.main_v38) = v4 c
          ∧ r.2.mem ((c.tc : Thread Cert.OutIdeal.nD Cert.OutIdeal.τ).loc Cert.OutIdeal.main_v42) = v5 c
          ∧ r.2.mem ((c.tc : Thread Cert.OutIdeal.nD Cert.OutIdeal.τ).loc Cert.OutIdeal.main_v35_5) = v6 c
          ∧ r.2.mem ((c.tc : Thread Cert.OutIdeal.nD Cert.OutIdeal.τ).loc Cert.OutIdeal.main_v35_6) = v7 c
          ∧ r.2.mem ((c.tc : Thread Cert.OutIdeal.nD Cert.OutIdeal.τ).loc Cert.OutIdeal.main_v35_7) = v8 c
          ∧ r.2.mem ((c.tc : Thread Cert.OutIdeal.nD Cert.OutIdeal.τ).loc Cert.OutIdeal.main_v43) = v9 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
          ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
          ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
          ∧ r.2.mem ((c.tc : Thread Cert.OutIdeal.nD Cert.OutIdeal.τ).loc Cert.OutIdeal.main_arg12) = m ((c.tc : Thread Cert.OutIdeal.nD Cert.OutIdeal.τ).loc Cert.OutIdeal.main_arg12))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v71) = v0 c
          ∧ r.2.mem ((c.tc : Thread Cert.OutRefIdeal.nD Cert.OutRefIdeal.τ).loc Cert.OutRefIdeal.main_v56) = v1 c
          ∧ r.2.mem ((c.tc : Thread Cert.OutRefIdeal.nD Cert.OutRefIdeal.τ).loc Cert.OutRefIdeal.main_v45) = v2 c
          ∧ r.2.mem ((c.tc : Thread Cert.OutRefIdeal.nD Cert.OutRefIdeal.τ).loc Cert.OutRefIdeal.main_v48) = v3 c
          ∧ r.2.mem ((c.tc : Thread Cert.OutRefIdeal.nD Cert.OutRefIdeal.τ).loc Cert.OutRefIdeal.main_v83) = v4 c
          ∧ r.2.mem ((c.tc : Thread Cert.OutRefIdeal.nD Cert.OutRefIdeal.τ).loc Cert.OutRefIdeal.main_v85) = v5 c
          ∧ r.2.mem ((c.tc : Thread Cert.OutRefIdeal.nD Cert.OutRefIdeal.τ).loc Cert.OutRefIdeal.main_v81) = v6 c
          ∧ r.2.mem ((c.tc : Thread Cert.OutRefIdeal.nD Cert.OutRefIdeal.τ).loc Cert.OutRefIdeal.main_v76) = v7 c
          ∧ r.2.mem ((c.tc : Thread Cert.OutRefIdeal.nD Cert.OutRefIdeal.τ).loc Cert.OutRefIdeal.main_v43) = v8 c
          ∧ r.2.mem ((c.tc : Thread Cert.OutRefIdeal.nD Cert.OutRefIdeal.τ).loc Cert.OutRefIdeal.main_v78) = v9 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9)
          ∧ r.2.mem ((c.tc : Thread Cert.OutRefIdeal.nD Cert.OutRefIdeal.τ).loc Cert.OutRefIdeal.main_arg10) = m' ((c.tc : Thread Cert.OutRefIdeal.nD Cert.OutRefIdeal.τ).loc Cert.OutRefIdeal.main_arg10)
          ∧ r.2.mem ((c.tc : Thread Cert.OutRefIdeal.nD Cert.OutRefIdeal.τ).loc Cert.OutRefIdeal.main_arg11) = m' ((c.tc : Thread Cert.OutRefIdeal.nD Cert.OutRefIdeal.τ).loc Cert.OutRefIdeal.main_arg11)
          ∧ r.2.mem ((c.tc : Thread Cert.OutRefIdeal.nD Cert.OutRefIdeal.τ).loc Cert.OutRefIdeal.main_arg12) = m' ((c.tc : Thread Cert.OutRefIdeal.nD Cert.OutRefIdeal.τ).loc Cert.OutRefIdeal.main_arg12))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)
      ∧ m' ((c.tc : Thread Cert.LossRefIdeal.nD Cert.LossRefIdeal.τ).loc Cert.LossRefIdeal.main_arg6) = m ((c.tc : Thread Cert.LossIdeal.nD Cert.LossIdeal.τ).loc Cert.LossIdeal.main_arg6)
      ∧ m' ((c.tc : Thread Cert.LossRefIdeal.nD Cert.LossRefIdeal.τ).loc Cert.LossRefIdeal.main_arg7) = m ((c.tc : Thread Cert.LossIdeal.nD Cert.LossIdeal.τ).loc Cert.LossIdeal.main_arg7)) →
    ∃ (v0 : (c : Dev Cert.LossIdeal.nD) → Buf (Elt Ideal) ((c.tc : Thread Cert.LossIdeal.nD Cert.LossIdeal.τ).loc Cert.LossIdeal.main_v8)) (v1 : (c : Dev Cert.LossIdeal.nD) → Buf (Elt Ideal) ((c.tc : Thread Cert.LossIdeal.nD Cert.LossIdeal.τ).loc Cert.LossIdeal.main_v6_0)) (v2 : (c : Dev Cert.LossIdeal.nD) → Buf (Elt Ideal) ((c.tc : Thread Cert.LossIdeal.nD Cert.LossIdeal.τ).loc Cert.LossIdeal.main_v6_1)) (v3 : (c : Dev Cert.LossIdeal.nD) → Buf (Elt Ideal) ((c.tc : Thread Cert.LossIdeal.nD Cert.LossIdeal.τ).loc Cert.LossIdeal.main_v9)) (v4 : (c : Dev Cert.LossIdeal.nD) → Buf (Elt Ideal) ((c.tc : Thread Cert.LossIdeal.nD Cert.LossIdeal.τ).loc Cert.LossIdeal.main_v12)) (v5 : (c : Dev Cert.LossIdeal.nD) → Buf (Elt Ideal) ((c.tc : Thread Cert.LossIdeal.nD Cert.LossIdeal.τ).loc Cert.LossIdeal.main_v15)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v8) = v0 c
          ∧ r.2.mem ((c.tc : Thread Cert.LossIdeal.nD Cert.LossIdeal.τ).loc Cert.LossIdeal.main_v6_0) = v1 c
          ∧ r.2.mem ((c.tc : Thread Cert.LossIdeal.nD Cert.LossIdeal.τ).loc Cert.LossIdeal.main_v6_1) = v2 c
          ∧ r.2.mem ((c.tc : Thread Cert.LossIdeal.nD Cert.LossIdeal.τ).loc Cert.LossIdeal.main_v9) = v3 c
          ∧ r.2.mem ((c.tc : Thread Cert.LossIdeal.nD Cert.LossIdeal.τ).loc Cert.LossIdeal.main_v12) = v4 c
          ∧ r.2.mem ((c.tc : Thread Cert.LossIdeal.nD Cert.LossIdeal.τ).loc Cert.LossIdeal.main_v15) = v5 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
          ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v36) = v0 c
          ∧ r.2.mem ((c.tc : Thread Cert.LossRefIdeal.nD Cert.LossRefIdeal.τ).loc Cert.LossRefIdeal.main_v42) = v1 c
          ∧ r.2.mem ((c.tc : Thread Cert.LossRefIdeal.nD Cert.LossRefIdeal.τ).loc Cert.LossRefIdeal.main_v24) = v2 c
          ∧ r.2.mem ((c.tc : Thread Cert.LossRefIdeal.nD Cert.LossRefIdeal.τ).loc Cert.LossRefIdeal.main_v18) = v3 c
          ∧ r.2.mem ((c.tc : Thread Cert.LossRefIdeal.nD Cert.LossRefIdeal.τ).loc Cert.LossRefIdeal.main_v20) = v4 c
          ∧ r.2.mem ((c.tc : Thread Cert.LossRefIdeal.nD Cert.LossRefIdeal.τ).loc Cert.LossRefIdeal.main_v21) = v5 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6)
          ∧ r.2.mem ((c.tc : Thread Cert.LossRefIdeal.nD Cert.LossRefIdeal.τ).loc Cert.LossRefIdeal.main_arg7) = m' ((c.tc : Thread Cert.LossRefIdeal.nD Cert.LossRefIdeal.τ).loc Cert.LossRefIdeal.main_arg7))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)
      ∧ m' ((c.tc : Thread Cert.QkvRefIdeal.nD Cert.QkvRefIdeal.τ).loc Cert.QkvRefIdeal.main_arg10) = m ((c.tc : Thread Cert.QkvIdeal.nD Cert.QkvIdeal.τ).loc Cert.QkvIdeal.main_arg10)
      ∧ m' ((c.tc : Thread Cert.QkvRefIdeal.nD Cert.QkvRefIdeal.τ).loc Cert.QkvRefIdeal.main_arg11) = m ((c.tc : Thread Cert.QkvIdeal.nD Cert.QkvIdeal.τ).loc Cert.QkvIdeal.main_arg11)
      ∧ m' ((c.tc : Thread Cert.QkvRefIdeal.nD Cert.QkvRefIdeal.τ).loc Cert.QkvRefIdeal.main_arg12) = m ((c.tc : Thread Cert.QkvIdeal.nD Cert.QkvIdeal.τ).loc Cert.QkvIdeal.main_arg12)
      ∧ m' ((c.tc : Thread Cert.QkvRefIdeal.nD Cert.QkvRefIdeal.τ).loc Cert.QkvRefIdeal.main_arg13) = m ((c.tc : Thread Cert.QkvIdeal.nD Cert.QkvIdeal.τ).loc Cert.QkvIdeal.main_arg13)
      ∧ m' ((c.tc : Thread Cert.QkvRefIdeal.nD Cert.QkvRefIdeal.τ).loc Cert.QkvRefIdeal.main_arg14) = m ((c.tc : Thread Cert.QkvIdeal.nD Cert.QkvIdeal.τ).loc Cert.QkvIdeal.main_arg14)
      ∧ m' ((c.tc : Thread Cert.QkvRefIdeal.nD Cert.QkvRefIdeal.τ).loc Cert.QkvRefIdeal.main_arg15) = m ((c.tc : Thread Cert.QkvIdeal.nD Cert.QkvIdeal.τ).loc Cert.QkvIdeal.main_arg15)) →
    ∃ (v0 : (c : Dev Cert.QkvIdeal.nD) → Buf (Elt Ideal) ((c.tc : Thread Cert.QkvIdeal.nD Cert.QkvIdeal.τ).loc Cert.QkvIdeal.main_v35)) (v1 : (c : Dev Cert.QkvIdeal.nD) → Buf (Elt Ideal) ((c.tc : Thread Cert.QkvIdeal.nD Cert.QkvIdeal.τ).loc Cert.QkvIdeal.main_v37)) (v2 : (c : Dev Cert.QkvIdeal.nD) → Buf (Elt Ideal) ((c.tc : Thread Cert.QkvIdeal.nD Cert.QkvIdeal.τ).loc Cert.QkvIdeal.main_v38)) (v3 : (c : Dev Cert.QkvIdeal.nD) → Buf (Elt Ideal) ((c.tc : Thread Cert.QkvIdeal.nD Cert.QkvIdeal.τ).loc Cert.QkvIdeal.main_v40)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v35) = v0 c
          ∧ r.2.mem ((c.tc : Thread Cert.QkvIdeal.nD Cert.QkvIdeal.τ).loc Cert.QkvIdeal.main_v37) = v1 c
          ∧ r.2.mem ((c.tc : Thread Cert.QkvIdeal.nD Cert.QkvIdeal.τ).loc Cert.QkvIdeal.main_v38) = v2 c
          ∧ r.2.mem ((c.tc : Thread Cert.QkvIdeal.nD Cert.QkvIdeal.τ).loc Cert.QkvIdeal.main_v40) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
          ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
          ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11)
          ∧ r.2.mem ((c.tc : Thread Cert.QkvIdeal.nD Cert.QkvIdeal.τ).loc Cert.QkvIdeal.main_arg12) = m ((c.tc : Thread Cert.QkvIdeal.nD Cert.QkvIdeal.τ).loc Cert.QkvIdeal.main_arg12)
          ∧ r.2.mem ((c.tc : Thread Cert.QkvIdeal.nD Cert.QkvIdeal.τ).loc Cert.QkvIdeal.main_arg13) = m ((c.tc : Thread Cert.QkvIdeal.nD Cert.QkvIdeal.τ).loc Cert.QkvIdeal.main_arg13)
          ∧ r.2.mem ((c.tc : Thread Cert.QkvIdeal.nD Cert.QkvIdeal.τ).loc Cert.QkvIdeal.main_arg14) = m ((c.tc : Thread Cert.QkvIdeal.nD Cert.QkvIdeal.τ).loc Cert.QkvIdeal.main_arg14)
          ∧ r.2.mem ((c.tc : Thread Cert.QkvIdeal.nD Cert.QkvIdeal.τ).loc Cert.QkvIdeal.main_arg15) = m ((c.tc : Thread Cert.QkvIdeal.nD Cert.QkvIdeal.τ).loc Cert.QkvIdeal.main_arg15))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v157) = v0 c
          ∧ r.2.mem ((c.tc : Thread Cert.QkvRefIdeal.nD Cert.QkvRefIdeal.τ).loc Cert.QkvRefIdeal.main_v141) = v1 c
          ∧ r.2.mem ((c.tc : Thread Cert.QkvRefIdeal.nD Cert.QkvRefIdeal.τ).loc Cert.QkvRefIdeal.main_v425) = v2 c
          ∧ r.2.mem ((c.tc : Thread Cert.QkvRefIdeal.nD Cert.QkvRefIdeal.τ).loc Cert.QkvRefIdeal.main_v423) = v3 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9)
          ∧ r.2.mem ((c.tc : Thread Cert.QkvRefIdeal.nD Cert.QkvRefIdeal.τ).loc Cert.QkvRefIdeal.main_arg10) = m' ((c.tc : Thread Cert.QkvRefIdeal.nD Cert.QkvRefIdeal.τ).loc Cert.QkvRefIdeal.main_arg10)
          ∧ r.2.mem ((c.tc : Thread Cert.QkvRefIdeal.nD Cert.QkvRefIdeal.τ).loc Cert.QkvRefIdeal.main_arg11) = m' ((c.tc : Thread Cert.QkvRefIdeal.nD Cert.QkvRefIdeal.τ).loc Cert.QkvRefIdeal.main_arg11)
          ∧ r.2.mem ((c.tc : Thread Cert.QkvRefIdeal.nD Cert.QkvRefIdeal.τ).loc Cert.QkvRefIdeal.main_arg12) = m' ((c.tc : Thread Cert.QkvRefIdeal.nD Cert.QkvRefIdeal.τ).loc Cert.QkvRefIdeal.main_arg12)
          ∧ r.2.mem ((c.tc : Thread Cert.QkvRefIdeal.nD Cert.QkvRefIdeal.τ).loc Cert.QkvRefIdeal.main_arg13) = m' ((c.tc : Thread Cert.QkvRefIdeal.nD Cert.QkvRefIdeal.τ).loc Cert.QkvRefIdeal.main_arg13)
          ∧ r.2.mem ((c.tc : Thread Cert.QkvRefIdeal.nD Cert.QkvRefIdeal.τ).loc Cert.QkvRefIdeal.main_arg14) = m' ((c.tc : Thread Cert.QkvRefIdeal.nD Cert.QkvRefIdeal.τ).loc Cert.QkvRefIdeal.main_arg14)
          ∧ r.2.mem ((c.tc : Thread Cert.QkvRefIdeal.nD Cert.QkvRefIdeal.τ).loc Cert.QkvRefIdeal.main_arg15) = m' ((c.tc : Thread Cert.QkvRefIdeal.nD Cert.QkvRefIdeal.τ).loc Cert.QkvRefIdeal.main_arg15))

def Claim : Prop :=
  ∃ (hAda : Cert.Ada.Facts) (hAdaIdeal : Cert.AdaIdeal.Facts) (hAdaRefIdeal : Cert.AdaRefIdeal.Facts) (hAttn : Cert.Attn.Facts) (hAttnIdeal : Cert.AttnIdeal.Facts) (hAttnRefIdeal : Cert.AttnRefIdeal.Facts) (hMlp : Cert.Mlp.Facts) (hMlpIdeal : Cert.MlpIdeal.Facts) (hMlpRefIdeal : Cert.MlpRefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hLoss : Cert.Loss.Facts) (hLossIdeal : Cert.LossIdeal.Facts) (hLossRefIdeal : Cert.LossRefIdeal.Facts) (hQkv : Cert.Qkv.Facts) (hQkvIdeal : Cert.QkvIdeal.Facts) (hQkvRefIdeal : Cert.QkvRefIdeal.Facts) (hPre_finite : Cert.Pre_finite.Facts),
    quiescent_Ada (hAda := hAda)
    ∧ quiescent_AdaIdeal (hAdaIdeal := hAdaIdeal)
    ∧ quiescent_AdaRefIdeal (hAdaRefIdeal := hAdaRefIdeal)
    ∧ quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Mlp (hMlp := hMlp)
    ∧ quiescent_MlpIdeal (hMlpIdeal := hMlpIdeal)
    ∧ quiescent_MlpRefIdeal (hMlpRefIdeal := hMlpRefIdeal)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_Loss (hLoss := hLoss)
    ∧ quiescent_LossIdeal (hLossIdeal := hLossIdeal)
    ∧ quiescent_LossRefIdeal (hLossRefIdeal := hLossRefIdeal)
    ∧ quiescent_Qkv (hQkv := hQkv)
    ∧ quiescent_QkvIdeal (hQkvIdeal := hQkvIdeal)
    ∧ quiescent_QkvRefIdeal (hQkvRefIdeal := hQkvRefIdeal)
    ∧ preserves_Ada_AdaIdeal
    ∧ algebraic_AdaIdeal_AdaRefIdeal (hAdaIdeal := hAdaIdeal) (hAdaRefIdeal := hAdaRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Mlp_MlpIdeal
    ∧ algebraic_MlpIdeal_MlpRefIdeal (hMlpIdeal := hMlpIdeal) (hMlpRefIdeal := hMlpRefIdeal)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_Loss_LossIdeal
    ∧ algebraic_LossIdeal_LossRefIdeal (hLossIdeal := hLossIdeal) (hLossRefIdeal := hLossRefIdeal)
    ∧ preserves_Qkv_QkvIdeal
    ∧ algebraic_QkvIdeal_QkvRefIdeal (hQkvIdeal := hQkvIdeal) (hQkvRefIdeal := hQkvRefIdeal)
-- ==== Pre_finite.lean ====
abbrev S8x4096x96 : Shape := ⟨3, ![8, 4096, 96]⟩
abbrev S8x4096x64 : Shape := ⟨3, ![8, 4096, 64]⟩
abbrev S_ : Shape := ⟨0, ![]⟩
abbrev S1 : Shape := ⟨1, ![1]⟩
abbrev S4 : Shape := ⟨1, ![4]⟩

class Facts : Prop where
  bcast_S_S8x4096x96 : S_.BroadcastsInDim S8x4096x96 (![] : Fin 0 → Fin S8x4096x96.rank)
  reducesTo_S8x4096x96_S_d0_1_2 : S8x4096x96.ReducesTo [0, 1, 2] S_
  h_S_ : 0 < S_.numel
  bcast_S_S8x4096x64 : S_.BroadcastsInDim S8x4096x64 (![] : Fin 0 → Fin S8x4096x64.rank)
  reducesTo_S8x4096x64_S_d0_1_2 : S8x4096x64.ReducesTo [0, 1, 2] S_
  bcast_S_S1 : S_.BroadcastsInDim S1 (![] : Fin 0 → Fin S1.rank)
  concatenates_S1_S1_S1_S1_S4_d0 : Shape.Concatenates [S1, S1, S1, S1] S4 0

variable [Facts]

def fn_part1 {F : FTy → Type} [FloatOps F] (main_v3 : IVec S_ 1) (main_v7 : IVec S_ 1) (main_v11 : IVec S_ 1) (main_v15 : IVec S_ 1) : IVec S4 1 :=
  let main_v16 : IVec S1 1 := broadcastInDim S1 ![] bcast_S_S1 main_v3
  let main_v17 : IVec S1 1 := broadcastInDim S1 ![] bcast_S_S1 main_v7
  let main_v18 : IVec S1 1 := broadcastInDim S1 ![] bcast_S_S1 main_v11
  let main_v19 : IVec S1 1 := broadcastInDim S1 ![] bcast_S_S1 main_v15
  let main_v20 : IVec S4 1 := concatenate S4 0 [⟨S1, main_v16⟩, ⟨S1, main_v17⟩, ⟨S1, main_v18⟩, ⟨S1, main_v19⟩] concatenates_S1_S1_S1_S1_S4_d0
  main_v20

def fn {F : FTy → Type} [FloatOps F] (main_arg0 : FVec F S8x4096x96 .f32) (main_arg1 : FVec F S8x4096x96 .f32) (main_arg2 : FVec F S8x4096x64 .f32) (main_arg3 : FVec F S8x4096x64 .f32) : IVec S4 1 :=
  let main_v0 : FVec F S8x4096x96 .f32 := Host.absf main_arg0
  let main_cst : FVec F S_ .f32 := constant S_ .f32 0x7F800000#32
  let main_v1 : FVec F S8x4096x96 .f32 := broadcastInDim S8x4096x96 ![] bcast_S_S8x4096x96 main_cst
  let main_v2 : IVec S8x4096x96 1 := cmpf .olt main_v0 main_v1
  let main_c : IVec S_ 1 := constantI S_ 1 1#1
  let main_v3 : IVec S_ 1 := (fun x v => Host.reduce IntOp.andi x v reducesTo_S8x4096x96_S_d0_1_2 h_S_) main_v2 main_c
  let main_v4 : FVec F S8x4096x96 .f32 := Host.absf main_arg1
  let main_cst_0 : FVec F S_ .f32 := constant S_ .f32 0x7F800000#32
  let main_v5 : FVec F S8x4096x96 .f32 := broadcastInDim S8x4096x96 ![] bcast_S_S8x4096x96 main_cst_0
  let main_v6 : IVec S8x4096x96 1 := cmpf .olt main_v4 main_v5
  let main_c_1 : IVec S_ 1 := constantI S_ 1 1#1
  let main_v7 : IVec S_ 1 := (fun x v => Host.reduce IntOp.andi x v reducesTo_S8x4096x96_S_d0_1_2 h_S_) main_v6 main_c_1
  let main_v8 : FVec F S8x4096x64 .f32 := Host.absf main_arg2
  let main_cst_2 : FVec F S_ .f32 := constant S_ .f32 0x7F800000#32
  let main_v9 : FVec F S8x4096x64 .f32 := broadcastInDim S8x4096x64 ![] bcast_S_S8x4096x64 main_cst_2
  let main_v10 : IVec S8x4096x64 1 := cmpf .olt main_v8 main_v9
  let main_c_3 : IVec S_ 1 := constantI S_ 1 1#1
  let main_v11 : IVec S_ 1 := (fun x v => Host.reduce IntOp.andi x v reducesTo_S8x4096x64_S_d0_1_2 h_S_) main_v10 main_c_3
  let main_v12 : FVec F S8x4096x64 .f32 := Host.absf main_arg3
  let main_cst_4 : FVec F S_ .f32 := constant S_ .f32 0x7F800000#32
  let main_v13 : FVec F S8x4096x64 .f32 := broadcastInDim S8x4096x64 ![] bcast_S_S8x4096x64 main_cst_4
  let main_v14 : IVec S8x4096x64 1 := cmpf .olt main_v12 main_v13
  let main_c_5 : IVec S_ 1 := constantI S_ 1 1#1
  let main_v15 : IVec S_ 1 := (fun x v => Host.reduce IntOp.andi x v reducesTo_S8x4096x64_S_d0_1_2 h_S_) main_v14 main_c_5
  fn_part1 (F := F) main_v3 main_v7 main_v11 main_v15
-- ==== Ada.lean ====
abbrev S8x1024 : Shape := ⟨2, ![8, 1024]⟩
abbrev S2x1024x768 : Shape := ⟨3, ![2, 1024, 768]⟩
abbrev S2x8x768 : Shape := ⟨3, ![2, 8, 768]⟩
abbrev S1x8x768 : Shape := ⟨3, ![1, 8, 768]⟩
abbrev S1x1024x768 : Shape := ⟨3, ![1, 1024, 768]⟩
abbrev S8x768 : Shape := ⟨2, ![8, 768]⟩
abbrev S1024x768 : Shape := ⟨2, ![1024, 768]⟩

abbrev nBuf : Space → Nat
  | .hbm => 4
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S2x1024x768, .f32⟩
  | .hbm, ⟨2, _⟩ => ⟨S2x8x768, .f32⟩
  | .hbm, ⟨3, _⟩ => ⟨S2x1024x768, .f32⟩
  | .local _ .vmem, ⟨0, _⟩ => ⟨S8x1024, .f32⟩
  | .local _ .vmem, ⟨1, _⟩ => ⟨S1x8x768, .f32⟩
  | .local _ .vmem, ⟨2, _⟩ => ⟨S1x8x768, .f32⟩
  | .local _ .vmem, ⟨3, _⟩ => ⟨S1x1024x768, .f32⟩
  | .local _ .vmem, ⟨4, _⟩ => ⟨S1x1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdaRefIdeal.lean ====
abbrev S8x1024 : Shape := ⟨2, ![8, 1024]⟩
abbrev S2x1024x768 : Shape := ⟨3, ![2, 1024, 768]⟩
abbrev S2x8x768 : Shape := ⟨3, ![2, 8, 768]⟩
abbrev S_ : Shape := ⟨0, ![]⟩
abbrev S2x768x8 : Shape := ⟨3, ![2, 768, 8]⟩
abbrev S2x768x1024 : Shape := ⟨3, ![2, 768, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x768, .f32⟩
  | .hbm, ⟨2, _⟩ => ⟨S2x8x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S2x768x8, .f32⟩
  | .hbm, ⟨13, _⟩ => ⟨S2x8x768, .f32⟩
  | .hbm, ⟨14, _⟩ => ⟨S2x768x8, .f32⟩
  | .hbm, ⟨15, _⟩ => ⟨S2x768x1024, .f32⟩
  | .hbm, ⟨16, _⟩ => ⟨S2x1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Attn.lean ====
abbrev S8x4096x96 : Shape := ⟨3, ![8, 4096, 96]⟩
abbrev S8x4096x64 : Shape := ⟨3, ![8, 4096, 64]⟩
abbrev S4096 : Shape := ⟨1, ![4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x4096x4096 : Shape := ⟨3, ![8, 4096, 4096]⟩
abbrev S8x4096 : Shape := ⟨2, ![8, 4096]⟩
abbrev S8x4096x1 : Shape := ⟨3, ![8, 4096, 1]⟩
abbrev S8x4096x30 : Shape := ⟨3, ![8, 4096, 30]⟩
abbrev S8x4096x128 : Shape := ⟨3, ![8, 4096, 128]⟩
abbrev S8x4096x2 : Shape := ⟨3, ![8, 4096, 2]⟩
abbrev S8x4096x62 : Shape := ⟨3, ![8, 4096, 62]⟩
abbrev S4x4096x128 : Shape := ⟨3, ![4, 4096, 128]⟩
abbrev S4x512x128 : Shape := ⟨3, ![4, 512, 128]⟩
abbrev S4x512x64 : Shape := ⟨3, ![4, 512, 64]⟩
abbrev S1x256x128 : Shape := ⟨3, ![1, 256, 128]⟩
abbrev S256x128 : Shape := ⟨2, ![256, 128]⟩
abbrev S256x256 : Shape := ⟨2, ![256, 256]⟩
abbrev S1x512x128 : Shape := ⟨3, ![1, 512, 128]⟩
abbrev S512x128 : Shape := ⟨2, ![512, 128]⟩
abbrev S256x512 : Shape := ⟨2, ![256, 512]⟩
abbrev S512x512 : Shape := ⟨2, ![512, 512]⟩
abbrev S1x1x128 : Shape := ⟨3, ![1, 1, 128]⟩

abbrev nBuf : Space → Nat
  | .hbm => 86
  | .vmem => 15
  | .smem => 0
  | _ => 0

abbrev bufTy : (tb : Table) → Fin (tcTables nBuf tb) → BufTy
  | .hbm, ⟨0, _⟩ => ⟨S8x4096x96, .f32⟩
  | .hbm, ⟨1, _⟩ => ⟨S8x4096x96, .f32⟩
  | .hbm, ⟨2, _⟩ => ⟨S8x4096x64, .f32⟩
  | .hbm, ⟨3, _⟩ => ⟨S8x4096x64, .f32⟩
  | .hbm, ⟨4, _⟩ => ⟨S4096, .i32⟩
  | .hbm, ⟨5, _⟩ => ⟨S_, .f32⟩
  | .hbm, ⟨6, _⟩ => ⟨S_, .f32⟩
  | .hbm, ⟨7, _⟩ => ⟨S1x4096, .i32⟩
  | .hbm, ⟨8, _⟩ => ⟨S4096x1, .i32⟩
  | .hbm, ⟨9, _⟩ => ⟨S4096x4096, .i32⟩
  | .hbm, ⟨10, _⟩ => ⟨S4096x4096, .i32⟩
  | .hbm, ⟨11, _⟩ => ⟨S4096x4096, .i1⟩
  | .hbm, ⟨12, _⟩ => ⟨S8x4096x4096, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S_, .f32⟩
  | .hbm, ⟨18, _⟩ => ⟨S8x4096x4096, .i1⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S8x4096x4096, .f32⟩
  | .hbm, ⟨31, _⟩ => ⟨S8x4096x4096, .f32⟩
  | .hbm, ⟨32, _⟩ => ⟨S8x4096x64, .f32⟩
  | .hbm, ⟨33, _⟩ => ⟨S8x4096x1, .f32⟩
  | .hbm, ⟨34, _⟩ => ⟨S8x4096x1, .f32⟩
  | .hbm, ⟨35, _⟩ => ⟨S8x4096x1, .f32⟩
  | .hbm, ⟨36, _⟩ => ⟨S8x4096x1, .f32⟩
  | .hbm, ⟨37, _⟩ => ⟨S8x4096x64, .f32⟩
  | .hbm, ⟨38, _⟩ => ⟨S_, .f32⟩
  | .hbm, ⟨39, _⟩ => ⟨S8x4096, .f32⟩
  | .hbm, ⟨40, _⟩ => ⟨S8x4096x1, .f32⟩
  | .hbm, ⟨41, _⟩ => ⟨S_, .f32⟩
  | .hbm, ⟨42, _⟩ => ⟨S8x4096x96, .f32⟩
  | .hbm, ⟨43, _⟩ => ⟨S8x4096x96, .f32⟩
  | .hbm, ⟨44, _⟩ => ⟨S8x4096x96, .f32⟩
  | .hbm, ⟨45, _⟩ => ⟨S8x4096x96, .f32⟩
  | .hbm, ⟨46, _⟩ => ⟨S8x4096x96, .bf16⟩
  | .hbm, ⟨47, _⟩ => ⟨S8x4096x1, .bf16⟩
  | .hbm, ⟨48, _⟩ => ⟨S8x4096x1, .bf16⟩
  | .hbm, ⟨49, _⟩ => ⟨S8x4096x1, .f32⟩
  | .hbm, ⟨50, _⟩ => ⟨S8x4096x1, .f32⟩
  | .hbm, ⟨51, _⟩ => ⟨S8x4096x1, .bf16⟩
  | .hbm, ⟨52, _⟩ => ⟨S8x4096x1, .bf16⟩
  | .hbm, ⟨53, _⟩ => ⟨S_, .bf16⟩
  | .hbm, ⟨54, _⟩ => ⟨S8x4096x30, .bf16⟩
  | .hbm, ⟨55, _⟩ => ⟨S8x4096x128, .bf16⟩
  | .hbm, ⟨56, _⟩ => ⟨S8x4096x96, .bf16⟩
  | .hbm, ⟨57, _⟩ => ⟨S_, .bf16⟩
  | .hbm, ⟨58, _⟩ => ⟨S8x4096x2, .bf16⟩
  | .hbm, ⟨59, _⟩ => ⟨S_, .bf16⟩
  | .hbm, ⟨60, _⟩ => ⟨S8x4096x30, .bf16⟩
  | .hbm, ⟨61, _⟩ => ⟨S8x4096x128, .bf16⟩
  | .hbm, ⟨62, _⟩ => ⟨S_, .f32⟩
  | .hbm, ⟨63, _⟩ => ⟨S8x4096x64, .f32⟩
  | .hbm, ⟨64, _⟩ => ⟨S8x4096x128, .f32⟩
  | .hbm, ⟨65, _⟩ => ⟨S8x4096x128, .bf16⟩
  | .hbm, ⟨66, _⟩ => ⟨S8x4096x64, .bf16⟩
  | .hbm, ⟨67, _⟩ => ⟨S8x4096x1, .bf16⟩
  | .hbm, ⟨68, _⟩ => ⟨S8x4096x1, .bf16⟩
  | .hbm, ⟨69, _⟩ => ⟨S8x4096x1, .f32⟩
  | .hbm, ⟨70, _⟩ => ⟨S8x4096x1, .f32⟩
  | .hbm, ⟨71, _⟩ => ⟨S8x4096x1, .bf16⟩
  | .hbm, ⟨72, _⟩ => ⟨S8x4096x1, .bf16⟩
  | .hbm, ⟨73, _⟩ => ⟨S_, .bf16⟩
  | .hbm, ⟨74, _⟩ => ⟨S8x4096x62, .bf16⟩
  | .hbm, ⟨75, _⟩ => ⟨S8x4096x128, .bf16⟩
  | .hbm, ⟨76, _⟩ => ⟨S8x4096x128, .f32⟩
  | .hbm, ⟨77, _⟩ => ⟨S8x4096x128, .f32⟩
  | .hbm, ⟨78, _⟩ => ⟨S8x4096x64, .f32⟩
  | .hbm, ⟨79, _⟩ => ⟨S8x4096x96, .f32⟩
  | .hbm, ⟨80, _⟩ => ⟨S_, .f32⟩
  | .hbm, ⟨81, _⟩ => ⟨S8x4096x96, .f32⟩
  | .hbm, ⟨82, _⟩ => ⟨S8x4096x96, .f32⟩
  | .hbm, ⟨83, _⟩ => ⟨S8x4096x96, .f32⟩
  | .hbm, ⟨84, _⟩ => ⟨S8x4096x96, .f32⟩
  | .hbm, ⟨85, _⟩ => ⟨S8x4096x96, .f32⟩
  | .local _ .vmem, ⟨0, _⟩ => ⟨S4x4096x128, .bf16⟩
  | .local _ .vmem, ⟨1, _⟩ => ⟨S4x4096x128, .bf16⟩
  | .local _ .vmem, ⟨2, _⟩ => ⟨S4x512x128, .bf16⟩
  | .local _ .vmem, ⟨3, _⟩ => ⟨S4x512x128, .bf16⟩
  | .local _ .vmem, ⟨4, _⟩ => ⟨S4x512x128, .bf16⟩
  | .local _ .vmem, ⟨5, _⟩ => ⟨S4x512x128, .bf16⟩
  | .local _ .vmem, ⟨6, _⟩ => ⟨S4x4096x128, .bf16⟩
  | .local _ .vmem, ⟨7, _⟩ => ⟨S4x4096x128, .bf16⟩
  | .local _ .vmem, ⟨8, _⟩ => ⟨S4x4096x128, .f32⟩
  | .local _ .vmem, ⟨9, _⟩ => ⟨S4x4096x128, .f32⟩
  | .local _ .vmem, ⟨10, _⟩ => ⟨S4x512x128, .f32⟩
  | .local _ .vmem, ⟨11, _⟩ => ⟨S4x512x128, .f32⟩
  | .local _ .vmem, ⟨12, _⟩ => ⟨S4x512x64, .f32⟩
  | .local _ .vmem, ⟨13, _⟩ => ⟨S4x512x64, .f32⟩
  | .local _ .vmem, ⟨14, _⟩ => ⟨S4x512x128, .f32⟩
  | _, _ => ⟨S8x4096x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57_0 : Ref sig .tc := ⟨.hbm, 76, rfl⟩
abbrev main_v57_1 : Ref sig .tc := ⟨.hbm, 77, rfl⟩
abbrev main_v57_2 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c512_i32 : BitVec 32 := 512#32
  let v9 : BitVec 32 := Scalar.muli arg1 c512_i32
  v9
def k0_off1 (i : grid0.Coords) (c0_i32_7 : BitVec 32) : Fin 3 → Nat :=
  let c0_8 : Index := 0#32
  let arg1 : BitVec 32 := BitVec.ofNat 32 (i 1).val
  let c512_i32 : BitVec 32 := 512#32
  let v9 : BitVec 32 := Scalar.muli arg1 c512_i32
  let v10 : BitVec 32 := v9
  let v11 : BitVec 32 := Scalar.addi v10 c0_i32_7
  let v12 : Index := Scalar.indexCast v11
  let c0_9 : Index := 0#32
  ![0, v12.toNat, 0]
def k0_off2 (i : grid0.Coords) (c0_i32_63 : BitVec 32) : Fin 3 → Nat :=
  let c1 : Index := 1#32
  let arg1 : BitVec 32 := BitVec.ofNat 32 (i 1).val
  let c512_i32 : BitVec 32 := 512#32
  let v9 : BitVec 32 := Scalar.muli arg1 c512_i32
  let v10 : BitVec 32 := v9
  let v87 : BitVec 32 := Scalar.addi v10 c0_i32_63
  let v88 : Index := Scalar.indexCast v87
  let c0_64 : Index := 0#32
  ![1, v88.toNat, 0]
def k0_off3 (i : grid0.Coords) (c0_i32_146 : BitVec 32) : Fin 3 → Nat :=
  let c2 : Index := 2#32
  let arg1 : BitVec 32 := BitVec.ofNat 32 (i 1).val
  let c512_i32 : BitVec 32 := 512#32
  let v9 : BitVec 32 := Scalar.muli arg1 c512_i32
  let v10 : BitVec 32 := v9
  let v199 : BitVec 32 := Scalar.addi v10 c0_i32_146
  let v200 : Index := Scalar.indexCast v199
  let c0_147 : Index := 0#32
  ![2, v200.toNat, 0]
def k0_off4 (i : grid0.Coords) (c0_i32_229 : BitVec 32) : Fin 3 → Nat :=
  let c3 : Index := 3#32
  let arg1 : BitVec 32 := BitVec.ofNat 32 (i 1).val
  let c512_i32 : BitVec 32 := 512#32
  let v9 : BitVec 32 := Scalar.muli arg1 c512_i32
  let v10 : BitVec 32 := v9
  let v311 : BitVec 32 := Scalar.addi v10 c0_i32_229
  let v312 : Index := Scalar.indexCast v311
  let c0_230 : Index := 0#32
  ![3, v312.toNat, 0]
@[reducible] def k0_t1_loop (i : grid0.Coords) : Scf.Loop 32 :=
  let arg1 : BitVec 32 := BitVec.ofNat 32 (i 1).val
  let c1_i32 : BitVec 32 := 1#32
  let v459 : BitVec 32 := Scalar.addi arg1 c1_i32
  let c8_i32 : BitVec 32 := 8#32
  let v460 : BitVec 32 := Scalar.subi c8_i32 v459
  let c1_i32_340 : BitVec 32 := 1#32
  let v462 : BitVec 32 := Scalar.divsi v460 c1_i32_340
  let v463 : BitVec 32 := Scalar.muli v462 c1_i32_340
  let v464 : BitVec 32 := Scalar.addi v459 v463
  let c1_i32_341 : BitVec 32 := 1#32
  ⟨v459, v464, c1_i32_341⟩
def k0_mult2 (i : grid0.Coords) (k0_t1 : Fin (k0_t1_loop i).trips) : BitVec 32 :=
  let arg1 : BitVec 32 := BitVec.ofNat 32 (i 1).val
  let c1_i32 : BitVec 32 := 1#32
  let v459 : BitVec 32 := Scalar.addi arg1 c1_i32
  let c1_i32_341 : BitVec 32 := 1#32
  let arg10 : BitVec 32 := Scf.iv v459 c1_i32_341 k0_t1
  let c512_i32_358 : BitVec 32 := 512#32
  let v482 : BitVec 32 := Scalar.muli arg10 c512_i32_358
  v482
def k0_off5 (i : grid0.Coords) (k0_t1 : Fin (k0_t1_loop i).trips) : Fin 3 → Nat :=
  let c0_360 : Index := 0#32
  let arg1 : BitVec 32 := BitVec.ofNat 32 (i 1).val
  let c1_i32 : BitVec 32 := 1#32
  let v459 : BitVec 32 := Scalar.addi arg1 c1_i32
  let c1_i32_341 : BitVec 32 := 1#32
  let arg10 : BitVec 32 := Scf.iv v459 c1_i32_341 k0_t1
  let c512_i32_358 : BitVec 32 := 512#32
  let v482 : BitVec 32 := Scalar.muli arg10 c512_i32_358
  let v483 : BitVec 32 := v482
  let c0_i32_359 : BitVec 32 := 0#32
  let v484 : BitVec 32 := Scalar.addi v483 c0_i32_359
  let v485 : Index := Scalar.indexCast v484
  let c0_361 : Index := 0#32
  ![0, v485.toNat, 0]
def k0_off6 (i : grid0.Coords) (k0_t1 : Fin (k0_t1_loop i).trips) : Fin 3 → Nat :=
  let c1_373 : Index := 1#32
  let arg1 : BitVec 32 := BitVec.ofNat 32 (i 1).val
  let c1_i32 : BitVec 32 := 1#32
  let v459 : BitVec 32 := Scalar.addi arg1 c1_i32
  let c1_i32_341 : BitVec 32 := 1#32
  let arg10 : BitVec 32 := Scf.iv v459 c1_i32_341 k0_t1
  let c512_i32_358 : BitVec 32 := 512#32
  let v482 : BitVec 32 := Scalar.muli arg10 c512_i32_358
  let v483 : BitVec 32 := v482
  let c0_i32_372 : BitVec 32 := 0#32
  let v497 : BitVec 32 := Scalar.addi v483 c0_i32_372
  let v498 : Index := Scalar.indexCast v497
  let c0_374 : Index := 0#32
  ![1, v498.toNat, 0]
def k0_off7 (i : grid0.Coords) (k0_t1 : Fin (k0_t1_loop i).trips) : Fin 3 → Nat :=
  let c2_413 : Index := 2#32
  let arg1 : BitVec 32 := BitVec.ofNat 32 (i 1).val
  let c1_i32 : BitVec 32 := 1#32
  let v459 : BitVec 32 := Scalar.addi arg1 c1_i32
  let c1_i32_341 : BitVec 32 := 1#32
  let arg10 : BitVec 32 := Scf.iv v459 c1_i32_341 k0_t1
  let c512_i32_358 : BitVec 32 := 512#32
  let v482 : BitVec 32 := Scalar.muli arg10 c512_i32_358
  let v483 : BitVec 32 := v482
  let c0_i32_412 : BitVec 32 := 0#32
  let v546 : BitVec 32 := Scalar.addi v483 c0_i32_412
  let v547 : Index := Scalar.indexCast v546
  let c0_414 : Index := 0#32
  ![2, v547.toNat, 0]
def k0_off8 (i : grid0.Coords) (k0_t1 : Fin (k0_t1_loop i).trips) : Fin 3 → Nat :=
  let c3_453 : Index := 3#32
  let arg1 : BitVec 32 := BitVec.ofNat 32 (i 1).val
  let c1_i32 : BitVec 32 := 1#32
  let v459 : BitVec 32 := Scalar.addi arg1 c1_i32
  let c1_i32_341 : BitVec 32 := 1#32
  let arg10 : BitVec 32 := Scf.iv v459 c1_i32_341 k0_t1
  let c512_i32_358 : BitVec 32 := 512#32
  let v482 : BitVec 32 := Scalar.muli arg10 c512_i32_358
  let v483 : BitVec 32 := v482
  let c0_i32_452 : BitVec 32 := 0#32
  let v595 : BitVec 32 := Scalar.addi v483 c0_i32_452
  let v596 : Index := Scalar.indexCast v595
  let c0_454 : Index := 0#32
  ![3, v596.toNat, 0]
@[reducible] def k0_t2_loop (i : grid0.Coords) : Scf.Loop 32 :=
  let arg1 : BitVec 32 := BitVec.ofNat 32 (i 1).val
  let c1_i32 : BitVec 32 := 1#32
  let v459 : BitVec 32 := Scalar.addi arg1 c1_i32
  let c8_i32 : BitVec 32 := 8#32
  let v460 : BitVec 32 := Scalar.subi c8_i32 v459
  let c1_i32_340 : BitVec 32 := 1#32
  let v462 : BitVec 32 := Scalar.divsi v460 c1_i32_340
  let v463 : BitVec 32 := Scalar.muli v462 c1_i32_340
  let v464 : BitVec 32 := Scalar.addi v459 v463
  let v461 : BitVec 32 := Scalar.addi v459 v460
  let c1_i32_342 : BitVec 32 := 1#32
  ⟨v464, v461, c1_i32_342⟩
def k0_mult3 (i : grid0.Coords) (k0_t2 : Fin (k0_t2_loop i).trips) : BitVec 32 :=
  let arg1 : BitVec 32 := BitVec.ofNat 32 (i 1).val
  let c1_i32 : BitVec 32 := 1#32
  let v459 : BitVec 32 := Scalar.addi arg1 c1_i32
  let c8_i32 : BitVec 32 := 8#32
  let v460 : BitVec 32 := Scalar.subi c8_i32 v459
  let c1_i32_340 : BitVec 32 := 1#32
  let v462 : BitVec 32 := Scalar.divsi v460 c1_i32_340
  let v463 : BitVec 32 := Scalar.muli v462 c1_i32_340
  let v464 : BitVec 32 := Scalar.addi v459 v463
  let c1_i32_342 : BitVec 32 := 1#32
  let arg10 : BitVec 32 := Scf.iv v464 c1_i32_342 k0_t2
  let c512_i32_358 : BitVec 32 := 512#32
  let v482 : BitVec 32 := Scalar.muli arg10 c512_i32_358
  v482
def k0_off9 (i : grid0.Coords) (k0_t2 : Fin (k0_t2_loop i).trips) : Fin 3 → Nat :=
  let c0_360 : Index := 0#32
  let arg1 : BitVec 32 := BitVec.ofNat 32 (i 1).val
  let c1_i32 : BitVec 32 := 1#32
  let v459 : BitVec 32 := Scalar.addi arg1 c1_i32
  let c8_i32 : BitVec 32 := 8#32
  let v460 : BitVec 32 := Scalar.subi c8_i32 v459
  let c1_i32_340 : BitVec 32 := 1#32
  let v462 : BitVec 32 := Scalar.divsi v460 c1_i32_340
  let v463 : BitVec 32 := Scalar.muli v462 c1_i32_340
  let v464 : BitVec 32 := Scalar.addi v459 v463
  let c1_i32_342 : BitVec 32 := 1#32
  let arg10 : BitVec 32 := Scf.iv v464 c1_i32_342 k0_t2
  let c512_i32_358 : BitVec 32 := 512#32
  let v482 : BitVec 32 := Scalar.muli arg10 c512_i32_358
  let v483 : BitVec 32 := v482
  let c0_i32_359 : BitVec 32 := 0#32
  let v484 : BitVec 32 := Scalar.addi v483 c0_i32_359
  let v485 : Index := Scalar.indexCast v484
  let c0_361 : Index := 0#32
  ![0, v485.toNat, 0]
def k0_off10 (i : grid0.Coords) (k0_t2 : Fin (k0_t2_loop i).trips) : Fin 3 → Nat :=
  let c1_373 : Index := 1#32
  let arg1 : BitVec 32 := BitVec.ofNat 32 (i 1).val
  let c1_i32 : BitVec 32 := 1#32
  let v459 : BitVec 32 := Scalar.addi arg1 c1_i32
  let c8_i32 : BitVec 32 := 8#32
  let v460 : BitVec 32 := Scalar.subi c8_i32 v459
  let c1_i32_340 : BitVec 32 := 1#32
  let v462 : BitVec 32 := Scalar.divsi v460 c1_i32_340
  let v463 : BitVec 32 := Scalar.muli v462 c1_i32_340
  let v464 : BitVec 32 := Scalar.addi v459 v463
  let c1_i32_342 : BitVec 32 := 1#32
  let arg10 : BitVec 32 := Scf.iv v464 c1_i32_342 k0_t2
  let c512_i32_358 : BitVec 32 := 512#32
  let v482 : BitVec 32 := Scalar.muli arg10 c512_i32_358
  let v483 : BitVec 32 := v482
  let c0_i32_372 : BitVec 32 := 0#32
  let v497 : BitVec 32 := Scalar.addi v483 c0_i32_372
  let v498 : Index := Scalar.indexCast v497
  let c0_374 : Index := 0#32
  ![1, v498.toNat, 0]
def k0_off11 (i : grid0.Coords) (k0_t2 : Fin (k0_t2_loop i).trips) : Fin 3 → Nat :=
  let c2_413 : Index := 2#32
  let arg1 : BitVec 32 := BitVec.ofNat 32 (i 1).val
  let c1_i32 : BitVec 32 := 1#32
  let v459 : BitVec 32 := Scalar.addi arg1 c1_i32
  let c8_i32 : BitVec 32 := 8#32
  let v460 : BitVec 32 := Scalar.subi c8_i32 v459
  let c1_i32_340 : BitVec 32 := 1#32
  let v462 : BitVec 32 := Scalar.divsi v460 c1_i32_340
  let v463 : BitVec 32 := Scalar.muli v462 c1_i32_340
  let v464 : BitVec 32 := Scalar.addi v459 v463
  let c1_i32_342 : BitVec 32 := 1#32
  let arg10 : BitVec 32 := Scf.iv v464 c1_i32_342 k0_t2
  let c512_i32_358 : BitVec 32 := 512#32
  let v482 : BitVec 32 := Scalar.muli arg10 c512_i32_358
  let v483 : BitVec 32 := v482
  let c0_i32_412 : BitVec 32 := 0#32
  let v546 : BitVec 32 := Scalar.addi v483 c0_i32_412
  let v547 : Index := Scalar.indexCast v546
  let c0_414 : Index := 0#32
  ![2, v547.toNat, 0]
def k0_off12 (i : grid0.Coords) (k0_t2 : Fin (k0_t2_loop i).trips) : Fin 3 → Nat :=
  let c3_453 : Index := 3#32
  let arg1 : BitVec 32 := BitVec.ofNat 32 (i 1).val
  let c1_i32 : BitVec 32 := 1#32
  let v459 : BitVec 32 := Scalar.addi arg1 c1_i32
  let c8_i32 : BitVec 32 := 8#32
  let v460 : BitVec 32 := Scalar.subi c8_i32 v459
  let c1_i32_340 : BitVec 32 := 1#32
  let v462 : BitVec 32 := Scalar.divsi v460 c1_i32_340
  let v463 : BitVec 32 := Scalar.muli v462 c1_i32_340
  let v464 : BitVec 32 := Scalar.addi v459 v463
  let c1_i32_342 : BitVec 32 := 1#32
  let arg10 : BitVec 32 := Scf.iv v464 c1_i32_342 k0_t2
  let c512_i32_358 : BitVec 32 := 512#32
  let v482 : BitVec 32 := Scalar.muli arg10 c512_i32_358
  let v483 : BitVec 32 := v482
  let c0_i32_452 : BitVec 32 := 0#32
  let v595 : BitVec 32 := Scalar.addi v483 c0_i32_452
  let v596 : Index := Scalar.indexCast v595
  let c0_454 : Index := 0#32
  ![3, v596.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnIdeal.lean ====
variable {F : FTy → Type} [FloatOps F] [Named F]
def κ : String → Option EReal := fun
  | "ln2" => some ((Real.log 2 : ℝ) : EReal)
  | "mask" => some ⊥
  | _ => none
-- ==== AttnRefIdeal.lean ====
abbrev S8x4096x96 : Shape := ⟨3, ![8, 4096, 96]⟩
abbrev S8x4096x64 : Shape := ⟨3, ![8, 4096, 64]⟩
abbrev S4096 : Shape := ⟨1, ![4096]⟩
abbrev S8x4096x4096 : Shape := ⟨3, ![8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩

abbrev nBuf : Space → Nat
  | .hbm => 85
  | .vmem => 0
  | .smem => 0
  | _ => 0

abbrev bufTy : (tb : Table) → Fin (tcTables nBuf tb) → BufTy
  | .hbm, ⟨0, _⟩ => ⟨S8x4096x96, .f32⟩
  | .hbm, ⟨1, _⟩ => ⟨S8x4096x96, .f32⟩
  | .hbm, ⟨2, _⟩ => ⟨S8x4096x64, .f32⟩
  | .hbm, ⟨3, _⟩ => ⟨S8x4096x64, .f32⟩
  | .hbm, ⟨4, _⟩ => ⟨S4096, .i32⟩
  | .hbm, ⟨5, _⟩ => ⟨S8x4096x4096, .f32⟩
  | .hbm, ⟨6, _⟩ => ⟨S_, .f32⟩
  | .hbm, ⟨7, _⟩ => ⟨S8x4096x4096, .f32⟩
  | .hbm, ⟨8, _⟩ => ⟨S8x4096x4096, .f32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S8x4096x4096, .i1⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S8x4096x4096, .f32⟩
  | .hbm, ⟨25, _⟩ => ⟨S8x4096x4096, .i1⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S_, .f32⟩
  | .hbm, ⟨30, _⟩ => ⟨S8x4096, .f32⟩
  | .hbm, ⟨31, _⟩ => ⟨S8x4096, .f32⟩
  | .hbm, ⟨32, _⟩ => ⟨S_, .f32⟩
  | .hbm, ⟨33, _⟩ => ⟨S8x4096, .f32⟩
  | .hbm, ⟨34, _⟩ => ⟨S8x4096, .i1⟩
  | .hbm, ⟨35, _⟩ => ⟨S_, .f32⟩
  | .hbm, ⟨36, _⟩ => ⟨S8x4096, .f32⟩
  | .hbm, ⟨37, _⟩ => ⟨S8x4096, .i1⟩
  | .hbm, ⟨38, _⟩ => ⟨S_, .f32⟩
  | .hbm, ⟨39, _⟩ => ⟨S8x4096, .f32⟩
  | .hbm, ⟨40, _⟩ => ⟨S_, .f32⟩
  | .hbm, ⟨41, _⟩ => ⟨S8x4096, .f32⟩
  | .hbm, ⟨42, _⟩ => ⟨S_, .f32⟩
  | .hbm, ⟨43, _⟩ => ⟨S8x4096, .f32⟩
  | .hbm, ⟨44, _⟩ => ⟨S8x4096, .f32⟩
  | .hbm, ⟨45, _⟩ => ⟨S8x4096, .f32⟩
  | .hbm, ⟨46, _⟩ => ⟨S8x4096x1, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S_, .f32⟩
  | .hbm, ⟨51, _⟩ => ⟨S8x4096, .f32⟩
  | .hbm, ⟨52, _⟩ => ⟨S8x4096x1, .f32⟩
  | .hbm, ⟨53, _⟩ => ⟨S8x4096x4096, .f32⟩
  | .hbm, ⟨54, _⟩ => ⟨S8x4096x4096, .f32⟩
  | .hbm, ⟨55, _⟩ => ⟨S8x4096x1, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S8x4096x64, .f32⟩
  | .hbm, ⟨60, _⟩ => ⟨S8x64x4096, .f32⟩
  | .hbm, ⟨61, _⟩ => ⟨S8x4096x64, .f32⟩
  | .hbm, ⟨62, _⟩ => ⟨S8x4096x4096, .f32⟩
  | .hbm, ⟨63, _⟩ => ⟨S8x4096x4096, .f32⟩
  | .hbm, ⟨64, _⟩ => ⟨S8x4096x4096, .f32⟩
  | .hbm, ⟨65, _⟩ => ⟨S8x4096x4096, .f32⟩
  | .hbm, ⟨66, _⟩ => ⟨S_, .f32⟩
  | .hbm, ⟨67, _⟩ => ⟨S8x4096, .f32⟩
  | .hbm, ⟨68, _⟩ => ⟨S8x4096x1, .f32⟩
  | .hbm, ⟨69, _⟩ => ⟨S8x4096x1, .f32⟩
  | .hbm, ⟨70, _⟩ => ⟨S8x4096x4096, .f32⟩
  | .hbm, ⟨71, _⟩ => ⟨S8x4096x4096, .f32⟩
  | .hbm, ⟨72, _⟩ => ⟨S_, .f32⟩
  | .hbm, ⟨73, _⟩ => ⟨S8x4096, .f32⟩
  | .hbm, ⟨74, _⟩ => ⟨S8x4096x4096, .f32⟩
  | .hbm, ⟨75, _⟩ => ⟨S8x4096x4096, .f32⟩
  | .hbm, ⟨76, _⟩ => ⟨S8x4096x4096, .f32⟩
  | .hbm, ⟨77, _⟩ => ⟨S_, .f32⟩
  | .hbm, ⟨78, _⟩ => ⟨S8x4096x4096, .f32⟩
  | .hbm, ⟨79, _⟩ => ⟨S8x4096x4096, .f32⟩
  | .hbm, ⟨80, _⟩ => ⟨S_, .f32⟩
  | .hbm, ⟨81, _⟩ => ⟨S8x4096x4096, .f32⟩
  | .hbm, ⟨82, _⟩ => ⟨S8x4096x4096, .f32⟩
  | .hbm, ⟨83, _⟩ => ⟨S8x4096x96, .f32⟩
  | .hbm, ⟨84, _⟩ => ⟨S8x4096x96, .f32⟩
  | _, _ => ⟨S8x4096x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_cst : Ref sig .tc := ⟨.hbm, 77, rfl⟩
abbrev main_call1_v0 : Ref sig .tc := ⟨.hbm, 78, rfl⟩
abbrev main_v54 : Ref sig .tc := ⟨.hbm, 79, rfl⟩
abbrev main_cst_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]
-- ==== Mlp.lean ====
abbrev S4096x1024 : Shape := ⟨2, ![4096, 1024]⟩
abbrev S1024x5632 : Shape := ⟨2, ![1024, 5632]⟩
abbrev S2816x1024 : Shape := ⟨2, ![2816, 1024]⟩
abbrev S1x1024 : Shape := ⟨2, ![1, 1024]⟩
abbrev S5632x1024 : Shape := ⟨2, ![5632, 1024]⟩
abbrev S8x704x1024 : Shape := ⟨3, ![8, 704, 1024]⟩
abbrev S4x704x1024 : Shape := ⟨3, ![4, 704, 1024]⟩
abbrev S4x704x4096 : Shape := ⟨3, ![4, 704, 4096]⟩
abbrev S4x4096x704 : Shape := ⟨3, ![4, 4096, 704]⟩
abbrev S4x4096x1024 : Shape := ⟨3, ![4, 4096, 1024]⟩
abbrev S1024x1024 : Shape := ⟨2, ![1024, 1024]⟩
abbrev S1x1024x704 : Shape := ⟨3, ![1, 1024, 704]⟩
abbrev S1x704x1024 : Shape := ⟨3, ![1, 704, 1024]⟩
abbrev S1x1024x1024 : Shape := ⟨3, ![1, 1024, 1024]⟩
abbrev S704x1024 : Shape := ⟨2, ![704, 1024]⟩
abbrev S1024x704 : Shape := ⟨2, ![1024, 704]⟩
abbrev S1x256x704 : Shape := ⟨3, ![1, 256, 704]⟩
abbrev S256x704 : Shape := ⟨2, ![256, 704]⟩
abbrev S256x1024 : Shape := ⟨2, ![256, 1024]⟩
abbrev S1x256x1024 : Shape := ⟨3, ![1, 256, 1024]⟩
abbrev S1x4096x1024 : Shape := ⟨3, ![1, 4096, 1024]⟩

abbrev nBuf : Space → Nat
  | .hbm => 44
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S1x1024, .f32⟩
  | .hbm, ⟨4, _⟩ => ⟨S4096x1024, .f32⟩
  | .hbm, ⟨5, _⟩ => ⟨S5632x1024, .f32⟩
  | .hbm, ⟨6, _⟩ => ⟨S5632x1024, .bf16⟩
  | .hbm, ⟨7, _⟩ => ⟨S8x704x1024, .bf16⟩
  | .hbm, ⟨8, _⟩ => ⟨S2816x1024, .bf16⟩
  | .hbm, ⟨9, _⟩ => ⟨S4x704x1024, .bf16⟩
  | .hbm, ⟨10, _⟩ => ⟨S4096x1024, .bf16⟩
  | .hbm, ⟨11, _⟩ => ⟨S4x704x1024, .bf16⟩
  | .hbm, ⟨12, _⟩ => ⟨S4x704x4096, .f32⟩
  | .hbm, ⟨13, _⟩ => ⟨S4x4096x704, .f32⟩
  | .hbm, ⟨14, _⟩ => ⟨S4x4096x704, .bf16⟩
  | .hbm, ⟨15, _⟩ => ⟨S4x704x1024, .bf16⟩
  | .hbm, ⟨16, _⟩ => ⟨S4x704x4096, .f32⟩
  | .hbm, ⟨17, _⟩ => ⟨S4x4096x704, .f32⟩
  | .hbm, ⟨18, _⟩ => ⟨S4x4096x704, .bf16⟩
  | .hbm, ⟨19, _⟩ => ⟨S4x4096x1024, .bf16⟩
  | .hbm, ⟨20, _⟩ => ⟨S4x704x1024, .bf16⟩
  | .hbm, ⟨21, _⟩ => ⟨S4x704x1024, .bf16⟩
  | .hbm, ⟨22, _⟩ => ⟨S4x704x1024, .bf16⟩
  | .hbm, ⟨23, _⟩ => ⟨S1x4096x1024, .bf16⟩
  | .hbm, ⟨24, _⟩ => ⟨S4096x1024, .bf16⟩
  | .hbm, ⟨25, _⟩ => ⟨S4096x1024, .f32⟩
  | .hbm, ⟨26, _⟩ => ⟨S1x4096x1024, .bf16⟩
  | .hbm, ⟨27, _⟩ => ⟨S4096x1024, .bf16⟩
  | .hbm, ⟨28, _⟩ => ⟨S4096x1024, .f32⟩
  | .hbm, ⟨29, _⟩ => ⟨S4096x1024, .f32⟩
  | .hbm, ⟨30, _⟩ => ⟨S1x4096x1024, .bf16⟩
  | .hbm, ⟨31, _⟩ => ⟨S4096x1024, .bf16⟩
  | .hbm, ⟨32, _⟩ => ⟨S4096x1024, .f32⟩
  | .hbm, ⟨33, _⟩ => ⟨S4096x1024, .f32⟩
  | .hbm, ⟨34, _⟩ => ⟨S1x4096x1024, .bf16⟩
  | .hbm, ⟨35, _⟩ => ⟨S4096x1024, .bf16⟩
  | .hbm, ⟨36, _⟩ => ⟨S4096x1024, .f32⟩
  | .hbm, ⟨37, _⟩ => ⟨S4096x1024, .f32⟩
  | .hbm, ⟨38, _⟩ => ⟨S8x704x1024, .bf16⟩
  | .hbm, ⟨39, _⟩ => ⟨S8x704x1024, .f32⟩
  | .hbm, ⟨40, _⟩ => ⟨S5632x1024, .f32⟩
  | .hbm, ⟨41, _⟩ => ⟨S1024x5632, .f32⟩
  | .hbm, ⟨42, _⟩ => ⟨S4x704x1024, .f32⟩
  | .hbm, ⟨43, _⟩ => ⟨S2816x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024, .f32⟩
  | .local _ .vmem, ⟨9, _⟩ => ⟨S1x704x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x704x1024, .bf16⟩
  | .local _ .vmem, ⟨15, _⟩ => ⟨S1x704x1024, .bf16⟩
  | .local _ .vmem, ⟨16, _⟩ => ⟨S1x704x1024, .bf16⟩
  | .local _ .vmem, ⟨17, _⟩ => ⟨S704x1024, .f32⟩
  | .local _ .vmem, ⟨18, _⟩ => ⟨S704x1024, .f32⟩
  | .local _ .vmem, ⟨19, _⟩ => ⟨S704x1024, .f32⟩
  | .local _ .vmem, ⟨20, _⟩ => ⟨S1024x704, .bf16⟩
  | .local _ .vmem, ⟨21, _⟩ => ⟨S1024x704, .bf16⟩
  | .local _ .vmem, ⟨22, _⟩ => ⟨S1024x704, .bf16⟩
  | .local _ .vmem, ⟨23, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v14_2 : Ref sig .tc := ⟨.hbm, 21, rfl⟩
abbrev main_v14_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v197 : BitVec 1 := Scalar.cmpi .eq arg1 c3_i32
  let v203 : BitVec 32 := Scalar.extui v197
  let c0_i32_113 : BitVec 32 := 0#32
  let v204 : BitVec 1 := Scalar.cmpi .ne v203 c0_i32_113
  v204

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x704x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S1x704x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S1x704x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]
-- ==== MlpRefIdeal.lean ====
abbrev S4096x1024 : Shape := ⟨2, ![4096, 1024]⟩
abbrev S1024x5632 : Shape := ⟨2, ![1024, 5632]⟩
abbrev S2816x1024 : Shape := ⟨2, ![2816, 1024]⟩
abbrev S1x1024 : Shape := ⟨2, ![1, 1024]⟩
abbrev S4096x5632 : Shape := ⟨2, ![4096, 5632]⟩
abbrev S4096x2816 : Shape := ⟨2, ![4096, 2816]⟩
abbrev S_ : Shape := ⟨0, ![]⟩
abbrev S1024x2816 : Shape := ⟨2, ![1024, 2816]⟩
abbrev S5632x1024 : Shape := ⟨2, ![5632, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S1x1024, .f32⟩
  | .hbm, ⟨4, _⟩ => ⟨S4096x1024, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1024x2816, .f32⟩
  | .hbm, ⟨28, _⟩ => ⟨S2816x1024, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x5632, .f32⟩
  | .hbm, ⟨37, _⟩ => ⟨S5632x1024, .f32⟩
  | .hbm, ⟨38, _⟩ => ⟨S1024x5632, .f32⟩
  | .hbm, ⟨39, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v3_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v3_1 : Ref sig .tc := ⟨.hbm, 19, rfl⟩
abbrev main_v3_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩

abbrev nD : Nat := 1
abbrev τ : Topo := Topo.v7x

variable {F : FTy → Type} [FloatOps F]
-- ==== Proj.lean ====
abbrev S4096x1024 : Shape := ⟨2, ![4096, 1024]⟩
abbrev S1024 : Shape := ⟨1, ![1024]⟩
abbrev S1x1024 : Shape := ⟨2, ![1, 1024]⟩
abbrev S1024x1960 : Shape := ⟨2, ![1024, 1960]⟩
abbrev S4096x1960 : Shape := ⟨2, ![4096, 1960]⟩
abbrev S1960x1024 : Shape := ⟨2, ![1960, 1024]⟩
abbrev S384x1024 : Shape := ⟨2, ![384, 1024]⟩
abbrev S512x1024 : Shape := ⟨2, ![512, 1024]⟩
abbrev S1024x1024 : Shape := ⟨2, ![1024, 1024]⟩
abbrev S8x1024 : Shape := ⟨2, ![8, 1024]⟩
abbrev S_ : Shape := ⟨0, ![]⟩
abbrev S56x1024 : Shape := ⟨2, ![56, 1024]⟩
abbrev S32x1024 : Shape := ⟨2, ![32, 1024]⟩
abbrev S2048x1024 : Shape := ⟨2, ![2048, 1024]⟩
abbrev S4096x32 : Shape := ⟨2, ![4096, 32]⟩
abbrev S4096x128 : Shape := ⟨2, ![4096, 128]⟩
abbrev S4096x8 : Shape := ⟨2, ![4096, 8]⟩
abbrev S4096x384 : Shape := ⟨2, ![4096, 384]⟩
abbrev S4096x512 : Shape := ⟨2, ![4096, 512]⟩
abbrev S512x384 : Shape := ⟨2, ![512, 384]⟩
abbrev S512x512 : Shape := ⟨2, ![512, 512]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S1536x1024 : Shape := ⟨2, ![1536, 1024]⟩

abbrev nBuf : Space → Nat
  | .hbm => 44
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x1960, .f32⟩
  | .hbm, ⟨5, _⟩ => ⟨S4096x1960, .f32⟩
  | .hbm, ⟨6, _⟩ => ⟨S4096x1024, .f32⟩
  | .hbm, ⟨7, _⟩ => ⟨S1960x1024, .f32⟩
  | .hbm, ⟨8, _⟩ => ⟨S1960x1024, .bf16⟩
  | .hbm, ⟨9, _⟩ => ⟨S384x1024, .bf16⟩
  | .hbm, ⟨10, _⟩ => ⟨S512x1024, .bf16⟩
  | .hbm, ⟨11, _⟩ => ⟨S1024x1024, .bf16⟩
  | .hbm, ⟨12, _⟩ => ⟨S8x1024, .bf16⟩
  | .hbm, ⟨13, _⟩ => ⟨S_, .bf16⟩
  | .hbm, ⟨14, _⟩ => ⟨S56x1024, .bf16⟩
  | .hbm, ⟨15, _⟩ => ⟨S32x1024, .bf16⟩
  | .hbm, ⟨16, _⟩ => ⟨S_, .bf16⟩
  | .hbm, ⟨17, _⟩ => ⟨S32x1024, .bf16⟩
  | .hbm, ⟨18, _⟩ => ⟨S2048x1024, .bf16⟩
  | .hbm, ⟨19, _⟩ => ⟨S4096x32, .f32⟩
  | .hbm, ⟨20, _⟩ => ⟨S_, .i32⟩
  | .hbm, ⟨21, _⟩ => ⟨S_, .f32⟩
  | .hbm, ⟨22, _⟩ => ⟨S4096x128, .f32⟩
  | .hbm, ⟨23, _⟩ => ⟨S4096x8, .f32⟩
  | .hbm, ⟨24, _⟩ => ⟨S_, .i32⟩
  | .hbm, ⟨25, _⟩ => ⟨S_, .f32⟩
  | .hbm, ⟨26, _⟩ => ⟨S4096x128, .f32⟩
  | .hbm, ⟨27, _⟩ => ⟨S1x1024, .f32⟩
  | .hbm, ⟨28, _⟩ => ⟨S4096x384, .f32⟩
  | .hbm, ⟨29, _⟩ => ⟨S4096x512, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S2048x1024, .bf16⟩
  | .hbm, ⟨36, _⟩ => ⟨S384x1024, .bf16⟩
  | .hbm, ⟨37, _⟩ => ⟨S32x1024, .bf16⟩
  | .hbm, ⟨38, _⟩ => ⟨S1536x1024, .bf16⟩
  | .hbm, ⟨39, _⟩ => ⟨S8x1024, .bf16⟩
  | .hbm, ⟨40, _⟩ => ⟨S1960x1024, .bf16⟩
  | .hbm, ⟨41, _⟩ => ⟨S1024, .f32⟩
  | .hbm, ⟨42, _⟩ => ⟨S1960x1024, .f32⟩
  | .hbm, ⟨43, _⟩ => ⟨S1024x1960, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S2048x1024, .bf16⟩
  | .local _ .vmem, ⟨6, _⟩ => ⟨S512x384, .f32⟩
  | .local _ .vmem, ⟨7, _⟩ => ⟨S512x384, .f32⟩
  | .local _ .vmem, ⟨8, _⟩ => ⟨S512x512, .f32⟩
  | .local _ .vmem, ⟨9, _⟩ => ⟨S512x512, .f32⟩
  | .local _ .vmem, ⟨10, _⟩ => ⟨S512x1024, .f32⟩
  | .local _ .vmem, ⟨11, _⟩ => ⟨S512x1024, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S2048x1024, .bf16⟩
  | .local _ .vmem, ⟨24, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_call1_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v18_3 : Ref sig .tc := ⟨.hbm, 34, rfl⟩
abbrev main_v18_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v75 : BitVec 1 := Scalar.cmpi .eq arg0 c0_i32
  let v76 : BitVec 32 := Scalar.extui v75
  let c0_i32_35 : BitVec 32 := 0#32
  let v77 : BitVec 1 := Scalar.cmpi .ne v76 c0_i32_35
  v77

def k0_cond2 (i : grid0.Coords) : BitVec 1 :=
  let arg0 : BitVec 32 := BitVec.ofNat 32 (i 0).val
  let c0_i32 : BitVec 32 := 0#32
  let v75 : BitVec 1 := Scalar.cmpi .eq arg0 c0_i32
  let v_true : BitVec 1 := 1#1
  let v78 : BitVec 1 := Scalar.xori v75 v_true
  let v79 : BitVec 32 := Scalar.extui v78
  let c0_i32_36 : BitVec 32 := 0#32
  let v80 : BitVec 1 := Scalar.cmpi .ne v79 c0_i32_36
  v80

def k0_cond5 (i : grid0.Coords) : BitVec 1 :=
  let arg0 : BitVec 32 := BitVec.ofNat 32 (i 0).val
  let c7_i32 : BitVec 32 := 7#32
  let v82 : BitVec 1 := Scalar.cmpi .eq arg0 c7_i32
  let v88 : BitVec 32 := Scalar.extui v82
  let c0_i32_41 : BitVec 32 := 0#32
  let v89 : BitVec 1 := Scalar.cmpi .ne v88 c0_i32_41
  v89

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2048x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ProjRefIdeal.lean ====
abbrev S4096x1024 : Shape := ⟨2, ![4096, 1024]⟩
abbrev S1024 : Shape := ⟨1, ![1024]⟩
abbrev S1x1024 : Shape := ⟨2, ![1, 1024]⟩
abbrev S1024x1960 : Shape := ⟨2, ![1024, 1960]⟩
abbrev S4096x1960 : Shape := ⟨2, ![4096, 1960]⟩
abbrev S_ : Shape := ⟨0, ![]⟩
abbrev S4096 : Shape := ⟨1, ![4096]⟩
abbrev S4096x1 : Shape := ⟨2, ![4096, 1]⟩
abbrev S1960x1024 : Shape := ⟨2, ![1960, 1024]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1024x1960, .f32⟩
  | .hbm, ⟨5, _⟩ => ⟨S4096x1960, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1960, .f32⟩
  | .hbm, ⟨35, _⟩ => ⟨S1960x1024, .f32⟩
  | .hbm, ⟨36, _⟩ => ⟨S1024x1960, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Out.lean ====
abbrev S4096x1024 : Shape := ⟨2, ![4096, 1024]⟩
abbrev S8x4096x64 : Shape := ⟨3, ![8, 4096, 64]⟩
abbrev S4096x512 : Shape := ⟨2, ![4096, 512]⟩
abbrev S1x1024 : Shape := ⟨2, ![1, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S4x4096x1024 : Shape := ⟨3, ![4, 4096, 1024]⟩
abbrev S4096x8x64 : Shape := ⟨3, ![4096, 8, 64]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S8x4096x128 : Shape := ⟨3, ![8, 4096, 128]⟩
abbrev S512x1024 : Shape := ⟨2, ![512, 1024]⟩
abbrev S4x512x1024 : Shape := ⟨3, ![4, 512, 1024]⟩
abbrev S8x512x64 : Shape := ⟨3, ![8, 512, 64]⟩
abbrev S512x512 : Shape := ⟨2, ![512, 512]⟩
abbrev S8x512x128 : Shape := ⟨3, ![8, 512, 128]⟩
abbrev S1x512x1024 : Shape := ⟨3, ![1, 512, 1024]⟩
abbrev S512 : Shape := ⟨1, ![512]⟩
abbrev S512x1 : Shape := ⟨2, ![512, 1]⟩
abbrev S1x512x64 : Shape := ⟨3, ![1, 512, 64]⟩
abbrev S512x64 : Shape := ⟨2, ![512, 64]⟩
abbrev S7x512x64 : Shape := ⟨3, ![7, 512, 64]⟩
abbrev S6x512x64 : Shape := ⟨3, ![6, 512, 64]⟩
abbrev S5x512x64 : Shape := ⟨3, ![5, 512, 64]⟩
abbrev S2x512x64 : Shape := ⟨3, ![2, 512, 64]⟩
abbrev S4x512x64 : Shape := ⟨3, ![4, 512, 64]⟩
abbrev S3x512x64 : Shape := ⟨3, ![3, 512, 64]⟩
abbrev S8x512 : Shape := ⟨2, ![8, 512]⟩
abbrev S8x512x1 : Shape := ⟨3, ![8, 512, 1]⟩
abbrev S1x1x128 : Shape := ⟨3, ![1, 1, 128]⟩
abbrev S8x4096x1 : Shape := ⟨3, ![8, 4096, 1]⟩
abbrev S8x4096 : Shape := ⟨2, ![8, 4096]⟩

abbrev nBuf : Space → Nat
  | .hbm => 77
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S8x4096x64, .f32⟩
  | .hbm, ⟨2, _⟩ => ⟨S4096x512, .f32⟩
  | .hbm, ⟨3, _⟩ => ⟨S1x1024, .f32⟩
  | .hbm, ⟨4, _⟩ => ⟨S1024x1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1024x5632, .f32⟩
  | .hbm, ⟨10, _⟩ => ⟨S2816x1024, .f32⟩
  | .hbm, ⟨11, _⟩ => ⟨S4096x1024, .f32⟩
  | .hbm, ⟨12, _⟩ => ⟨S4x4096x1024, .f32⟩
  | .hbm, ⟨13, _⟩ => ⟨S4096x8x64, .f32⟩
  | .hbm, ⟨14, _⟩ => ⟨S4096x512, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x5632, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S_, .f32⟩
  | .hbm, ⟨49, _⟩ => ⟨S4096x2816, .f32⟩
  | .hbm, ⟨50, _⟩ => ⟨S4096x2816, .f32⟩
  | .hbm, ⟨51, _⟩ => ⟨S_, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x1024, .f32⟩
  | .hbm, ⟨57, _⟩ => ⟨S4x4096x1024, .bf16⟩
  | .hbm, ⟨58, _⟩ => ⟨S1x1024, .f32⟩
  | .hbm, ⟨59, _⟩ => ⟨S1024x1024, .bf16⟩
  | .hbm, ⟨60, _⟩ => ⟨S4096x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S8x4096x128, .bf16⟩
  | .hbm, ⟨65, _⟩ => ⟨S4096x512, .f32⟩
  | .hbm, ⟨66, _⟩ => ⟨S1x1024, .f32⟩
  | .hbm, ⟨67, _⟩ => ⟨S1x1024, .f32⟩
  | .hbm, ⟨68, _⟩ => ⟨S1024x1024, .bf16⟩
  | .hbm, ⟨69, _⟩ => ⟨S1024, .f32⟩
  | .hbm, ⟨70, _⟩ => ⟨S8x4096x64, .bf16⟩
  | .hbm, ⟨71, _⟩ => ⟨S8x4096x64, .f32⟩
  | .hbm, ⟨72, _⟩ => ⟨S8x4096x1, .bf16⟩
  | .hbm, ⟨73, _⟩ => ⟨S8x4096, .bf16⟩
  | .hbm, ⟨74, _⟩ => ⟨S8x4096, .f32⟩
  | .hbm, ⟨75, _⟩ => ⟨S8x4096, .f32⟩
  | .hbm, ⟨76, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S4x512x1024, .bf16⟩
  | .local _ .vmem, ⟨3, _⟩ => ⟨S4x512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x512x64, .f32⟩
  | .local _ .vmem, ⟨11, _⟩ => ⟨S8x512x64, .f32⟩
  | .local _ .vmem, ⟨12, _⟩ => ⟨S512x512, .f32⟩
  | .local _ .vmem, ⟨13, _⟩ => ⟨S512x512, .f32⟩
  | .local _ .vmem, ⟨14, _⟩ => ⟨S1x1024, .f32⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S8x512x128, .bf16⟩
  | .local _ .vmem, ⟨22, _⟩ => ⟨S8x512x128, .bf16⟩
  | .local _ .vmem, ⟨23, _⟩ => ⟨S512x512, .f32⟩
  | .local _ .vmem, ⟨24, _⟩ => ⟨S512x512, .f32⟩
  | .local _ .vmem, ⟨25, _⟩ => ⟨S1x1024, .f32⟩
  | .local _ .vmem, ⟨26, _⟩ => ⟨S1x1024, .f32⟩
  | .local _ .vmem, ⟨27, _⟩ => ⟨S1024x1024, .bf16⟩
  | .local _ .vmem, ⟨28, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35_0 : Ref sig .tc := ⟨.hbm, 60, rfl⟩
abbrev main_v35_1 : Ref sig .tc := ⟨.hbm, 61, rfl⟩
abbrev main_v35_2 : Ref sig .tc := ⟨.hbm, 62, rfl⟩
abbrev main_v35_3 : Ref sig .tc := ⟨.hbm, 63, rfl⟩
abbrev main_v35_4 : Ref sig .tc := ⟨.hbm, 64, rfl⟩
abbrev main_v35_5 : Ref sig .tc := ⟨.hbm, 65, rfl⟩
abbrev main_v35_6 : Ref sig .tc := ⟨.hbm, 66, rfl⟩
abbrev main_v35_7 : Ref sig .tc := ⟨.hbm, 67, rfl⟩
abbrev main_v35_8 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem17_0 : DmaSem sig := 26
abbrev cc0_sem18_0 : DmaSem sig := 27

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c0_i32_31 : BitVec 32 := 0#32
  let v76 : BitVec 1 := Scalar.cmpi .eq arg0 c0_i32_31
  let v77 : BitVec 32 := Scalar.extui v76
  let c0_i32_32 : BitVec 32 := 0#32
  let v78 : BitVec 1 := Scalar.cmpi .ne v77 c0_i32_32
  v78

def k0_cond4 (i : grid0.Coords) : BitVec 1 :=
  let arg0 : BitVec 32 := BitVec.ofNat 32 (i 0).val
  let c0_i32_31 : BitVec 32 := 0#32
  let v76 : BitVec 1 := Scalar.cmpi .eq arg0 c0_i32_31
  let true_33 : BitVec 1 := 1#1
  let v79 : BitVec 1 := Scalar.xori v76 true_33
  let v80 : BitVec 32 := Scalar.extui v79
  let c0_i32_34 : BitVec 32 := 0#32
  let v81 : BitVec 1 := Scalar.cmpi .ne v80 c0_i32_34
  v81

def k0_cond5 (i : grid0.Coords) : BitVec 1 :=
  let arg0 : BitVec 32 := BitVec.ofNat 32 (i 0).val
  let c0_i32_67 : BitVec 32 := 0#32
  let v201 : BitVec 1 := Scalar.cmpi .eq arg0 c0_i32_67
  let v202 : BitVec 32 := Scalar.extui v201
  let c0_i32_68 : BitVec 32 := 0#32
  let v203 : BitVec 1 := Scalar.cmpi .ne v202 c0_i32_68
  v203

def k0_cond6 (i : grid0.Coords) : BitVec 1 :=
  let arg0 : BitVec 32 := BitVec.ofNat 32 (i 0).val
  let c0_i32_67 : BitVec 32 := 0#32
  let v201 : BitVec 1 := Scalar.cmpi .eq arg0 c0_i32_67
  let true_69 : BitVec 1 := 1#1
  let v204 : BitVec 1 := Scalar.xori v201 true_69
  let v205 : BitVec 32 := Scalar.extui v204
  let c0_i32_70 : BitVec 32 := 0#32
  let v206 : BitVec 1 := Scalar.cmpi .ne v205 c0_i32_70
  v206

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v7 : BitVec 32 := Scalar.extui v1
  let c0_i32_3 : BitVec 32 := 0#32
  let v8 : BitVec 1 := Scalar.cmpi .ne v7 c0_i32_3
  v8

def k0_cond2 (i : grid0.Coords) : BitVec 1 :=
  let arg0 : BitVec 32 := BitVec.ofNat 32 (i 0).val
  let c0_i32 : BitVec 32 := 0#32
  let v1 : BitVec 1 := Scalar.cmpi .eq arg0 c0_i32
  let v_true : BitVec 1 := 1#1
  let v9 : BitVec 1 := Scalar.xori v1 v_true
  let v10 : BitVec 32 := Scalar.extui v9
  let c0_i32_4 : BitVec 32 := 0#32
  let v11 : BitVec 1 := Scalar.cmpi .ne v10 c0_i32_4
  v11

def k0_cond9 (i : grid0.Coords) : BitVec 1 :=
  let arg0 : BitVec 32 := BitVec.ofNat 32 (i 0).val
  let c7_i32 : BitVec 32 := 7#32
  let v208 : BitVec 1 := Scalar.cmpi .eq arg0 c7_i32
  let v214 : BitVec 32 := Scalar.extui v208
  let c0_i32_75 : BitVec 32 := 0#32
  let v215 : BitVec 1 := Scalar.cmpi .ne v214 c0_i32_75
  v215

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S8x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== OutRefIdeal.lean ====
abbrev S4096x1024 : Shape := ⟨2, ![4096, 1024]⟩
abbrev S8x4096x64 : Shape := ⟨3, ![8, 4096, 64]⟩
abbrev S4096x512 : Shape := ⟨2, ![4096, 512]⟩
abbrev S1x1024 : Shape := ⟨2, ![1, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S4x4096x1024 : Shape := ⟨3, ![4, 4096, 1024]⟩
abbrev S4096x8x64 : Shape := ⟨3, ![4096, 8, 64]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S8x4096 : Shape := ⟨2, ![8, 4096]⟩

abbrev nBuf : Space → Nat
  | .hbm => 123
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8x4096x64, .f32⟩
  | .hbm, ⟨2, _⟩ => ⟨S4096x512, .f32⟩
  | .hbm, ⟨3, _⟩ => ⟨S1x1024, .f32⟩
  | .hbm, ⟨4, _⟩ => ⟨S1024x1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1024x5632, .f32⟩
  | .hbm, ⟨10, _⟩ => ⟨S2816x1024, .f32⟩
  | .hbm, ⟨11, _⟩ => ⟨S4096x1024, .f32⟩
  | .hbm, ⟨12, _⟩ => ⟨S4x4096x1024, .f32⟩
  | .hbm, ⟨13, _⟩ => ⟨S4096x8x64, .f32⟩
  | .hbm, ⟨14, _⟩ => ⟨S4096x512, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x5632, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S_, .f32⟩
  | .hbm, ⟨53, _⟩ => ⟨S4096x2816, .f32⟩
  | .hbm, ⟨54, _⟩ => ⟨S4096x2816, .f32⟩
  | .hbm, ⟨55, _⟩ => ⟨S_, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S1024, .f32⟩
  | .hbm, ⟨89, _⟩ => ⟨S4096x1024, .f32⟩
  | .hbm, ⟨90, _⟩ => ⟨S_, .f32⟩
  | .hbm, ⟨91, _⟩ => ⟨S4096, .f32⟩
  | .hbm, ⟨92, _⟩ => ⟨S4096x1, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1, .f32⟩
  | .hbm, ⟨97, _⟩ => ⟨S_, .f32⟩
  | .hbm, ⟨98, _⟩ => ⟨S4096x1, .f32⟩
  | .hbm, ⟨99, _⟩ => ⟨S4096x1, .f32⟩
  | .hbm, ⟨100, _⟩ => ⟨S_, .f32⟩
  | .hbm, ⟨101, _⟩ => ⟨S4096, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S4096x1024, .f32⟩
  | .hbm, ⟨108, _⟩ => ⟨S4096x1024, .f32⟩
  | .hbm, ⟨109, _⟩ => ⟨S4096x1024, .f32⟩
  | .hbm, ⟨110, _⟩ => ⟨S_, .f32⟩
  | .hbm, ⟨111, _⟩ => ⟨S1024, .f32⟩
  | .hbm, ⟨112, _⟩ => ⟨S1x1024, .f32⟩
  | .hbm, ⟨113, _⟩ => ⟨S1024x1024, .f32⟩
  | .hbm, ⟨114, _⟩ => ⟨S1024x1024, .f32⟩
  | .hbm, ⟨115, _⟩ => ⟨S4096x1024, .f32⟩
  | .hbm, ⟨116, _⟩ => ⟨S4096x512, .f32⟩
  | .hbm, ⟨117, _⟩ => ⟨S4096x512, .f32⟩
  | .hbm, ⟨118, _⟩ => ⟨S4096x8x64, .f32⟩
  | .hbm, ⟨119, _⟩ => ⟨S8x4096x64, .f32⟩
  | .hbm, ⟨120, _⟩ => ⟨S8x4096x64, .f32⟩
  | .hbm, ⟨121, _⟩ => ⟨S_, .f32⟩
  | .hbm, ⟨122, _⟩ => ⟨S8x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_4 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_5 : Ref sig .tc := ⟨.hbm, 69, rfl⟩
abbrev main_v42 : Ref sig .tc := ⟨.hbm, 70, rfl⟩
abbrev main_v43 : Ref sig .tc := ⟨.hbm, 71, rfl⟩
abbrev main_cst_6 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_9 : Ref sig .tc := ⟨.hbm, 87, rfl⟩
abbrev main_v56 : Ref sig .tc := ⟨.hbm, 88, rfl⟩
abbrev main_v57 : Ref sig .tc := ⟨.hbm, 89, rfl⟩
abbrev main_cst_10 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_11 : Ref sig .tc := ⟨.hbm, 97, rfl⟩
abbrev main_v64 : Ref sig .tc := ⟨.hbm, 98, rfl⟩
abbrev main_v65 : Ref sig .tc := ⟨.hbm, 99, rfl⟩
abbrev main_cst_12 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_13 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_14 : Ref sig .tc := ⟨.hbm, 121, rfl⟩
abbrev main_v85 : Ref sig .tc := ⟨.hbm, 122, rfl⟩

abbrev nD : Nat := 1
abbrev τ : Topo := Topo.v7x

variable {F : FTy → Type} [FloatOps F]
-- ==== Loss.lean ====
abbrev S4096x1024 : Shape := ⟨2, ![4096, 1024]⟩
abbrev S1024 : Shape := ⟨1, ![1024]⟩
abbrev S1x1024 : Shape := ⟨2, ![1, 1024]⟩
abbrev S1024x5632 : Shape := ⟨2, ![1024, 5632]⟩
abbrev S2816x1024 : Shape := ⟨2, ![2816, 1024]⟩
abbrev S5632x1024 : Shape := ⟨2, ![5632, 1024]⟩
abbrev S8x704x1024 : Shape := ⟨3, ![8, 704, 1024]⟩
abbrev S4x704x1024 : Shape := ⟨3, ![4, 704, 1024]⟩
abbrev S4x4096x704 : Shape := ⟨3, ![4, 4096, 704]⟩
abbrev S8x128 : Shape := ⟨2, ![8, 128]⟩
abbrev S1024x1024 : Shape := ⟨2, ![1024, 1024]⟩
abbrev S1x704x1024 : Shape := ⟨3, ![1, 704, 1024]⟩
abbrev S1x1024x704 : Shape := ⟨3, ![1, 1024, 704]⟩
abbrev S1024x1 : Shape := ⟨2, ![1024, 1]⟩
abbrev S704x1024 : Shape := ⟨2, ![704, 1024]⟩
abbrev S512x1024 : Shape := ⟨2, ![512, 1024]⟩
abbrev S512x704 : Shape := ⟨2, ![512, 704]⟩
abbrev S1x512x704 : Shape := ⟨3, ![1, 512, 704]⟩
abbrev S1 : Shape := ⟨1, ![1]⟩
abbrev S1x1 : Shape := ⟨2, ![1, 1]⟩
abbrev S_ : Shape := ⟨0, ![]⟩
abbrev S4096x4x704 : Shape := ⟨3, ![4096, 4, 704]⟩
abbrev S4096x2816 : Shape := ⟨2, ![4096, 2816]⟩

abbrev nBuf : Space → Nat
  | .hbm => 29
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S2816x1024, .f32⟩
  | .hbm, ⟨7, _⟩ => ⟨S4096x1024, .f32⟩
  | .hbm, ⟨8, _⟩ => ⟨S5632x1024, .f32⟩
  | .hbm, ⟨9, _⟩ => ⟨S5632x1024, .bf16⟩
  | .hbm, ⟨10, _⟩ => ⟨S8x704x1024, .bf16⟩
  | .hbm, ⟨11, _⟩ => ⟨S2816x1024, .bf16⟩
  | .hbm, ⟨12, _⟩ => ⟨S4x704x1024, .bf16⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .bf16⟩
  | .hbm, ⟨17, _⟩ => ⟨S4x4096x704, .bf16⟩
  | .hbm, ⟨18, _⟩ => ⟨S4x4096x704, .bf16⟩
  | .hbm, ⟨19, _⟩ => ⟨S8x128, .f32⟩
  | .hbm, ⟨20, _⟩ => ⟨S1x1, .f32⟩
  | .hbm, ⟨21, _⟩ => ⟨S_, .f32⟩
  | .hbm, ⟨22, _⟩ => ⟨S4096x1024, .f32⟩
  | .hbm, ⟨23, _⟩ => ⟨S4x4096x704, .f32⟩
  | .hbm, ⟨24, _⟩ => ⟨S4096x4x704, .f32⟩
  | .hbm, ⟨25, _⟩ => ⟨S4096x2816, .f32⟩
  | .hbm, ⟨26, _⟩ => ⟨S4x4096x704, .f32⟩
  | .hbm, ⟨27, _⟩ => ⟨S4096x4x704, .f32⟩
  | .hbm, ⟨28, _⟩ => ⟨S4096x2816, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S1x1024x704, .bf16⟩
  | .local _ .vmem, ⟨21, _⟩ => ⟨S1x1024x704, .bf16⟩
  | .local _ .vmem, ⟨22, _⟩ => ⟨S1x1024x704, .bf16⟩
  | .local _ .vmem, ⟨23, _⟩ => ⟨S1x1024x704, .bf16⟩
  | .local _ .vmem, ⟨24, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v56 : BitVec 1 := Scalar.cmpi .eq arg1 c3_i32
  let v57 : BitVec 32 := Scalar.extui v56
  let c0_i32_42 : BitVec 32 := 0#32
  let v58 : BitVec 1 := Scalar.cmpi .ne v57 c0_i32_42
  v58

def k0_cond1 (i : grid0.Coords) : BitVec 1 :=
  let arg1 : BitVec 32 := BitVec.ofNat 32 (i 1).val
  let c0_i32_0 : BitVec 32 := 0#32
  let v1 : BitVec 1 := Scalar.cmpi .eq arg1 c0_i32_0
  let v2 : BitVec 32 := Scalar.extui v1
  let c0_i32_1 : BitVec 32 := 0#32
  let v3 : BitVec 1 := Scalar.cmpi .ne v2 c0_i32_1
  v3

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v82 : BitVec 32 := Scalar.extui v0
  let c0_i32_58 : BitVec 32 := 0#32
  let v83 : BitVec 1 := Scalar.cmpi .ne v82 c0_i32_58
  v83

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v84 : BitVec 1 := Scalar.xori v0 v_true
  let v85 : BitVec 32 := Scalar.extui v84
  let c0_i32_59 : BitVec 32 := 0#32
  let v86 : BitVec 1 := Scalar.cmpi .ne v85 c0_i32_59
  v86

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1024x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== LossRefIdeal.lean ====
abbrev S4096x1024 : Shape := ⟨2, ![4096, 1024]⟩
abbrev S1024 : Shape := ⟨1, ![1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x5632, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S_, .f32⟩
  | .hbm, ⟨56, _⟩ => ⟨S4096, .f32⟩
  | .hbm, ⟨57, _⟩ => ⟨S4096, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S4096x1024, .f32⟩
  | .hbm, ⟨70, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_cst_8 : Ref sig .tc := ⟨.hbm, 62, rfl⟩
abbrev main_cst_9 : Ref sig .tc := ⟨.hbm, 63, rfl⟩
abbrev main_v37 : Ref sig .tc := ⟨.hbm, 64, rfl⟩
abbrev main_v38 : Ref sig .tc := ⟨.hbm, 65, rfl⟩
abbrev main_cst_10 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩

abbrev nD : Nat := 1
abbrev τ : Topo := Topo.v7x

variable {F : FTy → Type} [FloatOps F]
-- ==== Qkv.lean ====
abbrev S4096x256 : Shape := ⟨2, ![4096, 256]⟩
abbrev S4096x128 : Shape := ⟨2, ![4096, 128]⟩
abbrev S4096x32 : Shape := ⟨2, ![4096, 32]⟩
abbrev S4096x16 : Shape := ⟨2, ![4096, 16]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S64 : Shape := ⟨1, ![64]⟩
abbrev S32 : Shape := ⟨1, ![32]⟩
abbrev S8x4096x96 : Shape := ⟨3, ![8, 4096, 96]⟩
abbrev S8x4096x64 : Shape := ⟨3, ![8, 4096, 64]⟩
abbrev S_ : Shape := ⟨0, ![]⟩
abbrev S4096x64 : Shape := ⟨2, ![4096, 64]⟩
abbrev S4096x384 : Shape := ⟨2, ![4096, 384]⟩
abbrev S256x8x96 : Shape := ⟨3, ![256, 8, 96]⟩
abbrev S8x256x96 : Shape := ⟨3, ![8, 256, 96]⟩
abbrev S8x256x128 : Shape := ⟨3, ![8, 256, 128]⟩
abbrev S128x8x128 : Shape := ⟨3, ![128, 8, 128]⟩
abbrev S8x128x128 : Shape := ⟨3, ![8, 128, 128]⟩
abbrev S8x128x64 : Shape := ⟨3, ![8, 128, 64]⟩
abbrev S1x256 : Shape := ⟨2, ![1, 256]⟩
abbrev S1x128 : Shape := ⟨2, ![1, 128]⟩
abbrev S96 : Shape := ⟨1, ![96]⟩
abbrev S8x4096x128 : Shape := ⟨3, ![8, 4096, 128]⟩
abbrev S512x384 : Shape := ⟨2, ![512, 384]⟩
abbrev S512x128 : Shape := ⟨2, ![512, 128]⟩
abbrev S8x512x128 : Shape := ⟨3, ![8, 512, 128]⟩
abbrev S8x512x64 : Shape := ⟨3, ![8, 512, 64]⟩
abbrev S512x256 : Shape := ⟨2, ![512, 256]⟩
abbrev S512 : Shape := ⟨1, ![512]⟩
abbrev S512x1 : Shape := ⟨2, ![512, 1]⟩
abbrev S1x256x128 : Shape := ⟨3, ![1, 256, 128]⟩
abbrev S256x128 : Shape := ⟨2, ![256, 128]⟩
abbrev S1x128x128 : Shape := ⟨3, ![1, 128, 128]⟩
abbrev S128x128 : Shape := ⟨2, ![128, 128]⟩
abbrev S1x128x64 : Shape := ⟨3, ![1, 128, 64]⟩
abbrev S128x64 : Shape := ⟨2, ![128, 64]⟩
abbrev S1x512x64 : Shape := ⟨3, ![1, 512, 64]⟩
abbrev S512x64 : Shape := ⟨2, ![512, 64]⟩
abbrev S1x512x128 : Shape := ⟨3, ![1, 512, 128]⟩
abbrev S7x128x64 : Shape := ⟨3, ![7, 128, 64]⟩
abbrev S7x128x128 : Shape := ⟨3, ![7, 128, 128]⟩
abbrev S512x16 : Shape := ⟨2, ![512, 16]⟩
abbrev S512x32 : Shape := ⟨2, ![512, 32]⟩
abbrev S512x80 : Shape := ⟨2, ![512, 80]⟩
abbrev S512x48 : Shape := ⟨2, ![512, 48]⟩
abbrev S512x96 : Shape := ⟨2, ![512, 96]⟩
abbrev S7x256x128 : Shape := ⟨3, ![7, 256, 128]⟩
abbrev S6x128x64 : Shape := ⟨3, ![6, 128, 64]⟩
abbrev S6x128x128 : Shape := ⟨3, ![6, 128, 128]⟩
abbrev S6x256x128 : Shape := ⟨3, ![6, 256, 128]⟩
abbrev S5x128x64 : Shape := ⟨3, ![5, 128, 64]⟩
abbrev S2x128x64 : Shape := ⟨3, ![2, 128, 64]⟩
abbrev S5x128x128 : Shape := ⟨3, ![5, 128, 128]⟩
abbrev S2x128x128 : Shape := ⟨3, ![2, 128, 128]⟩
abbrev S5x256x128 : Shape := ⟨3, ![5, 256, 128]⟩
abbrev S2x256x128 : Shape := ⟨3, ![2, 256, 128]⟩
abbrev S4x128x64 : Shape := ⟨3, ![4, 128, 64]⟩
abbrev S3x128x64 : Shape := ⟨3, ![3, 128, 64]⟩
abbrev S4x128x128 : Shape := ⟨3, ![4, 128, 128]⟩
abbrev S3x128x128 : Shape := ⟨3, ![3, 128, 128]⟩
abbrev S4x256x128 : Shape := ⟨3, ![4, 256, 128]⟩
abbrev S3x256x128 : Shape := ⟨3, ![3, 256, 128]⟩
abbrev S1x32 : Shape := ⟨2, ![1, 32]⟩
abbrev S128x8x64 : Shape := ⟨3, ![128, 8, 64]⟩
abbrev S1x64 : Shape := ⟨2, ![1, 64]⟩

abbrev nBuf : Space → Nat
  | .hbm => 87
  | .vmem => 34
  | .smem => 0
  | _ => 0

abbrev bufTy : (tb : Table) → Fin (tcTables nBuf tb) → BufTy
  | .hbm, ⟨0, _⟩ => ⟨S4096x256, .f32⟩
  | .hbm, ⟨1, _⟩ => ⟨S4096x128, .f32⟩
  | .hbm, ⟨2, _⟩ => ⟨S4096x32, .f32⟩
  | .hbm, ⟨3, _⟩ => ⟨S4096x16, .f32⟩
  | .hbm, ⟨4, _⟩ => ⟨S4096x16, .f32⟩
  | .hbm, ⟨5, _⟩ => ⟨S256, .f32⟩
  | .hbm, ⟨6, _⟩ => ⟨S256x768, .f32⟩
  | .hbm, ⟨7, _⟩ => ⟨S128, .f32⟩
  | .hbm, ⟨8, _⟩ => ⟨S128x1024, .f32⟩
  | .hbm, ⟨9, _⟩ => ⟨S64, .f32⟩
  | .hbm, ⟨10, _⟩ => ⟨S32, .f32⟩
  | .hbm, ⟨11, _⟩ => ⟨S64, .f32⟩
  | .hbm, ⟨12, _⟩ => ⟨S32, .f32⟩
  | .hbm, ⟨13, _⟩ => ⟨S8x4096x96, .f32⟩
  | .hbm, ⟨14, _⟩ => ⟨S8x4096x96, .f32⟩
  | .hbm, ⟨15, _⟩ => ⟨S8x4096x64, .f32⟩
  | .hbm, ⟨16, _⟩ => ⟨S_, .f32⟩
  | .hbm, ⟨17, _⟩ => ⟨S4096x64, .f32⟩
  | .hbm, ⟨18, _⟩ => ⟨S_, .f32⟩
  | .hbm, ⟨19, _⟩ => ⟨S4096x32, .f32⟩
  | .hbm, ⟨20, _⟩ => ⟨S4096x128, .f32⟩
  | .hbm, ⟨21, _⟩ => ⟨S_, .f32⟩
  | .hbm, ⟨22, _⟩ => ⟨S4096x64, .f32⟩
  | .hbm, ⟨23, _⟩ => ⟨S4096x16, .f32⟩
  | .hbm, ⟨24, _⟩ => ⟨S_, .f32⟩
  | .hbm, ⟨25, _⟩ => ⟨S4096x32, .f32⟩
  | .hbm, ⟨26, _⟩ => ⟨S4096x128, .f32⟩
  | .hbm, ⟨27, _⟩ => ⟨S4096x384, .f32⟩
  | .hbm, ⟨28, _⟩ => ⟨S_, .f32⟩
  | .hbm, ⟨29, _⟩ => ⟨S4096x64, .f32⟩
  | .hbm, ⟨30, _⟩ => ⟨S_, .f32⟩
  | .hbm, ⟨31, _⟩ => ⟨S4096x32, .f32⟩
  | .hbm, ⟨32, _⟩ => ⟨S4096x128, .f32⟩
  | .hbm, ⟨33, _⟩ => ⟨S256x768, .bf16⟩
  | .hbm, ⟨34, _⟩ => ⟨S256x8x96, .bf16⟩
  | .hbm, ⟨35, _⟩ => ⟨S8x256x96, .bf16⟩
  | .hbm, ⟨36, _⟩ => ⟨S_, .i32⟩
  | .hbm, ⟨37, _⟩ => ⟨S_, .bf16⟩
  | .hbm, ⟨38, _⟩ => ⟨S8x256x128, .bf16⟩
  | .hbm, ⟨39, _⟩ => ⟨S128x1024, .bf16⟩
  | .hbm, ⟨40, _⟩ => ⟨S128x8x128, .bf16⟩
  | .hbm, ⟨41, _⟩ => ⟨S8x128x128, .bf16⟩
  | .hbm, ⟨42, _⟩ => ⟨S8x128x64, .bf16⟩
  | .hbm, ⟨43, _⟩ => ⟨S_, .i32⟩
  | .hbm, ⟨44, _⟩ => ⟨S_, .bf16⟩
  | .hbm, ⟨45, _⟩ => ⟨S8x128x128, .bf16⟩
  | .hbm, ⟨46, _⟩ => ⟨S8x128x64, .bf16⟩
  | .hbm, ⟨47, _⟩ => ⟨S1x256, .f32⟩
  | .hbm, ⟨48, _⟩ => ⟨S1x128, .f32⟩
  | .hbm, ⟨49, _⟩ => ⟨S96, .f32⟩
  | .hbm, ⟨50, _⟩ => ⟨S_, .i32⟩
  | .hbm, ⟨51, _⟩ => ⟨S_, .f32⟩
  | .hbm, ⟨52, _⟩ => ⟨S128, .f32⟩
  | .hbm, ⟨53, _⟩ => ⟨S1x128, .f32⟩
  | .hbm, ⟨54, _⟩ => ⟨S_, .i32⟩
  | .hbm, ⟨55, _⟩ => ⟨S_, .f32⟩
  | .hbm, ⟨56, _⟩ => ⟨S128, .f32⟩
  | .hbm, ⟨57, _⟩ => ⟨S1x128, .f32⟩
  | .hbm, ⟨58, _⟩ => ⟨S_, .i32⟩
  | .hbm, ⟨59, _⟩ => ⟨S_, .f32⟩
  | .hbm, ⟨60, _⟩ => ⟨S128, .f32⟩
  | .hbm, ⟨61, _⟩ => ⟨S1x128, .f32⟩
  | .hbm, ⟨62, _⟩ => ⟨S_, .f32⟩
  | .hbm, ⟨63, _⟩ => ⟨S8x4096x96, .f32⟩
  | .hbm, ⟨64, _⟩ => ⟨S8x4096x96, .f32⟩
  | .hbm, ⟨65, _⟩ => ⟨S_, .i32⟩
  | .hbm, ⟨66, _⟩ => ⟨S_, .f32⟩
  | .hbm, ⟨67, _⟩ => ⟨S8x4096x128, .f32⟩
  | .hbm, ⟨68, _⟩ => ⟨S_, .i32⟩
  | .hbm, ⟨69, _⟩ => ⟨S_, .f32⟩
  | .hbm, ⟨70, _⟩ => ⟨S8x4096x128, .f32⟩
  | .hbm, ⟨71, _⟩ => ⟨S4096x384, .f32⟩
  | .hbm, ⟨72, _⟩ => ⟨S4096x128, .f32⟩
  | .hbm, ⟨73, _⟩ => ⟨S1x256, .f32⟩
  | .hbm, ⟨74, _⟩ => ⟨S1x128, .f32⟩
  | .hbm, ⟨75, _⟩ => ⟨S8x256x128, .f32⟩
  | .hbm, ⟨76, _⟩ => ⟨S8x128x128, .f32⟩
  | .hbm, ⟨77, _⟩ => ⟨S8x128x64, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S4096x32, .f32⟩
  | .hbm, ⟨82, _⟩ => ⟨S1x32, .f32⟩
  | .hbm, ⟨83, _⟩ => ⟨S32, .f32⟩
  | .hbm, ⟨84, _⟩ => ⟨S128x8x64, .f32⟩
  | .hbm, ⟨85, _⟩ => ⟨S1x64, .f32⟩
  | .hbm, ⟨86, _⟩ => ⟨S64, .f32⟩
  | .local _ .vmem, ⟨0, _⟩ => ⟨S512x384, .f32⟩
  | .local _ .vmem, ⟨1, _⟩ => ⟨S512x384, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x256, .f32⟩
  | .local _ .vmem, ⟨9, _⟩ => ⟨S1x128, .f32⟩
  | .local _ .vmem, ⟨10, _⟩ => ⟨S8x256x128, .bf16⟩
  | .local _ .vmem, ⟨11, _⟩ => ⟨S8x128x128, .bf16⟩
  | .local _ .vmem, ⟨12, _⟩ => ⟨S8x128x64, .bf16⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S8x512x128, .f32⟩
  | .local _ .vmem, ⟨17, _⟩ => ⟨S8x512x128, .f32⟩
  | .local _ .vmem, ⟨18, _⟩ => ⟨S8x512x128, .f32⟩
  | .local _ .vmem, ⟨19, _⟩ => ⟨S8x512x128, .f32⟩
  | .local _ .vmem, ⟨20, _⟩ => ⟨S8x512x64, .f32⟩
  | .local _ .vmem, ⟨21, _⟩ => ⟨S8x512x64, .f32⟩
  | .local _ .vmem, ⟨22, _⟩ => ⟨S512x384, .f32⟩
  | .local _ .vmem, ⟨23, _⟩ => ⟨S512x384, .f32⟩
  | .local _ .vmem, ⟨24, _⟩ => ⟨S512x128, .f32⟩
  | .local _ .vmem, ⟨25, _⟩ => ⟨S512x128, .f32⟩
  | .local _ .vmem, ⟨26, _⟩ => ⟨S1x256, .f32⟩
  | .local _ .vmem, ⟨27, _⟩ => ⟨S1x128, .f32⟩
  | .local _ .vmem, ⟨28, _⟩ => ⟨S8x256x128, .f32⟩
  | .local _ .vmem, ⟨29, _⟩ => ⟨S8x128x128, .f32⟩
  | .local _ .vmem, ⟨30, _⟩ => ⟨S8x128x64, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_cst_1 : Ref sig .tc := ⟨.hbm, 21, rfl⟩
abbrev main_v3 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_v8 : Ref sig .tc := ⟨.hbm, 29, rfl⟩
abbrev main_cst_4 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c : Ref sig .tc := ⟨.hbm, 36, rfl⟩
abbrev main_call0_v0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_5 : Ref sig .tc := ⟨.hbm, 43, rfl⟩
abbrev main_call1_v0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_6 : Ref sig .tc := ⟨.hbm, 50, rfl⟩
abbrev main_call2_v0 : Ref sig .tc := ⟨.hbm, 51, rfl⟩
abbrev main_v24 : Ref sig .tc := ⟨.hbm, 52, rfl⟩
abbrev main_v25 : Ref sig .tc := ⟨.hbm, 53, rfl⟩
abbrev main_c_7 : Ref sig .tc := ⟨.hbm, 54, rfl⟩
abbrev main_call3_v0 : Ref sig .tc := ⟨.hbm, 55, rfl⟩
abbrev main_v26 : Ref sig .tc := ⟨.hbm, 56, rfl⟩
abbrev main_v27 : Ref sig .tc := ⟨.hbm, 57, rfl⟩
abbrev main_c_8 : Ref sig .tc := ⟨.hbm, 58, rfl⟩
abbrev main_call4_v0 : Ref sig .tc := ⟨.hbm, 59, rfl⟩
abbrev main_v28 : Ref sig .tc := ⟨.hbm, 60, rfl⟩
abbrev main_v29 : Ref sig .tc := ⟨.hbm, 61, rfl⟩
abbrev main_cst_9 : Ref sig .tc := ⟨.hbm, 62, rfl⟩
abbrev main_v30 : Ref sig .tc := ⟨.hbm, 63, rfl⟩
abbrev main_v31 : Ref sig .tc := ⟨.hbm, 64, rfl⟩
abbrev main_c_10 : Ref sig .tc := ⟨.hbm, 65, rfl⟩
abbrev main_call5_v0 : Ref sig .tc := ⟨.hbm, 66, rfl⟩
abbrev main_v32 : Ref sig .tc := ⟨.hbm, 67, rfl⟩
abbrev main_c_11 : Ref sig .tc := ⟨.hbm, 68, rfl⟩
abbrev main_call6_v0 : Ref sig .tc := ⟨.hbm, 69, rfl⟩
abbrev main_v33 : Ref sig .tc := ⟨.hbm, 70, rfl⟩
abbrev main_v34_0 : Ref sig .tc := ⟨.hbm, 71, rfl⟩
abbrev main_v34_1 : Ref sig .tc := ⟨.hbm, 72, rfl⟩
abbrev main_v34_2 : Ref sig .tc := ⟨.hbm, 73, rfl⟩
abbrev main_v34_3 : Ref sig .tc := ⟨.hbm, 74, rfl⟩
abbrev main_v34_4 : Ref sig .tc := ⟨.hbm, 75, rfl⟩
abbrev main_v34_5 : Ref sig .tc := ⟨.hbm, 76, rfl⟩
abbrev main_v34_6 : Ref sig .tc := ⟨.hbm, 77, rfl⟩
abbrev main_v34_7 : Ref sig .tc := ⟨.hbm, 78, rfl⟩
abbrev main_v34_8 : Ref sig .tc := ⟨.hbm, 79, rfl⟩
abbrev main_v34_9 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg22_0 : Ref sig .tc := ⟨.vmem, 31, rfl⟩
abbrev cc0_stg23_0 : Ref sig .tc := ⟨.vmem, 32, rfl⟩
abbrev cc0_stg24_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem22_0 : DmaSem sig := 31
abbrev cc0_sem23_0 : DmaSem sig := 32
abbrev cc0_sem24_0 : DmaSem sig := 33

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1607 : BitVec 1 := Scalar.cmpi .eq arg0 c0_i32
  let v1608 : BitVec 32 := Scalar.extui v1607
  let c0_i32_405 : BitVec 32 := 0#32
  let v1609 : BitVec 1 := Scalar.cmpi .ne v1608 c0_i32_405
  v1609

def k0_cond2 (i : grid0.Coords) : BitVec 1 :=
  let arg0 : BitVec 32 := BitVec.ofNat 32 (i 0).val
  let c0_i32 : BitVec 32 := 0#32
  let v1607 : BitVec 1 := Scalar.cmpi .eq arg0 c0_i32
  let v_true : BitVec 1 := 1#1
  let v1610 : BitVec 1 := Scalar.xori v1607 v_true
  let v1611 : BitVec 32 := Scalar.extui v1610
  let c0_i32_406 : BitVec 32 := 0#32
  let v1612 : BitVec 1 := Scalar.cmpi .ne v1611 c0_i32_406
  v1612

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S8x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x384 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x256x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S8x128x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== QkvRefIdeal.lean ====
abbrev S4096x256 : Shape := ⟨2, ![4096, 256]⟩
abbrev S4096x128 : Shape := ⟨2, ![4096, 128]⟩
abbrev S4096x32 : Shape := ⟨2, ![4096, 32]⟩
abbrev S4096x16 : Shape := ⟨2, ![4096, 16]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S64 : Shape := ⟨1, ![64]⟩
abbrev S32 : Shape := ⟨1, ![32]⟩
abbrev S8x4096x96 : Shape := ⟨3, ![8, 4096, 96]⟩
abbrev S8x4096x64 : Shape := ⟨3, ![8, 4096, 64]⟩
abbrev S4096x1x16 : Shape := ⟨3, ![4096, 1, 16]⟩
abbrev S_ : Shape := ⟨0, ![]⟩
abbrev S4096 : Shape := ⟨1, ![4096]⟩
abbrev S4096x1 : Shape := ⟨2, ![4096, 1]⟩
abbrev S1x256 : Shape := ⟨2, ![1, 256]⟩
abbrev S4096x768 : Shape := ⟨2, ![4096, 768]⟩
abbrev S4096x8x96 : Shape := ⟨3, ![4096, 8, 96]⟩
abbrev S4096x8x64 : Shape := ⟨3, ![4096, 8, 64]⟩
abbrev S4096x8x32 : Shape := ⟨3, ![4096, 8, 32]⟩
abbrev S1x128 : Shape := ⟨2, ![1, 128]⟩
abbrev S4096x1024 : Shape := ⟨2, ![4096, 1024]⟩
abbrev S4096x8x128 : Shape := ⟨3, ![4096, 8, 128]⟩
abbrev S4096x8 : Shape := ⟨2, ![4096, 8]⟩
abbrev S4096x8x1 : Shape := ⟨3, ![4096, 8, 1]⟩
abbrev S1x1x64 : Shape := ⟨3, ![1, 1, 64]⟩
abbrev S1x1x32 : Shape := ⟨3, ![1, 1, 32]⟩
abbrev S4096x8x16 : Shape := ⟨3, ![4096, 8, 16]⟩
abbrev S4096x1x32 : Shape := ⟨3, ![4096, 1, 32]⟩
abbrev S4096x1x1 : Shape := ⟨3, ![4096, 1, 1]⟩
abbrev S1x32 : Shape := ⟨2, ![1, 32]⟩
abbrev S1024x128 : Shape := ⟨2, ![1024, 128]⟩
abbrev S128x8x128 : Shape := ⟨3, ![128, 8, 128]⟩
abbrev S128x8x64 : Shape := ⟨3, ![128, 8, 64]⟩

abbrev nBuf : Space → Nat
  | .hbm => 513
  | .vmem => 0
  | .smem => 0
  | _ => 0

abbrev hbmTy0_0 (i : Nat) : BufTy := match i % 128 with
  | 0 => ⟨S4096x256, .f32⟩
  | 1 => ⟨S4096x128, .f32⟩
  | 2 => ⟨S4096x32, .f32⟩
  | 3 => ⟨S4096x16, .f32⟩
  | 4 => ⟨S4096x16, .f32⟩
  | 5 => ⟨S256, .f32⟩
  | 6 => ⟨S256x768, .f32⟩
  | 7 => ⟨S128, .f32⟩
  | 8 => ⟨S128x1024, .f32⟩
  | 9 => ⟨S64, .f32⟩
  | 10 => ⟨S32, .f32⟩
  | 11 => ⟨S64, .f32⟩
  | 12 => ⟨S32, .f32⟩
  | 13 => ⟨S8x4096x96, .f32⟩
  | 14 => ⟨S8x4096x96, .f32⟩
  | 15 => ⟨S8x4096x64, .f32⟩
  | 16 => ⟨S4096x1x16, .f32⟩
  | 17 => ⟨S4096x1x16, .f32⟩
  | 18 => ⟨S4096x256, .f32⟩
  | 19 => ⟨S_, .f32⟩
  | 20 => ⟨S4096, .f32⟩
  | 21 => ⟨S4096x1, .f32⟩
  | 22 => ⟨S_, .f32⟩
  | 23 => ⟨S4096x1, .f32⟩
  | 24 => ⟨S4096x1, .f32⟩
  | 25 => ⟨S_, .f32⟩
  | 26 => ⟨S4096x1, .f32⟩
  | 27 => ⟨S4096x1, .f32⟩
  | 28 => ⟨S4096x1, .f32⟩
  | 29 => ⟨S4096x256, .f32⟩
  | 30 => ⟨S4096x256, .f32⟩
  | 31 => ⟨S1x256, .f32⟩
  | 32 => ⟨S4096x256, .f32⟩
  | 33 => ⟨S4096x256, .f32⟩
  | 34 => ⟨S4096x768, .f32⟩
  | 35 => ⟨S4096x8x96, .f32⟩
  | 36 => ⟨S4096x8x64, .f32⟩
  | 37 => ⟨S4096x8x32, .f32⟩
  | 38 => ⟨S4096x128, .f32⟩
  | 39 => ⟨S_, .f32⟩
  | 40 => ⟨S4096, .f32⟩
  | 41 => ⟨S4096x1, .f32⟩
  | 42 => ⟨S_, .f32⟩
  | 43 => ⟨S4096x1, .f32⟩
  | 44 => ⟨S4096x1, .f32⟩
  | 45 => ⟨S_, .f32⟩
  | 46 => ⟨S4096x1, .f32⟩
  | 47 => ⟨S4096x1, .f32⟩
  | 48 => ⟨S4096x1, .f32⟩
  | 49 => ⟨S4096x128, .f32⟩
  | 50 => ⟨S4096x128, .f32⟩
  | 51 => ⟨S1x128, .f32⟩
  | 52 => ⟨S4096x128, .f32⟩
  | 53 => ⟨S4096x128, .f32⟩
  | 54 => ⟨S4096x1024, .f32⟩
  | 55 => ⟨S4096x8x128, .f32⟩
  | 56 => ⟨S4096x8x64, .f32⟩
  | 57 => ⟨S4096x8x64, .f32⟩
  | 58 => ⟨S4096x8x64, .f32⟩
  | 59 => ⟨S_, .f32⟩
  | 60 => ⟨S4096x8, .f32⟩
  | 61 => ⟨S4096x8x1, .f32⟩
  | 62 => ⟨S_, .f32⟩
  | 63 => ⟨S4096x8x1, .f32⟩
  | 64 => ⟨S4096x8x1, .f32⟩
  | 65 => ⟨S_, .f32⟩
  | 66 => ⟨S4096x8x1, .f32⟩
  | 67 => ⟨S4096x8x1, .f32⟩
  | 68 => ⟨S4096x8x1, .f32⟩
  | 69 => ⟨S4096x8x64, .f32⟩
  | 70 => ⟨S4096x8x64, .f32⟩
  | 71 => ⟨S1x1x64, .f32⟩
  | 72 => ⟨S4096x8x64, .f32⟩
  | 73 => ⟨S4096x8x64, .f32⟩
  | 74 => ⟨S4096x8x32, .f32⟩
  | 75 => ⟨S_, .f32⟩
  | 76 => ⟨S4096x8, .f32⟩
  | 77 => ⟨S4096x8x1, .f32⟩
  | 78 => ⟨S_, .f32⟩
  | 79 => ⟨S4096x8x1, .f32⟩
  | 80 => ⟨S4096x8x1, .f32⟩
  | 81 => ⟨S_, .f32⟩
  | 82 => ⟨S4096x8x1, .f32⟩
  | 83 => ⟨S4096x8x1, .f32⟩
  | 84 => ⟨S4096x8x1, .f32⟩
  | 85 => ⟨S4096x8x32, .f32⟩
  | 86 => ⟨S4096x8x32, .f32⟩
  | 87 => ⟨S1x1x32, .f32⟩
  | 88 => ⟨S4096x8x32, .f32⟩
  | 89 => ⟨S4096x8x32, .f32⟩
  | 90 => ⟨S4096x8x16, .f32⟩
  | 91 => ⟨S4096x8x16, .f32⟩
  | 92 => ⟨S4096x8x16, .f32⟩
  | 93 => ⟨S4096x8x16, .f32⟩
  | 94 => ⟨S4096x8x16, .f32⟩
  | 95 => ⟨S4096x8x16, .f32⟩
  | 96 => ⟨S4096x8x16, .f32⟩
  | 97 => ⟨S4096x8x16, .f32⟩
  | 98 => ⟨S4096x8x16, .f32⟩
  | 99 => ⟨S4096x8x16, .f32⟩
  | 100 => ⟨S4096x8x16, .f32⟩
  | 101 => ⟨S4096x8x16, .f32⟩
  | 102 => ⟨S4096x8x32, .f32⟩
  | 103 => ⟨S4096x8x64, .f32⟩
  | 104 => ⟨S_, .f32⟩
  | 105 => ⟨S4096x8, .f32⟩
  | 106 => ⟨S4096x8x1, .f32⟩
  | 107 => ⟨S_, .f32⟩
  | 108 => ⟨S4096x8x1, .f32⟩
  | 109 => ⟨S4096x8x1, .f32⟩
  | 110 => ⟨S_, .f32⟩
  | 111 => ⟨S4096x8x1, .f32⟩
  | 112 => ⟨S4096x8x1, .f32⟩
  | 113 => ⟨S4096x8x1, .f32⟩
  | 114 => ⟨S4096x8x64, .f32⟩
  | 115 => ⟨S4096x8x64, .f32⟩
  | 116 => ⟨S1x1x64, .f32⟩
  | 117 => ⟨S4096x8x64, .f32⟩
  | 118 => ⟨S4096x8x64, .f32⟩
  | 119 => ⟨S4096x1x32, .f32⟩
  | 120 => ⟨S4096x1x32, .f32⟩
  | 121 => ⟨S_, .f32⟩
  | 122 => ⟨S4096x1, .f32⟩
  | 123 => ⟨S4096x1x1, .f32⟩
  | 124 => ⟨S_, .f32⟩
  | 125 => ⟨S4096x1x1, .f32⟩
  | 126 => ⟨S4096x1x1, .f32⟩
  | 127 => ⟨S_, .f32⟩
  | _ => ⟨S4096x256, .f32⟩

abbrev hbmTy0_1 (i : Nat) : BufTy := match i % 128 with
  | 0 => ⟨S4096x1x1, .f32⟩
  | 1 => ⟨S4096x1x1, .f32⟩
  | 2 => ⟨S4096x1x1, .f32⟩
  | 3 => ⟨S4096x1x1, .f32⟩
  | 4 => ⟨S_, .f32⟩
  | 5 => ⟨S4096x1x1, .f32⟩
  | 6 => ⟨S4096x1x1, .f32⟩
  | 7 => ⟨S4096x1x32, .f32⟩
  | 8 => ⟨S4096x1x32, .f32⟩
  | 9 => ⟨S1x1x32, .f32⟩
  | 10 => ⟨S4096x1x32, .f32⟩
  | 11 => ⟨S4096x1x32, .f32⟩
  | 12 => ⟨S4096x1x16, .f32⟩
  | 13 => ⟨S4096x1x16, .f32⟩
  | 14 => ⟨S4096x1x16, .f32⟩
  | 15 => ⟨S4096x1x16, .f32⟩
  | 16 => ⟨S4096x1x16, .f32⟩
  | 17 => ⟨S4096x1x16, .f32⟩
  | 18 => ⟨S4096x1x16, .f32⟩
  | 19 => ⟨S4096x1x16, .f32⟩
  | 20 => ⟨S4096x1x32, .f32⟩
  | 21 => ⟨S4096x8x96, .f32⟩
  | 22 => ⟨S4096x8x32, .f32⟩
  | 23 => ⟨S4096x8x96, .f32⟩
  | 24 => ⟨S_, .f32⟩
  | 25 => ⟨S4096x8x64, .f32⟩
  | 26 => ⟨S8x4096x96, .f32⟩
  | 27 => ⟨S8x4096x96, .f32⟩
  | 28 => ⟨S8x4096x64, .f32⟩
  | 29 => ⟨S4096x8x96, .f32⟩
  | 30 => ⟨S4096x8x64, .f32⟩
  | 31 => ⟨S4096x8x32, .f32⟩
  | 32 => ⟨S_, .f32⟩
  | 33 => ⟨S4096x32, .f32⟩
  | 34 => ⟨S4096x1x32, .f32⟩
  | 35 => ⟨S4096x1x16, .f32⟩
  | 36 => ⟨S4096x1x16, .f32⟩
  | 37 => ⟨S4096x1x16, .f32⟩
  | 38 => ⟨S4096x1x16, .f32⟩
  | 39 => ⟨S4096x1x16, .f32⟩
  | 40 => ⟨S4096x1x16, .f32⟩
  | 41 => ⟨S4096x1x16, .f32⟩
  | 42 => ⟨S4096x1x16, .f32⟩
  | 43 => ⟨S4096x1x16, .f32⟩
  | 44 => ⟨S4096x1x32, .f32⟩
  | 45 => ⟨S4096x1x32, .f32⟩
  | 46 => ⟨S_, .f32⟩
  | 47 => ⟨S1x32, .f32⟩
  | 48 => ⟨S1x1x32, .f32⟩
  | 49 => ⟨S4096x1x32, .f32⟩
  | 50 => ⟨S4096x1x32, .f32⟩
  | 51 => ⟨S_, .f32⟩
  | 52 => ⟨S32, .f32⟩
  | 53 => ⟨S4096x1x32, .f32⟩
  | 54 => ⟨S_, .f32⟩
  | 55 => ⟨S4096x1, .f32⟩
  | 56 => ⟨S4096x1x1, .f32⟩
  | 57 => ⟨S4096x1x32, .f32⟩
  | 58 => ⟨S4096x1x32, .f32⟩
  | 59 => ⟨S4096x1x1, .f32⟩
  | 60 => ⟨S_, .f32⟩
  | 61 => ⟨S4096x1x1, .f32⟩
  | 62 => ⟨S4096x1x1, .f32⟩
  | 63 => ⟨S_, .f32⟩
  | 64 => ⟨S4096, .f32⟩
  | 65 => ⟨S4096x1, .f32⟩
  | 66 => ⟨S4096x1x32, .f32⟩
  | 67 => ⟨S4096x1x32, .f32⟩
  | 68 => ⟨S4096x1x32, .f32⟩
  | 69 => ⟨S4096x1x32, .f32⟩
  | 70 => ⟨S4096x1x32, .f32⟩
  | 71 => ⟨S_, .f32⟩
  | 72 => ⟨S4096x32, .f32⟩
  | 73 => ⟨S4096x256, .f32⟩
  | 74 => ⟨S_, .f32⟩
  | 75 => ⟨S4096, .f32⟩
  | 76 => ⟨S4096x1, .f32⟩
  | 77 => ⟨S_, .f32⟩
  | 78 => ⟨S4096x1, .f32⟩
  | 79 => ⟨S4096x1, .f32⟩
  | 80 => ⟨S_, .f32⟩
  | 81 => ⟨S4096x1, .f32⟩
  | 82 => ⟨S4096x1, .f32⟩
  | 83 => ⟨S4096x1, .f32⟩
  | 84 => ⟨S4096x256, .f32⟩
  | 85 => ⟨S4096x256, .f32⟩
  | 86 => ⟨S1x256, .f32⟩
  | 87 => ⟨S4096x256, .f32⟩
  | 88 => ⟨S4096x256, .f32⟩
  | 89 => ⟨S4096x768, .f32⟩
  | 90 => ⟨S4096x8x96, .f32⟩
  | 91 => ⟨S4096x8x64, .f32⟩
  | 92 => ⟨S4096x8x32, .f32⟩
  | 93 => ⟨S4096x128, .f32⟩
  | 94 => ⟨S_, .f32⟩
  | 95 => ⟨S4096, .f32⟩
  | 96 => ⟨S4096x1, .f32⟩
  | 97 => ⟨S_, .f32⟩
  | 98 => ⟨S4096x1, .f32⟩
  | 99 => ⟨S4096x1, .f32⟩
  | 100 => ⟨S_, .f32⟩
  | 101 => ⟨S4096x1, .f32⟩
  | 102 => ⟨S4096x1, .f32⟩
  | 103 => ⟨S4096x1, .f32⟩
  | 104 => ⟨S4096x128, .f32⟩
  | 105 => ⟨S4096x128, .f32⟩
  | 106 => ⟨S1x128, .f32⟩
  | 107 => ⟨S4096x128, .f32⟩
  | 108 => ⟨S4096x128, .f32⟩
  | 109 => ⟨S4096x1024, .f32⟩
  | 110 => ⟨S4096x8x128, .f32⟩
  | 111 => ⟨S4096x8x64, .f32⟩
  | 112 => ⟨S4096x8x64, .f32⟩
  | 113 => ⟨S4096x8x64, .f32⟩
  | 114 => ⟨S_, .f32⟩
  | 115 => ⟨S4096x8, .f32⟩
  | 116 => ⟨S4096x8x1, .f32⟩
  | 117 => ⟨S_, .f32⟩
  | 118 => ⟨S4096x8x1, .f32⟩
  | 119 => ⟨S4096x8x1, .f32⟩
  | 120 => ⟨S_, .f32⟩
  | 121 => ⟨S4096x8x1, .f32⟩
  | 122 => ⟨S4096x8x1, .f32⟩
  | 123 => ⟨S4096x8x1, .f32⟩
  | 124 => ⟨S4096x8x64, .f32⟩
  | 125 => ⟨S4096x8x64, .f32⟩
  | 126 => ⟨S1x1x64, .f32⟩
  | 127 => ⟨S4096x8x64, .f32⟩
  | _ => ⟨S4096x256, .f32⟩

abbrev hbmTy0_2 (i : Nat) : BufTy := match i % 128 with
  | 0 => ⟨S4096x8x64, .f32⟩
  | 1 => ⟨S4096x8x32, .f32⟩
  | 2 => ⟨S_, .f32⟩
  | 3 => ⟨S4096x8, .f32⟩
  | 4 => ⟨S4096x8x1, .f32⟩
  | 5 => ⟨S_, .f32⟩
  | 6 => ⟨S4096x8x1, .f32⟩
  | 7 => ⟨S4096x8x1, .f32⟩
  | 8 => ⟨S_, .f32⟩
  | 9 => ⟨S4096x8x1, .f32⟩
  | 10 => ⟨S4096x8x1, .f32⟩
  | 11 => ⟨S4096x8x1, .f32⟩
  | 12 => ⟨S4096x8x32, .f32⟩
  | 13 => ⟨S4096x8x32, .f32⟩
  | 14 => ⟨S1x1x32, .f32⟩
  | 15 => ⟨S4096x8x32, .f32⟩
  | 16 => ⟨S4096x8x32, .f32⟩
  | 17 => ⟨S4096x8x16, .f32⟩
  | 18 => ⟨S4096x8x16, .f32⟩
  | 19 => ⟨S4096x8x16, .f32⟩
  | 20 => ⟨S4096x8x16, .f32⟩
  | 21 => ⟨S4096x8x16, .f32⟩
  | 22 => ⟨S4096x8x16, .f32⟩
  | 23 => ⟨S4096x8x16, .f32⟩
  | 24 => ⟨S4096x8x16, .f32⟩
  | 25 => ⟨S4096x8x16, .f32⟩
  | 26 => ⟨S4096x8x16, .f32⟩
  | 27 => ⟨S4096x8x16, .f32⟩
  | 28 => ⟨S4096x8x16, .f32⟩
  | 29 => ⟨S4096x8x32, .f32⟩
  | 30 => ⟨S4096x8x64, .f32⟩
  | 31 => ⟨S_, .f32⟩
  | 32 => ⟨S4096x8, .f32⟩
  | 33 => ⟨S4096x8x1, .f32⟩
  | 34 => ⟨S_, .f32⟩
  | 35 => ⟨S4096x8x1, .f32⟩
  | 36 => ⟨S4096x8x1, .f32⟩
  | 37 => ⟨S_, .f32⟩
  | 38 => ⟨S4096x8x1, .f32⟩
  | 39 => ⟨S4096x8x1, .f32⟩
  | 40 => ⟨S4096x8x1, .f32⟩
  | 41 => ⟨S4096x8x1, .f32⟩
  | 42 => ⟨S_, .f32⟩
  | 43 => ⟨S4096x8x1, .f32⟩
  | 44 => ⟨S4096x8x1, .f32⟩
  | 45 => ⟨S4096x8x64, .f32⟩
  | 46 => ⟨S4096x8x64, .f32⟩
  | 47 => ⟨S1x1x64, .f32⟩
  | 48 => ⟨S4096x8x64, .f32⟩
  | 49 => ⟨S4096x8x64, .f32⟩
  | 50 => ⟨S4096x1x32, .f32⟩
  | 51 => ⟨S4096x1x32, .f32⟩
  | 52 => ⟨S_, .f32⟩
  | 53 => ⟨S4096x1, .f32⟩
  | 54 => ⟨S4096x1x1, .f32⟩
  | 55 => ⟨S_, .f32⟩
  | 56 => ⟨S4096x1x1, .f32⟩
  | 57 => ⟨S4096x1x1, .f32⟩
  | 58 => ⟨S_, .f32⟩
  | 59 => ⟨S4096x1x1, .f32⟩
  | 60 => ⟨S4096x1x1, .f32⟩
  | 61 => ⟨S4096x1x1, .f32⟩
  | 62 => ⟨S4096x1x32, .f32⟩
  | 63 => ⟨S4096x1x32, .f32⟩
  | 64 => ⟨S1x1x32, .f32⟩
  | 65 => ⟨S4096x1x32, .f32⟩
  | 66 => ⟨S4096x1x32, .f32⟩
  | 67 => ⟨S4096x1x16, .f32⟩
  | 68 => ⟨S4096x1x16, .f32⟩
  | 69 => ⟨S4096x1x16, .f32⟩
  | 70 => ⟨S4096x1x16, .f32⟩
  | 71 => ⟨S4096x1x16, .f32⟩
  | 72 => ⟨S4096x1x16, .f32⟩
  | 73 => ⟨S4096x1x16, .f32⟩
  | 74 => ⟨S4096x1x16, .f32⟩
  | 75 => ⟨S4096x1x32, .f32⟩
  | 76 => ⟨S4096x8x96, .f32⟩
  | 77 => ⟨S4096x8x32, .f32⟩
  | 78 => ⟨S4096x8x96, .f32⟩
  | 79 => ⟨S_, .f32⟩
  | 80 => ⟨S4096x8x32, .f32⟩
  | 81 => ⟨S8x4096x96, .f32⟩
  | 82 => ⟨S8x4096x96, .f32⟩
  | 83 => ⟨S8x4096x64, .f32⟩
  | 84 => ⟨S4096x8x64, .f32⟩
  | 85 => ⟨S4096x8x96, .f32⟩
  | 86 => ⟨S4096x8x64, .f32⟩
  | 87 => ⟨S4096x8x32, .f32⟩
  | 88 => ⟨S4096x8x64, .f32⟩
  | 89 => ⟨S4096x8x64, .f32⟩
  | 90 => ⟨S4096x8x64, .f32⟩
  | 91 => ⟨S_, .f32⟩
  | 92 => ⟨S4096x8, .f32⟩
  | 93 => ⟨S4096x8x1, .f32⟩
  | 94 => ⟨S4096x8x64, .f32⟩
  | 95 => ⟨S4096x8x64, .f32⟩
  | 96 => ⟨S4096x8x1, .f32⟩
  | 97 => ⟨S_, .f32⟩
  | 98 => ⟨S4096x8x1, .f32⟩
  | 99 => ⟨S4096x8x1, .f32⟩
  | 100 => ⟨S_, .f32⟩
  | 101 => ⟨S4096x8, .f32⟩
  | 102 => ⟨S4096x8x64, .f32⟩
  | 103 => ⟨S4096x8x64, .f32⟩
  | 104 => ⟨S4096x8x64, .f32⟩
  | 105 => ⟨S4096x8x64, .f32⟩
  | 106 => ⟨S4096x8x64, .f32⟩
  | 107 => ⟨S4096x8x128, .f32⟩
  | 108 => ⟨S4096x1024, .f32⟩
  | 109 => ⟨S1024x128, .f32⟩
  | 110 => ⟨S128x1024, .f32⟩
  | 111 => ⟨S4096x256, .f32⟩
  | 112 => ⟨S_, .f32⟩
  | 113 => ⟨S4096, .f32⟩
  | 114 => ⟨S4096x1, .f32⟩
  | 115 => ⟨S_, .f32⟩
  | 116 => ⟨S4096x1, .f32⟩
  | 117 => ⟨S4096x1, .f32⟩
  | 118 => ⟨S_, .f32⟩
  | 119 => ⟨S4096x1, .f32⟩
  | 120 => ⟨S4096x1, .f32⟩
  | 121 => ⟨S4096x1, .f32⟩
  | 122 => ⟨S4096x256, .f32⟩
  | 123 => ⟨S4096x256, .f32⟩
  | 124 => ⟨S1x256, .f32⟩
  | 125 => ⟨S4096x256, .f32⟩
  | 126 => ⟨S4096x256, .f32⟩
  | 127 => ⟨S4096x768, .f32⟩
  | _ => ⟨S4096x256, .f32⟩

abbrev hbmTy0_3 (i : Nat) : BufTy := match i % 128 with
  | 0 => ⟨S4096x8x96, .f32⟩
  | 1 => ⟨S4096x8x64, .f32⟩
  | 2 => ⟨S4096x8x32, .f32⟩
  | 3 => ⟨S4096x128, .f32⟩
  | 4 => ⟨S_, .f32⟩
  | 5 => ⟨S4096, .f32⟩
  | 6 => ⟨S4096x1, .f32⟩
  | 7 => ⟨S_, .f32⟩
  | 8 => ⟨S4096x1, .f32⟩
  | 9 => ⟨S4096x1, .f32⟩
  | 10 => ⟨S_, .f32⟩
  | 11 => ⟨S4096x1, .f32⟩
  | 12 => ⟨S4096x1, .f32⟩
  | 13 => ⟨S4096x1, .f32⟩
  | 14 => ⟨S4096x128, .f32⟩
  | 15 => ⟨S4096x128, .f32⟩
  | 16 => ⟨S1x128, .f32⟩
  | 17 => ⟨S4096x128, .f32⟩
  | 18 => ⟨S4096x128, .f32⟩
  | 19 => ⟨S4096x1024, .f32⟩
  | 20 => ⟨S4096x8x128, .f32⟩
  | 21 => ⟨S4096x8x64, .f32⟩
  | 22 => ⟨S4096x8x64, .f32⟩
  | 23 => ⟨S4096x8x64, .f32⟩
  | 24 => ⟨S_, .f32⟩
  | 25 => ⟨S4096x8, .f32⟩
  | 26 => ⟨S4096x8x1, .f32⟩
  | 27 => ⟨S_, .f32⟩
  | 28 => ⟨S4096x8x1, .f32⟩
  | 29 => ⟨S4096x8x1, .f32⟩
  | 30 => ⟨S_, .f32⟩
  | 31 => ⟨S4096x8x1, .f32⟩
  | 32 => ⟨S4096x8x1, .f32⟩
  | 33 => ⟨S4096x8x1, .f32⟩
  | 34 => ⟨S4096x8x64, .f32⟩
  | 35 => ⟨S4096x8x64, .f32⟩
  | 36 => ⟨S1x1x64, .f32⟩
  | 37 => ⟨S4096x8x64, .f32⟩
  | 38 => ⟨S4096x8x64, .f32⟩
  | 39 => ⟨S4096x8x32, .f32⟩
  | 40 => ⟨S_, .f32⟩
  | 41 => ⟨S4096x8, .f32⟩
  | 42 => ⟨S4096x8x1, .f32⟩
  | 43 => ⟨S_, .f32⟩
  | 44 => ⟨S4096x8x1, .f32⟩
  | 45 => ⟨S4096x8x1, .f32⟩
  | 46 => ⟨S_, .f32⟩
  | 47 => ⟨S4096x8x1, .f32⟩
  | 48 => ⟨S4096x8x1, .f32⟩
  | 49 => ⟨S4096x8x1, .f32⟩
  | 50 => ⟨S4096x8x32, .f32⟩
  | 51 => ⟨S4096x8x32, .f32⟩
  | 52 => ⟨S1x1x32, .f32⟩
  | 53 => ⟨S4096x8x32, .f32⟩
  | 54 => ⟨S4096x8x32, .f32⟩
  | 55 => ⟨S4096x8x16, .f32⟩
  | 56 => ⟨S4096x8x16, .f32⟩
  | 57 => ⟨S4096x8x16, .f32⟩
  | 58 => ⟨S4096x8x16, .f32⟩
  | 59 => ⟨S4096x8x16, .f32⟩
  | 60 => ⟨S4096x8x16, .f32⟩
  | 61 => ⟨S4096x8x16, .f32⟩
  | 62 => ⟨S4096x8x16, .f32⟩
  | 63 => ⟨S4096x8x16, .f32⟩
  | 64 => ⟨S4096x8x16, .f32⟩
  | 65 => ⟨S4096x8x16, .f32⟩
  | 66 => ⟨S4096x8x16, .f32⟩
  | 67 => ⟨S4096x8x32, .f32⟩
  | 68 => ⟨S4096x8x64, .f32⟩
  | 69 => ⟨S_, .f32⟩
  | 70 => ⟨S4096x8, .f32⟩
  | 71 => ⟨S4096x8x1, .f32⟩
  | 72 => ⟨S_, .f32⟩
  | 73 => ⟨S4096x8x1, .f32⟩
  | 74 => ⟨S4096x8x1, .f32⟩
  | 75 => ⟨S_, .f32⟩
  | 76 => ⟨S4096x8x1, .f32⟩
  | 77 => ⟨S4096x8x1, .f32⟩
  | 78 => ⟨S4096x8x1, .f32⟩
  | 79 => ⟨S4096x8x64, .f32⟩
  | 80 => ⟨S4096x8x64, .f32⟩
  | 81 => ⟨S1x1x64, .f32⟩
  | 82 => ⟨S4096x8x64, .f32⟩
  | 83 => ⟨S4096x8x64, .f32⟩
  | 84 => ⟨S4096x1x32, .f32⟩
  | 85 => ⟨S4096x1x32, .f32⟩
  | 86 => ⟨S_, .f32⟩
  | 87 => ⟨S4096x1, .f32⟩
  | 88 => ⟨S4096x1x1, .f32⟩
  | 89 => ⟨S_, .f32⟩
  | 90 => ⟨S4096x1x1, .f32⟩
  | 91 => ⟨S4096x1x1, .f32⟩
  | 92 => ⟨S_, .f32⟩
  | 93 => ⟨S4096x1x1, .f32⟩
  | 94 => ⟨S4096x1x1, .f32⟩
  | 95 => ⟨S4096x1x1, .f32⟩
  | 96 => ⟨S4096x1x32, .f32⟩
  | 97 => ⟨S4096x1x32, .f32⟩
  | 98 => ⟨S1x1x32, .f32⟩
  | 99 => ⟨S4096x1x32, .f32⟩
  | 100 => ⟨S4096x1x32, .f32⟩
  | 101 => ⟨S4096x1x16, .f32⟩
  | 102 => ⟨S4096x1x16, .f32⟩
  | 103 => ⟨S4096x1x16, .f32⟩
  | 104 => ⟨S4096x1x16, .f32⟩
  | 105 => ⟨S4096x1x16, .f32⟩
  | 106 => ⟨S4096x1x16, .f32⟩
  | 107 => ⟨S4096x1x16, .f32⟩
  | 108 => ⟨S4096x1x16, .f32⟩
  | 109 => ⟨S4096x1x32, .f32⟩
  | 110 => ⟨S4096x8x96, .f32⟩
  | 111 => ⟨S4096x8x32, .f32⟩
  | 112 => ⟨S4096x8x96, .f32⟩
  | 113 => ⟨S_, .f32⟩
  | 114 => ⟨S4096x8x32, .f32⟩
  | 115 => ⟨S8x4096x96, .f32⟩
  | 116 => ⟨S8x4096x96, .f32⟩
  | 117 => ⟨S8x4096x64, .f32⟩
  | 118 => ⟨S4096x8x96, .f32⟩
  | 119 => ⟨S4096x8x64, .f32⟩
  | 120 => ⟨S4096x8x32, .f32⟩
  | 121 => ⟨S4096x8x64, .f32⟩
  | 122 => ⟨S_, .f32⟩
  | 123 => ⟨S64, .f32⟩
  | 124 => ⟨S1x1x64, .f32⟩
  | 125 => ⟨S_, .f32⟩
  | 126 => ⟨S64, .f32⟩
  | 127 => ⟨S128x8x128, .f32⟩
  | _ => ⟨S4096x256, .f32⟩

abbrev hbmTy0_4 (i : Nat) : BufTy := match i % 128 with
  | 0 => ⟨S128x8x64, .f32⟩
  | _ => ⟨S4096x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_5 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_11 : Ref sig .tc := ⟨.hbm, 104, rfl⟩
abbrev main_v76 : Ref sig .tc := ⟨.hbm, 105, rfl⟩
abbrev main_v77 : Ref sig .tc := ⟨.hbm, 106, rfl⟩
abbrev main_cst_12 : Ref sig .tc := ⟨.hbm, 107, rfl⟩
abbrev main_v78 : Ref sig .tc := ⟨.hbm, 108, rfl⟩
abbrev main_v79 : Ref sig .tc := ⟨.hbm, 109, rfl⟩
abbrev main_cst_13 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_14 : Ref sig .tc := ⟨.hbm, 121, rfl⟩
abbrev main_v90 : Ref sig .tc := ⟨.hbm, 122, rfl⟩
abbrev main_v91 : Ref sig .tc := ⟨.hbm, 123, rfl⟩
abbrev main_cst_15 : Ref sig .tc := ⟨.hbm, 124, rfl⟩
abbrev main_v92 : Ref sig .tc := ⟨.hbm, 125, rfl⟩
abbrev main_v93 : Ref sig .tc := ⟨.hbm, 126, rfl⟩
abbrev main_cst_16 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_17 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_18 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_cst_19 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_cst_20 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_cst_21 : Ref sig .tc := ⟨.hbm, 179, rfl⟩
abbrev main_v141 : Ref sig .tc := ⟨.hbm, 180, rfl⟩
abbrev main_v142 : Ref sig .tc := ⟨.hbm, 181, rfl⟩
abbrev main_cst_22 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_cst_23 : Ref sig .tc := ⟨.hbm, 188, rfl⟩
abbrev main_v148 : Ref sig .tc := ⟨.hbm, 189, rfl⟩
abbrev main_v149 : Ref sig .tc := ⟨.hbm, 190, rfl⟩
abbrev main_cst_24 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_cst_25 : Ref sig .tc := ⟨.hbm, 199, rfl⟩
abbrev main_v157 : Ref sig .tc := ⟨.hbm, 200, rfl⟩
abbrev main_v158 : Ref sig .tc := ⟨.hbm, 201, rfl⟩
abbrev main_cst_26 : Ref sig .tc := ⟨.hbm, 202, rfl⟩
abbrev main_v159 : Ref sig .tc := ⟨.hbm, 203, rfl⟩
abbrev main_v160 : Ref sig .tc := ⟨.hbm, 204, rfl⟩
abbrev main_cst_27 : Ref sig .tc := ⟨.hbm, 205, rfl⟩
abbrev main_v161 : Ref sig .tc := ⟨.hbm, 206, rfl⟩
abbrev main_v162 : Ref sig .tc := ⟨.hbm, 207, rfl⟩
abbrev main_cst_28 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_cst_29 : Ref sig .tc := ⟨.hbm, 222, rfl⟩
abbrev main_v176 : Ref sig .tc := ⟨.hbm, 223, rfl⟩
abbrev main_v177 : Ref sig .tc := ⟨.hbm, 224, rfl⟩
abbrev main_cst_30 : Ref sig .tc := ⟨.hbm, 225, rfl⟩
abbrev main_v178 : Ref sig .tc := ⟨.hbm, 226, rfl⟩
abbrev main_v179 : Ref sig .tc := ⟨.hbm, 227, rfl⟩
abbrev main_cst_31 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_cst_32 : Ref sig .tc := ⟨.hbm, 242, rfl⟩
abbrev main_v193 : Ref sig .tc := ⟨.hbm, 243, rfl⟩
abbrev main_v194 : Ref sig .tc := ⟨.hbm, 244, rfl⟩
abbrev main_cst_33 : Ref sig .tc := ⟨.hbm, 245, rfl⟩
abbrev main_v195 : Ref sig .tc := ⟨.hbm, 246, rfl⟩
abbrev main_v196 : Ref sig .tc := ⟨.hbm, 247, rfl⟩
abbrev main_cst_34 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_cst_35 : Ref sig .tc := ⟨.hbm, 258, rfl⟩
abbrev main_v206 : Ref sig .tc := ⟨.hbm, 259, rfl⟩
abbrev main_v207 : Ref sig .tc := ⟨.hbm, 260, rfl⟩
abbrev main_cst_36 : Ref sig .tc := ⟨.hbm, 261, rfl⟩
abbrev main_v208 : Ref sig .tc := ⟨.hbm, 262, rfl⟩
abbrev main_v209 : Ref sig .tc := ⟨.hbm, 263, rfl⟩
abbrev main_cst_37 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩
abbrev main_cst_38 : Ref sig .tc := ⟨.hbm, 287, rfl⟩
abbrev main_v232 : Ref sig .tc := ⟨.hbm, 288, rfl⟩
abbrev main_v233 : Ref sig .tc := ⟨.hbm, 289, rfl⟩
abbrev main_cst_39 : Ref sig .tc := ⟨.hbm, 290, rfl⟩
abbrev main_v234 : Ref sig .tc := ⟨.hbm, 291, rfl⟩
abbrev main_v235 : Ref sig .tc := ⟨.hbm, 292, rfl⟩
abbrev main_cst_40 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_cst_41 : Ref sig .tc := ⟨.hbm, 298, rfl⟩
abbrev main_v240 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_v247 : Ref sig .tc := ⟨.hbm, 306, rfl⟩
abbrev main_v248 : Ref sig .tc := ⟨.hbm, 307, rfl⟩
abbrev main_cst_42 : Ref sig .tc := ⟨.hbm, 308, rfl⟩
abbrev main_v249 : Ref sig .tc := ⟨.hbm, 309, rfl⟩
abbrev main_v250 : Ref sig .tc := ⟨.hbm, 310, rfl⟩
abbrev main_cst_43 : Ref sig .tc := ⟨.hbm, 311, rfl⟩
abbrev main_v251 : Ref sig .tc := ⟨.hbm, 312, rfl⟩
abbrev main_v252 : Ref sig .tc := ⟨.hbm, 313, rfl⟩
abbrev main_cst_44 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩
abbrev main_v267 : Ref sig .tc := ⟨.hbm, 329, rfl⟩
abbrev main_v268 : Ref sig .tc := ⟨.hbm, 330, rfl⟩
abbrev main_v269 : Ref sig .tc := ⟨.hbm, 331, rfl⟩
abbrev main_v270 : Ref sig .tc := ⟨.hbm, 332, rfl⟩
abbrev main_v271 : Ref sig .tc := ⟨.hbm, 333, rfl⟩
abbrev main_v272 : Ref sig .tc := ⟨.hbm, 334, rfl⟩
abbrev main_cst_45 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_v276 : Ref sig .tc := ⟨.hbm, 339, rfl⟩
abbrev main_v277 : Ref sig .tc := ⟨.hbm, 340, rfl⟩
abbrev main_v278 : Ref sig .tc := ⟨.hbm, 341, rfl⟩
abbrev main_v279 : Ref sig .tc := ⟨.hbm, 342, rfl⟩
abbrev main_v280 : Ref sig .tc := ⟨.hbm, 343, rfl⟩
abbrev main_v281 : Ref sig .tc := ⟨.hbm, 344, rfl⟩
abbrev main_v282 : Ref sig .tc := ⟨.hbm, 345, rfl⟩
abbrev main_v283 : Ref sig .tc := ⟨.hbm, 346, rfl⟩
abbrev main_cst_46 : Ref sig .tc := ⟨.hbm, 347, rfl⟩
abbrev main_v284 : Ref sig .tc := ⟨.hbm, 348, rfl⟩
abbrev main_v285 : Ref sig .tc := ⟨.hbm, 349, rfl⟩
abbrev main_v286 : Ref sig .tc := ⟨.hbm, 350, rfl⟩
abbrev main_v287 : Ref sig .tc := ⟨.hbm, 351, rfl⟩
abbrev main_v288 : Ref sig .tc := ⟨.hbm, 352, rfl⟩
abbrev main_cst_47 : Ref sig .tc := ⟨.hbm, 353, rfl⟩
abbrev main_v289 : Ref sig .tc := ⟨.hbm, 354, rfl⟩
abbrev main_v290 : Ref sig .tc := ⟨.hbm, 355, rfl⟩
abbrev main_cst_48 : Ref sig .tc := ⟨.hbm, 356, rfl⟩
abbrev main_v291 : Ref sig .tc := ⟨.hbm, 357, rfl⟩
abbrev main_v292 : Ref sig .tc := ⟨.hbm, 358, rfl⟩
abbrev main_v293 : Ref sig .tc := ⟨.hbm, 359, rfl⟩
abbrev main_v294 : Ref sig .tc := ⟨.hbm, 360, rfl⟩
abbrev main_v295 : Ref sig .tc := ⟨.hbm, 361, rfl⟩
abbrev main_v296 : Ref sig .tc := ⟨.hbm, 362, rfl⟩
abbrev main_v297 : Ref sig .tc := ⟨.hbm, 363, rfl⟩
abbrev main_v298 : Ref sig .tc := ⟨.hbm, 364, rfl⟩
abbrev main_v299 : Ref sig .tc := ⟨.hbm, 365, rfl⟩
abbrev main_v300 : Ref sig .tc := ⟨.hbm, 366, rfl⟩
abbrev main_v301 : Ref sig .tc := ⟨.hbm, 367, rfl⟩
abbrev main_cst_49 : Ref sig .tc := ⟨.hbm, 368, rfl⟩
abbrev main_v302 : Ref sig .tc := ⟨.hbm, 369, rfl⟩
abbrev main_v303 : Ref sig .tc := ⟨.hbm, 370, rfl⟩
abbrev main_cst_50 : Ref sig .tc := ⟨.hbm, 371, rfl⟩
abbrev main_v304 : Ref sig .tc := ⟨.hbm, 372, rfl⟩
abbrev main_v305 : Ref sig .tc := ⟨.hbm, 373, rfl⟩
abbrev main_cst_51 : Ref sig .tc := ⟨.hbm, 374, rfl⟩
abbrev main_v306 : Ref sig .tc := ⟨.hbm, 375, rfl⟩
abbrev main_v307 : Ref sig .tc := ⟨.hbm, 376, rfl⟩
abbrev main_v308 : Ref sig .tc := ⟨.hbm, 377, rfl⟩
abbrev main_v309 : Ref sig .tc := ⟨.hbm, 378, rfl⟩
abbrev main_v310 : Ref sig .tc := ⟨.hbm, 379, rfl⟩
abbrev main_v311 : Ref sig .tc := ⟨.hbm, 380, rfl⟩
abbrev main_v312 : Ref sig .tc := ⟨.hbm, 381, rfl⟩
abbrev main_v313 : Ref sig .tc := ⟨.hbm, 382, rfl⟩
abbrev main_v314 : Ref sig .tc := ⟨.hbm, 383, rfl⟩
abbrev main_v315 : Ref sig .tc := ⟨.hbm, 384, rfl⟩
abbrev main_v316 : Ref sig .tc := ⟨.hbm, 385, rfl⟩
abbrev main_v317 : Ref sig .tc := ⟨.hbm, 386, rfl⟩
abbrev main_v318 : Ref sig .tc := ⟨.hbm, 387, rfl⟩
abbrev main_cst_52 : Ref sig .tc := ⟨.hbm, 388, rfl⟩
abbrev main_v319 : Ref sig .tc := ⟨.hbm, 389, rfl⟩
abbrev main_v320 : Ref sig .tc := ⟨.hbm, 390, rfl⟩
abbrev main_cst_53 : Ref sig .tc := ⟨.hbm, 391, rfl⟩
abbrev main_v321 : Ref sig .tc := ⟨.hbm, 392, rfl⟩
abbrev main_v322 : Ref sig .tc := ⟨.hbm, 393, rfl⟩
abbrev main_cst_54 : Ref sig .tc := ⟨.hbm, 394, rfl⟩
abbrev main_v323 : Ref sig .tc := ⟨.hbm, 395, rfl⟩
abbrev main_v324 : Ref sig .tc := ⟨.hbm, 396, rfl⟩
abbrev main_v325 : Ref sig .tc := ⟨.hbm, 397, rfl⟩
abbrev main_v326 : Ref sig .tc := ⟨.hbm, 398, rfl⟩
abbrev main_v327 : Ref sig .tc := ⟨.hbm, 399, rfl⟩
abbrev main_v328 : Ref sig .tc := ⟨.hbm, 400, rfl⟩
abbrev main_v329 : Ref sig .tc := ⟨.hbm, 401, rfl⟩
abbrev main_v330 : Ref sig .tc := ⟨.hbm, 402, rfl⟩
abbrev main_v331 : Ref sig .tc := ⟨.hbm, 403, rfl⟩
abbrev main_v332 : Ref sig .tc := ⟨.hbm, 404, rfl⟩
abbrev main_v333 : Ref sig .tc := ⟨.hbm, 405, rfl⟩
abbrev main_v334 : Ref sig .tc := ⟨.hbm, 406, rfl⟩
abbrev main_v335 : Ref sig .tc := ⟨.hbm, 407, rfl⟩
abbrev main_cst_55 : Ref sig .tc := ⟨.hbm, 408, rfl⟩
abbrev main_v336 : Ref sig .tc := ⟨.hbm, 409, rfl⟩
abbrev main_v337 : Ref sig .tc := ⟨.hbm, 410, rfl⟩
abbrev main_cst_56 : Ref sig .tc := ⟨.hbm, 411, rfl⟩
abbrev main_v338 : Ref sig .tc := ⟨.hbm, 412, rfl⟩
abbrev main_v339 : Ref sig .tc := ⟨.hbm, 413, rfl⟩
abbrev main_cst_57 : Ref sig .tc := ⟨.hbm, 414, rfl⟩
abbrev main_v340 : Ref sig .tc := ⟨.hbm, 415, rfl⟩
abbrev main_v341 : Ref sig .tc := ⟨.hbm, 416, rfl⟩
abbrev main_v342 : Ref sig .tc := ⟨.hbm, 417, rfl⟩
abbrev main_v343 : Ref sig .tc := ⟨.hbm, 418, rfl⟩
abbrev main_v344 : Ref sig .tc := ⟨.hbm, 419, rfl⟩
abbrev main_v345 : Ref sig .tc := ⟨.hbm, 420, rfl⟩
abbrev main_v346 : Ref sig .tc := ⟨.hbm, 421, rfl⟩
abbrev main_v347 : Ref sig .tc := ⟨.hbm, 422, rfl⟩
abbrev main_v348 : Ref sig .tc := ⟨.hbm, 423, rfl⟩
abbrev main_cst_58 : Ref sig .tc := ⟨.hbm, 424, rfl⟩
abbrev main_v349 : Ref sig .tc := ⟨.hbm, 425, rfl⟩
abbrev main_v350 : Ref sig .tc := ⟨.hbm, 426, rfl⟩
abbrev main_cst_59 : Ref sig .tc := ⟨.hbm, 427, rfl⟩
abbrev main_v351 : Ref sig .tc := ⟨.hbm, 428, rfl⟩
abbrev main_v352 : Ref sig .tc := ⟨.hbm, 429, rfl⟩
abbrev main_cst_60 : Ref sig .tc := ⟨.hbm, 430, rfl⟩
abbrev main_v353 : Ref sig .tc := ⟨.hbm, 431, rfl⟩
abbrev main_v354 : Ref sig .tc := ⟨.hbm, 432, rfl⟩
abbrev main_v355 : Ref sig .tc := ⟨.hbm, 433, rfl⟩
abbrev main_v356 : Ref sig .tc := ⟨.hbm, 434, rfl⟩
abbrev main_v357 : Ref sig .tc := ⟨.hbm, 435, rfl⟩
abbrev main_v358 : Ref sig .tc := ⟨.hbm, 436, rfl⟩
abbrev main_v359 : Ref sig .tc := ⟨.hbm, 437, rfl⟩
abbrev main_v360 : Ref sig .tc := ⟨.hbm, 438, rfl⟩
abbrev main_v361 : Ref sig .tc := ⟨.hbm, 439, rfl⟩
abbrev main_v362 : Ref sig .tc := ⟨.hbm, 440, rfl⟩
abbrev main_v363 : Ref sig .tc := ⟨.hbm, 441, rfl⟩
abbrev main_v364 : Ref sig .tc := ⟨.hbm, 442, rfl⟩
abbrev main_v365 : Ref sig .tc := ⟨.hbm, 443, rfl⟩
abbrev main_v366 : Ref sig .tc := ⟨.hbm, 444, rfl⟩
abbrev main_v367 : Ref sig .tc := ⟨.hbm, 445, rfl⟩
abbrev main_v368 : Ref sig .tc := ⟨.hbm, 446, rfl⟩
abbrev main_v369 : Ref sig .tc := ⟨.hbm, 447, rfl⟩
abbrev main_v370 : Ref sig .tc := ⟨.hbm, 448, rfl⟩
abbrev main_v371 : Ref sig .tc := ⟨.hbm, 449, rfl⟩
abbrev main_v372 : Ref sig .tc := ⟨.hbm, 450, rfl⟩
abbrev main_v373 : Ref sig .tc := ⟨.hbm, 451, rfl⟩
abbrev main_v374 : Ref sig .tc := ⟨.hbm, 452, rfl⟩
abbrev main_cst_61 : Ref sig .tc := ⟨.hbm, 453, rfl⟩
abbrev main_v375 : Ref sig .tc := ⟨.hbm, 454, rfl⟩
abbrev main_v376 : Ref sig .tc := ⟨.hbm, 455, rfl⟩
abbrev main_cst_62 : Ref sig .tc := ⟨.hbm, 456, rfl⟩
abbrev main_v377 : Ref sig .tc := ⟨.hbm, 457, rfl⟩
abbrev main_v378 : Ref sig .tc := ⟨.hbm, 458, rfl⟩
abbrev main_cst_63 : Ref sig .tc := ⟨.hbm, 459, rfl⟩
abbrev main_v379 : Ref sig .tc := ⟨.hbm, 460, rfl⟩
abbrev main_v380 : Ref sig .tc := ⟨.hbm, 461, rfl⟩
abbrev main_v381 : Ref sig .tc := ⟨.hbm, 462, rfl⟩
abbrev main_v382 : Ref sig .tc := ⟨.hbm, 463, rfl⟩
abbrev main_v383 : Ref sig .tc := ⟨.hbm, 464, rfl⟩
abbrev main_v384 : Ref sig .tc := ⟨.hbm, 465, rfl⟩
abbrev main_v385 : Ref sig .tc := ⟨.hbm, 466, rfl⟩
abbrev main_v386 : Ref sig .tc := ⟨.hbm, 467, rfl⟩
abbrev main_v387 : Ref sig .tc := ⟨.hbm, 468, rfl⟩
abbrev main_v388 : Ref sig .tc := ⟨.hbm, 469, rfl⟩
abbrev main_cst_64 : Ref sig .tc := ⟨.hbm, 470, rfl⟩
abbrev main_v389 : Ref sig .tc := ⟨.hbm, 471, rfl⟩
abbrev main_v390 : Ref sig .tc := ⟨.hbm, 472, rfl⟩
abbrev main_cst_65 : Ref sig .tc := ⟨.hbm, 473, rfl⟩
abbrev main_v391 : Ref sig .tc := ⟨.hbm, 474, rfl⟩
abbrev main_v392 : Ref sig .tc := ⟨.hbm, 475, rfl⟩
abbrev main_cst_66 : Ref sig .tc := ⟨.hbm, 476, rfl⟩
abbrev main_v393 : Ref sig .tc := ⟨.hbm, 477, rfl⟩
abbrev main_v394 : Ref sig .tc := ⟨.hbm, 478, rfl⟩
abbrev main_v395 : Ref sig .tc := ⟨.hbm, 479, rfl⟩
abbrev main_v396 : Ref sig .tc := ⟨.hbm, 480, rfl⟩
abbrev main_v397 : Ref sig .tc := ⟨.hbm, 481, rfl⟩
abbrev main_v398 : Ref sig .tc := ⟨.hbm, 482, rfl⟩
abbrev main_v399 : Ref sig .tc := ⟨.hbm, 483, rfl⟩
abbrev main_v400 : Ref sig .tc := ⟨.hbm, 484, rfl⟩
abbrev main_v401 : Ref sig .tc := ⟨.hbm, 485, rfl⟩
abbrev main_v402 : Ref sig .tc := ⟨.hbm, 486, rfl⟩
abbrev main_v403 : Ref sig .tc := ⟨.hbm, 487, rfl⟩
abbrev main_v404 : Ref sig .tc := ⟨.hbm, 488, rfl⟩
abbrev main_v405 : Ref sig .tc := ⟨.hbm, 489, rfl⟩
abbrev main_v406 : Ref sig .tc := ⟨.hbm, 490, rfl⟩
abbrev main_v407 : Ref sig .tc := ⟨.hbm, 491, rfl⟩
abbrev main_v408 : Ref sig .tc := ⟨.hbm, 492, rfl⟩
abbrev main_v409 : Ref sig .tc := ⟨.hbm, 493, rfl⟩
abbrev main_v410 : Ref sig .tc := ⟨.hbm, 494, rfl⟩
abbrev main_v411 : Ref sig .tc := ⟨.hbm, 495, rfl⟩
abbrev main_v412 : Ref sig .tc := ⟨.hbm, 496, rfl⟩
abbrev main_cst_67 : Ref sig .tc := ⟨.hbm, 497, rfl⟩
abbrev main_v413 : Ref sig .tc := ⟨.hbm, 498, rfl⟩
abbrev main_v414 : Ref sig .tc := ⟨.hbm, 499, rfl⟩
abbrev main_v415 : Ref sig .tc := ⟨.hbm, 500, rfl⟩
abbrev main_v416 : Ref sig .tc := ⟨.hbm, 501, rfl⟩
abbrev main_v417 : Ref sig .tc := ⟨.hbm, 502, rfl⟩
abbrev main_v418 : Ref sig .tc := ⟨.hbm, 503, rfl⟩
abbrev main_v419 : Ref sig .tc := ⟨.hbm, 504, rfl⟩
abbrev main_v420 : Ref sig .tc := ⟨.hbm, 505, rfl⟩
abbrev main_cst_68 : Ref sig .tc := ⟨.hbm, 506, rfl⟩
abbrev main_v421 : Ref sig .tc := ⟨.hbm, 507, rfl⟩
abbrev main_v422 : Ref sig .tc := ⟨.hbm, 508, rfl⟩
abbrev main_cst_69 : Ref sig .tc := ⟨.hbm, 509, rfl⟩
abbrev main_v423 : Ref sig .tc := ⟨.hbm, 510, rfl⟩
abbrev main_v424 : Ref sig .tc := ⟨.hbm, 511, rfl⟩
abbrev main_v425 : Ref sig .tc := ⟨.hbm, 512, rfl⟩

abbrev nD : Nat := 1
abbrev τ : Topo := Topo.v7x

variable {F : FTy → Type} [FloatOps F]
-- ==== Proof.Common.lean ====
/- Lemmas on arrays at an index that several of the value proofs of this directory use: a product with one contracted
   axis as a sum, and the logistic function of the host as the kernel's. -/
module

public import Idealize.ShloMosaic.Lib.Pipeline.Value
public import Idealize.ShloMosaic.Lib.Pipeline.ValueKit.Basic
public import Idealize.ShloMosaic.Lib.ValueIdx
public import Idealize.ShloMosaic.Lib.ValueLayout
public import Idealize.ShloMosaic.PureOps.Ideal.Laws

@[expose] public section

noncomputable section

namespace Cert.Proof.Common

open Idealize.ShloMosaic Idealize.ShloMosaic.ValueIdx
open scoped BigOperators

/-- A kernel product with one contracted axis of extent `n`, read at `i`: the accumulator plus the sum over that axis,
    the operands read at indices `L k` and `R k` named by the caller. -/
theorem matmul_at {sl sr so : Shape} {φ₁ φ₂ : FTy} (D : DotDims sl sr so) (n : Nat) (hr : D.contr.rank = 1)
    (hs : D.contr.size ⟨0, by omega⟩ = n) (prec : Option ContractPrecision) (l : FVec Ideal sl φ₁) (r : FVec Ideal sr φ₂)
    (acc : FVec Ideal so .f32) (i : so.Idx) (L : Fin n → sl.Idx) (R : Fin n → sr.Idx)
    (hL : ∀ (q : D.contr.Idx) (k : Fin n), (q ⟨0, by omega⟩).val = k.val → ∀ a, (D.lhsIdx i q a).val = (L k a).val)
    (hR : ∀ (q : D.contr.Idx) (k : Fin n), (q ⟨0, by omega⟩).val = k.val → ∀ a, (D.rhsIdx i q a).val = (R k a).val) :
    FloatOps.matmul D prec l r acc i = acc i + ∑ k : Fin n, l (L k) * r (R k) := by
  rw [Ideal.matmul_apply, ← Equiv.sum_comp (contrEquiv1 D n hr hs).symm]
  refine congrArg (acc i + ·) (Finset.sum_congr rfl fun k _ => ?_)
  have hk := contrEquiv1_symm_val D n hr hs k
  rw [show D.lhsIdx i ((contrEquiv1 D n hr hs).symm k) = L k from funext fun a => Fin.ext (hL _ k hk a),
    show D.rhsIdx i ((contrEquiv1 D n hr hs).symm k) = R k from funext fun a => Fin.ext (hR _ k hk a)]

/-- The number one as the programs write it. -/
theorem ofBits_one : (FloatOps.ofBits .f32 0x3F800000#32 : Ideal .f32) = (1 : EReal) := by
  show Ideal.ofBits .f32 0x3F800000#32 = 1
  simp [Ideal.ofBits, Ideal.ieee]
  rw [← EReal.coe_mul]; norm_num

/-- The number zero as the programs write it. -/
theorem ofBits_zero : (FloatOps.ofBits .f32 0x00000000#32 : Ideal .f32) = (0 : EReal) := by
  show Ideal.ofBits .f32 0x00000000#32 = 0
  simp [Ideal.ofBits, Ideal.ieee]

/-- A list of arrays is given by its first array and the others. -/
theorem and_then {α : Type} {a : Shape} {x x' : a.Idx → α} {xs xs' : List ((s : Shape) × (s.Idx → α))} (h : x = x') (hs : xs = xs') :
    (⟨a, x⟩ : (s : Shape) × (s.Idx → α)) :: xs = ⟨a, x'⟩ :: xs' := by
  subst h hs; rfl

/-- A host product with one contracted axis of extent `n`, read at `i`. -/
theorem dot_at {sl sr so : Shape} {φ₁ φ₂ : FTy} (D : DotDims sl sr so) (n : Nat) (hr : D.contr.rank = 1)
    (hs : D.contr.size ⟨0, by omega⟩ = n) (prec : Option ContractPrecision) (l : FVec Ideal sl φ₁) (r : FVec Ideal sr φ₂)
    (i : so.Idx) (L : Fin n → sl.Idx) (R : Fin n → sr.Idx)
    (hL : ∀ (q : D.contr.Idx) (k : Fin n), (q ⟨0, by omega⟩).val = k.val → ∀ a, (D.lhsIdx i q a).val = (L k a).val)
    (hR : ∀ (q : D.contr.Idx) (k : Fin n), (q ⟨0, by omega⟩).val = k.val → ∀ a, (D.rhsIdx i q a).val = (R k a).val) :
    Host.dotGeneral D prec l r i = ∑ k : Fin n, l (L k) * r (R k) := by
  simp only [Host.dotGeneral]
  rw [Ideal.dotGeneral_apply, ← Equiv.sum_comp (contrEquiv1 D n hr hs).symm]
  refine Finset.sum_congr rfl fun k _ => ?_
  have hk := contrEquiv1_symm_val D n hr hs k
  rw [show D.lhsIdx i ((contrEquiv1 D n hr hs).symm k) = L k from funext fun a => Fin.ext (hL _ k hk a),
    show D.rhsIdx i ((contrEquiv1 D n hr hs).symm k) = R k from funext fun a => Fin.ext (hR _ k hk a)]

end Cert.Proof.Common

end
-- ==== Proof.AdaValue.lean ====
/- The gradient of the conditioning weights: what the kernel leaves in its result array is the reference's array. -/
module

public import proofs.«01_k».proof.Defs
public import proofs.«01_k».proof.Proof.Common
public import proofs.«01_k».proof.Proof.Gen.AdaIdeal.Value
public import proofs.«01_k».proof.Proof.Gen.AdaRefIdeal.Read

@[expose] public section

noncomputable section

namespace Cert.Proof.AdaValue

open Cert.AdaIdeal Cert.AdaIdeal.Gen Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ)

/-- The three windows' block indices at each of the two points. -/
theorem idx_facts : ∀ t : Fin cfg0.N, (∀ a, win0_0.index t a = 0)
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The host's `1 / (1 + exp (-x))` is the kernel's logistic function of `x`. -/
theorem host_logistic (x : (⟨Cert.AdaRefIdeal.S8x1024, .f32⟩ : BufTy).Contents (Elt Ideal)) (i) :
    Cert.AdaRefIdeal.Read.val_main_call0_v5 (F := Ideal) x i = Ideal.logistic (x i) := by
  rw [Cert.AdaRefIdeal.Read.val_main_call0_v5_apply, Cert.AdaRefIdeal.Read.val_main_call0_v4_apply,
    Cert.AdaRefIdeal.Read.val_main_call0_v3_apply, Cert.AdaRefIdeal.Read.val_main_call0_v2_apply,
    Cert.AdaRefIdeal.Read.val_main_call0_cst_apply, Cert.AdaRefIdeal.Read.val_main_call0_cst_0_apply, Common.ofBits_one]
  rfl

/-- The body's payload at an index: the sum over the devices of the gated conditioning vector times the cotangent. -/
theorem pay_apply (x0 : Vec Ideal S8x1024 .f32) (x1 : Vec Ideal S1x8x768 .f32) (d : Fin 1024) (n : Fin 768) (u : Fin 1) :
    k0_pay1 x0 x1 (ix3 u d n)
      = ∑ k : Fin 8, (x0 (ix2 k d) * Ideal.logistic (x0 (ix2 k d))) * x1 (ix3 (0 : Fin 1) k n) := by
  unfold k0_pay1
  rw [shapeCast_ab_1ab_apply]
  unfold matmul
  rw [Common.matmul_at dot_S8x1024_S8x768_S1024x768_0_0_1_1_n_n 8 rfl rfl _ _ _ _ _ (fun k => ix2 k d) (fun k => ix2 k n)]
  · rw [show (constant S1024x768 .f32 0x00000000#32 : FVec Ideal _ _) (ix2 d n) = 0 from Common.ofBits_zero, zero_add]
    refine Finset.sum_congr rfl fun k _ => ?_
    rw [shapeCast_1ab_ab_apply]
    rfl
  · intro q k hq a
    match a with
    | ⟨0, _⟩ => exact hq
    | ⟨1, _⟩ => rfl
  · intro q k hq a
    match a with
    | ⟨0, _⟩ => exact hq
    | ⟨1, _⟩ => rfl

/-- The result array as a function of the two arguments that it depends on. -/
def G (x : S8x1024.Idx → EReal) (y : S2x8x768.Idx → EReal) : S2x1024x768.Idx → EReal := fun i =>
  ∑ k : Fin 8, (x (ix2 k (i 1)) * Ideal.logistic (x (ix2 k (i 1)))) * y (ix3 (i 0) k (i 2))

theorem hz2 : (![0, 0] : Fin 2 → Nat) = fun _ => 0 := funext fun a => by fin_cases a <;> rfl
theorem hz3 : (![0, 0, 0] : Fin 3 → Nat) = fun _ => 0 := funext fun a => by fin_cases a <;> rfl

/-- What point `t` writes back is block `t` of `G`. -/
theorem flushed_eq (c : Dev nD) (t : Fin cfg0.N) :
    (dats m 0 c).flushed 2 t = ((cfg0.win 2).blk t).view.read (Elt Ideal) (G (m ((c : Thread nD τ).loc main_arg0)) (m ((c : Thread nD τ).loc main_arg2))) := by
  rw [Value.flushed2]
  obtain ⟨e0, e10, e11, e12, e20, e21, e22⟩ := idx_facts t
  funext j
  obtain ⟨u, d, n, rfl⟩ : ∃ (u : Fin 1) (d : Fin 1024) (n : Fin 768), j = ix3 u d n := ⟨j 0, j 1, j 2, eq_ix3 _⟩
  have hu : u.val = 0 := by omega
  show out0_2 (iblk m c 0 t) (iblk m c 1 t) (ix3 u d n) = G _ _ ((win0_2.blk t).view.emb (ix3 u d n))
  unfold out0_2
  rw [View.canon_unit_zero hz3, View.ld_unit_zero hz2, View.ld_unit_zero hz3, pay_apply]
  unfold G
  have q0 : ((win0_2.blk t).view.emb (ix3 u d n) (0 : Fin 3)).val = t.val := by
    show win0_2.index t (0 : Fin 3) * 1 + 1 * u.val = t.val
    omega
  have q1 : (win0_2.blk t).view.emb (ix3 u d n) (1 : Fin 3) = d := Fin.ext (by
    show win0_2.index t (1 : Fin 3) * 1024 + 1 * d.val = d.val
    omega)
  have q2 : (win0_2.blk t).view.emb (ix3 u d n) (2 : Fin 3) = n := Fin.ext (by
    show win0_2.index t (2 : Fin 3) * 768 + 1 * n.val = n.val
    omega)
  rw [q1, q2]
  have h0 : ∀ k : Fin 8, iblk m c 0 t (ix2 k d) = m ((c : Thread nD τ).loc main_arg0) (ix2 k d) := fun k => by
    refine congrArg (m ((c : Thread nD τ).loc main_arg0)) (funext fun a => Fin.ext ?_)
    match a with
    | ⟨0, _⟩ => show win0_0.index t (0 : Fin 2) * 8 + 1 * k.val = k.val; have := e0 0; omega
    | ⟨1, _⟩ => show win0_0.index t (1 : Fin 2) * 1024 + 1 * d.val = d.val; have := e0 1; omega
  have h1 : ∀ k : Fin 8, iblk m c 1 t (ix3 (0 : Fin 1) k n) = m ((c : Thread nD τ).loc main_arg2) (ix3 ((win0_2.blk t).view.emb (ix3 u d n) (0 : Fin 3)) k n) := fun k => by
    refine congrArg (m ((c : Thread nD τ).loc main_arg2)) (funext fun a => Fin.ext ?_)
    match a with
    | ⟨0, _⟩ => show win0_1.index t (0 : Fin 3) * 1 + 1 * 0 = ((win0_2.blk t).view.emb (ix3 u d n) (0 : Fin 3)).val; omega
    | ⟨1, _⟩ => show win0_1.index t (1 : Fin 3) * 8 + 1 * k.val = k.val; omega
    | ⟨2, _⟩ => show win0_1.index t (2 : Fin 3) * 768 + 1 * n.val = n.val; omega
  refine Finset.sum_congr rfl fun k _ => ?_
  rw [h0, h1]

/-- Every index of the result array is in the block of one of the two points. -/
theorem cover (i : S2x1024x768.Idx) :
    ∃ t : Fin cfg0.N, (cfg0.win 2).flush t = true ∧ i ∈ ((cfg0.win 2).blk t).view.set := by
  have hN : cfg0.N = 2 := N_0
  have h0 : (i 0 : Nat) < 2 := (i 0).isLt
  obtain ⟨t, ht⟩ : ∃ t : Fin cfg0.N, t.val = (i 0 : Nat) := ⟨⟨(i 0 : Nat), by omega⟩, rfl⟩
  refine ⟨t, flush0_2 _, ?_⟩
  obtain ⟨-, -, -, -, e20, e21, e22⟩ := idx_facts t
  show i ∈ ((View.whole main_v0).slice (win0_2.rect t)).set
  rw [View.set_slice_whole, Rect.mem_set_unit]
  intro a
  match a with
  | ⟨0, _⟩ => show win0_2.index _ (0 : Fin 3) * 1 ≤ (i 0 : Nat) ∧ (i 0 : Nat) < win0_2.index _ (0 : Fin 3) * 1 + 1; rw [e20]; omega
  | ⟨1, _⟩ => show win0_2.index _ (1 : Fin 3) * 1024 ≤ (i 1 : Nat) ∧ (i 1 : Nat) < win0_2.index _ (1 : Fin 3) * 1024 + 1024; have : (i 1 : Nat) < 1024 := (i 1).isLt; rw [e21]; omega
  | ⟨2, _⟩ => show win0_2.index _ (2 : Fin 3) * 768 ≤ (i 2 : Nat) ∧ (i 2 : Nat) < win0_2.index _ (2 : Fin 3) * 768 + 768; have : (i 2 : Nat) < 768 := (i 2).isLt; rw [e22]; omega

/-- The result array after the run. -/
theorem final (c : Dev nD) : (dats m 0 c).arrAt 2 cfg0.N = G (m ((c : Thread nD τ).loc main_arg0)) (m ((c : Thread nD τ).loc main_arg2)) :=
  (dats m 0 c).arrAt_eq_of_cover 2 _ (fun t _ => flushed_eq m c t) cover

/-- The reference's result is the same function of the same arguments: its two transposes cancel and the factors of its
    sum stand the other way round. -/
theorem ref_eq (x : S8x1024.Idx → EReal) (y : S2x8x768.Idx → EReal) :
    Cert.AdaRefIdeal.Read.val_main_v5 (F := Ideal) x y = G x y := by
  funext i
  rw [Cert.AdaRefIdeal.Read.val_main_v5_apply, Cert.AdaRefIdeal.Read.val_main_v4_apply]
  unfold G
  refine Finset.sum_congr rfl fun k _ => ?_
  rw [Cert.AdaRefIdeal.Read.val_main_v3_apply, Cert.AdaRefIdeal.Read.val_main_v0_apply, host_logistic, mul_comm]
  refine congrArg₂ (· * ·) ?_ (congrArg y ?_)
  · have e : Cert.AdaRefIdeal.Read.ridx_main_v4 (Cert.AdaRefIdeal.Read.idx_main_v5 i) k = ix2 k (i 1) := by
      funext a; match a with
      | ⟨0, _⟩ => rfl
      | ⟨1, _⟩ => rfl
    rw [e]; rfl
  · funext a; match a with
    | ⟨0, _⟩ => rfl
    | ⟨1, _⟩ => rfl
    | ⟨2, _⟩ => rfl

end Cert.Proof.AdaValue

end
-- ==== Proof.AttnBits.lean ====
module

public import proofs.«01_k».proof.Proof.Gen.Attn.Frame
public import proofs.«01_k».proof.Proof.Gen.Attn.Loops
public import Idealize.ShloMosaic.Lib.Pipeline.FrameSuffix
public import Idealize.ShloMosaic.Lib.Claim

/-! The backward pass of the attention: every run ends, with the arguments as they were and no signal left.
Nothing is said here of what the results hold. -/

@[expose] public section

set_option maxRecDepth 16384

noncomputable section

namespace Cert.Attn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point of a row of the grid. -/
abbrev cond0_0 (i : grid0.Coords) : Prop := (Scalar.cmpi .ne (Scalar.extui (Scalar.cmpi .eq (BitVec.ofNat 32 (i 1).val) 0#32)) 0#32) = 1#1
/-- The last point of a row of the grid. -/
abbrev cond0_1 (i : grid0.Coords) : Prop := (Scalar.cmpi .ne (Scalar.extui (Scalar.cmpi .eq (BitVec.ofNat 32 (i 1).val) 7#32)) 0#32) = 1#1

set_option maxHeartbeats 4000000 in
/-- One point of the grid, run from any contents of the windows it writes. -/
theorem body_run (c : Dev nD) (i : grid0.Coords) (arg2 : Memref sig .tc .vmem S4x4096x128 .bf16) (harg2 : arg2.IsWhole) (arg3 : Memref sig .tc .vmem S4x512x128 .bf16) (harg3 : arg3.IsWhole) (arg4 : Memref sig .tc .vmem S4x512x128 .bf16) (harg4 : arg4.IsWhole) (arg5 : Memref sig .tc .vmem S4x4096x128 .bf16) (harg5 : arg5.IsWhole) (arg6 : Memref sig .tc .vmem S4x4096x128 .f32) (harg6 : arg6.IsWhole) (arg7 : Memref sig .tc .vmem S4x512x128 .f32) (harg7 : arg7.IsWhole) (arg8 : Memref sig .tc .vmem S4x512x64 .f32) (harg8 : arg8.IsWhole) (arg9 : Memref sig .tc .vmem S4x512x128 .f32) (harg9 : arg9.IsWhole)
    (x0 : Vec F S4x4096x128 .bf16) (x1 x2 : Vec F S4x512x128 .bf16) (x3 : Vec F S4x4096x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9) K := by
    intro E K
    simp only [cc0_attn_bwd_eq_skeleton]; unfold cc0_attn_bwd_skel
    simp only [k0_part27_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3
    by_cases hc0 : cond0_0 i <;> by_cases hc1 : cond0_1 i
    · exact absurd hc1 (by revert hc0; revert i; decide +kernel)
    all_goals
      sl_exec (disch := first | sl_exact hc0 | sl_exact hc1)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _, _; isplitr; swap; · iexact H4
        ipureintro; rfl
      isplitl [H5]
      · iexists _, _; isplitr; swap; · iexact H5
        ipureintro; rfl
      isplitl [H6]
      · iexists _, _; isplitr; swap; · iexact H6
        ipureintro; rfl
      iexists _, _; isplitr; swap; · iexact H7
      ipureintro; rfl

variable (m : (ℓ : Loc nD τ sig) → Buf (Elt F) ℓ) (ρ : Dev nD → PrngReg)

/-- The windows the body writes. -/
def forgets0 : Fin 7 → Bool := fun w => w.val == 4 || w.val == 5 || w.val == 6

/-- The inputs stay as they were fetched, the other windows hold anything. -/
def loose (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The arrays are those the region is entered with. -/
theorem loose_A (c : Dev nD) (w : Fin cfg0.W) : (loose m 0 c).A w = V m c (Pipeline.arrRef spec0 w) := by
  dsimp only [loose]

/-- Besides the windows the region holds the accumulator and the generator of random numbers. -/
theorem PhiA_eq (c : Dev nD) : (Pipeline.ΦA spec0 c : sProp 𝕄) =
    iprop(iprop((∃ d, owns (c : Thread nD τ) (Memref.whole cc0_scratch0) fullShare d)) ∗ (∃ r, prngReg c r)) := by
  unfold Pipeline.ΦA; rw [scopedRest0_eq]; simp only [owns_whole]

/-- The body as the table of bodies holds it. -/
theorem defs₀_row (t : Fin cfg0.N) :
    defs₀ (F := F) .tc cfg0.body (cfg0.bodyArgs t (cfg0.slots t)) = bodyAt0 t := by
  unfold defs₀; rw [Defs.onTc_tc]

set_option maxHeartbeats 2400000 in
/-- The body keeps the inputs at every point. -/
theorem loose_body (c : Dev nD) : BodyObligation (loose m 0 c) (defs₀ (F := F)) Variants.none () Set.univ forgets0 := fun t => by
  have e0 := before0_0_of m (loose m 0 c) (loose_A m c 0) (fun _ => rfl) t
  have e1 := before0_1_of m (loose m 0 c) (loose_A m c 1) (fun _ => rfl) t
  have e2 := before0_2_of m (loose m 0 c) (loose_A m c 2) (fun _ => rfl) t
  have e3 := before0_3_of m (loose m 0 c) (loose_A m c 3) (fun _ => rfl) t
  rw [bigSep_W0, bigSep_W0, defs₀_row]
  refine triple_restated (P := iprop((loose m 0 c).Φ t.castSucc ∗ (loose m 0 c).owesAt () t.castSucc
    ∗ (∃ d, owns (c : Thread nD τ) (win0_0.stage (cfg0.slots t 0)) fullShare ((loose m 0 c).before 0 t d))
    ∗ (∃ d, owns (c : Thread nD τ) (win0_1.stage (cfg0.slots t 1)) fullShare ((loose m 0 c).before 1 t d))
    ∗ (∃ d, owns (c : Thread nD τ) (win0_2.stage (cfg0.slots t 2)) fullShare ((loose m 0 c).before 2 t d))
    ∗ (∃ d, owns (c : Thread nD τ) (win0_3.stage (cfg0.slots t 3)) fullShare ((loose m 0 c).before 3 t d))
    ∗ (∃ d, owns (c : Thread nD τ) (win0_4.stage (cfg0.slots t 4)) fullShare d)
    ∗ (∃ d, owns (c : Thread nD τ) (win0_5.stage (cfg0.slots t 5)) fullShare d)
    ∗ (∃ d, owns (c : Thread nD τ) (win0_6.stage (cfg0.slots t 6)) fullShare d)))
    (Q := fun _ => iprop((loose m 0 c).Φ t.succ ∗ (loose m 0 c).owesAt () t.succ
    ∗ owns (c : Thread nD τ) (win0_0.stage (cfg0.slots t 0)) fullShare ((loose m 0 c).after 0 t)
    ∗ owns (c : Thread nD τ) (win0_1.stage (cfg0.slots t 1)) fullShare ((loose m 0 c).after 1 t)
    ∗ owns (c : Thread nD τ) (win0_2.stage (cfg0.slots t 2)) fullShare ((loose m 0 c).after 2 t)
    ∗ owns (c : Thread nD τ) (win0_3.stage (cfg0.slots t 3)) fullShare ((loose m 0 c).after 3 t)
    ∗ (∃ d, owns (c : Thread nD τ) (win0_4.stage (cfg0.slots t 4)) fullShare d)
    ∗ (∃ d, owns (c : Thread nD τ) (win0_5.stage (cfg0.slots t 5)) fullShare d)
    ∗ (∃ d, owns (c : Thread nD τ) (win0_6.stage (cfg0.slots t 6)) fullShare d))) ?_ rfl .rfl fun _ => .rfl
  simp only [e0, e1, e2, e3]
  rw [show (loose m 0 c).Φ t.succ = (Pipeline.ΦA spec0 c : sProp 𝕄) from rfl,
    show (loose m 0 c).Φ t.castSucc = (Pipeline.ΦA spec0 c : sProp 𝕄) from rfl,
    show (loose m 0 c).owesAt () t.succ = (loose m 0 c).owesAt () t.castSucc from rfl, PhiA_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((body_run c (grid0.coords t) _ _ _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  iintro ⟨H0, H1, H2, H3, H4, H5, H6, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The buffers the lines after the region write. -/
def tail : Finset (Ref sig .tc) := {main_v58, main_cst_11, main_v59, main_v60, main_v61, main_v62, main_v63}

/-- The lines after the region write no other buffer. -/
theorem tail_writes : ∀ ops ∈ ([hostOps1] : List (List (HloOp τ sig (Elt F)))), ∀ op ∈ ops, ∀ b : Ref sig .tc,
    Proc.devRef .tc b ∈ op.writes → b ∈ tail := by
  intro ops hops op hop b hb
  simp only [List.mem_cons, List.mem_nil_iff, _root_.or_false] at hops
  subst hops
  simp only [hostOps1, List.mem_cons, List.mem_nil_iff, or_false] at hop
  rcases hop with rfl | rfl | rfl | rfl | rfl | rfl | rfl
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] at hb
    rw [Proc.devRef_injective _ hb]; decide

set_option backward.isDefEq.respectTransparency.types false in
/-- Every run ends with the arguments as they were and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_around_T_forget cfgs (loose m) (0 : Fin 1) launch0 defs₀ Variants.none forgets0 tail m ρ main
    (hbody := fun c => (loose_body m c).loose) (hshare := fun c => (loose m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := loose_A m) (hΦ := fun _ _ => rfl)
    (Q' := _) (hQ' := fun r h => by
      refine ⟨fun c => ⟨?_, ?_, ?_, ?_⟩, h.2⟩
      · exact ((h.1 c).2 main_arg0 (Finset.mem_sdiff.mpr ⟨Pipeline.mem_restRefs_of main_arg0 (by decide) (by decide), by decide⟩)).trans (V_main_arg0 m c)
      · exact ((h.1 c).2 main_arg1 (Finset.mem_sdiff.mpr ⟨Pipeline.mem_restRefs_of main_arg1 (by decide) (by decide), by decide⟩)).trans (V_main_arg1 m c)
      · exact ((h.1 c).2 main_arg2 (Finset.mem_sdiff.mpr ⟨Pipeline.mem_restRefs_of main_arg2 (by decide) (by decide), by decide⟩)).trans (V_main_arg2 m c)
      · exact ((h.1 c).2 main_arg3 (Finset.mem_sdiff.mpr ⟨Pipeline.mem_restRefs_of main_arg3 (by decide) (by decide), by decide⟩)).trans (V_main_arg3 m c))

end Cert.Attn.Gen

end
-- ==== Proof.Reals.lean ====
/- Arrays that hold real numbers, the numbers given as functions of the coordinates, and what the operations of the
   attention kernel make of them: products, changes of shape, loads of a part of a buffer and additions into a part of
   a buffer. -/
module

public import proofs.«01_k».proof.Proof.Common
public import Idealize.ShloMosaic.Lib.WritesUnit
public import Idealize.ShloMosaic.Lib.Exec
public import Idealize.ShloMosaic.Lib.Pipeline.FrameBody

@[expose] public section

noncomputable section

namespace Cert.Proof.Reals

open Idealize.ShloMosaic Idealize.ShloMosaic.ValueIdx
open scoped BigOperators

/-- The matrix `x` holds the real numbers `g`. -/
def Is2 {a b : ℕ} (x : (⟨2, ![a, b]⟩ : Shape).Idx → EReal) (g : ℕ → ℕ → ℝ) : Prop :=
  ∀ (i : Fin a) (j : Fin b), x (ix2 i j) = ((g i.val j.val : ℝ) : EReal)

/-- The array `x` of three axes holds the real numbers `g`. -/
def Is3 {a b c : ℕ} (x : (⟨3, ![a, b, c]⟩ : Shape).Idx → EReal) (g : ℕ → ℕ → ℕ → ℝ) : Prop :=
  ∀ (i : Fin a) (j : Fin b) (k : Fin c), x (ix3 i j k) = ((g i.val j.val k.val : ℝ) : EReal)

/-- Equal numbers at the coordinates may replace each other. -/
theorem Is3.congr {a b c : ℕ} {x : (⟨3, ![a, b, c]⟩ : Shape).Idx → EReal} {g g' : ℕ → ℕ → ℕ → ℝ} (h : Is3 x g)
    (e : ∀ i j k, i < a → j < b → k < c → g i j k = g' i j k) : Is3 x g' := fun i j k => by
  rw [h i j k, e _ _ _ i.isLt j.isLt k.isLt]

/-- A sum of real numbers, taken in the extended real numbers. -/
theorem sum_coe (n : ℕ) (f : ℕ → ℝ) :
    ∑ k : Fin n, ((f k.val : ℝ) : EReal) = ((∑ k ∈ Finset.range n, f k : ℝ) : EReal) := by
  induction n with
  | zero => simp
  | succ n ih => rw [Fin.sum_univ_castSucc, Finset.sum_range_succ, EReal.coe_add, ← ih]; rfl

/-- `x · yᵀ`. -/
theorem Is2.mul_nt {m n c : ℕ} {φ₁ φ₂ : FTy} {x : FVec Ideal ⟨2, ![m, c]⟩ φ₁} {y : FVec Ideal ⟨2, ![n, c]⟩ φ₂}
    {g h : ℕ → ℕ → ℝ} (hx : Is2 x g) (hy : Is2 y h)
    (wf : DotDims.WF ⟨2, ![m, c]⟩ ⟨2, ![n, c]⟩ ⟨2, ![m, n]⟩ [1] [1] [0] [0] [] []) (p : Option ContractPrecision) :
    Is2 (matmul (⟨[1], [1], [0], [0], [], [], wf⟩ : DotDims ⟨2, ![m, c]⟩ ⟨2, ![n, c]⟩ ⟨2, ![m, n]⟩) p x y
      (constant ⟨2, ![m, n]⟩ .f32 0x00000000#32)) fun i j => ∑ k ∈ Finset.range c, g i k * h j k := fun i j => by
  unfold matmul
  rw [Common.matmul_at _ c rfl rfl _ _ _ _ _ (fun k => ix2 i k) (fun k => ix2 j k)]
  · rw [show (constant ⟨2, ![m, n]⟩ .f32 0x00000000#32 : FVec Ideal _ _) (ix2 i j) = 0 from Common.ofBits_zero, zero_add,
      ← sum_coe]
    refine Finset.sum_congr rfl fun k _ => ?_
    rw [hx, hy, EReal.coe_mul]
  · intro q k hq a
    match a with
    | ⟨0, _⟩ => rfl
    | ⟨1, _⟩ => exact hq
  · intro q k hq a
    match a with
    | ⟨0, _⟩ => rfl
    | ⟨1, _⟩ => exact hq

/-- `xᵀ · y`. -/
theorem Is2.mul_tn {m n c : ℕ} {φ₁ φ₂ : FTy} {x : FVec Ideal ⟨2, ![c, m]⟩ φ₁} {y : FVec Ideal ⟨2, ![c, n]⟩ φ₂}
    {g h : ℕ → ℕ → ℝ} (hx : Is2 x g) (hy : Is2 y h)
    (wf : DotDims.WF ⟨2, ![c, m]⟩ ⟨2, ![c, n]⟩ ⟨2, ![m, n]⟩ [0] [0] [1] [1] [] []) (p : Option ContractPrecision) :
    Is2 (matmul (⟨[0], [0], [1], [1], [], [], wf⟩ : DotDims ⟨2, ![c, m]⟩ ⟨2, ![c, n]⟩ ⟨2, ![m, n]⟩) p x y
      (constant ⟨2, ![m, n]⟩ .f32 0x00000000#32)) fun i j => ∑ k ∈ Finset.range c, g k i * h k j := fun i j => by
  unfold matmul
  rw [Common.matmul_at _ c rfl rfl _ _ _ _ _ (fun k => ix2 k i) (fun k => ix2 k j)]
  · rw [show (constant ⟨2, ![m, n]⟩ .f32 0x00000000#32 : FVec Ideal _ _) (ix2 i j) = 0 from Common.ofBits_zero, zero_add,
      ← sum_coe]
    refine Finset.sum_congr rfl fun k _ => ?_
    rw [hx, hy, EReal.coe_mul]
  · intro q k hq a
    match a with
    | ⟨0, _⟩ => exact hq
    | ⟨1, _⟩ => rfl
  · intro q k hq a
    match a with
    | ⟨0, _⟩ => exact hq
    | ⟨1, _⟩ => rfl

/-- `x · y`. -/
theorem Is2.mul_nn {m n c : ℕ} {φ₁ φ₂ : FTy} {x : FVec Ideal ⟨2, ![m, c]⟩ φ₁} {y : FVec Ideal ⟨2, ![c, n]⟩ φ₂}
    {g h : ℕ → ℕ → ℝ} (hx : Is2 x g) (hy : Is2 y h)
    (wf : DotDims.WF ⟨2, ![m, c]⟩ ⟨2, ![c, n]⟩ ⟨2, ![m, n]⟩ [1] [0] [0] [1] [] []) (p : Option ContractPrecision) :
    Is2 (matmul (⟨[1], [0], [0], [1], [], [], wf⟩ : DotDims ⟨2, ![m, c]⟩ ⟨2, ![c, n]⟩ ⟨2, ![m, n]⟩) p x y
      (constant ⟨2, ![m, n]⟩ .f32 0x00000000#32)) fun i j => ∑ k ∈ Finset.range c, g i k * h k j := fun i j => by
  unfold matmul
  rw [Common.matmul_at _ c rfl rfl _ _ _ _ _ (fun k => ix2 i k) (fun k => ix2 k j)]
  · rw [show (constant ⟨2, ![m, n]⟩ .f32 0x00000000#32 : FVec Ideal _ _) (ix2 i j) = 0 from Common.ofBits_zero, zero_add,
      ← sum_coe]
    refine Finset.sum_congr rfl fun k _ => ?_
    rw [hx, hy, EReal.coe_mul]
  · intro q k hq a
    match a with
    | ⟨0, _⟩ => rfl
    | ⟨1, _⟩ => exact hq
  · intro q k hq a
    match a with
    | ⟨0, _⟩ => exact hq
    | ⟨1, _⟩ => rfl

/-- A block of one leading entry as a matrix. -/
theorem Is3.drop {a b : ℕ} {x : (⟨3, ![1, a, b]⟩ : Shape).Idx → EReal} {g : ℕ → ℕ → ℕ → ℝ} (hx : Is3 x g)
    (h : (⟨3, ![1, a, b]⟩ : Shape).ShapeCasts ⟨2, ![a, b]⟩) : Is2 (shapeCast ⟨2, ![a, b]⟩ x h) (g 0) := fun i j => by
  rw [shapeCast_1ab_ab_apply]; exact hx 0 i j

/-- A matrix as a block of one leading entry. -/
theorem Is2.lift {a b : ℕ} {x : (⟨2, ![a, b]⟩ : Shape).Idx → EReal} {g : ℕ → ℕ → ℝ} (hx : Is2 x g)
    (h : (⟨2, ![a, b]⟩ : Shape).ShapeCasts ⟨3, ![1, a, b]⟩) :
    Is3 (shapeCast ⟨3, ![1, a, b]⟩ x h) (fun _ => g) := fun u i j => by
  rw [shapeCast_ab_1ab_apply]; exact hx i j

/-- The sum of two matrices. -/
theorem Is2.add {a b : ℕ} {φ : FTy} {x y : FVec Ideal ⟨2, ![a, b]⟩ φ} {g h : ℕ → ℕ → ℝ} (hx : Is2 x g) (hy : Is2 y h) :
    Is2 (addf x y) fun i j => g i j + h i j := fun i j => by
  show x _ + y _ = _
  rw [hx, hy, EReal.coe_add]

/-- The product of two matrices, entry by entry. -/
theorem Is2.mul {a b : ℕ} {φ : FTy} {x y : FVec Ideal ⟨2, ![a, b]⟩ φ} {g h : ℕ → ℕ → ℝ} (hx : Is2 x g) (hy : Is2 y h) :
    Is2 (mulf x y) fun i j => g i j * h i j := fun i j => by
  show x _ * y _ = _
  rw [hx, hy, EReal.coe_mul]

/-- Rounding to a narrower type changes nothing. -/
theorem Is2.trunc {a b : ℕ} {φ ψ : FTy} {x : FVec Ideal ⟨2, ![a, b]⟩ φ} {g : ℕ → ℕ → ℝ} (hx : Is2 x g)
    (h : ψ.bits < φ.bits) : Is2 (truncf ψ x h : FVec Ideal ⟨2, ![a, b]⟩ ψ) g := hx

/-- Powers of two, entry by entry. -/
theorem Is2.pow2 {a b : ℕ} {φ : FTy} {x : FVec Ideal ⟨2, ![a, b]⟩ φ} {g : ℕ → ℕ → ℝ} (hx : Is2 x g) :
    Is2 (exp2 x) fun i j => (2 : ℝ) ^ g i j := fun i j => by
  show Ideal.exp2 (x _) = _
  rw [hx]; rfl

/-- Powers of two under a mask: below the mask the entry is minus infinity and its power is zero. -/
theorem Is2.pow2_mask {a b : ℕ} {φ : FTy} {x : FVec Ideal ⟨2, ![a, b]⟩ φ} {g : ℕ → ℕ → ℝ} (hx : Is2 x g)
    {c : IVec ⟨2, ![a, b]⟩ 1} {o : ℕ} (hc : ∀ (i : Fin a) (j : Fin b), c (ix2 i j) = 1#1 ↔ j.val ≤ i.val + o)
    {z : Ideal φ} (hz : z = (⊥ : EReal)) :
    Is2 (exp2 (select c x (broadcast ⟨2, ![a, b]⟩ z))) fun i j => if j ≤ i + o then (2 : ℝ) ^ g i j else 0 := fun i j => by
  show Ideal.exp2 (if c (ix2 i j) = 1#1 then x (ix2 i j) else z) = _
  by_cases h : j.val ≤ i.val + o
  · simp only [if_pos ((hc i j).2 h), if_pos h]; rw [hx]; rfl
  · simp only [if_neg fun e => h ((hc i j).1 e), if_neg h]; rw [hz]; rfl

/-- Powers of two of the products of the rows of two blocks. -/
theorem Is2.weights {m n c : ℕ} {φ₁ φ₂ : FTy} {x : FVec Ideal ⟨3, ![1, m, c]⟩ φ₁} {y : FVec Ideal ⟨3, ![1, n, c]⟩ φ₂}
    {g h : ℕ → ℕ → ℕ → ℝ} (hx : Is3 x g) (hy : Is3 y h)
    (wf : DotDims.WF ⟨2, ![m, c]⟩ ⟨2, ![n, c]⟩ ⟨2, ![m, n]⟩ [1] [1] [0] [0] [] []) (p : Option ContractPrecision)
    (hm : (⟨3, ![1, m, c]⟩ : Shape).ShapeCasts ⟨2, ![m, c]⟩) (hn : (⟨3, ![1, n, c]⟩ : Shape).ShapeCasts ⟨2, ![n, c]⟩) :
    Is2 (matmul (⟨[1], [1], [0], [0], [], [], wf⟩ : DotDims ⟨2, ![m, c]⟩ ⟨2, ![n, c]⟩ ⟨2, ![m, n]⟩) p
      (shapeCast ⟨2, ![m, c]⟩ x hm) (shapeCast ⟨2, ![n, c]⟩ y hn)
      (constant ⟨2, ![m, n]⟩ .f32 0x00000000#32)) fun i j => ∑ k ∈ Finset.range c, g 0 i k * h 0 j k :=
  Is2.mul_nt (hx.drop hm) (hy.drop hn) wf p

/-- A block plus the rows of another weighted by the columns of a matrix. -/
theorem Is3.add_cols {m n c : ℕ} {φ₁ φ₂ : FTy} {x : FVec Ideal ⟨3, ![1, m, c]⟩ .f32} {z : FVec Ideal ⟨2, ![n, m]⟩ φ₁}
    {y : FVec Ideal ⟨3, ![1, n, c]⟩ φ₂} {g h : ℕ → ℕ → ℕ → ℝ} {Z : ℕ → ℕ → ℝ} (hx : Is3 x g) (hz : Is2 z Z) (hy : Is3 y h)
    (wf : DotDims.WF ⟨2, ![n, m]⟩ ⟨2, ![n, c]⟩ ⟨2, ![m, c]⟩ [0] [0] [1] [1] [] []) (p : Option ContractPrecision)
    (hm : (⟨3, ![1, m, c]⟩ : Shape).ShapeCasts ⟨2, ![m, c]⟩) (hn : (⟨3, ![1, n, c]⟩ : Shape).ShapeCasts ⟨2, ![n, c]⟩)
    (hb : (⟨2, ![m, c]⟩ : Shape).ShapeCasts ⟨3, ![1, m, c]⟩) :
    Is3 (shapeCast ⟨3, ![1, m, c]⟩ (addf (shapeCast ⟨2, ![m, c]⟩ x hm)
      (matmul (⟨[0], [0], [1], [1], [], [], wf⟩ : DotDims ⟨2, ![n, m]⟩ ⟨2, ![n, c]⟩ ⟨2, ![m, c]⟩) p z
        (shapeCast ⟨2, ![n, c]⟩ y hn) (constant ⟨2, ![m, c]⟩ .f32 0x00000000#32))) hb)
      fun _ i j => g 0 i j + ∑ k ∈ Finset.range n, Z k i * h 0 k j :=
  Is2.lift (Is2.add (hx.drop hm) (Is2.mul_tn hz (hy.drop hn) wf p)) hb

/-- A block plus the rows of another weighted by the rows of a matrix. -/
theorem Is3.add_rows {m n c : ℕ} {φ₁ φ₂ : FTy} {x : FVec Ideal ⟨3, ![1, m, c]⟩ .f32} {z : FVec Ideal ⟨2, ![m, n]⟩ φ₁}
    {y : FVec Ideal ⟨3, ![1, n, c]⟩ φ₂} {g h : ℕ → ℕ → ℕ → ℝ} {Z : ℕ → ℕ → ℝ} (hx : Is3 x g) (hz : Is2 z Z) (hy : Is3 y h)
    (wf : DotDims.WF ⟨2, ![m, n]⟩ ⟨2, ![n, c]⟩ ⟨2, ![m, c]⟩ [1] [0] [0] [1] [] []) (p : Option ContractPrecision)
    (hm : (⟨3, ![1, m, c]⟩ : Shape).ShapeCasts ⟨2, ![m, c]⟩) (hn : (⟨3, ![1, n, c]⟩ : Shape).ShapeCasts ⟨2, ![n, c]⟩)
    (hb : (⟨2, ![m, c]⟩ : Shape).ShapeCasts ⟨3, ![1, m, c]⟩) :
    Is3 (shapeCast ⟨3, ![1, m, c]⟩ (addf (shapeCast ⟨2, ![m, c]⟩ x hm)
      (matmul (⟨[1], [0], [0], [1], [], [], wf⟩ : DotDims ⟨2, ![m, n]⟩ ⟨2, ![n, c]⟩ ⟨2, ![m, c]⟩) p z
        (shapeCast ⟨2, ![n, c]⟩ y hn) (constant ⟨2, ![m, c]⟩ .f32 0x00000000#32))) hb)
      fun _ i j => g 0 i j + ∑ k ∈ Finset.range n, Z i k * h 0 k j :=
  Is2.lift (Is2.add (hx.drop hm) (Is2.mul_nn hz (hy.drop hn) wf p)) hb

section Memory

variable {sig : RefSig} {κ : Kind} {sp : Space} {A B C : ℕ} {e : EltTy}

/-- What an index of a part of an array of three axes reads there. -/
theorem load_eq {Val : EltTy → Type} (v : View sig κ sp ⟨3, ![A, B, C]⟩ e) (f : v.ty.Contents Val) {a b c : ℕ}
    {off : Fin 3 → ℕ} (inb : ∀ x, off x + (![a, b, c] : Fin 3 → ℕ) x ≤ (![A, B, C] : Fin 3 → ℕ) x) {p q r : ℕ}
    (ho : off = ![p, q, r]) (i : Fin a) (j : Fin b) (k : Fin c) :
    ∃ (i' : Fin A) (j' : Fin B) (k' : Fin C), i'.val = p + i.val ∧ j'.val = q + j.val ∧ k'.val = r + k.val ∧
      v.readAt Val (Rect.unit (s := ⟨3, ![A, B, C]⟩) off ![a, b, c] inb).toLoadRect f (ix3 i j k)
        = v.read Val f (ix3 i' j' k') := by
  subst ho
  have h0 : p + a ≤ A := inb 0
  have h1 : q + b ≤ B := inb 1
  have h2 : r + c ≤ C := inb 2
  refine ⟨⟨p + i.val, by omega⟩, ⟨q + j.val, by omega⟩, ⟨r + k.val, by omega⟩, rfl, rfl, rfl,
    congrArg (v.read Val f) (funext fun x => Fin.ext ?_)⟩
  match x with
  | ⟨0, _⟩ => show p + 1 * i.val = p + i.val; omega
  | ⟨1, _⟩ => show q + 1 * j.val = q + j.val; omega
  | ⟨2, _⟩ => show r + 1 * k.val = r + k.val; omega

/-- A load of a part of a buffer that holds real numbers. -/
theorem Is3.load {v : View sig κ sp ⟨3, ![A, B, C]⟩ .f32} {f : v.ty.Contents (Elt Ideal)} {g : ℕ → ℕ → ℕ → ℝ}
    (hf : Is3 (v.read (Elt Ideal) f) g) {a b c : ℕ} {off : Fin 3 → ℕ}
    (inb : ∀ x, off x + (![a, b, c] : Fin 3 → ℕ) x ≤ (![A, B, C] : Fin 3 → ℕ) x) {p q r : ℕ} (ho : off = ![p, q, r]) :
    Is3 (a := a) (b := b) (c := c)
      (v.readAt (Elt Ideal) (Rect.unit (s := ⟨3, ![A, B, C]⟩) off ![a, b, c] inb).toLoadRect f)
      fun i j k => g (p + i) (q + j) (r + k) := fun i j k => by
  obtain ⟨i', j', k', hi, hj, hk, h⟩ := load_eq v f inb ho i j k
  rw [h, hf, hi, hj, hk]

/-- The same of the narrower type. -/
theorem Is3.load_bf16 {v : View sig κ sp ⟨3, ![A, B, C]⟩ .bf16} {f : v.ty.Contents (Elt Ideal)} {g : ℕ → ℕ → ℕ → ℝ}
    (hf : Is3 (v.read (Elt Ideal) f) g) {a b c : ℕ} {off : Fin 3 → ℕ}
    (inb : ∀ x, off x + (![a, b, c] : Fin 3 → ℕ) x ≤ (![A, B, C] : Fin 3 → ℕ) x) {p q r : ℕ} (ho : off = ![p, q, r]) :
    Is3 (a := a) (b := b) (c := c)
      (v.readAt (Elt Ideal) (Rect.unit (s := ⟨3, ![A, B, C]⟩) off ![a, b, c] inb).toLoadRect f)
      fun i j k => g (p + i) (q + j) (r + k) := fun i j k => by
  obtain ⟨i', j', k', hi, hj, hk, h⟩ := load_eq v f inb ho i j k
  rw [h, hf, hi, hj, hk]

/-- The numbers `g` with `d` added on `n` rows from row `o` on of the leading entry `h`. -/
def bump (h o n : ℕ) (d : ℕ → ℕ → ℝ) (g : ℕ → ℕ → ℕ → ℝ) : ℕ → ℕ → ℕ → ℝ := fun i j k =>
  if i = h ∧ o ≤ j ∧ j < o + n then g i j k + d (j - o) k else g i j k

/-- A store of the old numbers plus `d` into some rows of one leading entry. -/
theorem Is3.store {v : View sig κ sp ⟨3, ![A, B, C]⟩ .f32} {f : v.ty.Contents (Elt Ideal)}
    {L : List (View.Piece (Elt Ideal) ⟨3, ![A, B, C]⟩ .f32)} {g : ℕ → ℕ → ℕ → ℝ}
    (hf : Is3 (v.read (Elt Ideal) (v.writes (Elt Ideal) f L)) g) {n : ℕ} {off : Fin 3 → ℕ}
    (inb : ∀ x, off x + (![1, n, C] : Fin 3 → ℕ) x ≤ (![A, B, C] : Fin 3 → ℕ) x) {h o : ℕ} (ho : off = ![h, o, 0])
    {w : (Rect.unit (s := ⟨3, ![A, B, C]⟩) off ![1, n, C] inb).shape.Idx → Elt Ideal .f32} {G : ℕ → ℕ → ℕ → ℝ}
    (hw : Is3 (a := 1) (b := n) (c := C) w G) {d : ℕ → ℕ → ℝ}
    (hG : ∀ j k, j < n → k < C → G 0 j k = g h (o + j) k + d j k) :
    Is3 (v.read (Elt Ideal) (v.writes (Elt Ideal) f (⟨Rect.unit (s := ⟨3, ![A, B, C]⟩) off ![1, n, C] inb, w⟩ :: L)))
      (bump h o n d g) := fun i j k => by
  subst ho
  by_cases hin : i.val = h ∧ o ≤ j.val ∧ j.val < o + n
  · obtain ⟨hi, hj, hj'⟩ := hin
    rw [View.read_writes_cons_unit_of_mem v f (off' := ![h, o, 0]) inb w L (ix3 i j k)
      (ix3 (0 : Fin 1) (⟨j.val - o, by omega⟩ : Fin n) k) rfl (fun x => by
        match x with
        | ⟨0, _⟩ => show i.val = h + 0; omega
        | ⟨1, _⟩ => show j.val = o + (j.val - o); omega
        | ⟨2, _⟩ => show k.val = 0 + k.val; omega)]
    refine (hw _ _ _).trans ?_
    rw [bump, if_pos ⟨hi, hj, hj'⟩]
    show ((G 0 (j.val - o) k.val : ℝ) : EReal) = _
    rw [hG _ _ (by omega) k.isLt, show o + (j.val - o) = j.val by omega, hi]
  · rw [bump, if_neg hin]
    rw [← hf i j k]
    by_cases hi : i.val = h
    · exact View.read_writes_cons_unit_of_not_mem v f (off' := ![h, o, 0]) inb w L (ix3 i j k) rfl (1 : Fin 3)
        (by show j.val < o ∨ o + n ≤ j.val; omega)
    · exact View.read_writes_cons_unit_of_not_mem v f (off' := ![h, o, 0]) inb w L (ix3 i j k) rfl (0 : Fin 3)
        (by show i.val < h ∨ h + 1 ≤ i.val; omega)

/-- Rows of one leading entry. -/
theorem Is3.row {v : View sig κ sp ⟨3, ![A, B, C]⟩ .f32} {f : v.ty.Contents (Elt Ideal)} {g : ℕ → ℕ → ℕ → ℝ}
    (hf : Is3 (v.read (Elt Ideal) f) g) {n : ℕ} {off : Fin 3 → ℕ}
    (inb : ∀ x, off x + (![1, n, C] : Fin 3 → ℕ) x ≤ (![A, B, C] : Fin 3 → ℕ) x) {h o : ℕ} (ho : off = ![h, o, 0]) :
    Is3 (a := 1) (b := n) (c := C)
      (v.readAt (Elt Ideal) (Rect.unit (s := ⟨3, ![A, B, C]⟩) off ![1, n, C] inb).toLoadRect f)
      fun _ j k => g h (o + j) k :=
  (hf.load inb ho).congr fun i j k hi _ _ => by rw [show i = 0 by omega, Nat.zero_add, Nat.add_zero]

/-- The same of the narrower type. -/
theorem Is3.row_bf16 {v : View sig κ sp ⟨3, ![A, B, C]⟩ .bf16} {f : v.ty.Contents (Elt Ideal)} {g : ℕ → ℕ → ℕ → ℝ}
    (hf : Is3 (v.read (Elt Ideal) f) g) {n : ℕ} {off : Fin 3 → ℕ}
    (inb : ∀ x, off x + (![1, n, C] : Fin 3 → ℕ) x ≤ (![A, B, C] : Fin 3 → ℕ) x) {h o : ℕ} (ho : off = ![h, o, 0]) :
    Is3 (a := 1) (b := n) (c := C)
      (v.readAt (Elt Ideal) (Rect.unit (s := ⟨3, ![A, B, C]⟩) off ![1, n, C] inb).toLoadRect f)
      fun _ j k => g h (o + j) k :=
  (hf.load_bf16 inb ho).congr fun i j k hi _ _ => by rw [show i = 0 by omega, Nat.zero_add, Nat.add_zero]

/-- The first rows of one leading entry. -/
theorem Is3.head {v : View sig κ sp ⟨3, ![A, B, C]⟩ .bf16} {f : v.ty.Contents (Elt Ideal)} {g : ℕ → ℕ → ℕ → ℝ}
    (hf : Is3 (v.read (Elt Ideal) f) g) {n : ℕ} {off : Fin 3 → ℕ}
    (inb : ∀ x, off x + (![1, n, C] : Fin 3 → ℕ) x ≤ (![A, B, C] : Fin 3 → ℕ) x) {h : ℕ} (ho : off = ![h, 0, 0]) :
    Is3 (a := 1) (b := n) (c := C)
      (v.readAt (Elt Ideal) (Rect.unit (s := ⟨3, ![A, B, C]⟩) off ![1, n, C] inb).toLoadRect f)
      fun _ j k => g h j k :=
  (hf.row_bf16 inb ho).congr fun i j k _ _ _ => by rw [Nat.zero_add]

/-- Rows loaded, the rows of a block weighted by the columns of a matrix added, and the sum stored in their place. -/
theorem Is3.update_cols {v : View sig κ sp ⟨3, ![A, B, C]⟩ .f32} {L : List (View.Piece (Elt Ideal) ⟨3, ![A, B, C]⟩ .f32)}
    {g : ℕ → ℕ → ℕ → ℝ} (hf : Is3 (v.read (Elt Ideal) (v.writes (Elt Ideal) v.junk L)) g) {n m : ℕ} {off : Fin 3 → ℕ}
    (inb : ∀ x, off x + (![1, n, C] : Fin 3 → ℕ) x ≤ (![A, B, C] : Fin 3 → ℕ) x) {h o : ℕ} (ho : off = ![h, o, 0])
    {φ₁ φ₂ : FTy} {z : FVec Ideal ⟨2, ![m, n]⟩ φ₁} {Z : ℕ → ℕ → ℝ} (hz : Is2 z Z)
    {y : FVec Ideal ⟨3, ![1, m, C]⟩ φ₂} {a : ℕ → ℕ → ℕ → ℝ} (hy : Is3 y a)
    (wf : DotDims.WF ⟨2, ![m, n]⟩ ⟨2, ![m, C]⟩ ⟨2, ![n, C]⟩ [0] [0] [1] [1] [] []) (p : Option ContractPrecision)
    (hn : (⟨3, ![1, n, C]⟩ : Shape).ShapeCasts ⟨2, ![n, C]⟩) (hm : (⟨3, ![1, m, C]⟩ : Shape).ShapeCasts ⟨2, ![m, C]⟩)
    (hb : (⟨2, ![n, C]⟩ : Shape).ShapeCasts ⟨3, ![1, n, C]⟩) :
    Is3 (v.read (Elt Ideal) (v.writes (Elt Ideal) v.junk
      (⟨Rect.unit (s := ⟨3, ![A, B, C]⟩) off ![1, n, C] inb,
        shapeCast ⟨3, ![1, n, C]⟩ (addf (φ := .f32) (shapeCast ⟨2, ![n, C]⟩
          (v.readCov L (Rect.unit (s := ⟨3, ![A, B, C]⟩) off ![1, n, C] inb).toLoadRect) hn)
          (matmul (⟨[0], [0], [1], [1], [], [], wf⟩ : DotDims ⟨2, ![m, n]⟩ ⟨2, ![m, C]⟩ ⟨2, ![n, C]⟩) p z
            (shapeCast ⟨2, ![m, C]⟩ y hm) (constant ⟨2, ![n, C]⟩ .f32 0x00000000#32))) hb⟩ :: L)))
      (bump h o n (fun j l => ∑ k ∈ Finset.range m, Z k j * a 0 k l) g) :=
  Is3.store hf inb ho (Is3.add_cols (hf.row inb ho) hz hy wf p hn hm hb) fun _ _ _ _ => rfl

/-- The same by the rows of the matrix. -/
theorem Is3.update_rows {v : View sig κ sp ⟨3, ![A, B, C]⟩ .f32} {f : v.ty.Contents (Elt Ideal)} {L : List (View.Piece (Elt Ideal) ⟨3, ![A, B, C]⟩ .f32)}
    {g : ℕ → ℕ → ℕ → ℝ} (hf : Is3 (v.read (Elt Ideal) (v.writes (Elt Ideal) f L)) g) {n m : ℕ} {off : Fin 3 → ℕ}
    (inb : ∀ x, off x + (![1, n, C] : Fin 3 → ℕ) x ≤ (![A, B, C] : Fin 3 → ℕ) x) {h o : ℕ} (ho : off = ![h, o, 0])
    {φ₁ φ₂ : FTy} {z : FVec Ideal ⟨2, ![n, m]⟩ φ₁} {Z : ℕ → ℕ → ℝ} (hz : Is2 z Z)
    {y : FVec Ideal ⟨3, ![1, m, C]⟩ φ₂} {a : ℕ → ℕ → ℕ → ℝ} (hy : Is3 y a)
    (wf : DotDims.WF ⟨2, ![n, m]⟩ ⟨2, ![m, C]⟩ ⟨2, ![n, C]⟩ [1] [0] [0] [1] [] []) (p : Option ContractPrecision)
    (hn : (⟨3, ![1, n, C]⟩ : Shape).ShapeCasts ⟨2, ![n, C]⟩) (hm : (⟨3, ![1, m, C]⟩ : Shape).ShapeCasts ⟨2, ![m, C]⟩)
    (hb : (⟨2, ![n, C]⟩ : Shape).ShapeCasts ⟨3, ![1, n, C]⟩) :
    Is3 (v.read (Elt Ideal) (v.writes (Elt Ideal) f
      (⟨Rect.unit (s := ⟨3, ![A, B, C]⟩) off ![1, n, C] inb,
        shapeCast ⟨3, ![1, n, C]⟩ (addf (φ := .f32) (shapeCast ⟨2, ![n, C]⟩
          (v.readAt (Elt Ideal) (Rect.unit (s := ⟨3, ![A, B, C]⟩) off ![1, n, C] inb).toLoadRect (v.writes (Elt Ideal) f L)) hn)
          (matmul (⟨[1], [0], [0], [1], [], [], wf⟩ : DotDims ⟨2, ![n, m]⟩ ⟨2, ![m, C]⟩ ⟨2, ![n, C]⟩) p z
            (shapeCast ⟨2, ![m, C]⟩ y hm) (constant ⟨2, ![n, C]⟩ .f32 0x00000000#32))) hb⟩ :: L)))
      (bump h o n (fun i l => ∑ k ∈ Finset.range m, Z i k * a 0 k l) g) :=
  Is3.store hf inb ho (Is3.add_rows (hf.row inb ho) hz hy wf p hn hm hb) fun _ _ _ _ => rfl

/-- What one store into the whole array leaves. -/
theorem Is3.whole (v : View sig κ sp ⟨3, ![A, B, C]⟩ .f32) (f : v.ty.Contents (Elt Ideal)) {off : Fin 3 → ℕ}
    (L : List (View.Piece (Elt Ideal) ⟨3, ![A, B, C]⟩ .f32))
    (inb : ∀ x, off x + (![A, B, C] : Fin 3 → ℕ) x ≤ (![A, B, C] : Fin 3 → ℕ) x) (ho : off = ![0, 0, 0])
    {w : (Rect.unit (s := ⟨3, ![A, B, C]⟩) off ![A, B, C] inb).shape.Idx → Elt Ideal .f32} {g : ℕ → ℕ → ℕ → ℝ}
    (hw : Is3 (a := A) (b := B) (c := C) w g) :
    Is3 (v.read (Elt Ideal) (v.writes (Elt Ideal) f
      (⟨Rect.unit (s := ⟨3, ![A, B, C]⟩) off ![A, B, C] inb, w⟩ :: L))) g := fun i j k => by
  subst ho
  rw [View.read_writes_cons_unit_of_mem v f (off' := ![0, 0, 0]) inb w L (ix3 i j k) (ix3 i j k) rfl (fun x => by
    match x with
    | ⟨0, _⟩ => exact (Nat.zero_add _).symm
    | ⟨1, _⟩ => exact (Nat.zero_add _).symm
    | ⟨2, _⟩ => exact (Nat.zero_add _).symm)]
  exact hw i j k

/-- An array of zeros. -/
theorem Is3.zero : Is3 (a := A) (b := B) (c := C)
    (broadcast ⟨3, ![A, B, C]⟩ (Scalar.ofBits (F := Ideal) .f32 0x00000000#32)) fun _ _ _ => 0 := fun _ _ _ => Common.ofBits_zero

/-- The columns below `r` times a constant, and zero in the others. -/
theorem Is3.scale_select {x : FVec Ideal ⟨3, ![A, B, C]⟩ .f32} {g : ℕ → ℕ → ℕ → ℝ} (hx : Is3 x g)
    {c : IVec ⟨3, ![A, B, C]⟩ 1} {r : ℕ} (hc : ∀ i j k, c (ix3 i j k) = 1#1 ↔ k.val < r)
    {z : Ideal .f32} {y : ℝ} (hz : z = (y : EReal)) :
    Is3 (select c (mulf x (broadcast ⟨3, ![A, B, C]⟩ z))
      (broadcast ⟨3, ![A, B, C]⟩ (Scalar.ofBits (F := Ideal) .f32 0x00000000#32)))
      fun i j k => if k < r then g i j k * y else 0 := fun i j k => by
  show (if c (ix3 i j k) = 1#1 then x (ix3 i j k) * z else Ideal.ofBits .f32 0x00000000#32) = _
  by_cases h : k.val < r
  · simp only [if_pos ((hc i j k).2 h), if_pos h]; rw [hx, hz, ← EReal.coe_mul]
  · simp only [if_neg fun e => h ((hc i j k).1 e), if_neg h]; exact Common.ofBits_zero

end Memory

/-- Where the row number plus `o` reaches the column number. -/
theorem tril_apply {a b o : ℕ} (ha : a + o < 2 ^ 31) (hb : b < 2 ^ 31) (h : (⟨2, ![a, b]⟩ : Shape).Iotas .tc 32 [0])
    (h' : (⟨2, ![a, b]⟩ : Shape).Iotas .tc 32 [1]) (i : Fin a) (j : Fin b) :
    cmpi .sge (addi (broadcast ⟨2, ![a, b]⟩ (BitVec.ofNat 32 o)) (iota .tc ⟨2, ![a, b]⟩ 32 [0] h))
      (iota .tc ⟨2, ![a, b]⟩ 32 [1] h') (ix2 i j) = 1#1 ↔ j.val ≤ i.val + o := by
  have hi := i.isLt
  have hj := j.isLt
  show BitVec.ofBool (BitVec.sle (BitVec.ofNat 32 (0 * b + j.val)) (BitVec.ofNat 32 o + BitVec.ofNat 32 (0 * a + i.val))) = 1#1 ↔ _
  rw [Nat.zero_mul, Nat.zero_add, Nat.zero_mul, Nat.zero_add, ← BitVec.ofNat_add, BitVec.sle]
  have e : ∀ n : ℕ, n < 2 ^ 31 → (BitVec.ofNat 32 n).toInt = (n : ℤ) := fun n hn => by
    rw [BitVec.toInt_eq_toNat_of_lt (by rw [BitVec.toNat_ofNat]; omega), BitVec.toNat_ofNat]
    congr 1
    omega
  rw [e _ (by omega), e _ (by omega)]
  by_cases hji : j.val ≤ i.val + o
  · rw [decide_eq_true (by omega)]; simp [hji]
  · rw [decide_eq_false (by omega)]; simp [hji]

end Cert.Proof.Reals

end
-- ==== Proof.AttnTrip.lean ====
module

public import proofs.«01_k».proof.Proof.Reals
public import proofs.«01_k».proof.Proof.Gen.AttnIdeal.Loops
public import Idealize.ShloMosaic.Lib.WordCmp

@[expose] public section

set_option maxRecDepth 16384

noncomputable section

namespace Cert.AttnIdeal.Gen

open Idealize.ShloMosaic Idealize.ShloMosaic.TcCoe Idealize.ShloMosaic.Tactic Cert.Proof.Reals
open Idealize.SL Idealize.SL.RA Idealize.SL.BI

variable (𝒱 : Variants) (c : Dev nD) (bd : Option 𝒱.V) (i : grid0.Coords) (arg2 : Memref sig .tc .vmem S4x4096x128 .bf16) (harg2 : arg2.IsWhole) (arg3 : Memref sig .tc .vmem S4x512x128 .bf16) (harg3 : arg3.IsWhole) (arg4 : Memref sig .tc .vmem S4x512x128 .bf16) (harg4 : arg4.IsWhole) (arg5 : Memref sig .tc .vmem S4x4096x128 .bf16) (harg5 : arg5.IsWhole) (arg6 : Memref sig .tc .vmem S4x4096x128 .f32) (harg6 : arg6.IsWhole) (arg7 : Memref sig .tc .vmem S4x512x128 .f32) (harg7 : arg7.IsWhole) (arg8 : Memref sig .tc .vmem S4x512x64 .f32) (harg8 : arg8.IsWhole) (arg9 : Memref sig .tc .vmem S4x512x128 .f32) (harg9 : arg9.IsWhole) (v459 : BitVec 32)
  (X2 : BufTy.Contents (Elt Ideal) arg2.view.ty) (X3 : BufTy.Contents (Elt Ideal) arg3.view.ty) (X4 : BufTy.Contents (Elt Ideal) arg4.view.ty) (X5 : BufTy.Contents (Elt Ideal) arg5.view.ty)
  (f6 : BufTy.Contents (Elt Ideal) arg6.view.ty) (f7 : BufTy.Contents (Elt Ideal) arg7.view.ty) (f9 : BufTy.Contents (Elt Ideal) arg9.view.ty)

/-- The score of row `i` against row `j` of leading entry `h`. -/
def score (a b : ℕ → ℕ → ℕ → ℝ) (h i j : ℕ) : ℝ := ∑ l ∈ Finset.range 128, a h i l * b h j l

/-- The rows of `a` from `o` on, `n` of them, weighted by the columns of `Z`. -/
def colSum (Z a : ℕ → ℕ → ℕ → ℝ) (o n h j l : ℕ) : ℝ := ∑ k ∈ Finset.range n, Z h (o + k) j * a h (o + k) l

/-- The first `n` rows of `b`, weighted by the rows of `Z` from `o` on. -/
def rowSum (Z b : ℕ → ℕ → ℕ → ℝ) (o n h i l : ℕ) : ℝ := ∑ k ∈ Finset.range n, Z h (o + i) k * b h k l

/-- The same update of all four leading entries. -/
def bump4 (o n : ℕ) (d : ℕ → ℕ → ℕ → ℝ) (g : ℕ → ℕ → ℕ → ℝ) : ℕ → ℕ → ℕ → ℝ :=
  bump 3 o n (d 3) (bump 2 o n (d 2) (bump 1 o n (d 1) (bump 0 o n (d 0) g)))

/-- The update of all four leading entries, at a coordinate. -/
theorem bump4_apply {o n : ℕ} {d g : ℕ → ℕ → ℕ → ℝ} {h j l : ℕ} (hh : h < 4) :
    bump4 o n d g h j l = if o ≤ j ∧ j < o + n then g h j l + d h (j - o) l else g h j l := by
  obtain rfl | rfl | rfl | rfl : h = 0 ∨ h = 1 ∨ h = 2 ∨ h = 3 := by omega
  all_goals simp [bump4, bump]

/-- Two runs of rows after each other are one. -/
theorem colSum_add (Z a : ℕ → ℕ → ℕ → ℝ) (o m n h j l : ℕ) :
    colSum Z a o m h j l + colSum Z a (o + m) n h j l = colSum Z a o (m + n) h j l := by
  simp only [colSum, Finset.sum_range_add, Nat.add_assoc]

section Trip

variable (k : Fin (k0_t1_loop i).trips) {o : ℕ} {a0 b1 b2 a3 g P : ℕ → ℕ → ℕ → ℝ}
    (ho5 : k0_off5 i k = ![0, o, 0]) (ho6 : k0_off6 i k = ![1, o, 0]) (ho7 : k0_off7 i k = ![2, o, 0]) (ho8 : k0_off8 i k = ![3, o, 0])
    (h2 : Is3 (arg2.view.read (Elt Ideal) X2) a0) (h3 : Is3 (arg3.view.read (Elt Ideal) X3) b1)
    (h4 : Is3 (arg4.view.read (Elt Ideal) X4) b2) (h5 : Is3 (arg5.view.read (Elt Ideal) X5) a3)
    (hP : ∀ h k j, j < 512 → P h (o + k) j = (2 : ℝ) ^ score a0 b1 h (o + k) j)

include ho5 ho6 ho7 ho8 h2 h3 h5 hP in
/-- One turn of the loop adds the rows it reads of the fourth argument, weighted by `P`. -/
theorem trip9 (h9 : Is3 (arg9.view.read (Elt Ideal) f9) g) :
    Is3 (arg9.view.read (Elt Ideal) (arg9.view.writes (Elt Ideal) f9 ((trip_k0_t1 𝒱 c bd i arg2 harg2 arg3 harg3 arg4 harg4 arg5 harg5 arg6 harg6 arg7 harg7 arg8 harg8 arg9 harg9 v459 X2 X3 X4 X5 k).2.2.1 f6 f7 f9)))
      (bump4 0 512 (colSum P a3 o 512) g) := by
  unfold trip_k0_t1
  sl_unfold_words
  dsimp only
  refine Is3.store (Is3.store (Is3.store (Is3.store (L := []) h9 _ rfl
      (Is3.add_cols (Is3.load h9 _ rfl) (Is2.trunc (Is2.pow2 (Is2.weights (Is3.load_bf16 h2 _ ho5) (Is3.load_bf16 h3 _ rfl) _ _ _ _)) _) (Is3.load_bf16 h5 _ ho5) _ _ _ _ _) ?_) _ rfl
      (Is3.add_cols (Is3.load h9 _ rfl) (Is2.trunc (Is2.pow2 (Is2.weights (Is3.load_bf16 h2 _ ho6) (Is3.load_bf16 h3 _ rfl) _ _ _ _)) _) (Is3.load_bf16 h5 _ ho6) _ _ _ _ _) ?_) _ rfl
      (Is3.add_cols (Is3.load h9 _ rfl) (Is2.trunc (Is2.pow2 (Is2.weights (Is3.load_bf16 h2 _ ho7) (Is3.load_bf16 h3 _ rfl) _ _ _ _)) _) (Is3.load_bf16 h5 _ ho7) _ _ _ _ _) ?_) _ rfl
      (Is3.add_cols (Is3.load h9 _ rfl) (Is2.trunc (Is2.pow2 (Is2.weights (Is3.load_bf16 h2 _ ho8) (Is3.load_bf16 h3 _ rfl) _ _ _ _)) _) (Is3.load_bf16 h5 _ ho8) _ _ _ _ _) ?_
  all_goals
    intro j l hj hl
    simp [bump, colSum, score, hP _ _ _ hj]

include ho5 ho6 ho7 ho8 h2 h3 h4 h5 hP in
/-- One turn of the loop adds the rows it reads of the first argument, weighted by `P` times the score of the other two. -/
theorem trip7 (h7 : Is3 (arg7.view.read (Elt Ideal) f7) g) :
    Is3 (arg7.view.read (Elt Ideal) (arg7.view.writes (Elt Ideal) f7 ((trip_k0_t1 𝒱 c bd i arg2 harg2 arg3 harg3 arg4 harg4 arg5 harg5 arg6 harg6 arg7 harg7 arg8 harg8 arg9 harg9 v459 X2 X3 X4 X5 k).2.1 f6 f7 f9)))
      (bump4 0 512 (colSum (fun h i j => P h i j * score a3 b2 h i j) a0 o 512) g) := by
  unfold trip_k0_t1
  sl_unfold_words
  dsimp only
  refine Is3.store (Is3.store (Is3.store (Is3.store (L := []) h7 _ rfl
      (Is3.add_cols (Is3.load h7 _ rfl) (Is2.trunc (Is2.mul (Is2.pow2 (Is2.weights (Is3.load_bf16 h2 _ ho5) (Is3.load_bf16 h3 _ rfl) _ _ _ _)) (Is2.weights (Is3.load_bf16 h5 _ ho5) (Is3.load_bf16 h4 _ rfl) _ _ _ _)) _) (Is3.load_bf16 h2 _ ho5) _ _ _ _ _) ?_) _ rfl
      (Is3.add_cols (Is3.load h7 _ rfl) (Is2.trunc (Is2.mul (Is2.pow2 (Is2.weights (Is3.load_bf16 h2 _ ho6) (Is3.load_bf16 h3 _ rfl) _ _ _ _)) (Is2.weights (Is3.load_bf16 h5 _ ho6) (Is3.load_bf16 h4 _ rfl) _ _ _ _)) _) (Is3.load_bf16 h2 _ ho6) _ _ _ _ _) ?_) _ rfl
      (Is3.add_cols (Is3.load h7 _ rfl) (Is2.trunc (Is2.mul (Is2.pow2 (Is2.weights (Is3.load_bf16 h2 _ ho7) (Is3.load_bf16 h3 _ rfl) _ _ _ _)) (Is2.weights (Is3.load_bf16 h5 _ ho7) (Is3.load_bf16 h4 _ rfl) _ _ _ _)) _) (Is3.load_bf16 h2 _ ho7) _ _ _ _ _) ?_) _ rfl
      (Is3.add_cols (Is3.load h7 _ rfl) (Is2.trunc (Is2.mul (Is2.pow2 (Is2.weights (Is3.load_bf16 h2 _ ho8) (Is3.load_bf16 h3 _ rfl) _ _ _ _)) (Is2.weights (Is3.load_bf16 h5 _ ho8) (Is3.load_bf16 h4 _ rfl) _ _ _ _)) _) (Is3.load_bf16 h2 _ ho8) _ _ _ _ _) ?_
  all_goals
    intro j l hj hl
    simp [bump, colSum, score, hP _ _ _ hj]

include ho5 ho6 ho7 ho8 h2 h3 h4 h5 hP in
/-- One turn of the loop adds the rows of the second argument, weighted likewise, to the rows it reads. -/
theorem trip6 (h6 : Is3 (arg6.view.read (Elt Ideal) f6) g) :
    Is3 (arg6.view.read (Elt Ideal) (arg6.view.writes (Elt Ideal) f6 ((trip_k0_t1 𝒱 c bd i arg2 harg2 arg3 harg3 arg4 harg4 arg5 harg5 arg6 harg6 arg7 harg7 arg8 harg8 arg9 harg9 v459 X2 X3 X4 X5 k).1 f6 f7 f9)))
      (bump4 o 512 (rowSum (fun h i j => P h i j * score a3 b2 h i j) b1 o 512) g) := by
  unfold trip_k0_t1
  sl_unfold_words
  dsimp only
  refine Is3.store (Is3.store (Is3.store (Is3.store (L := []) h6 _ ho5
      (Is3.add_rows (Is3.load h6 _ ho5) (Is2.trunc (Is2.mul (Is2.pow2 (Is2.weights (Is3.load_bf16 h2 _ ho5) (Is3.load_bf16 h3 _ rfl) _ _ _ _)) (Is2.weights (Is3.load_bf16 h5 _ ho5) (Is3.load_bf16 h4 _ rfl) _ _ _ _)) _) (Is3.load_bf16 h3 _ rfl) _ _ _ _ _) ?_) _ ho6
      (Is3.add_rows (Is3.load h6 _ ho6) (Is2.trunc (Is2.mul (Is2.pow2 (Is2.weights (Is3.load_bf16 h2 _ ho6) (Is3.load_bf16 h3 _ rfl) _ _ _ _)) (Is2.weights (Is3.load_bf16 h5 _ ho6) (Is3.load_bf16 h4 _ rfl) _ _ _ _)) _) (Is3.load_bf16 h3 _ rfl) _ _ _ _ _) ?_) _ ho7
      (Is3.add_rows (Is3.load h6 _ ho7) (Is2.trunc (Is2.mul (Is2.pow2 (Is2.weights (Is3.load_bf16 h2 _ ho7) (Is3.load_bf16 h3 _ rfl) _ _ _ _)) (Is2.weights (Is3.load_bf16 h5 _ ho7) (Is3.load_bf16 h4 _ rfl) _ _ _ _)) _) (Is3.load_bf16 h3 _ rfl) _ _ _ _ _) ?_) _ ho8
      (Is3.add_rows (Is3.load h6 _ ho8) (Is2.trunc (Is2.mul (Is2.pow2 (Is2.weights (Is3.load_bf16 h2 _ ho8) (Is3.load_bf16 h3 _ rfl) _ _ _ _)) (Is2.weights (Is3.load_bf16 h5 _ ho8) (Is3.load_bf16 h4 _ rfl) _ _ _ _)) _) (Is3.load_bf16 h3 _ rfl) _ _ _ _ _) ?_
  all_goals
    intro j l hj hl
    have e : ∀ h, rowSum (fun h i j => P h i j * score a3 b2 h i j) b1 o 512 h j l
        = ∑ k ∈ Finset.range 512, (2 : ℝ) ^ score a0 b1 h (o + j) k * score a3 b2 h (o + j) k * b1 h k l := fun h =>
      Finset.sum_congr rfl fun k hk => by
        show P h (o + j) k * _ * _ = _
        rw [hP _ _ _ (Finset.mem_range.1 hk)]
    rw [e]
    simp [bump, score]

end Trip

/-- The number of turns of the loop over the blocks of rows above the diagonal. -/
theorem trips_t1 : ∀ i : grid0.Coords, (k0_t1_loop i).trips = 7 - (i 1).val := by decide +kernel

/-- The loop over what is left takes no turn. -/
theorem trips_t2 : ∀ i : grid0.Coords, (k0_t2_loop i).trips = 0 := by decide +kernel

/-- What the loop leaves after `t` turns in the three arrays it adds to: the sums over the rows met so far. -/
theorem loop_values {a0 b1 b2 a3 P g6 g7 g9 : ℕ → ℕ → ℕ → ℝ}
    (h2 : Is3 (arg2.view.read (Elt Ideal) X2) a0) (h3 : Is3 (arg3.view.read (Elt Ideal) X3) b1)
    (h4 : Is3 (arg4.view.read (Elt Ideal) X4) b2) (h5 : Is3 (arg5.view.read (Elt Ideal) X5) a3)
    (hP : ∀ h k j, j < 512 → P h (512 * (i 1).val + 512 + k) j = (2 : ℝ) ^ score a0 b1 h (512 * (i 1).val + 512 + k) j)
    (t : ℕ) (ht : t ≤ (k0_t1_loop i).trips) :
    let p := pb_k0_t1 (F := Ideal) 𝒱 c bd i arg2 harg2 arg3 harg3 arg4 harg4 arg5 harg5 arg6 harg6 arg7 harg7 arg8 harg8 arg9 harg9 v459 X2 X3 X4 X5 f6 f7 f9 t
    let Z := fun h i j => P h i j * score a3 b2 h i j
    (Is3 (arg6.view.read (Elt Ideal) f6) g6 → Is3 (arg6.view.read (Elt Ideal) (arg6.view.writes (Elt Ideal) f6 p.1))
        (bump4 (512 * (i 1).val + 512) (512 * t) (rowSum Z b1 (512 * (i 1).val + 512) 512) g6)) ∧
      (Is3 (arg7.view.read (Elt Ideal) f7) g7 → Is3 (arg7.view.read (Elt Ideal) (arg7.view.writes (Elt Ideal) f7 p.2.1))
        (bump4 0 512 (colSum Z a0 (512 * (i 1).val + 512) (512 * t)) g7)) ∧
      (Is3 (arg9.view.read (Elt Ideal) f9) g9 → Is3 (arg9.view.read (Elt Ideal) (arg9.view.writes (Elt Ideal) f9 p.2.2))
        (bump4 0 512 (colSum P a3 (512 * (i 1).val + 512) (512 * t)) g9)) := by
  intro p Z
  induction t with
  | zero =>
    refine ⟨fun h6 => h6.congr fun h j l hh _ _ => ?_, fun h7 => h7.congr fun h j l hh _ _ => ?_, fun h9 => h9.congr fun h j l hh _ _ => ?_⟩
    all_goals
      rw [bump4_apply hh]
      split
      · first
          | omega
          | simp [colSum]
      · rfl
  | succ t ih =>
    obtain ⟨i6, i7, i9⟩ := ih (by omega)
    have hk : t < (k0_t1_loop i).trips := ht
    have hp : ∀ h k j, j < 512 → P h (512 * (i 1).val + 512 * t + 512 + k) j
        = (2 : ℝ) ^ score a0 b1 h (512 * (i 1).val + 512 * t + 512 + k) j := fun h k j hj => by
      have := hP h (512 * t + k) j hj
      rwa [show 512 * (i 1).val + 512 + (512 * t + k) = 512 * (i 1).val + 512 * t + 512 + k by omega] at this
    have o5 := k0_off5_eq i ⟨t, hk⟩
    have o6 := k0_off6_eq i ⟨t, hk⟩
    have o7 := k0_off7_eq i ⟨t, hk⟩
    have o8 := k0_off8_eq i ⟨t, hk⟩
    have eo : 512 * (i 1).val + 512 * t + 512 = 512 * (i 1).val + 512 + 512 * t := by omega
    simp only [p, pb_k0_t1_succ _ _ _ _ _ _ _ _ _ _ _ _ _ _ _ _ _ _ _ _ _ _ _ _ _ _ _ _ ⟨t, hk⟩, View.writes_append]
    refine ⟨fun h6 => Is3.congr (trip6 _ _ _ _ _ _ _ _ _ _ _ _ _ _ _ _ _ _ _ _ _ _ _ _ _ _ _ _ _ (ho5 := o5) (ho6 := o6) (ho7 := o7) (ho8 := o8) (h2 := h2) (h3 := h3) (h4 := h4) (h5 := h5) (hP := hp) (h6 := i6 h6)) fun h j l hh hj hl => ?_,
      fun h7 => Is3.congr (trip7 _ _ _ _ _ _ _ _ _ _ _ _ _ _ _ _ _ _ _ _ _ _ _ _ _ _ _ _ _ (ho5 := o5) (ho6 := o6) (ho7 := o7) (ho8 := o8) (h2 := h2) (h3 := h3) (h4 := h4) (h5 := h5) (hP := hp) (h7 := i7 h7)) fun h j l hh hj hl => ?_,
      fun h9 => Is3.congr (trip9 _ _ _ _ _ _ _ _ _ _ _ _ _ _ _ _ _ _ _ _ _ _ _ _ _ _ _ _ _ (ho5 := o5) (ho6 := o6) (ho7 := o7) (ho8 := o8) (h2 := h2) (h3 := h3) (h5 := h5) (hP := hp) (h9 := i9 h9)) fun h j l hh hj hl => ?_⟩
    · simp only [bump4_apply hh, rowSum]
      rw [eo]
      by_cases h1 : 512 * (i 1).val + 512 ≤ j
      · by_cases h2 : j < 512 * (i 1).val + 512 + 512 * t
        · rw [if_neg (by omega), if_pos ⟨h1, h2⟩, if_pos ⟨h1, by omega⟩]
        · rw [if_neg (c := _ ∧ j < 512 * (i 1).val + 512 + 512 * t) (by omega)]
          by_cases h3 : j < 512 * (i 1).val + 512 + 512 * t + 512
          · rw [if_pos ⟨by omega, h3⟩, if_pos ⟨h1, by omega⟩, Nat.add_sub_of_le (by omega), Nat.add_sub_of_le h1]
          · rw [if_neg (by omega), if_neg (by omega)]
      · rw [if_neg (by omega), if_neg (by omega), if_neg (by omega)]
    all_goals
      simp only [bump4_apply hh]
      rw [if_pos ⟨Nat.zero_le _, by omega⟩, if_pos ⟨Nat.zero_le _, by omega⟩, if_pos ⟨Nat.zero_le _, by omega⟩, eo, add_assoc, colSum_add]
      rfl

end Cert.AttnIdeal.Gen

end
-- ==== Proof.AttnDiag.lean ====
module

public import proofs.«01_k».proof.Proof.AttnTrip

@[expose] public section

set_option maxRecDepth 16384

noncomputable section

namespace Cert.AttnIdeal.Gen

open Idealize.ShloMosaic Idealize.ShloMosaic.TcCoe Idealize.ShloMosaic.Tactic Idealize.ShloMosaic.ValueIdx Cert.Proof.Reals
open Idealize.SL Idealize.SL.RA Idealize.SL.BI

/-- The weight of row `i` against row `j` of a block which starts at row `o`: a power of two on and below the diagonal, zero above. -/
def weight (o : ℕ) (a b : ℕ → ℕ → ℕ → ℝ) (h i j : ℕ) : ℝ := if o + j ≤ i then (2 : ℝ) ^ score a b h i j else 0

/-- Above the diagonal the weight is zero. -/
theorem weight_above {o : ℕ} {a b : ℕ → ℕ → ℕ → ℝ} {h i j : ℕ} (hij : i < o + j) : weight o a b h i j = 0 := if_neg (by omega)

/-- Below the diagonal it is the power. -/
theorem weight_below {o : ℕ} {a b : ℕ → ℕ → ℕ → ℝ} {h i j : ℕ} (hij : o + j ≤ i) : weight o a b h i j = (2 : ℝ) ^ score a b h i j := if_pos hij

/-- The masked powers of two of some rows' scores are the weights. -/
theorem Is2.masked {m n : ℕ} {a0 b1 : ℕ → ℕ → ℕ → ℝ} {h o s r : ℕ} (hs : s = o + r)
    {x : FVec Ideal ⟨3, ![1, m, 128]⟩ .bf16} {y : FVec Ideal ⟨3, ![1, n, 128]⟩ .bf16}
    (hx : Is3 x fun _ i l => a0 h (s + i) l) (hy : Is3 y fun _ j l => b1 h j l) (hmr : m + r < 2 ^ 31) (hn' : n < 2 ^ 31)
    (wf : DotDims.WF ⟨2, ![m, 128]⟩ ⟨2, ![n, 128]⟩ ⟨2, ![m, n]⟩ [1] [1] [0] [0] [] []) (p : Option ContractPrecision)
    (hm : (⟨3, ![1, m, 128]⟩ : Shape).ShapeCasts ⟨2, ![m, 128]⟩) (hn : (⟨3, ![1, n, 128]⟩ : Shape).ShapeCasts ⟨2, ![n, 128]⟩)
    (hi : (⟨2, ![m, n]⟩ : Shape).Iotas .tc 32 [0]) (hj : (⟨2, ![m, n]⟩ : Shape).Iotas .tc 32 [1])
    {z : Ideal .f32} (hz : z = (⊥ : EReal)) :
    Is2 (exp2 (select (cmpi .sge (addi (broadcast ⟨2, ![m, n]⟩ (BitVec.ofNat 32 r)) (iota .tc ⟨2, ![m, n]⟩ 32 [0] hi))
        (iota .tc ⟨2, ![m, n]⟩ 32 [1] hj))
      (matmul (⟨[1], [1], [0], [0], [], [], wf⟩ : DotDims ⟨2, ![m, 128]⟩ ⟨2, ![n, 128]⟩ ⟨2, ![m, n]⟩) p
        (shapeCast ⟨2, ![m, 128]⟩ x hm) (shapeCast ⟨2, ![n, 128]⟩ y hn) (constant ⟨2, ![m, n]⟩ .f32 0x00000000#32))
      (broadcast ⟨2, ![m, n]⟩ z))) fun i j => weight o a0 b1 h (s + i) j := fun i j => by
  rw [Is2.pow2_mask (Is2.weights hx hy wf p hm hn) (fun i j => tril_apply hmr hn' hi hj i j) hz i j]
  subst hs
  unfold weight score
  congr 1
  by_cases hr : j.val ≤ i.val + r
  · simp only [if_pos hr, if_pos (show o + j.val ≤ o + r + i.val by omega)]
  · simp only [if_neg hr, if_neg (show ¬ o + j.val ≤ o + r + i.val by omega)]

/-- The update of one leading entry from the two halves of a diagonal block of rows: the first meets half the columns only. -/
def diagCols (Z a : ℕ → ℕ → ℕ → ℝ) (o h : ℕ) (g : ℕ → ℕ → ℕ → ℝ) : ℕ → ℕ → ℕ → ℝ :=
  bump h 0 512 (colSum Z a (o + 256) 256 h) (bump h 0 256 (colSum Z a o 256 h) g)

/-- The four leading entries after each other take the sum over the whole block. -/
theorem diagCols_eq {Z a g : ℕ → ℕ → ℕ → ℝ} {o : ℕ} (hZ : ∀ h k j, k < 256 → 256 ≤ j → Z h (o + k) j = 0) {h j l : ℕ} (hh : h < 4) (hj : j < 512) :
    diagCols Z a o 3 (diagCols Z a o 2 (diagCols Z a o 1 (diagCols Z a o 0 g))) h j l = g h j l + colSum Z a o 512 h j l := by
  have e : ∀ h, colSum Z a o 512 h j l = (if j < 256 then colSum Z a o 256 h j l else 0) + colSum Z a (o + 256) 256 h j l := fun h => by
    rw [show 512 = 256 + 256 from rfl, ← colSum_add]
    by_cases h' : j < 256
    · rw [if_pos h']
    · rw [if_neg h', show colSum Z a o 256 h j l = 0 from Finset.sum_eq_zero fun k hk => by
        rw [hZ h k j (Finset.mem_range.1 hk) (by omega), zero_mul]]
  rw [e]
  obtain rfl | rfl | rfl | rfl : h = 0 ∨ h = 1 ∨ h = 2 ∨ h = 3 := by omega
  all_goals
    by_cases h' : j < 256
    · simp [diagCols, bump, hj, h', add_assoc]
    · simp [diagCols, bump, hj, h']

/-- The update of one leading entry's diagonal block of rows, half after half. -/
def diagRows (Z b : ℕ → ℕ → ℕ → ℝ) (o h : ℕ) (g : ℕ → ℕ → ℕ → ℝ) : ℕ → ℕ → ℕ → ℝ :=
  bump h (o + 256) 256 (rowSum Z b (o + 256) 512 h) (bump h o 256 (rowSum Z b o 256 h) g)

/-- The four leading entries after each other take the sum over all the columns. -/
theorem diagRows_eq {Z b g : ℕ → ℕ → ℕ → ℝ} {o : ℕ} (hZ : ∀ h k j, k < 256 → 256 ≤ j → Z h (o + k) j = 0) {h j l : ℕ} (hh : h < 4) :
    diagRows Z b o 3 (diagRows Z b o 2 (diagRows Z b o 1 (diagRows Z b o 0 g))) h j l = bump4 o 512 (rowSum Z b o 512) g h j l := by
  rw [bump4_apply hh]
  have e : ∀ h, o ≤ j → j < o + 256 → rowSum Z b o 256 h (j - o) l = rowSum Z b o 512 h (j - o) l := fun h h1 h2 => by
    unfold rowSum
    rw [show 512 = 256 + 256 from rfl, Finset.sum_range_add (n := 256) (m := 256)]
    rw [show ∑ x ∈ Finset.range 256, Z h (o + (j - o)) (256 + x) * b h (256 + x) l = 0 from Finset.sum_eq_zero fun k hk => by
      rw [hZ h (j - o) (256 + k) (by omega) (by omega), zero_mul], add_zero]
  have e' : ∀ h, o + 256 ≤ j → rowSum Z b (o + 256) 512 h (j - (o + 256)) l = rowSum Z b o 512 h (j - o) l := fun h h1 => by
    unfold rowSum
    rw [Nat.add_sub_of_le h1, Nat.add_sub_of_le (by omega : o ≤ j)]
  by_cases h1 : o ≤ j
  · by_cases h2 : j < o + 256
    · rw [if_pos ⟨h1, by omega⟩, ← e h h1 h2]
      obtain rfl | rfl | rfl | rfl : h = 0 ∨ h = 1 ∨ h = 2 ∨ h = 3 := by omega
      all_goals simp [diagRows, bump, h1, h2, show ¬ o + 256 ≤ j by omega]
    · by_cases h3 : j < o + 512
      · rw [if_pos ⟨h1, h3⟩, ← e' h (by omega)]
        obtain rfl | rfl | rfl | rfl : h = 0 ∨ h = 1 ∨ h = 2 ∨ h = 3 := by omega
        all_goals simp [diagRows, bump, h2, show o + 256 ≤ j by omega, show j < o + 256 + 256 by omega]
      · rw [if_neg (by omega)]
        simp [diagRows, bump, h2, show ¬ j < o + 256 + 256 by omega]
  · rw [if_neg (by omega)]
    simp [diagRows, bump, h1, show ¬ o + 256 ≤ j by omega]

/-- The rows below the block's own add to the same sum, which is empty above it. -/
theorem rows_eq {Z b g : ℕ → ℕ → ℕ → ℝ} {o n : ℕ} (hZ : ∀ h i k, i < o → Z h i k = 0) {h j l : ℕ} (hh : h < 4) (hj : j < o + 512 + n) :
    (if o + 512 ≤ j ∧ j < o + 512 + n then bump4 o 512 (rowSum Z b o 512) g h j l + rowSum Z b (o + 512) 512 h (j - (o + 512)) l
      else bump4 o 512 (rowSum Z b o 512) g h j l) = g h j l + rowSum Z b 0 512 h j l := by
  rw [bump4_apply hh]
  by_cases h1 : o ≤ j
  · by_cases h2 : j < o + 512
    · rw [if_neg (by omega), if_pos ⟨h1, h2⟩]
      simp only [rowSum, Nat.add_sub_of_le h1, Nat.zero_add]
    · rw [if_pos ⟨by omega, hj⟩, if_neg (by omega)]
      simp only [rowSum, Nat.add_sub_of_le (show o + 512 ≤ j by omega), Nat.zero_add]
  · rw [if_neg (by omega), if_neg (by omega), show rowSum Z b 0 512 h j l = 0 from Finset.sum_eq_zero fun k _ => by
      rw [hZ h (0 + j) k (by omega), zero_mul], add_zero]

variable (𝒱 : Variants) (c : Dev nD) (bd : Option 𝒱.V) (i : grid0.Coords) (arg2 : Memref sig .tc .vmem S4x4096x128 .bf16) (harg2 : arg2.IsWhole) (arg3 : Memref sig .tc .vmem S4x512x128 .bf16) (harg3 : arg3.IsWhole) (arg4 : Memref sig .tc .vmem S4x512x128 .bf16) (harg4 : arg4.IsWhole) (arg5 : Memref sig .tc .vmem S4x4096x128 .bf16) (harg5 : arg5.IsWhole) (arg6 : Memref sig .tc .vmem S4x4096x128 .f32) (harg6 : arg6.IsWhole) (arg7 : Memref sig .tc .vmem S4x512x128 .f32) (harg7 : arg7.IsWhole) (arg8 : Memref sig .tc .vmem S4x512x64 .f32) (harg8 : arg8.IsWhole) (arg9 : Memref sig .tc .vmem S4x512x128 .f32) (harg9 : arg9.IsWhole) (v459 v464 : BitVec 32)
  (X2 : BufTy.Contents (Elt Ideal) arg2.view.ty) (X3 : BufTy.Contents (Elt Ideal) arg3.view.ty) (X4 : BufTy.Contents (Elt Ideal) arg4.view.ty) (X5 : BufTy.Contents (Elt Ideal) arg5.view.ty)
  (f6 : BufTy.Contents (Elt Ideal) arg6.view.ty) (f7 : BufTy.Contents (Elt Ideal) arg7.view.ty) (f9 : BufTy.Contents (Elt Ideal) arg9.view.ty)

/-- What both loops leave, from any earlier stores: the second takes no turn. -/
theorem after_loops {a0 b1 b2 a3 P g6 g7 g9 : ℕ → ℕ → ℕ → ℝ}
    (h2 : Is3 (arg2.view.read (Elt Ideal) X2) a0) (h3 : Is3 (arg3.view.read (Elt Ideal) X3) b1)
    (h4 : Is3 (arg4.view.read (Elt Ideal) X4) b2) (h5 : Is3 (arg5.view.read (Elt Ideal) X5) a3)
    (hP : ∀ h k j, j < 512 → P h (512 * (i 1).val + 512 + k) j = (2 : ℝ) ^ score a0 b1 h (512 * (i 1).val + 512 + k) j)
    (L6 : List (View.Piece (Elt Ideal) S4x4096x128 .f32)) (L7 L9 : List (View.Piece (Elt Ideal) S4x512x128 .f32)) :
    let p := pb_k0_t1 (F := Ideal) 𝒱 c bd i arg2 harg2 arg3 harg3 arg4 harg4 arg5 harg5 arg6 harg6 arg7 harg7 arg8 harg8 arg9 harg9 v459 X2 X3 X4 X5 (arg6.view.writes (Elt Ideal) f6 L6) (arg7.view.writes (Elt Ideal) f7 L7) (arg9.view.writes (Elt Ideal) f9 L9) (k0_t1_loop i).trips
    let q := pb_k0_t2 (F := Ideal) 𝒱 c bd i arg2 harg2 arg3 harg3 arg4 harg4 arg5 harg5 arg6 harg6 arg7 harg7 arg8 harg8 arg9 harg9 v464 X2 X3 X4 X5 (arg6.view.writes (Elt Ideal) f6 (p.1 ++ L6)) (arg7.view.writes (Elt Ideal) f7 (p.2.1 ++ L7)) (arg9.view.writes (Elt Ideal) f9 (p.2.2 ++ L9)) (k0_t2_loop i).trips
    let Z := fun h i j => P h i j * score a3 b2 h i j
    (Is3 (arg6.view.read (Elt Ideal) (arg6.view.writes (Elt Ideal) f6 L6)) g6 →
        Is3 (arg6.view.read (Elt Ideal) (arg6.view.writes (Elt Ideal) f6 (q.1 ++ (p.1 ++ L6))))
          (bump4 (512 * (i 1).val + 512) (512 * (7 - (i 1).val)) (rowSum Z b1 (512 * (i 1).val + 512) 512) g6)) ∧
      (Is3 (arg7.view.read (Elt Ideal) (arg7.view.writes (Elt Ideal) f7 L7)) g7 →
        Is3 (arg7.view.read (Elt Ideal) (arg7.view.writes (Elt Ideal) f7 (q.2.1 ++ (p.2.1 ++ L7))))
          (bump4 0 512 (colSum Z a0 (512 * (i 1).val + 512) (512 * (7 - (i 1).val))) g7)) ∧
      (Is3 (arg9.view.read (Elt Ideal) (arg9.view.writes (Elt Ideal) f9 L9)) g9 →
        Is3 (arg9.view.read (Elt Ideal) (arg9.view.writes (Elt Ideal) f9 (q.2.2 ++ (p.2.2 ++ L9))))
          (bump4 0 512 (colSum P a3 (512 * (i 1).val + 512) (512 * (7 - (i 1).val))) g9)) := by
  intro p q Z
  have hq : q = ([], [], []) := by
    show pb_k0_t2 (F := Ideal) 𝒱 c bd i arg2 harg2 arg3 harg3 arg4 harg4 arg5 harg5 arg6 harg6 arg7 harg7 arg8 harg8 arg9 harg9 v464 X2 X3 X4 X5 _ _ _ (k0_t2_loop i).trips = _
    rw [trips_t2]
    rfl
  have := loop_values 𝒱 c bd i arg2 harg2 arg3 harg3 arg4 harg4 arg5 harg5 arg6 harg6 arg7 harg7 arg8 harg8 arg9 harg9 v459 X2 X3 X4 X5 (arg6.view.writes (Elt Ideal) f6 L6) (arg7.view.writes (Elt Ideal) f7 L7) (arg9.view.writes (Elt Ideal) f9 L9)
    (g6 := g6) (g7 := g7) (g9 := g9) h2 h3 h4 h5 hP _ le_rfl
  rw [hq]
  simp only [List.nil_append, View.writes_append]
  rw [trips_t1] at this
  simp only [p, trips_t1]
  exact this

end Cert.AttnIdeal.Gen

end
-- ==== Proof.AttnBody.lean ====
module

public import proofs.«01_k».proof.Proof.AttnDiag
public import proofs.«01_k».proof.Proof.Gen.AttnIdeal.Frame
public import proofs.«01_k».proof.Proof.Gen.AttnIdeal.Skeleton

@[expose] public section

set_option maxRecDepth 16384

noncomputable section

namespace Cert.AttnIdeal.Gen

open Idealize.ShloMosaic Idealize.ShloMosaic.TcCoe Idealize.ShloMosaic.Tactic Idealize.ShloMosaic.ValueIdx Cert.Proof.Reals
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The first point of a row of the grid. -/
abbrev cond0_0 (i : grid0.Coords) : Prop := (Scalar.cmpi .ne (Scalar.extui (Scalar.cmpi .eq (BitVec.ofNat 32 (i 1).val) 0#32)) 0#32) = 1#1
/-- The last point of a row of the grid. -/
abbrev cond0_1 (i : grid0.Coords) : Prop := (Scalar.cmpi .ne (Scalar.extui (Scalar.cmpi .eq (BitVec.ofNat 32 (i 1).val) 7#32)) 0#32) = 1#1

/-- The lanes below 96. -/
theorem lanes_apply : ∀ k : Fin 128, k0_pay139 (ix3 (0 : Fin 1) (0 : Fin 1) k) = 1#1 ↔ k.val < 96 := by decide +kernel

/-- The lanes below 96 times the logarithm of two, and zero in the others, of a block of 512 rows. -/
theorem Is3.pay140 {x : Vec Ideal S4x512x128 .f32} {g : ℕ → ℕ → ℕ → ℝ} (hx : Is3 x g) :
    Is3 (k0_pay140 x) fun h j l => if l < 96 then g h j l * Real.log 2 else 0 := by
  unfold k0_pay140
  dsimp only
  simp only [shapeCast_self]
  refine Is3.scale_select hx (fun i j k => ?_) rfl
  exact lanes_apply k

/-- The same of all the rows. -/
theorem Is3.pay141 {x : Vec Ideal S4x4096x128 .f32} {g : ℕ → ℕ → ℕ → ℝ} (hx : Is3 x g) :
    Is3 (k0_pay141 x) fun h j l => if l < 96 then g h j l * Real.log 2 else 0 := by
  unfold k0_pay141
  dsimp only
  simp only [shapeCast_self]
  refine Is3.scale_select hx (fun i j k => ?_) rfl
  exact lanes_apply k

/-- What one point of the grid makes of real numbers: `d` and `e` are the gradients of queries and keys, `f` of values. -/
def Point (i : grid0.Coords) (x0 : Vec Ideal S4x4096x128 .bf16) (x1 x2 : Vec Ideal S4x512x128 .bf16) (x3 : Vec Ideal S4x4096x128 .bf16) (x4 d : Vec Ideal S4x4096x128 .f32) (e : Vec Ideal S4x512x128 .f32) (f : Vec Ideal S4x512x64 .f32) : Prop :=
  ∀ a0 b1 b2 a3 g6 : ℕ → ℕ → ℕ → ℝ, Is3 x0 a0 → Is3 x1 b1 → Is3 x2 b2 → Is3 x3 a3 → (¬ cond0_0 i → Is3 x4 g6) → (cond0_0 i → g6 = fun _ _ _ => 0) →
    let o := 512 * (i 1).val
    let Z := fun h i j => weight o a0 b1 h i j * score a3 b2 h i j
    let D := fun h j l => g6 h j l + rowSum Z b1 0 512 h j l
    Is3 d (fun h j l => if (i 1).val = 7 then if l < 96 then D h j l * Real.log 2 else 0 else D h j l) ∧
      Is3 e (fun h j l => if l < 96 then colSum Z a0 o (512 + 512 * (7 - (i 1).val)) h j l * Real.log 2 else 0) ∧
      Is3 f (fun h j l => colSum (weight o a0 b1) a3 o (512 + 512 * (7 - (i 1).val)) h j l)

/-- The second condition of the body holds at the last block of keys only. -/
theorem last_row : ∀ i : grid0.Coords, cond0_1 i → (i 1).val = 7 := by decide +kernel

set_option maxHeartbeats 8000000 in
/-- One point of the grid, run from the blocks it finds. -/
theorem point_run (c : Dev nD) (i : grid0.Coords) (arg2 : Memref sig .tc .vmem S4x4096x128 .bf16) (harg2 : arg2.IsWhole) (arg3 : Memref sig .tc .vmem S4x512x128 .bf16) (harg3 : arg3.IsWhole) (arg4 : Memref sig .tc .vmem S4x512x128 .bf16) (harg4 : arg4.IsWhole) (arg5 : Memref sig .tc .vmem S4x4096x128 .bf16) (harg5 : arg5.IsWhole) (arg6 : Memref sig .tc .vmem S4x4096x128 .f32) (harg6 : arg6.IsWhole) (arg7 : Memref sig .tc .vmem S4x512x128 .f32) (harg7 : arg7.IsWhole) (arg8 : Memref sig .tc .vmem S4x512x64 .f32) (harg8 : arg8.IsWhole) (arg9 : Memref sig .tc .vmem S4x512x128 .f32) (harg9 : arg9.IsWhole)
    (x0 : Vec Ideal S4x4096x128 .bf16) (x1 : Vec Ideal S4x512x128 .bf16) (x2 : Vec Ideal S4x512x128 .bf16) (x3 : Vec Ideal S4x4096x128 .bf16) (x4 : Vec Ideal S4x4096x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (owns (c : Thread nD τ) arg6 fullShare x4) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d e f, ⌜Point i x0 x1 x2 x3 x4 d e f⌝ ∗ owns (c : Thread nD τ) arg6 fullShare d ∗ owns (c : Thread nD τ) arg7 fullShare e ∗ owns (c : Thread nD τ) arg8 fullShare f) ∗ (∃ d, owns (c : Thread nD τ) arg9 fullShare d)) -∗ K ⟨⟩))
          ⊢ wp frame (wpE (defs₀ (F := Ideal)) Variants.none c none) E (cc0_attn_bwd i arg2 harg2 arg3 harg3 arg4 harg4 arg5 harg5 arg6 harg6 arg7 harg7 arg8 harg8 arg9 harg9) K := by
    intro E K
    simp only [cc0_attn_bwd_eq_skeleton]; unfold cc0_attn_bwd_skel
    simp only [k0_part27_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4
    by_cases hc0 : cond0_0 i <;> by_cases hc1 : cond0_1 i
    · exact absurd hc1 (by revert hc0; revert i; decide +kernel)
    all_goals
      sl_exec (disch := first | sl_exact hc0 | sl_exact hc1)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4 H5 H6]; swap
      · iexists _, _; isplitr; swap; · iexact HS0
        ipureintro; rfl
      iexists _, _, _; isplitr; swap
      · isplitl [H4]
        · iexists _; isplitr; swap; · iexact H4
          ipureintro; rfl
        isplitl [H5]
        · iexists _; isplitr; swap; · iexact H5
          ipureintro; rfl
        · iexists _; isplitr; swap; · iexact H6
          ipureintro; rfl
      ipureintro
      sl_unfold_words
      dsimp only
      intro a0 b1 b2 a3 g6 h0 h1 h2' h3' h6z hg6 o Z D
      have h2 : Is3 (arg2.view.read (Elt Ideal) (harg2.unread x0)) a0 := by rw [harg2.read_unread]; exact h0
      have h3 : Is3 (arg3.view.read (Elt Ideal) (harg3.unread x1)) b1 := by rw [harg3.read_unread]; exact h1
      have h4 : Is3 (arg4.view.read (Elt Ideal) (harg4.unread x2)) b2 := by rw [harg4.read_unread]; exact h2'
      have h5 : Is3 (arg5.view.read (Elt Ideal) (harg5.unread x3)) a3 := by rw [harg5.read_unread]; exact h3'
      have hP : ∀ h k j, j < 512 → weight o a0 b1 h (512 * (i 1).val + 512 + k) j = (2 : ℝ) ^ score a0 b1 h (512 * (i 1).val + 512 + k) j :=
        fun h k j hj => weight_below (by omega)
      let W := weight o a0 b1
      let Y := fun h i j => W h i j * score a3 b2 h i j
      have hY : ∀ h k j, k < 256 → 256 ≤ j → Y h (o + k) j = 0 := fun h k j hk hj => by
        show weight o a0 b1 h (o + k) j * _ = 0
        rw [weight_above (by omega), zero_mul]
      have hY' : ∀ h i k, i < o → Y h i k = 0 := fun h i k hi => by
        show weight o a0 b1 h i k * _ = 0
        rw [weight_above (by omega), zero_mul]
      have h1 : (i 1).val < 8 := (i 1).isLt
      refine ⟨?_, ?_, ?_⟩
      rotate_left
      · refine Is3.whole _ _ _ _ rfl (Is3.congr (Is3.pay140 (Is3.load ((after_loops _ _ _ _ _ _ _ _ _ _ _ _ _ _ _ _ _ _ _ _ _ _ _ _ _ _ _ _ _ (P := W) (g6 := fun _ _ _ => 0)
          (g7 := diagCols Y a0 o 3 (diagCols Y a0 o 2 (diagCols Y a0 o 1 (diagCols Y a0 o 0 fun _ _ _ => 0)))) (g9 := fun _ _ _ => 0)
            h2 h3 h4 h5 hP _ _ _).2.1 ?_) _ rfl)) ?_)
        · exact Is3.update_cols
            (Is3.update_cols
            (Is3.update_cols
            (Is3.update_cols
            (Is3.update_cols
            (Is3.update_cols
            (Is3.update_cols
            (Is3.update_cols
            (Is3.whole _ _ _ _ rfl Is3.zero) _ rfl (Is2.trunc (Is2.mul (Is2.masked rfl (h2.row_bf16 _ (k0_off1_eq i 0)) (h3.head _ rfl) (by decide) (by decide) _ _ _ _ _ _ rfl) (Is2.weights (h5.row_bf16 _ (k0_off1_eq i 0)) (h4.head _ rfl) _ _ _ _)) _) (h2.row_bf16 _ (k0_off1_eq i 0)) _ _ _ _ _) _ rfl (Is2.trunc (Is2.mul (Is2.masked rfl (h2.row_bf16 _ (k0_off1_eq i 1)) (h3.head _ rfl) (by decide) (by decide) _ _ _ _ _ _ rfl) (Is2.weights (h5.row_bf16 _ (k0_off1_eq i 1)) (h4.head _ rfl) _ _ _ _)) _) (h2.row_bf16 _ (k0_off1_eq i 1)) _ _ _ _ _) _ rfl (Is2.trunc (Is2.mul (Is2.masked rfl (h2.row_bf16 _ (k0_off2_eq i 0)) (h3.head _ rfl) (by decide) (by decide) _ _ _ _ _ _ rfl) (Is2.weights (h5.row_bf16 _ (k0_off2_eq i 0)) (h4.head _ rfl) _ _ _ _)) _) (h2.row_bf16 _ (k0_off2_eq i 0)) _ _ _ _ _) _ rfl (Is2.trunc (Is2.mul (Is2.masked rfl (h2.row_bf16 _ (k0_off2_eq i 1)) (h3.head _ rfl) (by decide) (by decide) _ _ _ _ _ _ rfl) (Is2.weights (h5.row_bf16 _ (k0_off2_eq i 1)) (h4.head _ rfl) _ _ _ _)) _) (h2.row_bf16 _ (k0_off2_eq i 1)) _ _ _ _ _) _ rfl (Is2.trunc (Is2.mul (Is2.masked rfl (h2.row_bf16 _ (k0_off3_eq i 0)) (h3.head _ rfl) (by decide) (by decide) _ _ _ _ _ _ rfl) (Is2.weights (h5.row_bf16 _ (k0_off3_eq i 0)) (h4.head _ rfl) _ _ _ _)) _) (h2.row_bf16 _ (k0_off3_eq i 0)) _ _ _ _ _) _ rfl (Is2.trunc (Is2.mul (Is2.masked rfl (h2.row_bf16 _ (k0_off3_eq i 1)) (h3.head _ rfl) (by decide) (by decide) _ _ _ _ _ _ rfl) (Is2.weights (h5.row_bf16 _ (k0_off3_eq i 1)) (h4.head _ rfl) _ _ _ _)) _) (h2.row_bf16 _ (k0_off3_eq i 1)) _ _ _ _ _) _ rfl (Is2.trunc (Is2.mul (Is2.masked rfl (h2.row_bf16 _ (k0_off4_eq i 0)) (h3.head _ rfl) (by decide) (by decide) _ _ _ _ _ _ rfl) (Is2.weights (h5.row_bf16 _ (k0_off4_eq i 0)) (h4.head _ rfl) _ _ _ _)) _) (h2.row_bf16 _ (k0_off4_eq i 0)) _ _ _ _ _) _ rfl (Is2.trunc (Is2.mul (Is2.masked rfl (h2.row_bf16 _ (k0_off4_eq i 1)) (h3.head _ rfl) (by decide) (by decide) _ _ _ _ _ _ rfl) (Is2.weights (h5.row_bf16 _ (k0_off4_eq i 1)) (h4.head _ rfl) _ _ _ _)) _) (h2.row_bf16 _ (k0_off4_eq i 1)) _ _ _ _ _
        · intro h j l hh hj hl
          simp only [Nat.zero_add]
          refine if_congr Iff.rfl (congrArg (· * Real.log 2) ?_) rfl
          rw [bump4_apply hh, if_pos ⟨Nat.zero_le _, by omega⟩, diagCols_eq hY hh hj, zero_add,
            Nat.sub_zero, colSum_add]
      · refine Is3.whole _ _ _ _ rfl ?_
        refine Is3.congr (Is3.load ((after_loops _ _ _ _ _ _ _ _ _ _ _ _ _ _ _ _ _ _ _ _ _ _ _ _ _ _ _ _ _ (P := W) (g6 := fun _ _ _ => 0) (g7 := fun _ _ _ => 0)
          (g9 := diagCols W a3 o 3 (diagCols W a3 o 2 (diagCols W a3 o 1 (diagCols W a3 o 0 fun _ _ _ => 0)))) h2 h3 h4 h5 hP _ _ _).2.2 ?_) _ rfl) ?_
        · exact Is3.update_cols
            (Is3.update_cols
            (Is3.update_cols
            (Is3.update_cols
            (Is3.update_cols
            (Is3.update_cols
            (Is3.update_cols
            (Is3.update_cols
            (Is3.whole _ _ _ _ rfl Is3.zero) _ rfl (Is2.trunc (Is2.masked rfl (h2.row_bf16 _ (k0_off1_eq i 0)) (h3.head _ rfl) (by decide) (by decide) _ _ _ _ _ _ rfl) _) (h5.row_bf16 _ (k0_off1_eq i 0)) _ _ _ _ _) _ rfl (Is2.trunc (Is2.masked rfl (h2.row_bf16 _ (k0_off1_eq i 1)) (h3.head _ rfl) (by decide) (by decide) _ _ _ _ _ _ rfl) _) (h5.row_bf16 _ (k0_off1_eq i 1)) _ _ _ _ _) _ rfl (Is2.trunc (Is2.masked rfl (h2.row_bf16 _ (k0_off2_eq i 0)) (h3.head _ rfl) (by decide) (by decide) _ _ _ _ _ _ rfl) _) (h5.row_bf16 _ (k0_off2_eq i 0)) _ _ _ _ _) _ rfl (Is2.trunc (Is2.masked rfl (h2.row_bf16 _ (k0_off2_eq i 1)) (h3.head _ rfl) (by decide) (by decide) _ _ _ _ _ _ rfl) _) (h5.row_bf16 _ (k0_off2_eq i 1)) _ _ _ _ _) _ rfl (Is2.trunc (Is2.masked rfl (h2.row_bf16 _ (k0_off3_eq i 0)) (h3.head _ rfl) (by decide) (by decide) _ _ _ _ _ _ rfl) _) (h5.row_bf16 _ (k0_off3_eq i 0)) _ _ _ _ _) _ rfl (Is2.trunc (Is2.masked rfl (h2.row_bf16 _ (k0_off3_eq i 1)) (h3.head _ rfl) (by decide) (by decide) _ _ _ _ _ _ rfl) _) (h5.row_bf16 _ (k0_off3_eq i 1)) _ _ _ _ _) _ rfl (Is2.trunc (Is2.masked rfl (h2.row_bf16 _ (k0_off4_eq i 0)) (h3.head _ rfl) (by decide) (by decide) _ _ _ _ _ _ rfl) _) (h5.row_bf16 _ (k0_off4_eq i 0)) _ _ _ _ _) _ rfl (Is2.trunc (Is2.masked rfl (h2.row_bf16 _ (k0_off4_eq i 1)) (h3.head _ rfl) (by decide) (by decide) _ _ _ _ _ _ rfl) _) (h5.row_bf16 _ (k0_off4_eq i 1)) _ _ _ _ _
        · intro h j l hh hj hl
          simp only [Nat.zero_add]
          rw [bump4_apply hh, if_pos ⟨Nat.zero_le _, by omega⟩, diagCols_eq (fun h k j hk hj => weight_above (by omega)) hh hj, zero_add,
            Nat.sub_zero, colSum_add]
    · obtain rfl := hg6 hc0
      have h7 : (i 1).val ≠ 7 := fun h => hc1 (by unfold cond0_1; rw [h]; decide)
      refine Is3.congr ((after_loops _ _ _ _ _ _ _ _ _ _ _ _ _ _ _ _ _ _ _ _ _ _ _ _ _ _ _ _ _ (P := W) (g6 := diagRows Y b1 o 3 (diagRows Y b1 o 2 (diagRows Y b1 o 1 (diagRows Y b1 o 0 fun _ _ _ => 0))))
          (g7 := fun _ _ _ => 0) (g9 := fun _ _ _ => 0) h2 h3 h4 h5 hP _ _ _).1 ?_) ?_
      · exact Is3.update_rows
            (Is3.update_rows
            (Is3.update_rows
            (Is3.update_rows
            (Is3.update_rows
            (Is3.update_rows
            (Is3.update_rows
            (Is3.update_rows
            (Is3.whole _ _ _ _ rfl Is3.zero) _ (k0_off1_eq i 0) (Is2.trunc (Is2.mul (Is2.masked rfl (h2.row_bf16 _ (k0_off1_eq i 0)) (h3.head _ rfl) (by decide) (by decide) _ _ _ _ _ _ rfl) (Is2.weights (h5.row_bf16 _ (k0_off1_eq i 0)) (h4.head _ rfl) _ _ _ _)) _) (h3.head _ rfl) _ _ _ _ _) _ (k0_off1_eq i 1) (Is2.trunc (Is2.mul (Is2.masked rfl (h2.row_bf16 _ (k0_off1_eq i 1)) (h3.head _ rfl) (by decide) (by decide) _ _ _ _ _ _ rfl) (Is2.weights (h5.row_bf16 _ (k0_off1_eq i 1)) (h4.head _ rfl) _ _ _ _)) _) (h3.head _ rfl) _ _ _ _ _) _ (k0_off2_eq i 0) (Is2.trunc (Is2.mul (Is2.masked rfl (h2.row_bf16 _ (k0_off2_eq i 0)) (h3.head _ rfl) (by decide) (by decide) _ _ _ _ _ _ rfl) (Is2.weights (h5.row_bf16 _ (k0_off2_eq i 0)) (h4.head _ rfl) _ _ _ _)) _) (h3.head _ rfl) _ _ _ _ _) _ (k0_off2_eq i 1) (Is2.trunc (Is2.mul (Is2.masked rfl (h2.row_bf16 _ (k0_off2_eq i 1)) (h3.head _ rfl) (by decide) (by decide) _ _ _ _ _ _ rfl) (Is2.weights (h5.row_bf16 _ (k0_off2_eq i 1)) (h4.head _ rfl) _ _ _ _)) _) (h3.head _ rfl) _ _ _ _ _) _ (k0_off3_eq i 0) (Is2.trunc (Is2.mul (Is2.masked rfl (h2.row_bf16 _ (k0_off3_eq i 0)) (h3.head _ rfl) (by decide) (by decide) _ _ _ _ _ _ rfl) (Is2.weights (h5.row_bf16 _ (k0_off3_eq i 0)) (h4.head _ rfl) _ _ _ _)) _) (h3.head _ rfl) _ _ _ _ _) _ (k0_off3_eq i 1) (Is2.trunc (Is2.mul (Is2.masked rfl (h2.row_bf16 _ (k0_off3_eq i 1)) (h3.head _ rfl) (by decide) (by decide) _ _ _ _ _ _ rfl) (Is2.weights (h5.row_bf16 _ (k0_off3_eq i 1)) (h4.head _ rfl) _ _ _ _)) _) (h3.head _ rfl) _ _ _ _ _) _ (k0_off4_eq i 0) (Is2.trunc (Is2.mul (Is2.masked rfl (h2.row_bf16 _ (k0_off4_eq i 0)) (h3.head _ rfl) (by decide) (by decide) _ _ _ _ _ _ rfl) (Is2.weights (h5.row_bf16 _ (k0_off4_eq i 0)) (h4.head _ rfl) _ _ _ _)) _) (h3.head _ rfl) _ _ _ _ _) _ (k0_off4_eq i 1) (Is2.trunc (Is2.mul (Is2.masked rfl (h2.row_bf16 _ (k0_off4_eq i 1)) (h3.head _ rfl) (by decide) (by decide) _ _ _ _ _ _ rfl) (Is2.weights (h5.row_bf16 _ (k0_off4_eq i 1)) (h4.head _ rfl) _ _ _ _)) _) (h3.head _ rfl) _ _ _ _ _
      · intro h j l hh hj hl
        rw [if_neg h7, bump4_apply hh, diagRows_eq hY hh]
        exact rows_eq hY' hh (by omega)
    · have h6 : Is3 (arg6.view.read (Elt Ideal) (arg6.view.writes (Elt Ideal) (harg6.unread x4) [])) g6 := by
        show Is3 (arg6.view.read (Elt Ideal) (harg6.unread x4)) g6
        rw [harg6.read_unread]; exact h6z hc0
      have h7 : (i 1).val = 7 := last_row i hc1
      refine Is3.whole _ _ _ _ rfl (Is3.congr (Is3.pay141 (Is3.load ((after_loops _ _ _ _ _ _ _ _ _ _ _ _ _ _ _ _ _ _ _ _ _ _ _ _ _ _ _ _ _ (P := W) (g6 := diagRows Y b1 o 3 (diagRows Y b1 o 2 (diagRows Y b1 o 1 (diagRows Y b1 o 0 g6))))
          (g7 := fun _ _ _ => 0) (g9 := fun _ _ _ => 0) h2 h3 h4 h5 hP _ _ _).1 ?_) _ rfl)) ?_)
      · exact Is3.store
            (Is3.store
            (Is3.store
            (Is3.store
            (Is3.store
            (Is3.store
            (Is3.store
            (Is3.store
            (h6) _ (k0_off1_eq i 0) (Is3.add_rows (h6.row _ (k0_off1_eq i 0)) (Is2.trunc (Is2.mul (Is2.masked rfl (h2.row_bf16 _ (k0_off1_eq i 0)) (h3.head _ rfl) (by decide) (by decide) _ _ _ _ _ _ rfl) (Is2.weights (h5.row_bf16 _ (k0_off1_eq i 0)) (h4.head _ rfl) _ _ _ _)) _) (h3.head _ rfl) _ _ _ _ _) (fun j l hj hl => congrArg₂ (· + ·) (by simp [bump]) rfl)) _ (k0_off1_eq i 1) (Is3.add_rows (h6.row _ (k0_off1_eq i 1)) (Is2.trunc (Is2.mul (Is2.masked rfl (h2.row_bf16 _ (k0_off1_eq i 1)) (h3.head _ rfl) (by decide) (by decide) _ _ _ _ _ _ rfl) (Is2.weights (h5.row_bf16 _ (k0_off1_eq i 1)) (h4.head _ rfl) _ _ _ _)) _) (h3.head _ rfl) _ _ _ _ _) (fun j l hj hl => congrArg₂ (· + ·) (by simp [bump]) rfl)) _ (k0_off2_eq i 0) (Is3.add_rows (h6.row _ (k0_off2_eq i 0)) (Is2.trunc (Is2.mul (Is2.masked rfl (h2.row_bf16 _ (k0_off2_eq i 0)) (h3.head _ rfl) (by decide) (by decide) _ _ _ _ _ _ rfl) (Is2.weights (h5.row_bf16 _ (k0_off2_eq i 0)) (h4.head _ rfl) _ _ _ _)) _) (h3.head _ rfl) _ _ _ _ _) (fun j l hj hl => congrArg₂ (· + ·) (by simp [bump]) rfl)) _ (k0_off2_eq i 1) (Is3.add_rows (h6.row _ (k0_off2_eq i 1)) (Is2.trunc (Is2.mul (Is2.masked rfl (h2.row_bf16 _ (k0_off2_eq i 1)) (h3.head _ rfl) (by decide) (by decide) _ _ _ _ _ _ rfl) (Is2.weights (h5.row_bf16 _ (k0_off2_eq i 1)) (h4.head _ rfl) _ _ _ _)) _) (h3.head _ rfl) _ _ _ _ _) (fun j l hj hl => congrArg₂ (· + ·) (by simp [bump]) rfl)) _ (k0_off3_eq i 0) (Is3.add_rows (h6.row _ (k0_off3_eq i 0)) (Is2.trunc (Is2.mul (Is2.masked rfl (h2.row_bf16 _ (k0_off3_eq i 0)) (h3.head _ rfl) (by decide) (by decide) _ _ _ _ _ _ rfl) (Is2.weights (h5.row_bf16 _ (k0_off3_eq i 0)) (h4.head _ rfl) _ _ _ _)) _) (h3.head _ rfl) _ _ _ _ _) (fun j l hj hl => congrArg₂ (· + ·) (by simp [bump]) rfl)) _ (k0_off3_eq i 1) (Is3.add_rows (h6.row _ (k0_off3_eq i 1)) (Is2.trunc (Is2.mul (Is2.masked rfl (h2.row_bf16 _ (k0_off3_eq i 1)) (h3.head _ rfl) (by decide) (by decide) _ _ _ _ _ _ rfl) (Is2.weights (h5.row_bf16 _ (k0_off3_eq i 1)) (h4.head _ rfl) _ _ _ _)) _) (h3.head _ rfl) _ _ _ _ _) (fun j l hj hl => congrArg₂ (· + ·) (by simp [bump]) rfl)) _ (k0_off4_eq i 0) (Is3.add_rows (h6.row _ (k0_off4_eq i 0)) (Is2.trunc (Is2.mul (Is2.masked rfl (h2.row_bf16 _ (k0_off4_eq i 0)) (h3.head _ rfl) (by decide) (by decide) _ _ _ _ _ _ rfl) (Is2.weights (h5.row_bf16 _ (k0_off4_eq i 0)) (h4.head _ rfl) _ _ _ _)) _) (h3.head _ rfl) _ _ _ _ _) (fun j l hj hl => congrArg₂ (· + ·) (by simp [bump]) rfl)) _ (k0_off4_eq i 1) (Is3.add_rows (h6.row _ (k0_off4_eq i 1)) (Is2.trunc (Is2.mul (Is2.masked rfl (h2.row_bf16 _ (k0_off4_eq i 1)) (h3.head _ rfl) (by decide) (by decide) _ _ _ _ _ _ rfl) (Is2.weights (h5.row_bf16 _ (k0_off4_eq i 1)) (h4.head _ rfl) _ _ _ _)) _) (h3.head _ rfl) _ _ _ _ _) (fun j l hj hl => congrArg₂ (· + ·) (by simp [bump]) rfl)
      · intro h j l hh hj hl
        simp only [Nat.zero_add]
        rw [if_pos h7]
        refine if_congr Iff.rfl (congrArg (· * Real.log 2) ?_) rfl
        rw [bump4_apply hh, diagRows_eq hY hh]
        exact rows_eq hY' hh (by omega)
    · have h6 : Is3 (arg6.view.read (Elt Ideal) (arg6.view.writes (Elt Ideal) (harg6.unread x4) [])) g6 := by
        show Is3 (arg6.view.read (Elt Ideal) (harg6.unread x4)) g6
        rw [harg6.read_unread]; exact h6z hc0
      have h7 : (i 1).val ≠ 7 := fun h => hc1 (by unfold cond0_1; rw [h]; decide)
      refine Is3.congr ((after_loops _ _ _ _ _ _ _ _ _ _ _ _ _ _ _ _ _ _ _ _ _ _ _ _ _ _ _ _ _ (P := W) (g6 := diagRows Y b1 o 3 (diagRows Y b1 o 2 (diagRows Y b1 o 1 (diagRows Y b1 o 0 g6))))
          (g7 := fun _ _ _ => 0) (g9 := fun _ _ _ => 0) h2 h3 h4 h5 hP _ _ _).1 ?_) ?_
      · exact Is3.store
            (Is3.store
            (Is3.store
            (Is3.store
            (Is3.store
            (Is3.store
            (Is3.store
            (Is3.store
            (h6) _ (k0_off1_eq i 0) (Is3.add_rows (h6.row _ (k0_off1_eq i 0)) (Is2.trunc (Is2.mul (Is2.masked rfl (h2.row_bf16 _ (k0_off1_eq i 0)) (h3.head _ rfl) (by decide) (by decide) _ _ _ _ _ _ rfl) (Is2.weights (h5.row_bf16 _ (k0_off1_eq i 0)) (h4.head _ rfl) _ _ _ _)) _) (h3.head _ rfl) _ _ _ _ _) (fun j l hj hl => congrArg₂ (· + ·) (by simp [bump]) rfl)) _ (k0_off1_eq i 1) (Is3.add_rows (h6.row _ (k0_off1_eq i 1)) (Is2.trunc (Is2.mul (Is2.masked rfl (h2.row_bf16 _ (k0_off1_eq i 1)) (h3.head _ rfl) (by decide) (by decide) _ _ _ _ _ _ rfl) (Is2.weights (h5.row_bf16 _ (k0_off1_eq i 1)) (h4.head _ rfl) _ _ _ _)) _) (h3.head _ rfl) _ _ _ _ _) (fun j l hj hl => congrArg₂ (· + ·) (by simp [bump]) rfl)) _ (k0_off2_eq i 0) (Is3.add_rows (h6.row _ (k0_off2_eq i 0)) (Is2.trunc (Is2.mul (Is2.masked rfl (h2.row_bf16 _ (k0_off2_eq i 0)) (h3.head _ rfl) (by decide) (by decide) _ _ _ _ _ _ rfl) (Is2.weights (h5.row_bf16 _ (k0_off2_eq i 0)) (h4.head _ rfl) _ _ _ _)) _) (h3.head _ rfl) _ _ _ _ _) (fun j l hj hl => congrArg₂ (· + ·) (by simp [bump]) rfl)) _ (k0_off2_eq i 1) (Is3.add_rows (h6.row _ (k0_off2_eq i 1)) (Is2.trunc (Is2.mul (Is2.masked rfl (h2.row_bf16 _ (k0_off2_eq i 1)) (h3.head _ rfl) (by decide) (by decide) _ _ _ _ _ _ rfl) (Is2.weights (h5.row_bf16 _ (k0_off2_eq i 1)) (h4.head _ rfl) _ _ _ _)) _) (h3.head _ rfl) _ _ _ _ _) (fun j l hj hl => congrArg₂ (· + ·) (by simp [bump]) rfl)) _ (k0_off3_eq i 0) (Is3.add_rows (h6.row _ (k0_off3_eq i 0)) (Is2.trunc (Is2.mul (Is2.masked rfl (h2.row_bf16 _ (k0_off3_eq i 0)) (h3.head _ rfl) (by decide) (by decide) _ _ _ _ _ _ rfl) (Is2.weights (h5.row_bf16 _ (k0_off3_eq i 0)) (h4.head _ rfl) _ _ _ _)) _) (h3.head _ rfl) _ _ _ _ _) (fun j l hj hl => congrArg₂ (· + ·) (by simp [bump]) rfl)) _ (k0_off3_eq i 1) (Is3.add_rows (h6.row _ (k0_off3_eq i 1)) (Is2.trunc (Is2.mul (Is2.masked rfl (h2.row_bf16 _ (k0_off3_eq i 1)) (h3.head _ rfl) (by decide) (by decide) _ _ _ _ _ _ rfl) (Is2.weights (h5.row_bf16 _ (k0_off3_eq i 1)) (h4.head _ rfl) _ _ _ _)) _) (h3.head _ rfl) _ _ _ _ _) (fun j l hj hl => congrArg₂ (· + ·) (by simp [bump]) rfl)) _ (k0_off4_eq i 0) (Is3.add_rows (h6.row _ (k0_off4_eq i 0)) (Is2.trunc (Is2.mul (Is2.masked rfl (h2.row_bf16 _ (k0_off4_eq i 0)) (h3.head _ rfl) (by decide) (by decide) _ _ _ _ _ _ rfl) (Is2.weights (h5.row_bf16 _ (k0_off4_eq i 0)) (h4.head _ rfl) _ _ _ _)) _) (h3.head _ rfl) _ _ _ _ _) (fun j l hj hl => congrArg₂ (· + ·) (by simp [bump]) rfl)) _ (k0_off4_eq i 1) (Is3.add_rows (h6.row _ (k0_off4_eq i 1)) (Is2.trunc (Is2.mul (Is2.masked rfl (h2.row_bf16 _ (k0_off4_eq i 1)) (h3.head _ rfl) (by decide) (by decide) _ _ _ _ _ _ rfl) (Is2.weights (h5.row_bf16 _ (k0_off4_eq i 1)) (h4.head _ rfl) _ _ _ _)) _) (h3.head _ rfl) _ _ _ _ _) (fun j l hj hl => congrArg₂ (· + ·) (by simp [bump]) rfl)
      · intro h j l hh hj hl
        rw [if_neg h7, bump4_apply hh, diagRows_eq hY hh]
        exact rows_eq hY' hh (by omega)

end Cert.AttnIdeal.Gen

end
-- ==== Proof.AttnFrame.lean ====
module

public import proofs.«01_k».proof.Proof.AttnBody
public import proofs.«01_k».proof.Proof.Gen.AttnIdeal.Frame
public import Idealize.ShloMosaic.Lib.Pipeline.FrameSuffix
public import Idealize.ShloMosaic.Lib.Claim

/-! The backward pass of the attention with named constants: every run ends, with the arguments as they were and no signal left.
Nothing is said here of what the results hold. -/

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- One point of the grid, run from any contents of the windows it writes. -/
theorem body_run (c : Dev nD) (i : grid0.Coords) (arg2 : Memref sig .tc .vmem S4x4096x128 .bf16) (harg2 : arg2.IsWhole) (arg3 : Memref sig .tc .vmem S4x512x128 .bf16) (harg3 : arg3.IsWhole) (arg4 : Memref sig .tc .vmem S4x512x128 .bf16) (harg4 : arg4.IsWhole) (arg5 : Memref sig .tc .vmem S4x4096x128 .bf16) (harg5 : arg5.IsWhole) (arg6 : Memref sig .tc .vmem S4x4096x128 .f32) (harg6 : arg6.IsWhole) (arg7 : Memref sig .tc .vmem S4x512x128 .f32) (harg7 : arg7.IsWhole) (arg8 : Memref sig .tc .vmem S4x512x64 .f32) (harg8 : arg8.IsWhole) (arg9 : Memref sig .tc .vmem S4x512x128 .f32) (harg9 : arg9.IsWhole)
    (x0 : Vec Ideal S4x4096x128 .bf16) (x1 x2 : Vec Ideal S4x512x128 .bf16) (x3 : Vec Ideal S4x4096x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := Ideal)) Variants.none c none) E (cc0_attn_bwd i arg2 harg2 arg3 harg3 arg4 harg4 arg5 harg5 arg6 harg6 arg7 harg7 arg8 harg8 arg9 harg9) K := by
    intro E K
    iintro ⟨H0, H1, H2, H3, ⟨%d4, H4⟩, H5, H6, H7, Hk⟩
    iapply (point_run c i _ harg2 _ harg3 _ harg4 _ harg5 _ harg6 _ harg7 _ harg8 _ harg9 x0 x1 x2 x3 d4 E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, ⟨%d, %e, %f, -, H4, H5, H6⟩, H7⟩
    iapply Hk
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iexact H7

variable (m : (ℓ : Loc nD τ sig) → Buf (Elt Ideal) ℓ) (ρ : Dev nD → PrngReg)

/-- The windows the body writes. -/
def forgets0 : Fin 7 → Bool := fun w => w.val == 4 || w.val == 5 || w.val == 6

/-- The inputs stay as they were fetched, the other windows hold anything. -/
def loose (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The arrays are those the region is entered with. -/
theorem loose_A (c : Dev nD) (w : Fin cfg0.W) : (loose m 0 c).A w = V m c (Pipeline.arrRef spec0 w) := by
  dsimp only [loose]

/-- Besides the windows the region holds the accumulator and the generator of random numbers. -/
theorem PhiA_eq (c : Dev nD) : (Pipeline.ΦA spec0 c : sProp 𝕄) =
    iprop(iprop((∃ d, owns (c : Thread nD τ) (Memref.whole cc0_scratch0) fullShare d)) ∗ (∃ r, prngReg c r)) := by
  unfold Pipeline.ΦA; rw [scopedRest0_eq]; simp only [owns_whole]

/-- The body as the table of bodies holds it. -/
theorem defs₀_row (t : Fin cfg0.N) :
    defs₀ (F := Ideal) .tc cfg0.body (cfg0.bodyArgs t (cfg0.slots t)) = bodyAt0 t := by
  unfold defs₀; rw [Defs.onTc_tc]

set_option maxHeartbeats 2400000 in
/-- The body keeps the inputs at every point. -/
theorem loose_body (c : Dev nD) : BodyObligation (loose m 0 c) (defs₀ (F := Ideal)) Variants.none () Set.univ forgets0 := fun t => by
  have e0 := before0_0_of m (loose m 0 c) (loose_A m c 0) (fun _ => rfl) t
  have e1 := before0_1_of m (loose m 0 c) (loose_A m c 1) (fun _ => rfl) t
  have e2 := before0_2_of m (loose m 0 c) (loose_A m c 2) (fun _ => rfl) t
  have e3 := before0_3_of m (loose m 0 c) (loose_A m c 3) (fun _ => rfl) t
  rw [bigSep_W0, bigSep_W0, defs₀_row]
  refine triple_restated (P := iprop((loose m 0 c).Φ t.castSucc ∗ (loose m 0 c).owesAt () t.castSucc
    ∗ (∃ d, owns (c : Thread nD τ) (win0_0.stage (cfg0.slots t 0)) fullShare ((loose m 0 c).before 0 t d))
    ∗ (∃ d, owns (c : Thread nD τ) (win0_1.stage (cfg0.slots t 1)) fullShare ((loose m 0 c).before 1 t d))
    ∗ (∃ d, owns (c : Thread nD τ) (win0_2.stage (cfg0.slots t 2)) fullShare ((loose m 0 c).before 2 t d))
    ∗ (∃ d, owns (c : Thread nD τ) (win0_3.stage (cfg0.slots t 3)) fullShare ((loose m 0 c).before 3 t d))
    ∗ (∃ d, owns (c : Thread nD τ) (win0_4.stage (cfg0.slots t 4)) fullShare d)
    ∗ (∃ d, owns (c : Thread nD τ) (win0_5.stage (cfg0.slots t 5)) fullShare d)
    ∗ (∃ d, owns (c : Thread nD τ) (win0_6.stage (cfg0.slots t 6)) fullShare d)))
    (Q := fun _ => iprop((loose m 0 c).Φ t.succ ∗ (loose m 0 c).owesAt () t.succ
    ∗ owns (c : Thread nD τ) (win0_0.stage (cfg0.slots t 0)) fullShare ((loose m 0 c).after 0 t)
    ∗ owns (c : Thread nD τ) (win0_1.stage (cfg0.slots t 1)) fullShare ((loose m 0 c).after 1 t)
    ∗ owns (c : Thread nD τ) (win0_2.stage (cfg0.slots t 2)) fullShare ((loose m 0 c).after 2 t)
    ∗ owns (c : Thread nD τ) (win0_3.stage (cfg0.slots t 3)) fullShare ((loose m 0 c).after 3 t)
    ∗ (∃ d, owns (c : Thread nD τ) (win0_4.stage (cfg0.slots t 4)) fullShare d)
    ∗ (∃ d, owns (c : Thread nD τ) (win0_5.stage (cfg0.slots t 5)) fullShare d)
    ∗ (∃ d, owns (c : Thread nD τ) (win0_6.stage (cfg0.slots t 6)) fullShare d))) ?_ rfl .rfl fun _ => .rfl
  simp only [e0, e1, e2, e3]
  rw [show (loose m 0 c).Φ t.succ = (Pipeline.ΦA spec0 c : sProp 𝕄) from rfl,
    show (loose m 0 c).Φ t.castSucc = (Pipeline.ΦA spec0 c : sProp 𝕄) from rfl,
    show (loose m 0 c).owesAt () t.succ = (loose m 0 c).owesAt () t.castSucc from rfl, PhiA_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((body_run c (grid0.coords t) _ _ _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  iintro ⟨H0, H1, H2, H3, H4, H5, H6, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The buffers the lines after the region write. -/
def tail : Finset (Ref sig .tc) := {main_v58, main_cst_11, main_v59, main_v60, main_v61, main_v62, main_v63}

/-- The lines after the region write no other buffer. -/
theorem tail_writes : ∀ ops ∈ ([hostOps1] : List (List (HloOp τ sig (Elt Ideal)))), ∀ op ∈ ops, ∀ b : Ref sig .tc,
    Proc.devRef .tc b ∈ op.writes → b ∈ tail := by
  intro ops hops op hop b hb
  simp only [List.mem_cons, List.mem_nil_iff, _root_.or_false] at hops
  subst hops
  simp only [hostOps1, List.mem_cons, List.mem_nil_iff, or_false] at hop
  rcases hop with rfl | rfl | rfl | rfl | rfl | rfl | rfl
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] at hb
    rw [Proc.devRef_injective _ hb]; decide

set_option backward.isDefEq.respectTransparency.types false in
/-- Every run ends with the arguments as they were and every counter at zero. -/
theorem quiescent : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_around_T_forget cfgs (loose m) (0 : Fin 1) launch0 defs₀ Variants.none forgets0 tail m ρ main
    (hbody := fun c => (loose_body m c).loose) (hshare := fun c => (loose m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := loose_A m) (hΦ := fun _ _ => rfl)
    (Q' := _) (hQ' := fun r h => by
      refine ⟨fun c => ⟨?_, ?_, ?_, ?_⟩, h.2⟩
      · exact ((h.1 c).2 main_arg0 (Finset.mem_sdiff.mpr ⟨Pipeline.mem_restRefs_of main_arg0 (by decide) (by decide), by decide⟩)).trans (V_main_arg0 m c)
      · exact ((h.1 c).2 main_arg1 (Finset.mem_sdiff.mpr ⟨Pipeline.mem_restRefs_of main_arg1 (by decide) (by decide), by decide⟩)).trans (V_main_arg1 m c)
      · exact ((h.1 c).2 main_arg2 (Finset.mem_sdiff.mpr ⟨Pipeline.mem_restRefs_of main_arg2 (by decide) (by decide), by decide⟩)).trans (V_main_arg2 m c)
      · exact ((h.1 c).2 main_arg3 (Finset.mem_sdiff.mpr ⟨Pipeline.mem_restRefs_of main_arg3 (by decide) (by decide), by decide⟩)).trans (V_main_arg3 m c))

end Cert.AttnIdeal.Gen

end
-- ==== Proof.AttnValue.lean ====
/- The backward pass of the attention on real numbers: what the windows hold point by point and the arrays at the end. -/
module

public import proofs.«01_k».proof.Proof.AttnFrame

@[expose] public section

set_option maxRecDepth 16384

noncomputable section

namespace Cert.AttnIdeal.Gen

open Idealize.ShloMosaic Idealize.ShloMosaic.TcCoe Idealize.ShloMosaic.Tactic Idealize.ShloMosaic.ValueIdx Cert.Proof.Reals
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

local notation "𝕄" => MT nD τ sig Unit (Elt Ideal) ℕ (UR sig nD τ) ℕ

/-- The array of the real numbers `g`. -/
def arr3 {a b c : ℕ} (g : ℕ → ℕ → ℕ → ℝ) : (⟨3, ![a, b, c]⟩ : Shape).Idx → EReal := fun i =>
  ((g (i 0).val (i 1).val (i 2).val : ℝ) : EReal)

/-- It holds them. -/
theorem is_arr3 {a b c : ℕ} (g : ℕ → ℕ → ℕ → ℝ) : Is3 (arr3 g : (⟨3, ![a, b, c]⟩ : Shape).Idx → EReal) g := fun _ _ _ => rfl

/-- An array that holds them is that array. -/
theorem eq_arr3 {a b c : ℕ} {x : (⟨3, ![a, b, c]⟩ : Shape).Idx → EReal} {g g' : ℕ → ℕ → ℕ → ℝ} (h : Is3 x g)
    (e : ∀ i j k, i < a → j < b → k < c → g i j k = g' i j k) : x = arr3 g' := by
  funext i
  rw [eq_ix3 i]
  exact h.congr e _ _ _

/-- The heads of the group of point `t`, from row `n` on. -/
def part (g : ℕ → ℕ → ℕ → ℝ) (t n : ℕ) (h j l : ℕ) : ℝ := g (4 * (t / 8) + h) (n + j) l

/-- The weight of key `j` for query `i`. -/
def prob (q k : ℕ → ℕ → ℕ → ℝ) (h i j : ℕ) : ℝ := if j ≤ i then (2 : ℝ) ^ score q k h i j else 0

/-- The gradient of the score of key `j` for query `i`. -/
def grad (q k v d : ℕ → ℕ → ℕ → ℝ) (h i j : ℕ) : ℝ := prob q k h i j * score d v h i j

/-- The gradient of the queries after the keys before `n`. -/
def dq (q k v d : ℕ → ℕ → ℕ → ℝ) (n h i l : ℕ) : ℝ := ∑ j ∈ Finset.range n, grad q k v d h i j * k h j l

/-- The gradient of the keys. -/
def dk (q k v d : ℕ → ℕ → ℕ → ℝ) (h j l : ℕ) : ℝ := ∑ i ∈ Finset.range 4096, grad q k v d h i j * q h i l

/-- The gradient of the values. -/
def dv (q k d : ℕ → ℕ → ℕ → ℝ) (h j l : ℕ) : ℝ := ∑ i ∈ Finset.range 4096, prob q k h i j * d h i l

/-- The lanes below 96 times the logarithm of two, and zero in the others. -/
def lanes (g : ℕ → ℕ → ℕ → ℝ) (h j l : ℕ) : ℝ := if l < 96 then g h j l * Real.log 2 else 0

/-- What the window of the queries' gradient holds after point `t`. -/
def dqAt (q k v d : ℕ → ℕ → ℕ → ℝ) (t : ℕ) : ℕ → ℕ → ℕ → ℝ :=
  if t % 8 = 7 then part (lanes (dq q k v d 4096)) t 0 else part (dq q k v d (512 * (t % 8) + 512)) t 0

/-- The block indices of the seven windows at each point. -/
theorem idx_facts : ∀ t : Fin cfg0.N, (grid0.coords t 1).val = t.val % 8
    ∧ (win0_0.index t (0 : Fin 3) = t.val / 8 ∧ win0_0.index t (1 : Fin 3) = 0 ∧ win0_0.index t (2 : Fin 3) = 0)
    ∧ (win0_1.index t (0 : Fin 3) = t.val / 8 ∧ win0_1.index t (1 : Fin 3) = t.val % 8 ∧ win0_1.index t (2 : Fin 3) = 0)
    ∧ (win0_2.index t (0 : Fin 3) = t.val / 8 ∧ win0_2.index t (1 : Fin 3) = t.val % 8 ∧ win0_2.index t (2 : Fin 3) = 0)
    ∧ (win0_3.index t (0 : Fin 3) = t.val / 8 ∧ win0_3.index t (1 : Fin 3) = 0 ∧ win0_3.index t (2 : Fin 3) = 0)
    ∧ (win0_4.index t (0 : Fin 3) = t.val / 8 ∧ win0_4.index t (1 : Fin 3) = 0 ∧ win0_4.index t (2 : Fin 3) = 0)
    ∧ (win0_5.index t (0 : Fin 3) = t.val / 8 ∧ win0_5.index t (1 : Fin 3) = t.val % 8 ∧ win0_5.index t (2 : Fin 3) = 0)
    ∧ (win0_6.index t (0 : Fin 3) = t.val / 8 ∧ win0_6.index t (1 : Fin 3) = t.val % 8 ∧ win0_6.index t (2 : Fin 3) = 0) :=
  (by decide +kernel : ∀ t : Fin grid0.N, _)

/-- The first condition of the body holds at the first block of keys only. -/
theorem first_row : ∀ i : grid0.Coords, cond0_0 i ↔ (i 1).val = 0 := by decide +kernel

/-- A sum over the rows from `o` on, where the rows before are zero, is the sum over all. -/
theorem sum_from {f : ℕ → ℝ} {o n N : ℕ} (hN : o + n = N) (h : ∀ i, i < o → f i = 0) :
    ∑ k ∈ Finset.range n, f (o + k) = ∑ i ∈ Finset.range N, f i := by
  subst hN
  rw [Finset.sum_range_add, Finset.sum_eq_zero (fun i hi => h i (Finset.mem_range.mp hi)), zero_add]

/-- A point's arithmetic: its results are the parts of the whole gradients. -/
theorem point_values {i : grid0.Coords} {t : ℕ} (ht : (i 1).val = t % 8) {q k v d : ℕ → ℕ → ℕ → ℝ}
    {x0 : Vec Ideal S4x4096x128 .bf16} {x1 x2 : Vec Ideal S4x512x128 .bf16} {x3 : Vec Ideal S4x4096x128 .bf16} {x4 y : Vec Ideal S4x4096x128 .f32}
    {e : Vec Ideal S4x512x128 .f32} {f : Vec Ideal S4x512x64 .f32} (hP : Point i x0 x1 x2 x3 x4 y e f)
    (h0 : Is3 x0 (part q t 0)) (h1 : Is3 x1 (part k t (512 * (t % 8)))) (h2 : Is3 x2 (part v t (512 * (t % 8)))) (h3 : Is3 x3 (part d t 0))
    (h4 : t % 8 ≠ 0 → Is3 x4 (dqAt q k v d (t - 1))) :
    y = arr3 (dqAt q k v d t) ∧ e = arr3 (part (lanes (dk q k v d)) t (512 * (t % 8))) ∧ f = arr3 (part (dv q k d) t (512 * (t % 8))) := by
  have h8 : t % 8 < 8 := Nat.mod_lt _ (by decide)
  have hw : ∀ h i j, weight (512 * (t % 8)) (part q t 0) (part k t (512 * (t % 8))) h i j = prob q k (4 * (t / 8) + h) i (512 * (t % 8) + j) := fun h i j => by
    unfold weight prob score part
    simp only [Nat.zero_add]
  have hg : ∀ h i j, weight (512 * (t % 8)) (part q t 0) (part k t (512 * (t % 8))) h i j * score (part d t 0) (part v t (512 * (t % 8))) h i j
      = grad q k v d (4 * (t / 8) + h) i (512 * (t % 8) + j) := fun h i j => by
    rw [hw]
    unfold grad score part
    simp only [Nat.zero_add]
  have hz : ∀ h i j, i < 512 * (t % 8) → prob q k h i (512 * (t % 8) + j) = 0 := fun h i j hi => if_neg (by omega)
  obtain ⟨hy, he, hf⟩ := hP _ _ _ _ (if t % 8 = 0 then fun _ _ _ => 0 else dqAt q k v d (t - 1)) h0 h1 h2 h3
    (fun hc => by
      have hc' : t % 8 ≠ 0 := fun h => hc ((first_row i).mpr (ht.trans h))
      rw [if_neg hc']; exact h4 hc')
    (fun hc => if_pos (ht ▸ (first_row i).mp hc))
  simp only [ht, hg] at hy he hf
  have hold : ∀ h j l, (if t % 8 = 0 then fun _ _ _ => 0 else dqAt q k v d (t - 1) : ℕ → ℕ → ℕ → ℝ) h j l = dq q k v d (512 * (t % 8)) (4 * (t / 8) + h) j l := fun h j l => by
    by_cases hc : t % 8 = 0
    · rw [if_pos hc, hc]; simp [dq]
    · rw [if_neg hc]
      unfold dqAt
      rw [if_neg (by omega)]
      unfold part
      rw [show 512 * ((t - 1) % 8) + 512 = 512 * (t % 8) by omega, show (t - 1) / 8 = t / 8 by omega, Nat.zero_add]
  have hsum : ∀ h j l, dq q k v d (512 * (t % 8)) (4 * (t / 8) + h) j l
        + rowSum (fun h i j => grad q k v d (4 * (t / 8) + h) i (512 * (t % 8) + j)) (part k t (512 * (t % 8))) 0 512 h j l
      = dq q k v d (512 * (t % 8) + 512) (4 * (t / 8) + h) j l := fun h j l => by
    unfold dq rowSum part
    rw [Finset.sum_range_add]
    simp only [Nat.zero_add]
  refine ⟨eq_arr3 hy fun h j l hh hj hl => ?_, eq_arr3 he fun h j l hh hj hl => ?_, eq_arr3 hf fun h j l hh hj hl => ?_⟩
  · simp only [hold, hsum]
    unfold dqAt
    by_cases h7 : t % 8 = 7
    · simp only [if_pos h7]
      unfold part lanes
      rw [h7, Nat.zero_add]
    · simp only [if_neg h7]
      unfold part
      rw [Nat.zero_add]
  · unfold part lanes
    refine if_congr Iff.rfl (congrArg (· * Real.log 2) ?_) rfl
    unfold colSum dk
    simp only [Nat.zero_add]
    exact sum_from (f := fun i => grad q k v d (4 * (t / 8) + h) i (512 * (t % 8) + j) * q (4 * (t / 8) + h) i l) (by omega)
      fun i hi => by unfold grad; rw [hz _ _ _ hi, zero_mul, zero_mul]
  · show _ = dv q k d (4 * (t / 8) + h) (512 * (t % 8) + j) l
    unfold colSum dv
    simp only [hw, part, Nat.zero_add]
    exact sum_from (f := fun i => prob q k (4 * (t / 8) + h) i (512 * (t % 8) + j) * d (4 * (t / 8) + h) i l) (by omega)
      fun i hi => by rw [hz _ _ _ hi, zero_mul]

variable (m : (ℓ : Loc nD τ sig) → Buf (Elt Ideal) ℓ) (ρ : Dev nD → PrngReg)
variable (q k v d : Dev nD → ℕ → ℕ → ℕ → ℝ)

/-- What the windows hold after each point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (arr3 (dqAt (q c) (k c) (v c) (d c) t.val) : S4x4096x128.Idx → EReal)
    | ⟨5, _⟩ => (arr3 (part (lanes (dk (q c) (k c) (v c) (d c))) t.val (512 * (t.val % 8))) : S4x512x128.Idx → EReal)
    | ⟨6, _⟩ => (arr3 (part (dv (q c) (k c) (d c)) t.val (512 * (t.val % 8))) : S4x512x64.Idx → EReal)
  Φ _ := Pipeline.ΦA spec0 c
  q _ := fullShare
  owed _ := 0

/-- The arrays are those the region is entered with. -/
theorem A_eq (c : Dev nD) (w : Fin cfg0.W) : (dats m q k v d 0 c).A w = V m c (Pipeline.arrRef spec0 w) := by
  dsimp only [dats]

/-- The arrays the region is entered with hold the real numbers. -/
structure Entry : Prop where
  q : ∀ c, Is3 (V m c main_v40 : S8x4096x128.Idx → EReal) (q c)
  k : ∀ c, Is3 (V m c main_v44 : S8x4096x128.Idx → EReal) (k c)
  v : ∀ c, Is3 (V m c main_v47 : S8x4096x128.Idx → EReal) (v c)
  d : ∀ c, Is3 (V m c main_v56 : S8x4096x128.Idx → EReal) (d c)

variable {m q k v d}

/-- The block of window 0 at point `t`. -/
theorem blk0 (H : Entry m q k v d) (c : Dev nD) (t : Fin cfg0.N) : Is3 (iblk m c 0 t : S4x4096x128.Idx → EReal) (part (q c) t.val 0) := fun h j l => by
  obtain ⟨-, F⟩ := idx_facts t
  have hN : t.val < 16 := lt_of_lt_of_eq t.isLt (show cfg0.N = 16 from N_0)
  have hh := h.isLt
  have hj := j.isLt
  refine Eq.trans (congrArg (V m c main_v40) (funext fun a => Fin.ext ?_)) (H.q c ⟨4 * (t.val / 8) + h.val, by omega⟩ ⟨0 + j.val, by omega⟩ l)
  match a with
  | ⟨0, _⟩ => show win0_0.index t (0 : Fin 3) * 4 + 1 * h.val = 4 * (t.val / 8) + h.val; omega
  | ⟨1, _⟩ => show win0_0.index t (1 : Fin 3) * 4096 + 1 * j.val = 0 + j.val; omega
  | ⟨2, _⟩ => show win0_0.index t (2 : Fin 3) * 128 + 1 * l.val = l.val; omega

/-- The block of window 1 at point `t`. -/
theorem blk1 (H : Entry m q k v d) (c : Dev nD) (t : Fin cfg0.N) : Is3 (iblk m c 1 t : S4x512x128.Idx → EReal) (part (k c) t.val (512 * (t.val % 8))) := fun h j l => by
  obtain ⟨-, F⟩ := idx_facts t
  have hN : t.val < 16 := lt_of_lt_of_eq t.isLt (show cfg0.N = 16 from N_0)
  have hh := h.isLt
  have hj := j.isLt
  refine Eq.trans (congrArg (V m c main_v44) (funext fun a => Fin.ext ?_)) (H.k c ⟨4 * (t.val / 8) + h.val, by omega⟩ ⟨(512 * (t.val % 8)) + j.val, by omega⟩ l)
  match a with
  | ⟨0, _⟩ => show win0_1.index t (0 : Fin 3) * 4 + 1 * h.val = 4 * (t.val / 8) + h.val; omega
  | ⟨1, _⟩ => show win0_1.index t (1 : Fin 3) * 512 + 1 * j.val = (512 * (t.val % 8)) + j.val; omega
  | ⟨2, _⟩ => show win0_1.index t (2 : Fin 3) * 128 + 1 * l.val = l.val; omega

/-- The block of window 2 at point `t`. -/
theorem blk2 (H : Entry m q k v d) (c : Dev nD) (t : Fin cfg0.N) : Is3 (iblk m c 2 t : S4x512x128.Idx → EReal) (part (v c) t.val (512 * (t.val % 8))) := fun h j l => by
  obtain ⟨-, F⟩ := idx_facts t
  have hN : t.val < 16 := lt_of_lt_of_eq t.isLt (show cfg0.N = 16 from N_0)
  have hh := h.isLt
  have hj := j.isLt
  refine Eq.trans (congrArg (V m c main_v47) (funext fun a => Fin.ext ?_)) (H.v c ⟨4 * (t.val / 8) + h.val, by omega⟩ ⟨(512 * (t.val % 8)) + j.val, by omega⟩ l)
  match a with
  | ⟨0, _⟩ => show win0_2.index t (0 : Fin 3) * 4 + 1 * h.val = 4 * (t.val / 8) + h.val; omega
  | ⟨1, _⟩ => show win0_2.index t (1 : Fin 3) * 512 + 1 * j.val = (512 * (t.val % 8)) + j.val; omega
  | ⟨2, _⟩ => show win0_2.index t (2 : Fin 3) * 128 + 1 * l.val = l.val; omega

/-- The block of window 3 at point `t`. -/
theorem blk3 (H : Entry m q k v d) (c : Dev nD) (t : Fin cfg0.N) : Is3 (iblk m c 3 t : S4x4096x128.Idx → EReal) (part (d c) t.val 0) := fun h j l => by
  obtain ⟨-, F⟩ := idx_facts t
  have hN : t.val < 16 := lt_of_lt_of_eq t.isLt (show cfg0.N = 16 from N_0)
  have hh := h.isLt
  have hj := j.isLt
  refine Eq.trans (congrArg (V m c main_v56) (funext fun a => Fin.ext ?_)) (H.d c ⟨4 * (t.val / 8) + h.val, by omega⟩ ⟨0 + j.val, by omega⟩ l)
  match a with
  | ⟨0, _⟩ => show win0_3.index t (0 : Fin 3) * 4 + 1 * h.val = 4 * (t.val / 8) + h.val; omega
  | ⟨1, _⟩ => show win0_3.index t (1 : Fin 3) * 4096 + 1 * j.val = 0 + j.val; omega
  | ⟨2, _⟩ => show win0_3.index t (2 : Fin 3) * 128 + 1 * l.val = l.val; omega

/-- The window of the queries' gradient is found as the point before left it. -/
theorem before4 (c : Dev nD) (t : Fin cfg0.N) (ht : t.val % 8 ≠ 0) (x) :
    (dats m q k v d 0 c).before 4 t x = (arr3 (dqAt (q c) (k c) (v c) (d c) (t.val - 1)) : S4x4096x128.Idx → EReal) := by
  rw [(dats m q k v d 0 c).before_out_kept 4 rfl t (fun h => ht (by rw [h])) (Bool.eq_false_iff.mpr fun h => by
    have := (flush0_4 _).mp h
    dsimp only at this
    omega) (fun _ => rfl) (fun _ _ => rfl) x]
  rfl

set_option maxHeartbeats 2400000 in
/-- The body leaves at every point what is claimed. -/
theorem body (H : Entry m q k v d) (c : Dev nD) : BodyObligation (dats m q k v d 0 c) (defs₀ (F := Ideal)) Variants.none () Set.univ := fun t => by
  have e0 := before0_0_of m (dats m q k v d 0 c) (A_eq m q k v d c 0) (fun _ => rfl) t
  have e1 := before0_1_of m (dats m q k v d 0 c) (A_eq m q k v d c 1) (fun _ => rfl) t
  have e2 := before0_2_of m (dats m q k v d 0 c) (A_eq m q k v d c 2) (fun _ => rfl) t
  have e3 := before0_3_of m (dats m q k v d 0 c) (A_eq m q k v d c 3) (fun _ => rfl) t
  rw [bigSep_W0, bigSep_W0, defs₀_row]
  refine triple_restated (P := iprop((dats m q k v d 0 c).Φ t.castSucc ∗ (dats m q k v d 0 c).owesAt () t.castSucc
    ∗ (∃ z, owns (c : Thread nD τ) (win0_0.stage (cfg0.slots t 0)) fullShare ((dats m q k v d 0 c).before 0 t z))
    ∗ (∃ z, owns (c : Thread nD τ) (win0_1.stage (cfg0.slots t 1)) fullShare ((dats m q k v d 0 c).before 1 t z))
    ∗ (∃ z, owns (c : Thread nD τ) (win0_2.stage (cfg0.slots t 2)) fullShare ((dats m q k v d 0 c).before 2 t z))
    ∗ (∃ z, owns (c : Thread nD τ) (win0_3.stage (cfg0.slots t 3)) fullShare ((dats m q k v d 0 c).before 3 t z))
    ∗ (∃ z, owns (c : Thread nD τ) (win0_4.stage (cfg0.slots t 4)) fullShare ((dats m q k v d 0 c).before 4 t z))
    ∗ (∃ z, owns (c : Thread nD τ) (win0_5.stage (cfg0.slots t 5)) fullShare ((dats m q k v d 0 c).before 5 t z))
    ∗ (∃ z, owns (c : Thread nD τ) (win0_6.stage (cfg0.slots t 6)) fullShare ((dats m q k v d 0 c).before 6 t z))))
    (Q := fun _ => iprop((dats m q k v d 0 c).Φ t.succ ∗ (dats m q k v d 0 c).owesAt () t.succ
    ∗ owns (c : Thread nD τ) (win0_0.stage (cfg0.slots t 0)) fullShare ((dats m q k v d 0 c).after 0 t)
    ∗ owns (c : Thread nD τ) (win0_1.stage (cfg0.slots t 1)) fullShare ((dats m q k v d 0 c).after 1 t)
    ∗ owns (c : Thread nD τ) (win0_2.stage (cfg0.slots t 2)) fullShare ((dats m q k v d 0 c).after 2 t)
    ∗ owns (c : Thread nD τ) (win0_3.stage (cfg0.slots t 3)) fullShare ((dats m q k v d 0 c).after 3 t)
    ∗ owns (c : Thread nD τ) (win0_4.stage (cfg0.slots t 4)) fullShare ((dats m q k v d 0 c).after 4 t)
    ∗ owns (c : Thread nD τ) (win0_5.stage (cfg0.slots t 5)) fullShare ((dats m q k v d 0 c).after 5 t)
    ∗ owns (c : Thread nD τ) (win0_6.stage (cfg0.slots t 6)) fullShare ((dats m q k v d 0 c).after 6 t))) ?_ rfl .rfl fun _ => .rfl
  simp only [e0, e1, e2, e3]
  rw [show (dats m q k v d 0 c).Φ t.succ = (Pipeline.ΦA spec0 c : sProp 𝕄) from rfl,
    show (dats m q k v d 0 c).Φ t.castSucc = (Pipeline.ΦA spec0 c : sProp 𝕄) from rfl,
    show (dats m q k v d 0 c).owesAt () t.succ = (dats m q k v d 0 c).owesAt () t.castSucc from rfl, PhiA_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((point_run c (grid0.coords t) _ _ _ _ _ _ _ _ _ _ _ _ _ _ _ _ (iblk m c 0 t) (iblk m c 1 t) (iblk m c 2 t) (iblk m c 3 t) ((dats m q k v d 0 c).before 4 t d4)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  iintro ⟨H0, H1, H2, H3, ⟨%y, %e, %f, %hP, H4, H5, H6⟩, HS0⟩
  obtain ⟨rfl, rfl, rfl⟩ := point_values (idx_facts t).1 hP (blk0 H c t) (blk1 H c t) (blk2 H c t) (blk3 H c t)
    (fun h => by rw [before4 c t h]; exact is_arr3 _)
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The queries' gradient at the end. -/
theorem final4 (c : Dev nD) : (dats m q k v d 0 c).arrAt 4 cfg0.N = (arr3 (lanes (dq (q c) (k c) (v c) (d c) 4096)) : S8x4096x128.Idx → EReal) := by
  refine (dats m q k v d 0 c).arrAt_eq_of_cover 4 (arr3 (lanes (dq (q c) (k c) (v c) (d c) 4096)) : S8x4096x128.Idx → EReal) (fun t ht => ?_) (fun i => ?_)
  · obtain ⟨-, F⟩ := idx_facts t
    have h7 := (flush0_4 t).mp ht
    funext y
    obtain ⟨h, j, l, rfl⟩ : ∃ (h : Fin 4) (j : Fin 4096) (l : Fin 128), y = ix3 h j l := ⟨y 0, y 1, y 2, eq_ix3 _⟩
    have q0 : ((win0_4.blk t).view.emb (ix3 h j l) (0 : Fin 3)).val = 4 * (t.val / 8) + h.val := by
      show win0_4.index t (0 : Fin 3) * 4 + 1 * h.val = 4 * (t.val / 8) + h.val
      omega
    have q1 : ((win0_4.blk t).view.emb (ix3 h j l) (1 : Fin 3)).val = 0 + j.val := by
      show win0_4.index t (1 : Fin 3) * 4096 + 1 * j.val = 0 + j.val
      omega
    have q2 : ((win0_4.blk t).view.emb (ix3 h j l) (2 : Fin 3)).val = l.val := by
      show win0_4.index t (2 : Fin 3) * 128 + 1 * l.val = l.val
      omega
    show (arr3 (dqAt (q c) (k c) (v c) (d c) t.val) : S4x4096x128.Idx → EReal) (ix3 h j l) = (arr3 (lanes (dq (q c) (k c) (v c) (d c) 4096)) : S8x4096x128.Idx → EReal) ((win0_4.blk t).view.emb (ix3 h j l))
    unfold dqAt
    rw [if_pos h7]
    unfold arr3
    rw [q0, q1, q2]
    rfl
  · have hN : cfg0.N = 16 := N_0
    have h0 : (i 0 : Nat) < 8 := (i 0).isLt
    have h1 : (i 1 : Nat) < 4096 := (i 1).isLt
    have h2 : (i 2 : Nat) < 128 := (i 2).isLt
    obtain ⟨t, ht⟩ : ∃ t : Fin cfg0.N, t.val = 8 * ((i 0 : Nat) / 4) + 7 := ⟨⟨8 * ((i 0 : Nat) / 4) + 7, by omega⟩, rfl⟩
    obtain ⟨-, F⟩ := idx_facts t
    refine ⟨t, (flush0_4 _).mpr (by omega), ?_⟩
    show i ∈ ((View.whole main_v57_0).slice (win0_4.rect t)).set
    rw [View.set_slice_whole, Rect.mem_set_unit]
    intro a
    match a with
    | ⟨0, _⟩ => show win0_4.index t (0 : Fin 3) * 4 ≤ (i 0 : Nat) ∧ (i 0 : Nat) < win0_4.index t (0 : Fin 3) * 4 + 4; omega
    | ⟨1, _⟩ => show win0_4.index t (1 : Fin 3) * 4096 ≤ (i 1 : Nat) ∧ (i 1 : Nat) < win0_4.index t (1 : Fin 3) * 4096 + 4096; omega
    | ⟨2, _⟩ => show win0_4.index t (2 : Fin 3) * 128 ≤ (i 2 : Nat) ∧ (i 2 : Nat) < win0_4.index t (2 : Fin 3) * 128 + 128; omega

/-- The keys' gradient at the end. -/
theorem final5 (c : Dev nD) : (dats m q k v d 0 c).arrAt 5 cfg0.N = (arr3 (lanes (dk (q c) (k c) (v c) (d c))) : S8x4096x128.Idx → EReal) := by
  refine (dats m q k v d 0 c).arrAt_eq_of_cover 5 (arr3 (lanes (dk (q c) (k c) (v c) (d c))) : S8x4096x128.Idx → EReal) (fun t ht => ?_) (fun i => ?_)
  · obtain ⟨-, F⟩ := idx_facts t
    funext y
    obtain ⟨h, j, l, rfl⟩ : ∃ (h : Fin 4) (j : Fin 512) (l : Fin 128), y = ix3 h j l := ⟨y 0, y 1, y 2, eq_ix3 _⟩
    have q0 : ((win0_5.blk t).view.emb (ix3 h j l) (0 : Fin 3)).val = 4 * (t.val / 8) + h.val := by
      show win0_5.index t (0 : Fin 3) * 4 + 1 * h.val = 4 * (t.val / 8) + h.val
      omega
    have q1 : ((win0_5.blk t).view.emb (ix3 h j l) (1 : Fin 3)).val = (512 * (t.val % 8)) + j.val := by
      show win0_5.index t (1 : Fin 3) * 512 + 1 * j.val = (512 * (t.val % 8)) + j.val
      omega
    have q2 : ((win0_5.blk t).view.emb (ix3 h j l) (2 : Fin 3)).val = l.val := by
      show win0_5.index t (2 : Fin 3) * 128 + 1 * l.val = l.val
      omega
    show (arr3 (part (lanes (dk (q c) (k c) (v c) (d c))) t.val (512 * (t.val % 8))) : S4x512x128.Idx → EReal) (ix3 h j l) = (arr3 (lanes (dk (q c) (k c) (v c) (d c))) : S8x4096x128.Idx → EReal) ((win0_5.blk t).view.emb (ix3 h j l))
    unfold arr3
    rw [q0, q1, q2]
    rfl
  · have hN : cfg0.N = 16 := N_0
    have h0 : (i 0 : Nat) < 8 := (i 0).isLt
    have h1 : (i 1 : Nat) < 4096 := (i 1).isLt
    have h2 : (i 2 : Nat) < 128 := (i 2).isLt
    obtain ⟨t, ht⟩ : ∃ t : Fin cfg0.N, t.val = 8 * ((i 0 : Nat) / 4) + (i 1 : Nat) / 512 := ⟨⟨8 * ((i 0 : Nat) / 4) + (i 1 : Nat) / 512, by omega⟩, rfl⟩
    obtain ⟨-, F⟩ := idx_facts t
    refine ⟨t, flush0_5 _, ?_⟩
    show i ∈ ((View.whole main_v57_1).slice (win0_5.rect t)).set
    rw [View.set_slice_whole, Rect.mem_set_unit]
    intro a
    match a with
    | ⟨0, _⟩ => show win0_5.index t (0 : Fin 3) * 4 ≤ (i 0 : Nat) ∧ (i 0 : Nat) < win0_5.index t (0 : Fin 3) * 4 + 4; omega
    | ⟨1, _⟩ => show win0_5.index t (1 : Fin 3) * 512 ≤ (i 1 : Nat) ∧ (i 1 : Nat) < win0_5.index t (1 : Fin 3) * 512 + 512; omega
    | ⟨2, _⟩ => show win0_5.index t (2 : Fin 3) * 128 ≤ (i 2 : Nat) ∧ (i 2 : Nat) < win0_5.index t (2 : Fin 3) * 128 + 128; omega

/-- The values' gradient at the end. -/
theorem final6 (c : Dev nD) : (dats m q k v d 0 c).arrAt 6 cfg0.N = (arr3 (dv (q c) (k c) (d c)) : S8x4096x64.Idx → EReal) := by
  refine (dats m q k v d 0 c).arrAt_eq_of_cover 6 (arr3 (dv (q c) (k c) (d c)) : S8x4096x64.Idx → EReal) (fun t ht => ?_) (fun i => ?_)
  · obtain ⟨-, F⟩ := idx_facts t
    funext y
    obtain ⟨h, j, l, rfl⟩ : ∃ (h : Fin 4) (j : Fin 512) (l : Fin 64), y = ix3 h j l := ⟨y 0, y 1, y 2, eq_ix3 _⟩
    have q0 : ((win0_6.blk t).view.emb (ix3 h j l) (0 : Fin 3)).val = 4 * (t.val / 8) + h.val := by
      show win0_6.index t (0 : Fin 3) * 4 + 1 * h.val = 4 * (t.val / 8) + h.val
      omega
    have q1 : ((win0_6.blk t).view.emb (ix3 h j l) (1 : Fin 3)).val = (512 * (t.val % 8)) + j.val := by
      show win0_6.index t (1 : Fin 3) * 512 + 1 * j.val = (512 * (t.val % 8)) + j.val
      omega
    have q2 : ((win0_6.blk t).view.emb (ix3 h j l) (2 : Fin 3)).val = l.val := by
      show win0_6.index t (2 : Fin 3) * 64 + 1 * l.val = l.val
      omega
    show (arr3 (part (dv (q c) (k c) (d c)) t.val (512 * (t.val % 8))) : S4x512x64.Idx → EReal) (ix3 h j l) = (arr3 (dv (q c) (k c) (d c)) : S8x4096x64.Idx → EReal) ((win0_6.blk t).view.emb (ix3 h j l))
    unfold arr3
    rw [q0, q1, q2]
    rfl
  · have hN : cfg0.N = 16 := N_0
    have h0 : (i 0 : Nat) < 8 := (i 0).isLt
    have h1 : (i 1 : Nat) < 4096 := (i 1).isLt
    have h2 : (i 2 : Nat) < 64 := (i 2).isLt
    obtain ⟨t, ht⟩ : ∃ t : Fin cfg0.N, t.val = 8 * ((i 0 : Nat) / 4) + (i 1 : Nat) / 512 := ⟨⟨8 * ((i 0 : Nat) / 4) + (i 1 : Nat) / 512, by omega⟩, rfl⟩
    obtain ⟨-, F⟩ := idx_facts t
    refine ⟨t, flush0_6 _, ?_⟩
    show i ∈ ((View.whole main_v57_2).slice (win0_6.rect t)).set
    rw [View.set_slice_whole, Rect.mem_set_unit]
    intro a
    match a with
    | ⟨0, _⟩ => show win0_6.index t (0 : Fin 3) * 4 ≤ (i 0 : Nat) ∧ (i 0 : Nat) < win0_6.index t (0 : Fin 3) * 4 + 4; omega
    | ⟨1, _⟩ => show win0_6.index t (1 : Fin 3) * 512 ≤ (i 1 : Nat) ∧ (i 1 : Nat) < win0_6.index t (1 : Fin 3) * 512 + 512; omega
    | ⟨2, _⟩ => show win0_6.index t (2 : Fin 3) * 64 ≤ (i 2 : Nat) ∧ (i 2 : Nat) < win0_6.index t (2 : Fin 3) * 64 + 64; omega

set_option backward.isDefEq.respectTransparency.types false in
/-- Every run ends with the arrays of the windows as claimed and the lines after the region done. -/
theorem run (H : Entry m q k v d) : θ_run defs (onTc (τ := τ) (main (F := Ideal))) (s₀ m ρ)
    (Pipeline.FramePost cfgs (dats m q k v d) 0 (Pipeline.afterTail₀ cfgs (dats m q k v d) 0 (V0 m) [hostOps1])) :=
  Pipeline.θ_run_frame_around cfgs (dats m q k v d) (0 : Fin 1) launch0 defs₀ Variants.none m ρ main
    (hbody := fun c => (body H c).loose) (hshare := fun c => (dats m q k v d 0 c).share_full fun _ => rfl)
    (howed := fun _ _ => rfl) (V₀ := V0 m) (opss := [hostOps1]) (hsub := sfx_sub) (hfresh := sfx_fresh) (hkeep := sfx_keeps)
    (hmain := hmain m Variants.none) (hA := A_eq m q k v d) (hΦ := fun _ _ => rfl)

end Cert.AttnIdeal.Gen

end
-- ==== Proof.HostReals.lean ====
/- What the operations of a program outside its kernels make of arrays that hold real numbers, the numbers given as
   functions of the coordinates. -/
module

public import proofs.«01_k».proof.Proof.Reals
public import Idealize.ShloMosaic.Lib.Pointwise.SelectCore
public import Idealize.ShloMosaic.Lib.Pipeline.Value
public import Idealize.ShloMosaic.PureOps.Reduce
public import Idealize.ShloMosaic.PureOps.Ideal.Laws

@[expose] public section

noncomputable section

namespace Cert.Proof.Reals

open Idealize.ShloMosaic hiding ix1 ix2 ix3
open Idealize.ShloMosaic.ValueIdx
open scoped BigOperators

/-- The scalar `x` is the real number `r`. -/
def Is0 (x : (⟨0, ![]⟩ : Shape).Idx → EReal) (r : ℝ) : Prop := ∀ i, x i = ((r : ℝ) : EReal)

section Pointwise

variable {a b c : ℕ} {φ : FTy} {x y : FVec Ideal ⟨3, ![a, b, c]⟩ φ} {g h : ℕ → ℕ → ℕ → ℝ}

/-- A product, number by number. -/
theorem Is3.mulf (hx : Is3 x g) (hy : Is3 y h) : Is3 (mulf x y) fun i j k => g i j k * h i j k := fun i j k =>
  (congrArg₂ (· * ·) (hx i j k) (hy i j k)).trans (EReal.coe_mul _ _).symm

/-- A sum. -/
theorem Is3.addf (hx : Is3 x g) (hy : Is3 y h) : Is3 (addf x y) fun i j k => g i j k + h i j k := fun i j k =>
  (congrArg₂ (· + ·) (hx i j k) (hy i j k)).trans (EReal.coe_add _ _).symm

/-- A difference. -/
theorem Is3.subf (hx : Is3 x g) (hy : Is3 y h) : Is3 (subf x y) fun i j k => g i j k - h i j k := fun i j k =>
  (congrArg₂ (· - ·) (hx i j k) (hy i j k)).trans (EReal.coe_sub _ _).symm

/-- A negative. -/
theorem Is3.negf (hx : Is3 x g) : Is3 (Host.negf x) fun i j k => -g i j k := fun i j k =>
  (congrArg (- ·) (hx i j k)).trans (EReal.coe_neg _).symm

/-- A quotient of real numbers. -/
theorem div_real (r s : ℝ) (hs : s ≠ 0) : Ideal.div (r : EReal) (s : EReal) = ((r / s : ℝ) : EReal) := by
  rw [Ideal.div_coe hs, ← EReal.coe_mul, mul_one_div]

/-- A quotient by numbers that are not zero. -/
theorem Is3.divf (hx : Is3 x g) (hy : Is3 y h) (hn : ∀ i j k, i < a → j < b → k < c → h i j k ≠ 0) :
    Is3 (Host.divf x y) fun i j k => g i j k / h i j k := fun i j k =>
  (congrArg₂ Ideal.div (hx i j k) (hy i j k)).trans (div_real _ _ (hn _ _ _ i.isLt j.isLt k.isLt))

/-- Logarithms of positive numbers. -/
theorem Is3.log (hx : Is3 x g) (hp : ∀ i j k, i < a → j < b → k < c → 0 < g i j k) :
    Is3 (Host.log x) fun i j k => Real.log (g i j k) := fun i j k => by
  show Ideal.log (x (ix3 i j k)) = _
  rw [hx, Ideal.log_coe, if_neg (not_le.mpr (hp _ _ _ i.isLt j.isLt k.isLt))]

/-- A number put at every place. -/
theorem Is3.splat {z : FVec Ideal ⟨0, ![]⟩ φ} {r : ℝ} (hz : Is0 z r) (hb : (⟨0, ![]⟩ : Shape).BroadcastsInDim ⟨3, ![a, b, c]⟩ ![]) :
    Is3 (broadcastInDim ⟨3, ![a, b, c]⟩ ![] hb z) fun _ _ _ => r := fun _ _ _ => hz _

end Pointwise

/-- A matrix given a last axis of one. -/
theorem Is2.unit {a b : ℕ} {φ : FTy} {x : FVec Ideal ⟨2, ![a, b]⟩ φ} {g : ℕ → ℕ → ℝ} (hx : Is2 x g)
    (hb : (⟨2, ![a, b]⟩ : Shape).BroadcastsInDim ⟨3, ![a, b, 1]⟩ ![0, 1]) :
    Is3 (broadcastInDim ⟨3, ![a, b, 1]⟩ ![0, 1] hb x) fun i j _ => g i j := fun i j k => by
  rw [broadcastInDim_apply _ hb x (ix3 i j k) (ix2 i j), hx]
  intro q
  match q with
  | ⟨0, _⟩ => show i.val = if a = 1 then 0 else i.val; split <;> omega
  | ⟨1, _⟩ => show j.val = if b = 1 then 0 else j.val; split <;> omega

/-- The same by a change of shape. -/
theorem Is2.cast {a b : ℕ} {φ : FTy} {x : FVec Ideal ⟨2, ![a, b]⟩ φ} {g : ℕ → ℕ → ℝ} (hx : Is2 x g)
    (hb : (⟨2, ![a, b]⟩ : Shape).ShapeCasts ⟨3, ![a, b, 1]⟩) :
    Is3 (shapeCast ⟨3, ![a, b, 1]⟩ x hb) fun i j _ => g i j := fun i j k => by
  rw [shapeCast_apply x hb (ix3 i j k) (ix2 i j), hx]
  rw [Shape.rowMajor_val_two, Shape.rowMajor_val_three]
  show i.val * b + j.val = (i.val * b + j.val) * 1 + k.val
  omega

/-- A matrix repeated along a last axis. -/
theorem Is2.rows {a b c : ℕ} {φ : FTy} {x : FVec Ideal ⟨2, ![a, b]⟩ φ} {g : ℕ → ℕ → ℝ} (hx : Is2 x g)
    (hb : (⟨2, ![a, b]⟩ : Shape).BroadcastsInDim ⟨3, ![a, b, c]⟩ ![0, 1]) :
    Is3 (broadcastInDim ⟨3, ![a, b, c]⟩ ![0, 1] hb x) fun i j _ => g i j := fun i j k => by
  rw [broadcastInDim_apply _ hb x (ix3 i j k) (ix2 i j), hx]
  intro q
  match q with
  | ⟨0, _⟩ => show i.val = if a = 1 then 0 else i.val; split <;> omega
  | ⟨1, _⟩ => show j.val = if b = 1 then 0 else j.val; split <;> omega

/-- An array whose last axis is one repeated along it. -/
theorem Is3.rows {a b c : ℕ} {φ : FTy} {x : FVec Ideal ⟨3, ![a, b, 1]⟩ φ} {g : ℕ → ℕ → ℝ}
    (hx : Is3 x fun i j _ => g i j) (hb : (⟨3, ![a, b, 1]⟩ : Shape).BroadcastsInDim ⟨3, ![a, b, c]⟩ ![0, 1, 2]) :
    Is3 (broadcastInDim ⟨3, ![a, b, c]⟩ ![0, 1, 2] hb x) fun i j _ => g i j := fun i j k => by
  rw [broadcastInDim_apply _ hb x (ix3 i j k) (ix3 i j 0), hx]
  intro q
  match q with
  | ⟨0, _⟩ => show i.val = if a = 1 then 0 else i.val; split <;> omega
  | ⟨1, _⟩ => show j.val = if b = 1 then 0 else j.val; split <;> omega
  | ⟨2, _⟩ => rfl

/-- The last two axes exchanged. -/
theorem Is3.swap {a b c : ℕ} {φ : FTy} {x : FVec Ideal ⟨3, ![a, b, c]⟩ φ} {g : ℕ → ℕ → ℕ → ℝ} (hx : Is3 x g)
    (ht : (⟨3, ![a, b, c]⟩ : Shape).Transposes [0, 2, 1] ⟨3, ![a, c, b]⟩) :
    Is3 (transpose ⟨3, ![a, c, b]⟩ [0, 2, 1] x ht) fun i j k => g i k j := fun i j k => by
  rw [transpose_apply _ x ht (ix3 i j k) (ix3 i k j), hx]
  intro q
  match q with
  | ⟨0, _⟩ => rfl
  | ⟨1, _⟩ => rfl
  | ⟨2, _⟩ => rfl

/-- The first `d` of the last axis. -/
theorem Is3.first {a b c d : ℕ} {φ : FTy} {x : FVec Ideal ⟨3, ![a, b, c]⟩ φ} {g : ℕ → ℕ → ℕ → ℝ} (hx : Is3 x g)
    (hs : (⟨3, ![a, b, c]⟩ : Shape).Slices ![0, 0, 0] ⟨3, ![a, b, d]⟩) (hd : d ≤ c) :
    Is3 (extractStridedSlice ⟨3, ![a, b, d]⟩ ![0, 0, 0] x hs) g := fun i j k => by
  rw [extractStridedSlice_apply _ x hs (ix3 i j k) (ix3 i j ⟨k.val, by omega⟩), hx]
  intro q
  match q with
  | ⟨0, _⟩ => exact (Nat.zero_add _).symm
  | ⟨1, _⟩ => exact (Nat.zero_add _).symm
  | ⟨2, _⟩ => exact (Nat.zero_add _).symm

/-- The sum along the last axis. -/
theorem Is3.sum {a b c : ℕ} {φ : FTy} {x : FVec Ideal ⟨3, ![a, b, c]⟩ φ} {z : FVec Ideal ⟨0, ![]⟩ φ} {g : ℕ → ℕ → ℕ → ℝ}
    (hx : Is3 x g) (hz : Is0 z 0) (hr : (⟨3, ![a, b, c]⟩ : Shape).ReducesTo [2] ⟨2, ![a, b]⟩)
    (h : (⟨3, ![a, b, c]⟩ : Shape).Reduces [2] ⟨2, ![a, b]⟩) (hu : 0 < (⟨0, ![]⟩ : Shape).numel) :
    Is2 (Host.reduceAdd x z hr hu) fun i j => ∑ k ∈ Finset.range c, g i j k := fun i j => by
  simp only [Host.reduceAdd, Ideal.hostReduceAdd_def]
  rw [Ideal.hostReduceAdd_single hr h, hz, EReal.coe_zero, zero_add, ← sum_coe]
  refine Finset.sum_congr rfl fun k _ => ?_
  refine (congrArg x (funext fun q => Fin.ext ?_)).trans (hx i j k)
  match q with
  | ⟨0, _⟩ => rfl
  | ⟨1, _⟩ => rfl
  | ⟨2, _⟩ => rfl

/-- The largest of the numbers `s h i 0 … s h i i`. -/
def top (s : ℕ → ℕ → ℕ → ℝ) (h i : ℕ) : ℝ :=
  (Finset.range (i + 1)).sup' ⟨0, Finset.mem_range.mpr i.succ_pos⟩ (s h i)

/-- The largest number of each row where the numbers behind the diagonal count for nothing. -/
theorem max_masked {a n : ℕ} {φ : FTy} {x : FVec Ideal ⟨3, ![a, n, n]⟩ φ} {z : FVec Ideal ⟨0, ![]⟩ φ} {s : ℕ → ℕ → ℕ → ℝ}
    (hx : ∀ (h : Fin a) (i j : Fin n), x (ix3 h i j) = if j.val ≤ i.val then ((s h.val i.val j.val : ℝ) : EReal) else ⊥)
    (hz : ∀ i, z i = (⊥ : EReal)) (hr : (⟨3, ![a, n, n]⟩ : Shape).ReducesTo [2] ⟨2, ![a, n]⟩)
    (h : (⟨3, ![a, n, n]⟩ : Shape).Reduces [2] ⟨2, ![a, n]⟩) (hu : 0 < (⟨0, ![]⟩ : Shape).numel) :
    Is2 (Host.reduce (FloatOps.maximumf : Ideal φ → Ideal φ → Ideal φ) x z hr hu) (top s) := fun i j => by
  rw [Host.reduce_eq_fold_single (FloatOps.maximumf : Ideal φ → Ideal φ → Ideal φ) x z hr h hu, hz]
  have e : ∀ k : Fin n, (x ∘ h.lift (ix2 i j)) k = if k.val ≤ j.val then ((s i.val j.val k.val : ℝ) : EReal) else ⊥ :=
    fun k => by
      refine (congrArg x (funext fun q => Fin.ext ?_)).trans (hx i j k)
      match q with
      | ⟨0, _⟩ => rfl
      | ⟨1, _⟩ => rfl
      | ⟨2, _⟩ => rfl
  have f : ∀ S : Finset (Fin n), S.fold (β := EReal) (fun p q => max p q) ⊥ (x ∘ h.lift (ix2 i j)) = S.sup (x ∘ h.lift (ix2 i j)) :=
    fun S => rfl
  refine (f Finset.univ).trans (le_antisymm (Finset.sup_le fun k _ => ?_) ?_)
  · refine (e k).trans_le ?_
    split
    · exact EReal.coe_le_coe_iff.mpr (Finset.le_sup' _ (Finset.mem_range.mpr (by omega)))
    · exact bot_le
  · obtain ⟨k, hk, ek⟩ := Finset.exists_mem_eq_sup' (s := Finset.range (j.val + 1))
      ⟨0, Finset.mem_range.mpr j.val.succ_pos⟩ (s i.val j.val)
    have hkj : k ≤ j.val := Nat.lt_succ_iff.mp (Finset.mem_range.mp hk)
    unfold top
    rw [ek]
    have l : k < n := lt_of_le_of_lt hkj j.isLt
    exact le_trans (le_of_eq ((e ⟨k, l⟩).trans (if_pos hkj)).symm) (Finset.le_sup (f := x ∘ h.lift (ix2 i j)) (Finset.mem_univ _))

/-- Position `j` is not after position `i`, as the programs compare them. -/
theorem behind {a n : ℕ} (hn : n < 2 ^ 31) (b₁ : (⟨1, ![n]⟩ : Shape).BroadcastsInDim ⟨2, ![1, n]⟩ ![1])
    (b₂ : (⟨2, ![1, n]⟩ : Shape).BroadcastsInDim ⟨2, ![n, n]⟩ ![0, 1]) (b₃ : (⟨1, ![n]⟩ : Shape).BroadcastsInDim ⟨2, ![n, 1]⟩ ![0])
    (b₄ : (⟨2, ![n, 1]⟩ : Shape).BroadcastsInDim ⟨2, ![n, n]⟩ ![0, 1])
    (b₅ : (⟨2, ![n, n]⟩ : Shape).BroadcastsInDim ⟨3, ![a, n, n]⟩ ![1, 2]) (h : Fin a) (i j : Fin n) :
    broadcastInDim ⟨3, ![a, n, n]⟩ ![1, 2] b₅ (cmpi .sle
      (broadcastInDim ⟨2, ![n, n]⟩ ![0, 1] b₂ (broadcastInDim ⟨2, ![1, n]⟩ ![1] b₁ (iotaInDim ⟨1, ![n]⟩ 32 0)))
      (broadcastInDim ⟨2, ![n, n]⟩ ![0, 1] b₄ (broadcastInDim ⟨2, ![n, 1]⟩ ![0] b₃ (iotaInDim ⟨1, ![n]⟩ 32 0)))) (ix3 h i j) = 1#1
      ↔ j.val ≤ i.val := by
  have hi := i.isLt
  have hj := j.isLt
  rw [broadcastInDim_apply _ b₅ _ (ix3 h i j) (ix2 i j) (fun q => by
    match q with
    | ⟨0, _⟩ => show i.val = if n = 1 then 0 else i.val; split <;> omega
    | ⟨1, _⟩ => show j.val = if n = 1 then 0 else j.val; split <;> omega)]
  show IntOp.cmpi .sle _ _ = 1#1 ↔ _
  rw [broadcastInDim_apply _ b₂ _ (ix2 i j) (ix2 0 j) (fun q => by
    match q with
    | ⟨0, _⟩ => rfl
    | ⟨1, _⟩ => show j.val = if n = 1 then 0 else j.val; split <;> omega),
    broadcastInDim_apply _ b₁ _ (ix2 0 j) (ValueIdx.ix1 j) (fun q => by
    match q with
    | ⟨0, _⟩ => show j.val = if n = 1 then 0 else j.val; split <;> omega),
    broadcastInDim_apply _ b₄ _ (ix2 i j) (ix2 i 0) (fun q => by
    match q with
    | ⟨0, _⟩ => show i.val = if n = 1 then 0 else i.val; split <;> omega
    | ⟨1, _⟩ => rfl),
    broadcastInDim_apply _ b₃ _ (ix2 i 0) (ValueIdx.ix1 i) (fun q => by
    match q with
    | ⟨0, _⟩ => show i.val = if n = 1 then 0 else i.val; split <;> omega)]
  show BitVec.ofBool (BitVec.sle (BitVec.ofNat 32 j.val) (BitVec.ofNat 32 i.val)) = 1#1 ↔ _
  rw [BitVec.sle]
  have e : ∀ n : ℕ, n < 2 ^ 31 → (BitVec.ofNat 32 n).toInt = (n : ℤ) := fun n hn => by
    rw [BitVec.toInt_eq_toNat_of_lt (by rw [BitVec.toNat_ofNat]; omega), BitVec.toNat_ofNat]
    congr 1
    omega
  rw [e _ (by omega), e _ (by omega)]
  by_cases hji : j.val ≤ i.val
  · rw [decide_eq_true (by omega)]; simp [hji]
  · rw [decide_eq_false (by omega)]; simp [hji]

/-- Numbers kept where position `j` is not after position `i`. -/
theorem select_behind {a n : ℕ} {φ : FTy} {b : IVec ⟨3, ![a, n, n]⟩ 1} {x y : FVec Ideal ⟨3, ![a, n, n]⟩ φ}
    {s : ℕ → ℕ → ℕ → ℝ} {e : EReal} (hb : ∀ (h : Fin a) (i j : Fin n), b (ix3 h i j) = 1#1 ↔ j.val ≤ i.val) (hx : Is3 x s)
    (hy : ∀ (h : Fin a) (i j : Fin n), y (ix3 h i j) = e) (h : Fin a) (i j : Fin n) :
    select b x y (ix3 h i j) = if j.val ≤ i.val then ((s h.val i.val j.val : ℝ) : EReal) else e := by
  exact if_congr (hb h i j) (hx h i j) (hy h i j)

/-- The scale of the scores, as the programs write it. -/
def scale : ℝ := 13698540 / 2 ^ 27

theorem is_scale : Is0 (constant ⟨0, ![]⟩ .f32 0x3DD105EC#32 : FVec Ideal _ .f32) scale := fun _ => by
  show Ideal.ofBits .f32 0x3DD105EC#32 = _
  simp [Ideal.ofBits, Ideal.ieee]
  rw [← EReal.coe_mul]
  unfold scale
  norm_num

theorem is_zero : Is0 (constant ⟨0, ![]⟩ .f32 0x00000000#32 : FVec Ideal _ .f32) 0 := fun _ => Common.ofBits_zero

theorem is_one : Is0 (constant ⟨0, ![]⟩ .f32 0x3F800000#32 : FVec Ideal _ .f32) 1 := fun _ => Common.ofBits_one

theorem is_zero_bf16 : Is0 (constant ⟨0, ![]⟩ .bf16 0x0000#16 : FVec Ideal _ .bf16) 0 := fun _ => by
  show Ideal.ofBits .bf16 0x0000#16 = _
  simp [Ideal.ofBits, Ideal.ieee]

theorem is_one_bf16 : Is0 (constant ⟨0, ![]⟩ .bf16 0x3F80#16 : FVec Ideal _ .bf16) 1 := fun _ => by
  show Ideal.ofBits .bf16 0x3F80#16 = _
  simp [Ideal.ofBits, Ideal.ieee]
  rw [← EReal.coe_mul]; norm_num

theorem is_log_two : Is0 (Host.log (constant ⟨0, ![]⟩ .f32 0x40000000#32 : FVec Ideal _ .f32)) (Real.log 2) := fun _ => by
  show Ideal.log (Ideal.ofBits .f32 0x40000000#32) = _
  have e : Ideal.ofBits .f32 0x40000000#32 = ((2 : ℝ) : EReal) := by
    simp [Ideal.ofBits, Ideal.ieee]
    rw [← EReal.coe_mul]; norm_num
  rw [e, Ideal.log_coe, if_neg (by norm_num)]

theorem is_bot (i : (⟨0, ![]⟩ : Shape).Idx) : (constant ⟨0, ![]⟩ .f32 0xFF800000#32 : FVec Ideal _ .f32) i = (⊥ : EReal) := by
  show Ideal.ofBits .f32 0xFF800000#32 = _
  simp [Ideal.ofBits, Ideal.ieee]

/-- A contraction outside the kernels at one place, the places of the operands given. -/
theorem dot_at {sl sr so : Shape} {φ₁ φ₂ : FTy} (D : DotDims sl sr so) (n : Nat) (hr : D.contr.rank = 1)
    (hs : D.contr.size ⟨0, by omega⟩ = n) (l : FVec Ideal sl φ₁) (r : FVec Ideal sr φ₂) (i : so.Idx) (L : Fin n → sl.Idx) (R : Fin n → sr.Idx)
    (hL : ∀ (q : D.contr.Idx) (k : Fin n), (q ⟨0, by omega⟩).val = k.val → ∀ a, (D.lhsIdx i q a).val = (L k a).val)
    (hR : ∀ (q : D.contr.Idx) (k : Fin n), (q ⟨0, by omega⟩).val = k.val → ∀ a, (D.rhsIdx i q a).val = (R k a).val) :
    Host.dotGeneral D none l r i = ∑ k : Fin n, l (L k) * r (R k) := by
  simp only [Host.dotGeneral]
  rw [Ideal.dotGeneral_apply, ← Equiv.sum_comp (contrEquiv1 D n hr hs).symm]
  refine Finset.sum_congr rfl fun k _ => ?_
  have hk := contrEquiv1_symm_val D n hr hs k
  rw [show D.lhsIdx i ((contrEquiv1 D n hr hs).symm k) = L k from funext fun a => Fin.ext (hL _ k hk a),
    show D.rhsIdx i ((contrEquiv1 D n hr hs).symm k) = R k from funext fun a => Fin.ext (hR _ k hk a)]

section Dot

variable {p m n c : ℕ} {φ₁ φ₂ : FTy} {g h : ℕ → ℕ → ℕ → ℝ}

/-- `x · yᵀ` for each number of the first axis. -/
theorem Is3.dot_nt {x : FVec Ideal ⟨3, ![p, m, c]⟩ φ₁} {y : FVec Ideal ⟨3, ![p, n, c]⟩ φ₂} (hx : Is3 x g) (hy : Is3 y h)
    (wf : DotDims.WF ⟨3, ![p, m, c]⟩ ⟨3, ![p, n, c]⟩ ⟨3, ![p, m, n]⟩ [2] [2] [1] [1] [0] [0]) :
    Is3 (Host.dotGeneral (⟨[2], [2], [1], [1], [0], [0], wf⟩ : DotDims ⟨3, ![p, m, c]⟩ ⟨3, ![p, n, c]⟩ ⟨3, ![p, m, n]⟩) none x y)
      fun q i j => ∑ k ∈ Finset.range c, g q i k * h q j k := fun q i j => by
  rw [dot_at _ c rfl rfl _ _ _ (fun k => ix3 q i k) (fun k => ix3 q j k), ← sum_coe]
  · refine Finset.sum_congr rfl fun k _ => ?_
    rw [hx, hy, EReal.coe_mul]
  · intro r k hk a
    match a with
    | ⟨0, _⟩ => rfl
    | ⟨1, _⟩ => rfl
    | ⟨2, _⟩ => exact hk
  · intro r k hk a
    match a with
    | ⟨0, _⟩ => rfl
    | ⟨1, _⟩ => rfl
    | ⟨2, _⟩ => exact hk

/-- `x · y` for each number of the first axis. -/
theorem Is3.dot_nn {x : FVec Ideal ⟨3, ![p, m, c]⟩ φ₁} {y : FVec Ideal ⟨3, ![p, c, n]⟩ φ₂} (hx : Is3 x g) (hy : Is3 y h)
    (wf : DotDims.WF ⟨3, ![p, m, c]⟩ ⟨3, ![p, c, n]⟩ ⟨3, ![p, m, n]⟩ [2] [1] [1] [2] [0] [0]) :
    Is3 (Host.dotGeneral (⟨[2], [1], [1], [2], [0], [0], wf⟩ : DotDims ⟨3, ![p, m, c]⟩ ⟨3, ![p, c, n]⟩ ⟨3, ![p, m, n]⟩) none x y)
      fun q i j => ∑ k ∈ Finset.range c, g q i k * h q k j := fun q i j => by
  rw [dot_at _ c rfl rfl _ _ _ (fun k => ix3 q i k) (fun k => ix3 q k j), ← sum_coe]
  · refine Finset.sum_congr rfl fun k _ => ?_
    rw [hx, hy, EReal.coe_mul]
  · intro r k hk a
    match a with
    | ⟨0, _⟩ => rfl
    | ⟨1, _⟩ => rfl
    | ⟨2, _⟩ => exact hk
  · intro r k hk a
    match a with
    | ⟨0, _⟩ => rfl
    | ⟨1, _⟩ => exact hk
    | ⟨2, _⟩ => rfl

/-- `xᵀ · y` for each number of the first axis. -/
theorem Is3.dot_tn {x : FVec Ideal ⟨3, ![p, c, m]⟩ φ₁} {y : FVec Ideal ⟨3, ![p, c, n]⟩ φ₂} (hx : Is3 x g) (hy : Is3 y h)
    (wf : DotDims.WF ⟨3, ![p, c, m]⟩ ⟨3, ![p, c, n]⟩ ⟨3, ![p, m, n]⟩ [1] [1] [2] [2] [0] [0]) :
    Is3 (Host.dotGeneral (⟨[1], [1], [2], [2], [0], [0], wf⟩ : DotDims ⟨3, ![p, c, m]⟩ ⟨3, ![p, c, n]⟩ ⟨3, ![p, m, n]⟩) none x y)
      fun q i j => ∑ k ∈ Finset.range c, g q k i * h q k j := fun q i j => by
  rw [dot_at _ c rfl rfl _ _ _ (fun k => ix3 q k i) (fun k => ix3 q k j), ← sum_coe]
  · refine Finset.sum_congr rfl fun k _ => ?_
    rw [hx, hy, EReal.coe_mul]
  · intro r k hk a
    match a with
    | ⟨0, _⟩ => rfl
    | ⟨1, _⟩ => exact hk
    | ⟨2, _⟩ => rfl
  · intro r k hk a
    match a with
    | ⟨0, _⟩ => rfl
    | ⟨1, _⟩ => exact hk
    | ⟨2, _⟩ => rfl

end Dot

section Concat

variable {a b c : ℕ}

/-- A piece of a concatenation along the last axis, read at the place `k` inside it. -/
theorem Is3.piece {n : ℕ} {x : (⟨3, ![a, b, n]⟩ : Shape).Idx → EReal} {g : ℕ → ℕ → ℕ → ℝ} (hx : Is3 x g) (i : Fin a) (j : Fin b)
    (k : ℕ) (u : (⟨3, ![a, b, n]⟩ : Shape).Idx) (h0 : (u 0).val = i.val) (h1 : (u 1).val = j.val) (h2 : (u 2).val = k) :
    x u = ((g i.val j.val k : ℝ) : EReal) := by
  have h : k < n := h2 ▸ (u 2).isLt
  rw [← hx i j ⟨k, h⟩]
  refine congrArg x (funext fun q => Fin.ext ?_)
  match q with
  | ⟨0, _⟩ => exact h0
  | ⟨1, _⟩ => exact h1
  | ⟨2, _⟩ => exact h2

/-- The arrays `xs`, laid side by side along the last axis of an array of `n`, hold the numbers `g`. -/
def Pieces (a b n : ℕ) (xs : List ((s : Shape) × (s.Idx → EReal))) (g : ℕ → ℕ → ℕ → ℝ) : Prop :=
  ∀ (i : Fin a) (j : Fin b) (k : Fin n) (hs : ∀ s ∈ xs.map (·.1), s.FitsOff ⟨3, ![a, b, n]⟩ 2) (c : ℕ)
    (hc : c < (axisSizes ⟨3, ![a, b, n]⟩ 2 xs).sum),
    concatenateAt ⟨3, ![a, b, n]⟩ 2 (ix3 i j k) xs hs c hc = ((g i.val j.val c : ℝ) : EReal)

/-- One array. -/
theorem Is3.last {n m : ℕ} {x : (⟨3, ![a, b, m]⟩ : Shape).Idx → EReal} {g : ℕ → ℕ → ℕ → ℝ} (hx : Is3 x g) :
    Pieces a b n [⟨⟨3, ![a, b, m]⟩, x⟩] g := fun i j k hs c hc => by
  refine (concatenateAt_singleton 2 (ix3 i j k) x hs c hc).trans (hx.piece i j c _ ?_ ?_ ?_) <;>
  · rw [Shape.Idx.norm_def]; rfl

/-- An array before others. -/
theorem Is3.before {n m : ℕ} {x : (⟨3, ![a, b, m]⟩ : Shape).Idx → EReal} {g h : ℕ → ℕ → ℕ → ℝ} (hx : Is3 x g)
    {q : (s : Shape) × (s.Idx → EReal)} {xs : List ((s : Shape) × (s.Idx → EReal))} (hq : Pieces a b n (q :: xs) h) :
    Pieces a b n (⟨⟨3, ![a, b, m]⟩, x⟩ :: q :: xs) fun i j k => if k < m then g i j k else h i j (k - m) :=
  fun i j k hs c hc => by
  refine (concatenateAt_cons 2 (ix3 i j k) x q xs hs c hc).trans ?_
  by_cases e : c < m
  · refine (dif_pos e).trans ((hx.piece i j c _ ?_ ?_ ?_).trans ?_)
    · rw [Shape.Idx.norm_def]; rfl
    · rw [Shape.Idx.norm_def]; rfl
    · rw [Shape.Idx.norm_def]; rfl
    · exact congrArg (fun r : ℝ => (r : EReal)) (if_pos e).symm
  · refine (dif_neg e).trans ((hq i j k _ _ _).trans ?_)
    exact congrArg (fun r : ℝ => (r : EReal)) (if_neg e).symm

/-- The concatenation holds the numbers of its pieces. -/
theorem Pieces.is3 {n : ℕ} {xs : List ((s : Shape) × (s.Idx → EReal))} {g : ℕ → ℕ → ℕ → ℝ} (h : Pieces a b n xs g)
    (H : Shape.Concatenates (xs.map (·.1)) ⟨3, ![a, b, n]⟩ 2) :
    Is3 (concatenate ⟨3, ![a, b, n]⟩ 2 xs H) g := fun i j k =>
  (concatenate_apply ⟨3, ![a, b, n]⟩ 2 xs H (ix3 i j k)).trans (h i j k _ _ _)

end Concat

end Cert.Proof.Reals

end
-- ==== Proof.AttnMath.lean ====
/- The gradient of attention over the real numbers: from the arrays the kernel is given, with the logarithm of each row's
   sum and the product of output and its gradient in spare lanes, and from the derivative of the softmax. -/
module

public import proofs.«01_k».proof.Proof.AttnValue
public import proofs.«01_k».proof.Proof.HostReals
public import Mathlib.Analysis.SpecialFunctions.Pow.Real

@[expose] public section

noncomputable section

namespace Cert.Proof.Attention

open Cert.Proof.Reals Cert.AttnIdeal.Gen
open scoped BigOperators

variable (c : ℝ) (q k v d : ℕ → ℕ → ℕ → ℝ)

/-- The scaled score of key `j` for query `i`. -/
def raw (h i j : ℕ) : ℝ := (∑ l ∈ Finset.range 96, q h i l * k h j l) * c

/-- The exponential of a score less the largest of its row. -/
def weight (h i j : ℕ) : ℝ := if j ≤ i then Real.exp (raw c q k h i j - top (raw c q k) h i) else 0

/-- The sum of a row's exponentials. -/
def total (h i : ℕ) : ℝ := ∑ j ∈ Finset.range 4096, weight c q k h i j

/-- The softmax of the scores. -/
def soft (h i j : ℕ) : ℝ := weight c q k h i j / total c q k h i

/-- The output. -/
def out (h i l : ℕ) : ℝ := ∑ j ∈ Finset.range 4096, soft c q k h i j * v h j l

/-- The product of the output and its gradient. -/
def delta (h i : ℕ) : ℝ := ∑ l ∈ Finset.range 64, d h i l * out c q k v h i l

/-- The logarithm, to the base of two, of the sum of a row's exponentials. -/
def lse (h i : ℕ) : ℝ := (top (raw c q k) h i + Real.log (total c q k h i)) / Real.log 2

/-- The gradient of the softmax's entries. -/
def up (h i j : ℕ) : ℝ := ∑ l ∈ Finset.range 64, d h i l * v h j l

/-- The gradient of the scores before the scale. -/
def slope (h i j : ℕ) : ℝ := soft c q k h i j * (up v d h i j - delta c q k v d h i)

/-- The queries as the kernel is given them. -/
def queries (h i l : ℕ) : ℝ :=
  if l < 96 then q h i l * c / Real.log 2 else if l - 96 < 1 then -lse c q k h i
    else if l - 96 - 1 < 1 then -(lse c q k h i - lse c q k h i) else 0

/-- The keys as the kernel is given them. -/
def keys (h j l : ℕ) : ℝ := if l < 96 then k h j l else if l - 96 < 2 then 1 else 0

/-- The values as the kernel is given them. -/
def vals (h j l : ℕ) : ℝ := if l < 64 then v h j l else 1

/-- The output's gradient as the kernel is given it. -/
def outs (h i l : ℕ) : ℝ :=
  if l < 64 then d h i l else if l - 64 < 1 then -delta c q k v d h i
    else if l - 64 - 1 < 1 then -(delta c q k v d h i - delta c q k v d h i) else 0

theorem log_two_ne : Real.log 2 ≠ 0 := (Real.log_pos one_lt_two).ne'

/-- No weight is negative. -/
theorem weight_nonneg (h i j : ℕ) : 0 ≤ weight c q k h i j := by
  unfold weight
  split
  · exact (Real.exp_pos _).le
  · exact le_rfl

/-- A row's sum is positive. -/
theorem total_pos (h i : ℕ) (hi : i < 4096) : 0 < total c q k h i :=
  Finset.sum_pos' (fun j _ => weight_nonneg c q k h i j) ⟨i, Finset.mem_range.mpr hi, by
    unfold weight
    rw [if_pos le_rfl]
    exact Real.exp_pos _⟩

/-- The score of the arrays the kernel is given is the scaled score, to the base of two, less the row's logarithm. -/
theorem score_eq (h i j : ℕ) :
    score (queries c q k) (keys k) h i j = raw c q k h i j / Real.log 2 - lse c q k h i := by
  unfold score raw
  rw [show (128 : ℕ) = 96 + 1 + 1 + 30 from rfl, Finset.sum_range_add, Finset.sum_range_succ, Finset.sum_range_succ,
    Finset.sum_eq_zero (s := Finset.range 30)]
  · rw [Finset.sum_congr rfl (g := fun l => q h i l * k h j l * (c / Real.log 2))]
    · rw [← Finset.sum_mul]
      simp [queries, keys]
      ring
    · intro l hl
      have := Finset.mem_range.mp hl
      simp only [queries, keys, if_pos this]
      ring
  · intro l _
    simp [keys, show ¬ 96 + 1 + 1 + l < 96 by omega, show ¬ 96 + 1 + 1 + l - 96 < 2 by omega]

/-- The kernel's weight is the softmax. -/
theorem prob_eq (h i j : ℕ) (hi : i < 4096) : prob (queries c q k) (keys k) h i j = soft c q k h i j := by
  unfold prob soft weight
  split
  · rw [score_eq, lse, ← sub_div, Real.rpow_def_of_pos two_pos, mul_div_cancel₀ _ log_two_ne, ← sub_sub, Real.exp_sub,
      Real.exp_log (total_pos c q k h i hi)]
  · rw [zero_div]

/-- The kernel's gradient of a score. -/
theorem grad_eq (h i j : ℕ) (hi : i < 4096) :
    grad (queries c q k) (keys k) (vals v) (outs c q k v d) h i j = slope c q k v d h i j := by
  unfold grad slope
  rw [prob_eq c q k h i j hi]
  congr 1
  unfold score up
  rw [show (128 : ℕ) = 64 + 1 + 1 + 62 from rfl, Finset.sum_range_add, Finset.sum_range_succ, Finset.sum_range_succ,
    Finset.sum_eq_zero (s := Finset.range 62)]
  · rw [Finset.sum_congr rfl (g := fun l => d h i l * v h j l)]
    · simp [outs, vals]
      ring
    · intro l hl
      have := Finset.mem_range.mp hl
      simp only [outs, vals, if_pos this]
  · intro l _
    simp [outs, show ¬ 64 + 1 + 1 + l < 64 by omega, show ¬ 64 + 1 + 1 + l - 64 < 1 by omega,
      show ¬ 64 + 1 + 1 + l - 64 - 1 < 1 by omega]

/-- The product of the output and its gradient, the sums in the other order. -/
theorem delta_eq (h i : ℕ) :
    delta c q k v d h i = ∑ j ∈ Finset.range 4096, soft c q k h i j * up v d h i j := by
  unfold delta out up
  simp only [Finset.mul_sum]
  rw [Finset.sum_comm]
  refine Finset.sum_congr rfl fun j _ => Finset.sum_congr rfl fun l _ => by ring

/-- The gradient of a score as the derivative of the softmax writes it. -/
theorem slope_eq (h i j : ℕ) (hi : i < 4096) :
    (if j ≤ i then (up v d h i j / total c q k h i
        + ∑ _x ∈ Finset.range 1, -∑ j ∈ Finset.range 4096, up v d h i j * (1 / (total c q k h i * total c q k h i))
          * weight c q k h i j) * weight c q k h i j else 0) = slope c q k v d h i j := by
  unfold slope
  have t := (total_pos c q k h i hi).ne'
  split
  · rw [delta_eq, Finset.sum_range_one]
    have e : ∑ j ∈ Finset.range 4096, up v d h i j * (1 / (total c q k h i * total c q k h i)) * weight c q k h i j
        = (∑ j ∈ Finset.range 4096, soft c q k h i j * up v d h i j) / total c q k h i := by
      rw [Finset.sum_div]
      refine Finset.sum_congr rfl fun j _ => ?_
      unfold soft
      field_simp
    rw [e]
    unfold soft
    field_simp
    ring
  · rw [soft, weight, if_neg (by assumption), zero_div, zero_mul]

/-- The kernel's gradient of the queries. -/
theorem dq_eq (h i l : ℕ) (hi : i < 4096) (hl : l < 96) :
    lanes (dq (queries c q k) (keys k) (vals v) (outs c q k v d) 4096) h i l * c / Real.log 2
      = ∑ j ∈ Finset.range 4096, slope c q k v d h i j * c * k h j l := by
  unfold lanes dq
  rw [if_pos hl, mul_right_comm, mul_div_cancel_right₀ _ log_two_ne, Finset.sum_mul]
  refine Finset.sum_congr rfl fun j _ => ?_
  rw [grad_eq c q k v d h i j hi, keys, if_pos hl]
  ring

/-- The kernel's gradient of the keys. -/
theorem dk_eq (h j l : ℕ) (hl : l < 96) :
    lanes (dk (queries c q k) (keys k) (vals v) (outs c q k v d)) h j l
      = ∑ i ∈ Finset.range 4096, slope c q k v d h i j * c * q h i l := by
  unfold lanes dk
  rw [if_pos hl, Finset.sum_mul]
  refine Finset.sum_congr rfl fun i hi => ?_
  rw [grad_eq c q k v d h i j (Finset.mem_range.mp hi), queries, if_pos hl]
  have := log_two_ne
  field_simp

/-- The kernel's gradient of the values. -/
theorem dv_eq (h j l : ℕ) (hl : l < 64) :
    dv (queries c q k) (keys k) (outs c q k v d) h j l = ∑ i ∈ Finset.range 4096, d h i l * soft c q k h i j := by
  unfold dv
  refine Finset.sum_congr rfl fun i hi => ?_
  rw [prob_eq c q k h i j (Finset.mem_range.mp hi), outs, if_pos hl, mul_comm]

end Cert.Proof.Attention

end
-- ==== Proof.AttnHost.lean ====
/- The arrays the attention kernel is given, and the softmax that they and the reference share, as real numbers. -/
module

public import proofs.«01_k».proof.Proof.AttnMath
public import proofs.«01_k».proof.Proof.Gen.AttnIdeal.Frame

@[expose] public section

noncomputable section

namespace Cert.Proof.Attention

open Cert.Proof.Reals
open Idealize.ShloMosaic hiding ix1 ix2 ix3
open Idealize.ShloMosaic.ValueIdx
open scoped BigOperators

section Softmax

variable {c : ℝ} {q k v d : ℕ → ℕ → ℕ → ℝ}

/-- The exponentials of the masked scores less the largest of each row. -/
theorem is_weight {x t : FVec Ideal ⟨3, ![8, 4096, 4096]⟩ .f32}
    (hx : ∀ (h : Fin 8) (i j : Fin 4096), x (ix3 h i j) = if j.val ≤ i.val then ((raw c q k h.val i.val j.val : ℝ) : EReal) else ⊥)
    (ht : Is3 t fun h i _ => top (raw c q k) h i) : Is3 (Host.exp (subf x t)) (weight c q k) := fun h i j => by
  show Ideal.exp (x (ix3 h i j) - t (ix3 h i j)) = _
  rw [hx, ht]
  unfold weight
  split
  · rw [← EReal.coe_sub, Ideal.exp_coe]
  · rw [EReal.bot_sub, Ideal.exp_bot, EReal.coe_zero]

end Softmax

end Cert.Proof.Attention

namespace Cert.AttnIdeal.Gen

open Cert.Proof.Reals Cert.Proof.Attention Cert.AttnIdeal Idealize.ShloMosaic Idealize.ShloMosaic.TcCoe Idealize.SL.Sem
open Idealize.ShloMosaic.Pipeline (Dat)

section Values

variable (x0 x1 : FVec Ideal S8x4096x96 .f32) (x2 x3 : FVec Ideal S8x4096x64 .f32)

/-- The masked scores. -/
def hScore : FVec Ideal S8x4096x4096 .f32 :=
  select (broadcastInDim S8x4096x4096 ![1, 2] bcast_S4096x4096_S8x4096x4096_1_2 (cmpi .sle
      (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0)))))
    (mulf (Host.dotGeneral dot_S8x4096x96_S8x4096x96_S8x4096x4096_2_2_1_1_0_0 none x0 x1)
      (broadcastInDim S8x4096x4096 ![] bcast_S_S8x4096x4096 (constant S_ .f32 0x3DD105EC#32)))
    (broadcastInDim S8x4096x4096 ![] bcast_S_S8x4096x4096 (constant S_ .f32 0xFF800000#32))

/-- The largest score of each row. -/
def hTop : FVec Ideal S8x4096x1 .f32 :=
  broadcastInDim S8x4096x1 ![0, 1] bcast_S8x4096_S8x4096x1_0_1
    (Host.reduce FloatOps.maximumf (hScore x0 x1) (constant S_ .f32 0xFF800000#32) reducesTo_S8x4096x4096_S8x4096_d2 h_S_)

/-- The exponentials. -/
def hWeight : FVec Ideal S8x4096x4096 .f32 :=
  Host.exp (subf (hScore x0 x1) (broadcastInDim S8x4096x4096 ![0, 1, 2] bcast_S8x4096x1_S8x4096x4096_0_1_2 (hTop x0 x1)))

/-- The sums of the exponentials. -/
def hTotal : FVec Ideal S8x4096x1 .f32 :=
  broadcastInDim S8x4096x1 ![0, 1] bcast_S8x4096_S8x4096x1_0_1
    (Host.reduceAdd (hWeight x0 x1) (constant S_ .f32 0x00000000#32) reducesTo_S8x4096x4096_S8x4096_d2 h_S_)

/-- The output. -/
def hOut : FVec Ideal S8x4096x64 .f32 :=
  Host.dotGeneral dot_S8x4096x4096_S8x4096x64_S8x4096x64_2_1_1_2_0_0 none
    (Host.divf (hWeight x0 x1) (broadcastInDim S8x4096x4096 ![0, 1, 2] bcast_S8x4096x1_S8x4096x4096_0_1_2 (hTotal x0 x1))) x2

/-- The logarithms of the sums. -/
def hLse : FVec Ideal S8x4096x1 .f32 :=
  Host.divf (addf (hTop x0 x1) (Host.log (hTotal x0 x1)))
    (broadcastInDim S8x4096x1 ![] bcast_S_S8x4096x1 (Host.log (constant S_ .f32 0x40000000#32)))

/-- The products of the output and its gradient. -/
def hDelta : FVec Ideal S8x4096x1 .f32 :=
  broadcastInDim S8x4096x1 ![0, 1] bcast_S8x4096_S8x4096x1_0_1
    (Host.reduceAdd (mulf x3 (hOut x0 x1 x2)) (constant S_ .f32 0x00000000#32) reducesTo_S8x4096x64_S8x4096_d2 h_S_)

/-- What a narrower copy of `x` leaves of `x`, in two lanes. -/
def hRest (x : FVec Ideal S8x4096x1 .f32) : FVec Ideal S8x4096x1 .bf16 :=
  Host.negf (truncf .bf16 (subf x (extf .f32 (truncf .bf16 x bitsLt_bf16_f32) bitsLt_bf16_f32)) bitsLt_bf16_f32)

/-- The queries as the kernel is given them. -/
def hQueries : FVec Ideal S8x4096x128 .bf16 :=
  concatenate S8x4096x128 2
    [⟨S8x4096x96, truncf .bf16 (Host.divf (mulf x0 (broadcastInDim S8x4096x96 ![] bcast_S_S8x4096x96 (constant S_ .f32 0x3DD105EC#32)))
        (broadcastInDim S8x4096x96 ![] bcast_S_S8x4096x96 (Host.log (constant S_ .f32 0x40000000#32)))) bitsLt_bf16_f32⟩,
      ⟨S8x4096x1, Host.negf (truncf .bf16 (hLse x0 x1) bitsLt_bf16_f32)⟩, ⟨S8x4096x1, hRest (hLse x0 x1)⟩,
      ⟨S8x4096x30, broadcastInDim S8x4096x30 ![] bcast_S_S8x4096x30 (constant S_ .bf16 0x0000#16)⟩]
    concatenates_S8x4096x96_S8x4096x1_S8x4096x1_S8x4096x30_S8x4096x128_d2

/-- The keys. -/
def hKeys : FVec Ideal S8x4096x128 .bf16 :=
  concatenate S8x4096x128 2
    [⟨S8x4096x96, truncf .bf16 x1 bitsLt_bf16_f32⟩,
      ⟨S8x4096x2, broadcastInDim S8x4096x2 ![] bcast_S_S8x4096x2 (constant S_ .bf16 0x3F80#16)⟩,
      ⟨S8x4096x30, broadcastInDim S8x4096x30 ![] bcast_S_S8x4096x30 (constant S_ .bf16 0x0000#16)⟩]
    concatenates_S8x4096x96_S8x4096x2_S8x4096x30_S8x4096x128_d2

/-- The values. -/
def hVals : FVec Ideal S8x4096x128 .bf16 :=
  truncf .bf16 (concatenate S8x4096x128 2
    [⟨S8x4096x64, x2⟩, ⟨S8x4096x64, broadcastInDim S8x4096x64 ![] bcast_S_S8x4096x64 (constant S_ .f32 0x3F800000#32)⟩]
    concatenates_S8x4096x64_S8x4096x64_S8x4096x128_d2) bitsLt_bf16_f32

/-- The output's gradient. -/
def hOuts : FVec Ideal S8x4096x128 .bf16 :=
  concatenate S8x4096x128 2
    [⟨S8x4096x64, truncf .bf16 x3 bitsLt_bf16_f32⟩, ⟨S8x4096x1, Host.negf (truncf .bf16 (hDelta x0 x1 x2 x3) bitsLt_bf16_f32)⟩,
      ⟨S8x4096x1, hRest (hDelta x0 x1 x2 x3)⟩,
      ⟨S8x4096x62, broadcastInDim S8x4096x62 ![] bcast_S_S8x4096x62 (constant S_ .bf16 0x0000#16)⟩]
    concatenates_S8x4096x64_S8x4096x1_S8x4096x1_S8x4096x62_S8x4096x128_d2

variable {x0 x1 x2 x3} {q k v d : ℕ → ℕ → ℕ → ℝ} (h0 : Is3 x0 q) (h1 : Is3 x1 k) (h2 : Is3 x2 v) (h3 : Is3 x3 d)

include h0 h1

theorem is_hScore (h : Fin 8) (i j : Fin 4096) :
    hScore x0 x1 (ValueIdx.ix3 h i j) = if j.val ≤ i.val then ((raw scale q k h.val i.val j.val : ℝ) : EReal) else ⊥ :=
  select_behind (behind (by norm_num) _ _ _ _ _) ((h0.dot_nt h1 _).mulf (Is3.splat is_scale _)) (fun _ _ _ => is_bot _) h i j

theorem is_hTop : Is3 (hTop x0 x1) fun h i _ => top (raw scale q k) h i :=
  (max_masked (φ := .f32) (is_hScore h0 h1) is_bot _ (by decide) _).unit (φ := .f32) _

theorem is_hWeight : Is3 (hWeight x0 x1) (Cert.Proof.Attention.weight scale q k) := is_weight (is_hScore h0 h1) ((is_hTop h0 h1).rows _)

theorem is_hTotal : Is3 (hTotal x0 x1) fun h i _ => total scale q k h i :=
  ((is_hWeight h0 h1).sum is_zero _ (by decide) _).unit _

theorem is_hLse : Is3 (hLse x0 x1) fun h i _ => lse scale q k h i :=
  ((is_hTop h0 h1).addf ((is_hTotal h0 h1).log fun h i _ _ hi _ => total_pos scale q k h i hi)).divf (Is3.splat is_log_two _)
    fun _ _ _ _ _ _ => log_two_ne

theorem is_hQueries : Is3 (hQueries x0 x1) (queries scale q k) :=
  (((h0.mulf (Is3.splat is_scale _)).divf (Is3.splat is_log_two _) fun _ _ _ _ _ _ => log_two_ne).before
    ((is_hLse h0 h1).negf.before (((is_hLse h0 h1).subf (is_hLse h0 h1)).negf.before (Is3.splat is_zero_bf16 _).last))).is3 _

omit h0

theorem is_hKeys : Is3 (hKeys x1) (keys k) :=
  (h1.before ((Is3.splat is_one_bf16 _).before (Is3.splat is_zero_bf16 _).last)).is3 _

omit h1
include h2

theorem is_hVals : Is3 (hVals x2) (vals v) := (h2.before (Is3.splat is_one _).last).is3 concatenates_S8x4096x64_S8x4096x64_S8x4096x128_d2

include h0 h1

theorem is_hOut : Is3 (hOut x0 x1 x2) (out scale q k v) :=
  ((is_hWeight h0 h1).divf ((is_hTotal h0 h1).rows _) fun h i _ _ hi _ => (total_pos scale q k h i hi).ne').dot_nn h2 _

include h3

theorem is_hDelta : Is3 (hDelta x0 x1 x2 x3) fun h i _ => delta scale q k v d h i :=
  ((h3.mulf (is_hOut h0 h1 h2)).sum is_zero _ (by decide) _).unit _

theorem is_hOuts : Is3 (hOuts x0 x1 x2 x3) (outs scale q k v d) :=
  (h3.before ((is_hDelta h0 h1 h2 h3).negf.before
    (((is_hDelta h0 h1 h2 h3).subf (is_hDelta h0 h1 h2 h3)).negf.before (Is3.splat is_zero_bf16 _).last))).is3 _

end Values

variable (m : (ℓ : Loc nD τ sig) → Buf (Elt Ideal) ℓ) (c : Dev nD)

set_option maxRecDepth 8192 in
/-- The queries that the kernel finds. -/
theorem found_q : V m c main_v40 = hQueries (m ((c : Thread nD τ).loc main_arg0)) (m ((c : Thread nD τ).loc main_arg1)) := by
  unfold V V0
  simp only [hostOps0, hostOps0_1, hostOps0_2, List.flatten_cons, List.flatten_nil, List.append_nil, List.cons_append,
    List.nil_append, StableHlo.TRef.nullary, StableHlo.TRef.ternary, StableHlo.TRef.unary, StableHlo.TRef.toBuf, StableHlo.TRef.ofBuf, cast_eq]
  after_results_simp
  refine StableHlo.concatenate_congr _ _ (Cert.Proof.Common.and_then ?_ (Cert.Proof.Common.and_then ?_ (Cert.Proof.Common.and_then ?_ (Cert.Proof.Common.and_then ?_ rfl)))) _ _
  · show HloOp.result _ _ (Proc.devRef .tc main_v32) = _
    after_results_simp <;> rfl
  · show HloOp.result _ _ (Proc.devRef .tc main_v34) = _
    after_results_simp <;> rfl
  · show HloOp.result _ _ (Proc.devRef .tc main_v38) = _
    after_results_simp <;> rfl
  · show HloOp.result _ _ (Proc.devRef .tc main_v39) = _
    after_results_simp <;> rfl

set_option maxRecDepth 8192 in
/-- The keys that the kernel finds. -/
theorem found_k : V m c main_v44 = hKeys (m ((c : Thread nD τ).loc main_arg1)) := by
  unfold V V0
  simp only [hostOps0, hostOps0_1, hostOps0_2, List.flatten_cons, List.flatten_nil, List.append_nil, List.cons_append,
    List.nil_append, StableHlo.TRef.nullary, StableHlo.TRef.ternary, StableHlo.TRef.unary, StableHlo.TRef.toBuf, StableHlo.TRef.ofBuf, cast_eq]
  after_results_simp
  refine StableHlo.concatenate_congr _ _ (Cert.Proof.Common.and_then ?_ (Cert.Proof.Common.and_then ?_ (Cert.Proof.Common.and_then ?_ rfl))) _ _
  · show HloOp.result _ _ (Proc.devRef .tc main_v41) = _
    after_results_simp <;> rfl
  · show HloOp.result _ _ (Proc.devRef .tc main_v42) = _
    after_results_simp <;> rfl
  · show HloOp.result _ _ (Proc.devRef .tc main_v43) = _
    after_results_simp <;> rfl

set_option maxRecDepth 8192 in
/-- The values that the kernel finds. -/
theorem found_v : V m c main_v47 = hVals (m ((c : Thread nD τ).loc main_arg2)) := by
  unfold V V0
  simp only [hostOps0, hostOps0_1, hostOps0_2, List.flatten_cons, List.flatten_nil, List.append_nil, List.cons_append,
    List.nil_append, StableHlo.TRef.nullary, StableHlo.TRef.ternary, StableHlo.TRef.unary, StableHlo.TRef.toBuf, StableHlo.TRef.ofBuf, cast_eq]
  after_results_simp
  refine congrArg (fun x => truncf .bf16 x bitsLt_bf16_f32) <| StableHlo.concatenate_congr _ _ (Cert.Proof.Common.and_then ?_ (Cert.Proof.Common.and_then ?_ rfl)) _ _
  · show HloOp.result _ _ (Proc.devRef .tc main_arg2) = _
    after_results_simp <;> rfl
  · show HloOp.result _ _ (Proc.devRef .tc main_v45) = _
    after_results_simp <;> rfl

set_option maxRecDepth 8192 in
/-- The gradient of the output that the kernel finds. -/
theorem found_d : V m c main_v56 = hOuts (m ((c : Thread nD τ).loc main_arg0)) (m ((c : Thread nD τ).loc main_arg1)) (m ((c : Thread nD τ).loc main_arg2)) (m ((c : Thread nD τ).loc main_arg3)) := by
  unfold V V0
  simp only [hostOps0, hostOps0_1, hostOps0_2, List.flatten_cons, List.flatten_nil, List.append_nil, List.cons_append,
    List.nil_append, StableHlo.TRef.nullary, StableHlo.TRef.ternary, StableHlo.TRef.unary, StableHlo.TRef.toBuf, StableHlo.TRef.ofBuf, cast_eq]
  after_results_simp
  refine StableHlo.concatenate_congr _ _ (Cert.Proof.Common.and_then ?_ (Cert.Proof.Common.and_then ?_ (Cert.Proof.Common.and_then ?_ (Cert.Proof.Common.and_then ?_ rfl)))) _ _
  · show HloOp.result _ _ (Proc.devRef .tc main_v48) = _
    after_results_simp <;> rfl
  · show HloOp.result _ _ (Proc.devRef .tc main_v50) = _
    after_results_simp <;> rfl
  · show HloOp.result _ _ (Proc.devRef .tc main_v54) = _
    after_results_simp <;> rfl
  · show HloOp.result _ _ (Proc.devRef .tc main_v55) = _
    after_results_simp <;> rfl

set_option maxRecDepth 8192 in
/-- The divisor that the lines after the kernel find. -/
theorem found_two : V m c main_v1 = (Host.log (constant (F := Ideal) S_ .f32 0x40000000#32) : FVec Ideal S_ .f32) := by
  unfold V V0
  simp only [hostOps0, hostOps0_1, hostOps0_2, List.flatten_cons, List.flatten_nil, List.append_nil, List.cons_append,
    List.nil_append, StableHlo.TRef.nullary, StableHlo.TRef.ternary, StableHlo.TRef.unary, StableHlo.TRef.toBuf, StableHlo.TRef.ofBuf, cast_eq]
  after_results_simp <;> rfl

end Cert.AttnIdeal.Gen

end
-- ==== Proof.AttnRun.lean ====
/- The backward pass of the attention: what its results hold, given arguments of real numbers. -/
module

public import proofs.«01_k».proof.Proof.AttnHost
public import proofs.«01_k».proof.Proof.AttnValue

@[expose] public section

noncomputable section

namespace Cert.AttnIdeal.Gen

open Cert.Proof.Reals Cert.Proof.Attention
open Idealize.ShloMosaic hiding ix1 ix2 ix3
open Idealize.ShloMosaic.ValueIdx Idealize.ShloMosaic.TcCoe Idealize.SL.Sem
open scoped BigOperators

variable (m : (ℓ : Loc nD τ sig) → Buf (Elt Ideal) ℓ) (ρ : Dev nD → PrngReg)

/-- The arguments hold real numbers. -/
structure Args (q k v d : Dev nD → ℕ → ℕ → ℕ → ℝ) : Prop where
  q : ∀ c : Dev nD, Is3 (m ((c : Thread nD τ).loc main_arg0) : S8x4096x96.Idx → EReal) (q c)
  k : ∀ c : Dev nD, Is3 (m ((c : Thread nD τ).loc main_arg1) : S8x4096x96.Idx → EReal) (k c)
  v : ∀ c : Dev nD, Is3 (m ((c : Thread nD τ).loc main_arg2) : S8x4096x64.Idx → EReal) (v c)
  d : ∀ c : Dev nD, Is3 (m ((c : Thread nD τ).loc main_arg3) : S8x4096x64.Idx → EReal) (d c)

variable {m} {q k v d : Dev nD → ℕ → ℕ → ℕ → ℝ}

/-- The arrays the kernel is entered with. -/
theorem entry (A : Args m q k v d) : Entry m (fun c => queries scale (q c) (k c)) (fun c => Cert.Proof.Attention.keys (k c)) (fun c => vals (v c))
    (fun c => outs scale (q c) (k c) (v c) (d c)) where
  q c := by rw [found_q]; exact is_hQueries (A.q c) (A.k c)
  k c := by rw [found_k]; exact is_hKeys (A.k c)
  v c := by rw [found_v]; exact is_hVals (A.v c)
  d c := by rw [found_d]; exact is_hOuts (A.q c) (A.k c) (A.v c) (A.d c)

/-- The run's contents at the end, with the numbers put in. -/
abbrev given (m : (ℓ : Loc nD τ sig) → Buf (Elt Ideal) ℓ) (q k v d : Dev nD → ℕ → ℕ → ℕ → ℝ) :=
  dats m (fun c => queries scale (q c) (k c)) (fun c => Cert.Proof.Attention.keys (k c)) (fun c => vals (v c))
    (fun c => outs scale (q c) (k c) (v c) (d c))

/-- The lines after the kernel find the array of window 4. -/
theorem after4 (c : Dev nD) : Pipeline.withArrays (cfgs 0).spec c (V0 m c) (fun w => (given m q k v d 0 c).arrAt w (cfgs 0).N) (Proc.devRef .tc main_v57_0)
    = (given m q k v d 0 c).arrAt 4 cfg0.N :=
  Pipeline.withArrays_arr spec0 launch0.win.arr_inj c (V0 m c) (fun w => (given m q k v d 0 c).arrAt w (cfgs 0).N) 4

/-- And that of window 5. -/
theorem after5 (c : Dev nD) : Pipeline.withArrays (cfgs 0).spec c (V0 m c) (fun w => (given m q k v d 0 c).arrAt w (cfgs 0).N) (Proc.devRef .tc main_v57_1)
    = (given m q k v d 0 c).arrAt 5 cfg0.N :=
  Pipeline.withArrays_arr spec0 launch0.win.arr_inj c (V0 m c) (fun w => (given m q k v d 0 c).arrAt w (cfgs 0).N) 5

set_option maxRecDepth 8192 in
/-- The gradient of the queries, scaled after the kernel. -/
theorem end_q (c : Dev nD) : Pipeline.afterTail₀ cfgs (given m q k v d) 0 (V0 m) [hostOps1] c main_v62
    = (arr3 fun h i l => ∑ j ∈ Finset.range 4096, slope scale (q c) (k c) (v c) (d c) h i j * scale * k c h j l : S8x4096x96.Idx → EReal) := by
  have e : Pipeline.afterTail₀ cfgs (given m q k v d) 0 (V0 m) [hostOps1] c main_v62
      = (Host.divf (mulf (extractStridedSlice S8x4096x96 ![0, 0, 0] ((given m q k v d 0 c).arrAt 4 cfg0.N) slices_S8x4096x128_S8x4096x96_0_0_0)
          (broadcastInDim S8x4096x96 ![] bcast_S_S8x4096x96 (constant S_ .f32 0x3DD105EC#32)))
        (broadcastInDim S8x4096x96 ![] bcast_S_S8x4096x96 (V m c main_v1)) : FVec Ideal S8x4096x96 .f32) := by
    unfold Pipeline.afterTail₀
    simp only [hostOps1, List.flatten_cons, List.flatten_nil, List.append_nil]
    after_results_simp
    rw [Pipeline.withArrays_of_ne _ c (V0 m c) _ main_v1 (by exact (by decide : ∀ w, Pipeline.arrRef spec0 w ≠ main_v1)),
      after4 c]
  rw [e, final4, found_two]
  exact eq_arr3 ((((is_arr3 _).first (φ := .f32) _ (by norm_num)).mulf (Is3.splat is_scale _)).divf (Is3.splat is_log_two _) fun _ _ _ _ _ _ => log_two_ne)
    fun h i l hh hi hl => dq_eq scale (q c) (k c) (v c) (d c) h i l hi hl

set_option maxRecDepth 8192 in
/-- The gradient of the keys. -/
theorem end_k (c : Dev nD) : Pipeline.afterTail₀ cfgs (given m q k v d) 0 (V0 m) [hostOps1] c main_v63
    = (arr3 fun h j l => ∑ i ∈ Finset.range 4096, slope scale (q c) (k c) (v c) (d c) h i j * scale * q c h i l : S8x4096x96.Idx → EReal) := by
  have e : Pipeline.afterTail₀ cfgs (given m q k v d) 0 (V0 m) [hostOps1] c main_v63
      = (extractStridedSlice S8x4096x96 ![0, 0, 0] ((given m q k v d 0 c).arrAt 5 cfg0.N) slices_S8x4096x128_S8x4096x96_0_0_0 : FVec Ideal S8x4096x96 .f32) := by
    unfold Pipeline.afterTail₀
    simp only [hostOps1, List.flatten_cons, List.flatten_nil, List.append_nil]
    after_results_simp
    rw [after5 c]
  rw [e, final5]
  exact eq_arr3 ((is_arr3 _).first (φ := .f32) _ (by norm_num)) fun h j l hh hj hl => dk_eq scale (q c) (k c) (v c) (d c) h j l hl

/-- The gradient of the values. -/
theorem end_v (c : Dev nD) : (given m q k v d 0 c).arrAt 6 cfg0.N
    = (arr3 fun h j l => ∑ i ∈ Finset.range 4096, d c h i l * soft scale (q c) (k c) h i j : S8x4096x64.Idx → EReal) := by
  rw [final6]
  exact eq_arr3 (is_arr3 _) fun h j l hh hj hl => dv_eq scale (q c) (k c) (v c) (d c) h j l hl

/-- Every run of the kernel ends with the three gradients in the results and the arguments as they were. -/
theorem results (A : Args m q k v d) : θ_run defs (onTc (τ := τ) (main (F := Ideal))) ⟨m, fun _ => 0, ρ⟩ (fun r => ∀ c : Dev nD,
    r.2.mem ((c.tc : Thread nD τ).loc main_v62)
        = (arr3 fun h i l => ∑ j ∈ Finset.range 4096, slope scale (q c) (k c) (v c) (d c) h i j * scale * k c h j l : S8x4096x96.Idx → EReal)
      ∧ r.2.mem ((c.tc : Thread nD τ).loc main_v63)
        = (arr3 fun h j l => ∑ i ∈ Finset.range 4096, slope scale (q c) (k c) (v c) (d c) h i j * scale * q c h i l : S8x4096x96.Idx → EReal)
      ∧ r.2.mem ((c.tc : Thread nD τ).loc main_v57_2)
        = (arr3 fun h j l => ∑ i ∈ Finset.range 4096, d c h i l * soft scale (q c) (k c) h i j : S8x4096x64.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v62 (Pipeline.mem_restRefs_of main_v62 (by decide) (by decide))).trans (end_q c),
      ((h c).2 main_v63 (Pipeline.mem_restRefs_of main_v63 (by decide) (by decide))).trans (end_k c),
      ((h c).1 6).trans (end_v c),
      ((h c).2 main_arg0 (Pipeline.mem_restRefs_of main_arg0 (by decide) (by decide))).trans (W_main_arg0 m _ c),
      ((h c).2 main_arg1 (Pipeline.mem_restRefs_of main_arg1 (by decide) (by decide))).trans (W_main_arg1 m _ c),
      ((h c).2 main_arg2 (Pipeline.mem_restRefs_of main_arg2 (by decide) (by decide))).trans (W_main_arg2 m _ c),
      ((h c).2 main_arg3 (Pipeline.mem_restRefs_of main_arg3 (by decide) (by decide))).trans (W_main_arg3 m _ c)⟩) (run ρ (entry A))

end Cert.AttnIdeal.Gen

end
-- ==== Proof.AttnRef.lean ====
/- What the reference of the attention's gradients computes, as real numbers. -/
module

public import proofs.«01_k».proof.Proof.AttnHost
public import proofs.«01_k».proof.Proof.Gen.AttnRefIdeal.Run
public import proofs.«01_k».proof.Proof.Gen.AttnRefIdeal.Read

@[expose] public section

noncomputable section

namespace Cert.Proof.AttnRef

open Cert.Proof.Reals Cert.Proof.Attention Cert.AttnRefIdeal Cert.AttnRefIdeal.Read
open Idealize.ShloMosaic hiding ix1 ix2 ix3
open Idealize.ShloMosaic.ValueIdx
open scoped BigOperators

variable {x0 x1 : FVec Ideal S8x4096x96 .f32} {x2 x3 : FVec Ideal S8x4096x64 .f32} {q k v d : ℕ → ℕ → ℕ → ℝ}
  (h0 : Is3 x0 q) (h1 : Is3 x1 k) (h2 : Is3 x2 v) (h3 : Is3 x3 d)

/-- The mask keeps the positions that are not after the query's. -/
theorem mask (h : Fin 8) (i j : Fin 4096) : val_main_v9_1 (F := Ideal) (ix3 h i j) = 1#1 ↔ j.val ≤ i.val :=
  behind (by norm_num) _ _ _ _ _ h i j

include h0 h1

/-- The masked scores. -/
theorem score (h : Fin 8) (i j : Fin 4096) :
    val_main_v9_0 (F := Ideal) x0 x1 (ix3 h i j) = if j.val ≤ i.val then ((raw scale q k h.val i.val j.val : ℝ) : EReal) else ⊥ :=
  select_behind mask ((h0.dot_nt h1 _).mulf (Is3.splat is_scale _)) (fun _ _ _ => is_bot fun a => a.elim0) h i j

/-- The largest score of each row, as the reduction finds it. -/
theorem found : Is2 (val_main_v10 (F := Ideal) x0 x1) (top (raw scale q k)) := by
  unfold val_main_v10
  exact max_masked (φ := .f32) (score h0 h1) is_bot _ (by decide) _

/-- The largest score of each row. -/
theorem largest : Is2 (val_main_v17 (F := Ideal) x0 x1) (top (raw scale q k)) := fun h i => by
  have b : val_main_v16 (F := Ideal) (ix2 h i) = (⊥ : EReal) := is_bot fun a => a.elim0
  rw [val_main_v17_apply, b, found h0 h1 h i]
  exact max_eq_right bot_le

theorem exponentials : Is3 (val_main_v30 (F := Ideal) x0 x1) (weight scale q k) :=
  is_weight (score h0 h1) (((largest h0 h1).unit (φ := .f32) _).rows (φ := .f32) _)

theorem totals : Is3 (val_main_v32 (F := Ideal) x0 x1) fun h i _ => total scale q k h i :=
  ((exponentials h0 h1).sum is_zero _ (by decide) _).unit _

/-- The softmax. -/
theorem softmax : Is3 (val_main_v34 (F := Ideal) x0 x1) (soft scale q k) :=
  (exponentials h0 h1).divf ((totals h0 h1).rows (φ := .f32) _) fun h i _ _ hi _ => (total_pos scale q k h i hi).ne'

include h3

/-- The gradient of the values. -/
theorem values : Is3 (val_main_v40 (F := Ideal) x0 x1 x3) fun h j l => ∑ i ∈ Finset.range 4096, d h i l * soft scale q k h i j :=
  (h3.dot_tn (softmax h0 h1) _).swap _

include h2

/-- The gradient of the softmax. -/
theorem ups : Is3 (val_main_v41 (F := Ideal) x2 x3) (up v d) := h3.dot_nt h2 _

/-- What the sum of the exponentials contributes to the gradient of each of them. -/
theorem shared : Is2 (val_main_v50 (F := Ideal) x0 x1 x2 x3) fun h i => ∑ _x ∈ Finset.range 1,
    -∑ j ∈ Finset.range 4096, up v d h i j * (1 / (total scale q k h i * total scale q k h i)) * weight scale q k h i j :=
  (((((ups h0 h1 h2 h3).mulf (((Is3.splat is_one _).divf ((totals h0 h1).mulf (totals h0 h1)) fun h i _ _ hi _ =>
    mul_ne_zero (total_pos scale q k h i hi).ne' (total_pos scale q k h i hi).ne').rows _)).mulf (exponentials h0 h1)).sum
      is_zero _ (by decide) _).cast _).negf.sum is_zero _ (by decide) _

/-- The gradient of the scores before the scale. -/
theorem slopes : Is3 (val_main_v54 (F := Ideal) x0 x1 x2 x3) (slope scale q k v d) := fun h i j =>
  (select_behind mask ((((ups h0 h1 h2 h3).divf ((totals h0 h1).rows (φ := .f32) _) fun h i _ _ hi _ => (total_pos scale q k h i hi).ne').addf
    ((shared h0 h1 h2 h3).rows (φ := .f32) _)).mulf (exponentials h0 h1)) (fun _ _ _ => is_zero fun a => a.elim0) h i j).trans (by
      rw [← slope_eq scale q k v d h.val i.val j.val i.isLt]
      split <;> rfl)

theorem scaled : Is3 (val_main_v56 (F := Ideal) x0 x1 x2 x3) fun h i j => slope scale q k v d h i j * scale :=
  (slopes h0 h1 h2 h3).mulf (Is3.splat is_scale _)

/-- The gradient of the keys. -/
theorem keys : Is3 (val_main_v57 (F := Ideal) x0 x1 x2 x3) fun h j l => ∑ i ∈ Finset.range 4096, slope scale q k v d h i j * scale * q h i l :=
  (scaled h0 h1 h2 h3).dot_tn h0 _

/-- The gradient of the queries. -/
theorem queries : Is3 (val_main_v58 (F := Ideal) x0 x1 x2 x3) fun h i l => ∑ j ∈ Finset.range 4096, slope scale q k v d h i j * scale * k h j l :=
  (scaled h0 h1 h2 h3).dot_nn h1 _

end Cert.Proof.AttnRef

end
-- ==== Proof.Finite.lean ====
/- Arrays whose numbers are all finite hold real numbers. -/
module

public import proofs.«01_k».proof.Proof.HostReals
public import proofs.«01_k».proof.Proof.Gen.Pre_finite
public import Idealize.ShloMosaic.Lib.ReduceAll
public import Idealize.ShloMosaic.PureOps.Ideal.Laws

@[expose] public section

noncomputable section

namespace Cert.Proof.Finite

open Cert.Proof.Reals
open Idealize.ShloMosaic hiding ix1 ix2 ix3
open Idealize.ShloMosaic.ValueIdx

/-- The real numbers of an array by the coordinates, nought outside it. -/
def reals {a b c : ℕ} (x : (⟨3, ![a, b, c]⟩ : Shape).Idx → EReal) (i j k : ℕ) : ℝ :=
  if h : i < a ∧ j < b ∧ k < c then (x (ix3 ⟨i, h.1⟩ ⟨j, h.2.1⟩ ⟨k, h.2.2⟩)).toReal else 0

/-- A number whose absolute value is below infinity is real. -/
theorem real_of_lt {x : EReal} (h : max x (-x) < ⊤) : x = ((x.toReal : ℝ) : EReal) := by
  refine (EReal.coe_toReal ?_ ?_).symm
  · rintro rfl; simp at h
  · rintro rfl; simp at h

/-- An array that passes the test of being finite holds the numbers `reals`. -/
theorem is_reals {a b c : ℕ} {x : FVec Ideal ⟨3, ![a, b, c]⟩ .f32} (hb : (⟨0, ![]⟩ : Shape).BroadcastsInDim ⟨3, ![a, b, c]⟩ ![])
    {hr : (⟨3, ![a, b, c]⟩ : Shape).ReducesTo [0, 1, 2] ⟨0, ![]⟩} {hu : 0 < (⟨0, ![]⟩ : Shape).numel} {i : (⟨0, ![]⟩ : Shape).Idx}
    (h : Host.reduce IntOp.andi (cmpf .olt (Host.absf x) (broadcastInDim ⟨3, ![a, b, c]⟩ ![] hb (constant ⟨0, ![]⟩ .f32 0x7F800000#32)))
      (constantI ⟨0, ![]⟩ 1 1#1) hr hu i = 1#1) : Is3 x (reals x) := fun p q r => by
  have e := Host.reduce_andi_all _ _ _ _ _ h (ix3 p q r)
  have t : Ideal.ofBits .f32 0x7F800000#32 = (⊤ : EReal) := by simp [Ideal.ofBits, Ideal.ieee]
  have l : max (x (ix3 p q r)) (-x (ix3 p q r)) < ⊤ := by
    have : BitVec.ofBool (decide (max (x (ix3 p q r)) (-x (ix3 p q r)) < Ideal.ofBits .f32 0x7F800000#32)) = 1#1 := e
    rw [t] at this
    by_contra n
    rw [decide_eq_false n] at this
    exact absurd this (by decide)
  rw [reals, dif_pos ⟨p.isLt, q.isLt, r.isLt⟩]
  exact real_of_lt l

/-- Four words side by side, read one by one. -/
theorem words {w : BitVec 1} {b₀ b₁ b₂ b₃ : (⟨0, ![]⟩ : Shape).Idx → BitVec 1} (hb : (⟨0, ![]⟩ : Shape).BroadcastsInDim ⟨1, ![1]⟩ ![])
    {hc : Shape.Concatenates [⟨1, ![1]⟩, ⟨1, ![1]⟩, ⟨1, ![1]⟩, ⟨1, ![1]⟩] ⟨1, ![4]⟩ 0}
    (h : concatenate (⟨1, ![4]⟩ : Shape) 0 [⟨⟨1, ![1]⟩, broadcastInDim ⟨1, ![1]⟩ ![] hb b₀⟩, ⟨⟨1, ![1]⟩, broadcastInDim ⟨1, ![1]⟩ ![] hb b₁⟩,
      ⟨⟨1, ![1]⟩, broadcastInDim ⟨1, ![1]⟩ ![] hb b₂⟩, ⟨⟨1, ![1]⟩, broadcastInDim ⟨1, ![1]⟩ ![] hb b₃⟩] hc = fun _ => w) :
    b₀ (fun a => a.elim0) = w ∧ b₁ (fun a => a.elim0) = w ∧ b₂ (fun a => a.elim0) = w ∧ b₃ (fun a => a.elim0) = w :=
  ⟨(congrArg b₀ (funext fun a => a.elim0)).trans (congrFun h (ValueIdx.ix1 0)),
    (congrArg b₁ (funext fun a => a.elim0)).trans (congrFun h (ValueIdx.ix1 1)),
    (congrArg b₂ (funext fun a => a.elim0)).trans (congrFun h (ValueIdx.ix1 2)),
    (congrArg b₃ (funext fun a => a.elim0)).trans (congrFun h (ValueIdx.ix1 3))⟩

/-- What the precondition says of the four arguments. -/
theorem of_finite {x0 x1 : FVec Ideal ⟨3, ![8, 4096, 96]⟩ .f32} {x2 x3 : FVec Ideal ⟨3, ![8, 4096, 64]⟩ .f32}
    (h : Cert.Pre_finite.fn (F := Ideal) x0 x1 x2 x3 = fun _ => 1#1) :
    Is3 x0 (reals x0) ∧ Is3 x1 (reals x1) ∧ Is3 x2 (reals x2) ∧ Is3 x3 (reals x3) := by
  unfold Cert.Pre_finite.fn Cert.Pre_finite.fn_part1 at h
  dsimp only at h
  obtain ⟨a, b, c, d⟩ := words _ h
  exact ⟨is_reals _ a, is_reals _ b, is_reals _ c, is_reals _ d⟩

end Cert.Proof.Finite

end
-- ==== Proof.MlpBody.lean ====
/- What one step of the kernel for the gradients of the feed-forward block computes from the blocks it reads, row by row:
   the stored block of the input's gradient, and the products over the block's rows. -/
module

public import proofs.«01_k».proof.Defs
public import proofs.«01_k».proof.Proof.Common
public import proofs.«01_k».proof.Proof.Gen.MlpIdeal.Frame
public import Idealize.ShloMosaic.Lib.Pipeline.ValueKit
public import Idealize.ShloMosaic.Lib.Pipeline.ReadBack

@[expose] public section

noncomputable section

namespace Cert.Proof.MlpBody

open Idealize.ShloMosaic hiding ix1 ix2 ix3 eq_ix2 eq_ix3
open Cert.MlpIdeal Cert.MlpIdeal.Gen Idealize.ShloMosaic.TcCoe Idealize.SL.Sem Idealize.ShloMosaic.ValueIdx
open Idealize.ShloMosaic.Tactic
open scoped BigOperators

/-! ## The gradients of one row -/

/-- The cotangent of the mixing: the incoming row times the gate of the residual. -/
def dmix (y s : Fin 1024 → EReal) (d : Fin 1024) : EReal := y d * s d

/-- The cotangent of the activation. -/
def dact (wd : Fin 704 → Fin 1024 → EReal) (y s : Fin 1024 → EReal) (f : Fin 704) : EReal := ∑ d, dmix y s d * wd f d

/-- The cotangent of the gate's input, from the gate, the other factor and the activation's cotangent. -/
def dgate (g u a : EReal) : EReal := a * u * Ideal.logistic g + g * (a * u) * (Ideal.logistic g * (1 - Ideal.logistic g))

/-- The cotangent of the other factor. -/
def dup (g a : EReal) : EReal := g * Ideal.logistic g * a

/-- The activation. -/
def act (g u : EReal) : EReal := g * Ideal.logistic g * u

/-- One device block's part of the input's cotangent. -/
def dh (wg wu wd : Fin 704 → Fin 1024 → EReal) (g u : Fin 704 → EReal) (y s : Fin 1024 → EReal) (d : Fin 1024) : EReal :=
  (∑ f, dgate (g f) (u f) (dact wd y s f) * wg f d) + ∑ f, dup (g f) (dact wd y s f) * wu f d

/-- The row `r` of a matrix, of a stack of one matrix, and that stack's matrix. -/
def row {n k : Nat} (x : (⟨2, ![n, k]⟩ : Shape).Idx → EReal) (r : Fin n) : Fin k → EReal := fun j => x (ix2 r j)
def srow {n k : Nat} (x : (⟨3, ![1, n, k]⟩ : Shape).Idx → EReal) (r : Fin n) : Fin k → EReal := fun j => x (ix3 (0 : Fin 1) r j)

/-! ## The payloads of the first rows at an index -/

theorem pay24_apply (x4 : Vec Ideal S1x1024 .f32) (y : Vec Ideal S256x1024 .f32) (a : Fin 256) (d : Fin 1024) :
    k0_pay24 x4 y (ix2 a d) = dmix (row y a) (row x4 0) d := by
  unfold k0_pay24
  show y (ix2 a d) * broadcastTo S256x1024 x4 broadcasts_S1x1024_S256x1024 (ix2 a d) = y (ix2 a d) * x4 (ix2 0 d)
  rw [broadcastTo_1b_ab_apply]

theorem pay25_apply (x7 : Vec Ideal S1x704x1024 .bf16) (x4 : Vec Ideal S1x1024 .f32) (y : Vec Ideal S256x1024 .f32) (a : Fin 256) (f : Fin 704) :
    k0_pay25 x7 x4 y (ix2 a f) = dact (srow x7) (row y a) (row x4 0) f := by
  unfold k0_pay25 matmul
  rw [Common.matmul_at dot_S256x1024_S704x1024_S256x704_1_1_0_0_n_n 1024 rfl rfl _ _ _ _ _ (fun k => ix2 a k) (fun k => ix2 f k)]
  · rw [show (constant S256x704 .f32 0x00000000#32 : FVec Ideal _ _) (ix2 a f) = 0 from Common.ofBits_zero, zero_add]
    refine Finset.sum_congr rfl fun k _ => ?_
    rw [pay24_apply]
    refine congrArg (dmix (row y a) (row x4 0) k * ·) ?_
    unfold k0_pay18
    rw [shapeCast_1ab_ab_apply]
    rfl
  · intro q k hq b
    match b with
    | ⟨0, _⟩ => rfl
    | ⟨1, _⟩ => exact hq
  · intro q k hq b
    match b with
    | ⟨0, _⟩ => rfl
    | ⟨1, _⟩ => exact hq

theorem pay19_apply (g : Vec Ideal S1x256x704 .bf16) (a : Fin 256) (f : Fin 704) : k0_pay19 g (ix2 a f) = srow g a f := by
  unfold k0_pay19
  show shapeCast S256x704 g shapeCasts_S1x256x704_S256x704 (ix2 a f) = _
  rw [shapeCast_1ab_ab_apply]
  rfl

theorem pay20_apply (u : Vec Ideal S1x256x704 .bf16) (a : Fin 256) (f : Fin 704) : k0_pay20 u (ix2 a f) = srow u a f := by
  unfold k0_pay20
  show shapeCast S256x704 u shapeCasts_S1x256x704_S256x704 (ix2 a f) = _
  rw [shapeCast_1ab_ab_apply]
  rfl

theorem pay26_apply (x7 : Vec Ideal S1x704x1024 .bf16) (x4 : Vec Ideal S1x1024 .f32) (g u : Vec Ideal S1x256x704 .bf16)
    (y : Vec Ideal S256x1024 .f32) (a : Fin 256) (f : Fin 704) :
    k0_pay26 x7 x4 g u y (ix2 a f) = dgate (srow g a f) (srow u a f) (dact (srow x7) (row y a) (row x4 0) f) := by
  rw [← pay25_apply, ← pay19_apply, ← pay20_apply]
  show k0_pay25 x7 x4 y (ix2 a f) * k0_pay20 u (ix2 a f) * Ideal.logistic (k0_pay19 g (ix2 a f))
    + k0_pay19 g (ix2 a f) * (k0_pay25 x7 x4 y (ix2 a f) * k0_pay20 u (ix2 a f))
      * (Ideal.logistic (k0_pay19 g (ix2 a f)) * ((FloatOps.ofBits .f32 0x3F800000#32 : Ideal .f32) - Ideal.logistic (k0_pay19 g (ix2 a f)))) = _
  rw [Common.ofBits_one]
  rfl

theorem pay27_apply (x7 : Vec Ideal S1x704x1024 .bf16) (x4 : Vec Ideal S1x1024 .f32) (g : Vec Ideal S1x256x704 .bf16)
    (y : Vec Ideal S256x1024 .f32) (a : Fin 256) (f : Fin 704) :
    k0_pay27 x7 x4 g y (ix2 a f) = dup (srow g a f) (dact (srow x7) (row y a) (row x4 0) f) := by
  rw [← pay25_apply, ← pay19_apply]
  rfl

theorem pay23_apply (g u : Vec Ideal S1x256x704 .bf16) (a : Fin 256) (f : Fin 704) :
    k0_pay23 g u (ix2 a f) = act (srow g a f) (srow u a f) := by
  rw [← pay19_apply, ← pay20_apply]
  rfl

theorem pay28_apply (x5 x6 x7 : Vec Ideal S1x704x1024 .bf16) (x4 : Vec Ideal S1x1024 .f32) (g u : Vec Ideal S1x256x704 .bf16)
    (y : Vec Ideal S256x1024 .f32) (a : Fin 256) (d : Fin 1024) :
    k0_pay28 x5 x6 x7 x4 g u y (ix2 a d) = dh (srow x5) (srow x6) (srow x7) (srow g a) (srow u a) (row y a) (row x4 0) d := by
  unfold k0_pay28 matmul
  show FloatOps.matmul (F := Ideal) _ _ _ _ _ (ix2 a d) + FloatOps.matmul (F := Ideal) _ _ _ _ _ (ix2 a d) = _
  rw [Common.matmul_at dot_S256x704_S704x1024_S256x1024_1_0_0_1_n_n 704 rfl rfl _ _ _ _ _ (fun k => ix2 a k) (fun k => ix2 k d),
    Common.matmul_at dot_S256x704_S704x1024_S256x1024_1_0_0_1_n_n 704 rfl rfl _ _ _ _ _ (fun k => ix2 a k) (fun k => ix2 k d)]
  · rw [show (constant S256x1024 .f32 0x00000000#32 : FVec Ideal _ _) (ix2 a d) = 0 from Common.ofBits_zero, zero_add, zero_add]
    refine congrArg₂ (· + ·) (Finset.sum_congr rfl fun k _ => ?_) (Finset.sum_congr rfl fun k _ => ?_)
    · rw [pay26_apply]
      refine congrArg (dgate _ _ _ * ·) ?_
      unfold k0_pay16
      rw [shapeCast_1ab_ab_apply]
      rfl
    · rw [pay27_apply]
      refine congrArg (dup _ _ * ·) ?_
      unfold k0_pay17
      rw [shapeCast_1ab_ab_apply]
      rfl
  all_goals
    intro q k hq b
    match b with
    | ⟨0, _⟩ => first | rfl | exact hq
    | ⟨1, _⟩ => first | rfl | exact hq

/-! ## The stored chunk of 256 rows, for each of the four chunks -/

theorem pay29_apply (x5 x6 x7 : Vec Ideal S1x704x1024 .bf16) (x4 : Vec Ideal S1x1024 .f32) (g u : Vec Ideal S1x256x704 .bf16)
    (y : Vec Ideal S256x1024 .f32) (z : Fin 1) (a : Fin 256) (d : Fin 1024) :
    k0_pay29 (k0_pay28 x5 x6 x7 x4 g u y) (ix3 z a d) = dh (srow x5) (srow x6) (srow x7) (srow g a) (srow u a) (row y a) (row x4 0) d := by
  rw [← pay28_apply]
  unfold k0_pay29
  rw [shapeCast_ab_1ab_apply]
  rfl

theorem pay44_eq (x5 x6 x7 : Vec Ideal S1x704x1024 .bf16) (x4 : Vec Ideal S1x1024 .f32) (g u : Vec Ideal S1x256x704 .bf16)
    (y : Vec Ideal S256x1024 .f32) :
    k0_pay44 (k0_pay16 x5) (k0_pay17 x6) (k0_pay34 g) (k0_pay35 u) (k0_pay36 g) (k0_pay37 g) (k0_pay38 g) (k0_pay41 (k0_pay18 x7) x4 y)
      = k0_pay29 (k0_pay28 x5 x6 x7 x4 g u y) := rfl

theorem pay57_eq (x5 x6 x7 : Vec Ideal S1x704x1024 .bf16) (x4 : Vec Ideal S1x1024 .f32) (g u : Vec Ideal S1x256x704 .bf16)
    (y : Vec Ideal S256x1024 .f32) :
    k0_pay57 (k0_pay16 x5) (k0_pay17 x6) (k0_pay18 x7) x4 (k0_pay49 g) (k0_pay50 u) (k0_pay51 g) (FloatOps.ofBits FTy.f32 1065353216#32) y
      = k0_pay29 (k0_pay28 x5 x6 x7 x4 g u y) := rfl

theorem pay70_eq (x5 x6 x7 : Vec Ideal S1x704x1024 .bf16) (x4 : Vec Ideal S1x1024 .f32) (g u : Vec Ideal S1x256x704 .bf16)
    (y : Vec Ideal S256x1024 .f32) :
    k0_pay70 (k0_pay16 x5) (k0_pay17 x6) (k0_pay18 x7) x4 g u y = k0_pay29 (k0_pay28 x5 x6 x7 x4 g u y) := rfl

/-- The rows `o` to `o + 255` of an array with 1024 rows. -/
abbrev chunk (o n : Nat) (h : ∀ a : Fin 2, (![o, 0] : Fin 2 → Nat) a + (![256, n] : Fin 2 → Nat) a ≤ (⟨2, ![1024, n]⟩ : Shape).size a) :
    Rect (⟨2, ![1024, n]⟩ : Shape) := Rect.unit ![o, 0] ![256, n] h

/-- The same rows of a stack of one such array. -/
abbrev schunk (o n : Nat) (h : ∀ a : Fin 3, (![0, o, 0] : Fin 3 → Nat) a + (![1, 256, n] : Fin 3 → Nat) a ≤ (⟨3, ![1, 1024, n]⟩ : Shape).size a) :
    Rect (⟨3, ![1, 1024, n]⟩ : Shape) := Rect.unit ![0, o, 0] ![1, 256, n] h

theorem chunk_emb {o n : Nat} (ho : o ≤ 768) (h) (a : Fin 256) (k : Fin n) :
    (chunk o n h).emb (ix2 a k) = ix2 (⟨o + a, by omega⟩ : Fin 1024) k := by
  funext b
  match b with
  | ⟨0, _⟩ => exact Fin.ext (by show o + 1 * a.val = o + a.val; omega)
  | ⟨1, _⟩ => exact Fin.ext (by show 0 + 1 * k.val = k.val; omega)

theorem schunk_emb {o n : Nat} (ho : o ≤ 768) (h) (z : Fin 1) (a : Fin 256) (k : Fin n) :
    (schunk o n h).emb (ix3 z a k) = ix3 (0 : Fin 1) (⟨o + a, by omega⟩ : Fin 1024) k := by
  funext b
  match b with
  | ⟨0, _⟩ => exact Fin.ext (by show 0 + 1 * z.val = 0; omega)
  | ⟨1, _⟩ => exact Fin.ext (by show o + 1 * a.val = o + a.val; omega)
  | ⟨2, _⟩ => exact Fin.ext (by show 0 + 1 * k.val = k.val; omega)

/-- A row of a loaded chunk is that row of the array. -/
theorem row_ld {n : Nat} {e : EltTy} {o : Nat} (ho : o ≤ 768) (h) (x : (⟨2, ![1024, n]⟩ : Shape).Idx → Elt Ideal e) (a : Fin 256) (k : Fin n) :
    View.ld (Val := Elt Ideal) x (chunk o n h) (ix2 a k) = x (ix2 (⟨o + a, by omega⟩ : Fin 1024) k) :=
  congrArg x (chunk_emb ho h a k)

theorem srow_ld {n : Nat} {e : EltTy} {o : Nat} (ho : o ≤ 768) (h) (x : (⟨3, ![1, 1024, n]⟩ : Shape).Idx → Elt Ideal e) (z : Fin 1) (a : Fin 256) (k : Fin n) :
    View.ld (Val := Elt Ideal) x (schunk o n h) (ix3 z a k) = x (ix3 (0 : Fin 1) (⟨o + a, by omega⟩ : Fin 1024) k) :=
  congrArg x (schunk_emb ho h z a k)

theorem chunk_of {n : Nat} {e : EltTy} {o : Nat} (ho : o ≤ 768) (h) (G : (⟨2, ![1024, n]⟩ : Shape).Idx → Elt Ideal e)
    (w : (⟨2, ![256, n]⟩ : Shape).Idx → Elt Ideal e) (e1 : ∀ (a : Fin 256) (k : Fin n), w (ix2 a k) = G (ix2 ⟨o + a, by omega⟩ k))
    (x : (⟨2, ![256, n]⟩ : Shape).Idx) : w x = G ((chunk o n h).emb x) := by
  obtain ⟨a, k, rfl⟩ : ∃ (a : Fin 256) (k : Fin n), x = ix2 a k := ⟨x 0, x 1, eq_ix2 x⟩
  exact (e1 a k).trans (congrArg G (chunk_emb ho h a k).symm)

theorem schunk_of {n : Nat} {e : EltTy} {o : Nat} (ho : o ≤ 768) (h) (G : (⟨3, ![1, 1024, n]⟩ : Shape).Idx → Elt Ideal e)
    (w : (⟨3, ![1, 256, n]⟩ : Shape).Idx → Elt Ideal e) (e1 : ∀ (z : Fin 1) (a : Fin 256) (k : Fin n), w (ix3 z a k) = G (ix3 0 ⟨o + a, by omega⟩ k))
    (x : (⟨3, ![1, 256, n]⟩ : Shape).Idx) : w x = G ((schunk o n h).emb x) := by
  obtain ⟨z, a, k, rfl⟩ : ∃ (z : Fin 1) (a : Fin 256) (k : Fin n), x = ix3 z a k := ⟨x 0, x 1, x 2, eq_ix3 x⟩
  exact (e1 z a k).trans (congrArg G (schunk_emb ho h z a k).symm)

/-- Four chunks stored one after the other, each at the rows of `G`, leave `G`. -/
theorem canon_rows {n : Nat} {e : EltTy} (G : (⟨2, ![1024, n]⟩ : Shape).Idx → Elt Ideal e) (h3 h2 h1 h0)
    (w3 w2 w1 w0 : (⟨2, ![256, n]⟩ : Shape).Idx → Elt Ideal e)
    (e3 : ∀ (a : Fin 256) (k : Fin n), w3 (ix2 a k) = G (ix2 ⟨768 + a, by omega⟩ k))
    (e2 : ∀ (a : Fin 256) (k : Fin n), w2 (ix2 a k) = G (ix2 ⟨512 + a, by omega⟩ k))
    (e1 : ∀ (a : Fin 256) (k : Fin n), w1 (ix2 a k) = G (ix2 ⟨256 + a, by omega⟩ k))
    (e0 : ∀ (a : Fin 256) (k : Fin n), w0 (ix2 a k) = G (ix2 ⟨0 + a, by omega⟩ k)) :
    View.canon (Val := Elt Ideal) [⟨chunk 768 n h3, w3⟩, ⟨chunk 512 n h2, w2⟩, ⟨chunk 256 n h1, w1⟩, ⟨chunk 0 n h0, w0⟩] = G := by
  funext y
  refine View.canon_apply_of_pieces G _ ?_ y ?_
  · simp only [List.mem_cons, List.not_mem_nil, _root_.or_false]
    rintro p (rfl | rfl | rfl | rfl) x
    · exact chunk_of (by omega) h3 G w3 e3 x
    · exact chunk_of (by omega) h2 G w2 e2 x
    · exact chunk_of (by omega) h1 G w1 e1 x
    · exact chunk_of (by omega) h0 G w0 e0 x
  · have hy : (y 0).val < 1024 := (y 0).isLt
    have hk : (y 1).val < n := (y 1).isLt
    have key : ∀ (o : Nat) (h), o ≤ (y 0).val → (y 0).val < o + 256 → y ∈ (chunk o n h).set := fun o h l u => by
      rw [Rect.mem_set_unit]
      intro b
      match b with
      | ⟨0, _⟩ => exact ⟨l, u⟩
      | ⟨1, _⟩ => exact ⟨Nat.zero_le _, by show (y 1).val < 0 + n; omega⟩
    by_cases c3 : 768 ≤ (y 0).val
    · exact ⟨_, .head _, key 768 h3 c3 (by omega)⟩
    by_cases c2 : 512 ≤ (y 0).val
    · exact ⟨_, .tail _ (.head _), key 512 h2 c2 (by omega)⟩
    by_cases c1 : 256 ≤ (y 0).val
    · exact ⟨_, .tail _ (.tail _ (.head _)), key 256 h1 c1 (by omega)⟩
    · exact ⟨_, .tail _ (.tail _ (.tail _ (.head _))), key 0 h0 (by omega) (by omega)⟩

/-- The same for a stack of one array. -/
theorem canon_srows {n : Nat} {e : EltTy} (G : (⟨3, ![1, 1024, n]⟩ : Shape).Idx → Elt Ideal e) (h3 h2 h1 h0)
    (w3 w2 w1 w0 : (⟨3, ![1, 256, n]⟩ : Shape).Idx → Elt Ideal e)
    (e3 : ∀ (z : Fin 1) (a : Fin 256) (k : Fin n), w3 (ix3 z a k) = G (ix3 0 ⟨768 + a, by omega⟩ k))
    (e2 : ∀ (z : Fin 1) (a : Fin 256) (k : Fin n), w2 (ix3 z a k) = G (ix3 0 ⟨512 + a, by omega⟩ k))
    (e1 : ∀ (z : Fin 1) (a : Fin 256) (k : Fin n), w1 (ix3 z a k) = G (ix3 0 ⟨256 + a, by omega⟩ k))
    (e0 : ∀ (z : Fin 1) (a : Fin 256) (k : Fin n), w0 (ix3 z a k) = G (ix3 0 ⟨0 + a, by omega⟩ k)) :
    View.canon (Val := Elt Ideal) [⟨schunk 768 n h3, w3⟩, ⟨schunk 512 n h2, w2⟩, ⟨schunk 256 n h1, w1⟩, ⟨schunk 0 n h0, w0⟩] = G := by
  funext y
  refine View.canon_apply_of_pieces G _ ?_ y ?_
  · simp only [List.mem_cons, List.not_mem_nil, _root_.or_false]
    rintro p (rfl | rfl | rfl | rfl) x
    · exact schunk_of (by omega) h3 G w3 e3 x
    · exact schunk_of (by omega) h2 G w2 e2 x
    · exact schunk_of (by omega) h1 G w1 e1 x
    · exact schunk_of (by omega) h0 G w0 e0 x
  · have hz : (y 0).val < 1 := (y 0).isLt
    have hy : (y 1).val < 1024 := (y 1).isLt
    have hk : (y 2).val < n := (y 2).isLt
    have key : ∀ (o : Nat) (h), o ≤ (y 1).val → (y 1).val < o + 256 → y ∈ (schunk o n h).set := fun o h l u => by
      rw [Rect.mem_set_unit]
      intro b
      match b with
      | ⟨0, _⟩ => exact ⟨Nat.zero_le _, by show (y 0).val < 0 + 1; omega⟩
      | ⟨1, _⟩ => exact ⟨l, u⟩
      | ⟨2, _⟩ => exact ⟨Nat.zero_le _, by show (y 2).val < 0 + n; omega⟩
    by_cases c3 : 768 ≤ (y 1).val
    · exact ⟨_, .head _, key 768 h3 c3 (by omega)⟩
    by_cases c2 : 512 ≤ (y 1).val
    · exact ⟨_, .tail _ (.head _), key 512 h2 c2 (by omega)⟩
    by_cases c1 : 256 ≤ (y 1).val
    · exact ⟨_, .tail _ (.tail _ (.head _)), key 256 h1 c1 (by omega)⟩
    · exact ⟨_, .tail _ (.tail _ (.tail _ (.head _))), key 0 h0 (by omega) (by omega)⟩

/-- A load of the whole array after the four chunks reads `G`. -/
theorem cov_rows {κ : Kind} {sp : Space} {n : Nat} {e : EltTy} (v : View sig κ sp (⟨2, ![1024, n]⟩ : Shape) e)
    (G : (⟨2, ![1024, n]⟩ : Shape).Idx → Elt Ideal e) (h3 h2 h1 h0)
    (h : ∀ a : Fin 2, (![0, 0] : Fin 2 → Nat) a + (![1024, n] : Fin 2 → Nat) a ≤ (⟨2, ![1024, n]⟩ : Shape).size a)
    (w3 w2 w1 w0 : (⟨2, ![256, n]⟩ : Shape).Idx → Elt Ideal e)
    (e3 : ∀ (a : Fin 256) (k : Fin n), w3 (ix2 a k) = G (ix2 ⟨768 + a, by omega⟩ k))
    (e2 : ∀ (a : Fin 256) (k : Fin n), w2 (ix2 a k) = G (ix2 ⟨512 + a, by omega⟩ k))
    (e1 : ∀ (a : Fin 256) (k : Fin n), w1 (ix2 a k) = G (ix2 ⟨256 + a, by omega⟩ k))
    (e0 : ∀ (a : Fin 256) (k : Fin n), w0 (ix2 a k) = G (ix2 ⟨0 + a, by omega⟩ k)) :
    v.readCov (Val := Elt Ideal) [⟨chunk 768 n h3, w3⟩, ⟨chunk 512 n h2, w2⟩, ⟨chunk 256 n h1, w1⟩, ⟨chunk 0 n h0, w0⟩]
      (Rect.unit (s := ⟨2, ![1024, n]⟩) ![0, 0] ![1024, n] h).toLoadRect = G := by
  rw [View.readCov_eq_canon', canon_rows G h3 h2 h1 h0 w3 w2 w1 w0 e3 e2 e1 e0]
  funext j
  refine congrArg G (funext fun b => Fin.ext ?_)
  match b with
  | ⟨0, _⟩ => show 0 + 1 * (j 0).val = (j 0).val; omega
  | ⟨1, _⟩ => show 0 + 1 * (j 1).val = (j 1).val; omega

/-! ## What one step stores, as a function of its blocks -/

/-- The block of the input's cotangent. -/
def DH (x1 : Vec Ideal S1024x1024 .f32) (x2 x3 : Vec Ideal S1x1024x704 .bf16) (x4 : Vec Ideal S1x1024 .f32)
    (x5 x6 x7 : Vec Ideal S1x704x1024 .bf16) : Vec Ideal S1x1024x1024 .bf16 := fun i =>
  dh (srow x5) (srow x6) (srow x7) (srow x2 (i 1)) (srow x3 (i 1)) (row x1 (i 1)) (row x4 0) (i 2)

/-- The block of the gate's cotangent, of the other factor's, the activation and the mixing's cotangent. -/
def DG (x1 : Vec Ideal S1024x1024 .f32) (x2 x3 : Vec Ideal S1x1024x704 .bf16) (x4 : Vec Ideal S1x1024 .f32)
    (x7 : Vec Ideal S1x704x1024 .bf16) : Vec Ideal S1024x704 .bf16 := fun i =>
  dgate (srow x2 (i 0) (i 1)) (srow x3 (i 0) (i 1)) (dact (srow x7) (row x1 (i 0)) (row x4 0) (i 1))
def DU (x1 : Vec Ideal S1024x1024 .f32) (x2 : Vec Ideal S1x1024x704 .bf16) (x4 : Vec Ideal S1x1024 .f32)
    (x7 : Vec Ideal S1x704x1024 .bf16) : Vec Ideal S1024x704 .bf16 := fun i =>
  dup (srow x2 (i 0) (i 1)) (dact (srow x7) (row x1 (i 0)) (row x4 0) (i 1))
def AC (x2 x3 : Vec Ideal S1x1024x704 .bf16) : Vec Ideal S1024x704 .bf16 := fun i =>
  act (srow x2 (i 0) (i 1)) (srow x3 (i 0) (i 1))
def DM (x1 : Vec Ideal S1024x1024 .f32) (x4 : Vec Ideal S1x1024 .f32) : Vec Ideal S1024x1024 .bf16 := fun i =>
  dmix (row x1 (i 0)) (row x4 0) (i 1)

section
variable (x1 : Vec Ideal S1024x1024 .f32) (x2 x3 : Vec Ideal S1x1024x704 .bf16) (x4 : Vec Ideal S1x1024 .f32) (x5 x6 x7 : Vec Ideal S1x704x1024 .bf16)

/-- What one chunk of rows stores into the block of the input's cotangent. -/
theorem chunk_dh {o : Nat} (ho : o ≤ 768) (h) (h') (z : Fin 1) (a : Fin 256) (d : Fin 1024) :
    k0_pay29 (k0_pay28 x5 x6 x7 x4 (View.ld (Val := Elt Ideal) x2 (schunk o 704 h)) (View.ld (Val := Elt Ideal) x3 (schunk o 704 h))
      (View.ld (Val := Elt Ideal) x1 (chunk o 1024 h'))) (ix3 z a d) = DH x1 x2 x3 x4 x5 x6 x7 (ix3 0 ⟨o + a, by omega⟩ d) := by
  rw [pay29_apply]
  show dh _ _ _ _ _ _ _ _ = dh _ _ _ _ _ _ _ _
  rw [show srow (View.ld (Val := Elt Ideal) x2 (schunk o 704 h)) a = srow x2 ⟨o + a, by omega⟩ from funext fun k => srow_ld ho h x2 0 a k,
    show srow (View.ld (Val := Elt Ideal) x3 (schunk o 704 h)) a = srow x3 ⟨o + a, by omega⟩ from funext fun k => srow_ld ho h x3 0 a k,
    show row (View.ld (Val := Elt Ideal) x1 (chunk o 1024 h')) a = row x1 ⟨o + a, by omega⟩ from funext fun k => row_ld ho h' x1 a k]

theorem chunk_dg {o : Nat} (ho : o ≤ 768) (h) (h') (a : Fin 256) (f : Fin 704) :
    k0_pay31 (k0_pay26 x7 x4 (View.ld (Val := Elt Ideal) x2 (schunk o 704 h)) (View.ld (Val := Elt Ideal) x3 (schunk o 704 h))
      (View.ld (Val := Elt Ideal) x1 (chunk o 1024 h'))) (ix2 a f) = DG x1 x2 x3 x4 x7 (ix2 ⟨o + a, by omega⟩ f) := by
  unfold k0_pay31
  rw [shapeCast_self, pay26_apply]
  show dgate _ _ _ = dgate _ _ _
  rw [show srow (View.ld (Val := Elt Ideal) x2 (schunk o 704 h)) a = srow x2 ⟨o + a, by omega⟩ from funext fun k => srow_ld ho h x2 0 a k,
    show srow (View.ld (Val := Elt Ideal) x3 (schunk o 704 h)) a = srow x3 ⟨o + a, by omega⟩ from funext fun k => srow_ld ho h x3 0 a k,
    show row (View.ld (Val := Elt Ideal) x1 (chunk o 1024 h')) a = row x1 ⟨o + a, by omega⟩ from funext fun k => row_ld ho h' x1 a k]

theorem chunk_du {o : Nat} (ho : o ≤ 768) (h) (h') (a : Fin 256) (f : Fin 704) :
    k0_pay32 (k0_pay27 x7 x4 (View.ld (Val := Elt Ideal) x2 (schunk o 704 h)) (View.ld (Val := Elt Ideal) x1 (chunk o 1024 h'))) (ix2 a f)
      = DU x1 x2 x4 x7 (ix2 ⟨o + a, by omega⟩ f) := by
  unfold k0_pay32
  rw [shapeCast_self, pay27_apply]
  show dup _ _ = dup _ _
  rw [show srow (View.ld (Val := Elt Ideal) x2 (schunk o 704 h)) a = srow x2 ⟨o + a, by omega⟩ from funext fun k => srow_ld ho h x2 0 a k,
    show row (View.ld (Val := Elt Ideal) x1 (chunk o 1024 h')) a = row x1 ⟨o + a, by omega⟩ from funext fun k => row_ld ho h' x1 a k]

theorem chunk_ac {o : Nat} (ho : o ≤ 768) (h) (a : Fin 256) (f : Fin 704) :
    k0_pay30 (k0_pay23 (View.ld (Val := Elt Ideal) x2 (schunk o 704 h)) (View.ld (Val := Elt Ideal) x3 (schunk o 704 h))) (ix2 a f)
      = AC x2 x3 (ix2 ⟨o + a, by omega⟩ f) := by
  unfold k0_pay30
  rw [shapeCast_self]
  refine (pay23_apply _ _ a f).trans ?_
  show act _ _ = act _ _
  rw [show srow (View.ld (Val := Elt Ideal) x2 (schunk o 704 h)) a = srow x2 ⟨o + a, by omega⟩ from funext fun k => srow_ld ho h x2 0 a k,
    show srow (View.ld (Val := Elt Ideal) x3 (schunk o 704 h)) a = srow x3 ⟨o + a, by omega⟩ from funext fun k => srow_ld ho h x3 0 a k]

theorem chunk_dm {o : Nat} (ho : o ≤ 768) (h') (a : Fin 256) (d : Fin 1024) :
    k0_pay33 (k0_pay24 x4 (View.ld (Val := Elt Ideal) x1 (chunk o 1024 h'))) (ix2 a d) = DM x1 x4 (ix2 ⟨o + a, by omega⟩ d) := by
  unfold k0_pay33
  rw [shapeCast_self, pay24_apply]
  show dmix _ _ _ = dmix _ _ _
  rw [show row (View.ld (Val := Elt Ideal) x1 (chunk o 1024 h')) a = row x1 ⟨o + a, by omega⟩ from funext fun k => row_ld ho h' x1 a k]

end

/-- The product over the block's rows. -/
def PT (w : Vec Ideal S1024x704 .bf16) (x : Vec Ideal S1024x1024 .bf16) : Vec Ideal S704x1024 .f32 := fun i =>
  ∑ r : Fin 1024, w (ix2 r (i 0)) * x (ix2 r (i 1))

theorem product (w : Vec Ideal S1024x704 .bf16) (x : Vec Ideal S1024x1024 .bf16) :
    matmul dot_S1024x704_S1024x1024_S704x1024_0_0_1_1_n_n none (show FVec Ideal S1024x704 .bf16 from w) (show FVec Ideal S1024x1024 .bf16 from x)
      (constant S704x1024 .f32 0x00000000#32) = PT w x := by
  funext i
  unfold matmul
  rw [Common.matmul_at dot_S1024x704_S1024x1024_S704x1024_0_0_1_1_n_n 1024 rfl rfl _ _ _ _ _ (fun k => ix2 k (i 0)) (fun k => ix2 k (i 1))]
  · rw [show (constant S704x1024 .f32 0x00000000#32 : FVec Ideal _ _) i = 0 from Common.ofBits_zero, zero_add]
    rfl
  all_goals
    intro q k hq b
    match b with
    | ⟨0, _⟩ => first | rfl | exact hq
    | ⟨1, _⟩ => first | rfl | exact hq

theorem pay3_eq (x : Vec Ideal S1024x1024 .bf16) : k0_pay3 x = x := by unfold k0_pay3; rw [shapeCast_self]

theorem pay7_eq (x : Vec Ideal S1024x1024 .bf16) (w : Vec Ideal S1024x704 .bf16) : k0_pay7 x w = PT w x := by
  simp only [k0_pay7, k0_pay4, shapeCast_self, pay3_eq, product]
theorem pay8_eq (x : Vec Ideal S1024x1024 .bf16) (w : Vec Ideal S1024x704 .bf16) : k0_pay8 x w = PT w x := by
  simp only [k0_pay8, k0_pay5, shapeCast_self, pay3_eq, product]
theorem pay9_eq (w : Vec Ideal S1024x704 .bf16) (x : Vec Ideal S1024x1024 .bf16) : k0_pay9 w x = PT w x := by
  simp only [k0_pay9, k0_pay6, shapeCast_self, product]
theorem pay10_eq (x : Vec Ideal S1024x1024 .bf16) (w : Vec Ideal S1024x704 .bf16) (z : Vec Ideal S704x1024 .f32) :
    k0_pay10 x w z = fun i => z i + PT w x i := by
  simp only [k0_pay10, k0_pay4, shapeCast_self, pay3_eq, product]; rfl
theorem pay11_eq (x : Vec Ideal S1024x1024 .bf16) (w : Vec Ideal S1024x704 .bf16) (z : Vec Ideal S704x1024 .f32) :
    k0_pay11 x w z = fun i => z i + PT w x i := by
  simp only [k0_pay11, k0_pay5, shapeCast_self, pay3_eq, product]; rfl
theorem pay12_eq (w : Vec Ideal S1024x704 .bf16) (x : Vec Ideal S1024x1024 .bf16) (z : Vec Ideal S704x1024 .f32) :
    k0_pay12 w x z = fun i => z i + PT w x i := by
  simp only [k0_pay12, k0_pay6, shapeCast_self, product]; rfl

/-- The last stores: the accumulated product as a stack of one matrix. -/
theorem pay13_eq (z : Vec Ideal S704x1024 .f32) : k0_pay13 z = fun i => z (ix2 (i 1) (i 2)) := by
  funext i
  obtain ⟨u, a, b, rfl⟩ : ∃ (u : Fin 1) (a : Fin 704) (b : Fin 1024), i = ix3 u a b := ⟨i 0, i 1, i 2, eq_ix3 i⟩
  unfold k0_pay13
  rw [shapeCast_ab_1ab_apply]
  rfl
theorem pay14_eq (z : Vec Ideal S704x1024 .f32) : k0_pay14 z = fun i => z (ix2 (i 1) (i 2)) := pay13_eq z
theorem pay15_eq (z : Vec Ideal S704x1024 .f32) : k0_pay15 z = fun i => z (ix2 (i 1) (i 2)) := pay13_eq z

/-! ## The step at each point of the grid -/

section
variable (m : (ℓ : Loc nD τ sig) → Buf (Elt Ideal) ℓ) (c : Dev nD) (t : Fin cfg0.N)

/-- Every point stores its block of the input's cotangent. -/
theorem step_dh : (outsAt0 m c t.val t.isLt).1 = DH (iblk m c 1 t) (iblk m c 2 t) (iblk m c 3 t) (iblk m c 4 t) (iblk m c 5 t) (iblk m c 6 t) (iblk m c 7 t) := by
  by_cases h0 : t.val % 4 = 0
  · rw [outsAt0_A m c t h0 (by omega) (by omega)]
    frame_out
    exact canon_srows _ _ _ _ _ _ _ _ _ (chunk_dh _ _ _ _ _ _ _ (by omega) _ _) (chunk_dh _ _ _ _ _ _ _ (by omega) _ _)
      (chunk_dh _ _ _ _ _ _ _ (by omega) _ _) (chunk_dh _ _ _ _ _ _ _ (by omega) _ _)
  by_cases h2 : t.val % 4 = 3
  · rw [outsAt0_C m c t h0 (by omega) h2]
    frame_out
    exact canon_srows _ _ _ _ _ _ _ _ _ (chunk_dh _ _ _ _ _ _ _ (by omega) _ _) (chunk_dh _ _ _ _ _ _ _ (by omega) _ _)
      (chunk_dh _ _ _ _ _ _ _ (by omega) _ _) (chunk_dh _ _ _ _ _ _ _ (by omega) _ _)
  · rw [outsAt0_B m c t h0 (by omega) h2]
    frame_out
    exact canon_srows _ _ _ _ _ _ _ _ _ (chunk_dh _ _ _ _ _ _ _ (by omega) _ _) (chunk_dh _ _ _ _ _ _ _ (by omega) _ _)
      (chunk_dh _ _ _ _ _ _ _ (by omega) _ _) (chunk_dh _ _ _ _ _ _ _ (by omega) _ _)

/-- The first point of a device block starts the sum of the gate's weights. -/
theorem start_g (h0 : t.val % 4 = 0) (h1 : ¬1 ≤ t.val % 4) (h2 : ¬t.val % 4 = 3) :
    (outsAt0 m c t.val t.isLt).2.2.2.2.1 = PT (DG (iblk m c 1 t) (iblk m c 2 t) (iblk m c 3 t) (iblk m c 4 t) (iblk m c 7 t)) (iblk m c 0 t) := by
  rw [outsAt0_A m c t h0 h1 h2]
  frame_out
  rw [pay7_eq]
  exact congrArg (PT · _) (cov_rows _ _ _ _ _ _ _ _ _ _ _ (chunk_dg _ _ _ _ _ (by omega) _ _) (chunk_dg _ _ _ _ _ (by omega) _ _) (chunk_dg _ _ _ _ _ (by omega) _ _) (chunk_dg _ _ _ _ _ (by omega) _ _))

/-- The first point of a device block starts the sum of the other factor's weights. -/
theorem start_u (h0 : t.val % 4 = 0) (h1 : ¬1 ≤ t.val % 4) (h2 : ¬t.val % 4 = 3) :
    (outsAt0 m c t.val t.isLt).2.2.2.2.2.1 = PT (DU (iblk m c 1 t) (iblk m c 2 t) (iblk m c 4 t) (iblk m c 7 t)) (iblk m c 0 t) := by
  rw [outsAt0_A m c t h0 h1 h2]
  frame_out
  rw [pay8_eq]
  exact congrArg (PT · _) (cov_rows _ _ _ _ _ _ _ _ _ _ _ (chunk_du _ _ _ _ (by omega) _ _) (chunk_du _ _ _ _ (by omega) _ _) (chunk_du _ _ _ _ (by omega) _ _) (chunk_du _ _ _ _ (by omega) _ _))

/-- The first point of a device block starts the sum of the down projection. -/
theorem start_d (h0 : t.val % 4 = 0) (h1 : ¬1 ≤ t.val % 4) (h2 : ¬t.val % 4 = 3) :
    (outsAt0 m c t.val t.isLt).2.2.2.2.2.2 = PT (AC (iblk m c 2 t) (iblk m c 3 t)) (DM (iblk m c 1 t) (iblk m c 4 t)) := by
  rw [outsAt0_A m c t h0 h1 h2]
  frame_out
  rw [pay9_eq]
  exact congrArg₂ PT (cov_rows _ _ _ _ _ _ _ _ _ _ _ (chunk_ac _ _ (by omega) _) (chunk_ac _ _ (by omega) _) (chunk_ac _ _ (by omega) _) (chunk_ac _ _ (by omega) _))
    (cov_rows _ _ _ _ _ _ _ _ _ _ _ (chunk_dm _ _ (by omega) _) (chunk_dm _ _ (by omega) _) (chunk_dm _ _ (by omega) _) (chunk_dm _ _ (by omega) _))

/-- The other points add to the sum of the gate's weights. -/
theorem next_g (h0 : ¬t.val % 4 = 0) :
    (outsAt0 m c t.val t.isLt).2.2.2.2.1 = fun i => (outsAt0 m c (t.val - 1) (by omega)).2.2.2.2.1 i + PT (DG (iblk m c 1 t) (iblk m c 2 t) (iblk m c 3 t) (iblk m c 4 t) (iblk m c 7 t)) (iblk m c 0 t) i := by
  by_cases h2 : t.val % 4 = 3
  · rw [outsAt0_C m c t h0 (by omega) h2]
    frame_out
    simp only [read_unread_whole]
    rw [pay10_eq]
    funext i
    refine congrArg (_ + ·) (congrFun ?_ i)
    exact congrArg (PT · _) (cov_rows _ _ _ _ _ _ _ _ _ _ _ (chunk_dg _ _ _ _ _ (by omega) _ _) (chunk_dg _ _ _ _ _ (by omega) _ _) (chunk_dg _ _ _ _ _ (by omega) _ _) (chunk_dg _ _ _ _ _ (by omega) _ _))
  · rw [outsAt0_B m c t h0 (by omega) h2]
    frame_out
    simp only [read_unread_whole]
    rw [pay10_eq]
    funext i
    refine congrArg (_ + ·) (congrFun ?_ i)
    exact congrArg (PT · _) (cov_rows _ _ _ _ _ _ _ _ _ _ _ (chunk_dg _ _ _ _ _ (by omega) _ _) (chunk_dg _ _ _ _ _ (by omega) _ _) (chunk_dg _ _ _ _ _ (by omega) _ _) (chunk_dg _ _ _ _ _ (by omega) _ _))

/-- The other points add to the sum of the other factor's weights. -/
theorem next_u (h0 : ¬t.val % 4 = 0) :
    (outsAt0 m c t.val t.isLt).2.2.2.2.2.1 = fun i => (outsAt0 m c (t.val - 1) (by omega)).2.2.2.2.2.1 i + PT (DU (iblk m c 1 t) (iblk m c 2 t) (iblk m c 4 t) (iblk m c 7 t)) (iblk m c 0 t) i := by
  by_cases h2 : t.val % 4 = 3
  · rw [outsAt0_C m c t h0 (by omega) h2]
    frame_out
    simp only [read_unread_whole]
    rw [pay11_eq]
    funext i
    refine congrArg (_ + ·) (congrFun ?_ i)
    exact congrArg (PT · _) (cov_rows _ _ _ _ _ _ _ _ _ _ _ (chunk_du _ _ _ _ (by omega) _ _) (chunk_du _ _ _ _ (by omega) _ _) (chunk_du _ _ _ _ (by omega) _ _) (chunk_du _ _ _ _ (by omega) _ _))
  · rw [outsAt0_B m c t h0 (by omega) h2]
    frame_out
    simp only [read_unread_whole]
    rw [pay11_eq]
    funext i
    refine congrArg (_ + ·) (congrFun ?_ i)
    exact congrArg (PT · _) (cov_rows _ _ _ _ _ _ _ _ _ _ _ (chunk_du _ _ _ _ (by omega) _ _) (chunk_du _ _ _ _ (by omega) _ _) (chunk_du _ _ _ _ (by omega) _ _) (chunk_du _ _ _ _ (by omega) _ _))

/-- The other points add to the sum of the down projection. -/
theorem next_d (h0 : ¬t.val % 4 = 0) :
    (outsAt0 m c t.val t.isLt).2.2.2.2.2.2 = fun i => (outsAt0 m c (t.val - 1) (by omega)).2.2.2.2.2.2 i + PT (AC (iblk m c 2 t) (iblk m c 3 t)) (DM (iblk m c 1 t) (iblk m c 4 t)) i := by
  by_cases h2 : t.val % 4 = 3
  · rw [outsAt0_C m c t h0 (by omega) h2]
    frame_out
    simp only [read_unread_whole]
    rw [pay12_eq]
    funext i
    refine congrArg (_ + ·) (congrFun ?_ i)
    exact congrArg₂ PT (cov_rows _ _ _ _ _ _ _ _ _ _ _ (chunk_ac _ _ (by omega) _) (chunk_ac _ _ (by omega) _) (chunk_ac _ _ (by omega) _) (chunk_ac _ _ (by omega) _))
      (cov_rows _ _ _ _ _ _ _ _ _ _ _ (chunk_dm _ _ (by omega) _) (chunk_dm _ _ (by omega) _) (chunk_dm _ _ (by omega) _) (chunk_dm _ _ (by omega) _))
  · rw [outsAt0_B m c t h0 (by omega) h2]
    frame_out
    simp only [read_unread_whole]
    rw [pay12_eq]
    funext i
    refine congrArg (_ + ·) (congrFun ?_ i)
    exact congrArg₂ PT (cov_rows _ _ _ _ _ _ _ _ _ _ _ (chunk_ac _ _ (by omega) _) (chunk_ac _ _ (by omega) _) (chunk_ac _ _ (by omega) _) (chunk_ac _ _ (by omega) _))
      (cov_rows _ _ _ _ _ _ _ _ _ _ _ (chunk_dm _ _ (by omega) _) (chunk_dm _ _ (by omega) _) (chunk_dm _ _ (by omega) _) (chunk_dm _ _ (by omega) _))

/-- The last point of a device block stores the sum of the gate's weights. -/
theorem last_g (h2 : t.val % 4 = 3) :
    (outsAt0 m c t.val t.isLt).2.1 = fun i => (outsAt0 m c t.val t.isLt).2.2.2.2.1 (ix2 (i 1) (i 2)) := by
  rw [← pay13_eq, outsAt0_C m c t (by omega) (by omega) h2]
  frame_out

/-- The last point of a device block stores the sum of the other factor's weights. -/
theorem last_u (h2 : t.val % 4 = 3) :
    (outsAt0 m c t.val t.isLt).2.2.1 = fun i => (outsAt0 m c t.val t.isLt).2.2.2.2.2.1 (ix2 (i 1) (i 2)) := by
  rw [← pay14_eq, outsAt0_C m c t (by omega) (by omega) h2]
  frame_out

/-- The last point of a device block stores the sum of the down projection. -/
theorem last_d (h2 : t.val % 4 = 3) :
    (outsAt0 m c t.val t.isLt).2.2.2.1 = fun i => (outsAt0 m c t.val t.isLt).2.2.2.2.2.2 (ix2 (i 1) (i 2)) := by
  rw [← pay15_eq, outsAt0_C m c t (by omega) (by omega) h2]
  frame_out

end

end Cert.Proof.MlpBody

end
-- ==== Proof.MlpValue.lean ====
/- The arrays that the kernel for the gradients of the feed-forward block leaves: each device block's part of the input's
   gradient, and the gradients of the weights as sums over all rows. -/
module

public import proofs.«01_k».proof.Proof.MlpBody
public import Idealize.ShloMosaic.Lib.Pipeline.ValueKit.Acc

@[expose] public section

noncomputable section

namespace Cert.Proof.MlpValue

open Idealize.ShloMosaic hiding ix1 ix2 ix3 eq_ix2 eq_ix3
open Cert.MlpIdeal Cert.MlpIdeal.Gen Idealize.ShloMosaic.TcCoe Idealize.SL.Sem Idealize.ShloMosaic.ValueIdx
open Cert.Proof.MlpBody
open Idealize.ShloMosaic.Pipeline (Dat)
open scoped BigOperators

/-- Row `r` of matrix `j` of a stack. -/
def slab {b n k : Nat} (x : (⟨3, ![b, n, k]⟩ : Shape).Idx → EReal) (j : Fin b) (r : Fin n) : Fin k → EReal := fun l => x (ix3 j r l)

/-- The matrix of the other factor stands four places after the gate's. -/
def later (j : Fin 4) : Fin 8 := ⟨j.val + 4, by omega⟩
def early (j : Fin 4) : Fin 8 := ⟨j.val, by omega⟩

section
variable (H Y : S4096x1024.Idx → EReal) (G U : S4x4096x704.Idx → EReal) (S : S1x1024.Idx → EReal) (W : S8x704x1024.Idx → EReal)
  (D : S4x704x1024.Idx → EReal)

/-- The activation's cotangent. -/
def da (j : Fin 4) (r : Fin 4096) : Fin 704 → EReal := dact (slab D j) (row Y r) (row S 0)

/-- The parts of the input's gradient. -/
def partH (j : Fin 4) (r : Fin 4096) (d : Fin 1024) : EReal :=
  dh (slab W (early j)) (slab W (later j)) (slab D j) (slab G j r) (slab U j r) (row Y r) (row S 0) d

/-- The gradients of the three matrices of weights. -/
def gradG (j : Fin 4) (f : Fin 704) (d : Fin 1024) : EReal :=
  ∑ r : Fin 4096, dgate (slab G j r f) (slab U j r f) (da Y S D j r f) * H (ix2 r d)
def gradU (j : Fin 4) (f : Fin 704) (d : Fin 1024) : EReal := ∑ r : Fin 4096, dup (slab G j r f) (da Y S D j r f) * H (ix2 r d)
def gradD (j : Fin 4) (f : Fin 704) (d : Fin 1024) : EReal :=
  ∑ r : Fin 4096, act (slab G j r f) (slab U j r f) * dmix (row Y r) (row S 0) d

end

/-! ## The blocks of the arrays -/

/-- The windows' block indices: point `t` is row block `t % 4` of device block `t / 4`. -/
theorem idx_facts : ∀ t : Fin cfg0.N,
    (win0_0.index t (0 : Fin 2) = t.val % 4 ∧ win0_0.index t (1 : Fin 2) = 0)
    ∧ (win0_1.index t (0 : Fin 2) = t.val % 4 ∧ win0_1.index t (1 : Fin 2) = 0)
    ∧ (win0_2.index t (0 : Fin 3) = t.val / 4 ∧ win0_2.index t (1 : Fin 3) = t.val % 4 ∧ win0_2.index t (2 : Fin 3) = 0)
    ∧ (win0_3.index t (0 : Fin 3) = t.val / 4 ∧ win0_3.index t (1 : Fin 3) = t.val % 4 ∧ win0_3.index t (2 : Fin 3) = 0)
    ∧ (win0_4.index t (0 : Fin 2) = 0 ∧ win0_4.index t (1 : Fin 2) = 0)
    ∧ (win0_5.index t (0 : Fin 3) = t.val / 4 ∧ win0_5.index t (1 : Fin 3) = 0 ∧ win0_5.index t (2 : Fin 3) = 0)
    ∧ (win0_6.index t (0 : Fin 3) = t.val / 4 + 4 ∧ win0_6.index t (1 : Fin 3) = 0 ∧ win0_6.index t (2 : Fin 3) = 0)
    ∧ (win0_7.index t (0 : Fin 3) = t.val / 4 ∧ win0_7.index t (1 : Fin 3) = 0 ∧ win0_7.index t (2 : Fin 3) = 0)
    ∧ (win0_8.index t (0 : Fin 3) = t.val / 4 ∧ win0_8.index t (1 : Fin 3) = t.val % 4 ∧ win0_8.index t (2 : Fin 3) = 0)
    ∧ (win0_9.index t (0 : Fin 3) = t.val / 4 ∧ win0_9.index t (1 : Fin 3) = 0 ∧ win0_9.index t (2 : Fin 3) = 0)
    ∧ (win0_10.index t (0 : Fin 3) = t.val / 4 ∧ win0_10.index t (1 : Fin 3) = 0 ∧ win0_10.index t (2 : Fin 3) = 0)
    ∧ (win0_11.index t (0 : Fin 3) = t.val / 4 ∧ win0_11.index t (1 : Fin 3) = 0 ∧ win0_11.index t (2 : Fin 3) = 0) :=
  (by decide +kernel : ∀ t : Fin grid0.N, _)

section
variable (m : (ℓ : Loc nD τ sig) → Buf (Elt Ideal) ℓ) (c : Dev nD) (t : Fin cfg0.N)

/-- The device block and the rows of a point. -/
def blk (t : Fin cfg0.N) : Fin 4 := ⟨t.val / 4, by have : t.val < 16 := lt_of_lt_of_eq t.isLt N_0; omega⟩
def at_ (t : Fin cfg0.N) (a : Fin 1024) : Fin 4096 := ⟨t.val % 4 * 1024 + a.val, by omega⟩

abbrev aH : S4096x1024.Idx → EReal := V m c main_v5
abbrev aY : S4096x1024.Idx → EReal := V m c main_arg4
abbrev aG : S4x4096x704.Idx → EReal := V m c main_v9
abbrev aU : S4x4096x704.Idx → EReal := V m c main_v13
abbrev aS : S1x1024.Idx → EReal := V m c main_arg3
abbrev aW : S8x704x1024.Idx → EReal := V m c main_v2
abbrev aD : S4x704x1024.Idx → EReal := V m c main_v4

theorem blk0 (a d : Fin 1024) : iblk m c 0 t (ix2 a d) = aH m c (ix2 (at_ t a) d) := by
  have f := idx_facts t
  refine congrArg (aH m c) (funext fun b => Fin.ext ?_)
  match b with
  | ⟨0, _⟩ => show win0_0.index t (0 : Fin 2) * 1024 + 1 * a.val = t.val % 4 * 1024 + a.val; omega
  | ⟨1, _⟩ => show win0_0.index t (1 : Fin 2) * 1024 + 1 * d.val = d.val; omega

theorem blk1 (a d : Fin 1024) : iblk m c 1 t (ix2 a d) = aY m c (ix2 (at_ t a) d) := by
  have f := idx_facts t
  refine congrArg (aY m c) (funext fun b => Fin.ext ?_)
  match b with
  | ⟨0, _⟩ => show win0_1.index t (0 : Fin 2) * 1024 + 1 * a.val = t.val % 4 * 1024 + a.val; omega
  | ⟨1, _⟩ => show win0_1.index t (1 : Fin 2) * 1024 + 1 * d.val = d.val; omega

theorem blk2 (a : Fin 1024) (f' : Fin 704) : iblk m c 2 t (ix3 (0 : Fin 1) a f') = aG m c (ix3 (blk t) (at_ t a) f') := by
  have f := idx_facts t
  refine congrArg (aG m c) (funext fun b => Fin.ext ?_)
  match b with
  | ⟨0, _⟩ => show win0_2.index t (0 : Fin 3) * 1 + 1 * 0 = t.val / 4; omega
  | ⟨1, _⟩ => show win0_2.index t (1 : Fin 3) * 1024 + 1 * a.val = t.val % 4 * 1024 + a.val; omega
  | ⟨2, _⟩ => show win0_2.index t (2 : Fin 3) * 704 + 1 * f'.val = f'.val; omega

theorem blk3 (a : Fin 1024) (f' : Fin 704) : iblk m c 3 t (ix3 (0 : Fin 1) a f') = aU m c (ix3 (blk t) (at_ t a) f') := by
  have f := idx_facts t
  refine congrArg (aU m c) (funext fun b => Fin.ext ?_)
  match b with
  | ⟨0, _⟩ => show win0_3.index t (0 : Fin 3) * 1 + 1 * 0 = t.val / 4; omega
  | ⟨1, _⟩ => show win0_3.index t (1 : Fin 3) * 1024 + 1 * a.val = t.val % 4 * 1024 + a.val; omega
  | ⟨2, _⟩ => show win0_3.index t (2 : Fin 3) * 704 + 1 * f'.val = f'.val; omega

theorem blk4 (d : Fin 1024) : iblk m c 4 t (ix2 (0 : Fin 1) d) = aS m c (ix2 (0 : Fin 1) d) := by
  have f := idx_facts t
  refine congrArg (aS m c) (funext fun b => Fin.ext ?_)
  match b with
  | ⟨0, _⟩ => show win0_4.index t (0 : Fin 2) * 1 + 1 * 0 = 0; omega
  | ⟨1, _⟩ => show win0_4.index t (1 : Fin 2) * 1024 + 1 * d.val = d.val; omega

theorem blk5 (f' : Fin 704) (d : Fin 1024) : iblk m c 5 t (ix3 (0 : Fin 1) f' d) = aW m c (ix3 (early (blk t)) f' d) := by
  have f := idx_facts t
  refine congrArg (aW m c) (funext fun b => Fin.ext ?_)
  match b with
  | ⟨0, _⟩ => show win0_5.index t (0 : Fin 3) * 1 + 1 * 0 = t.val / 4; omega
  | ⟨1, _⟩ => show win0_5.index t (1 : Fin 3) * 704 + 1 * f'.val = f'.val; omega
  | ⟨2, _⟩ => show win0_5.index t (2 : Fin 3) * 1024 + 1 * d.val = d.val; omega

theorem blk6 (f' : Fin 704) (d : Fin 1024) : iblk m c 6 t (ix3 (0 : Fin 1) f' d) = aW m c (ix3 (later (blk t)) f' d) := by
  have f := idx_facts t
  refine congrArg (aW m c) (funext fun b => Fin.ext ?_)
  match b with
  | ⟨0, _⟩ => show win0_6.index t (0 : Fin 3) * 1 + 1 * 0 = t.val / 4 + 4; omega
  | ⟨1, _⟩ => show win0_6.index t (1 : Fin 3) * 704 + 1 * f'.val = f'.val; omega
  | ⟨2, _⟩ => show win0_6.index t (2 : Fin 3) * 1024 + 1 * d.val = d.val; omega

theorem blk7 (f' : Fin 704) (d : Fin 1024) : iblk m c 7 t (ix3 (0 : Fin 1) f' d) = aD m c (ix3 (blk t) f' d) := by
  have f := idx_facts t
  refine congrArg (aD m c) (funext fun b => Fin.ext ?_)
  match b with
  | ⟨0, _⟩ => show win0_7.index t (0 : Fin 3) * 1 + 1 * 0 = t.val / 4; omega
  | ⟨1, _⟩ => show win0_7.index t (1 : Fin 3) * 704 + 1 * f'.val = f'.val; omega
  | ⟨2, _⟩ => show win0_7.index t (2 : Fin 3) * 1024 + 1 * d.val = d.val; omega

/-- The rows of the blocks are rows of the arrays. -/
theorem row1 (a : Fin 1024) : row (iblk m c 1 t) a = row (aY m c) (at_ t a) := funext fun d => blk1 m c t a d
theorem row4 : row (iblk m c 4 t) (0 : Fin 1) = row (aS m c) 0 := funext fun d => blk4 m c t d
theorem srow2 (a : Fin 1024) : srow (iblk m c 2 t) a = slab (aG m c) (blk t) (at_ t a) := funext fun d => blk2 m c t a d
theorem srow3 (a : Fin 1024) : srow (iblk m c 3 t) a = slab (aU m c) (blk t) (at_ t a) := funext fun d => blk3 m c t a d
theorem mat5 : srow (iblk m c 5 t) = slab (aW m c) (early (blk t)) := funext fun f => funext fun d => blk5 m c t f d
theorem mat6 : srow (iblk m c 6 t) = slab (aW m c) (later (blk t)) := funext fun f => funext fun d => blk6 m c t f d
theorem mat7 : srow (iblk m c 7 t) = slab (aD m c) (blk t) := funext fun f => funext fun d => blk7 m c t f d

/-- What each point adds to the three sums. -/
theorem add_g (f : Fin 704) (d : Fin 1024) :
    PT (DG (iblk m c 1 t) (iblk m c 2 t) (iblk m c 3 t) (iblk m c 4 t) (iblk m c 7 t)) (iblk m c 0 t) (ix2 f d)
      = ∑ a : Fin 1024, dgate (slab (aG m c) (blk t) (at_ t a) f) (slab (aU m c) (blk t) (at_ t a) f) (da (aY m c) (aS m c) (aD m c) (blk t) (at_ t a) f)
          * aH m c (ix2 (at_ t a) d) := by
  refine Finset.sum_congr rfl fun a _ => ?_
  refine congrArg₂ (· * ·) ?_ (blk0 m c t a d)
  show dgate (srow (iblk m c 2 t) a f) (srow (iblk m c 3 t) a f) (dact (srow (iblk m c 7 t)) (row (iblk m c 1 t) a) (row (iblk m c 4 t) 0) f) = _
  rw [row1, row4, srow2, srow3, mat7]
  rfl

theorem add_u (f : Fin 704) (d : Fin 1024) :
    PT (DU (iblk m c 1 t) (iblk m c 2 t) (iblk m c 4 t) (iblk m c 7 t)) (iblk m c 0 t) (ix2 f d)
      = ∑ a : Fin 1024, dup (slab (aG m c) (blk t) (at_ t a) f) (da (aY m c) (aS m c) (aD m c) (blk t) (at_ t a) f)
          * aH m c (ix2 (at_ t a) d) := by
  refine Finset.sum_congr rfl fun a _ => ?_
  refine congrArg₂ (· * ·) ?_ (blk0 m c t a d)
  show dup (srow (iblk m c 2 t) a f) (dact (srow (iblk m c 7 t)) (row (iblk m c 1 t) a) (row (iblk m c 4 t) 0) f) = _
  rw [row1, row4, srow2, mat7]
  rfl

theorem add_d (f : Fin 704) (d : Fin 1024) :
    PT (AC (iblk m c 2 t) (iblk m c 3 t)) (DM (iblk m c 1 t) (iblk m c 4 t)) (ix2 f d)
      = ∑ a : Fin 1024, act (slab (aG m c) (blk t) (at_ t a) f) (slab (aU m c) (blk t) (at_ t a) f)
          * dmix (row (aY m c) (at_ t a)) (row (aS m c) 0) d := by
  refine Finset.sum_congr rfl fun a _ => ?_
  show act (srow (iblk m c 2 t) a f) (srow (iblk m c 3 t) a f) * dmix (row (iblk m c 1 t) a) (row (iblk m c 4 t) 0) d = _
  rw [row1, row4, srow2, srow3]

end

/-! ## The sums at the last point of a device block -/

section
variable (m : (ℓ : Loc nD τ sig) → Buf (Elt Ideal) ℓ) (c : Dev nD) (t : Fin cfg0.N)

/-- Four blocks of 1024 rows are all rows. -/
theorem sum_rows (h3 : t.val % 4 = 3) (F : Fin 4 → Fin 4096 → EReal) :
    ∑ s : Fin 4, ∑ a : Fin 1024, F (blk ⟨4 * (t.val / 4) + s.val, by have := t.isLt; omega⟩) (at_ ⟨4 * (t.val / 4) + s.val, by have := t.isLt; omega⟩ a)
      = ∑ r : Fin 4096, F (blk t) r := by
  rw [← Fin.sum_mul_add_fin 4 1024 (F (blk t))]
  refine Finset.sum_congr rfl fun s _ => Finset.sum_congr rfl fun a _ => congrArg₂ F ?_ ?_
  · exact Fin.ext (by show (4 * (t.val / 4) + s.val) / 4 = t.val / 4; omega)
  · exact Fin.ext (by show (4 * (t.val / 4) + s.val) % 4 * 1024 + a.val = s.val * 1024 + a.val; omega)

theorem total_g (h3 : t.val % 4 = 3) (f : Fin 704) (d : Fin 1024) :
    (outsAt0 m c t.val t.isLt).2.2.2.2.1 (ix2 f d) = gradG (aH m c) (aY m c) (aG m c) (aU m c) (aS m c) (aD m c) (blk t) f d := by
  have h := Pipeline.eq_sum_fin_of_reset_step_apply_of_flush (M := EReal) (fun n hn => (outsAt0 m c n hn).2.2.2.2.1) 4 (fun _ => 0)
    (fun t => PT (DG (iblk m c 1 t) (iblk m c 2 t) (iblk m c 3 t) (iblk m c 4 t) (iblk m c 7 t)) (iblk m c 0 t))
    (fun t h0 i => by rw [zero_add]; exact congrFun (start_g m c t h0 (by omega) (by omega)) i)
    (fun t h0 i => congrFun (next_g m c t h0) i) t h3 (ix2 f d)
  refine h.trans ?_
  rw [zero_add]
  refine Eq.trans (Finset.sum_congr rfl fun s _ => add_g m c _ f d) ?_
  exact sum_rows t h3 (fun j r => dgate (slab (aG m c) j r f) (slab (aU m c) j r f) (da (aY m c) (aS m c) (aD m c) j r f) * aH m c (ix2 r d))

theorem total_u (h3 : t.val % 4 = 3) (f : Fin 704) (d : Fin 1024) :
    (outsAt0 m c t.val t.isLt).2.2.2.2.2.1 (ix2 f d) = gradU (aH m c) (aY m c) (aG m c) (aS m c) (aD m c) (blk t) f d := by
  have h := Pipeline.eq_sum_fin_of_reset_step_apply_of_flush (M := EReal) (fun n hn => (outsAt0 m c n hn).2.2.2.2.2.1) 4 (fun _ => 0)
    (fun t => PT (DU (iblk m c 1 t) (iblk m c 2 t) (iblk m c 4 t) (iblk m c 7 t)) (iblk m c 0 t))
    (fun t h0 i => by rw [zero_add]; exact congrFun (start_u m c t h0 (by omega) (by omega)) i)
    (fun t h0 i => congrFun (next_u m c t h0) i) t h3 (ix2 f d)
  refine h.trans ?_
  rw [zero_add]
  refine Eq.trans (Finset.sum_congr rfl fun s _ => add_u m c _ f d) ?_
  exact sum_rows t h3 (fun j r => dup (slab (aG m c) j r f) (da (aY m c) (aS m c) (aD m c) j r f) * aH m c (ix2 r d))

theorem total_d (h3 : t.val % 4 = 3) (f : Fin 704) (d : Fin 1024) :
    (outsAt0 m c t.val t.isLt).2.2.2.2.2.2 (ix2 f d) = gradD (aY m c) (aG m c) (aU m c) (aS m c) (blk t) f d := by
  have h := Pipeline.eq_sum_fin_of_reset_step_apply_of_flush (M := EReal) (fun n hn => (outsAt0 m c n hn).2.2.2.2.2.2) 4 (fun _ => 0)
    (fun t => PT (AC (iblk m c 2 t) (iblk m c 3 t)) (DM (iblk m c 1 t) (iblk m c 4 t)))
    (fun t h0 i => by rw [zero_add]; exact congrFun (start_d m c t h0 (by omega) (by omega)) i)
    (fun t h0 i => congrFun (next_d m c t h0) i) t h3 (ix2 f d)
  refine h.trans ?_
  rw [zero_add]
  refine Eq.trans (Finset.sum_congr rfl fun s _ => add_d m c _ f d) ?_
  exact sum_rows t h3 (fun j r => act (slab (aG m c) j r f) (slab (aU m c) j r f) * dmix (row (aY m c) r) (row (aS m c) 0) d)

end

/-! ## The arrays at the end -/

section
variable (m : (ℓ : Loc nD τ sig) → Buf (Elt Ideal) ℓ) (c : Dev nD)

/-- The parts of the input's gradient at the end. -/
theorem final8 : (dats m 0 c).arrAt 8 cfg0.N
    = fun i => partH (aY m c) (aG m c) (aU m c) (aS m c) (aW m c) (aD m c) (i 0) (i 1) (i 2) := by
  refine (dats m 0 c).arrAt_eq_of_cover 8 _ (fun t _ => ?_) fun i => ?_
  · have f := idx_facts t
    funext j
    obtain ⟨u, a, d, rfl⟩ : ∃ (u : Fin 1) (a d : Fin 1024), j = ix3 u a d := ⟨j 0, j 1, j 2, eq_ix3 j⟩
    show (dats m 0 c).after 8 t (ix3 u a d) = partH _ _ _ _ _ _ ((win0_8.blk t).view.emb (ix3 u a d) (0 : Fin 3))
      ((win0_8.blk t).view.emb (ix3 u a d) (1 : Fin 3)) ((win0_8.blk t).view.emb (ix3 u a d) (2 : Fin 3))
    rw [after0_8, step_dh,
      show (win0_8.blk t).view.emb (ix3 u a d) (0 : Fin 3) = blk t from Fin.ext (by
        show win0_8.index t (0 : Fin 3) * 1 + 1 * u.val = t.val / 4; omega),
      show (win0_8.blk t).view.emb (ix3 u a d) (1 : Fin 3) = at_ t a from Fin.ext (by
        show win0_8.index t (1 : Fin 3) * 1024 + 1 * a.val = t.val % 4 * 1024 + a.val; omega),
      show (win0_8.blk t).view.emb (ix3 u a d) (2 : Fin 3) = d from Fin.ext (by
        show win0_8.index t (2 : Fin 3) * 1024 + 1 * d.val = d.val; omega)]
    show dh (srow (iblk m c 5 t)) (srow (iblk m c 6 t)) (srow (iblk m c 7 t)) (srow (iblk m c 2 t) a) (srow (iblk m c 3 t) a)
      (row (iblk m c 1 t) a) (row (iblk m c 4 t) 0) d = _
    rw [row1, row4, srow2, srow3, mat5, mat6, mat7]
    rfl
  · have h0 : (i 0 : Nat) < 4 := (i 0).isLt
    have h1 : (i 1 : Nat) < 4096 := (i 1).isLt
    have h2 : (i 2 : Nat) < 1024 := (i 2).isLt
    obtain ⟨t, ht⟩ : ∃ t : Fin cfg0.N, t.val = 4 * (i 0 : Nat) + (i 1 : Nat) / 1024 :=
      ⟨⟨4 * (i 0 : Nat) + (i 1 : Nat) / 1024, by rw [show cfg0.N = 16 from N_0]; omega⟩, rfl⟩
    have f := idx_facts t
    refine ⟨t, flush0_8 t, ?_⟩
    show i ∈ ((View.whole main_v14_0).slice (win0_8.rect t)).set
    rw [View.set_slice_whole, Rect.mem_set_unit]
    intro b
    match b with
    | ⟨0, _⟩ => show win0_8.index t (0 : Fin 3) * 1 ≤ (i 0 : Nat) ∧ (i 0 : Nat) < win0_8.index t (0 : Fin 3) * 1 + 1; omega
    | ⟨1, _⟩ => show win0_8.index t (1 : Fin 3) * 1024 ≤ (i 1 : Nat) ∧ (i 1 : Nat) < win0_8.index t (1 : Fin 3) * 1024 + 1024; omega
    | ⟨2, _⟩ => show win0_8.index t (2 : Fin 3) * 1024 ≤ (i 2 : Nat) ∧ (i 2 : Nat) < win0_8.index t (2 : Fin 3) * 1024 + 1024; omega

/-- The gradient of the gate's weights at the end. -/
theorem final9 : (dats m 0 c).arrAt 9 cfg0.N = fun i => gradG (aH m c) (aY m c) (aG m c) (aU m c) (aS m c) (aD m c) (i 0) (i 1) (i 2) := by
  refine (dats m 0 c).arrAt_eq_of_cover 9 _ (fun t ht => ?_) fun i => ?_
  · have f := idx_facts t
    have h3 := (flush0_9 t).mp ht
    funext j
    obtain ⟨u, a, d, rfl⟩ : ∃ (u : Fin 1) (a : Fin 704) (d : Fin 1024), j = ix3 u a d := ⟨j 0, j 1, j 2, eq_ix3 j⟩
    show (dats m 0 c).after 9 t (ix3 u a d) = gradG _ _ _ _ _ _ ((win0_9.blk t).view.emb (ix3 u a d) (0 : Fin 3))
      ((win0_9.blk t).view.emb (ix3 u a d) (1 : Fin 3)) ((win0_9.blk t).view.emb (ix3 u a d) (2 : Fin 3))
    rw [after0_9, last_g m c t h3,
      show (win0_9.blk t).view.emb (ix3 u a d) (0 : Fin 3) = blk t from Fin.ext (by
        show win0_9.index t (0 : Fin 3) * 1 + 1 * u.val = t.val / 4; omega),
      show (win0_9.blk t).view.emb (ix3 u a d) (1 : Fin 3) = a from Fin.ext (by
        show win0_9.index t (1 : Fin 3) * 704 + 1 * a.val = a.val; omega),
      show (win0_9.blk t).view.emb (ix3 u a d) (2 : Fin 3) = d from Fin.ext (by
        show win0_9.index t (2 : Fin 3) * 1024 + 1 * d.val = d.val; omega)]
    exact total_g m c t h3 a d
  · have h0 : (i 0 : Nat) < 4 := (i 0).isLt
    have h1 : (i 1 : Nat) < 704 := (i 1).isLt
    have h2 : (i 2 : Nat) < 1024 := (i 2).isLt
    obtain ⟨t, ht⟩ : ∃ t : Fin cfg0.N, t.val = 4 * (i 0 : Nat) + 3 :=
      ⟨⟨4 * (i 0 : Nat) + 3, by rw [show cfg0.N = 16 from N_0]; omega⟩, rfl⟩
    have f := idx_facts t
    refine ⟨t, (flush0_9 t).mpr (by omega), ?_⟩
    show i ∈ ((View.whole main_v14_1).slice (win0_9.rect t)).set
    rw [View.set_slice_whole, Rect.mem_set_unit]
    intro b
    match b with
    | ⟨0, _⟩ => show win0_9.index t (0 : Fin 3) * 1 ≤ (i 0 : Nat) ∧ (i 0 : Nat) < win0_9.index t (0 : Fin 3) * 1 + 1; omega
    | ⟨1, _⟩ => show win0_9.index t (1 : Fin 3) * 704 ≤ (i 1 : Nat) ∧ (i 1 : Nat) < win0_9.index t (1 : Fin 3) * 704 + 704; omega
    | ⟨2, _⟩ => show win0_9.index t (2 : Fin 3) * 1024 ≤ (i 2 : Nat) ∧ (i 2 : Nat) < win0_9.index t (2 : Fin 3) * 1024 + 1024; omega

/-- The gradient of the other factor's weights at the end. -/
theorem final10 : (dats m 0 c).arrAt 10 cfg0.N = fun i => gradU (aH m c) (aY m c) (aG m c) (aS m c) (aD m c) (i 0) (i 1) (i 2) := by
  refine (dats m 0 c).arrAt_eq_of_cover 10 _ (fun t ht => ?_) fun i => ?_
  · have f := idx_facts t
    have h3 := (flush0_10 t).mp ht
    funext j
    obtain ⟨u, a, d, rfl⟩ : ∃ (u : Fin 1) (a : Fin 704) (d : Fin 1024), j = ix3 u a d := ⟨j 0, j 1, j 2, eq_ix3 j⟩
    show (dats m 0 c).after 10 t (ix3 u a d) = gradU _ _ _ _ _ ((win0_10.blk t).view.emb (ix3 u a d) (0 : Fin 3))
      ((win0_10.blk t).view.emb (ix3 u a d) (1 : Fin 3)) ((win0_10.blk t).view.emb (ix3 u a d) (2 : Fin 3))
    rw [after0_10, last_u m c t h3,
      show (win0_10.blk t).view.emb (ix3 u a d) (0 : Fin 3) = blk t from Fin.ext (by
        show win0_10.index t (0 : Fin 3) * 1 + 1 * u.val = t.val / 4; omega),
      show (win0_10.blk t).view.emb (ix3 u a d) (1 : Fin 3) = a from Fin.ext (by
        show win0_10.index t (1 : Fin 3) * 704 + 1 * a.val = a.val; omega),
      show (win0_10.blk t).view.emb (ix3 u a d) (2 : Fin 3) = d from Fin.ext (by
        show win0_10.index t (2 : Fin 3) * 1024 + 1 * d.val = d.val; omega)]
    exact total_u m c t h3 a d
  · have h0 : (i 0 : Nat) < 4 := (i 0).isLt
    have h1 : (i 1 : Nat) < 704 := (i 1).isLt
    have h2 : (i 2 : Nat) < 1024 := (i 2).isLt
    obtain ⟨t, ht⟩ : ∃ t : Fin cfg0.N, t.val = 4 * (i 0 : Nat) + 3 :=
      ⟨⟨4 * (i 0 : Nat) + 3, by rw [show cfg0.N = 16 from N_0]; omega⟩, rfl⟩
    have f := idx_facts t
    refine ⟨t, (flush0_10 t).mpr (by omega), ?_⟩
    show i ∈ ((View.whole main_v14_2).slice (win0_10.rect t)).set
    rw [View.set_slice_whole, Rect.mem_set_unit]
    intro b
    match b with
    | ⟨0, _⟩ => show win0_10.index t (0 : Fin 3) * 1 ≤ (i 0 : Nat) ∧ (i 0 : Nat) < win0_10.index t (0 : Fin 3) * 1 + 1; omega
    | ⟨1, _⟩ => show win0_10.index t (1 : Fin 3) * 704 ≤ (i 1 : Nat) ∧ (i 1 : Nat) < win0_10.index t (1 : Fin 3) * 704 + 704; omega
    | ⟨2, _⟩ => show win0_10.index t (2 : Fin 3) * 1024 ≤ (i 2 : Nat) ∧ (i 2 : Nat) < win0_10.index t (2 : Fin 3) * 1024 + 1024; omega

/-- The gradient of the down projection at the end. -/
theorem final11 : (dats m 0 c).arrAt 11 cfg0.N = fun i => gradD (aY m c) (aG m c) (aU m c) (aS m c) (i 0) (i 1) (i 2) := by
  refine (dats m 0 c).arrAt_eq_of_cover 11 _ (fun t ht => ?_) fun i => ?_
  · have f := idx_facts t
    have h3 := (flush0_11 t).mp ht
    funext j
    obtain ⟨u, a, d, rfl⟩ : ∃ (u : Fin 1) (a : Fin 704) (d : Fin 1024), j = ix3 u a d := ⟨j 0, j 1, j 2, eq_ix3 j⟩
    show (dats m 0 c).after 11 t (ix3 u a d) = gradD _ _ _ _ ((win0_11.blk t).view.emb (ix3 u a d) (0 : Fin 3))
      ((win0_11.blk t).view.emb (ix3 u a d) (1 : Fin 3)) ((win0_11.blk t).view.emb (ix3 u a d) (2 : Fin 3))
    rw [after0_11, last_d m c t h3,
      show (win0_11.blk t).view.emb (ix3 u a d) (0 : Fin 3) = blk t from Fin.ext (by
        show win0_11.index t (0 : Fin 3) * 1 + 1 * u.val = t.val / 4; omega),
      show (win0_11.blk t).view.emb (ix3 u a d) (1 : Fin 3) = a from Fin.ext (by
        show win0_11.index t (1 : Fin 3) * 704 + 1 * a.val = a.val; omega),
      show (win0_11.blk t).view.emb (ix3 u a d) (2 : Fin 3) = d from Fin.ext (by
        show win0_11.index t (2 : Fin 3) * 1024 + 1 * d.val = d.val; omega)]
    exact total_d m c t h3 a d
  · have h0 : (i 0 : Nat) < 4 := (i 0).isLt
    have h1 : (i 1 : Nat) < 704 := (i 1).isLt
    have h2 : (i 2 : Nat) < 1024 := (i 2).isLt
    obtain ⟨t, ht⟩ : ∃ t : Fin cfg0.N, t.val = 4 * (i 0 : Nat) + 3 :=
      ⟨⟨4 * (i 0 : Nat) + 3, by rw [show cfg0.N = 16 from N_0]; omega⟩, rfl⟩
    have f := idx_facts t
    refine ⟨t, (flush0_11 t).mpr (by omega), ?_⟩
    show i ∈ ((View.whole main_v14_3).slice (win0_11.rect t)).set
    rw [View.set_slice_whole, Rect.mem_set_unit]
    intro b
    match b with
    | ⟨0, _⟩ => show win0_11.index t (0 : Fin 3) * 1 ≤ (i 0 : Nat) ∧ (i 0 : Nat) < win0_11.index t (0 : Fin 3) * 1 + 1; omega
    | ⟨1, _⟩ => show win0_11.index t (1 : Fin 3) * 704 ≤ (i 1 : Nat) ∧ (i 1 : Nat) < win0_11.index t (1 : Fin 3) * 704 + 704; omega
    | ⟨2, _⟩ => show win0_11.index t (2 : Fin 3) * 1024 ≤ (i 2 : Nat) ∧ (i 2 : Nat) < win0_11.index t (2 : Fin 3) * 1024 + 1024; omega

end

end Cert.Proof.MlpValue

end
-- ==== Proof.MlpRef.lean ====
/- The reference of the feed-forward block's gradients, at an index: the same rows as the kernel's, with the columns of the
   weights counted through. -/
module

public import proofs.«01_k».proof.Proof.MlpValue
public import proofs.«01_k».proof.Proof.Gen.MlpRefIdeal.Read

@[expose] public section

noncomputable section

namespace Cert.Proof.MlpRef

open Idealize.ShloMosaic hiding ix1 ix2 ix3 eq_ix2 eq_ix3
open Cert.MlpRefIdeal Cert.MlpRefIdeal.Read Idealize.ShloMosaic.ValueIdx
open Cert.Proof.MlpBody Cert.Proof.MlpValue
open scoped BigOperators

/-- The columns of the gate and of the other factor in the joint matrix of weights. -/
def lo (n : Fin 2816) : Fin 5632 := ⟨n.val, by omega⟩
def hi (n : Fin 2816) : Fin 5632 := ⟨n.val + 2816, by omega⟩

section
variable (x0 : S4096x1024.Idx → EReal) (x1 : S1024x5632.Idx → EReal) (x2 : S2816x1024.Idx → EReal) (x3 : S1x1024.Idx → EReal)
  (x4 : S4096x1024.Idx → EReal)

/-- The row times a column of the weights. -/
def pre (r : Fin 4096) (n : Fin 5632) : EReal := ∑ k : Fin 1024, x0 (ix2 r k) * x1 (ix2 k n)

/-- The cotangent of the activation, column by column. -/
def back (r : Fin 4096) (n : Fin 2816) : EReal := ∑ d : Fin 1024, dmix (row x4 r) (row x3 0) d * x2 (ix2 n d)

/-- The gradients with respect to the two halves of `pre`. -/
def dG (r : Fin 4096) (n : Fin 2816) : EReal := dgate (pre x0 x1 r (lo n)) (pre x0 x1 r (hi n)) (back x2 x3 x4 r n)
def dU (r : Fin 4096) (n : Fin 2816) : EReal := dup (pre x0 x1 r (lo n)) (back x2 x3 x4 r n)

/-- The gate's half of the product. -/
theorem gate_at (r : Fin 4096) (n : Fin 2816) : val_main_v1 (F := Ideal) x0 x1 (ix2 r n) = pre x0 x1 r (lo n) := by
  rw [val_main_v1_apply, val_main_v0_apply]
  refine Finset.sum_congr rfl fun k _ => congrArg₂ (· * ·) (congrArg x0 ?_) (congrArg x1 ?_) <;>
    (funext a; match a with | ⟨0, _⟩ => rfl | ⟨1, _⟩ => rfl)

/-- The other half of the product. -/
theorem up_at (r : Fin 4096) (n : Fin 2816) : val_main_v2 (F := Ideal) x0 x1 (ix2 r n) = pre x0 x1 r (hi n) := by
  rw [val_main_v2_apply, val_main_v0_apply]
  refine Finset.sum_congr rfl fun k _ => congrArg₂ (· * ·) (congrArg x0 ?_) (congrArg x1 ?_)
  · funext a; match a with | ⟨0, _⟩ => rfl | ⟨1, _⟩ => rfl
  · funext a; match a with | ⟨0, _⟩ => rfl | ⟨1, _⟩ => exact Fin.ext (Nat.add_comm _ _)

/-- The host's `1 / (1 + exp (-x))` is the logistic function. -/
theorem sig_at (i) : val_main_v3_2 (F := Ideal) x0 x1 i = Ideal.logistic (val_main_v1 (F := Ideal) x0 x1 i) := by
  rw [val_main_v3_2_apply, val_main_call0_v4_apply, val_main_call0_v3_apply, val_main_call0_v2_apply, val_main_call0_v1_apply,
    val_main_call0_v0_apply, val_main_call0_cst_apply, val_main_call0_cst_0_apply, Common.ofBits_one]
  rfl

/-- The cotangent times the gate of the residual. -/
theorem mix_at (r : Fin 4096) (d : Fin 1024) : val_main_v9 (F := Ideal) x3 x4 (ix2 r d) = dmix (row x4 r) (row x3 0) d := by
  rw [val_main_v9_apply, val_main_v8_apply]
  refine (mul_comm _ _).trans (congrArg (x4 (ix2 r d) * ·) (congrArg x3 ?_))
  funext a; match a with | ⟨0, _⟩ => rfl | ⟨1, _⟩ => rfl

/-- The cotangent of the activation, at an index. -/
theorem back_at (r : Fin 4096) (n : Fin 2816) : val_main_v12 (F := Ideal) x2 x3 x4 (ix2 r n) = back x2 x3 x4 r n := by
  rw [val_main_v12_apply]
  refine Finset.sum_congr rfl fun k _ => congrArg₂ (· * ·) ?_ (congrArg x2 ?_)
  · refine (congrArg _ ?_).trans (mix_at x3 x4 r k)
    funext a; match a with | ⟨0, _⟩ => rfl | ⟨1, _⟩ => rfl
  · funext a; match a with | ⟨0, _⟩ => rfl | ⟨1, _⟩ => rfl

/-- The activation, at an index. -/
theorem act_at (r : Fin 4096) (n : Fin 2816) :
    val_main_v4 (F := Ideal) x0 x1 (ix2 r n) = act (pre x0 x1 r (lo n)) (pre x0 x1 r (hi n)) := by
  rw [val_main_v4_apply, val_main_v3_0_apply, sig_at, gate_at, up_at]
  rfl

/-- The gradient in the second factor, at an index. -/
theorem dup_at (r : Fin 4096) (n : Fin 2816) : val_main_v13 (F := Ideal) x0 x1 x2 x3 x4 (ix2 r n) = dU x0 x1 x2 x3 x4 r n := by
  rw [val_main_v13_apply, val_main_v3_0_apply, sig_at, gate_at, back_at]
  rfl

/-- The gradient in the gate, at an index. -/
theorem dgate_at (r : Fin 4096) (n : Fin 2816) : val_main_v15 (F := Ideal) x0 x1 x2 x3 x4 (ix2 r n) = dG x0 x1 x2 x3 x4 r n := by
  rw [val_main_v15_apply, val_main_call1_v1_apply, val_main_call1_v2_apply, val_main_call1_v0_apply, val_main_v14_apply,
    val_main_v3_1_apply, val_main_call0_v7_apply, val_main_call0_v6_apply, val_main_call0_cst_1_apply, Common.ofBits_one, sig_at, gate_at, up_at, back_at]
  rfl

/-- The left half of the joint gradient. -/
theorem both_lo (r : Fin 4096) (n : Fin 2816) :
    val_main_v16 (F := Ideal) x0 x1 x2 x3 x4 (ix2 r (lo n)) = dG x0 x1 x2 x3 x4 r n := by
  unfold val_main_v16
  rw [concatenate_pair_apply_left (t := S4096x5632) (s₁ := S4096x2816) (s₂ := S4096x2816) 1 _ _ _ (ix2 r (lo n)) rfl (ix2 r n)
    (fun b => match b with | ⟨0, _⟩ => rfl | ⟨1, _⟩ => rfl)]
  exact dgate_at x0 x1 x2 x3 x4 r n

/-- The right half of the joint gradient. -/
theorem both_hi (r : Fin 4096) (n : Fin 2816) :
    val_main_v16 (F := Ideal) x0 x1 x2 x3 x4 (ix2 r (hi n)) = dU x0 x1 x2 x3 x4 r n := by
  unfold val_main_v16
  rw [concatenate_pair_apply_right (t := S4096x5632) (s₁ := S4096x2816) (s₂ := S4096x2816) 1 _ _ _ (ix2 r (hi n)) rfl rfl (ix2 r n)
    (fun b hb => match b with | ⟨0, _⟩ => rfl | ⟨1, _⟩ => absurd rfl hb) rfl]
  exact dup_at x0 x1 x2 x3 x4 r n

/-- The sum over all columns is the sum over both halves. -/
theorem sum_halves (f : Fin 5632 → EReal) : (∑ n, f n) = (∑ n, f (lo n)) + ∑ n, f (hi n) := by
  refine (Fin.sum_univ_add (a := 2816) (b := 2816) f).trans ?_
  refine congrArg₂ (· + ·) rfl (Finset.sum_congr rfl fun n _ => congrArg f (Fin.ext (Nat.add_comm _ _)))

/-- The gradient of the input. -/
theorem dh_at (r : Fin 4096) (d : Fin 1024) : val_main_v19 (F := Ideal) x0 x1 x2 x3 x4 (ix2 r d)
    = (∑ n, dG x0 x1 x2 x3 x4 r n * x1 (ix2 d (lo n))) + ∑ n, dU x0 x1 x2 x3 x4 r n * x1 (ix2 d (hi n)) := by
  rw [val_main_v19_apply, sum_halves]
  refine congrArg₂ (· + ·) (Finset.sum_congr rfl fun n _ => ?_) (Finset.sum_congr rfl fun n _ => ?_)
  · rw [← both_lo]
    refine congrArg₂ (· * ·) (congrArg _ ?_) (congrArg x1 ?_) <;> (funext a; match a with | ⟨0, _⟩ => rfl | ⟨1, _⟩ => rfl)
  · rw [← both_hi]
    refine congrArg₂ (· * ·) (congrArg _ ?_) (congrArg x1 ?_) <;> (funext a; match a with | ⟨0, _⟩ => rfl | ⟨1, _⟩ => rfl)

/-- The gradient of the joint matrix of weights, column by column of either half. -/
theorem dw_lo (d : Fin 1024) (n : Fin 2816) : val_main_v18 (F := Ideal) x0 x1 x2 x3 x4 (ix2 d (lo n))
    = ∑ r : Fin 4096, dG x0 x1 x2 x3 x4 r n * x0 (ix2 r d) := by
  rw [val_main_v18_apply, val_main_v17_apply]
  refine Finset.sum_congr rfl fun r _ => ?_
  rw [← both_lo]
  refine congrArg₂ (· * ·) (congrArg _ ?_) (congrArg x0 ?_) <;> (funext a; match a with | ⟨0, _⟩ => rfl | ⟨1, _⟩ => rfl)

/-- The same for the right half. -/
theorem dw_hi (d : Fin 1024) (n : Fin 2816) : val_main_v18 (F := Ideal) x0 x1 x2 x3 x4 (ix2 d (hi n))
    = ∑ r : Fin 4096, dU x0 x1 x2 x3 x4 r n * x0 (ix2 r d) := by
  rw [val_main_v18_apply, val_main_v17_apply]
  refine Finset.sum_congr rfl fun r _ => ?_
  rw [← both_hi]
  refine congrArg₂ (· * ·) (congrArg _ ?_) (congrArg x0 ?_) <;> (funext a; match a with | ⟨0, _⟩ => rfl | ⟨1, _⟩ => rfl)

/-- The gradient of the matrix of weights behind the activation. -/
theorem dw_down (n : Fin 2816) (d : Fin 1024) : val_main_v11 (F := Ideal) x0 x1 x3 x4 (ix2 n d)
    = ∑ r : Fin 4096, act (pre x0 x1 r (lo n)) (pre x0 x1 r (hi n)) * dmix (row x4 r) (row x3 0) d := by
  rw [val_main_v11_apply, val_main_v10_apply]
  refine Finset.sum_congr rfl fun r _ => ?_
  rw [← act_at, ← mix_at]
  refine (mul_comm _ _).trans (congrArg₂ (· * ·) (congrArg _ ?_) (congrArg _ ?_)) <;>
    (funext a; match a with | ⟨0, _⟩ => rfl | ⟨1, _⟩ => rfl)

end

end Cert.Proof.MlpRef

end
-- ==== Proof.MlpRun.lean ====
/- The gradients of the feed-forward block: the arrays that the kernel is given, what the lines behind it make of its arrays, and
   that these are the reference's. -/
module

public import proofs.«01_k».proof.Proof.MlpRef

@[expose] public section

noncomputable section

namespace Cert.Proof.MlpRun

open Idealize.ShloMosaic hiding ix1 ix2 ix3 eq_ix2 eq_ix3
open Cert.MlpIdeal Cert.MlpIdeal.Gen Idealize.ShloMosaic.TcCoe Idealize.SL.Sem Idealize.ShloMosaic.ValueIdx
open Cert.Proof.MlpBody Cert.Proof.MlpValue Cert.Proof.MlpRef
open scoped BigOperators

/-- Column `f` of block `j`, counted through. -/
def at8 (j : Fin 8) (f : Fin 704) : Fin 5632 := ⟨j.val * 704 + f.val, by omega⟩
def at4 (j : Fin 4) (f : Fin 704) : Fin 2816 := ⟨j.val * 704 + f.val, by omega⟩

/-- A gate column counted through the eight blocks. -/
theorem lo_at (j : Fin 4) (f : Fin 704) : lo (at4 j f) = at8 (early j) f := rfl
/-- A column of the other factor counted through the eight blocks. -/
theorem hi_at (j : Fin 4) (f : Fin 704) : hi (at4 j f) = at8 (later j) f :=
  Fin.ext (show j.val * 704 + f.val + 2816 = (j.val + 4) * 704 + f.val by omega)

/-- Every column stands in one of the four blocks. -/
theorem exists_at (n : Fin 2816) : ∃ j f, n = at4 j f :=
  ⟨⟨n.val / 704, by omega⟩, ⟨n.val % 704, by omega⟩, Fin.ext (show n.val = n.val / 704 * 704 + n.val % 704 by omega)⟩

/-- Every joint column stands in one of the halves. -/
theorem exists_half (n : Fin 5632) : (∃ k, n = lo k) ∨ ∃ k, n = hi k := by
  by_cases h : n.val < 2816
  · exact .inl ⟨⟨n.val, h⟩, rfl⟩
  · exact .inr ⟨⟨n.val - 2816, by omega⟩, Fin.ext (show n.val = n.val - 2816 + 2816 by omega)⟩

/-- Arrays with two axes are equal when they are at every row and column. -/
theorem ext2 {a b : Nat} {f g : (⟨2, ![a, b]⟩ : Shape).Idx → EReal} (h : ∀ i j, f (ix2 i j) = g (ix2 i j)) : f = g := by
  funext i
  rw [eq_ix2 i]
  exact h _ _

/-! ## The arrays in front of the kernel -/

section Host
variable (x0 : S4096x1024.Idx → EReal) (x1 : S1024x5632.Idx → EReal) (x2 : S2816x1024.Idx → EReal)

/-- The joint weights, transposed and cut into eight blocks of columns. -/
def hW : FVec Ideal S8x704x1024 .bf16 := shapeCast S8x704x1024
  (truncf (F := Ideal) .bf16 (transpose S5632x1024 [1, 0] x1 transposes_S1024x5632_S5632x1024_1_0 : FVec Ideal S5632x1024 .f32) bitsLt_bf16_f32)
  shapeCasts_S5632x1024_S8x704x1024

/-- The other weights, cut into four blocks of rows. -/
def hD : FVec Ideal S4x704x1024 .bf16 := shapeCast S4x704x1024 (truncf (F := Ideal) .bf16 (x2 : FVec Ideal S2816x1024 .f32) bitsLt_bf16_f32)
  shapeCasts_S2816x1024_S4x704x1024

def hProd (w : FVec Ideal S4x704x1024 .bf16) : FVec Ideal S4x4096x704 .bf16 :=
  truncf (F := Ideal) .bf16 (transpose S4x4096x704 [0, 2, 1]
    (Host.dotGeneral dot_S4x704x1024_S4096x1024_S4x704x4096_2_1_01_0_n_n none w (truncf (F := Ideal) .bf16 (x0 : FVec Ideal S4096x1024 .f32) bitsLt_bf16_f32))
    transposes_S4x704x4096_S4x4096x704_0_2_1) bitsLt_bf16_f32

/-- The joint weights' blocks at an index. -/
theorem hW_at (j : Fin 8) (f : Fin 704) (d : Fin 1024) : hW x1 (ix3 j f d) = x1 (ix2 d (at8 j f)) := by
  unfold hW
  rw [shapeCast_apply _ _ (ix3 j f d) (ix2 (at8 j f) d) (by rw [Shape.rowMajor_val_two, Shape.rowMajor_val_three]; rfl)]
  exact transpose_apply _ x1 _ _ _ (fun b => match b with | ⟨0, _⟩ => rfl | ⟨1, _⟩ => rfl)

/-- The other weights' blocks at an index. -/
theorem hD_at (j : Fin 4) (f : Fin 704) (d : Fin 1024) : hD x2 (ix3 j f d) = x2 (ix2 (at4 j f) d) := by
  unfold hD
  rw [shapeCast_apply _ _ (ix3 j f d) (ix2 (at4 j f) d) (by rw [Shape.rowMajor_val_two, Shape.rowMajor_val_three]; rfl)]
  rfl

/-- A block of weights times the rows, at an index. -/
theorem hProd_at (w : FVec Ideal S4x704x1024 .bf16) (j : Fin 4) (r : Fin 4096) (f : Fin 704) :
    hProd x0 w (ix3 j r f) = ∑ d : Fin 1024, w (ix3 j f d) * x0 (ix2 r d) := by
  refine Eq.trans (b := transpose S4x4096x704 [0, 2, 1] (Host.dotGeneral dot_S4x704x1024_S4096x1024_S4x704x4096_2_1_01_0_n_n none w
    (truncf (F := Ideal) .bf16 (x0 : FVec Ideal S4096x1024 .f32) bitsLt_bf16_f32)) transposes_S4x704x4096_S4x4096x704_0_2_1 (ix3 j r f)) rfl ?_
  refine (transpose_apply (s := S4x704x4096) (t := S4x4096x704) [0, 2, 1] _ transposes_S4x704x4096_S4x4096x704_0_2_1 (ix3 j r f) (ix3 j f r) (fun b => match b with | ⟨0, _⟩ => rfl | ⟨1, _⟩ => rfl | ⟨2, _⟩ => rfl)).trans ?_
  rw [Common.dot_at dot_S4x704x1024_S4096x1024_S4x704x4096_2_1_01_0_n_n 1024 rfl rfl _ _ _ (ix3 j f r) (fun k => ix3 j f k) (fun k => ix2 r k)]
  · rfl
  · intro q k hq a
    match a with
    | ⟨0, _⟩ => rfl
    | ⟨1, _⟩ => rfl
    | ⟨2, _⟩ => exact hq
  · intro q k hq a
    match a with
    | ⟨0, _⟩ => rfl
    | ⟨1, _⟩ => exact hq

/-- The two factors of the activation, as the kernel is given them. -/
def hG : FVec Ideal S4x4096x704 .bf16 := hProd x0 (extractStridedSlice S4x704x1024 ![0, 0, 0] (hW x1) slices_S8x704x1024_S4x704x1024_0_0_0)
def hU : FVec Ideal S4x4096x704 .bf16 := hProd x0 (extractStridedSlice S4x704x1024 ![4, 0, 0] (hW x1) slices_S8x704x1024_S4x704x1024_4_0_0)

/-- The gate as the reference's product. -/
theorem hG_at (j : Fin 4) (r : Fin 4096) (f : Fin 704) : hG x0 x1 (ix3 j r f) = pre x0 x1 r (lo (at4 j f)) := by
  unfold hG
  rw [hProd_at]
  refine Finset.sum_congr rfl fun d _ => ?_
  rw [extractStridedSlice_apply _ _ _ (ix3 j f d) (ix3 (early j) f d)
    (fun a => match a with | ⟨0, _⟩ => (Nat.zero_add _).symm | ⟨1, _⟩ => (Nat.zero_add _).symm | ⟨2, _⟩ => (Nat.zero_add _).symm), hW_at, mul_comm]
  rfl

/-- The other factor as the reference's product. -/
theorem hU_at (j : Fin 4) (r : Fin 4096) (f : Fin 704) : hU x0 x1 (ix3 j r f) = pre x0 x1 r (hi (at4 j f)) := by
  unfold hU
  rw [hProd_at, hi_at]
  refine Finset.sum_congr rfl fun d _ => ?_
  rw [extractStridedSlice_apply (s := S8x704x1024) (t := S4x704x1024) ![4, 0, 0] (hW x1) slices_S8x704x1024_S4x704x1024_4_0_0 (ix3 j f d) (ix3 (later j) f d)
    (fun a => match a with | ⟨0, _⟩ => Nat.add_comm j.val 4 | ⟨1, _⟩ => (Nat.zero_add _).symm | ⟨2, _⟩ => (Nat.zero_add _).symm), hW_at, mul_comm]

end Host

section
variable (m : (ℓ : Loc nD τ sig) → Buf (Elt Ideal) ℓ) (ρ : Dev nD → PrngReg) (c : Dev nD)

abbrev a0 : S4096x1024.Idx → EReal := m ((c : Thread nD τ).loc main_arg0)
abbrev a1 : S1024x5632.Idx → EReal := m ((c : Thread nD τ).loc main_arg1)
abbrev a2 : S2816x1024.Idx → EReal := m ((c : Thread nD τ).loc main_arg2)
abbrev a3 : S1x1024.Idx → EReal := m ((c : Thread nD τ).loc main_arg3)
abbrev a4 : S4096x1024.Idx → EReal := m ((c : Thread nD τ).loc main_arg4)

/-- The rows that the kernel finds. -/
theorem found_h : aH m c = a0 m c := by
  show V m c main_v5 = _
  unfold V V0
  simp only [hostOps0, List.flatten_cons, List.flatten_nil, List.append_nil]
  after_results_simp
  rfl

/-- The joint weights that the kernel finds. -/
theorem found_w : aW m c = hW (a1 m c) := by
  show V m c main_v2 = _
  unfold V V0
  simp only [hostOps0, List.flatten_cons, List.flatten_nil, List.append_nil]
  after_results_simp
  rfl

/-- The other weights that the kernel finds. -/
theorem found_d : aD m c = hD (a2 m c) := by
  show V m c main_v4 = _
  unfold V V0
  simp only [hostOps0, List.flatten_cons, List.flatten_nil, List.append_nil]
  after_results_simp
  rfl

/-- The gate that the kernel finds. -/
theorem found_g : aG m c = hG (a0 m c) (a1 m c) := by
  show V m c main_v9 = _
  unfold V V0
  simp only [hostOps0, List.flatten_cons, List.flatten_nil, List.append_nil]
  after_results_simp
  rfl

/-- The other factor that the kernel finds. -/
theorem found_u : aU m c = hU (a0 m c) (a1 m c) := by
  show V m c main_v13 = _
  unfold V V0
  simp only [hostOps0, List.flatten_cons, List.flatten_nil, List.append_nil]
  after_results_simp
  rfl

/-- The gate of the residual that the kernel finds. -/
theorem found_s : aS m c = a3 m c := by
  show V m c main_arg3 = _
  unfold V V0
  simp only [hostOps0, List.flatten_cons, List.flatten_nil, List.append_nil]
  after_results_simp

/-- The cotangent that the kernel finds. -/
theorem found_y : aY m c = a4 m c := by
  show V m c main_arg4 = _
  unfold V V0
  simp only [hostOps0, List.flatten_cons, List.flatten_nil, List.append_nil]
  after_results_simp

/-! ## The kernel's rows are the reference's -/

abbrev kG (r : Fin 4096) (n : Fin 2816) : EReal := dG (a0 m c) (a1 m c) (a2 m c) (a3 m c) (a4 m c) r n
abbrev kU (r : Fin 4096) (n : Fin 2816) : EReal := dU (a0 m c) (a1 m c) (a2 m c) (a3 m c) (a4 m c) r n

/-- The gate's rows are the reference's. -/
theorem slab_g (j : Fin 4) (r : Fin 4096) (f : Fin 704) : slab (aG m c) j r f = pre (a0 m c) (a1 m c) r (lo (at4 j f)) := by
  rw [found_g]; exact hG_at _ _ j r f
/-- The other factor's rows are the reference's. -/
theorem slab_u (j : Fin 4) (r : Fin 4096) (f : Fin 704) : slab (aU m c) j r f = pre (a0 m c) (a1 m c) r (hi (at4 j f)) := by
  rw [found_u]; exact hU_at _ _ j r f
/-- The other weights' rows are the reference's. -/
theorem slab_d (j : Fin 4) (f : Fin 704) (d : Fin 1024) : slab (aD m c) j f d = a2 m c (ix2 (at4 j f) d) := by
  rw [found_d]; exact hD_at _ j f d
/-- The joint weights' rows are the reference's columns. -/
theorem slab_w (j : Fin 8) (f : Fin 704) (d : Fin 1024) : slab (aW m c) j f d = a1 m c (ix2 d (at8 j f)) := by
  rw [found_w]; exact hW_at _ j f d

/-- The activation's cotangent is the reference's. -/
theorem da_eq (j : Fin 4) (r : Fin 4096) (f : Fin 704) : da (aY m c) (aS m c) (aD m c) j r f = back (a2 m c) (a3 m c) (a4 m c) r (at4 j f) := by
  unfold da dact back
  rw [found_y, found_s]
  exact Finset.sum_congr rfl fun d _ => congrArg _ (slab_d m c j f d)

/-- The gradient in the gate is the reference's. -/
theorem gate_eq (j : Fin 4) (r : Fin 4096) (f : Fin 704) :
    dgate (slab (aG m c) j r f) (slab (aU m c) j r f) (da (aY m c) (aS m c) (aD m c) j r f) = kG m c r (at4 j f) := by
  rw [slab_g, slab_u, da_eq]; rfl

/-- The gradient in the other factor is the reference's. -/
theorem up_eq (j : Fin 4) (r : Fin 4096) (f : Fin 704) :
    dup (slab (aG m c) j r f) (da (aY m c) (aS m c) (aD m c) j r f) = kU m c r (at4 j f) := by
  rw [slab_g, da_eq]; rfl

/-- A part of the input's gradient, in the reference's columns. -/
theorem part_eq (j : Fin 4) (r : Fin 4096) (d : Fin 1024) :
    partH (aY m c) (aG m c) (aU m c) (aS m c) (aW m c) (aD m c) j r d
      = (∑ f, kG m c r (at4 j f) * a1 m c (ix2 d (lo (at4 j f)))) + ∑ f, kU m c r (at4 j f) * a1 m c (ix2 d (hi (at4 j f))) := by
  unfold partH dh
  refine congrArg₂ (· + ·) (Finset.sum_congr rfl fun f _ => congrArg₂ (· * ·) (gate_eq m c j r f) (slab_w m c (early j) f d))
    (Finset.sum_congr rfl fun f _ => congrArg₂ (· * ·) (up_eq m c j r f) ?_)
  rw [hi_at]; exact slab_w m c (later j) f d

/-- The four parts together are the gradient of the input. -/
theorem parts_eq (r : Fin 4096) (d : Fin 1024) :
    (∑ j, partH (aY m c) (aG m c) (aU m c) (aS m c) (aW m c) (aD m c) j r d)
      = Cert.MlpRefIdeal.Read.val_main_v19 (F := Ideal) (a0 m c) (a1 m c) (a2 m c) (a3 m c) (a4 m c) (ix2 r d) := by
  rw [dh_at, Finset.sum_congr rfl fun j _ => part_eq m c j r d, Finset.sum_add_distrib]
  exact congrArg₂ (· + ·) (Fin.sum_mul_add_fin 4 704 fun n : Fin 2816 => kG m c r n * a1 m c (ix2 d (lo n)))
    (Fin.sum_mul_add_fin 4 704 fun n : Fin 2816 => kU m c r n * a1 m c (ix2 d (hi n)))

/-- The gradient of the gate's weights. -/
theorem gate_sum (j : Fin 4) (f : Fin 704) (d : Fin 1024) : gradG (aH m c) (aY m c) (aG m c) (aU m c) (aS m c) (aD m c) j f d
    = Cert.MlpRefIdeal.Read.val_main_v18 (F := Ideal) (a0 m c) (a1 m c) (a2 m c) (a3 m c) (a4 m c) (ix2 d (lo (at4 j f))) := by
  rw [dw_lo]
  unfold gradG
  rw [found_h]
  exact Finset.sum_congr rfl fun r _ => congrArg (· * _) (gate_eq m c j r f)

/-- The gradient of the other factor's weights. -/
theorem up_sum (j : Fin 4) (f : Fin 704) (d : Fin 1024) : gradU (aH m c) (aY m c) (aG m c) (aS m c) (aD m c) j f d
    = Cert.MlpRefIdeal.Read.val_main_v18 (F := Ideal) (a0 m c) (a1 m c) (a2 m c) (a3 m c) (a4 m c) (ix2 d (hi (at4 j f))) := by
  rw [dw_hi]
  unfold gradU
  rw [found_h]
  exact Finset.sum_congr rfl fun r _ => congrArg (· * _) (up_eq m c j r f)

/-- The gradient of the weights behind the activation. -/
theorem down_sum (j : Fin 4) (f : Fin 704) (d : Fin 1024) : gradD (aY m c) (aG m c) (aU m c) (aS m c) j f d
    = Cert.MlpRefIdeal.Read.val_main_v11 (F := Ideal) (a0 m c) (a1 m c) (a3 m c) (a4 m c) (ix2 (at4 j f) d) := by
  rw [dw_down]
  unfold gradD
  rw [found_y, found_s]
  exact Finset.sum_congr rfl fun r _ => by rw [slab_g, slab_u]

/-! ## The lines behind the kernel -/

/-- Part `j` of the input's gradient, as the host cuts it out. -/
def cut (off : Fin 3 → Nat) (x : FVec Ideal S4x4096x1024 .bf16) (h : S4x4096x1024.Slices off S1x4096x1024) : FVec Ideal S4096x1024 .f32 :=
  extf .f32 (shapeCast S4096x1024 (extractStridedSlice S1x4096x1024 off x h) shapeCasts_S1x4096x1024_S4096x1024) bitsLt_bf16_f32

/-- A part of the input's gradient at an index. -/
theorem cut_at (j : Fin 4) (x : FVec Ideal S4x4096x1024 .bf16) (h : S4x4096x1024.Slices ![j.val, 0, 0] S1x4096x1024) (r : Fin 4096) (d : Fin 1024) :
    cut ![j.val, 0, 0] x h (ix2 r d) = x (ix3 j r d) := by
  refine Eq.trans (b := shapeCast S4096x1024 (extractStridedSlice S1x4096x1024 ![j.val, 0, 0] x h) shapeCasts_S1x4096x1024_S4096x1024 (ix2 r d)) rfl ?_
  refine (shapeCast_1ab_ab_apply _ _ r d).trans ?_
  exact extractStridedSlice_apply _ _ _ _ _
    (fun a => match a with | ⟨0, _⟩ => rfl | ⟨1, _⟩ => (Nat.zero_add _).symm | ⟨2, _⟩ => (Nat.zero_add _).symm)

/-- The lines behind the kernel find its arrays. -/
theorem after (w : Fin cfg0.W) :
    Pipeline.withArrays cfg0.spec c (V0 m c) (fun w => (dats m 0 c).arrAt w cfg0.N) (Proc.devRef .tc (Pipeline.arrRef cfg0.spec w)) = (dats m 0 c).arrAt w cfg0.N :=
  (dats m 0 c).withArrays_arrAt sharedIn0 (V0 m c) (A_eq m c) w

/-- The parts of the input's gradient, as those lines find them. -/
theorem after8 : Pipeline.withArrays (cfgs 0).spec c (V0 m c) (fun w => (dats m 0 c).arrAt w (cfgs 0).N) (Proc.devRef .tc main_v14_0)
    = (dats m 0 c).arrAt 8 cfg0.N := after m c 8
/-- The gradient of the gate's weights, as those lines find it. -/
theorem after9 : Pipeline.withArrays (cfgs 0).spec c (V0 m c) (fun w => (dats m 0 c).arrAt w (cfgs 0).N) (Proc.devRef .tc main_v14_1)
    = (dats m 0 c).arrAt 9 cfg0.N := after m c 9
/-- The gradient of the other factor's weights, as those lines find it. -/
theorem after10 : Pipeline.withArrays (cfgs 0).spec c (V0 m c) (fun w => (dats m 0 c).arrAt w (cfgs 0).N) (Proc.devRef .tc main_v14_2)
    = (dats m 0 c).arrAt 10 cfg0.N := after m c 10
/-- The gradient of the weights behind the activation, as those lines find it. -/
theorem after11 : Pipeline.withArrays (cfgs 0).spec c (V0 m c) (fun w => (dats m 0 c).arrAt w (cfgs 0).N) (Proc.devRef .tc main_v14_3)
    = (dats m 0 c).arrAt 11 cfg0.N := after m c 11

/-- The gradient of the input. -/
theorem end_h : Pipeline.afterTail₀ cfgs (dats m) 0 (V0 m) [hostOps1] c main_v29
    = Cert.MlpRefIdeal.Read.val_main_v19 (F := Ideal) (a0 m c) (a1 m c) (a2 m c) (a3 m c) (a4 m c) := by
  have e : Pipeline.afterTail₀ cfgs (dats m) 0 (V0 m) [hostOps1] c main_v29
      = addf (addf (addf (cut ![0, 0, 0] ((dats m 0 c).arrAt 8 cfg0.N) slices_S4x4096x1024_S1x4096x1024_0_0_0)
            (cut ![1, 0, 0] ((dats m 0 c).arrAt 8 cfg0.N) slices_S4x4096x1024_S1x4096x1024_1_0_0))
          (cut ![2, 0, 0] ((dats m 0 c).arrAt 8 cfg0.N) slices_S4x4096x1024_S1x4096x1024_2_0_0))
        (cut ![3, 0, 0] ((dats m 0 c).arrAt 8 cfg0.N) slices_S4x4096x1024_S1x4096x1024_3_0_0) := by
    unfold Pipeline.afterTail₀
    simp only [hostOps1, List.flatten_cons, List.flatten_nil, List.append_nil]
    after_results_simp
    rw [after8]
    rfl
  rw [e]
  refine ext2 fun r d => ?_
  rw [← parts_eq, Fin.sum_univ_four]
  refine congrArg₂ (· + ·) (congrArg₂ (· + ·) (congrArg₂ (· + ·) ?_ ?_) ?_) ?_
  · exact (cut_at 0 _ _ _ _).trans (congrFun (final8 m c) _)
  · exact (cut_at 1 _ _ _ _).trans (congrFun (final8 m c) _)
  · exact (cut_at 2 _ _ _ _).trans (congrFun (final8 m c) _)
  · exact (cut_at 3 _ _ _ _).trans (congrFun (final8 m c) _)

/-- Both halves of the joint weights' gradient, put together. -/
def joint (x y : FVec Ideal S4x704x1024 .bf16) : FVec Ideal S1024x5632 .f32 :=
  transpose S1024x5632 [1, 0] (shapeCast S5632x1024 (extf .f32 (concatenate S8x704x1024 0 [⟨S4x704x1024, x⟩, ⟨S4x704x1024, y⟩]
    concatenates_S4x704x1024_S4x704x1024_S8x704x1024_d0) bitsLt_bf16_f32) shapeCasts_S8x704x1024_S5632x1024) transposes_S5632x1024_S1024x5632_1_0

/-- The joint gradient at an index. -/
theorem joint_at (x y : FVec Ideal S4x704x1024 .bf16) (j : Fin 8) (f : Fin 704) (d : Fin 1024) : joint x y (ix2 d (at8 j f))
    = (concatenate S8x704x1024 0 [⟨S4x704x1024, x⟩, ⟨S4x704x1024, y⟩] concatenates_S4x704x1024_S4x704x1024_S8x704x1024_d0 : FVec Ideal S8x704x1024 .bf16) (ix3 j f d) := by
  unfold joint
  refine (transpose_apply _ _ _ (ix2 d (at8 j f)) (ix2 (at8 j f) d) (fun b => match b with | ⟨0, _⟩ => rfl | ⟨1, _⟩ => rfl)).trans ?_
  exact shapeCast_apply _ _ (ix2 (at8 j f) d) (ix3 j f d) (by rw [Shape.rowMajor_val_two, Shape.rowMajor_val_three]; rfl)

/-- Its left half. -/
theorem joint_lo (x y : FVec Ideal S4x704x1024 .bf16) (j : Fin 4) (f : Fin 704) (d : Fin 1024) : joint x y (ix2 d (lo (at4 j f))) = x (ix3 j f d) := by
  rw [lo_at, joint_at]
  exact concatenate_pair_apply_left (t := S8x704x1024) (s₁ := S4x704x1024) (s₂ := S4x704x1024) 0 _ _ _ (ix3 (early j) f d) rfl (ix3 j f d)
    (fun b => match b with | ⟨0, _⟩ => rfl | ⟨1, _⟩ => rfl | ⟨2, _⟩ => rfl)

/-- Its right half. -/
theorem joint_hi (x y : FVec Ideal S4x704x1024 .bf16) (j : Fin 4) (f : Fin 704) (d : Fin 1024) : joint x y (ix2 d (hi (at4 j f))) = y (ix3 j f d) := by
  rw [hi_at, joint_at]
  exact concatenate_pair_apply_right (t := S8x704x1024) (s₁ := S4x704x1024) (s₂ := S4x704x1024) 0 _ _ _ (ix3 (later j) f d) rfl rfl (ix3 j f d)
    (fun b hb => match b with | ⟨0, _⟩ => absurd rfl hb | ⟨1, _⟩ => rfl | ⟨2, _⟩ => rfl) rfl

set_option maxRecDepth 8192 in
/-- The gradient of the joint weights. -/
theorem end_w : Pipeline.afterTail₀ cfgs (dats m) 0 (V0 m) [hostOps1] c main_v33
    = Cert.MlpRefIdeal.Read.val_main_v18 (F := Ideal) (a0 m c) (a1 m c) (a2 m c) (a3 m c) (a4 m c) := by
  have e : Pipeline.afterTail₀ cfgs (dats m) 0 (V0 m) [hostOps1] c main_v33 = joint ((dats m 0 c).arrAt 9 cfg0.N) ((dats m 0 c).arrAt 10 cfg0.N) := by
    unfold Pipeline.afterTail₀
    simp only [hostOps1, List.flatten_cons, List.flatten_nil, List.append_nil]
    after_results_simp
    unfold joint
    refine congrArg (fun x => transpose S1024x5632 [1, 0] (shapeCast S5632x1024 (extf (F := Ideal) .f32 x bitsLt_bf16_f32) shapeCasts_S8x704x1024_S5632x1024) transposes_S5632x1024_S1024x5632_1_0) ?_
    refine StableHlo.concatenate_congr _ _ (Common.and_then ?_ (Common.and_then ?_ rfl)) _ _
    · show HloOp.result _ _ (Proc.devRef .tc main_v14_1) = _
      after_results_simp
      exact after9 m c
    · show HloOp.result _ _ (Proc.devRef .tc main_v14_2) = _
      after_results_simp
      exact after10 m c
  rw [e]
  refine ext2 fun d n => ?_
  rcases exists_half n with ⟨k, rfl⟩ | ⟨k, rfl⟩ <;> obtain ⟨j, f, rfl⟩ := exists_at k
  · rw [joint_lo, ← gate_sum]
    exact congrFun (final9 m c) _
  · rw [joint_hi, ← up_sum]
    exact congrFun (final10 m c) _

/-- The gradient of the weights behind the activation. -/
theorem end_d : Pipeline.afterTail₀ cfgs (dats m) 0 (V0 m) [hostOps1] c main_v35
    = Cert.MlpRefIdeal.Read.val_main_v11 (F := Ideal) (a0 m c) (a1 m c) (a3 m c) (a4 m c) := by
  have e : Pipeline.afterTail₀ cfgs (dats m) 0 (V0 m) [hostOps1] c main_v35
      = (shapeCast S2816x1024 (extf (F := Ideal) .f32 ((dats m 0 c).arrAt 11 cfg0.N) bitsLt_bf16_f32) shapeCasts_S4x704x1024_S2816x1024 : FVec Ideal S2816x1024 .f32) := by
    unfold Pipeline.afterTail₀
    simp only [hostOps1, List.flatten_cons, List.flatten_nil, List.append_nil]
    after_results_simp
    rw [after11]
    rfl
  rw [e]
  refine ext2 fun n d => ?_
  obtain ⟨j, f, rfl⟩ := exists_at n
  rw [← down_sum, shapeCast_apply _ _ (ix2 (at4 j f) d) (ix3 j f d) (by rw [Shape.rowMajor_val_two, Shape.rowMajor_val_three]; rfl)]
  exact congrFun (final11 m c) _

/-- Every run of the kernel ends with the reference's gradients in the results and the arguments as they were. -/
theorem results : θ_run defs (onTc (τ := τ) (main (F := Ideal))) ⟨m, fun _ => 0, ρ⟩ (fun r => ∀ c : Dev nD,
    r.2.mem ((c.tc : Thread nD τ).loc main_v29) = Cert.MlpRefIdeal.Read.val_main_v19 (F := Ideal) (a0 m c) (a1 m c) (a2 m c) (a3 m c) (a4 m c)
      ∧ r.2.mem ((c.tc : Thread nD τ).loc main_v33) = Cert.MlpRefIdeal.Read.val_main_v18 (F := Ideal) (a0 m c) (a1 m c) (a2 m c) (a3 m c) (a4 m c)
      ∧ r.2.mem ((c.tc : Thread nD τ).loc main_v35) = Cert.MlpRefIdeal.Read.val_main_v11 (F := Ideal) (a0 m c) (a1 m c) (a3 m c) (a4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h.2 c).2 main_v29 (Pipeline.mem_restRefs_of main_v29 (by decide) (by decide))).trans (end_h m c),
      ((h.2 c).2 main_v33 (Pipeline.mem_restRefs_of main_v33 (by decide) (by decide))).trans (end_w m c),
      ((h.2 c).2 main_v35 (Pipeline.mem_restRefs_of main_v35 (by decide) (by decide))).trans (end_d m c), h.1 c⟩)
    (θ_run_and (unchanged m ρ) (run_main m ρ))

end

end Cert.Proof.MlpRun

end
-- ==== Proof.NormMath.lean ====
/- The gradient of a row's normalisation with its scale, shift and weight, as formulas of one row. The norm is the one by
   the root of the mean square, and the constants are kept as the programs write them. -/
module

public import proofs.«01_k».proof.Proof.Common
public import Idealize.ShloMosaic.Lib.ValueLayoutCasts

@[expose] public section

noncomputable section

namespace Cert.Proof.NormMath

open Idealize.ShloMosaic Idealize.ShloMosaic.ValueIdx
open scoped BigOperators

/-- The number one, the row's length, the small number added to the mean square, and minus a half. -/
def one : EReal := Ideal.ofBits .f32 0x3F800000#32
def width : EReal := Ideal.ofBits .f32 0x44800000#32
def tiny : EReal := Ideal.ofBits .f32 0x358637BD#32
def mhalf : EReal := Ideal.ofBits .f32 0xBF000000#32

/-- The row `r` of a matrix. -/
def row {n k : Nat} (x : (⟨2, ![n, k]⟩ : Shape).Idx → EReal) (r : Fin n) : Fin k → EReal := fun j => x (ix2 r j)

/-- The mean square with the small number, its inverse root, and that root's derivative. -/
def var (x : Fin 1024 → EReal) : EReal := Ideal.div (∑ d, x d * x d) width + tiny
def root (x : Fin 1024 → EReal) : EReal := Ideal.rsqrt (var x)
def droot (x : Fin 1024 → EReal) : EReal := mhalf * Ideal.div (root x) (var x)

/-- The row over its root mean square, that row by the weight, and the modulated row. -/
def hat (x : Fin 1024 → EReal) (d : Fin 1024) : EReal := x d * root x
def normed (x w : Fin 1024 → EReal) (d : Fin 1024) : EReal := hat x d * w d
def modulated (x w sh sc : Fin 1024 → EReal) (d : Fin 1024) : EReal := normed x w d * (one + sc d) + sh d

/-- The cotangent before the modulation, and before the weight. -/
def dmod (sc g : Fin 1024 → EReal) (d : Fin 1024) : EReal := g d * (one + sc d)
def dhat (w sc g : Fin 1024 → EReal) (d : Fin 1024) : EReal := dmod sc g d * w d

/-- What the root mean square contributes to the cotangent of each entry. -/
def through (x p : Fin 1024 → EReal) : EReal := Ideal.div ((∑ d, x d * p d) * droot x) width

/-- The cotangent of the row. -/
def drow (x w sc g : Fin 1024 → EReal) (d : Fin 1024) : EReal :=
  dhat w sc g d * root x + x d * through x (dhat w sc g) + through x (dhat w sc g) * x d

/-- A sum along a row: the reduced axis is the second. -/
theorem sum_row {n k : Nat} (h : (⟨2, ![n, k]⟩ : Shape).Reduces [1] ⟨1, ![n]⟩) (x : FVec Ideal ⟨2, ![n, k]⟩ .f32) (a : Fin n)
    (h1 : FKind.Formats .f32) (h2 : (0x00000000#32 : BitVec 32) = 0x00000000#32) :
    multiReduction .add [1] ⟨1, ![n]⟩ x 0x00000000#32 h h1 h2 (ix1 a) = ∑ d : Fin k, x (ix2 a d) := by
  refine (Ideal.multiReduction_add_single x _ h h1 h2 _).trans ?_
  refine Finset.sum_congr rfl fun d _ => congrArg x (funext fun b => ?_)
  match b with
  | ⟨0, _⟩ => rfl
  | ⟨1, _⟩ => rfl

/-- A sum along a column: the reduced axis is the first. -/
theorem sum_col {n k : Nat} (h : (⟨2, ![n, k]⟩ : Shape).Reduces [0] ⟨1, ![k]⟩) (x : FVec Ideal ⟨2, ![n, k]⟩ .f32) (d : Fin k)
    (h1 : FKind.Formats .f32) (h2 : (0x00000000#32 : BitVec 32) = 0x00000000#32) :
    multiReduction .add [0] ⟨1, ![k]⟩ x 0x00000000#32 h h1 h2 (ix1 d) = ∑ a : Fin n, x (ix2 a d) := by
  refine (Ideal.multiReduction_add_single x _ h h1 h2 _).trans ?_
  refine Finset.sum_congr rfl fun a _ => congrArg x (funext fun b => ?_)
  match b with
  | ⟨0, _⟩ => rfl
  | ⟨1, _⟩ => rfl

/-- A column spread over the columns of a matrix. -/
theorem spread {n k : Nat} (v : (⟨2, ![n, 1]⟩ : Shape).Idx → EReal) (h : (⟨2, ![n, 1]⟩ : Shape).Broadcasts ⟨2, ![n, k]⟩)
    (a : Fin n) (d : Fin k) : broadcastTo ⟨2, ![n, k]⟩ v h (ix2 a d) = v (ix2 a 0) := by
  refine congrArg v (funext fun b => ?_)
  match b with
  | ⟨0, _⟩ =>
    refine Fin.ext ?_
    split
    · rename_i h
      have h : n = 1 := h
      show 0 = a.val
      omega
    · rfl
  | ⟨1, _⟩ => rfl

end Cert.Proof.NormMath

end
-- ==== Proof.ProjBody.lean ====
/- What one step of the kernel for the gradients of the input projection computes from the blocks it reads, row by row. -/
module

public import proofs.«01_k».proof.Defs
public import proofs.«01_k».proof.Proof.NormMath
public import proofs.«01_k».proof.Proof.Gen.ProjIdeal.Frame
public import Idealize.ShloMosaic.Lib.Pipeline.ValueKit
public import Idealize.ShloMosaic.Lib.Pipeline.ReadBack

@[expose] public section

noncomputable section

namespace Cert.Proof.ProjBody

open Idealize.ShloMosaic hiding ix1 ix2 ix3 eq_ix2 eq_ix3
open Cert.ProjIdeal Cert.ProjIdeal.Gen Idealize.ShloMosaic.TcCoe Idealize.SL.Sem Idealize.ShloMosaic.ValueIdx
open Idealize.ShloMosaic.Tactic
open Cert.Proof.NormMath
open scoped BigOperators

/-- The cotangent of the modulated row: the row of the projection's cotangent by the weights. -/
def back (g : Fin 2048 → EReal) (w : Fin 2048 → Fin 1024 → EReal) (d : Fin 1024) : EReal := ∑ n, g n * w n d

section
variable (x : Vec Ideal S512x1024 .f32) (nw sh sc : Vec Ideal S1x1024 .f32) (g : FVec Ideal S512x2048 .f32) (w : Vec Ideal S2048x1024 .bf16)

/-- The mean square of each row. -/
theorem var_at (a : Fin 512) : k0_pay10 x (ix2 a 0) = var (row x a) := by
  simp only [k0_pay10]
  show Ideal.div (shapeCast S512x1 _ _ (ix2 a 0)) width + tiny = _
  rw [shapeCast_a_a1_apply, sum_row]
  rfl

/-- The inverse root of each row. -/
theorem root_at (a : Fin 512) : k0_pay11 x (ix2 a 0) = root (row x a) := by
  simp only [k0_pay11]
  show Ideal.rsqrt (k0_pay10 x (ix2 a 0)) = _
  rw [var_at]; rfl

/-- The derivative of the inverse root of each row. -/
theorem droot_at (a : Fin 512) : k0_pay12 x (ix2 a 0) = droot (row x a) := by
  simp only [k0_pay12]
  show mhalf * Ideal.div (k0_pay11 x (ix2 a 0)) (k0_pay10 x (ix2 a 0)) = _
  rw [var_at, root_at]; rfl

/-- The rows over their root mean squares. -/
theorem hat_at (a : Fin 512) (d : Fin 1024) : k0_pay13 x (ix2 a d) = hat (row x a) d := by
  simp only [k0_pay13]
  show x (ix2 a d) * broadcastTo S512x1024 (k0_pay11 x) broadcasts_S512x1_S512x1024 (ix2 a d) = _
  rw [spread, root_at]; rfl

/-- The same by the weight. -/
theorem normed_at (a : Fin 512) (d : Fin 1024) : k0_pay14 x nw (ix2 a d) = normed (row x a) (row nw 0) d := by
  simp only [k0_pay14, k0_pay9, shapeCast_self]
  show k0_pay13 x (ix2 a d) * broadcastTo S512x1024 nw broadcasts_S1x1024_S512x1024 (ix2 a d) = _
  rw [hat_at, broadcastTo_1b_ab_apply]; rfl

/-- The cotangent of the modulated rows. -/
theorem back_at (a : Fin 512) (d : Fin 1024) : k0_pay16 g (k0_pay8 w) (ix2 a d) = back (row g a) (row w) d := by
  simp only [k0_pay16, k0_pay8, shapeCast_self, matmul]
  rw [Common.matmul_at dot_S512x2048_S2048x1024_S512x1024_1_0_0_1_n_n 2048 rfl rfl _ _ _ _ _ (fun k => ix2 a k) (fun k => ix2 k d)]
  · rw [show (constant S512x1024 .f32 0x00000000#32 : FVec Ideal _ _) (ix2 a d) = 0 from Common.ofBits_zero, zero_add]
    rfl
  all_goals
    intro q k hq b
    match b with
    | ⟨0, _⟩ => first | rfl | exact hq
    | ⟨1, _⟩ => first | rfl | exact hq

/-- The scale with one added, spread over the rows. -/
theorem scale_at (a : Fin 512) (d : Fin 1024) :
    broadcastTo S512x1024 (k0_pay15 sc one) broadcasts_S1x1024_S512x1024 (ix2 a d) = one + row sc 0 d := by
  rw [broadcastTo_1b_ab_apply]; rfl

/-- The products of the projection's cotangent with the modulated rows, summed over the block's rows. -/
theorem weights_at (n : Fin 2048) (d : Fin 1024) :
    k0_pay17 g sh sc (k0_pay14 x nw) one (ix2 n d)
      = ∑ a : Fin 512, row g a n * modulated (row x a) (row nw 0) (row sh 0) (row sc 0) d := by
  simp only [k0_pay17, matmul]
  rw [Common.matmul_at dot_S512x2048_S512x1024_S2048x1024_0_0_1_1_n_n 512 rfl rfl _ _ _ _ _ (fun k => ix2 k n) (fun k => ix2 k d)]
  · rw [show (constant S2048x1024 .f32 0x00000000#32 : FVec Ideal _ _) (ix2 n d) = 0 from Common.ofBits_zero, zero_add]
    refine Finset.sum_congr rfl fun a _ => congrArg (row g a n * ·) ?_
    show k0_pay14 x nw (ix2 a d) * broadcastTo S512x1024 (k0_pay15 sc one) broadcasts_S1x1024_S512x1024 (ix2 a d)
      + broadcastTo S512x1024 sh broadcasts_S1x1024_S512x1024 (ix2 a d) = _
    rw [normed_at, scale_at, broadcastTo_1b_ab_apply]; rfl
  all_goals
    intro q k hq b
    match b with
    | ⟨0, _⟩ => first | rfl | exact hq
    | ⟨1, _⟩ => first | rfl | exact hq

/-- The shift's gradient over the block's rows. -/
theorem shift_at (d : Fin 1024) : k0_pay18 g (k0_pay8 w) (ix2 0 d) = ∑ a : Fin 512, back (row g a) (row w) d := by
  simp only [k0_pay18]
  rw [shapeCast_a_1a_apply, sum_col]
  exact Finset.sum_congr rfl fun a _ => back_at g w a d

/-- The scale's gradient over the block's rows. -/
theorem gain_at (d : Fin 1024) :
    k0_pay19 g (k0_pay8 w) (k0_pay14 x nw) (ix2 0 d) = ∑ a : Fin 512, normed (row x a) (row nw 0) d * back (row g a) (row w) d := by
  simp only [k0_pay19]
  rw [shapeCast_a_1a_apply, sum_col]
  refine Finset.sum_congr rfl fun a _ => ?_
  rw [← back_at, ← normed_at]; rfl

/-- The cotangent before the modulation. -/
theorem dmod_at (a : Fin 512) (d : Fin 1024) :
    k0_pay20 g (k0_pay8 w) sc one (ix2 a d) = dmod (row sc 0) (back (row g a) (row w)) d := by
  simp only [k0_pay20]
  show k0_pay16 g (k0_pay8 w) (ix2 a d) * broadcastTo S512x1024 (k0_pay15 sc one) broadcasts_S1x1024_S512x1024 (ix2 a d) = _
  rw [back_at, scale_at]; rfl

/-- The weight's gradient over the block's rows. -/
theorem weight_at (d : Fin 1024) :
    k0_pay21 g (k0_pay8 w) sc (k0_pay13 x) one (ix2 0 d)
      = ∑ a : Fin 512, hat (row x a) d * dmod (row sc 0) (back (row g a) (row w)) d := by
  simp only [k0_pay21]
  rw [shapeCast_a_1a_apply, sum_col]
  refine Finset.sum_congr rfl fun a _ => ?_
  rw [← dmod_at, ← hat_at]; rfl

/-- A sum over one entry. -/
theorem sum_one (v : FVec Ideal S512x1 .f32) (a : Fin 512) (h1 : FKind.Formats .f32) (h2 : (0x00000000#32 : BitVec 32) = 0x00000000#32) :
    multiReduction .add [1] S512 v 0x00000000#32 reduces_S512x1_S512 h1 h2 (ix1 a) = v (ix2 a 0) :=
  (sum_row _ v a _ _).trans (Fin.sum_univ_one _)

/-- The rows of the input's gradient, with the residual's. -/
theorem row_at (r : Vec Ideal S512x1024 .f32) (a : Fin 512) (d : Fin 1024) :
    k0_pay22 g (k0_pay8 w) x (k0_pay9 nw) sc (k0_pay11 x) (k0_pay12 x) one r (ix2 a d)
      = drow (row x a) (row nw 0) (row sc 0) (back (row g a) (row w)) d + r (ix2 a d) := by
  have hp : ∀ e : Fin 1024, mulf (k0_pay20 g (k0_pay8 w) sc one) (broadcastTo S512x1024 nw broadcasts_S1x1024_S512x1024) (ix2 a e)
      = dhat (row nw 0) (row sc 0) (back (row g a) (row w)) e := fun e => by
    show k0_pay20 g (k0_pay8 w) sc one (ix2 a e) * broadcastTo S512x1024 nw broadcasts_S1x1024_S512x1024 (ix2 a e) = _
    rw [dmod_at, broadcastTo_1b_ab_apply]; rfl
  simp only [k0_pay22, k0_pay9, shapeCast_self]
  refine congrArg (· + r (ix2 a d)) ?_
  show mulf (k0_pay20 g (k0_pay8 w) sc one) (broadcastTo S512x1024 nw broadcasts_S1x1024_S512x1024) (ix2 a d)
      * broadcastTo S512x1024 (k0_pay11 x) broadcasts_S512x1_S512x1024 (ix2 a d)
    + x (ix2 a d) * broadcastTo S512x1024 _ broadcasts_S512x1_S512x1024 (ix2 a d)
    + broadcastTo S512x1024 _ broadcasts_S512x1_S512x1024 (ix2 a d) * x (ix2 a d) = _
  have ht : Ideal.div (shapeCast S512x1 (multiReduction .add [1] S512 (mulf x (mulf (k0_pay20 g (k0_pay8 w) sc one)
      (broadcastTo S512x1024 nw broadcasts_S1x1024_S512x1024))) 0x00000000#32 reduces_S512x1024_S512 (.inl rfl) rfl) shapeCasts_S512_S512x1 (ix2 a 0)
      * k0_pay12 x (ix2 a 0)) width = through (row x a) (dhat (row nw 0) (row sc 0) (back (row g a) (row w))) := by
    rw [shapeCast_a_a1_apply, sum_row, droot_at]
    refine congrArg (fun s => Ideal.div (s * droot (row x a)) width) (Finset.sum_congr rfl fun e _ => ?_)
    exact congrArg (x (ix2 a e) * ·) (hp e)
  rw [hp, spread, root_at, spread, shapeCast_a_a1_apply, sum_one]
  have ht' := ht
  show dhat _ _ _ d * root _ + x (ix2 a d) * Ideal.div _ width + Ideal.div _ width * x (ix2 a d) = _
  refine congrArg₂ (· + ·) (congrArg₂ (· + ·) rfl (congrArg (x (ix2 a d) * ·) ht)) (congrArg (· * x (ix2 a d)) ht)

end

end Cert.Proof.ProjBody

end
-- ==== Proof.ProjValue.lean ====
/- The arrays that the kernel for the gradients of the input projection leaves: the input's gradient row by row, and the
   gradients of the norm's weight, of the shift, of the scale and of the projection as sums over all rows. -/
module

public import proofs.«01_k».proof.Proof.ProjBody
public import Idealize.ShloMosaic.Lib.Pipeline.ValueKit.Acc

@[expose] public section

noncomputable section

namespace Cert.Proof.ProjValue

open Idealize.ShloMosaic hiding ix1 ix2 ix3 eq_ix2 eq_ix3
open Cert.ProjIdeal Cert.ProjIdeal.Gen Idealize.ShloMosaic.TcCoe Idealize.SL.Sem Idealize.ShloMosaic.ValueIdx
open Idealize.ShloMosaic.Tactic
open Cert.Proof.NormMath Cert.Proof.ProjBody
open Idealize.ShloMosaic.Pipeline (Dat)
open scoped BigOperators

/-! ## The step at each point of the grid -/

section
variable (m : (ℓ : Loc nD τ sig) → Buf (Elt Ideal) ℓ) (c : Dev nD) (t : Fin cfg0.N)

/-- The rows of the projection's cotangent that a point reads, in the order of the weights' rows. -/
def G : FVec Ideal S512x2048 .f32 := k0_pay7 (iblk m c 5 t) (iblk m c 6 t) (iblk m c 7 t) (iblk m c 8 t) (iblk m c 9 t)

/-- A sum's new contents: the old ones and what the point adds. -/
theorem grow_w (v a : FVec Ideal S1x1024 .f32) : k0_pay1 v a = fun i => a i + v i := by
  simp only [k0_pay1, shapeCast_self]; rfl
/-- The same for the shift. -/
theorem grow_sh (v a : FVec Ideal S1x1024 .f32) : k0_pay2 v a = fun i => a i + v i := by
  simp only [k0_pay2, shapeCast_self]; rfl
/-- The same for the scale. -/
theorem grow_sc (v a : FVec Ideal S1x1024 .f32) : k0_pay3 v a = fun i => a i + v i := by
  simp only [k0_pay3, shapeCast_self]; rfl
/-- The same for the projection. -/
theorem grow_acc (v a : FVec Ideal S2048x1024 .f32) : k0_pay5 v a = fun i => a i + v i := by
  simp only [k0_pay5, shapeCast_self]; rfl

/-- What a point adds to the sums of the weight, of the shift, of the scale and of the projection. -/
def addW : FVec Ideal S1x1024 .f32 := k0_pay21 (G m c t) (k0_pay8 (iblk m c 4 t)) (iblk m c 3 t) (k0_pay13 (iblk m c 0 t)) one
def addSh : FVec Ideal S1x1024 .f32 := k0_pay18 (G m c t) (k0_pay8 (iblk m c 4 t))
def addSc : FVec Ideal S1x1024 .f32 := k0_pay19 (G m c t) (k0_pay8 (iblk m c 4 t)) (k0_pay14 (iblk m c 0 t) (iblk m c 1 t))
def addAcc : FVec Ideal S2048x1024 .f32 := k0_pay17 (G m c t) (iblk m c 2 t) (iblk m c 3 t) (k0_pay14 (iblk m c 0 t) (iblk m c 1 t)) one

/-- Every point stores its block of the input's gradient. -/
theorem step_x : (outsAt0 m c t.val t.isLt).1
    = k0_pay22 (G m c t) (k0_pay8 (iblk m c 4 t)) (iblk m c 0 t) (k0_pay9 (iblk m c 1 t)) (iblk m c 3 t) (k0_pay11 (iblk m c 0 t))
      (k0_pay12 (iblk m c 0 t)) one (iblk m c 10 t) := by
  have hN : t.val < 8 := lt_of_lt_of_eq t.isLt N_0
  by_cases h0 : t.val % 8 = 0
  · rw [outsAt0_A m c t h0 (by omega) h0 (by omega) (by omega)]
    frame_out
    rfl
  by_cases h4 : t.val % 8 = 7
  · rw [outsAt0_C m c t h0 (by omega) h0 (by omega) h4]
    frame_out
    rfl
  · rw [outsAt0_B m c t h0 (by omega) h0 (by omega) h4]
    frame_out
    rfl

/-- The first point starts the sum of the weight. -/
theorem start_w (h0 : t.val % 8 = 0) : (outsAt0 m c t.val t.isLt).2.1 = addW m c t := by
  have hN : t.val < 8 := lt_of_lt_of_eq t.isLt N_0
  rw [outsAt0_A m c t h0 (by omega) h0 (by omega) (by omega)]
  frame_out
  rfl

/-- The other points add to the sum of the weight. -/
theorem next_w (h0 : ¬t.val % 8 = 0) : (outsAt0 m c t.val t.isLt).2.1
    = fun i => (outsAt0 m c (t.val - 1) (by omega)).2.1 i + addW m c t i := by
  have hN : t.val < 8 := lt_of_lt_of_eq t.isLt N_0
  by_cases h4 : t.val % 8 = 7
  · rw [outsAt0_C m c t h0 (by omega) h0 (by omega) h4]
    frame_out
    exact grow_w _ _
  · rw [outsAt0_B m c t h0 (by omega) h0 (by omega) h4]
    frame_out
    exact grow_w _ _

/-- The first point starts the sum of the shift. -/
theorem start_sh (h0 : t.val % 8 = 0) : (outsAt0 m c t.val t.isLt).2.2.1 = addSh m c t := by
  have hN : t.val < 8 := lt_of_lt_of_eq t.isLt N_0
  rw [outsAt0_A m c t h0 (by omega) h0 (by omega) (by omega)]
  frame_out
  rfl

/-- The other points add to the sum of the shift. -/
theorem next_sh (h0 : ¬t.val % 8 = 0) : (outsAt0 m c t.val t.isLt).2.2.1
    = fun i => (outsAt0 m c (t.val - 1) (by omega)).2.2.1 i + addSh m c t i := by
  have hN : t.val < 8 := lt_of_lt_of_eq t.isLt N_0
  by_cases h4 : t.val % 8 = 7
  · rw [outsAt0_C m c t h0 (by omega) h0 (by omega) h4]
    frame_out
    exact grow_sh _ _
  · rw [outsAt0_B m c t h0 (by omega) h0 (by omega) h4]
    frame_out
    exact grow_sh _ _

/-- The first point starts the sum of the scale. -/
theorem start_sc (h0 : t.val % 8 = 0) : (outsAt0 m c t.val t.isLt).2.2.2.1 = addSc m c t := by
  have hN : t.val < 8 := lt_of_lt_of_eq t.isLt N_0
  rw [outsAt0_A m c t h0 (by omega) h0 (by omega) (by omega)]
  frame_out
  rfl

/-- The other points add to the sum of the scale. -/
theorem next_sc (h0 : ¬t.val % 8 = 0) : (outsAt0 m c t.val t.isLt).2.2.2.1
    = fun i => (outsAt0 m c (t.val - 1) (by omega)).2.2.2.1 i + addSc m c t i := by
  have hN : t.val < 8 := lt_of_lt_of_eq t.isLt N_0
  by_cases h4 : t.val % 8 = 7
  · rw [outsAt0_C m c t h0 (by omega) h0 (by omega) h4]
    frame_out
    exact grow_sc _ _
  · rw [outsAt0_B m c t h0 (by omega) h0 (by omega) h4]
    frame_out
    exact grow_sc _ _

/-- The first point starts the sum of the projection. -/
theorem start_acc (h0 : t.val % 8 = 0) : (outsAt0 m c t.val t.isLt).2.2.2.2.2 = addAcc m c t := by
  have hN : t.val < 8 := lt_of_lt_of_eq t.isLt N_0
  rw [outsAt0_A m c t h0 (by omega) h0 (by omega) (by omega)]
  frame_out
  exact shapeCast_self _ _

/-- The other points add to the sum of the projection. -/
theorem next_acc (h0 : ¬t.val % 8 = 0) : (outsAt0 m c t.val t.isLt).2.2.2.2.2
    = fun i => (outsAt0 m c (t.val - 1) (by omega)).2.2.2.2.2 i + addAcc m c t i := by
  have hN : t.val < 8 := lt_of_lt_of_eq t.isLt N_0
  by_cases h4 : t.val % 8 = 7
  · rw [outsAt0_C m c t h0 (by omega) h0 (by omega) h4]
    frame_out
    simp only [read_unread_whole]
    exact grow_acc _ _
  · rw [outsAt0_B m c t h0 (by omega) h0 (by omega) h4]
    frame_out
    simp only [read_unread_whole]
    exact grow_acc _ _

/-- The last point stores the sum of the projection. -/
theorem last_acc (h4 : t.val % 8 = 7) : (outsAt0 m c t.val t.isLt).2.2.2.2.1 = (outsAt0 m c t.val t.isLt).2.2.2.2.2 := by
  have hN : t.val < 8 := lt_of_lt_of_eq t.isLt N_0
  rw [outsAt0_C m c t (by omega) (by omega) (by omega) (by omega) h4]
  frame_out
  rfl

end

/-! ## The blocks of the arrays -/

/-- The windows' block indices: point `t` reads row block `t`, and the whole of the other arrays. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0) :=
  (by decide +kernel : ∀ t : Fin grid0.N, _)

section
variable (m : (ℓ : Loc nD τ sig) → Buf (Elt Ideal) ℓ) (c : Dev nD) (t : Fin cfg0.N)

/-- The row of the arrays that a point's row is, and the point and the row in its block of a row of the arrays. -/
def at_ (t : Fin cfg0.N) (a : Fin 512) : Fin 4096 := ⟨t.val * 512 + a.val, by have : t.val < 8 := lt_of_lt_of_eq t.isLt N_0; omega⟩
def pt (r : Fin 4096) : Fin cfg0.N := ⟨r.val / 512, by rw [show cfg0.N = 8 from N_0]; omega⟩
def off (r : Fin 4096) : Fin 512 := ⟨r.val % 512, by omega⟩
/-- A point's row belongs to the point. -/
theorem pt_at (a : Fin 512) : pt (at_ t a) = t := Fin.ext (by show (t.val * 512 + a.val) / 512 = t.val; omega)
/-- Its number within the point's block. -/
theorem off_at (a : Fin 512) : off (at_ t a) = a := Fin.ext (by show (t.val * 512 + a.val) % 512 = a.val; omega)
/-- Every row is a row of its point. -/
theorem at_pt (r : Fin 4096) : at_ (pt r) (off r) = r := Fin.ext (by show r.val / 512 * 512 + r.val % 512 = r.val; omega)

abbrev aX : S4096x1024.Idx → EReal := V m c main_arg0
abbrev aN : S1x1024.Idx → EReal := V m c main_v14
abbrev aSh : S1x1024.Idx → EReal := V m c main_arg2
abbrev aSc : S1x1024.Idx → EReal := V m c main_arg3
abbrev aW : S2048x1024.Idx → EReal := V m c main_v9
abbrev aR : S4096x1024.Idx → EReal := V m c main_arg6

/-- A row of the projection's cotangent, in the order of the weights' rows. -/
def J (r : Fin 4096) (n : Fin 2048) : EReal := G m c (pt r) (ix2 (off r) n)

/-- A row of a point's cotangent. -/
theorem row_G (a : Fin 512) : row (G m c t) a = J m c (at_ t a) := by
  funext n
  show G m c t (ix2 a n) = G m c (pt (at_ t a)) (ix2 (off (at_ t a)) n)
  rw [pt_at, off_at]

/-- A point's rows of the input. -/
theorem blk0 (a : Fin 512) (d : Fin 1024) : iblk m c 0 t (ix2 a d) = aX m c (ix2 (at_ t a) d) := by
  have f := idx_facts t
  refine congrArg (aX m c) (funext fun b => Fin.ext ?_)
  match b with
  | ⟨0, _⟩ => show win0_0.index t (0 : Fin 2) * 512 + 1 * a.val = t.val * 512 + a.val; omega
  | ⟨1, _⟩ => show win0_0.index t (1 : Fin 2) * 1024 + 1 * d.val = d.val; omega

/-- A point's rows of the residual's cotangent. -/
theorem blk10 (a : Fin 512) (d : Fin 1024) : iblk m c 10 t (ix2 a d) = aR m c (ix2 (at_ t a) d) := by
  have f := idx_facts t
  refine congrArg (aR m c) (funext fun b => Fin.ext ?_)
  match b with
  | ⟨0, _⟩ => show win0_10.index t (0 : Fin 2) * 512 + 1 * a.val = t.val * 512 + a.val; omega
  | ⟨1, _⟩ => show win0_10.index t (1 : Fin 2) * 1024 + 1 * d.val = d.val; omega

/-- The norm's weight at every point. -/
theorem blk1 (a : Fin 1) (d : Fin 1024) : iblk m c 1 t (ix2 a d) = aN m c (ix2 a d) := by
  have f := idx_facts t
  refine congrArg (aN m c) (funext fun b => Fin.ext ?_)
  match b with
  | ⟨0, _⟩ => show win0_1.index t (0 : Fin 2) * 1 + 1 * a.val = a.val; omega
  | ⟨1, _⟩ => show win0_1.index t (1 : Fin 2) * 1024 + 1 * d.val = d.val; omega

/-- The shift at every point. -/
theorem blk2 (a : Fin 1) (d : Fin 1024) : iblk m c 2 t (ix2 a d) = aSh m c (ix2 a d) := by
  have f := idx_facts t
  refine congrArg (aSh m c) (funext fun b => Fin.ext ?_)
  match b with
  | ⟨0, _⟩ => show win0_2.index t (0 : Fin 2) * 1 + 1 * a.val = a.val; omega
  | ⟨1, _⟩ => show win0_2.index t (1 : Fin 2) * 1024 + 1 * d.val = d.val; omega

/-- The scale at every point. -/
theorem blk3 (a : Fin 1) (d : Fin 1024) : iblk m c 3 t (ix2 a d) = aSc m c (ix2 a d) := by
  have f := idx_facts t
  refine congrArg (aSc m c) (funext fun b => Fin.ext ?_)
  match b with
  | ⟨0, _⟩ => show win0_3.index t (0 : Fin 2) * 1 + 1 * a.val = a.val; omega
  | ⟨1, _⟩ => show win0_3.index t (1 : Fin 2) * 1024 + 1 * d.val = d.val; omega

/-- The weights at every point. -/
theorem blk4 (a : Fin 2048) (d : Fin 1024) : iblk m c 4 t (ix2 a d) = aW m c (ix2 a d) := by
  have f := idx_facts t
  refine congrArg (aW m c) (funext fun b => Fin.ext ?_)
  match b with
  | ⟨0, _⟩ => show win0_4.index t (0 : Fin 2) * 2048 + 1 * a.val = a.val; omega
  | ⟨1, _⟩ => show win0_4.index t (1 : Fin 2) * 1024 + 1 * d.val = d.val; omega

/-- The rows of the blocks are rows of the arrays. -/
theorem row0 (a : Fin 512) : row (iblk m c 0 t) a = row (aX m c) (at_ t a) := funext fun d => blk0 m c t a d
/-- The norm's weight as a row. -/
theorem row1 : row (iblk m c 1 t) (0 : Fin 1) = row (aN m c) 0 := funext fun d => blk1 m c t 0 d
/-- The shift as a row. -/
theorem row2 : row (iblk m c 2 t) (0 : Fin 1) = row (aSh m c) 0 := funext fun d => blk2 m c t 0 d
/-- The scale as a row. -/
theorem row3 : row (iblk m c 3 t) (0 : Fin 1) = row (aSc m c) 0 := funext fun d => blk3 m c t 0 d
/-- The weights' rows. -/
theorem row4 : row (iblk m c 4 t) = row (aW m c) := funext fun n => funext fun d => blk4 m c t n d

/-- A row of the cotangent before the projection, and the results of the kernel. -/
def cot (r : Fin 4096) : Fin 1024 → EReal := back (J m c r) (row (aW m c))
def outX (r : Fin 4096) (d : Fin 1024) : EReal :=
  drow (row (aX m c) r) (row (aN m c) 0) (row (aSc m c) 0) (cot m c r) d + aR m c (ix2 r d)
def termW (d : Fin 1024) (r : Fin 4096) : EReal := hat (row (aX m c) r) d * dmod (row (aSc m c) 0) (cot m c r) d
def termSh (d : Fin 1024) (r : Fin 4096) : EReal := cot m c r d
def termSc (d : Fin 1024) (r : Fin 4096) : EReal := normed (row (aX m c) r) (row (aN m c) 0) d * cot m c r d
def termAcc (n : Fin 2048) (d : Fin 1024) (r : Fin 4096) : EReal :=
  J m c r n * modulated (row (aX m c) r) (row (aN m c) 0) (row (aSh m c) 0) (row (aSc m c) 0) d

/-- A point's block of the input's gradient. -/
theorem val_x (a : Fin 512) (d : Fin 1024) : (outsAt0 m c t.val t.isLt).1 (ix2 a d) = outX m c (at_ t a) d := by
  rw [step_x, row_at, row0, row1, row3, row4, row_G, blk10]; rfl

/-- What a point adds for the norm's weight. -/
theorem val_w (d : Fin 1024) : addW m c t (ix2 0 d) = ∑ a : Fin 512, termW m c d (at_ t a) := by
  unfold addW
  rw [weight_at]
  exact Finset.sum_congr rfl fun a _ => by rw [row0, row3, row4, row_G]; rfl

/-- What a point adds for the shift. -/
theorem val_sh (d : Fin 1024) : addSh m c t (ix2 0 d) = ∑ a : Fin 512, termSh m c d (at_ t a) := by
  unfold addSh
  rw [shift_at]
  exact Finset.sum_congr rfl fun a _ => by rw [row4, row_G]; rfl

/-- What a point adds for the scale. -/
theorem val_sc (d : Fin 1024) : addSc m c t (ix2 0 d) = ∑ a : Fin 512, termSc m c d (at_ t a) := by
  unfold addSc
  rw [gain_at]
  exact Finset.sum_congr rfl fun a _ => by rw [row0, row1, row4, row_G]; rfl

/-- What a point adds for the projection. -/
theorem val_acc (n : Fin 2048) (d : Fin 1024) : addAcc m c t (ix2 n d) = ∑ a : Fin 512, termAcc m c n d (at_ t a) := by
  unfold addAcc
  rw [weights_at]
  exact Finset.sum_congr rfl fun a _ => by rw [row0, row1, row2, row3, row_G]; rfl

/-- Eight blocks of 512 rows are all rows. -/
theorem sum_rows (h7 : t.val % 8 = 7) (F : Fin 4096 → EReal) :
    ∑ s : Fin 8, ∑ a : Fin 512, F (at_ ⟨8 * (t.val / 8) + s.val, by have := t.isLt; omega⟩ a) = ∑ r : Fin 4096, F r := by
  have hN : t.val < 8 := lt_of_lt_of_eq t.isLt N_0
  rw [← Fin.sum_mul_add_fin 8 512 F]
  refine Finset.sum_congr rfl fun s _ => Finset.sum_congr rfl fun a _ => congrArg F (Fin.ext ?_)
  show (8 * (t.val / 8) + s.val) * 512 + a.val = s.val * 512 + a.val
  omega

/-- The sum of the weight at the last point. -/
theorem total_w (h7 : t.val % 8 = 7) (d : Fin 1024) : (outsAt0 m c t.val t.isLt).2.1 (ix2 0 d) = ∑ r, termW m c d r := by
  have h := Pipeline.eq_sum_fin_of_reset_step_apply_of_flush (M := EReal) (fun n hn => (outsAt0 m c n hn).2.1) 8 (fun _ => 0) (fun t => addW m c t)
    (fun t h0 i => by rw [zero_add]; exact congrFun (start_w m c t h0) i) (fun t h0 i => congrFun (next_w m c t h0) i) t h7 (ix2 0 d)
  refine h.trans ?_
  rw [zero_add]
  exact (Finset.sum_congr rfl fun s _ => val_w m c _ d).trans (sum_rows t h7 (termW m c d))

/-- The sum of the shift at the last point. -/
theorem total_sh (h7 : t.val % 8 = 7) (d : Fin 1024) : (outsAt0 m c t.val t.isLt).2.2.1 (ix2 0 d) = ∑ r, termSh m c d r := by
  have h := Pipeline.eq_sum_fin_of_reset_step_apply_of_flush (M := EReal) (fun n hn => (outsAt0 m c n hn).2.2.1) 8 (fun _ => 0) (fun t => addSh m c t)
    (fun t h0 i => by rw [zero_add]; exact congrFun (start_sh m c t h0) i) (fun t h0 i => congrFun (next_sh m c t h0) i) t h7 (ix2 0 d)
  refine h.trans ?_
  rw [zero_add]
  exact (Finset.sum_congr rfl fun s _ => val_sh m c _ d).trans (sum_rows t h7 (termSh m c d))

/-- The sum of the scale at the last point. -/
theorem total_sc (h7 : t.val % 8 = 7) (d : Fin 1024) : (outsAt0 m c t.val t.isLt).2.2.2.1 (ix2 0 d) = ∑ r, termSc m c d r := by
  have h := Pipeline.eq_sum_fin_of_reset_step_apply_of_flush (M := EReal) (fun n hn => (outsAt0 m c n hn).2.2.2.1) 8 (fun _ => 0) (fun t => addSc m c t)
    (fun t h0 i => by rw [zero_add]; exact congrFun (start_sc m c t h0) i) (fun t h0 i => congrFun (next_sc m c t h0) i) t h7 (ix2 0 d)
  refine h.trans ?_
  rw [zero_add]
  exact (Finset.sum_congr rfl fun s _ => val_sc m c _ d).trans (sum_rows t h7 (termSc m c d))

/-- The sum of the projection at the last point. -/
theorem total_acc (h7 : t.val % 8 = 7) (n : Fin 2048) (d : Fin 1024) : (outsAt0 m c t.val t.isLt).2.2.2.2.2 (ix2 n d) = ∑ r, termAcc m c n d r := by
  have h := Pipeline.eq_sum_fin_of_reset_step_apply_of_flush (M := EReal) (fun n hn => (outsAt0 m c n hn).2.2.2.2.2) 8 (fun _ => 0) (fun t => addAcc m c t)
    (fun t h0 i => by rw [zero_add]; exact congrFun (start_acc m c t h0) i) (fun t h0 i => congrFun (next_acc m c t h0) i) t h7 (ix2 n d)
  refine h.trans ?_
  rw [zero_add]
  exact (Finset.sum_congr rfl fun s _ => val_acc m c _ n d).trans (sum_rows t h7 (termAcc m c n d))

end

/-! ## The arrays at the end -/

section
variable (m : (ℓ : Loc nD τ sig) → Buf (Elt Ideal) ℓ) (c : Dev nD)

/-- The input's gradient at the end. -/
theorem final11 : (dats m 0 c).arrAt 11 cfg0.N = fun i => outX m c (i 0) (i 1) := by
  refine (dats m 0 c).arrAt_eq_of_cover 11 _ (fun t _ => ?_) fun i => ?_
  · have f := idx_facts t
    funext j
    obtain ⟨a, d, rfl⟩ : ∃ (a : Fin 512) (d : Fin 1024), j = ix2 a d := ⟨j 0, j 1, eq_ix2 j⟩
    show (dats m 0 c).after 11 t (ix2 a d) = outX m c ((win0_11.blk t).view.emb (ix2 a d) (0 : Fin 2)) ((win0_11.blk t).view.emb (ix2 a d) (1 : Fin 2))
    rw [after0_11, val_x,
      show (win0_11.blk t).view.emb (ix2 a d) (0 : Fin 2) = at_ t a from Fin.ext (by
        show win0_11.index t (0 : Fin 2) * 512 + 1 * a.val = t.val * 512 + a.val; omega),
      show (win0_11.blk t).view.emb (ix2 a d) (1 : Fin 2) = d from Fin.ext (by
        show win0_11.index t (1 : Fin 2) * 1024 + 1 * d.val = d.val; omega)]
  · have h0 : (i 0 : Nat) < 4096 := (i 0).isLt
    have h1 : (i 1 : Nat) < 1024 := (i 1).isLt
    have f := idx_facts (pt (i 0))
    have e : (pt (i 0)).val = (i 0 : Nat) / 512 := rfl
    refine ⟨pt (i 0), flush0_11 _, ?_⟩
    show i ∈ ((View.whole main_v18_0).slice (win0_11.rect (pt (i 0)))).set
    rw [View.set_slice_whole, Rect.mem_set_unit]
    intro b
    match b with
    | ⟨0, _⟩ => show win0_11.index (pt (i 0)) (0 : Fin 2) * 512 ≤ (i 0 : Nat) ∧ (i 0 : Nat) < win0_11.index (pt (i 0)) (0 : Fin 2) * 512 + 512; omega
    | ⟨1, _⟩ => show win0_11.index (pt (i 0)) (1 : Fin 2) * 1024 ≤ (i 1 : Nat) ∧ (i 1 : Nat) < win0_11.index (pt (i 0)) (1 : Fin 2) * 1024 + 1024; omega

/-- The weight's gradient at the end. -/
theorem final12 : (dats m 0 c).arrAt 12 cfg0.N = fun i => ∑ r, termW m c (i 1) r := by
  refine (dats m 0 c).arrAt_eq_of_cover 12 _ (fun t ht => ?_) fun i => ?_
  · have f := idx_facts t
    have h7 := (flush0_12 t).mp ht
    funext j
    obtain ⟨a, d, rfl⟩ : ∃ (a : Fin 1) (d : Fin 1024), j = ix2 a d := ⟨j 0, j 1, eq_ix2 j⟩
    show (dats m 0 c).after 12 t (ix2 a d) = ∑ r, termW m c ((win0_12.blk t).view.emb (ix2 a d) (1 : Fin 2)) r
    rw [after0_12,
      show (win0_12.blk t).view.emb (ix2 a d) (1 : Fin 2) = d from Fin.ext (by
        show win0_12.index t (1 : Fin 2) * 1024 + 1 * d.val = d.val; omega)]
    exact (congrArg (fun z => (outsAt0 m c t.val t.isLt).2.1 (ix2 z d)) (Fin.eq_zero a)).trans (total_w m c t h7 d)
  · have h0 : (i 0 : Nat) < 1 := (i 0).isLt
    have h1 : (i 1 : Nat) < 1024 := (i 1).isLt
    obtain ⟨t, ht⟩ : ∃ t : Fin cfg0.N, t.val = 7 := ⟨⟨7, by rw [show cfg0.N = 8 from N_0]; omega⟩, rfl⟩
    have f := idx_facts t
    refine ⟨t, (flush0_12 t).mpr (by omega), ?_⟩
    show i ∈ ((View.whole main_v18_1).slice (win0_12.rect t)).set
    rw [View.set_slice_whole, Rect.mem_set_unit]
    intro b
    match b with
    | ⟨0, _⟩ => show win0_12.index t (0 : Fin 2) * 1 ≤ (i 0 : Nat) ∧ (i 0 : Nat) < win0_12.index t (0 : Fin 2) * 1 + 1; omega
    | ⟨1, _⟩ => show win0_12.index t (1 : Fin 2) * 1024 ≤ (i 1 : Nat) ∧ (i 1 : Nat) < win0_12.index t (1 : Fin 2) * 1024 + 1024; omega

/-- The shift's gradient at the end. -/
theorem final13 : (dats m 0 c).arrAt 13 cfg0.N = fun i => ∑ r, termSh m c (i 1) r := by
  refine (dats m 0 c).arrAt_eq_of_cover 13 _ (fun t ht => ?_) fun i => ?_
  · have f := idx_facts t
    have h7 := (flush0_13 t).mp ht
    funext j
    obtain ⟨a, d, rfl⟩ : ∃ (a : Fin 1) (d : Fin 1024), j = ix2 a d := ⟨j 0, j 1, eq_ix2 j⟩
    show (dats m 0 c).after 13 t (ix2 a d) = ∑ r, termSh m c ((win0_13.blk t).view.emb (ix2 a d) (1 : Fin 2)) r
    rw [after0_13,
      show (win0_13.blk t).view.emb (ix2 a d) (1 : Fin 2) = d from Fin.ext (by
        show win0_13.index t (1 : Fin 2) * 1024 + 1 * d.val = d.val; omega)]
    exact (congrArg (fun z => (outsAt0 m c t.val t.isLt).2.2.1 (ix2 z d)) (Fin.eq_zero a)).trans (total_sh m c t h7 d)
  · have h0 : (i 0 : Nat) < 1 := (i 0).isLt
    have h1 : (i 1 : Nat) < 1024 := (i 1).isLt
    obtain ⟨t, ht⟩ : ∃ t : Fin cfg0.N, t.val = 7 := ⟨⟨7, by rw [show cfg0.N = 8 from N_0]; omega⟩, rfl⟩
    have f := idx_facts t
    refine ⟨t, (flush0_13 t).mpr (by omega), ?_⟩
    show i ∈ ((View.whole main_v18_2).slice (win0_13.rect t)).set
    rw [View.set_slice_whole, Rect.mem_set_unit]
    intro b
    match b with
    | ⟨0, _⟩ => show win0_13.index t (0 : Fin 2) * 1 ≤ (i 0 : Nat) ∧ (i 0 : Nat) < win0_13.index t (0 : Fin 2) * 1 + 1; omega
    | ⟨1, _⟩ => show win0_13.index t (1 : Fin 2) * 1024 ≤ (i 1 : Nat) ∧ (i 1 : Nat) < win0_13.index t (1 : Fin 2) * 1024 + 1024; omega

/-- The scale's gradient at the end. -/
theorem final14 : (dats m 0 c).arrAt 14 cfg0.N = fun i => ∑ r, termSc m c (i 1) r := by
  refine (dats m 0 c).arrAt_eq_of_cover 14 _ (fun t ht => ?_) fun i => ?_
  · have f := idx_facts t
    have h7 := (flush0_14 t).mp ht
    funext j
    obtain ⟨a, d, rfl⟩ : ∃ (a : Fin 1) (d : Fin 1024), j = ix2 a d := ⟨j 0, j 1, eq_ix2 j⟩
    show (dats m 0 c).after 14 t (ix2 a d) = ∑ r, termSc m c ((win0_14.blk t).view.emb (ix2 a d) (1 : Fin 2)) r
    rw [after0_14,
      show (win0_14.blk t).view.emb (ix2 a d) (1 : Fin 2) = d from Fin.ext (by
        show win0_14.index t (1 : Fin 2) * 1024 + 1 * d.val = d.val; omega)]
    exact (congrArg (fun z => (outsAt0 m c t.val t.isLt).2.2.2.1 (ix2 z d)) (Fin.eq_zero a)).trans (total_sc m c t h7 d)
  · have h0 : (i 0 : Nat) < 1 := (i 0).isLt
    have h1 : (i 1 : Nat) < 1024 := (i 1).isLt
    obtain ⟨t, ht⟩ : ∃ t : Fin cfg0.N, t.val = 7 := ⟨⟨7, by rw [show cfg0.N = 8 from N_0]; omega⟩, rfl⟩
    have f := idx_facts t
    refine ⟨t, (flush0_14 t).mpr (by omega), ?_⟩
    show i ∈ ((View.whole main_v18_3).slice (win0_14.rect t)).set
    rw [View.set_slice_whole, Rect.mem_set_unit]
    intro b
    match b with
    | ⟨0, _⟩ => show win0_14.index t (0 : Fin 2) * 1 ≤ (i 0 : Nat) ∧ (i 0 : Nat) < win0_14.index t (0 : Fin 2) * 1 + 1; omega
    | ⟨1, _⟩ => show win0_14.index t (1 : Fin 2) * 1024 ≤ (i 1 : Nat) ∧ (i 1 : Nat) < win0_14.index t (1 : Fin 2) * 1024 + 1024; omega

/-- The projection's gradient at the end. -/
theorem final15 : (dats m 0 c).arrAt 15 cfg0.N = fun i => ∑ r, termAcc m c (i 0) (i 1) r := by
  refine (dats m 0 c).arrAt_eq_of_cover 15 _ (fun t ht => ?_) fun i => ?_
  · have f := idx_facts t
    have h7 := (flush0_15 t).mp ht
    funext j
    obtain ⟨a, d, rfl⟩ : ∃ (a : Fin 2048) (d : Fin 1024), j = ix2 a d := ⟨j 0, j 1, eq_ix2 j⟩
    show (dats m 0 c).after 15 t (ix2 a d) = ∑ r, termAcc m c ((win0_15.blk t).view.emb (ix2 a d) (0 : Fin 2)) ((win0_15.blk t).view.emb (ix2 a d) (1 : Fin 2)) r
    rw [after0_15, last_acc m c t h7,
      show (win0_15.blk t).view.emb (ix2 a d) (0 : Fin 2) = a from Fin.ext (by
        show win0_15.index t (0 : Fin 2) * 2048 + 1 * a.val = a.val; omega),
      show (win0_15.blk t).view.emb (ix2 a d) (1 : Fin 2) = d from Fin.ext (by
        show win0_15.index t (1 : Fin 2) * 1024 + 1 * d.val = d.val; omega)]
    exact total_acc m c t h7 a d
  · have h0 : (i 0 : Nat) < 2048 := (i 0).isLt
    have h1 : (i 1 : Nat) < 1024 := (i 1).isLt
    obtain ⟨t, ht⟩ : ∃ t : Fin cfg0.N, t.val = 7 := ⟨⟨7, by rw [show cfg0.N = 8 from N_0]; omega⟩, rfl⟩
    have f := idx_facts t
    refine ⟨t, (flush0_15 t).mpr (by omega), ?_⟩
    show i ∈ ((View.whole main_v18_4).slice (win0_15.rect t)).set
    rw [View.set_slice_whole, Rect.mem_set_unit]
    intro b
    match b with
    | ⟨0, _⟩ => show win0_15.index t (0 : Fin 2) * 2048 ≤ (i 0 : Nat) ∧ (i 0 : Nat) < win0_15.index t (0 : Fin 2) * 2048 + 2048; omega
    | ⟨1, _⟩ => show win0_15.index t (1 : Fin 2) * 1024 ≤ (i 1 : Nat) ∧ (i 1 : Nat) < win0_15.index t (1 : Fin 2) * 1024 + 1024; omega

end

end Cert.Proof.ProjValue

end
-- ==== Proof.ProjRef.lean ====
/- The reference of the input projection's gradients, at an index: the same formulas of a row as the kernel's, with the
   projection's columns counted through. -/
module

public import proofs.«01_k».proof.Proof.NormMath
public import proofs.«01_k».proof.Proof.Gen.ProjRefIdeal.Read

@[expose] public section

noncomputable section

namespace Cert.Proof.ProjRef

open Idealize.ShloMosaic
open Cert.ProjRefIdeal Cert.ProjRefIdeal.Read Idealize.ShloMosaic.ValueIdx
open Cert.Proof.NormMath
open scoped BigOperators

section
variable (x0 : S4096x1024.Idx → EReal) (x1 : S1024.Idx → EReal) (x2 x3 : S1x1024.Idx → EReal) (x4 : S1024x1960.Idx → EReal)
  (x5 : S4096x1960.Idx → EReal) (x6 : S4096x1024.Idx → EReal)

/-- A vector's entries. -/
def vec (x : S1024.Idx → EReal) (d : Fin 1024) : EReal := x (ix1 d)

/-- The cotangent before the projection. -/
def cot (r : Fin 4096) (d : Fin 1024) : EReal := ∑ k : Fin 1960, x5 (ix2 r k) * x4 (ix2 d k)

/-- A row's mean square and the small constant. -/
theorem var_at (r : Fin 4096) (z : Fin 1) : val_main_v6 (F := Ideal) x0 (ix2 r z) = var (row x0 r) := by
  rw [val_main_v6_apply, val_main_v4_apply, val_main_v2_apply, val_main_v3_apply, val_main_v5_apply, val_main_v1_apply,
    val_main_cst_apply, val_main_cst_0_apply, val_main_cst_1_apply, Common.ofBits_zero, zero_add]
  refine congrArg (fun s => Ideal.div s width + tiny) (Finset.sum_congr rfl fun d _ => ?_)
  refine congrArg₂ (· * ·) (congrArg x0 ?_) (congrArg x0 ?_) <;>
    (funext a; match a with | ⟨0, _⟩ => rfl | ⟨1, _⟩ => rfl)

/-- The reciprocal root of a row. -/
theorem root_at (r : Fin 4096) (z : Fin 1) : val_main_v7 (F := Ideal) x0 (ix2 r z) = root (row x0 r) := by
  rw [val_main_v7_apply, var_at]; rfl

/-- The derivative of the reciprocal root. -/
theorem droot_at (r : Fin 4096) (z : Fin 1) : val_main_v10 (F := Ideal) x0 (ix2 r z) = droot (row x0 r) := by
  rw [val_main_v10_apply, val_main_v9_apply, val_main_cst_2_apply, val_main_v8_apply, root_at, var_at]; rfl

/-- An index of a column from an index of the matrix. -/
theorem col_of {n k : Nat} (r : Fin n) (d : Fin k) (i : (⟨2, ![n, 1]⟩ : Shape).Idx) (h0 : (i 0).val = r.val) : i = ix2 r 0 := by
  funext a
  match a with
  | ⟨0, _⟩ => exact Fin.ext h0
  | ⟨1, _⟩ => exact Fin.eq_zero _

/-- A row divided by its root. -/
theorem hat_at (r : Fin 4096) (d : Fin 1024) : val_main_v12 (F := Ideal) x0 (ix2 r d) = hat (row x0 r) d := by
  rw [val_main_v12_apply, val_main_v11_apply, col_of r d (idx_main_v11 (ix2 r d)) rfl, root_at]; rfl

/-- A normalised row. -/
theorem normed_at (r : Fin 4096) (d : Fin 1024) : val_main_v15 (F := Ideal) x0 x1 (ix2 r d) = normed (row x0 r) (vec x1) d := by
  rw [val_main_v15_apply, hat_at, val_main_v14_apply, val_main_v13_apply]
  refine congrArg (hat (row x0 r) d * ·) (congrArg x1 ?_)
  funext a; match a with | ⟨0, _⟩ => rfl

/-- One and the scale. -/
theorem scale_at (d : Fin 1024) (i : S1x1024.Idx) (h : (i 1).val = d.val) : val_main_v17 (F := Ideal) x3 i = one + row x3 0 d := by
  rw [val_main_v17_apply, val_main_v16_apply, val_main_cst_3_apply]
  refine congrArg (one + ·) (congrArg x3 ?_)
  funext a
  match a with
  | ⟨0, _⟩ => exact Fin.eq_zero _
  | ⟨1, _⟩ => exact Fin.ext h

/-- A row after the norm and the modulation. -/
theorem modulated_at (r : Fin 4096) (d : Fin 1024) :
    val_main_v21 (F := Ideal) x0 x1 x2 x3 (ix2 r d) = modulated (row x0 r) (vec x1) (row x2 0) (row x3 0) d := by
  rw [val_main_v21_apply, val_main_v19_apply, normed_at, val_main_v18_apply, scale_at x3 d _ rfl, val_main_v20_apply]
  refine congrArg (normed (row x0 r) (vec x1) d * (one + row x3 0 d) + ·) (congrArg x2 ?_)
  funext a; match a with | ⟨0, _⟩ => rfl | ⟨1, _⟩ => rfl

/-- The cotangent before the projection. -/
theorem cot_at (r : Fin 4096) (d : Fin 1024) : val_main_v25 (F := Ideal) x4 x5 (ix2 r d) = cot x4 x5 r d := by
  rw [val_main_v25_apply]
  refine Finset.sum_congr rfl fun k _ => congrArg₂ (· * ·) (congrArg x5 ?_) (congrArg x4 ?_) <;>
    (funext a; match a with | ⟨0, _⟩ => rfl | ⟨1, _⟩ => rfl)

/-- The cotangent before the modulation. -/
theorem dmod_at (r : Fin 4096) (d : Fin 1024) :
    val_main_v32 (F := Ideal) x3 x4 x5 (ix2 r d) = dmod (row x3 0) (cot x4 x5 r) d := by
  rw [val_main_v32_apply, cot_at, val_main_v31_apply, scale_at x3 d _ rfl]; rfl

/-- The cotangent before the norm's weight. -/
theorem dhat_at (r : Fin 4096) (d : Fin 1024) :
    val_main_v37 (F := Ideal) x1 x3 x4 x5 (ix2 r d) = dhat (vec x1) (row x3 0) (cot x4 x5 r) d := by
  rw [val_main_v37_apply, dmod_at, val_main_v36_apply, val_main_v13_apply]
  refine congrArg (dmod (row x3 0) (cot x4 x5 r) d * ·) (congrArg x1 ?_)
  funext a; match a with | ⟨0, _⟩ => rfl

/-- What the input's gradient gets through the root. -/
theorem through_at (r : Fin 4096) (d : Fin 1024) :
    val_main_v49 (F := Ideal) x0 x1 x3 x4 x5 (ix2 r d) = through (row x0 r) (dhat (vec x1) (row x3 0) (cot x4 x5 r)) := by
  rw [val_main_v49_apply, val_main_v48_apply, val_main_cst_10_apply, Common.ofBits_zero, zero_add, Fin.sum_univ_one,
    col_of r d (idx_main_v48 _ 0) rfl, val_main_v47_apply, val_main_v45_apply, val_main_v46_apply, val_main_cst_9_apply, droot_at,
    val_main_v41_apply, val_main_v40_apply, val_main_cst_8_apply, Common.ofBits_zero, zero_add]
  refine congrArg (fun s => Ideal.div (s * droot (row x0 r)) width) (Finset.sum_congr rfl fun e _ => ?_)
  rw [show idx_main_v40 (idx_main_v41 (ix2 r 0)) e = ix2 r e from funext fun a => match a with
      | ⟨0, _⟩ => Fin.ext (show r.val * 1 + 0 = r.val by omega) | ⟨1, _⟩ => rfl,
    val_main_v39_apply, dhat_at]
  rfl

/-- The gradient of the input, with the residual's. -/
theorem x_at (r : Fin 4096) (d : Fin 1024) :
    val_main_v53 (F := Ideal) x0 x1 x3 x4 x5 x6 (ix2 r d)
      = drow (row x0 r) (vec x1) (row x3 0) (cot x4 x5 r) d + x6 (ix2 r d) := by
  rw [val_main_v53_apply, val_main_v51_apply, val_main_v44_apply, val_main_v43_apply, val_main_v50_apply, val_main_v52_apply,
    dhat_at, through_at, val_main_v42_apply, col_of r d (idx_main_v42 _) rfl, root_at]
  show x6 (ix2 r d) + _ + _ + _ = _
  rw [add_assoc, add_assoc, add_comm, ← add_assoc]
  rfl

/-- The gradient of the norm's weight. -/
theorem w_at (d : Fin 1024) :
    val_main_v38 (F := Ideal) x0 x3 x4 x5 (ix1 d) = ∑ r : Fin 4096, hat (row x0 r) d * dmod (row x3 0) (cot x4 x5 r) d := by
  rw [val_main_v38_apply, val_main_cst_7_apply, Common.ofBits_zero, zero_add, Fin.sum_univ_one, val_main_v35_apply,
    val_main_v34_apply, val_main_cst_6_apply, Common.ofBits_zero, zero_add]
  refine Finset.sum_congr rfl fun r _ => ?_
  rw [show idx_main_v34 _ r = ix2 r d from funext fun a => match a with
      | ⟨0, _⟩ => rfl | ⟨1, _⟩ => Fin.ext (show 0 * 1024 + d.val = d.val by omega),
    val_main_v33_apply, hat_at, dmod_at]
  rfl

/-- The gradient of the shift. -/
theorem sh_at (z : Fin 1) (d : Fin 1024) : val_main_v27 (F := Ideal) x4 x5 (ix2 z d) = ∑ r : Fin 4096, cot x4 x5 r d := by
  rw [val_main_v27_apply, val_main_v26_apply, val_main_cst_4_apply, Common.ofBits_zero, zero_add]
  refine Finset.sum_congr rfl fun r _ => ?_
  rw [show idx_main_v26 _ r = ix2 r d from funext fun a => match a with
      | ⟨0, _⟩ => rfl | ⟨1, _⟩ => Fin.ext (show z.val * 1024 + d.val = d.val by omega), cot_at]

/-- The gradient of the scale. -/
theorem sc_at (z : Fin 1) (d : Fin 1024) :
    val_main_v30 (F := Ideal) x0 x1 x4 x5 (ix2 z d) = ∑ r : Fin 4096, normed (row x0 r) (vec x1) d * cot x4 x5 r d := by
  rw [val_main_v30_apply, val_main_v29_apply, val_main_cst_5_apply, Common.ofBits_zero, zero_add]
  refine Finset.sum_congr rfl fun r _ => ?_
  rw [show idx_main_v29 _ r = ix2 r d from funext fun a => match a with
      | ⟨0, _⟩ => rfl | ⟨1, _⟩ => Fin.ext (show z.val * 1024 + d.val = d.val by omega),
    val_main_v28_apply, normed_at, cot_at]
  rfl

/-- The gradient of the projection. -/
theorem proj_at (d : Fin 1024) (k : Fin 1960) :
    val_main_v24 (F := Ideal) x0 x1 x2 x3 x5 (ix2 d k)
      = ∑ r : Fin 4096, x5 (ix2 r k) * modulated (row x0 r) (vec x1) (row x2 0) (row x3 0) d := by
  rw [val_main_v24_apply, val_main_v23_apply]
  refine Finset.sum_congr rfl fun r _ => ?_
  rw [show ridx_main_v23 _ r = ix2 r d from funext fun a => match a with | ⟨0, _⟩ => rfl | ⟨1, _⟩ => rfl, modulated_at]
  refine congrArg (· * _) (congrArg x5 ?_)
  funext a; match a with | ⟨0, _⟩ => rfl | ⟨1, _⟩ => rfl

end

end Cert.Proof.ProjRef

end
-- ==== Proof.ProjHost.lean ====
/- The arrays in front of and behind the kernel for the gradients of the input projection: where each column of the projection
   stands among the rows that the kernel works on. -/
module

public import proofs.«01_k».proof.Proof.ProjValue
public import proofs.«01_k».proof.Proof.ProjRef
public import Idealize.ShloMosaic.Lib.KernelVsHost

@[expose] public section

noncomputable section

namespace Cert.Proof.ProjHost

open Idealize.ShloMosaic hiding ix1 ix2 ix3 eq_ix2 eq_ix3
open Cert.ProjIdeal Cert.ProjIdeal.Gen Idealize.ShloMosaic.TcCoe Idealize.SL.Sem Idealize.ShloMosaic.ValueIdx
open Cert.Proof.NormMath Cert.Proof.ProjBody Cert.Proof.ProjValue
open scoped BigOperators

/-- The row of the kernel's weights that holds a column of the projection. -/
def place (k : Fin 1960) : Fin 2048 :=
  if h : k.val < 384 then ⟨k.val, by omega⟩ else if h' : k.val < 416 then ⟨k.val + 1600, by omega⟩ else ⟨k.val - 32, by omega⟩

/-- The first columns stay. -/
theorem place_a (k : Fin 1960) (h : k.val < 384) : (place k).val = k.val := by unfold place; rw [dif_pos h]
/-- The columns of the rotary keys go behind the others. -/
theorem place_b (k : Fin 1960) (h : ¬k.val < 384) (h' : k.val < 416) : (place k).val = k.val + 1600 := by
  unfold place; rw [dif_neg h, dif_pos h']
/-- The later columns close the gap. -/
theorem place_c (k : Fin 1960) (h' : ¬k.val < 416) : (place k).val = k.val - 32 := by
  unfold place; rw [dif_neg (by omega), dif_neg h']

/-- No two columns stand in the same row. -/
theorem place_inj : Function.Injective place := by
  intro a b e
  have e : (place a).val = (place b).val := congrArg Fin.val e
  have ha := a.isLt; have hb := b.isLt
  apply Fin.ext
  by_cases a1 : a.val < 384 <;> by_cases b1 : b.val < 384 <;> by_cases a2 : a.val < 416 <;> by_cases b2 : b.val < 416 <;>
    first
    | omega
    | (rw [place_a a a1, place_a b b1] at e; omega)
    | (rw [place_a a a1, place_b b b1 b2] at e; omega)
    | (rw [place_a a a1, place_c b b2] at e; omega)
    | (rw [place_b a a1 a2, place_a b b1] at e; omega)
    | (rw [place_b a a1 a2, place_b b b1 b2] at e; omega)
    | (rw [place_b a a1 a2, place_c b b2] at e; omega)
    | (rw [place_c a a2, place_a b b1] at e; omega)
    | (rw [place_c a a2, place_b b b1 b2] at e; omega)
    | (rw [place_c a a2, place_c b b2] at e; omega)

/-- A row that holds no column lies in one of two gaps. -/
theorem gap (n : Fin 2048) (h : n ∉ Set.range place) : (1928 ≤ n.val ∧ n.val < 1984) ∨ 2016 ≤ n.val := by
  by_contra g
  apply h
  have hn := n.isLt
  by_cases h1 : n.val < 384
  · exact ⟨⟨n.val, by omega⟩, Fin.ext (place_a _ h1)⟩
  by_cases h2 : n.val < 1928
  · refine ⟨⟨n.val + 32, by omega⟩, Fin.ext ((place_c _ ?_).trans ?_)⟩
    · show ¬n.val + 32 < 416; omega
    · show n.val + 32 - 32 = n.val; omega
  · refine ⟨⟨n.val - 1600, by omega⟩, Fin.ext ((place_b _ ?_ ?_).trans ?_)⟩
    · show ¬n.val - 1600 < 384; omega
    · show n.val - 1600 < 416; omega
    · show n.val - 1600 + 1600 = n.val; omega

/-- Arrays with two axes are equal when they are at every row and column. -/
theorem ext2 {a b : Nat} {f g : (⟨2, ![a, b]⟩ : Shape).Idx → EReal} (h : ∀ i j, f (ix2 i j) = g (ix2 i j)) : f = g := by
  funext i
  rw [eq_ix2 i]
  exact h _ _

/-! ## The weights -/

section
variable (x4 : S1024x1960.Idx → EReal) (x5 : S4096x1960.Idx → EReal)

/-- The weights with their columns as rows. -/
def cols : FVec Ideal S1960x1024 .bf16 :=
  truncf (F := Ideal) .bf16 (transpose S1960x1024 [1, 0] (x4 : FVec Ideal S1024x1960 .f32) transposes_S1024x1960_S1960x1024_1_0) bitsLt_bf16_f32

/-- A column as a row. -/
theorem cols_at (k : Fin 1960) (d : Fin 1024) : cols x4 (ix2 k d) = x4 (ix2 d k) := by
  unfold cols
  exact transpose_apply _ x4 _ _ _ (fun b => match b with | ⟨0, _⟩ => rfl | ⟨1, _⟩ => rfl)

/-- Zeros. -/
def zeros (s : Shape) (h : S_.BroadcastsInDim s ![]) : FVec Ideal s .bf16 := broadcastInDim s ![] h (constant (F := Ideal) S_ .bf16 0x0000#16)

/-- Their entries. -/
theorem zeros_at (s : Shape) (h : S_.BroadcastsInDim s ![]) (i : s.Idx) : zeros s h i = 0 := by
  show Ideal.ofBits .bf16 0x0000#16 = 0
  simp [Ideal.ofBits, Ideal.ieee]

/-- The groups of rows, with zeros between them. -/
abbrev groups : List ((s : Shape) × (s.Idx → Ideal .bf16)) :=
  [⟨S384x1024, extractStridedSlice S384x1024 ![0, 0] (cols x4) slices_S1960x1024_S384x1024_0_0⟩,
    ⟨S512x1024, extractStridedSlice S512x1024 ![416, 0] (cols x4) slices_S1960x1024_S512x1024_416_0⟩,
    ⟨S1024x1024, extractStridedSlice S1024x1024 ![928, 0] (cols x4) slices_S1960x1024_S1024x1024_928_0⟩,
    ⟨S8x1024, extractStridedSlice S8x1024 ![1952, 0] (cols x4) slices_S1960x1024_S8x1024_1952_0⟩,
    ⟨S56x1024, zeros S56x1024 bcast_S_S56x1024⟩,
    ⟨S32x1024, extractStridedSlice S32x1024 ![384, 0] (cols x4) slices_S1960x1024_S32x1024_384_0⟩,
    ⟨S32x1024, zeros S32x1024 bcast_S_S32x1024⟩]

/-- The weights' rows in the kernel's order. -/
def joined : FVec Ideal S2048x1024 .bf16 := concatenate S2048x1024 0 (groups x4)
  concatenates_S384x1024_S512x1024_S1024x1024_S8x1024_S56x1024_S32x1024_S32x1024_S2048x1024_d0

/-- Rows cut out of the weights' columns. -/
theorem cut_at {n : Nat} (o : Nat) (h : S1960x1024.Slices ![o, 0] ⟨2, ![n, 1024]⟩) (i : Fin n) (d : Fin 1024) (k : Fin 1960)
    (hk : k.val = o + i.val) : extractStridedSlice ⟨2, ![n, 1024]⟩ ![o, 0] (cols x4) h (ix2 i d) = x4 (ix2 d k) := by
  rw [← cols_at x4]
  exact extractStridedSlice_apply (s := S1960x1024) (t := ⟨2, ![n, 1024]⟩) ![o, 0] (cols x4) h (ix2 i d) (ix2 k d)
    (fun a => match a with | ⟨0, _⟩ => hk | ⟨1, _⟩ => (Nat.zero_add _).symm)

/-- Piece `p` of the kernel's weights, which begins at row `pre`. -/
theorem piece (n : Fin 2048) (d : Fin 1024) (p : Nat) (hp : p < 7) {q : Nat} (pre : Nat) (x : FVec Ideal ⟨2, ![q, 1024]⟩ .bf16)
    (hx : (groups x4)[p]'hp = ⟨⟨2, ![q, 1024]⟩, x⟩)
    (hpre : ([384, 512, 1024, 8, 56, 32, 32].take p).sum = pre) (i : Fin q) (hi : pre + i.val = n.val) :
    joined x4 (ix2 n d) = x (ix2 i d) := by
  unfold joined
  exact concatenate_apply_piece (t := S2048x1024) 0 (groups x4)
    concatenates_S384x1024_S512x1024_S1024x1024_S8x1024_S56x1024_S32x1024_S32x1024_S2048x1024_d0 (ix2 n d) p hp ⟨2, ![q, 1024]⟩ x hx rfl pre
    (by interval_cases p <;> exact hpre) (ix2 i d)
    (fun b hb => match b with | ⟨0, _⟩ => absurd rfl hb | ⟨1, _⟩ => rfl) hi

/-- A column of the projection stands in its row. -/
theorem joined_place (k : Fin 1960) (d : Fin 1024) : joined x4 (ix2 (place k) d) = x4 (ix2 d k) := by
  have hk := k.isLt
  by_cases h1 : k.val < 384
  · exact (piece x4 (place k) d 0 (by omega) 0 _ rfl rfl ⟨k.val, h1⟩ (by rw [place_a k h1]; exact Nat.zero_add _)).trans
      (cut_at x4 0 _ _ d k (Nat.zero_add _).symm)
  by_cases h2 : k.val < 416
  · exact (piece x4 (place k) d 5 (by omega) 1984 _ rfl rfl ⟨k.val - 384, by omega⟩
      (by rw [place_b k h1 h2]; show 1984 + (k.val - 384) = _; omega)).trans
      (cut_at x4 384 _ _ d k (show k.val = 384 + (k.val - 384) by omega))
  by_cases h3 : k.val < 928
  · exact (piece x4 (place k) d 1 (by omega) 384 _ rfl rfl ⟨k.val - 416, by omega⟩
      (by rw [place_c k h2]; show 384 + (k.val - 416) = _; omega)).trans
      (cut_at x4 416 _ _ d k (show k.val = 416 + (k.val - 416) by omega))
  by_cases h4 : k.val < 1952
  · exact (piece x4 (place k) d 2 (by omega) 896 _ rfl rfl ⟨k.val - 928, by omega⟩
      (by rw [place_c k h2]; show 896 + (k.val - 928) = _; omega)).trans
      (cut_at x4 928 _ _ d k (show k.val = 928 + (k.val - 928) by omega))
  · exact (piece x4 (place k) d 3 (by omega) 1920 _ rfl rfl ⟨k.val - 1952, by omega⟩
      (by rw [place_c k h2]; show 1920 + (k.val - 1952) = _; omega)).trans
      (cut_at x4 1952 _ _ d k (show k.val = 1952 + (k.val - 1952) by omega))

/-- The other rows are zero. -/
theorem joined_gap (n : Fin 2048) (d : Fin 1024) (h : n ∉ Set.range place) : joined x4 (ix2 n d) = 0 := by
  have hn := n.isLt
  rcases gap n h with ⟨h1, h2⟩ | h1
  · exact (piece x4 n d 4 (by omega) 1928 _ rfl rfl ⟨n.val - 1928, by omega⟩ (by show 1928 + (n.val - 1928) = _; omega)).trans (zeros_at _ _ _)
  · exact (piece x4 n d 6 (by omega) 2016 _ rfl rfl ⟨n.val - 2016, by omega⟩ (by show 2016 + (n.val - 2016) = _; omega)).trans (zeros_at _ _ _)

/-! ## The cotangent's columns -/

/-- Columns cut out of the cotangent. -/
theorem ct_at {n : Nat} (o : Nat) (h : S4096x1960.Slices ![0, o] ⟨2, ![4096, n]⟩) (r : Fin 4096) (i : Fin n) (k : Fin 1960)
    (hk : k.val = o + i.val) : extractStridedSlice ⟨2, ![4096, n]⟩ ![0, o] x5 h (ix2 r i) = x5 (ix2 r k) :=
  extractStridedSlice_apply (s := S4096x1960) (t := ⟨2, ![4096, n]⟩) ![0, o] x5 h (ix2 r i) (ix2 r k)
    (fun a => match a with | ⟨0, _⟩ => (Nat.zero_add _).symm | ⟨1, _⟩ => hk)

/-- The number that fills the columns up. -/
def filler : FVec Ideal S_ .f32 := sitofp (F := Ideal) .f32 (constantI S_ 32 0#32)

/-- It is zero. -/
theorem filler_at (i : S_.Idx) : filler i = 0 := by
  show (((0#32 : BitVec 32).toInt : ℝ) : EReal) = 0
  simp

/-- The columns of the rotary keys, filled up to a block. -/
def keys : FVec Ideal S4096x128 .f32 := pad S4096x128 ![0, 64] ![0, 32] ![0, 0]
  (extractStridedSlice S4096x32 ![0, 384] (x5 : FVec Ideal S4096x1960 .f32) slices_S4096x1960_S4096x32_0_384) filler pads_S4096x32_S4096x128_000_64320 h_S_
/-- The columns of the last eight, filled up to a block. -/
def last : FVec Ideal S4096x128 .f32 := pad S4096x128 ![0, 0] ![0, 120] ![0, 0]
  (extractStridedSlice S4096x8 ![0, 1952] (x5 : FVec Ideal S4096x1960 .f32) slices_S4096x1960_S4096x8_0_1952) filler pads_S4096x8_S4096x128_000_01200 h_S_

/-- A column of the rotary keys. -/
theorem keys_at (r : Fin 4096) (i : Fin 128) (k : Fin 1960) (h : 384 ≤ k.val) (h' : k.val < 416) (hk : i.val + 320 = k.val) :
    keys x5 (ix2 r i) = x5 (ix2 r k) := by
  unfold keys
  refine (pad_apply_of_inside (s := S4096x32) (t := S4096x128) ![0, 64] ![0, 32] ![0, 0] _ filler pads_S4096x32_S4096x128_000_64320 h_S_
    (ix2 r i) (ix2 r (⟨k.val - 384, by omega⟩ : Fin 32))
    (fun a => match a with
      | ⟨0, _⟩ => show r.val = 0 + r.val * (0 + 1) by omega
      | ⟨1, _⟩ => show i.val = 64 + (k.val - 384) * (0 + 1) by omega)).trans ?_
  exact ct_at x5 384 _ r _ k (show k.val = 384 + (k.val - 384) by omega)

/-- In front of them are zeros. -/
theorem keys_zero (r : Fin 4096) (i : Fin 128) (h : i.val < 64) : keys x5 (ix2 r i) = 0 := by
  unfold keys
  rw [pad_apply_of_not_inside _ _ _ _ _ _ _ (ix2 r i) 1 (fun g => by
    have g1 : 64 ≤ i.val := g.1
    omega)]
  exact filler_at _

/-- A column of the last eight. -/
theorem last_at (r : Fin 4096) (i : Fin 128) (k : Fin 1960) (h : 1952 ≤ k.val) (hk : i.val + 1952 = k.val) :
    last x5 (ix2 r i) = x5 (ix2 r k) := by
  have := k.isLt
  unfold last
  refine (pad_apply_of_inside (s := S4096x8) (t := S4096x128) ![0, 0] ![0, 120] ![0, 0] _ filler pads_S4096x8_S4096x128_000_01200 h_S_
    (ix2 r i) (ix2 r (⟨k.val - 1952, by omega⟩ : Fin 8))
    (fun a => match a with
      | ⟨0, _⟩ => show r.val = 0 + r.val * (0 + 1) by omega
      | ⟨1, _⟩ => show i.val = 0 + (k.val - 1952) * (0 + 1) by omega)).trans ?_
  exact ct_at x5 1952 _ r _ k (show k.val = 1952 + (k.val - 1952) by omega)

/-- Behind them are zeros. -/
theorem last_zero (r : Fin 4096) (i : Fin 128) (h : 8 ≤ i.val) : last x5 (ix2 r i) = 0 := by
  unfold last
  rw [pad_apply_of_not_inside _ _ _ _ _ _ _ (ix2 r i) 1 (fun g => by
    have g1 : (i.val - 0) / (0 + 1) < 8 := g.2.2
    rw [Nat.sub_zero, Nat.zero_add, Nat.div_one] at g1
    omega)]
  exact filler_at _

/-! ## The lines behind the kernel -/

/-- The groups of rows in the order of the weights' columns. -/
abbrev outs (x : FVec Ideal S2048x1024 .bf16) : List ((s : Shape) × (s.Idx → Ideal .bf16)) :=
  [⟨S384x1024, extractStridedSlice S384x1024 ![0, 0] x slices_S2048x1024_S384x1024_0_0⟩,
    ⟨S32x1024, extractStridedSlice S32x1024 ![1984, 0] x slices_S2048x1024_S32x1024_1984_0⟩,
    ⟨S1536x1024, extractStridedSlice S1536x1024 ![384, 0] x slices_S2048x1024_S1536x1024_384_0⟩,
    ⟨S8x1024, extractStridedSlice S8x1024 ![1920, 0] x slices_S2048x1024_S8x1024_1920_0⟩]

/-- The projection's columns in the order of the weights. -/
def ordered (x : FVec Ideal S2048x1024 .bf16) : FVec Ideal S1024x1960 .f32 :=
  transpose S1024x1960 [1, 0] (extf .f32 (concatenate S1960x1024 0 (outs x)
    concatenates_S384x1024_S32x1024_S1536x1024_S8x1024_S1960x1024_d0) bitsLt_bf16_f32) transposes_S1960x1024_S1024x1960_1_0

/-- Rows cut out of the kernel's array. -/
theorem out_at {n : Nat} (x : FVec Ideal S2048x1024 .bf16) (o : Nat) (h : S2048x1024.Slices ![o, 0] ⟨2, ![n, 1024]⟩) (i : Fin n) (d : Fin 1024)
    (k : Fin 2048) (hk : k.val = o + i.val) : extractStridedSlice ⟨2, ![n, 1024]⟩ ![o, 0] x h (ix2 i d) = x (ix2 k d) :=
  extractStridedSlice_apply (s := S2048x1024) (t := ⟨2, ![n, 1024]⟩) ![o, 0] x h (ix2 i d) (ix2 k d)
    (fun a => match a with | ⟨0, _⟩ => hk | ⟨1, _⟩ => (Nat.zero_add _).symm)

/-- Piece `p` of the ordered columns, which begins at column `pre`. -/
theorem ordered_piece (x : FVec Ideal S2048x1024 .bf16) (k : Fin 1960) (d : Fin 1024) (p : Nat) (hp : p < 4) {q : Nat} (pre : Nat)
    (y : FVec Ideal ⟨2, ![q, 1024]⟩ .bf16)
    (hy : (outs x)[p]'hp = ⟨⟨2, ![q, 1024]⟩, y⟩)
    (hpre : ([384, 32, 1536, 8].take p).sum = pre) (i : Fin q) (hi : pre + i.val = k.val) :
    ordered x (ix2 d k) = y (ix2 i d) := by
  unfold ordered
  refine (transpose_apply _ _ _ (ix2 d k) (ix2 k d) (fun b => match b with | ⟨0, _⟩ => rfl | ⟨1, _⟩ => rfl)).trans ?_
  exact concatenate_apply_piece (t := S1960x1024) 0 (outs x) concatenates_S384x1024_S32x1024_S1536x1024_S8x1024_S1960x1024_d0 (ix2 k d) p hp
    ⟨2, ![q, 1024]⟩ y hy rfl pre (by interval_cases p <;> exact hpre) (ix2 i d)
    (fun b hb => match b with | ⟨0, _⟩ => absurd rfl hb | ⟨1, _⟩ => rfl) hi

/-- A column of the projection is read from its row. -/
theorem ordered_at (x : FVec Ideal S2048x1024 .bf16) (d : Fin 1024) (k : Fin 1960) : ordered x (ix2 d k) = x (ix2 (place k) d) := by
  have hk := k.isLt
  by_cases h1 : k.val < 384
  · exact (ordered_piece x k d 0 (by omega) 0 _ rfl rfl ⟨k.val, h1⟩ (Nat.zero_add _)).trans
      (out_at x 0 _ _ d _ (by rw [place_a k h1]; exact (Nat.zero_add _).symm))
  by_cases h2 : k.val < 416
  · exact (ordered_piece x k d 1 (by omega) 384 _ rfl rfl ⟨k.val - 384, by omega⟩ (by show 384 + (k.val - 384) = _; omega)).trans
      (out_at x 1984 _ _ d _ (by rw [place_b k h1 h2]; show _ = 1984 + (k.val - 384); omega))
  by_cases h3 : k.val < 1952
  · exact (ordered_piece x k d 2 (by omega) 416 _ rfl rfl ⟨k.val - 416, by omega⟩ (by show 416 + (k.val - 416) = _; omega)).trans
      (out_at x 384 _ _ d _ (by rw [place_c k h2]; show _ = 384 + (k.val - 416); omega))
  · exact (ordered_piece x k d 3 (by omega) 1952 _ rfl rfl ⟨k.val - 1952, by omega⟩ (by show 1952 + (k.val - 1952) = _; omega)).trans
      (out_at x 1920 _ _ d _ (by rw [place_c k h2]; show _ = 1920 + (k.val - 1952); omega))

end

end Cert.Proof.ProjHost

end
-- ==== Proof.ProjRun.lean ====
/- The gradients of the input projection: the arrays that the kernel is given, what the lines behind it make of its arrays, and
   that these are the reference's. -/
module

public import proofs.«01_k».proof.Proof.ProjHost

@[expose] public section

noncomputable section

namespace Cert.Proof.ProjRun

open Idealize.ShloMosaic hiding ix1 ix2 ix3 eq_ix2 eq_ix3
open Cert.ProjIdeal Cert.ProjIdeal.Gen Idealize.ShloMosaic.TcCoe Idealize.SL.Sem Idealize.ShloMosaic.ValueIdx
open Cert.Proof.NormMath Cert.Proof.ProjBody Cert.Proof.ProjValue Cert.Proof.ProjHost
open scoped BigOperators

section
variable (m : (ℓ : Loc nD τ sig) → Buf (Elt Ideal) ℓ) (ρ : Dev nD → PrngReg) (c : Dev nD)

abbrev a0 : S4096x1024.Idx → EReal := m ((c : Thread nD τ).loc main_arg0)
abbrev a1 : S1024.Idx → EReal := m ((c : Thread nD τ).loc main_arg1)
abbrev a2 : S1x1024.Idx → EReal := m ((c : Thread nD τ).loc main_arg2)
abbrev a3 : S1x1024.Idx → EReal := m ((c : Thread nD τ).loc main_arg3)
abbrev a4 : S1024x1960.Idx → EReal := m ((c : Thread nD τ).loc main_arg4)
abbrev a5 : S4096x1960.Idx → EReal := m ((c : Thread nD τ).loc main_arg5)
abbrev a6 : S4096x1024.Idx → EReal := m ((c : Thread nD τ).loc main_arg6)

/-! ## What the kernel finds -/

/-- The rows. -/
theorem found_x : aX m c = a0 m c := by
  show V m c main_arg0 = _
  unfold V V0
  simp only [hostOps0, hostOps0_1, hostOps0_2, hostOps0_3, hostOps0_4, List.flatten_cons, List.flatten_nil, List.append_nil, List.cons_append, List.nil_append]
  after_results_simp

/-- The norm's weight. -/
theorem found_n : aN m c = broadcastInDim S1x1024 ![1] bcast_S1024_S1x1024_1 (a1 m c) := by
  show V m c main_v14 = _
  unfold V V0
  simp only [hostOps0, hostOps0_1, hostOps0_2, hostOps0_3, hostOps0_4, List.flatten_cons, List.flatten_nil, List.append_nil, List.cons_append, List.nil_append]
  after_results_simp

/-- The shift. -/
theorem found_sh : aSh m c = a2 m c := by
  show V m c main_arg2 = _
  unfold V V0
  simp only [hostOps0, hostOps0_1, hostOps0_2, hostOps0_3, hostOps0_4, List.flatten_cons, List.flatten_nil, List.append_nil, List.cons_append, List.nil_append]
  after_results_simp

/-- The scale. -/
theorem found_sc : aSc m c = a3 m c := by
  show V m c main_arg3 = _
  unfold V V0
  simp only [hostOps0, hostOps0_1, hostOps0_2, hostOps0_3, hostOps0_4, List.flatten_cons, List.flatten_nil, List.append_nil, List.cons_append, List.nil_append]
  after_results_simp

/-- The residual's cotangent. -/
theorem found_r : aR m c = a6 m c := by
  show V m c main_arg6 = _
  unfold V V0
  simp only [hostOps0, hostOps0_1, hostOps0_2, hostOps0_3, hostOps0_4, List.flatten_cons, List.flatten_nil, List.append_nil, List.cons_append, List.nil_append]
  after_results_simp

set_option maxRecDepth 8192 in
/-- The weights. -/
theorem found_w : aW m c = joined (a4 m c) := by
  show V m c main_v9 = _
  unfold V V0
  simp only [hostOps0, hostOps0_1, hostOps0_2, hostOps0_3, hostOps0_4, List.flatten_cons, List.flatten_nil, List.append_nil, List.cons_append, List.nil_append]
  after_results_simp
  unfold joined
  refine StableHlo.concatenate_congr _ _ (Common.and_then ?_ (Common.and_then ?_ (Common.and_then ?_ (Common.and_then ?_ (Common.and_then ?_
    (Common.and_then ?_ (Common.and_then ?_ rfl))))))) _ _
  · show HloOp.result _ _ (Proc.devRef .tc main_v2) = _
    after_results_simp; rfl
  · show HloOp.result _ _ (Proc.devRef .tc main_v3) = _
    after_results_simp; rfl
  · show HloOp.result _ _ (Proc.devRef .tc main_v4) = _
    after_results_simp; rfl
  · show HloOp.result _ _ (Proc.devRef .tc main_v5) = _
    after_results_simp; rfl
  · show HloOp.result _ _ (Proc.devRef .tc main_v6) = _
    after_results_simp; rfl
  · show HloOp.result _ _ (Proc.devRef .tc main_v7) = _
    after_results_simp; rfl
  · show HloOp.result _ _ (Proc.devRef .tc main_v8) = _
    after_results_simp; rfl

/-- The first columns of the cotangent. -/
theorem found_a : V m c main_v15 = extractStridedSlice S4096x384 ![0, 0] (a5 m c) slices_S4096x1960_S4096x384_0_0 := by
  unfold V V0
  simp only [hostOps0, hostOps0_1, hostOps0_2, hostOps0_3, hostOps0_4, List.flatten_cons, List.flatten_nil, List.append_nil, List.cons_append, List.nil_append]
  after_results_simp

/-- The columns of the gates. -/
theorem found_b : V m c main_v16 = extractStridedSlice S4096x512 ![0, 416] (a5 m c) slices_S4096x1960_S4096x512_0_416 := by
  unfold V V0
  simp only [hostOps0, hostOps0_1, hostOps0_2, hostOps0_3, hostOps0_4, List.flatten_cons, List.flatten_nil, List.append_nil, List.cons_append, List.nil_append]
  after_results_simp

/-- The columns of the convolution's input. -/
theorem found_c : V m c main_v17 = extractStridedSlice S4096x1024 ![0, 928] (a5 m c) slices_S4096x1960_S4096x1024_0_928 := by
  unfold V V0
  simp only [hostOps0, hostOps0_1, hostOps0_2, hostOps0_3, hostOps0_4, List.flatten_cons, List.flatten_nil, List.append_nil, List.cons_append, List.nil_append]
  after_results_simp

/-- The columns of the rotary keys. -/
theorem found_keys : V m c main_v11 = keys (a5 m c) := by
  unfold V V0
  simp only [hostOps0, hostOps0_1, hostOps0_2, hostOps0_3, hostOps0_4, List.flatten_cons, List.flatten_nil, List.append_nil, List.cons_append, List.nil_append]
  after_results_simp
  rfl

/-- The last eight columns. -/
theorem found_last : V m c main_v13 = last (a5 m c) := by
  unfold V V0
  simp only [hostOps0, hostOps0_1, hostOps0_2, hostOps0_3, hostOps0_4, List.flatten_cons, List.flatten_nil, List.append_nil, List.cons_append, List.nil_append]
  after_results_simp
  rfl

/-! ## The cotangent's rows -/

/-- A point's rows of the first columns. -/
theorem blk5 (t : Fin cfg0.N) (a : Fin 512) (k : Fin 384) : iblk m c 5 t (ix2 a k) = V m c main_v15 (ix2 (at_ t a) k) := by
  have f := idx_facts t
  refine congrArg (V m c main_v15) (funext fun b => Fin.ext ?_)
  match b with
  | ⟨0, _⟩ => show win0_5.index t (0 : Fin 2) * 512 + 1 * a.val = t.val * 512 + a.val; omega
  | ⟨1, _⟩ => show win0_5.index t (1 : Fin 2) * 384 + 1 * k.val = k.val; omega

/-- A point's rows of the gates. -/
theorem blk6 (t : Fin cfg0.N) (a : Fin 512) (k : Fin 512) : iblk m c 6 t (ix2 a k) = V m c main_v16 (ix2 (at_ t a) k) := by
  have f := idx_facts t
  refine congrArg (V m c main_v16) (funext fun b => Fin.ext ?_)
  match b with
  | ⟨0, _⟩ => show win0_6.index t (0 : Fin 2) * 512 + 1 * a.val = t.val * 512 + a.val; omega
  | ⟨1, _⟩ => show win0_6.index t (1 : Fin 2) * 512 + 1 * k.val = k.val; omega

/-- A point's rows of the convolution's input. -/
theorem blk7 (t : Fin cfg0.N) (a : Fin 512) (k : Fin 1024) : iblk m c 7 t (ix2 a k) = V m c main_v17 (ix2 (at_ t a) k) := by
  have f := idx_facts t
  refine congrArg (V m c main_v17) (funext fun b => Fin.ext ?_)
  match b with
  | ⟨0, _⟩ => show win0_7.index t (0 : Fin 2) * 512 + 1 * a.val = t.val * 512 + a.val; omega
  | ⟨1, _⟩ => show win0_7.index t (1 : Fin 2) * 1024 + 1 * k.val = k.val; omega

/-- A point's rows of the rotary keys. -/
theorem blk8 (t : Fin cfg0.N) (a : Fin 512) (k : Fin 128) : iblk m c 8 t (ix2 a k) = V m c main_v11 (ix2 (at_ t a) k) := by
  have f := idx_facts t
  refine congrArg (V m c main_v11) (funext fun b => Fin.ext ?_)
  match b with
  | ⟨0, _⟩ => show win0_8.index t (0 : Fin 2) * 512 + 1 * a.val = t.val * 512 + a.val; omega
  | ⟨1, _⟩ => show win0_8.index t (1 : Fin 2) * 128 + 1 * k.val = k.val; omega

/-- A point's rows of the last eight columns. -/
theorem blk9 (t : Fin cfg0.N) (a : Fin 512) (k : Fin 128) : iblk m c 9 t (ix2 a k) = V m c main_v13 (ix2 (at_ t a) k) := by
  have f := idx_facts t
  refine congrArg (V m c main_v13) (funext fun b => Fin.ext ?_)
  match b with
  | ⟨0, _⟩ => show win0_9.index t (0 : Fin 2) * 512 + 1 * a.val = t.val * 512 + a.val; omega
  | ⟨1, _⟩ => show win0_9.index t (1 : Fin 2) * 128 + 1 * k.val = k.val; omega

/-- The groups of columns that a point puts together. -/
abbrev parts (t : Fin cfg0.N) : List ((s : Shape) × (s.Idx → Ideal .f32)) :=
  [⟨S512x384, iblk m c 5 t⟩, ⟨S512x512, iblk m c 6 t⟩, ⟨S512x1024, iblk m c 7 t⟩,
    ⟨S512x128, addf (F := Ideal) (φ := .f32) (iblk m c 8 t) (iblk m c 9 t)⟩]

/-- Group `p` of a point's cotangent, which begins at column `pre`. -/
theorem part_at (t : Fin cfg0.N) (a : Fin 512) (n : Fin 2048) (p : Nat) (hp : p < 4) {q : Nat} (pre : Nat) (x : FVec Ideal ⟨2, ![512, q]⟩ .f32)
    (hx : (parts m c t)[p]'hp = ⟨⟨2, ![512, q]⟩, x⟩) (hpre : ([384, 512, 1024, 128].take p).sum = pre) (i : Fin q) (hi : pre + i.val = n.val) :
    G m c t (ix2 a n) = x (ix2 a i) := by
  unfold G
  simp only [k0_pay7, shapeCast_self]
  exact concatenate_apply_piece (t := S512x2048) 1 (parts m c t) concatenates_S512x384_S512x512_S512x1024_S512x128_S512x2048_d1 (ix2 a n) p hp
    ⟨2, ![512, q]⟩ x hx rfl pre (by interval_cases p <;> exact hpre) (ix2 a i)
    (fun b hb => match b with | ⟨0, _⟩ => rfl | ⟨1, _⟩ => absurd rfl hb) hi

/-- A column of the projection's cotangent stands in its place. -/
theorem J_place (r : Fin 4096) (k : Fin 1960) : J m c r (place k) = a5 m c (ix2 r k) := by
  have hk := k.isLt
  unfold J
  by_cases h1 : k.val < 384
  · refine (part_at m c (pt r) (off r) (place k) 0 (by omega) 0 _ rfl rfl ⟨k.val, h1⟩ (by rw [place_a k h1]; exact Nat.zero_add _)).trans ?_
    refine (blk5 m c _ _ _).trans ?_
    rw [found_a, at_pt]
    exact ct_at _ 0 _ r _ k (Nat.zero_add _).symm
  by_cases h2 : k.val < 416
  · refine (part_at m c (pt r) (off r) (place k) 3 (by omega) 1920 _ rfl rfl ⟨k.val - 320, by omega⟩
      (by rw [place_b k h1 h2]; show 1920 + (k.val - 320) = _; omega)).trans ?_
    refine (congrArg₂ (fun x y : EReal => x + y) (blk8 m c _ _ _) (blk9 m c _ _ _)).trans ?_
    rw [found_keys, found_last, at_pt, keys_at _ r ⟨k.val - 320, by omega⟩ k (by omega) h2 (show k.val - 320 + 320 = k.val by omega),
      last_zero _ r ⟨k.val - 320, by omega⟩ (show 8 ≤ k.val - 320 by omega)]
    exact add_zero _
  by_cases h3 : k.val < 928
  · refine (part_at m c (pt r) (off r) (place k) 1 (by omega) 384 _ rfl rfl ⟨k.val - 416, by omega⟩
      (by rw [place_c k h2]; show 384 + (k.val - 416) = _; omega)).trans ?_
    refine (blk6 m c _ _ _).trans ?_
    rw [found_b, at_pt]
    exact ct_at _ 416 _ r _ k (show k.val = 416 + (k.val - 416) by omega)
  by_cases h4 : k.val < 1952
  · refine (part_at m c (pt r) (off r) (place k) 2 (by omega) 896 _ rfl rfl ⟨k.val - 928, by omega⟩
      (by rw [place_c k h2]; show 896 + (k.val - 928) = _; omega)).trans ?_
    refine (blk7 m c _ _ _).trans ?_
    rw [found_c, at_pt]
    exact ct_at _ 928 _ r _ k (show k.val = 928 + (k.val - 928) by omega)
  · refine (part_at m c (pt r) (off r) (place k) 3 (by omega) 1920 _ rfl rfl ⟨k.val - 1952, by omega⟩
      (by rw [place_c k h2]; show 1920 + (k.val - 1952) = _; omega)).trans ?_
    refine (congrArg₂ (fun x y : EReal => x + y) (blk8 m c _ _ _) (blk9 m c _ _ _)).trans ?_
    rw [found_keys, found_last, at_pt, keys_zero _ r ⟨k.val - 1952, by omega⟩ (show k.val - 1952 < 64 by omega),
      last_at _ r ⟨k.val - 1952, by omega⟩ k (by omega) (Nat.sub_add_cancel (by omega))]
    exact zero_add _

/-- The cotangent before the projection is the reference's. -/
theorem cot_eq (r : Fin 4096) : cot m c r = ProjRef.cot (a4 m c) (a5 m c) r := by
  funext d
  unfold ProjValue.cot ProjRef.cot back
  refine (Fintype.sum_of_injective place place_inj _ _ (fun n hn => ?_) fun k => ?_).symm
  · show J m c r n * aW m c (ix2 n d) = 0
    rw [found_w, joined_gap _ n d hn, mul_zero]
  · show a5 m c (ix2 r k) * a4 m c (ix2 d k) = J m c r (place k) * aW m c (ix2 (place k) d)
    rw [J_place, found_w, joined_place]

/-- The norm's weight as a row. -/
theorem row_n : row (aN m c) 0 = ProjRef.vec (a1 m c) := by
  rw [found_n]
  funext d
  exact congrArg (a1 m c) (funext fun a => match a with | ⟨0, _⟩ => rfl)

/-! ## The results -/

/-- The arrays that the lines behind the kernel find. -/
theorem after (w : Fin cfg0.W) :
    Pipeline.withArrays cfg0.spec c (V0 m c) (fun w => (dats m 0 c).arrAt w cfg0.N) (Proc.devRef .tc (Pipeline.arrRef cfg0.spec w)) = (dats m 0 c).arrAt w cfg0.N :=
  Pipeline.withArrays_arr spec0 launch0.win.arr_inj c (V0 m c) (fun w => (dats m 0 c).arrAt w (cfgs 0).N) w

/-- The sum for the norm's weight. -/
theorem after12 : Pipeline.withArrays (cfgs 0).spec c (V0 m c) (fun w => (dats m 0 c).arrAt w (cfgs 0).N) (Proc.devRef .tc main_v18_1)
    = (dats m 0 c).arrAt 12 cfg0.N := after m c 12
/-- The sum for the projection. -/
theorem after15 : Pipeline.withArrays (cfgs 0).spec c (V0 m c) (fun w => (dats m 0 c).arrAt w (cfgs 0).N) (Proc.devRef .tc main_v18_4)
    = (dats m 0 c).arrAt 15 cfg0.N := after m c 15

/-- The gradient of the input. -/
theorem end_x : (dats m 0 c).arrAt 11 cfg0.N = Cert.ProjRefIdeal.Read.val_main_v53 (F := Ideal) (a0 m c) (a1 m c) (a3 m c) (a4 m c) (a5 m c) (a6 m c) := by
  rw [final11]
  refine ext2 fun r d => ?_
  rw [ProjRef.x_at, ← row_n, ← cot_eq, ← found_r, ← found_x, ← found_sc]
  rfl

/-- The gradient of the shift. -/
theorem end_sh : (dats m 0 c).arrAt 13 cfg0.N = Cert.ProjRefIdeal.Read.val_main_v27 (F := Ideal) (a4 m c) (a5 m c) := by
  rw [final13]
  refine ext2 fun z d => ?_
  rw [ProjRef.sh_at]
  exact Finset.sum_congr rfl fun r _ => congrFun (cot_eq m c r) d

/-- The gradient of the scale. -/
theorem end_sc : (dats m 0 c).arrAt 14 cfg0.N = Cert.ProjRefIdeal.Read.val_main_v30 (F := Ideal) (a0 m c) (a1 m c) (a4 m c) (a5 m c) := by
  rw [final14]
  refine ext2 fun z d => ?_
  rw [ProjRef.sc_at, ← row_n, ← found_x]
  exact Finset.sum_congr rfl fun r _ => congrArg (normed (row (aX m c) r) (row (aN m c) 0) d * ·) (congrFun (cot_eq m c r) d)

/-- The gradient of the norm's weight. -/
theorem end_n : Pipeline.afterTail₀ cfgs (dats m) 0 (V0 m) [hostOps1] c main_v24
    = Cert.ProjRefIdeal.Read.val_main_v38 (F := Ideal) (a0 m c) (a3 m c) (a4 m c) (a5 m c) := by
  have e : Pipeline.afterTail₀ cfgs (dats m) 0 (V0 m) [hostOps1] c main_v24
      = shapeCast S1024 ((dats m 0 c).arrAt 12 cfg0.N) shapeCasts_S1x1024_S1024 := by
    unfold Pipeline.afterTail₀
    simp only [hostOps1, List.flatten_cons, List.flatten_nil, List.append_nil]
    after_results_simp
    rw [after12]
    rfl
  rw [e, final12]
  show shapeCast S1024 (fun i : S1x1024.Idx => ∑ r : Fin 4096, termW m c (i 1) r) shapeCasts_S1x1024_S1024 = _
  funext i
  obtain ⟨d, rfl⟩ : ∃ d : Fin 1024, i = ix1 d := ⟨i 0, funext fun a => match a with | ⟨0, _⟩ => rfl⟩
  rw [ProjRef.w_at, ← found_x, ← found_sc]
  refine (shapeCast_apply _ _ (ix1 d) (ix2 0 d) (by rw [Shape.rowMajor_val_two, Shape.rowMajor_val_one]; exact Nat.zero_add _)).trans ?_
  exact Finset.sum_congr rfl fun r _ => congrArg (fun g => hat (row (aX m c) r) d * dmod (row (aSc m c) 0) g d) (cot_eq m c r)

set_option maxRecDepth 8192 in
/-- The gradient of the projection. -/
theorem end_w : Pipeline.afterTail₀ cfgs (dats m) 0 (V0 m) [hostOps1] c main_v26
    = Cert.ProjRefIdeal.Read.val_main_v24 (F := Ideal) (a0 m c) (a1 m c) (a2 m c) (a3 m c) (a5 m c) := by
  have e : Pipeline.afterTail₀ cfgs (dats m) 0 (V0 m) [hostOps1] c main_v26 = ordered ((dats m 0 c).arrAt 15 cfg0.N) := by
    unfold Pipeline.afterTail₀
    simp only [hostOps1, List.flatten_cons, List.flatten_nil, List.append_nil]
    after_results_simp
    unfold ordered
    refine congrArg (fun x => transpose S1024x1960 [1, 0] (extf (F := Ideal) .f32 x bitsLt_bf16_f32) transposes_S1960x1024_S1024x1960_1_0) ?_
    refine StableHlo.concatenate_congr _ _ (Common.and_then ?_ (Common.and_then ?_ (Common.and_then ?_ (Common.and_then ?_ rfl)))) _ _
    · show HloOp.result _ _ (Proc.devRef .tc main_v19) = _
      after_results_simp
      rw [after15]
    · show HloOp.result _ _ (Proc.devRef .tc main_v20) = _
      after_results_simp
      rw [after15]
    · show HloOp.result _ _ (Proc.devRef .tc main_v21) = _
      after_results_simp
      rw [after15]
    · show HloOp.result _ _ (Proc.devRef .tc main_v22) = _
      after_results_simp
      rw [after15]
  rw [e, final15]
  refine ext2 fun d k => ?_
  rw [ordered_at, ProjRef.proj_at, ← row_n, ← found_x, ← found_sh, ← found_sc]
  exact Finset.sum_congr rfl fun r _ => congrArg (· * modulated (row (aX m c) r) (row (aN m c) 0) (row (aSh m c) 0) (row (aSc m c) 0) d) (J_place m c r k)

/-- Every run of the kernel ends with the reference's gradients in the results and the arguments as they were. -/
theorem results : θ_run defs (onTc (τ := τ) (main (F := Ideal))) ⟨m, fun _ => 0, ρ⟩ (fun r => ∀ c : Dev nD,
    r.2.mem ((c.tc : Thread nD τ).loc main_v18_0) = Cert.ProjRefIdeal.Read.val_main_v53 (F := Ideal) (a0 m c) (a1 m c) (a3 m c) (a4 m c) (a5 m c) (a6 m c)
      ∧ r.2.mem ((c.tc : Thread nD τ).loc main_v24) = Cert.ProjRefIdeal.Read.val_main_v38 (F := Ideal) (a0 m c) (a3 m c) (a4 m c) (a5 m c)
      ∧ r.2.mem ((c.tc : Thread nD τ).loc main_v18_2) = Cert.ProjRefIdeal.Read.val_main_v27 (F := Ideal) (a4 m c) (a5 m c)
      ∧ r.2.mem ((c.tc : Thread nD τ).loc main_v18_3) = Cert.ProjRefIdeal.Read.val_main_v30 (F := Ideal) (a0 m c) (a1 m c) (a4 m c) (a5 m c)
      ∧ r.2.mem ((c.tc : Thread nD τ).loc main_v26) = Cert.ProjRefIdeal.Read.val_main_v24 (F := Ideal) (a0 m c) (a1 m c) (a2 m c) (a3 m c) (a5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h.2 c).1 11).trans (end_x m c),
      ((h.2 c).2 main_v24 (Pipeline.mem_restRefs_of main_v24 (by decide) (by decide))).trans (end_n m c),
      ((h.2 c).1 13).trans (end_sh m c), ((h.2 c).1 14).trans (end_sc m c),
      ((h.2 c).2 main_v26 (Pipeline.mem_restRefs_of main_v26 (by decide) (by decide))).trans (end_w m c), h.1 c⟩)
    (θ_run_and (unchanged m ρ) (run_main m ρ))

end

end Cert.Proof.ProjRun

end
-- ==== Proof.OutMath.lean ====
/- The gradients of the attention's output projection as formulas of a row: the heads and the recurrence's output side by side,
   the projection, and the cotangents that go back through them. -/
module

public import proofs.«01_k».proof.Proof.NormMath

@[expose] public section

noncomputable section

namespace Cert.Proof.OutMath

open Idealize.ShloMosaic Idealize.ShloMosaic.ValueIdx
open Cert.Proof.NormMath
open scoped BigOperators

/-- The entries of one row of all heads. -/
def heads {n : Nat} (o : (⟨3, ![8, n, 64]⟩ : Shape).Idx → EReal) (r : Fin n) : Fin 8 → Fin 64 → EReal := fun h e => o (ix3 h r e)

/-- The heads of a row side by side, with the recurrence's output behind them. -/
def joined (o : Fin 8 → Fin 64 → EReal) (y : Fin 512 → EReal) (n : Fin 1024) : EReal :=
  if h : n.val < 512 then o ⟨n.val / 64, by omega⟩ ⟨n.val % 64, by omega⟩ else y ⟨n.val - 512, by omega⟩

/-- The column of a head's entry, and the column of an entry of the recurrence's output. -/
def lane (h : Fin 8) (e : Fin 64) : Fin 1024 := ⟨h.val * 64 + e.val, by omega⟩
def late (k : Fin 512) : Fin 1024 := ⟨512 + k.val, by omega⟩

/-- The row by the projection. -/
def projected (w : Fin 1024 → Fin 1024 → EReal) (x : Fin 1024 → EReal) (d : Fin 1024) : EReal := ∑ n, x n * w n d

/-- The row's cotangent by the gate, and the cotangent of the projection's input. -/
def gated (g1 g : Fin 1024 → EReal) (d : Fin 1024) : EReal := g1 d * g d
def before (w : Fin 1024 → Fin 1024 → EReal) (q : Fin 1024 → EReal) (n : Fin 1024) : EReal := ∑ d, q d * w n d

/-- The cotangent of the residual's row. -/
def total (x w sc dh dy : Fin 1024 → EReal) (d : Fin 1024) : EReal := dy d + drow x w sc dh d

/-- The sum of four parts. -/
def four (p : Fin 4 → Fin 1024 → EReal) (d : Fin 1024) : EReal := p 0 d + p 1 d + p 2 d + p 3 d

end Cert.Proof.OutMath

end
-- ==== Proof.OutBody.lean ====
/- What one step of the kernel for the gradients of the output projection computes from the blocks it reads, row by row. -/
module

public import proofs.«01_k».proof.Defs
public import proofs.«01_k».proof.Proof.OutMath
public import proofs.«01_k».proof.Proof.Common
public import proofs.«01_k».proof.Proof.Gen.OutIdeal.Skeleton
public import Idealize.ShloMosaic.Lib.Pipeline.ValueKit
public import Idealize.ShloMosaic.Lib.Pipeline.ReadBack
public import Idealize.ShloMosaic.Lib.ValueLayoutCasts

@[expose] public section

noncomputable section

namespace Cert.Proof.OutBody

open Idealize.ShloMosaic hiding ix1 ix2 ix3 eq_ix2 eq_ix3
open Cert.OutIdeal Cert.OutIdeal.Gen Idealize.ShloMosaic.TcCoe Idealize.SL.Sem Idealize.ShloMosaic.ValueIdx
open Idealize.ShloMosaic.Tactic
open Cert.Proof.NormMath Cert.Proof.OutMath
open scoped BigOperators

section
variable (x dh g dx : FVec Ideal S512x1024 .f32) (nw sc g1 : Vec Ideal S1x1024 .f32)

/-- The sum of the four parts of the cotangent. -/
theorem parts_at (p0 p1 p2 p3 : Vec Ideal S1x512x1024 .bf16) (a : Fin 512) (d : Fin 1024) :
    k0_pay6 p0 p1 p2 p3 (ix2 a d) = p0 (ix3 0 a d) + p1 (ix3 0 a d) + p2 (ix3 0 a d) + p3 (ix3 0 a d) := by
  simp only [k0_pay6]
  show (shapeCast S512x1024 p0 _ (ix2 a d) + shapeCast S512x1024 p1 _ (ix2 a d) + shapeCast S512x1024 p2 _ (ix2 a d)
    + shapeCast S512x1024 p3 _ (ix2 a d) : EReal) = _
  rw [shapeCast_1ab_ab_apply, shapeCast_1ab_ab_apply, shapeCast_1ab_ab_apply, shapeCast_1ab_ab_apply]

/-- The gate's gradient of the feed-forward branch over the block's rows. -/
theorem mixed_at (d : Fin 1024) : k0_pay4 g x (ix2 0 d) = ∑ a : Fin 512, g (ix2 a d) * x (ix2 a d) := by
  simp only [k0_pay4, shapeCast_self]
  rw [shapeCast_a_1a_apply, sum_col]
  rfl

/-- The mean square of each row. -/
theorem var_at (a : Fin 512) : k0_pay9 x (ix2 a 0) = var (row x a) := by
  simp only [k0_pay9]
  show Ideal.div (shapeCast S512x1 _ _ (ix2 a 0)) width + tiny = _
  rw [shapeCast_a_a1_apply, sum_row]
  rfl

/-- The inverse root of each row. -/
theorem root_at (a : Fin 512) : k0_pay10 x (ix2 a 0) = root (row x a) := by
  simp only [k0_pay10]
  show Ideal.rsqrt (k0_pay9 x (ix2 a 0)) = _
  rw [var_at]; rfl

/-- The rows over their root mean squares. -/
theorem hat_at (a : Fin 512) (d : Fin 1024) : k0_pay11 x (ix2 a d) = hat (row x a) d := by
  simp only [k0_pay11]
  show x (ix2 a d) * broadcastTo S512x1024 (k0_pay10 x) broadcasts_S512x1_S512x1024 (ix2 a d) = _
  rw [spread, root_at]; rfl

/-- The shift's gradient over the block's rows. -/
theorem shift_at (d : Fin 1024) : k0_pay12 dh (ix2 0 d) = ∑ a : Fin 512, dh (ix2 a d) := by
  simp only [k0_pay12]
  rw [shapeCast_a_1a_apply, sum_col]

/-- The scale's gradient over the block's rows. -/
theorem gain_at (d : Fin 1024) : k0_pay13 dh x nw (ix2 0 d) = ∑ a : Fin 512, normed (row x a) (row nw 0) d * dh (ix2 a d) := by
  simp only [k0_pay13]
  rw [shapeCast_a_1a_apply, sum_col]
  refine Finset.sum_congr rfl fun a _ => ?_
  show k0_pay11 x (ix2 a d) * broadcastTo S512x1024 nw broadcasts_S1x1024_S512x1024 (ix2 a d) * dh (ix2 a d) = _
  rw [hat_at, broadcastTo_1b_ab_apply]; rfl

/-- The cotangent before the modulation. -/
theorem dmod_at (a : Fin 512) (d : Fin 1024) : k0_pay14 dh sc (ix2 a d) = dmod (row sc 0) (row dh a) d := by
  simp only [k0_pay14]
  show dh (ix2 a d) * broadcastTo S512x1024 _ broadcasts_S1x1024_S512x1024 (ix2 a d) = _
  rw [broadcastTo_1b_ab_apply]; rfl

/-- The weight's gradient over the block's rows. -/
theorem weight_at (d : Fin 1024) : k0_pay15 dh x sc (ix2 0 d) = ∑ a : Fin 512, hat (row x a) d * dmod (row sc 0) (row dh a) d := by
  simp only [k0_pay15]
  rw [shapeCast_a_1a_apply, sum_col]
  refine Finset.sum_congr rfl fun a _ => ?_
  rw [← dmod_at, ← hat_at]; rfl

/-- A sum over one entry. -/
theorem sum_one (v : FVec Ideal S512x1 .f32) (a : Fin 512) (h1 : FKind.Formats .f32) (h2 : (0x00000000#32 : BitVec 32) = 0x00000000#32) :
    multiReduction .add [1] S512 v 0x00000000#32 reduces_S512x1_S512 h1 h2 (ix1 a) = v (ix2 a 0) :=
  (sum_row _ v a _ _).trans (Fin.sum_univ_one _)

/-- The rows of the cotangent behind the norm. -/
theorem norm_at (a : Fin 512) (d : Fin 1024) : k0_pay16 dh x nw sc (ix2 a d) = drow (row x a) (row nw 0) (row sc 0) (row dh a) d := by
  have hp : ∀ e : Fin 1024, mulf (k0_pay14 dh sc) (broadcastTo S512x1024 nw broadcasts_S1x1024_S512x1024) (ix2 a e)
      = dhat (row nw 0) (row sc 0) (row dh a) e := fun e => by
    show k0_pay14 dh sc (ix2 a e) * broadcastTo S512x1024 nw broadcasts_S1x1024_S512x1024 (ix2 a e) = _
    rw [dmod_at, broadcastTo_1b_ab_apply]; rfl
  have hd : mulf (broadcast S512x1 (Scalar.ofBits .f32 0xBF000000#32)) (divf (k0_pay10 x) (k0_pay9 x)) (ix2 a 0) = droot (row x a) := by
    show mhalf * Ideal.div (k0_pay10 x (ix2 a 0)) (k0_pay9 x (ix2 a 0)) = _
    rw [var_at, root_at]; rfl
  simp only [k0_pay16]
  show mulf (k0_pay14 dh sc) (broadcastTo S512x1024 nw broadcasts_S1x1024_S512x1024) (ix2 a d)
      * broadcastTo S512x1024 (k0_pay10 x) broadcasts_S512x1_S512x1024 (ix2 a d)
    + x (ix2 a d) * broadcastTo S512x1024 _ broadcasts_S512x1_S512x1024 (ix2 a d)
    + broadcastTo S512x1024 _ broadcasts_S512x1_S512x1024 (ix2 a d) * x (ix2 a d) = _
  have ht : Ideal.div (shapeCast S512x1 (multiReduction .add [1] S512 (mulf x (mulf (k0_pay14 dh sc)
      (broadcastTo S512x1024 nw broadcasts_S1x1024_S512x1024))) 0x00000000#32 reduces_S512x1024_S512 (.inl rfl) rfl) shapeCasts_S512_S512x1 (ix2 a 0)
      * mulf (broadcast S512x1 (Scalar.ofBits .f32 0xBF000000#32)) (divf (k0_pay10 x) (k0_pay9 x)) (ix2 a 0)) width
      = through (row x a) (dhat (row nw 0) (row sc 0) (row dh a)) := by
    rw [shapeCast_a_a1_apply, sum_row, hd]
    refine congrArg (fun s => Ideal.div (s * droot (row x a)) width) (Finset.sum_congr rfl fun e _ => ?_)
    exact congrArg (x (ix2 a e) * ·) (hp e)
  rw [hp, spread, root_at, spread, shapeCast_a_a1_apply, sum_one]
  show dhat _ _ _ d * root _ + x (ix2 a d) * Ideal.div _ width + Ideal.div _ width * x (ix2 a d) = _
  refine congrArg₂ (· + ·) (congrArg₂ (· + ·) rfl (congrArg (x (ix2 a d) * ·) ht)) (congrArg (· * x (ix2 a d)) ht)

/-- The gated rows of the cotangent. -/
theorem gated_at (a : Fin 512) (d : Fin 1024) : k0_pay23 g dx g1 (ix2 a d) = gated (row g1 0) (fun d => g (ix2 a d) + dx (ix2 a d)) d := by
  simp only [k0_pay23, k0_pay20]
  show broadcastTo S512x1024 g1 broadcasts_S1x1024_S512x1024 (ix2 a d) * (g (ix2 a d) + dx (ix2 a d)) = _
  rw [broadcastTo_1b_ab_apply]; rfl

end

/-! ## The heads side by side -/

section
variable (o : Vec Ideal S8x512x64 .f32) (y : Vec Ideal S512x512 .f32)

/-- One head's rows. -/
def head (p : Nat) (h : S8x512x64.Slices ![p, 0, 0] S1x512x64) : FVec Ideal S512x64 .f32 :=
  shapeCast S512x64 (extractStridedSlice S1x512x64 ![p, 0, 0] o h) shapeCasts_S1x512x64_S512x64

/-- A head's rows at an index. -/
theorem head_at (p : Nat) (h : S8x512x64.Slices ![p, 0, 0] S1x512x64) (k : Fin 8) (hk : k.val = p) (a : Fin 512) (e : Fin 64) :
    head o p h (ix2 a e) = o (ix3 k a e) := by
  unfold head
  rw [shapeCast_1ab_ab_apply]
  refine extractStridedSlice_apply (s := S8x512x64) (t := S1x512x64) _ _ _ _ _ fun b => ?_
  match b with
  | ⟨0, _⟩ => exact hk
  | ⟨1, _⟩ => exact (Nat.zero_add _).symm
  | ⟨2, _⟩ => exact (Nat.zero_add _).symm

/-- The heads and the recurrence's output, in their order. -/
abbrev groups : List ((s : Shape) × (s.Idx → Ideal .f32)) :=
  [⟨S512x64, head o 0 slices_S8x512x64_o0_0_0_S1x512x64⟩, ⟨S512x64, head o 1 slices_S8x512x64_o1_0_0_S1x512x64⟩,
    ⟨S512x64, head o 2 slices_S8x512x64_o2_0_0_S1x512x64⟩, ⟨S512x64, head o 3 slices_S8x512x64_o3_0_0_S1x512x64⟩,
    ⟨S512x64, head o 4 slices_S8x512x64_o4_0_0_S1x512x64⟩, ⟨S512x64, head o 5 slices_S8x512x64_o5_0_0_S1x512x64⟩,
    ⟨S512x64, head o 6 slices_S8x512x64_o6_0_0_S1x512x64⟩, ⟨S512x64, head o 7 slices_S8x512x64_o7_0_0_S1x512x64⟩, ⟨S512x512, y⟩]

/-- Group `p` of the columns, which begins at column `pre`. -/
theorem group_at (a : Fin 512) (n : Fin 1024) (p : Nat) (hp : p < 9) {q : Nat} (pre : Nat) (x : FVec Ideal ⟨2, ![512, q]⟩ .f32)
    (hx : (groups o y)[p]'hp = ⟨⟨2, ![512, q]⟩, x⟩) (hpre : ([64, 64, 64, 64, 64, 64, 64, 64, 512].take p).sum = pre) (i : Fin q)
    (hi : pre + i.val = n.val) : k0_pay22 o y (ix2 a n) = x (ix2 a i) := by
  simp only [k0_pay22]
  exact concatenate_apply_piece (t := S512x1024) 1 (groups o y)
    concatenates_S512x64_S512x64_S512x64_S512x64_S512x64_S512x64_S512x64_S512x64_S512x512_S512x1024_d1 (ix2 a n) p hp
    ⟨2, ![512, q]⟩ x hx rfl pre (by interval_cases p <;> exact hpre) (ix2 a i)
    (fun b hb => match b with | ⟨0, _⟩ => rfl | ⟨1, _⟩ => absurd rfl hb) hi

/-- The projection's input. -/
theorem joined_at (a : Fin 512) (n : Fin 1024) : k0_pay22 o y (ix2 a n) = joined (heads o a) (row y a) n := by
  unfold joined
  split
  · rename_i h
    have hs : ∀ (k : Fin 8) (p : Nat) (hp : p < 9) (pre : Nat) (_ : ([64, 64, 64, 64, 64, 64, 64, 64, 512].take p).sum = pre)
        (hs : S8x512x64.Slices ![p, 0, 0] S1x512x64) (_ : (groups o y)[p]'hp = ⟨S512x64, head o p hs⟩) (_ : k.val = p) (_ : pre = p * 64)
        (_ : n.val / 64 = k.val), k0_pay22 o y (ix2 a n) = o (ix3 k a ⟨n.val % 64, by omega⟩) := fun k p hp pre hpre hs hx hkp he hn =>
      (group_at o y a n p hp pre (head o p hs) hx hpre ⟨n.val % 64, by omega⟩ (by show pre + n.val % 64 = n.val; omega)).trans
        (head_at o p hs k hkp a _)
    have hk : ∀ k : Fin 8, n.val / 64 = k.val → k0_pay22 o y (ix2 a n) = o (ix3 k a ⟨n.val % 64, by omega⟩) := fun k hn => by
      match k, hn with
      | ⟨0, _⟩, hn => exact hs 0 0 (by omega) 0 rfl _ rfl rfl rfl hn
      | ⟨1, _⟩, hn => exact hs 1 1 (by omega) 64 rfl _ rfl rfl rfl hn
      | ⟨2, _⟩, hn => exact hs 2 2 (by omega) 128 rfl _ rfl rfl rfl hn
      | ⟨3, _⟩, hn => exact hs 3 3 (by omega) 192 rfl _ rfl rfl rfl hn
      | ⟨4, _⟩, hn => exact hs 4 4 (by omega) 256 rfl _ rfl rfl rfl hn
      | ⟨5, _⟩, hn => exact hs 5 5 (by omega) 320 rfl _ rfl rfl rfl hn
      | ⟨6, _⟩, hn => exact hs 6 6 (by omega) 384 rfl _ rfl rfl rfl hn
      | ⟨7, _⟩, hn => exact hs 7 7 (by omega) 448 rfl _ rfl rfl rfl hn
    exact hk ⟨n.val / 64, by omega⟩ rfl
  · rename_i h
    exact group_at o y a n 8 (by omega) 512 y rfl rfl ⟨n.val - 512, by omega⟩ (by show 512 + (n.val - 512) = n.val; omega)

end

/-! ## The products -/

section
variable (g dx : FVec Ideal S512x1024 .f32) (g1 : Vec Ideal S1x1024 .f32) (w : Vec Ideal S1024x1024 .bf16)
  (o : Vec Ideal S8x512x64 .f32) (y : Vec Ideal S512x512 .f32)

/-- The attention gate's gradient over the block's rows. -/
theorem gate_at (d : Fin 1024) : k0_pay24 g dx o w y (ix2 0 d)
    = ∑ a : Fin 512, (g (ix2 a d) + dx (ix2 a d)) * projected (row w) (joined (heads o a) (row y a)) d := by
  simp only [k0_pay24, k0_pay20, k0_pay21, shapeCast_self]
  rw [shapeCast_a_1a_apply, sum_col]
  refine Finset.sum_congr rfl fun a _ => congrArg ((g (ix2 a d) + dx (ix2 a d)) * ·) ?_
  simp only [matmul]
  rw [Common.matmul_at dot_S512x1024_S1024x1024_S512x1024_1_0_0_1_n_n 1024 rfl rfl _ _ _ _ _ (fun k => ix2 a k) (fun k => ix2 k d)]
  · rw [show (constant S512x1024 .f32 0x00000000#32 : FVec Ideal _ _) (ix2 a d) = 0 from Common.ofBits_zero, zero_add]
    exact Finset.sum_congr rfl fun n _ => congrArg (· * w (ix2 n d)) (joined_at o y a n)
  all_goals
    intro q k hq b
    match b with
    | ⟨0, _⟩ => first | rfl | exact hq
    | ⟨1, _⟩ => first | rfl | exact hq

/-- The cotangent of the projection's input. -/
theorem before_at (a : Fin 512) (n : Fin 1024) : k0_pay25 g dx w g1 (ix2 a n)
    = before (row w) (gated (row g1 0) fun d => g (ix2 a d) + dx (ix2 a d)) n := by
  simp only [k0_pay25, k0_pay21, shapeCast_self, matmul]
  rw [Common.matmul_at dot_S512x1024_S1024x1024_S512x1024_1_1_0_0_n_n 1024 rfl rfl _ _ _ _ _ (fun k => ix2 a k) (fun k => ix2 n k)]
  · rw [show (constant S512x1024 .f32 0x00000000#32 : FVec Ideal _ _) (ix2 a n) = 0 from Common.ofBits_zero, zero_add]
    exact Finset.sum_congr rfl fun d _ => congrArg (· * w (ix2 n d)) (gated_at g dx g1 a d)
  all_goals
    intro q k hq b
    match b with
    | ⟨0, _⟩ => first | rfl | exact hq
    | ⟨1, _⟩ => first | rfl | exact hq

/-- The projection's gradient over the block's rows. -/
theorem weights_at (n d : Fin 1024) :
    k0_pay28 (k0_pay26 o y) (k0_pay27 g dx g1) (constant S1024x1024 .f32 0x00000000#32) (ix2 n d)
      = ∑ a : Fin 512, joined (heads o a) (row y a) n * gated (row g1 0) (fun d => g (ix2 a d) + dx (ix2 a d)) d := by
  simp only [k0_pay28, matmul]
  rw [Common.matmul_at dot_S512x1024_S512x1024_S1024x1024_0_0_1_1_n_n 512 rfl rfl _ _ _ _ _ (fun k => ix2 k n) (fun k => ix2 k d)]
  · rw [show (constant S1024x1024 .f32 0x00000000#32 : FVec Ideal _ _) (ix2 n d) = 0 from Common.ofBits_zero, zero_add]
    refine Finset.sum_congr rfl fun a _ => ?_
    rw [← joined_at, ← gated_at]; rfl
  all_goals
    intro q k hq b
    match b with
    | ⟨0, _⟩ => first | rfl | exact hq
    | ⟨1, _⟩ => first | rfl | exact hq

/-- The columns of the recurrence's output. -/
theorem late_at (v : FVec Ideal S512x1024 .f32) (a : Fin 512) (k : Fin 512) : k0_pay29 v (ix2 a k) = v (ix2 a (late k)) := by
  simp only [k0_pay29]
  exact slice2_axis1_apply 512 v _ a k (late k) rfl

end

/-! ## The heads one behind the other -/

section
variable (v : FVec Ideal S512x1024 .f32)

/-- The columns of one head, as one head of a stack. -/
abbrev cut (p : Nat) (h : S512x1024.Slices ![0, p] S512x64) : FVec Ideal S1x512x64 .f32 :=
  shapeCast S1x512x64 (extractStridedSlice S512x64 ![0, p] v h) shapeCasts_S512x64_S1x512x64

/-- The columns of one head at an index. -/
theorem cut_at (p : Nat) (h : S512x1024.Slices ![0, p] S512x64) (k : Fin 8) (hk : k.val * 64 = p) (u : Fin 1) (a : Fin 512) (e : Fin 64) :
    cut v p h (ix3 u a e) = v (ix2 a (lane k e)) := by
  unfold cut
  rw [shapeCast_ab_1ab_apply]
  exact slice2_axis1_apply p v h a e (lane k e) (by show k.val * 64 + e.val = p + e.val; omega)

/-- A stack with zeros below its last head. -/
theorem below_at {p s : Nat} (hs : s = p + 1) (z : EReal) (hz : z = 0) (x : FVec Ideal S1x512x64 .f32)
    (hc : Shape.Concatenates [⟨3, ![p, 512, 64]⟩, S1x512x64] ⟨3, ![s, 512, 64]⟩ 0) (h : Fin s) (a : Fin 512) (e : Fin 64) :
    concatenate ⟨3, ![s, 512, 64]⟩ 0 [⟨⟨3, ![p, 512, 64]⟩, broadcast ⟨3, ![p, 512, 64]⟩ z⟩, ⟨S1x512x64, x⟩] hc (ix3 h a e)
      = if h.val = p then x (ix3 0 a e) else 0 := by
  by_cases hh : h.val = p
  · rw [if_pos hh]
    exact concatenate_pair_apply_right (t := ⟨3, ![s, 512, 64]⟩) (s₁ := ⟨3, ![p, 512, 64]⟩) (s₂ := S1x512x64) 0 _ _ hc (ix3 h a e) rfl rfl (ix3 0 a e)
      (fun b hb => match b with | ⟨0, _⟩ => absurd rfl hb | ⟨1, _⟩ => rfl | ⟨2, _⟩ => rfl) (by show 0 + p = h.val; omega)
  · rw [if_neg hh]
    have hl := h.isLt
    exact (concatenate_pair_apply_left (t := ⟨3, ![s, 512, 64]⟩) (s₁ := ⟨3, ![p, 512, 64]⟩) (s₂ := S1x512x64) 0 _ _ hc (ix3 h a e) rfl
      (ix3 ⟨h.val, by omega⟩ a e) (fun b => match b with | ⟨0, _⟩ => rfl | ⟨1, _⟩ => rfl | ⟨2, _⟩ => rfl)).trans hz

/-- A stack with zeros behind it. -/
theorem above_at {s q : Nat} (hs : s + q = 8) (z : EReal) (hz : z = 0) (x : FVec Ideal ⟨3, ![s, 512, 64]⟩ .f32)
    (hc : Shape.Concatenates [⟨3, ![s, 512, 64]⟩, ⟨3, ![q, 512, 64]⟩] S8x512x64 0) (h : Fin 8) (a : Fin 512) (e : Fin 64) :
    concatenate S8x512x64 0 [⟨⟨3, ![s, 512, 64]⟩, x⟩, ⟨⟨3, ![q, 512, 64]⟩, broadcast ⟨3, ![q, 512, 64]⟩ z⟩] hc (ix3 h a e)
      = if hh : h.val < s then x (ix3 ⟨h.val, hh⟩ a e) else 0 := by
  by_cases hh : h.val < s
  · rw [dif_pos hh]
    exact concatenate_pair_apply_left (t := S8x512x64) (s₁ := ⟨3, ![s, 512, 64]⟩) (s₂ := ⟨3, ![q, 512, 64]⟩) 0 _ _ hc (ix3 h a e) rfl
      (ix3 ⟨h.val, hh⟩ a e) (fun b => match b with | ⟨0, _⟩ => rfl | ⟨1, _⟩ => rfl | ⟨2, _⟩ => rfl)
  · rw [dif_neg hh]
    exact (concatenate_pair_apply_right (t := S8x512x64) (s₁ := ⟨3, ![s, 512, 64]⟩) (s₂ := ⟨3, ![q, 512, 64]⟩) 0 _ _ hc (ix3 h a e) rfl rfl
      (ix3 ⟨h.val - s, by omega⟩ a e) (fun b hb => match b with | ⟨0, _⟩ => absurd rfl hb | ⟨1, _⟩ => rfl | ⟨2, _⟩ => rfl)
      (by show h.val - s + s = h.val; omega)).trans hz

/-- One head in a stack of zeros. -/
theorem layer_at {p s q : Nat} (hs : s = p + 1) (hq : s + q = 8) (z : EReal) (hz : z = 0) (x : FVec Ideal S1x512x64 .f32)
    (hc : Shape.Concatenates [⟨3, ![p, 512, 64]⟩, S1x512x64] ⟨3, ![s, 512, 64]⟩ 0)
    (hc' : Shape.Concatenates [⟨3, ![s, 512, 64]⟩, ⟨3, ![q, 512, 64]⟩] S8x512x64 0) (h : Fin 8) (a : Fin 512) (e : Fin 64) :
    concatenate S8x512x64 0 [⟨⟨3, ![s, 512, 64]⟩, concatenate ⟨3, ![s, 512, 64]⟩ 0
      [⟨⟨3, ![p, 512, 64]⟩, broadcast ⟨3, ![p, 512, 64]⟩ z⟩, ⟨S1x512x64, x⟩] hc⟩, ⟨⟨3, ![q, 512, 64]⟩, broadcast ⟨3, ![q, 512, 64]⟩ z⟩] hc' (ix3 h a e)
      = if h.val = p then x (ix3 0 a e) else 0 := by
  rw [above_at hq z hz]
  split
  · rw [below_at hs z hz]
  · rw [if_neg (by omega)]

/-- The stack of all heads: each layer carries one head, the others are zero there. -/
theorem stack_at (h : Fin 8) (a : Fin 512) (e : Fin 64) :
    addf (k0_pay30 v) (k0_pay31 v) (ix3 h a e) = v (ix2 a (lane h e)) := by
  have z : (Scalar.ofBits .f32 0x00000000#32 : Ideal .f32) = (0 : EReal) := Common.ofBits_zero
  simp only [k0_pay30, k0_pay31]
  refine Eq.trans (b := (((((((if h.val = 7 then v (ix2 a (lane 7 e)) else 0) + (if h.val = 6 then v (ix2 a (lane 6 e)) else 0))
    + (if h.val = 5 then v (ix2 a (lane 5 e)) else 0)) + (if h.val = 4 then v (ix2 a (lane 4 e)) else 0))
    + (if h.val = 3 then v (ix2 a (lane 3 e)) else 0)) + (if h.val = 2 then v (ix2 a (lane 2 e)) else 0))
    + (if h.val = 1 then v (ix2 a (lane 1 e)) else 0)) + (if h.val = 0 then v (ix2 a (lane 0 e)) else 0 : EReal)) ?_ ?_
  · refine congrArg₂ (fun x y : EReal => x + y) (congrArg₂ (fun x y : EReal => x + y) (congrArg₂ (fun x y : EReal => x + y)
      (congrArg₂ (fun x y : EReal => x + y) (congrArg₂ (fun x y : EReal => x + y) (congrArg₂ (fun x y : EReal => x + y)
      (congrArg₂ (fun x y : EReal => x + y) ?_ ?_) ?_) ?_) ?_) ?_) ?_) ?_
    · exact (below_at (p := 7) rfl _ z _ _ h a e).trans (congrArg (fun x : EReal => if h.val = 7 then x else 0) (cut_at v 448 _ 7 rfl 0 a e))
    · exact (layer_at (p := 6) rfl rfl _ z _ _ _ h a e).trans (congrArg (fun x : EReal => if h.val = 6 then x else 0) (cut_at v 384 _ 6 rfl 0 a e))
    · exact (layer_at (p := 5) rfl rfl _ z _ _ _ h a e).trans (congrArg (fun x : EReal => if h.val = 5 then x else 0) (cut_at v 320 _ 5 rfl 0 a e))
    · exact (layer_at (p := 4) rfl rfl _ z _ _ _ h a e).trans (congrArg (fun x : EReal => if h.val = 4 then x else 0) (cut_at v 256 _ 4 rfl 0 a e))
    · exact (layer_at (p := 3) rfl rfl _ z _ _ _ h a e).trans (congrArg (fun x : EReal => if h.val = 3 then x else 0) (cut_at v 192 _ 3 rfl 0 a e))
    · exact (layer_at (p := 2) rfl rfl _ z _ _ _ h a e).trans (congrArg (fun x : EReal => if h.val = 2 then x else 0) (cut_at v 128 _ 2 rfl 0 a e))
    · exact (layer_at (p := 1) rfl rfl _ z _ _ _ h a e).trans (congrArg (fun x : EReal => if h.val = 1 then x else 0) (cut_at v 64 _ 1 rfl 0 a e))
    · refine (above_at (s := 1) rfl _ z _ _ h a e).trans ?_
      by_cases h0 : h.val = 0
      · rw [dif_pos (by omega), if_pos h0]; exact cut_at v 0 _ 0 rfl _ a e
      · rw [dif_neg (by omega), if_neg h0]
  · fin_cases h <;> simp

end

/-! ## The wide rows of the heads -/

section
variable (o : Vec Ideal S8x512x64 .f32) (p q : FVec Ideal S8x512x64 .f32)

/-- A lane number against another. -/
theorem lane_ne (e k : Nat) (he : e < 128) (hk : k < 128) (h : e ≠ k) : IntOp.cmpi .eq (BitVec.ofNat 32 e) (BitVec.ofNat 32 k) = 0#1 := by
  have hn : BitVec.ofNat 32 e ≠ BitVec.ofNat 32 k := fun hb => h (by
    have := congrArg BitVec.toNat hb
    simp only [BitVec.toNat_ofNat] at this
    omega)
  show BitVec.ofBool (BitVec.ofNat 32 e == BitVec.ofNat 32 k) = 0#1
  rw [beq_false_of_ne hn]; rfl

/-- The comparison of the lane numbers with a number, spread over the rows of the heads. -/
theorem mask_at (k : Nat) (hi : S1x1x128.Iotas .tc 32 [2]) (hb : S1x1x128.Broadcasts S8x512x128) (h : Fin 8) (a : Fin 512) (l : Fin 128) :
    broadcastTo S8x512x128 (cmpi .eq (iota .tc S1x1x128 32 [2] hi) (broadcast S1x1x128 (BitVec.ofNat 32 k))) hb (ix3 h a l)
      = IntOp.cmpi .eq (BitVec.ofNat 32 l.val) (BitVec.ofNat 32 k) := by
  rw [broadcastTo_apply (s := S1x1x128) (t := S8x512x128) _ hb (ix3 h a l) (ix3 0 0 l)
    (fun b => match b with | ⟨0, _⟩ => rfl | ⟨1, _⟩ => rfl | ⟨2, _⟩ => rfl)]
  show IntOp.cmpi .eq (iota .tc S1x1x128 32 [2] hi (ix3 0 0 l)) (BitVec.ofNat 32 k) = _
  rw [iota_single_apply]

/-- The first lanes carry the gradient. -/
theorem wide_at (h : Fin 8) (a : Fin 512) (e : Fin 64) :
    k0_pay32 o p q (ix3 h a ⟨e.val, by omega⟩) = addf p q (ix3 h a e) := by
  have he := e.isLt
  simp only [k0_pay32, shapeCast_self]
  show Scalar.select (broadcastTo S8x512x128 _ _ (ix3 h a ⟨e.val, by omega⟩)) _ (Scalar.select (broadcastTo S8x512x128 _ _ (ix3 h a ⟨e.val, by omega⟩)) _ _) = _
  rw [mask_at 64, mask_at 65, lane_ne _ 64 (by show e.val < 128; omega) (by omega) (by show e.val ≠ 64; omega),
    lane_ne _ 65 (by show e.val < 128; omega) (by omega) (by show e.val ≠ 65; omega)]
  exact concatenate_pair_apply_left (t := S8x512x128) (s₁ := S8x512x64) (s₂ := S8x512x64) 2 _ _
    concatenates_S8x512x64_S8x512x64_S8x512x128_d2 (ix3 h a ⟨e.val, by omega⟩) rfl (ix3 h a e)
    (fun b => match b with | ⟨0, _⟩ => rfl | ⟨1, _⟩ => rfl | ⟨2, _⟩ => rfl)

/-- A sum along the last axis of a stack. -/
theorem sum_last (x : FVec Ideal S8x512x64 .f32) (h : Fin 8) (a : Fin 512) (h1 : FKind.Formats .f32) (h2 : (0x00000000#32 : BitVec 32) = 0x00000000#32) :
    multiReduction .add [2] S8x512 x 0x00000000#32 reduces_S8x512x64_S8x512 h1 h2 (ix2 h a) = ∑ e : Fin 64, x (ix3 h a e) := by
  refine (Ideal.multiReduction_add_single x _ reduces_S8x512x64_S8x512 h1 h2 _).trans ?_
  refine Finset.sum_congr rfl fun d _ => congrArg x (funext fun b => ?_)
  match b with
  | ⟨0, _⟩ => rfl
  | ⟨1, _⟩ => rfl
  | ⟨2, _⟩ => rfl

/-- The lane behind them carries the negated sum of the gradient by the output. -/
theorem spare_at (h : Fin 8) (a : Fin 512) :
    k0_pay32 o p q (ix3 h a ⟨64, by omega⟩) = -∑ e : Fin 64, addf p q (ix3 h a e) * o (ix3 h a e) := by
  simp only [k0_pay32, shapeCast_self]
  show Scalar.select (broadcastTo S8x512x128 _ _ (ix3 h a ⟨64, by omega⟩)) (broadcastTo S8x512x128 _ _ (ix3 h a ⟨64, by omega⟩)) _ = _
  rw [mask_at 64, broadcastTo_apply (s := S8x512x1) (t := S8x512x128) _ _ (ix3 h a ⟨64, by omega⟩) (ix3 h a 0)
    (fun b => match b with | ⟨0, _⟩ => rfl | ⟨1, _⟩ => rfl | ⟨2, _⟩ => rfl)]
  show (Ideal.ofBits .bf16 0x0000#16 : EReal) - shapeCast S8x512x1 (multiReduction .add [2] S8x512 (mulf (addf p q) o) 0x00000000#32 reduces_S8x512x64_S8x512
    (.inl rfl) rfl) shapeCasts_S8x512_S8x512x1 (ix3 h a 0) = _
  rw [shapeCast_apply (s := S8x512) (t := S8x512x1) _ _ (ix3 h a 0) (ix2 h a) (by rw [Shape.rowMajor_val_two, Shape.rowMajor_val_three]; exact (Nat.mul_one _).symm),
    sum_last, show (Ideal.ofBits .bf16 0x0000#16 : EReal) = 0 from by simp [Ideal.ofBits, Ideal.ieee], zero_sub]
  rfl

end

end Cert.Proof.OutBody

end
-- ==== Proof.OutValue.lean ====
/- The arrays that the kernel for the gradients of the output projection leaves: the residual's gradient, the heads' and the
   recurrence's row by row, and the gradients of the norm's weight, of the shift, of the scale, of both gates and of the
   projection as sums over all rows. -/
module

public import proofs.«01_k».proof.Proof.OutBody
public import proofs.«01_k».proof.Proof.Gen.OutIdeal.Frame
public import Idealize.ShloMosaic.Lib.Pipeline.ValueKit.Acc

@[expose] public section

noncomputable section

namespace Cert.Proof.OutValue

open Idealize.ShloMosaic hiding ix1 ix2 ix3 eq_ix2 eq_ix3
open Cert.OutIdeal Cert.OutIdeal.Gen Idealize.ShloMosaic.TcCoe Idealize.SL.Sem Idealize.ShloMosaic.ValueIdx
open Idealize.ShloMosaic.Tactic
open Cert.Proof.NormMath Cert.Proof.OutMath Cert.Proof.OutBody
open Idealize.ShloMosaic.Pipeline (Dat)
open scoped BigOperators

/-! ## The step at each point of the grid -/

section
variable (m : (ℓ : Loc nD τ sig) → Buf (Elt Ideal) ℓ) (c : Dev nD) (t : Fin cfg0.N)

/-- The rows of the cotangent behind the modulation that a point adds up from the four parts. -/
def G : FVec Ideal S512x1024 .f32 :=
  k0_pay6 (View.ld (iblk m c 1 t) (Rect.unit ![0, 0, 0] ![1, 512, 1024] inb_S4x512x1024_S1x512x1024_0_0_0))
    (View.ld (iblk m c 1 t) (Rect.unit ![1, 0, 0] ![1, 512, 1024] inb_S4x512x1024_S1x512x1024_1_0_0))
    (View.ld (iblk m c 1 t) (Rect.unit ![2, 0, 0] ![1, 512, 1024] inb_S4x512x1024_S1x512x1024_2_0_0))
    (View.ld (iblk m c 1 t) (Rect.unit ![3, 0, 0] ![1, 512, 1024] inb_S4x512x1024_S1x512x1024_3_0_0))

/-- The rows of the norm's gradient, and the cotangent of the projection's input. -/
def N : FVec Ideal S512x1024 .f32 := k0_pay16 (G m c t) (k0_pay7 (iblk m c 2 t)) (k0_pay8 (iblk m c 3 t)) (iblk m c 4 t)
def B : FVec Ideal S512x1024 .f32 := k0_pay25 (iblk m c 0 t) (N m c t) (iblk m c 9 t) (iblk m c 8 t)

/-- The sums over rows that stay between the points: of the norm's weight, the shift, the scale and the two gates. -/
def sumOf (k : Fin 5) (n : Nat) (hn : n < cfg0.N) : FVec Ideal S1x1024 .f32 :=
  match k with
  | 0 => (outsAt0 m c n hn).2.1
  | 1 => (outsAt0 m c n hn).2.2.1
  | 2 => (outsAt0 m c n hn).2.2.2.1
  | 3 => (outsAt0 m c n hn).2.2.2.2.2.2.1
  | 4 => (outsAt0 m c n hn).2.2.2.2.2.2.2.1

/-- What a point adds to each of them. -/
def addOf (k : Fin 5) : FVec Ideal S1x1024 .f32 :=
  match k with
  | 0 => k0_pay15 (G m c t) (k0_pay7 (iblk m c 2 t)) (iblk m c 4 t)
  | 1 => k0_pay12 (G m c t)
  | 2 => k0_pay13 (G m c t) (k0_pay7 (iblk m c 2 t)) (k0_pay8 (iblk m c 3 t))
  | 3 => k0_pay24 (iblk m c 0 t) (N m c t) (iblk m c 6 t) (iblk m c 9 t) (iblk m c 7 t)
  | 4 => k0_pay4 (iblk m c 0 t) (iblk m c 5 t)

/-- The projection's sum, and what a point adds to it. -/
def accAt (n : Nat) (hn : n < cfg0.N) : FVec Ideal S1024x1024 .f32 := (outsAt0 m c n hn).2.2.2.2.2.2.2.2.2
def addAcc : FVec Ideal S1024x1024 .f32 :=
  k0_pay28 (k0_pay26 (iblk m c 6 t) (iblk m c 7 t)) (k0_pay27 (iblk m c 0 t) (N m c t) (iblk m c 8 t)) (constant S1024x1024 .f32 0x00000000#32)

/-- Every point stores its blocks of the residual's gradient, of the heads' and of the recurrence's. -/
theorem step : (outsAt0 m c t.val t.isLt).1 = k0_pay20 (iblk m c 0 t) (N m c t)
    ∧ (outsAt0 m c t.val t.isLt).2.2.2.2.1 = k0_pay32 (iblk m c 6 t) (k0_pay30 (B m c t)) (k0_pay31 (B m c t))
    ∧ (outsAt0 m c t.val t.isLt).2.2.2.2.2.1 = k0_pay29 (B m c t) := by
  have hN : t.val < 8 := lt_of_lt_of_eq t.isLt N_0
  by_cases h0 : t.val % 8 = 0
  · rw [outsAt0_A m c t h0 (by omega) h0 (by omega) h0 (by omega) h0 (by omega) (by omega)]
    frame_out
    exact ⟨rfl, rfl, rfl⟩
  by_cases h7 : t.val % 8 = 7
  · rw [outsAt0_C m c t h0 (by omega) h0 (by omega) h0 (by omega) h0 (by omega) h7]
    frame_out
    exact ⟨rfl, rfl, rfl⟩
  · rw [outsAt0_B m c t h0 (by omega) h0 (by omega) h0 (by omega) h0 (by omega) h7]
    frame_out
    exact ⟨rfl, rfl, rfl⟩

/-- The first point starts the sums. -/
theorem start (h0 : t.val % 8 = 0) (k : Fin 5) : sumOf m c k t.val t.isLt = addOf m c t k := by
  have hN : t.val < 8 := lt_of_lt_of_eq t.isLt N_0
  unfold sumOf
  rw [outsAt0_A m c t h0 (by omega) h0 (by omega) h0 (by omega) h0 (by omega) (by omega)]
  frame_out
  match k with
  | 0 => rfl
  | 1 => rfl
  | 2 => rfl
  | 3 => rfl
  | 4 => rfl

/-- The other points add to the sums. -/
theorem next (h0 : ¬t.val % 8 = 0) (k : Fin 5) :
    sumOf m c k t.val t.isLt = fun i => sumOf m c k (t.val - 1) (by omega) i + addOf m c t k i := by
  have hN : t.val < 8 := lt_of_lt_of_eq t.isLt N_0
  unfold sumOf
  by_cases h7 : t.val % 8 = 7
  · rw [outsAt0_C m c t h0 (by omega) h0 (by omega) h0 (by omega) h0 (by omega) h7]
    frame_out
    match k with
    | 0 => simp only [k0_pay17, shapeCast_self]; rfl
    | 1 => simp only [k0_pay18, shapeCast_self]; rfl
    | 2 => simp only [k0_pay19, shapeCast_self]; rfl
    | 3 => simp only [k0_pay33, shapeCast_self]; rfl
    | 4 => simp only [k0_pay5, shapeCast_self]; rfl
  · rw [outsAt0_B m c t h0 (by omega) h0 (by omega) h0 (by omega) h0 (by omega) h7]
    frame_out
    match k with
    | 0 => simp only [k0_pay17, shapeCast_self]; rfl
    | 1 => simp only [k0_pay18, shapeCast_self]; rfl
    | 2 => simp only [k0_pay19, shapeCast_self]; rfl
    | 3 => simp only [k0_pay33, shapeCast_self]; rfl
    | 4 => simp only [k0_pay5, shapeCast_self]; rfl

/-- The first point starts the sum of the projection. -/
theorem start_acc (h0 : t.val % 8 = 0) : accAt m c t.val t.isLt = addAcc m c t := by
  have hN : t.val < 8 := lt_of_lt_of_eq t.isLt N_0
  unfold accAt
  rw [outsAt0_A m c t h0 (by omega) h0 (by omega) h0 (by omega) h0 (by omega) (by omega)]
  frame_out
  exact shapeCast_self _ _

/-- The projection's new sum: the old one and what the point adds. -/
theorem grow (v a : FVec Ideal S1024x1024 .f32) : k0_pay2 v a = fun i => a i + v i := by
  simp only [k0_pay2, shapeCast_self]; rfl

/-- The other points add to the sum of the projection. -/
theorem next_acc (h0 : ¬t.val % 8 = 0) : accAt m c t.val t.isLt = fun i => accAt m c (t.val - 1) (by omega) i + addAcc m c t i := by
  have hN : t.val < 8 := lt_of_lt_of_eq t.isLt N_0
  unfold accAt
  by_cases h7 : t.val % 8 = 7
  · rw [outsAt0_C m c t h0 (by omega) h0 (by omega) h0 (by omega) h0 (by omega) h7]
    frame_out
    simp only [read_unread_whole]
    exact grow _ _
  · rw [outsAt0_B m c t h0 (by omega) h0 (by omega) h0 (by omega) h0 (by omega) h7]
    frame_out
    simp only [read_unread_whole]
    exact grow _ _

/-- The last point stores the sum of the projection. -/
theorem last_acc (h7 : t.val % 8 = 7) : (outsAt0 m c t.val t.isLt).2.2.2.2.2.2.2.2.1 = accAt m c t.val t.isLt := by
  have hN : t.val < 8 := lt_of_lt_of_eq t.isLt N_0
  unfold accAt
  rw [outsAt0_C m c t (by omega) (by omega) (by omega) (by omega) (by omega) (by omega) (by omega) (by omega) h7]
  frame_out
  rfl

end

/-! ## The blocks of the arrays -/

/-- The windows' block indices: point `t` reads and writes row block `t`, and the whole of the other arrays. -/
theorem idx_facts : ∀ t : Fin cfg0.N,
    (win0_0.index t (0 : Fin 2) = t.val ∧ win0_0.index t (1 : Fin 2) = 0)
    ∧ (win0_1.index t (0 : Fin 3) = 0 ∧ win0_1.index t (1 : Fin 3) = t.val ∧ win0_1.index t (2 : Fin 3) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 3) = 0 ∧ win0_6.index t (1 : Fin 3) = t.val ∧ win0_6.index t (2 : Fin 3) = 0)
    ∧ (win0_7.index t (0 : Fin 2) = t.val ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_15.index t (0 : Fin 2) = t.val ∧ win0_15.index t (1 : Fin 2) = 0)
    ∧ (win0_16.index t (0 : Fin 2) = 0 ∧ win0_16.index t (1 : Fin 2) = 0)
    ∧ (win0_17.index t (0 : Fin 2) = 0 ∧ win0_17.index t (1 : Fin 2) = 0)
    ∧ (win0_18.index t (0 : Fin 2) = 0 ∧ win0_18.index t (1 : Fin 2) = 0) :=
  (by decide +kernel : ∀ t : Fin grid0.N, _)

section
variable (m : (ℓ : Loc nD τ sig) → Buf (Elt Ideal) ℓ) (c : Dev nD) (t : Fin cfg0.N)

/-- The row of the arrays that a point's row is, and the point and the row in its block of a row of the arrays. -/
def at_ (t : Fin cfg0.N) (a : Fin 512) : Fin 4096 := ⟨t.val * 512 + a.val, by have : t.val < 8 := lt_of_lt_of_eq t.isLt N_0; omega⟩
def pt (r : Fin 4096) : Fin cfg0.N := ⟨r.val / 512, by rw [show cfg0.N = 8 from N_0]; omega⟩

abbrev aP : S4x4096x1024.Idx → EReal := V m c main_v32
abbrev aO : S8x4096x64.Idx → EReal := V m c main_arg1
abbrev aDy : S4096x1024.Idx → EReal := V m c main_arg11
abbrev aX : S4096x1024.Idx → EReal := V m c main_v6
abbrev aN : S1x1024.Idx → EReal := V m c main_v33
abbrev aSc : S1x1024.Idx → EReal := V m c main_arg7
abbrev aMix : S4096x1024.Idx → EReal := V m c main_v31
abbrev aY : S4096x512.Idx → EReal := V m c main_arg2
abbrev aG : S1x1024.Idx → EReal := V m c main_arg3
abbrev aW : S1024x1024.Idx → EReal := V m c main_v34

/-- A point's rows of the incoming cotangent. -/
theorem blk0 (a : Fin 512) (d : Fin 1024) : iblk m c 0 t (ix2 a d) = aDy m c (ix2 (at_ t a) d) := by
  have f := idx_facts t
  refine congrArg (aDy m c) (funext fun b => Fin.ext ?_)
  match b with
  | ⟨0, _⟩ => show win0_0.index t (0 : Fin 2) * 512 + 1 * a.val = t.val * 512 + a.val; omega
  | ⟨1, _⟩ => show win0_0.index t (1 : Fin 2) * 1024 + 1 * d.val = d.val; omega

/-- A point's rows of the residual. -/
theorem blk2 (a : Fin 512) (d : Fin 1024) : iblk m c 2 t (ix2 a d) = aX m c (ix2 (at_ t a) d) := by
  have f := idx_facts t
  refine congrArg (aX m c) (funext fun b => Fin.ext ?_)
  match b with
  | ⟨0, _⟩ => show win0_2.index t (0 : Fin 2) * 512 + 1 * a.val = t.val * 512 + a.val; omega
  | ⟨1, _⟩ => show win0_2.index t (1 : Fin 2) * 1024 + 1 * d.val = d.val; omega

/-- The norm's weight at every point. -/
theorem blk3 (a : Fin 1) (d : Fin 1024) : iblk m c 3 t (ix2 a d) = aN m c (ix2 a d) := by
  have f := idx_facts t
  refine congrArg (aN m c) (funext fun b => Fin.ext ?_)
  match b with
  | ⟨0, _⟩ => show win0_3.index t (0 : Fin 2) * 1 + 1 * a.val = a.val; omega
  | ⟨1, _⟩ => show win0_3.index t (1 : Fin 2) * 1024 + 1 * d.val = d.val; omega

/-- The scale at every point. -/
theorem blk4 (a : Fin 1) (d : Fin 1024) : iblk m c 4 t (ix2 a d) = aSc m c (ix2 a d) := by
  have f := idx_facts t
  refine congrArg (aSc m c) (funext fun b => Fin.ext ?_)
  match b with
  | ⟨0, _⟩ => show win0_4.index t (0 : Fin 2) * 1 + 1 * a.val = a.val; omega
  | ⟨1, _⟩ => show win0_4.index t (1 : Fin 2) * 1024 + 1 * d.val = d.val; omega

/-- A point's rows of the feed-forward branch. -/
theorem blk5 (a : Fin 512) (d : Fin 1024) : iblk m c 5 t (ix2 a d) = aMix m c (ix2 (at_ t a) d) := by
  have f := idx_facts t
  refine congrArg (aMix m c) (funext fun b => Fin.ext ?_)
  match b with
  | ⟨0, _⟩ => show win0_5.index t (0 : Fin 2) * 512 + 1 * a.val = t.val * 512 + a.val; omega
  | ⟨1, _⟩ => show win0_5.index t (1 : Fin 2) * 1024 + 1 * d.val = d.val; omega

/-- A point's rows of the recurrence's output. -/
theorem blk7 (a : Fin 512) (d : Fin 512) : iblk m c 7 t (ix2 a d) = aY m c (ix2 (at_ t a) d) := by
  have f := idx_facts t
  refine congrArg (aY m c) (funext fun b => Fin.ext ?_)
  match b with
  | ⟨0, _⟩ => show win0_7.index t (0 : Fin 2) * 512 + 1 * a.val = t.val * 512 + a.val; omega
  | ⟨1, _⟩ => show win0_7.index t (1 : Fin 2) * 512 + 1 * d.val = d.val; omega

/-- The gate at every point. -/
theorem blk8 (a : Fin 1) (d : Fin 1024) : iblk m c 8 t (ix2 a d) = aG m c (ix2 a d) := by
  have f := idx_facts t
  refine congrArg (aG m c) (funext fun b => Fin.ext ?_)
  match b with
  | ⟨0, _⟩ => show win0_8.index t (0 : Fin 2) * 1 + 1 * a.val = a.val; omega
  | ⟨1, _⟩ => show win0_8.index t (1 : Fin 2) * 1024 + 1 * d.val = d.val; omega

/-- The projection at every point. -/
theorem blk9 (a : Fin 1024) (d : Fin 1024) : iblk m c 9 t (ix2 a d) = aW m c (ix2 a d) := by
  have f := idx_facts t
  refine congrArg (aW m c) (funext fun b => Fin.ext ?_)
  match b with
  | ⟨0, _⟩ => show win0_9.index t (0 : Fin 2) * 1024 + 1 * a.val = a.val; omega
  | ⟨1, _⟩ => show win0_9.index t (1 : Fin 2) * 1024 + 1 * d.val = d.val; omega

/-- A point's rows of the heads. -/
theorem blk6 (h : Fin 8) (a : Fin 512) (e : Fin 64) : iblk m c 6 t (ix3 h a e) = aO m c (ix3 h (at_ t a) e) := by
  have f := idx_facts t
  refine congrArg (aO m c) (funext fun b => Fin.ext ?_)
  match b with
  | ⟨0, _⟩ => show win0_6.index t (0 : Fin 3) * 8 + 1 * h.val = h.val; omega
  | ⟨1, _⟩ => show win0_6.index t (1 : Fin 3) * 512 + 1 * a.val = t.val * 512 + a.val; omega
  | ⟨2, _⟩ => show win0_6.index t (2 : Fin 3) * 64 + 1 * e.val = e.val; omega

/-- A point's rows of one part of the cotangent behind the modulation. -/
theorem blk1 (p : Fin 4) (hr : ∀ b, (![p.val, 0, 0] : Fin 3 → Nat) b + S1x512x1024.size b ≤ S4x512x1024.size b) (a : Fin 512) (d : Fin 1024) :
    View.ld (iblk m c 1 t) (Rect.unit ![p.val, 0, 0] ![1, 512, 1024] hr) (ix3 0 a d) = aP m c (ix3 p (at_ t a) d) := by
  have f := idx_facts t
  refine congrArg (aP m c) (funext fun b => Fin.ext ?_)
  match b with
  | ⟨0, _⟩ => show win0_1.index t (0 : Fin 3) * 4 + 1 * (p.val + 1 * 0) = p.val; omega
  | ⟨1, _⟩ => show win0_1.index t (1 : Fin 3) * 512 + 1 * (0 + 1 * a.val) = t.val * 512 + a.val; omega
  | ⟨2, _⟩ => show win0_1.index t (2 : Fin 3) * 1024 + 1 * (0 + 1 * d.val) = d.val; omega

/-- A row of the cotangent behind the modulation, of the residual's gradient, and of the projection's input. -/
def dh (r : Fin 4096) : Fin 1024 → EReal := four fun p d => aP m c (ix3 p r d)
def top (r : Fin 4096) : Fin 1024 → EReal :=
  total (row (aX m c) r) (row (aN m c) 0) (row (aSc m c) 0) (dh m c r) (row (aDy m c) r)
def input (r : Fin 4096) : Fin 1024 → EReal := joined (heads (aO m c) r) (row (aY m c) r)

/-- The cotangent of a row of the projection's input. -/
def back (r : Fin 4096) : Fin 1024 → EReal := before (row (aW m c)) (gated (row (aG m c) 0) (top m c r))

/-- What a row adds to the sums. -/
def term (k : Fin 5) (d : Fin 1024) (r : Fin 4096) : EReal :=
  match k with
  | 0 => hat (row (aX m c) r) d * dmod (row (aSc m c) 0) (dh m c r) d
  | 1 => dh m c r d
  | 2 => normed (row (aX m c) r) (row (aN m c) 0) d * dh m c r d
  | 3 => top m c r d * projected (row (aW m c)) (input m c r) d
  | 4 => aDy m c (ix2 r d) * aMix m c (ix2 r d)
def termAcc (n d : Fin 1024) (r : Fin 4096) : EReal := input m c r n * gated (row (aG m c) 0) (top m c r) d

/-- The rows of the blocks are rows of the arrays. -/
theorem rowG (a : Fin 512) : row (G m c t) a = dh m c (at_ t a) := by
  funext d
  show G m c t (ix2 a d) = _
  unfold G
  rw [parts_at]
  exact congrArg₂ (fun x y : EReal => x + y) (congrArg₂ (fun x y : EReal => x + y) (congrArg₂ (fun x y : EReal => x + y)
    (blk1 m c t 0 _ a d) (blk1 m c t 1 _ a d)) (blk1 m c t 2 _ a d)) (blk1 m c t 3 _ a d)
/-- The residual's rows. -/
theorem rowX (a : Fin 512) : row (k0_pay7 (iblk m c 2 t)) a = row (aX m c) (at_ t a) := by
  simp only [k0_pay7, shapeCast_self]
  exact funext fun d => blk2 m c t a d
/-- The norm's weight as a row. -/
theorem rowN : row (k0_pay8 (iblk m c 3 t)) (0 : Fin 1) = row (aN m c) 0 := by
  simp only [k0_pay8, shapeCast_self]
  exact funext fun d => blk3 m c t 0 d
/-- The scale as a row. -/
theorem rowSc : row (iblk m c 4 t) (0 : Fin 1) = row (aSc m c) 0 := funext fun d => blk4 m c t 0 d
/-- The gate as a row. -/
theorem rowGate : row (iblk m c 8 t) (0 : Fin 1) = row (aG m c) 0 := funext fun d => blk8 m c t 0 d
/-- The projection's rows. -/
theorem rowW : row (iblk m c 9 t) = row (aW m c) := funext fun n => funext fun d => blk9 m c t n d
/-- The projection's input. -/
theorem rowIn (a : Fin 512) : joined (heads (iblk m c 6 t) a) (row (iblk m c 7 t) a) = input m c (at_ t a) :=
  congrArg₂ joined (funext fun h => funext fun e => blk6 m c t h a e) (funext fun k => blk7 m c t a k)

/-- The incoming cotangent's rows, as a matrix. -/
abbrev Dy : FVec Ideal S512x1024 .f32 := iblk m c 0 t

/-- The residual's gradient in a point's rows. -/
theorem top_at (a : Fin 512) : (fun d => Dy m c t (ix2 a d) + N m c t (ix2 a d)) = top m c (at_ t a) := by
  funext d
  refine congrArg₂ (fun x y : EReal => x + y) (blk0 m c t a d) ?_
  unfold N
  rw [norm_at, rowX, rowN, rowSc, rowG]

/-- The cotangent of the projection's input in a point's rows. -/
theorem back_at (a : Fin 512) (n : Fin 1024) : B m c t (ix2 a n) = back m c (at_ t a) n := by
  unfold B
  rw [before_at, rowW, rowGate, top_at]
  rfl

/-- A point's block of the residual's gradient. -/
theorem val_x (a : Fin 512) (d : Fin 1024) : (outsAt0 m c t.val t.isLt).1 (ix2 a d) = top m c (at_ t a) d := by
  rw [(step m c t).1]
  exact congrFun (top_at m c t a) d

/-- A point's block of the heads' gradient. -/
theorem val_o (h : Fin 8) (a : Fin 512) (e : Fin 64) :
    (outsAt0 m c t.val t.isLt).2.2.2.2.1 (ix3 h a ⟨e.val, by omega⟩) = back m c (at_ t a) (lane h e) := by
  rw [(step m c t).2.1, wide_at, stack_at, back_at]

/-- The lane behind it: the negated sum of the heads' gradient by the heads. -/
theorem val_spare (h : Fin 8) (a : Fin 512) : (outsAt0 m c t.val t.isLt).2.2.2.2.1 (ix3 h a ⟨64, by omega⟩)
    = -∑ e : Fin 64, back m c (at_ t a) (lane h e) * aO m c (ix3 h (at_ t a) e) := by
  rw [(step m c t).2.1, spare_at]
  refine congrArg (fun s : EReal => -s) (Finset.sum_congr rfl fun e _ => ?_)
  rw [stack_at, back_at, blk6]

/-- A point's block of the recurrence's gradient. -/
theorem val_y (a : Fin 512) (k : Fin 512) : (outsAt0 m c t.val t.isLt).2.2.2.2.2.1 (ix2 a k) = back m c (at_ t a) (late k) := by
  rw [(step m c t).2.2, late_at, back_at]

/-- What a point adds to the sums. -/
theorem val_add (k : Fin 5) (d : Fin 1024) : addOf m c t k (ix2 0 d) = ∑ a : Fin 512, term m c k d (at_ t a) := by
  match k with
  | 0 => exact (weight_at _ _ _ d).trans (Finset.sum_congr rfl fun a _ => by rw [rowX, rowSc, rowG]; rfl)
  | 1 => exact (shift_at _ d).trans (Finset.sum_congr rfl fun a _ => congrFun (rowG m c t a) d)
  | 2 =>
    refine (gain_at _ _ _ d).trans (Finset.sum_congr rfl fun a _ => ?_)
    rw [rowX, rowN]
    exact congrArg (_ * ·) (congrFun (rowG m c t a) d)
  | 3 =>
    refine (gate_at _ _ _ _ _ d).trans (Finset.sum_congr rfl fun a _ => ?_)
    rw [rowIn, rowW]
    exact congrArg (· * _) (congrFun (top_at m c t a) d)
  | 4 => exact (mixed_at _ _ d).trans (Finset.sum_congr rfl fun a _ => by rw [blk0, blk5]; rfl)

/-- What a point adds for the projection. -/
theorem val_acc (n d : Fin 1024) : addAcc m c t (ix2 n d) = ∑ a : Fin 512, termAcc m c n d (at_ t a) := by
  unfold addAcc
  rw [weights_at]
  exact Finset.sum_congr rfl fun a _ => by rw [rowIn, rowGate, top_at]; rfl

/-- Eight blocks of 512 rows are all rows. -/
theorem sum_rows (h7 : t.val % 8 = 7) (F : Fin 4096 → EReal) :
    ∑ s : Fin 8, ∑ a : Fin 512, F (at_ ⟨8 * (t.val / 8) + s.val, by have := t.isLt; omega⟩ a) = ∑ r : Fin 4096, F r := by
  have hN : t.val < 8 := lt_of_lt_of_eq t.isLt N_0
  rw [← Fin.sum_mul_add_fin 8 512 F]
  refine Finset.sum_congr rfl fun s _ => Finset.sum_congr rfl fun a _ => congrArg F (Fin.ext ?_)
  show (8 * (t.val / 8) + s.val) * 512 + a.val = s.val * 512 + a.val
  omega

/-- The sums at the last point. -/
theorem total_sum (h7 : t.val % 8 = 7) (k : Fin 5) (a : Fin 1) (d : Fin 1024) : sumOf m c k t.val t.isLt (ix2 a d) = ∑ r, term m c k d r := by
  rw [Fin.eq_zero a]
  have h := Pipeline.eq_sum_fin_of_reset_step_apply_of_flush (M := EReal) (fun n hn => sumOf m c k n hn) 8 (fun _ => 0) (fun t => addOf m c t k)
    (fun t h0 i => by rw [zero_add]; exact congrFun (start m c t h0 k) i) (fun t h0 i => congrFun (next m c t h0 k) i) t h7 (ix2 0 d)
  refine h.trans ?_
  rw [zero_add]
  exact (Finset.sum_congr rfl fun s _ => val_add m c _ k d).trans (sum_rows t h7 (term m c k d))

/-- The sum of the projection at the last point. -/
theorem total_acc (h7 : t.val % 8 = 7) (n d : Fin 1024) : accAt m c t.val t.isLt (ix2 n d) = ∑ r, termAcc m c n d r := by
  have h := Pipeline.eq_sum_fin_of_reset_step_apply_of_flush (M := EReal) (fun n hn => accAt m c n hn) 8 (fun _ => 0) (fun t => addAcc m c t)
    (fun t h0 i => by rw [zero_add]; exact congrFun (start_acc m c t h0) i) (fun t h0 i => congrFun (next_acc m c t h0) i) t h7 (ix2 n d)
  refine h.trans ?_
  rw [zero_add]
  exact (Finset.sum_congr rfl fun s _ => val_acc m c _ n d).trans (sum_rows t h7 (termAcc m c n d))

end

/-! ## The arrays at the end -/

section
variable (m : (ℓ : Loc nD τ sig) → Buf (Elt Ideal) ℓ) (c : Dev nD)

/-- The residual's gradient at the end. -/
theorem final10 : (dats m 0 c).arrAt 10 cfg0.N = fun i => top m c (i 0) (i 1) := by
  refine (dats m 0 c).arrAt_eq_of_cover 10 _ (fun t _ => ?_) fun i => ?_
  · have f := idx_facts t
    funext j
    obtain ⟨a, d, rfl⟩ : ∃ (a : Fin 512) (d : Fin 1024), j = ix2 a d := ⟨j 0, j 1, eq_ix2 j⟩
    show (dats m 0 c).after 10 t (ix2 a d) = top m c ((win0_10.blk t).view.emb (ix2 a d) (0 : Fin 2)) ((win0_10.blk t).view.emb (ix2 a d) (1 : Fin 2))
    rw [after0_10, val_x,
      show (win0_10.blk t).view.emb (ix2 a d) (0 : Fin 2) = at_ t a from Fin.ext (by
        show win0_10.index t (0 : Fin 2) * 512 + 1 * a.val = t.val * 512 + a.val; omega),
      show (win0_10.blk t).view.emb (ix2 a d) (1 : Fin 2) = d from Fin.ext (by
        show win0_10.index t (1 : Fin 2) * 1024 + 1 * d.val = d.val; omega)]
  · have h0 : (i 0 : Nat) < 4096 := (i 0).isLt
    have h1 : (i 1 : Nat) < 1024 := (i 1).isLt
    have f := idx_facts (pt (i 0))
    have e : (pt (i 0)).val = (i 0 : Nat) / 512 := rfl
    refine ⟨pt (i 0), flush0_10 _, ?_⟩
    show i ∈ ((View.whole main_v35_0).slice (win0_10.rect (pt (i 0)))).set
    rw [View.set_slice_whole, Rect.mem_set_unit]
    intro b
    match b with
    | ⟨0, _⟩ => show win0_10.index (pt (i 0)) (0 : Fin 2) * 512 ≤ (i 0 : Nat) ∧ (i 0 : Nat) < win0_10.index (pt (i 0)) (0 : Fin 2) * 512 + 512; omega
    | ⟨1, _⟩ => show win0_10.index (pt (i 0)) (1 : Fin 2) * 1024 ≤ (i 1 : Nat) ∧ (i 1 : Nat) < win0_10.index (pt (i 0)) (1 : Fin 2) * 1024 + 1024; omega

/-- The gradient of the recurrence's output at the end. -/
theorem final15 : (dats m 0 c).arrAt 15 cfg0.N = fun i => back m c (i 0) (late (i 1)) := by
  refine (dats m 0 c).arrAt_eq_of_cover 15 _ (fun t _ => ?_) fun i => ?_
  · have f := idx_facts t
    funext j
    obtain ⟨a, d, rfl⟩ : ∃ (a : Fin 512) (d : Fin 512), j = ix2 a d := ⟨j 0, j 1, eq_ix2 j⟩
    show (dats m 0 c).after 15 t (ix2 a d) = back m c ((win0_15.blk t).view.emb (ix2 a d) (0 : Fin 2)) (late ((win0_15.blk t).view.emb (ix2 a d) (1 : Fin 2)))
    rw [after0_15, val_y,
      show (win0_15.blk t).view.emb (ix2 a d) (0 : Fin 2) = at_ t a from Fin.ext (by
        show win0_15.index t (0 : Fin 2) * 512 + 1 * a.val = t.val * 512 + a.val; omega),
      show (win0_15.blk t).view.emb (ix2 a d) (1 : Fin 2) = d from Fin.ext (by
        show win0_15.index t (1 : Fin 2) * 512 + 1 * d.val = d.val; omega)]
  · have h0 : (i 0 : Nat) < 4096 := (i 0).isLt
    have h1 : (i 1 : Nat) < 512 := (i 1).isLt
    have f := idx_facts (pt (i 0))
    have e : (pt (i 0)).val = (i 0 : Nat) / 512 := rfl
    refine ⟨pt (i 0), flush0_15 _, ?_⟩
    show i ∈ ((View.whole main_v35_5).slice (win0_15.rect (pt (i 0)))).set
    rw [View.set_slice_whole, Rect.mem_set_unit]
    intro b
    match b with
    | ⟨0, _⟩ => show win0_15.index (pt (i 0)) (0 : Fin 2) * 512 ≤ (i 0 : Nat) ∧ (i 0 : Nat) < win0_15.index (pt (i 0)) (0 : Fin 2) * 512 + 512; omega
    | ⟨1, _⟩ => show win0_15.index (pt (i 0)) (1 : Fin 2) * 512 ≤ (i 1 : Nat) ∧ (i 1 : Nat) < win0_15.index (pt (i 0)) (1 : Fin 2) * 512 + 512; omega

/-- A point's block of the heads' gradient with all lanes. -/
def lanes (t : Fin cfg0.N) : S8x512x128.Idx → EReal := (outsAt0 m c t.val t.isLt).2.2.2.2.1

/-- A row of the heads' gradient with the lane behind it; the other lanes are not of interest. -/
def wide (h : Fin 8) (r : Fin 4096) (l : Fin 128) : EReal :=
  if hl : l.val < 64 then back m c r (lane h ⟨l.val, hl⟩)
  else if l.val = 64 then -∑ e : Fin 64, back m c r (lane h e) * aO m c (ix3 h r e)
  else lanes m c (pt r) (ix3 h ⟨r.val % 512, by omega⟩ l)

/-- A point's block of these rows. -/
theorem val_wide (t : Fin cfg0.N) (h : Fin 8) (a : Fin 512) (l : Fin 128) :
    (outsAt0 m c t.val t.isLt).2.2.2.2.1 (ix3 h a l) = wide m c h (at_ t a) l := by
  unfold wide
  split
  · rename_i hl
    exact val_o m c t h a ⟨l.val, hl⟩
  · split
    · rename_i hl
      rw [show l = ⟨64, by omega⟩ from Fin.ext hl]
      exact val_spare m c t h a
    · rw [show pt (at_ t a) = t from Fin.ext (by show (t.val * 512 + a.val) / 512 = t.val; omega)]
      refine congrArg (fun b => lanes m c t (ix3 h b l)) (Fin.ext ?_)
      show a.val = (t.val * 512 + a.val) % 512
      omega

/-- The block indices of the heads' gradient. -/
theorem idx_14 : ∀ t : Fin cfg0.N, win0_14.index t (0 : Fin 3) = 0 ∧ win0_14.index t (1 : Fin 3) = t.val ∧ win0_14.index t (2 : Fin 3) = 0 :=
  (by decide +kernel : ∀ t : Fin grid0.N, _)

/-- The heads' gradient with the lanes behind it at the end. -/
theorem final14 : (dats m 0 c).arrAt 14 cfg0.N = fun i => wide m c (i 0) (i 1) (i 2) := by
  refine (dats m 0 c).arrAt_eq_of_cover 14 _ (fun t _ => ?_) fun i => ?_
  · have f := idx_14 t
    funext j
    obtain ⟨h, a, l, rfl⟩ : ∃ (h : Fin 8) (a : Fin 512) (l : Fin 128), j = ix3 h a l := ⟨j 0, j 1, j 2, eq_ix3 j⟩
    show (dats m 0 c).after 14 t (ix3 h a l) = wide m c ((win0_14.blk t).view.emb (ix3 h a l) (0 : Fin 3))
      ((win0_14.blk t).view.emb (ix3 h a l) (1 : Fin 3)) ((win0_14.blk t).view.emb (ix3 h a l) (2 : Fin 3))
    rw [after0_14, val_wide,
      show (win0_14.blk t).view.emb (ix3 h a l) (0 : Fin 3) = h from Fin.ext (by
        show win0_14.index t (0 : Fin 3) * 8 + 1 * h.val = h.val; omega),
      show (win0_14.blk t).view.emb (ix3 h a l) (1 : Fin 3) = at_ t a from Fin.ext (by
        show win0_14.index t (1 : Fin 3) * 512 + 1 * a.val = t.val * 512 + a.val; omega),
      show (win0_14.blk t).view.emb (ix3 h a l) (2 : Fin 3) = l from Fin.ext (by
        show win0_14.index t (2 : Fin 3) * 128 + 1 * l.val = l.val; omega)]
  · have h0 : (i 0 : Nat) < 8 := (i 0).isLt
    have h1 : (i 1 : Nat) < 4096 := (i 1).isLt
    have h2 : (i 2 : Nat) < 128 := (i 2).isLt
    obtain ⟨t, ht⟩ : ∃ t : Fin cfg0.N, t.val = (i 1 : Nat) / 512 := ⟨pt (i 1), rfl⟩
    obtain ⟨f0, f1, f2⟩ := idx_14 t
    refine ⟨t, flush0_14 _, ?_⟩
    show i ∈ ((View.whole main_v35_4).slice (win0_14.rect t)).set
    rw [View.set_slice_whole, Rect.mem_set_unit]
    intro b
    match b with
    | ⟨0, _⟩ => show win0_14.index t (0 : Fin 3) * 8 ≤ (i 0 : Nat) ∧ (i 0 : Nat) < win0_14.index t (0 : Fin 3) * 8 + 8; omega
    | ⟨1, _⟩ => show win0_14.index t (1 : Fin 3) * 512 ≤ (i 1 : Nat) ∧ (i 1 : Nat) < win0_14.index t (1 : Fin 3) * 512 + 512; omega
    | ⟨2, _⟩ => show win0_14.index t (2 : Fin 3) * 128 ≤ (i 2 : Nat) ∧ (i 2 : Nat) < win0_14.index t (2 : Fin 3) * 128 + 128; omega

/-- The last point. -/
theorem last_pt : ∃ t : Fin cfg0.N, t.val = 7 := ⟨⟨7, by rw [show cfg0.N = 8 from N_0]; omega⟩, rfl⟩

/-- The gradient of the norm's weight at the end. -/
theorem final11 : (dats m 0 c).arrAt 11 cfg0.N = fun i => ∑ r, term m c 0 (i 1) r := by
  refine (dats m 0 c).arrAt_eq_of_cover 11 _ (fun t ht => ?_) fun i => ?_
  · have f := idx_facts t
    funext j
    obtain ⟨a, d, rfl⟩ : ∃ (a : Fin 1) (d : Fin 1024), j = ix2 a d := ⟨j 0, j 1, eq_ix2 j⟩
    show (dats m 0 c).after 11 t (ix2 a d) = ∑ r, term m c 0 ((win0_11.blk t).view.emb (ix2 a d) (1 : Fin 2)) r
    rw [after0_11, show (win0_11.blk t).view.emb (ix2 a d) (1 : Fin 2) = d from Fin.ext (by
      show win0_11.index t (1 : Fin 2) * 1024 + 1 * d.val = d.val; omega)]
    exact total_sum m c t ((flush0_11 t).mp ht) 0 a d
  · have h0 : (i 0 : Nat) < 1 := (i 0).isLt
    have h1 : (i 1 : Nat) < 1024 := (i 1).isLt
    obtain ⟨t, ht⟩ := last_pt
    have f := idx_facts t
    refine ⟨t, (flush0_11 t).mpr (by omega), ?_⟩
    show i ∈ ((View.whole main_v35_1).slice (win0_11.rect t)).set
    rw [View.set_slice_whole, Rect.mem_set_unit]
    intro b
    match b with
    | ⟨0, _⟩ => show win0_11.index t (0 : Fin 2) * 1 ≤ (i 0 : Nat) ∧ (i 0 : Nat) < win0_11.index t (0 : Fin 2) * 1 + 1; omega
    | ⟨1, _⟩ => show win0_11.index t (1 : Fin 2) * 1024 ≤ (i 1 : Nat) ∧ (i 1 : Nat) < win0_11.index t (1 : Fin 2) * 1024 + 1024; omega

/-- The gradient of the shift at the end. -/
theorem final12 : (dats m 0 c).arrAt 12 cfg0.N = fun i => ∑ r, term m c 1 (i 1) r := by
  refine (dats m 0 c).arrAt_eq_of_cover 12 _ (fun t ht => ?_) fun i => ?_
  · have f := idx_facts t
    funext j
    obtain ⟨a, d, rfl⟩ : ∃ (a : Fin 1) (d : Fin 1024), j = ix2 a d := ⟨j 0, j 1, eq_ix2 j⟩
    show (dats m 0 c).after 12 t (ix2 a d) = ∑ r, term m c 1 ((win0_12.blk t).view.emb (ix2 a d) (1 : Fin 2)) r
    rw [after0_12, show (win0_12.blk t).view.emb (ix2 a d) (1 : Fin 2) = d from Fin.ext (by
      show win0_12.index t (1 : Fin 2) * 1024 + 1 * d.val = d.val; omega)]
    exact total_sum m c t ((flush0_12 t).mp ht) 1 a d
  · have h0 : (i 0 : Nat) < 1 := (i 0).isLt
    have h1 : (i 1 : Nat) < 1024 := (i 1).isLt
    obtain ⟨t, ht⟩ := last_pt
    have f := idx_facts t
    refine ⟨t, (flush0_12 t).mpr (by omega), ?_⟩
    show i ∈ ((View.whole main_v35_2).slice (win0_12.rect t)).set
    rw [View.set_slice_whole, Rect.mem_set_unit]
    intro b
    match b with
    | ⟨0, _⟩ => show win0_12.index t (0 : Fin 2) * 1 ≤ (i 0 : Nat) ∧ (i 0 : Nat) < win0_12.index t (0 : Fin 2) * 1 + 1; omega
    | ⟨1, _⟩ => show win0_12.index t (1 : Fin 2) * 1024 ≤ (i 1 : Nat) ∧ (i 1 : Nat) < win0_12.index t (1 : Fin 2) * 1024 + 1024; omega

/-- The gradient of the scale at the end. -/
theorem final13 : (dats m 0 c).arrAt 13 cfg0.N = fun i => ∑ r, term m c 2 (i 1) r := by
  refine (dats m 0 c).arrAt_eq_of_cover 13 _ (fun t ht => ?_) fun i => ?_
  · have f := idx_facts t
    funext j
    obtain ⟨a, d, rfl⟩ : ∃ (a : Fin 1) (d : Fin 1024), j = ix2 a d := ⟨j 0, j 1, eq_ix2 j⟩
    show (dats m 0 c).after 13 t (ix2 a d) = ∑ r, term m c 2 ((win0_13.blk t).view.emb (ix2 a d) (1 : Fin 2)) r
    rw [after0_13, show (win0_13.blk t).view.emb (ix2 a d) (1 : Fin 2) = d from Fin.ext (by
      show win0_13.index t (1 : Fin 2) * 1024 + 1 * d.val = d.val; omega)]
    exact total_sum m c t ((flush0_13 t).mp ht) 2 a d
  · have h0 : (i 0 : Nat) < 1 := (i 0).isLt
    have h1 : (i 1 : Nat) < 1024 := (i 1).isLt
    obtain ⟨t, ht⟩ := last_pt
    have f := idx_facts t
    refine ⟨t, (flush0_13 t).mpr (by omega), ?_⟩
    show i ∈ ((View.whole main_v35_3).slice (win0_13.rect t)).set
    rw [View.set_slice_whole, Rect.mem_set_unit]
    intro b
    match b with
    | ⟨0, _⟩ => show win0_13.index t (0 : Fin 2) * 1 ≤ (i 0 : Nat) ∧ (i 0 : Nat) < win0_13.index t (0 : Fin 2) * 1 + 1; omega
    | ⟨1, _⟩ => show win0_13.index t (1 : Fin 2) * 1024 ≤ (i 1 : Nat) ∧ (i 1 : Nat) < win0_13.index t (1 : Fin 2) * 1024 + 1024; omega

/-- The gradient of the attention's gate at the end. -/
theorem final16 : (dats m 0 c).arrAt 16 cfg0.N = fun i => ∑ r, term m c 3 (i 1) r := by
  refine (dats m 0 c).arrAt_eq_of_cover 16 _ (fun t ht => ?_) fun i => ?_
  · have f := idx_facts t
    funext j
    obtain ⟨a, d, rfl⟩ : ∃ (a : Fin 1) (d : Fin 1024), j = ix2 a d := ⟨j 0, j 1, eq_ix2 j⟩
    show (dats m 0 c).after 16 t (ix2 a d) = ∑ r, term m c 3 ((win0_16.blk t).view.emb (ix2 a d) (1 : Fin 2)) r
    rw [after0_16, show (win0_16.blk t).view.emb (ix2 a d) (1 : Fin 2) = d from Fin.ext (by
      show win0_16.index t (1 : Fin 2) * 1024 + 1 * d.val = d.val; omega)]
    exact total_sum m c t ((flush0_16 t).mp ht) 3 a d
  · have h0 : (i 0 : Nat) < 1 := (i 0).isLt
    have h1 : (i 1 : Nat) < 1024 := (i 1).isLt
    obtain ⟨t, ht⟩ := last_pt
    have f := idx_facts t
    refine ⟨t, (flush0_16 t).mpr (by omega), ?_⟩
    show i ∈ ((View.whole main_v35_6).slice (win0_16.rect t)).set
    rw [View.set_slice_whole, Rect.mem_set_unit]
    intro b
    match b with
    | ⟨0, _⟩ => show win0_16.index t (0 : Fin 2) * 1 ≤ (i 0 : Nat) ∧ (i 0 : Nat) < win0_16.index t (0 : Fin 2) * 1 + 1; omega
    | ⟨1, _⟩ => show win0_16.index t (1 : Fin 2) * 1024 ≤ (i 1 : Nat) ∧ (i 1 : Nat) < win0_16.index t (1 : Fin 2) * 1024 + 1024; omega

/-- The gradient of the feed-forward branch's gate at the end. -/
theorem final17 : (dats m 0 c).arrAt 17 cfg0.N = fun i => ∑ r, term m c 4 (i 1) r := by
  refine (dats m 0 c).arrAt_eq_of_cover 17 _ (fun t ht => ?_) fun i => ?_
  · have f := idx_facts t
    funext j
    obtain ⟨a, d, rfl⟩ : ∃ (a : Fin 1) (d : Fin 1024), j = ix2 a d := ⟨j 0, j 1, eq_ix2 j⟩
    show (dats m 0 c).after 17 t (ix2 a d) = ∑ r, term m c 4 ((win0_17.blk t).view.emb (ix2 a d) (1 : Fin 2)) r
    rw [after0_17, show (win0_17.blk t).view.emb (ix2 a d) (1 : Fin 2) = d from Fin.ext (by
      show win0_17.index t (1 : Fin 2) * 1024 + 1 * d.val = d.val; omega)]
    exact total_sum m c t ((flush0_17 t).mp ht) 4 a d
  · have h0 : (i 0 : Nat) < 1 := (i 0).isLt
    have h1 : (i 1 : Nat) < 1024 := (i 1).isLt
    obtain ⟨t, ht⟩ := last_pt
    have f := idx_facts t
    refine ⟨t, (flush0_17 t).mpr (by omega), ?_⟩
    show i ∈ ((View.whole main_v35_7).slice (win0_17.rect t)).set
    rw [View.set_slice_whole, Rect.mem_set_unit]
    intro b
    match b with
    | ⟨0, _⟩ => show win0_17.index t (0 : Fin 2) * 1 ≤ (i 0 : Nat) ∧ (i 0 : Nat) < win0_17.index t (0 : Fin 2) * 1 + 1; omega
    | ⟨1, _⟩ => show win0_17.index t (1 : Fin 2) * 1024 ≤ (i 1 : Nat) ∧ (i 1 : Nat) < win0_17.index t (1 : Fin 2) * 1024 + 1024; omega

/-- The projection's gradient at the end. -/
theorem final18 : (dats m 0 c).arrAt 18 cfg0.N = fun i => ∑ r, termAcc m c (i 0) (i 1) r := by
  refine (dats m 0 c).arrAt_eq_of_cover 18 _ (fun t ht => ?_) fun i => ?_
  · have f := idx_facts t
    have h7 := (flush0_18 t).mp ht
    funext j
    obtain ⟨a, d, rfl⟩ : ∃ (a d : Fin 1024), j = ix2 a d := ⟨j 0, j 1, eq_ix2 j⟩
    show (dats m 0 c).after 18 t (ix2 a d) = ∑ r, termAcc m c ((win0_18.blk t).view.emb (ix2 a d) (0 : Fin 2)) ((win0_18.blk t).view.emb (ix2 a d) (1 : Fin 2)) r
    rw [after0_18, last_acc m c t h7,
      show (win0_18.blk t).view.emb (ix2 a d) (0 : Fin 2) = a from Fin.ext (by
        show win0_18.index t (0 : Fin 2) * 1024 + 1 * a.val = a.val; omega),
      show (win0_18.blk t).view.emb (ix2 a d) (1 : Fin 2) = d from Fin.ext (by
        show win0_18.index t (1 : Fin 2) * 1024 + 1 * d.val = d.val; omega)]
    exact total_acc m c t h7 a d
  · have h0 : (i 0 : Nat) < 1024 := (i 0).isLt
    have h1 : (i 1 : Nat) < 1024 := (i 1).isLt
    obtain ⟨t, ht⟩ := last_pt
    have f := idx_facts t
    refine ⟨t, (flush0_18 t).mpr (by omega), ?_⟩
    show i ∈ ((View.whole main_v35_8).slice (win0_18.rect t)).set
    rw [View.set_slice_whole, Rect.mem_set_unit]
    intro b
    match b with
    | ⟨0, _⟩ => show win0_18.index t (0 : Fin 2) * 1024 ≤ (i 0 : Nat) ∧ (i 0 : Nat) < win0_18.index t (0 : Fin 2) * 1024 + 1024; omega
    | ⟨1, _⟩ => show win0_18.index t (1 : Fin 2) * 1024 ≤ (i 1 : Nat) ∧ (i 1 : Nat) < win0_18.index t (1 : Fin 2) * 1024 + 1024; omega

end

end Cert.Proof.OutValue

end
-- ==== Proof.OutRef.lean ====
/- The reference of the output projection's gradients, at an index: the same formulas of a row as the kernel's. The rows of the
   residual and of the feed-forward branch are kept as the lines of the forward step that compute them. -/
module

public import proofs.«01_k».proof.Proof.OutMath
public import proofs.«01_k».proof.Proof.Gen.OutRefIdeal.Read

@[expose] public section

noncomputable section

namespace Cert.Proof.OutRef

open Idealize.ShloMosaic
open Cert.OutRefIdeal Cert.OutRefIdeal.Read Idealize.ShloMosaic.ValueIdx
open Cert.Proof.NormMath Cert.Proof.OutMath
open scoped BigOperators

section
variable (x0 : S4096x1024.Idx → EReal) (x1 : S8x4096x64.Idx → EReal) (x2 : S4096x512.Idx → EReal) (x3 : S1x1024.Idx → EReal)
  (x4 : S1024x1024.Idx → EReal) (x5 : S1024.Idx → EReal) (x6 x7 x8 : S1x1024.Idx → EReal) (x9 : S1024x5632.Idx → EReal)
  (x10 : S2816x1024.Idx → EReal) (x11 : S4096x1024.Idx → EReal) (x12 : S4x4096x1024.Idx → EReal)

/-- A vector's entries, and the sum of the four parts of a row of the cotangent. -/
def vec (x : S1024.Idx → EReal) (d : Fin 1024) : EReal := x (ix1 d)
def parts (r : Fin 4096) : Fin 1024 → EReal := four fun p d => x12 (ix3 p r d)

/-- The residual's rows, and the rows of the feed-forward branch. -/
abbrev mid : S4096x1024.Idx → EReal := val_main_v6 (F := Ideal) x0 x1 x2 x3 x4
abbrev mix : S4096x1024.Idx → EReal := val_main_v34 (F := Ideal) x0 x1 x2 x3 x4 x5 x6 x7 x9 x10

/-- A row of the projection's input, and the cotangent of a row of the residual. -/
def input (r : Fin 4096) : Fin 1024 → EReal := joined (heads x1 r) (row x2 r)
def top (r : Fin 4096) : Fin 1024 → EReal := total (row (mid x0 x1 x2 x3 x4) r) (vec x5) (row x7 0) (parts x12 r) (row x11 r)

/-- The projection's input. -/
theorem input_at (r : Fin 4096) (n : Fin 1024) : val_main_v2 (F := Ideal) x1 x2 (ix2 r n) = input x1 x2 r n := by
  unfold val_main_v2 input joined
  split
  · rename_i h
    refine (concatenate_pair_apply_left (t := S4096x1024) (s₁ := S4096x512) (s₂ := S4096x512) 1 _ _
      _ (ix2 r n) rfl (ix2 r ⟨n.val, h⟩)
      (fun b => match b with | ⟨0, _⟩ => rfl | ⟨1, _⟩ => rfl)).trans ?_
    rw [val_main_v1_apply, val_main_v0_apply]
    refine congrArg x1 (funext fun a => ?_)
    match a with
    | ⟨0, _⟩ => exact Fin.ext (show (r.val * 512 + n.val) / 64 % 8 = n.val / 64 by omega)
    | ⟨1, _⟩ => exact Fin.ext (show (r.val * 512 + n.val) / 512 = r.val by omega)
    | ⟨2, _⟩ => exact Fin.ext (show (r.val * 512 + n.val) % 64 = n.val % 64 by omega)
  · rename_i h
    exact concatenate_pair_apply_right (t := S4096x1024) (s₁ := S4096x512) (s₂ := S4096x512) 1 _ _
      _ (ix2 r n) rfl rfl (ix2 r ⟨n.val - 512, by omega⟩)
      (fun b hb => match b with | ⟨0, _⟩ => rfl | ⟨1, _⟩ => absurd rfl hb) (by show n.val - 512 + 512 = n.val; omega)

/-- The row by the projection. -/
theorem projected_at (r : Fin 4096) (d : Fin 1024) :
    val_main_v3 (F := Ideal) x1 x2 x4 (ix2 r d) = projected (row x4) (input x1 x2 r) d := by
  rw [val_main_v3_apply]
  refine Finset.sum_congr rfl fun n _ => ?_
  rw [show lidx_main_v3 (ix2 r d) n = ix2 r n from funext fun a => match a with | ⟨0, _⟩ => rfl | ⟨1, _⟩ => rfl, input_at]
  refine congrArg (input x1 x2 r n * ·) (congrArg x4 ?_)
  funext a; match a with | ⟨0, _⟩ => rfl | ⟨1, _⟩ => rfl

/-! ## The norm's gradient -/

/-- A row's mean square and the small constant. -/
theorem var_at (r : Fin 4096) (z : Fin 1) : val_main_v13 (F := Ideal) x0 x1 x2 x3 x4 (ix2 r z) = var (row (mid x0 x1 x2 x3 x4) r) := by
  rw [val_main_v13_apply, val_main_v11_apply, val_main_v9_apply, val_main_v10_apply, val_main_v12_apply, val_main_v8_apply,
    val_main_cst_apply, val_main_cst_0_apply, val_main_cst_1_apply, Common.ofBits_zero, zero_add]
  refine congrArg (fun s => Ideal.div s width + tiny) (Finset.sum_congr rfl fun d _ => ?_)
  rw [show idx_main_v8 (idx_main_v9 (ix2 r z)) d = ix2 r d from funext fun a => match a with | ⟨0, _⟩ => rfl | ⟨1, _⟩ => rfl,
    val_main_v7_apply]
  rfl

/-- The reciprocal root of a row. -/
theorem root_at (r : Fin 4096) (z : Fin 1) : val_main_v14 (F := Ideal) x0 x1 x2 x3 x4 (ix2 r z) = root (row (mid x0 x1 x2 x3 x4) r) := by
  rw [val_main_v14_apply, var_at]; rfl

/-- The derivative of the reciprocal root. -/
theorem droot_at (r : Fin 4096) (z : Fin 1) : val_main_v17 (F := Ideal) x0 x1 x2 x3 x4 (ix2 r z) = droot (row (mid x0 x1 x2 x3 x4) r) := by
  rw [val_main_v17_apply, val_main_v16_apply, val_main_cst_2_apply, val_main_v15_apply, root_at, var_at]; rfl

/-- An index of a column from an index of the matrix. -/
theorem col_of {n k : Nat} (r : Fin n) (d : Fin k) (i : (⟨2, ![n, 1]⟩ : Shape).Idx) (h0 : (i 0).val = r.val) : i = ix2 r 0 := by
  funext a
  match a with
  | ⟨0, _⟩ => exact Fin.ext h0
  | ⟨1, _⟩ => exact Fin.eq_zero _

/-- A row divided by its root. -/
theorem hat_at (r : Fin 4096) (d : Fin 1024) : val_main_v19 (F := Ideal) x0 x1 x2 x3 x4 (ix2 r d) = hat (row (mid x0 x1 x2 x3 x4) r) d := by
  rw [val_main_v19_apply, val_main_v18_apply, col_of r d (idx_main_v18 (ix2 r d)) rfl, root_at]; rfl

/-- A normalised row. -/
theorem normed_at (r : Fin 4096) (d : Fin 1024) :
    val_main_v22 (F := Ideal) x0 x1 x2 x3 x4 x5 (ix2 r d) = normed (row (mid x0 x1 x2 x3 x4) r) (vec x5) d := by
  rw [val_main_v22_apply, hat_at, val_main_v21_apply, val_main_v20_apply]
  refine congrArg (hat (row (mid x0 x1 x2 x3 x4) r) d * ·) (congrArg x5 ?_)
  funext a; match a with | ⟨0, _⟩ => rfl

/-- One and the scale. -/
theorem scale_at (d : Fin 1024) (i : S1x1024.Idx) (h : (i 1).val = d.val) : val_main_v24 (F := Ideal) x7 i = one + row x7 0 d := by
  rw [val_main_v24_apply, val_main_v23_apply, val_main_cst_3_apply]
  refine congrArg (one + ·) (congrArg x7 ?_)
  funext a
  match a with
  | ⟨0, _⟩ => exact Fin.eq_zero _
  | ⟨1, _⟩ => exact Fin.ext h

/-- The cotangent behind the modulation. -/
theorem parts_at (r : Fin 4096) (d : Fin 1024) : val_main_v38 (F := Ideal) x12 (ix2 r d) = parts x12 r d := by
  rw [val_main_v38_apply, val_main_cst_4_apply, Common.ofBits_zero, zero_add]
  refine Eq.trans (Finset.sum_congr rfl fun p _ => congrArg x12 (?_ : _ = ix3 p r d)) (Fin.sum_univ_four _)
  funext a; match a with | ⟨0, _⟩ => rfl | ⟨1, _⟩ => rfl | ⟨2, _⟩ => rfl

/-- The cotangent before the modulation. -/
theorem dmod_at (r : Fin 4096) (d : Fin 1024) : val_main_v50 (F := Ideal) x7 x12 (ix2 r d) = dmod (row x7 0) (parts x12 r) d := by
  rw [val_main_v50_apply, parts_at, val_main_v49_apply, scale_at x7 d _ rfl]; rfl

/-- The cotangent before the norm's weight. -/
theorem dhat_at (r : Fin 4096) (d : Fin 1024) :
    val_main_v55 (F := Ideal) x5 x7 x12 (ix2 r d) = dhat (vec x5) (row x7 0) (parts x12 r) d := by
  rw [val_main_v55_apply, dmod_at, val_main_v54_apply, val_main_v20_apply]
  refine congrArg (dmod (row x7 0) (parts x12 r) d * ·) (congrArg x5 ?_)
  funext a; match a with | ⟨0, _⟩ => rfl

/-- What the residual's gradient gets through the root. -/
theorem through_at (r : Fin 4096) (d : Fin 1024) : val_main_v67 (F := Ideal) x0 x1 x2 x3 x4 x5 x7 x12 (ix2 r d)
    = through (row (mid x0 x1 x2 x3 x4) r) (dhat (vec x5) (row x7 0) (parts x12 r)) := by
  rw [val_main_v67_apply, val_main_v66_apply, val_main_cst_12_apply, Common.ofBits_zero, zero_add, Fin.sum_univ_one,
    col_of r d (idx_main_v66 _ 0) rfl, val_main_v65_apply, val_main_v63_apply, val_main_v64_apply, val_main_cst_11_apply, droot_at,
    val_main_v59_apply, val_main_v58_apply, val_main_cst_10_apply, Common.ofBits_zero, zero_add]
  refine congrArg (fun s => Ideal.div (s * droot (row (mid x0 x1 x2 x3 x4) r)) width) (Finset.sum_congr rfl fun e _ => ?_)
  rw [show idx_main_v58 (idx_main_v59 (ix2 r 0)) e = ix2 r e from funext fun a => match a with
      | ⟨0, _⟩ => Fin.ext (show r.val * 1 + 0 = r.val by omega) | ⟨1, _⟩ => rfl,
    val_main_v57_apply, dhat_at]
  rfl

/-- The gradient of the residual. -/
theorem top_at (r : Fin 4096) (d : Fin 1024) :
    val_main_v71 (F := Ideal) x0 x1 x2 x3 x4 x5 x7 x11 x12 (ix2 r d) = top x0 x1 x2 x3 x4 x5 x7 x11 x12 r d := by
  rw [val_main_v71_apply, val_main_v69_apply, val_main_v62_apply, val_main_v61_apply, val_main_v68_apply, val_main_v70_apply,
    dhat_at, through_at, val_main_v60_apply, col_of r d (idx_main_v60 _) rfl, root_at, val_main_v39_apply,
    show idx_main_v39 (ix2 r d) = ix2 r d from funext fun a => match a with
      | ⟨0, _⟩ => Fin.ext (show (r.val * 1024 + d.val) / 1024 = r.val by omega)
      | ⟨1, _⟩ => Fin.ext (show (r.val * 1024 + d.val) % 1024 = d.val by omega)]
  show x11 (ix2 r d) + _ + _ + _ = _
  rw [add_assoc, add_assoc]
  exact congrArg (fun y : EReal => x11 (ix2 r d) + y) (add_assoc (G := EReal) _ _ _).symm

/-- The gradient of the norm's weight. -/
theorem weight_at (d : Fin 1024) : val_main_v56 (F := Ideal) x0 x1 x2 x3 x4 x7 x12 (ix1 d)
    = ∑ r : Fin 4096, hat (row (mid x0 x1 x2 x3 x4) r) d * dmod (row x7 0) (parts x12 r) d := by
  rw [val_main_v56_apply, val_main_cst_9_apply, Common.ofBits_zero, zero_add, Fin.sum_univ_one, val_main_v53_apply,
    val_main_v52_apply, val_main_cst_8_apply, Common.ofBits_zero, zero_add]
  refine Finset.sum_congr rfl fun r _ => ?_
  rw [show idx_main_v52 _ r = ix2 r d from funext fun a => match a with
      | ⟨0, _⟩ => rfl | ⟨1, _⟩ => Fin.ext (show 0 * 1024 + d.val = d.val by omega),
    val_main_v51_apply, hat_at, dmod_at]
  rfl

/-- The gradient of the shift. -/
theorem shift_at (z : Fin 1) (d : Fin 1024) : val_main_v45 (F := Ideal) x12 (ix2 z d) = ∑ r : Fin 4096, parts x12 r d := by
  rw [val_main_v45_apply, val_main_v44_apply, val_main_cst_6_apply, Common.ofBits_zero, zero_add]
  refine Finset.sum_congr rfl fun r _ => ?_
  rw [show idx_main_v44 _ r = ix2 r d from funext fun a => match a with
      | ⟨0, _⟩ => rfl | ⟨1, _⟩ => Fin.ext (show z.val * 1024 + d.val = d.val by omega), parts_at]

/-- The gradient of the scale. -/
theorem gain_at (z : Fin 1) (d : Fin 1024) : val_main_v48 (F := Ideal) x0 x1 x2 x3 x4 x5 x12 (ix2 z d)
    = ∑ r : Fin 4096, normed (row (mid x0 x1 x2 x3 x4) r) (vec x5) d * parts x12 r d := by
  rw [val_main_v48_apply, val_main_v47_apply, val_main_cst_7_apply, Common.ofBits_zero, zero_add]
  refine Finset.sum_congr rfl fun r _ => ?_
  rw [show idx_main_v47 _ r = ix2 r d from funext fun a => match a with
      | ⟨0, _⟩ => rfl | ⟨1, _⟩ => Fin.ext (show z.val * 1024 + d.val = d.val by omega),
    val_main_v46_apply, normed_at, parts_at]
  rfl

/-! ## The gates, the projection and its input -/

/-- The gradient of the feed-forward branch's gate. -/
theorem mixed_at (z : Fin 1) (d : Fin 1024) : val_main_v43 (F := Ideal) x0 x1 x2 x3 x4 x5 x6 x7 x9 x10 x11 (ix2 z d)
    = ∑ r : Fin 4096, x11 (ix2 r d) * mix x0 x1 x2 x3 x4 x5 x6 x7 x9 x10 (ix2 r d) := by
  rw [val_main_v43_apply, val_main_v42_apply, val_main_cst_5_apply, Common.ofBits_zero, zero_add]
  refine Finset.sum_congr rfl fun r _ => ?_
  rw [show idx_main_v42 _ r = ix2 r d from funext fun a => match a with
      | ⟨0, _⟩ => rfl | ⟨1, _⟩ => Fin.ext (show z.val * 1024 + d.val = d.val by omega),
    val_main_v41_apply, val_main_v40_apply,
    show idx_main_v40 (ix2 r d) = ix2 r d from funext fun a => match a with
      | ⟨0, _⟩ => Fin.ext (show (r.val * 1024 + d.val) / 1024 = r.val by omega)
      | ⟨1, _⟩ => Fin.ext (show (r.val * 1024 + d.val) % 1024 = d.val by omega)]
  rfl

/-- The gradient of the attention's gate. -/
theorem gate_at (z : Fin 1) (d : Fin 1024) : val_main_v76 (F := Ideal) x0 x1 x2 x3 x4 x5 x7 x11 x12 (ix2 z d)
    = ∑ r : Fin 4096, top x0 x1 x2 x3 x4 x5 x7 x11 x12 r d * projected (row x4) (input x1 x2 r) d := by
  rw [val_main_v76_apply, val_main_v75_apply, val_main_cst_13_apply, Common.ofBits_zero, zero_add]
  refine Finset.sum_congr rfl fun r _ => ?_
  rw [show idx_main_v75 _ r = ix2 r d from funext fun a => match a with
      | ⟨0, _⟩ => rfl | ⟨1, _⟩ => Fin.ext (show z.val * 1024 + d.val = d.val by omega),
    val_main_v74_apply, top_at, projected_at]
  rfl

/-- The gated cotangent. -/
theorem gated_at (r : Fin 4096) (d : Fin 1024) : val_main_v73 (F := Ideal) x0 x1 x2 x3 x4 x5 x7 x11 x12 (ix2 r d)
    = gated (row x3 0) (top x0 x1 x2 x3 x4 x5 x7 x11 x12 r) d := by
  rw [val_main_v73_apply, val_main_v72_apply, top_at]
  refine congrArg (· * _) (congrArg x3 ?_)
  funext a; match a with | ⟨0, _⟩ => rfl | ⟨1, _⟩ => rfl

/-- The gradient of the projection. -/
theorem proj_at (n d : Fin 1024) : val_main_v78 (F := Ideal) x0 x1 x2 x3 x4 x5 x7 x11 x12 (ix2 n d)
    = ∑ r : Fin 4096, input x1 x2 r n * gated (row x3 0) (top x0 x1 x2 x3 x4 x5 x7 x11 x12 r) d := by
  rw [val_main_v78_apply, val_main_v77_apply]
  refine Finset.sum_congr rfl fun r _ => ?_
  rw [show lidx_main_v77 _ r = ix2 r d from funext fun a => match a with | ⟨0, _⟩ => rfl | ⟨1, _⟩ => rfl,
    show ridx_main_v77 _ r = ix2 r n from funext fun a => match a with | ⟨0, _⟩ => rfl | ⟨1, _⟩ => rfl, gated_at, input_at]
  exact mul_comm _ _

/-- The cotangent of the projection's input. -/
theorem before_at (r : Fin 4096) (n : Fin 1024) : val_main_v79 (F := Ideal) x0 x1 x2 x3 x4 x5 x7 x11 x12 (ix2 r n)
    = before (row x4) (gated (row x3 0) (top x0 x1 x2 x3 x4 x5 x7 x11 x12 r)) n := by
  rw [val_main_v79_apply]
  refine Finset.sum_congr rfl fun d _ => ?_
  rw [show lidx_main_v79 _ d = ix2 r d from funext fun a => match a with | ⟨0, _⟩ => rfl | ⟨1, _⟩ => rfl, gated_at]
  refine congrArg (_ * ·) (congrArg x4 ?_)
  funext a; match a with | ⟨0, _⟩ => rfl | ⟨1, _⟩ => rfl

/-- The gradient of the recurrence's output. -/
theorem late_at (r : Fin 4096) (k : Fin 512) : val_main_v81 (F := Ideal) x0 x1 x2 x3 x4 x5 x7 x11 x12 (ix2 r k)
    = before (row x4) (gated (row x3 0) (top x0 x1 x2 x3 x4 x5 x7 x11 x12 r)) (late k) := by
  rw [val_main_v81_apply, show idx_main_v81 (ix2 r k) = ix2 r (late k) from funext fun a => match a with | ⟨0, _⟩ => rfl | ⟨1, _⟩ => rfl,
    before_at]

/-- The gradient of the heads. -/
theorem heads_at (h : Fin 8) (r : Fin 4096) (e : Fin 64) : val_main_v83 (F := Ideal) x0 x1 x2 x3 x4 x5 x7 x11 x12 (ix3 h r e)
    = before (row x4) (gated (row x3 0) (top x0 x1 x2 x3 x4 x5 x7 x11 x12 r)) (lane h e) := by
  rw [val_main_v83_apply, val_main_v82_apply, val_main_v80_apply,
    show idx_main_v80 (idx_main_v82 (idx_main_v83 (ix3 h r e))) = ix2 r (lane h e) from funext fun a => match a with
      | ⟨0, _⟩ => Fin.ext (show ((r.val * 8 + h.val) * 64 + e.val) / 512 = r.val by omega)
      | ⟨1, _⟩ => Fin.ext (show ((r.val * 8 + h.val) * 64 + e.val) % 512 = h.val * 64 + e.val by omega),
    before_at]

/-- The row sums of the heads' gradient by the heads. -/
theorem delta_at (h : Fin 8) (r : Fin 4096) : val_main_v85 (F := Ideal) x0 x1 x2 x3 x4 x5 x7 x11 x12 (ix2 h r)
    = ∑ e : Fin 64, before (row x4) (gated (row x3 0) (top x0 x1 x2 x3 x4 x5 x7 x11 x12 r)) (lane h e) * x1 (ix3 h r e) := by
  rw [val_main_v85_apply, val_main_cst_14_apply, Common.ofBits_zero, zero_add]
  refine Finset.sum_congr rfl fun e _ => ?_
  rw [show idx_main_v85 _ e = ix3 h r e from funext fun a => match a with | ⟨0, _⟩ => rfl | ⟨1, _⟩ => rfl | ⟨2, _⟩ => rfl,
    val_main_v84_apply, heads_at]
  rfl

end

end Cert.Proof.OutRef

end
-- ==== Proof.OutRun.lean ====
/- The gradients of the output projection: the arrays that the kernel is given, what the lines behind it make of its arrays,
   and that these are the reference's. -/
module

public import proofs.«01_k».proof.Proof.OutValue
public import proofs.«01_k».proof.Proof.OutRef
public import proofs.«01_k».proof.Proof.MlpRun

@[expose] public section

noncomputable section

namespace Cert.Proof.OutRun

open Idealize.ShloMosaic hiding ix1 ix2 ix3 eq_ix2 eq_ix3
open Cert.OutIdeal Cert.OutIdeal.Gen Idealize.ShloMosaic.TcCoe Idealize.SL.Sem Idealize.ShloMosaic.ValueIdx
open Cert.Proof.NormMath Cert.Proof.OutMath Cert.Proof.OutValue
open Cert.Proof.MlpRun (ext2)
open scoped BigOperators

section
variable (m : (ℓ : Loc nD τ sig) → Buf (Elt Ideal) ℓ) (ρ : Dev nD → PrngReg) (c : Dev nD)

abbrev a0 : S4096x1024.Idx → EReal := m ((c : Thread nD τ).loc main_arg0)
abbrev a1 : S8x4096x64.Idx → EReal := m ((c : Thread nD τ).loc main_arg1)
abbrev a2 : S4096x512.Idx → EReal := m ((c : Thread nD τ).loc main_arg2)
abbrev a3 : S1x1024.Idx → EReal := m ((c : Thread nD τ).loc main_arg3)
abbrev a4 : S1024x1024.Idx → EReal := m ((c : Thread nD τ).loc main_arg4)
abbrev a5 : S1024.Idx → EReal := m ((c : Thread nD τ).loc main_arg5)
abbrev a6 : S1x1024.Idx → EReal := m ((c : Thread nD τ).loc main_arg6)
abbrev a7 : S1x1024.Idx → EReal := m ((c : Thread nD τ).loc main_arg7)
abbrev a8 : S1x1024.Idx → EReal := m ((c : Thread nD τ).loc main_arg8)
abbrev a9 : S1024x5632.Idx → EReal := m ((c : Thread nD τ).loc main_arg9)
abbrev a10 : S2816x1024.Idx → EReal := m ((c : Thread nD τ).loc main_arg10)
abbrev a11 : S4096x1024.Idx → EReal := m ((c : Thread nD τ).loc main_arg11)
abbrev a12 : S4x4096x1024.Idx → EReal := m ((c : Thread nD τ).loc main_arg12)

/-! ## What the kernel finds -/

/-- The incoming cotangent. -/
theorem found_dy : aDy m c = a11 m c := by
  show V m c main_arg11 = _
  unfold V V0
  simp only [hostOps0, hostOps0_1, hostOps0_2, List.flatten_cons, List.flatten_nil, List.append_nil, List.cons_append, List.nil_append]
  after_results_simp

/-- The scale. -/
theorem found_sc : aSc m c = a7 m c := by
  show V m c main_arg7 = _
  unfold V V0
  simp only [hostOps0, hostOps0_1, hostOps0_2, List.flatten_cons, List.flatten_nil, List.append_nil, List.cons_append, List.nil_append]
  after_results_simp

/-- The heads. -/
theorem found_o : aO m c = a1 m c := by
  show V m c main_arg1 = _
  unfold V V0
  simp only [hostOps0, hostOps0_1, hostOps0_2, List.flatten_cons, List.flatten_nil, List.append_nil, List.cons_append, List.nil_append]
  after_results_simp

/-- The recurrence's output. -/
theorem found_y : aY m c = a2 m c := by
  show V m c main_arg2 = _
  unfold V V0
  simp only [hostOps0, hostOps0_1, hostOps0_2, List.flatten_cons, List.flatten_nil, List.append_nil, List.cons_append, List.nil_append]
  after_results_simp

/-- The gate. -/
theorem found_g : aG m c = a3 m c := by
  show V m c main_arg3 = _
  unfold V V0
  simp only [hostOps0, hostOps0_1, hostOps0_2, List.flatten_cons, List.flatten_nil, List.append_nil, List.cons_append, List.nil_append]
  after_results_simp

/-- The parts of the cotangent behind the modulation. -/
theorem found_p : aP m c = a12 m c := by
  show V m c main_v32 = _
  unfold V V0
  simp only [hostOps0, hostOps0_1, hostOps0_2, List.flatten_cons, List.flatten_nil, List.append_nil, List.cons_append, List.nil_append]
  after_results_simp
  rfl

/-- The projection. -/
theorem found_w : aW m c = a4 m c := by
  show V m c main_v34 = _
  unfold V V0
  simp only [hostOps0, hostOps0_1, hostOps0_2, List.flatten_cons, List.flatten_nil, List.append_nil, List.cons_append, List.nil_append]
  after_results_simp
  rfl

/-- The norm's weight. -/
theorem found_n : aN m c = broadcastInDim S1x1024 ![1] bcast_S1024_S1x1024_1 (a5 m c) := by
  show V m c main_v33 = _
  unfold V V0
  simp only [hostOps0, hostOps0_1, hostOps0_2, List.flatten_cons, List.flatten_nil, List.append_nil, List.cons_append, List.nil_append]
  after_results_simp

set_option maxRecDepth 8192 in
/-- The residual. -/
theorem found_x : aX m c = OutRef.mid (a0 m c) (a1 m c) (a2 m c) (a3 m c) (a4 m c) := by
  show V m c main_v6 = _
  unfold V V0
  simp only [hostOps0, hostOps0_1, hostOps0_2, List.flatten_cons, List.flatten_nil, List.append_nil, List.cons_append, List.nil_append]
  after_results_simp
  rfl

set_option maxRecDepth 8192 in
/-- The rows of the feed-forward branch. -/
theorem found_mix : aMix m c = OutRef.mix (a0 m c) (a1 m c) (a2 m c) (a3 m c) (a4 m c) (a5 m c) (a6 m c) (a7 m c) (a9 m c) (a10 m c) := by
  show V m c main_v31 = _
  unfold V V0
  simp only [hostOps0, hostOps0_1, hostOps0_2, List.flatten_cons, List.flatten_nil, List.append_nil, List.cons_append, List.nil_append]
  after_results_simp
  rfl

/-! ## The rows are the reference's -/

/-- The norm's weight as a row. -/
theorem row_n : row (aN m c) 0 = OutRef.vec (a5 m c) := by
  rw [found_n]
  funext d
  exact congrArg (a5 m c) (funext fun a => match a with | ⟨0, _⟩ => rfl)

/-- The cotangent behind the modulation. -/
theorem dh_eq (r : Fin 4096) : dh m c r = OutRef.parts (a12 m c) r := by
  unfold dh OutRef.parts
  rw [found_p]

/-- The residual's gradient. -/
theorem top_eq (r : Fin 4096) : top m c r = OutRef.top (a0 m c) (a1 m c) (a2 m c) (a3 m c) (a4 m c) (a5 m c) (a7 m c) (a11 m c) (a12 m c) r := by
  unfold top OutRef.top
  rw [row_n, dh_eq, found_x, found_sc, found_dy]

/-- The projection's input. -/
theorem input_eq (r : Fin 4096) : input m c r = OutRef.input (a1 m c) (a2 m c) r := by
  unfold input OutRef.input
  rw [found_o, found_y]

/-- The cotangent of the projection's input. -/
theorem back_eq (r : Fin 4096) : back m c r = before (row (a4 m c)) (gated (row (a3 m c) 0) (OutRef.top (a0 m c) (a1 m c) (a2 m c) (a3 m c) (a4 m c) (a5 m c) (a7 m c) (a11 m c) (a12 m c) r)) := by
  unfold back
  rw [found_w, found_g, top_eq]

/-! ## The results -/

/-- The arrays that the lines behind the kernel find. -/
theorem after (w : Fin cfg0.W) :
    Pipeline.withArrays cfg0.spec c (V0 m c) (fun w => (dats m 0 c).arrAt w cfg0.N) (Proc.devRef .tc (Pipeline.arrRef cfg0.spec w)) = (dats m 0 c).arrAt w cfg0.N :=
  Pipeline.withArrays_arr spec0 launch0.win.arr_inj c (V0 m c) (fun w => (dats m 0 c).arrAt w (cfgs 0).N) w

/-- The sum for the norm's weight. -/
theorem after11 : Pipeline.withArrays (cfgs 0).spec c (V0 m c) (fun w => (dats m 0 c).arrAt w (cfgs 0).N) (Proc.devRef .tc main_v35_1)
    = (dats m 0 c).arrAt 11 cfg0.N := after m c 11
/-- The heads' gradient with the lanes behind it. -/
theorem after14 : Pipeline.withArrays (cfgs 0).spec c (V0 m c) (fun w => (dats m 0 c).arrAt w (cfgs 0).N) (Proc.devRef .tc main_v35_4)
    = (dats m 0 c).arrAt 14 cfg0.N := after m c 14
/-- The sum for the projection. -/
theorem after18 : Pipeline.withArrays (cfgs 0).spec c (V0 m c) (fun w => (dats m 0 c).arrAt w (cfgs 0).N) (Proc.devRef .tc main_v35_8)
    = (dats m 0 c).arrAt 18 cfg0.N := after m c 18

/-- The gradient of the residual. -/
theorem end_x : (dats m 0 c).arrAt 10 cfg0.N = Cert.OutRefIdeal.Read.val_main_v71 (F := Ideal) (a0 m c) (a1 m c) (a2 m c) (a3 m c) (a4 m c) (a5 m c) (a7 m c) (a11 m c) (a12 m c) := by
  rw [final10]
  refine ext2 fun r d => ?_
  rw [OutRef.top_at]
  exact congrFun (top_eq m c r) d

/-- The gradient of the norm's weight. -/
theorem end_n : Pipeline.afterTail₀ cfgs (dats m) 0 (V0 m) [hostOps1] c main_v36 = Cert.OutRefIdeal.Read.val_main_v56 (F := Ideal) (a0 m c) (a1 m c) (a2 m c) (a3 m c) (a4 m c) (a7 m c) (a12 m c) := by
  have e : Pipeline.afterTail₀ cfgs (dats m) 0 (V0 m) [hostOps1] c main_v36
      = shapeCast S1024 ((dats m 0 c).arrAt 11 cfg0.N) shapeCasts_S1x1024_S1024 := by
    unfold Pipeline.afterTail₀
    simp only [hostOps1, List.flatten_cons, List.flatten_nil, List.append_nil]
    after_results_simp
    rw [after11]
    rfl
  rw [e, final11]
  show shapeCast S1024 (fun i : S1x1024.Idx => ∑ r : Fin 4096, term m c 0 (i 1) r) shapeCasts_S1x1024_S1024 = _
  funext i
  obtain ⟨d, rfl⟩ : ∃ d : Fin 1024, i = ix1 d := ⟨i 0, funext fun a => match a with | ⟨0, _⟩ => rfl⟩
  rw [OutRef.weight_at, ← found_x, ← found_sc]
  refine (shapeCast_apply _ _ (ix1 d) (ix2 0 d) (by rw [Shape.rowMajor_val_two, Shape.rowMajor_val_one]; exact Nat.zero_add _)).trans ?_
  exact Finset.sum_congr rfl fun r _ => congrArg (fun g => hat (row (aX m c) r) d * dmod (row (aSc m c) 0) g d) (dh_eq m c r)

/-- The gradient of the shift. -/
theorem end_sh : (dats m 0 c).arrAt 12 cfg0.N = Cert.OutRefIdeal.Read.val_main_v45 (F := Ideal) (a12 m c) := by
  rw [final12]
  refine ext2 fun z d => ?_
  rw [OutRef.shift_at]
  exact Finset.sum_congr rfl fun r _ => congrFun (dh_eq m c r) d

/-- The gradient of the scale. -/
theorem end_sc : (dats m 0 c).arrAt 13 cfg0.N = Cert.OutRefIdeal.Read.val_main_v48 (F := Ideal) (a0 m c) (a1 m c) (a2 m c) (a3 m c) (a4 m c) (a5 m c) (a12 m c) := by
  rw [final13]
  refine ext2 fun z d => ?_
  rw [OutRef.gain_at, ← row_n, ← found_x]
  exact Finset.sum_congr rfl fun r _ => congrArg (normed (row (aX m c) r) (row (aN m c) 0) d * ·) (congrFun (dh_eq m c r) d)

/-- The gradient of the attention's gate. -/
theorem end_g : (dats m 0 c).arrAt 16 cfg0.N = Cert.OutRefIdeal.Read.val_main_v76 (F := Ideal) (a0 m c) (a1 m c) (a2 m c) (a3 m c) (a4 m c) (a5 m c) (a7 m c) (a11 m c) (a12 m c) := by
  rw [final16]
  refine ext2 fun z d => ?_
  rw [OutRef.gate_at]
  refine Finset.sum_congr rfl fun r _ => ?_
  show top m c r d * projected (row (aW m c)) (input m c r) d = _
  rw [top_eq, input_eq, found_w]

/-- The gradient of the feed-forward branch's gate. -/
theorem end_mix : (dats m 0 c).arrAt 17 cfg0.N = Cert.OutRefIdeal.Read.val_main_v43 (F := Ideal) (a0 m c) (a1 m c) (a2 m c) (a3 m c) (a4 m c) (a5 m c) (a6 m c) (a7 m c) (a9 m c) (a10 m c) (a11 m c) := by
  rw [final17]
  refine ext2 fun z d => ?_
  rw [OutRef.mixed_at]
  refine Finset.sum_congr rfl fun r _ => ?_
  show aDy m c (ix2 r d) * aMix m c (ix2 r d) = _
  rw [found_dy, found_mix]

/-- The gradient of the recurrence's output. -/
theorem end_y : (dats m 0 c).arrAt 15 cfg0.N = Cert.OutRefIdeal.Read.val_main_v81 (F := Ideal) (a0 m c) (a1 m c) (a2 m c) (a3 m c) (a4 m c) (a5 m c) (a7 m c) (a11 m c) (a12 m c) := by
  rw [final15]
  refine ext2 fun r k => ?_
  rw [OutRef.late_at]
  exact congrFun (back_eq m c r) (late k)

/-- Equality of two stacks, entry by entry. -/
theorem ext3 {n a b : Nat} {f g : (⟨3, ![n, a, b]⟩ : Shape).Idx → EReal} (h : ∀ p i j, f (ix3 p i j) = g (ix3 p i j)) : f = g := by
  funext i
  rw [eq_ix3 i]
  exact h _ _ _

/-- The gradient of the heads. -/
theorem end_o : Pipeline.afterTail₀ cfgs (dats m) 0 (V0 m) [hostOps1] c main_v38 = Cert.OutRefIdeal.Read.val_main_v83 (F := Ideal) (a0 m c) (a1 m c) (a2 m c) (a3 m c) (a4 m c) (a5 m c) (a7 m c) (a11 m c) (a12 m c) := by
  have e : Pipeline.afterTail₀ cfgs (dats m) 0 (V0 m) [hostOps1] c main_v38
      = extf (F := Ideal) .f32 (extractStridedSlice S8x4096x64 ![0, 0, 0] ((dats m 0 c).arrAt 14 cfg0.N) slices_S8x4096x128_S8x4096x64_0_0_0) bitsLt_bf16_f32 := by
    unfold Pipeline.afterTail₀
    simp only [hostOps1, List.flatten_cons, List.flatten_nil, List.append_nil]
    after_results_simp
    rw [after14]
  rw [e, final14]
  refine ext3 fun h r l => ?_
  rw [OutRef.heads_at]
  refine (extractStridedSlice_apply (s := S8x4096x128) (t := S8x4096x64) ![0, 0, 0] (fun i => wide m c (i 0) (i 1) (i 2))
    slices_S8x4096x128_S8x4096x64_0_0_0 (ix3 h r l) (ix3 h r ⟨l.val, by omega⟩) (fun b => match b with
      | ⟨0, _⟩ => (Nat.zero_add _).symm | ⟨1, _⟩ => (Nat.zero_add _).symm | ⟨2, _⟩ => (Nat.zero_add _).symm)).trans ?_
  show wide m c h r ⟨l.val, _⟩ = _
  unfold wide
  rw [dif_pos l.isLt, back_eq]

/-- The row sums of the heads' gradient by the heads. -/
theorem end_delta : Pipeline.afterTail₀ cfgs (dats m) 0 (V0 m) [hostOps1] c main_v42 = Cert.OutRefIdeal.Read.val_main_v85 (F := Ideal) (a0 m c) (a1 m c) (a2 m c) (a3 m c) (a4 m c) (a5 m c) (a7 m c) (a11 m c) (a12 m c) := by
  have e : Pipeline.afterTail₀ cfgs (dats m) 0 (V0 m) [hostOps1] c main_v42
      = Host.negf (F := Ideal) (extf (F := Ideal) .f32 (shapeCast S8x4096 (extractStridedSlice S8x4096x1 ![0, 0, 64] ((dats m 0 c).arrAt 14 cfg0.N)
        slices_S8x4096x128_S8x4096x1_0_0_64) shapeCasts_S8x4096x1_S8x4096) bitsLt_bf16_f32) := by
    unfold Pipeline.afterTail₀
    simp only [hostOps1, List.flatten_cons, List.flatten_nil, List.append_nil]
    after_results_simp
    rw [after14]
    rfl
  rw [e, final14]
  refine ext2 fun h r => ?_
  rw [OutRef.delta_at]
  have w : shapeCast S8x4096 (extractStridedSlice S8x4096x1 ![0, 0, 64] (fun i : S8x4096x128.Idx => wide m c (i 0) (i 1) (i 2))
      slices_S8x4096x128_S8x4096x1_0_0_64) shapeCasts_S8x4096x1_S8x4096 (ix2 h r) = wide m c h r ⟨64, by omega⟩ := by
    refine (shapeCast_apply _ _ (ix2 h r) (ix3 h r 0) (by rw [Shape.rowMajor_val_two, Shape.rowMajor_val_three]; exact Nat.mul_one _)).trans ?_
    exact extractStridedSlice_apply (s := S8x4096x128) (t := S8x4096x1) ![0, 0, 64] _ _ (ix3 h r 0) (ix3 h r ⟨64, by omega⟩) (fun b => match b with
      | ⟨0, _⟩ => (Nat.zero_add _).symm | ⟨1, _⟩ => (Nat.zero_add _).symm | ⟨2, _⟩ => rfl)
  refine (congrArg (fun x : EReal => -x) w).trans ?_
  unfold wide
  rw [dif_neg (by show ¬64 < 64; omega), if_pos rfl, neg_neg]
  refine Finset.sum_congr rfl fun e _ => ?_
  rw [back_eq, found_o]

/-- The gradient of the projection. -/
theorem end_w : Pipeline.afterTail₀ cfgs (dats m) 0 (V0 m) [hostOps1] c main_v43 = Cert.OutRefIdeal.Read.val_main_v78 (F := Ideal) (a0 m c) (a1 m c) (a2 m c) (a3 m c) (a4 m c) (a5 m c) (a7 m c) (a11 m c) (a12 m c) := by
  have e : Pipeline.afterTail₀ cfgs (dats m) 0 (V0 m) [hostOps1] c main_v43
      = extf (F := Ideal) .f32 ((dats m 0 c).arrAt 18 cfg0.N) bitsLt_bf16_f32 := by
    unfold Pipeline.afterTail₀
    simp only [hostOps1, List.flatten_cons, List.flatten_nil, List.append_nil]
    after_results_simp
    rw [after18]
  rw [e, final18]
  refine ext2 fun n d => ?_
  rw [OutRef.proj_at]
  show ∑ r : Fin 4096, input m c r n * gated (row (aG m c) 0) (top m c r) d = _
  refine Finset.sum_congr rfl fun r _ => ?_
  rw [input_eq, found_g, top_eq]

/-- Every run of the kernel ends with the reference's gradients in the results and the arguments as they were. -/
theorem results : θ_run defs (onTc (τ := τ) (main (F := Ideal))) ⟨m, fun _ => 0, ρ⟩ (fun r => ∀ c : Dev nD,
    r.2.mem ((c.tc : Thread nD τ).loc main_v35_0) = Cert.OutRefIdeal.Read.val_main_v71 (F := Ideal) (a0 m c) (a1 m c) (a2 m c) (a3 m c) (a4 m c) (a5 m c) (a7 m c) (a11 m c) (a12 m c)
      ∧ r.2.mem ((c.tc : Thread nD τ).loc main_v36) = Cert.OutRefIdeal.Read.val_main_v56 (F := Ideal) (a0 m c) (a1 m c) (a2 m c) (a3 m c) (a4 m c) (a7 m c) (a12 m c)
      ∧ r.2.mem ((c.tc : Thread nD τ).loc main_v35_2) = Cert.OutRefIdeal.Read.val_main_v45 (F := Ideal) (a12 m c)
      ∧ r.2.mem ((c.tc : Thread nD τ).loc main_v35_3) = Cert.OutRefIdeal.Read.val_main_v48 (F := Ideal) (a0 m c) (a1 m c) (a2 m c) (a3 m c) (a4 m c) (a5 m c) (a12 m c)
      ∧ r.2.mem ((c.tc : Thread nD τ).loc main_v38) = Cert.OutRefIdeal.Read.val_main_v83 (F := Ideal) (a0 m c) (a1 m c) (a2 m c) (a3 m c) (a4 m c) (a5 m c) (a7 m c) (a11 m c) (a12 m c)
      ∧ r.2.mem ((c.tc : Thread nD τ).loc main_v42) = Cert.OutRefIdeal.Read.val_main_v85 (F := Ideal) (a0 m c) (a1 m c) (a2 m c) (a3 m c) (a4 m c) (a5 m c) (a7 m c) (a11 m c) (a12 m c)
      ∧ r.2.mem ((c.tc : Thread nD τ).loc main_v35_5) = Cert.OutRefIdeal.Read.val_main_v81 (F := Ideal) (a0 m c) (a1 m c) (a2 m c) (a3 m c) (a4 m c) (a5 m c) (a7 m c) (a11 m c) (a12 m c)
      ∧ r.2.mem ((c.tc : Thread nD τ).loc main_v35_6) = Cert.OutRefIdeal.Read.val_main_v76 (F := Ideal) (a0 m c) (a1 m c) (a2 m c) (a3 m c) (a4 m c) (a5 m c) (a7 m c) (a11 m c) (a12 m c)
      ∧ r.2.mem ((c.tc : Thread nD τ).loc main_v35_7) = Cert.OutRefIdeal.Read.val_main_v43 (F := Ideal) (a0 m c) (a1 m c) (a2 m c) (a3 m c) (a4 m c) (a5 m c) (a6 m c) (a7 m c) (a9 m c) (a10 m c) (a11 m c)
      ∧ r.2.mem ((c.tc : Thread nD τ).loc main_v43) = Cert.OutRefIdeal.Read.val_main_v78 (F := Ideal) (a0 m c) (a1 m c) (a2 m c) (a3 m c) (a4 m c) (a5 m c) (a7 m c) (a11 m c) (a12 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨((h.2 c).1 10).trans (end_x m c),
      ((h.2 c).2 main_v36 (Pipeline.mem_restRefs_of main_v36 (by decide) (by decide))).trans (end_n m c),
      ((h.2 c).1 12).trans (end_sh m c), ((h.2 c).1 13).trans (end_sc m c),
      ((h.2 c).2 main_v38 (Pipeline.mem_restRefs_of main_v38 (by decide) (by decide))).trans (end_o m c),
      ((h.2 c).2 main_v42 (Pipeline.mem_restRefs_of main_v42 (by decide) (by decide))).trans (end_delta m c),
      ((h.2 c).1 15).trans (end_y m c), ((h.2 c).1 16).trans (end_g m c), ((h.2 c).1 17).trans (end_mix m c),
      ((h.2 c).2 main_v43 (Pipeline.mem_restRefs_of main_v43 (by decide) (by decide))).trans (end_w m c), h.1 c⟩)
    (θ_run_and (unchanged m ρ) (run_main m ρ))

end

end Cert.Proof.OutRun

end
-- ==== Proof.LossBody.lean ====
/- One step of the kernel of the feed-forward block with the loss: the contents it leaves in the blocks it writes. -/
module

public import proofs.«01_k».proof.Defs
public import proofs.«01_k».proof.Proof.Gen.LossIdeal.Frame
public import proofs.«01_k».proof.Proof.Gen.LossIdeal.Skeleton
public import Idealize.ShloMosaic.Lib.Claim
public import Idealize.ShloMosaic.Lib.Pipeline.ValueKit.Basic
public import Idealize.ShloMosaic.Lib.Pipeline.ReadBack

@[expose] public section

set_option maxRecDepth 16384

noncomputable section

namespace Cert.LossIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first 512 rows of a block of 1024 rows. -/
abbrev topR : Rect S1024x1024 := Rect.unit (s := S1024x1024) ![0, 0] ![512, 1024] inb_S1024x1024_S512x1024_0_0

/-- The last 512 rows of a block of 1024 rows. -/
abbrev botR : Rect S1024x1024 := Rect.unit (s := S1024x1024) ![512, 0] ![512, 1024] inb_S1024x1024_S512x1024_512_0

/-- The first 512 rows of a block of hidden columns. -/
abbrev topC : Rect S1x1024x704 := Rect.unit (s := S1x1024x704) ![0, 0, 0] ![1, 512, 704] inb_S1x1024x704_S1x512x704_0_0_0

/-- The last 512 rows of a block of hidden columns. -/
abbrev botC : Rect S1x1024x704 := Rect.unit (s := S1x1024x704) ![0, 512, 0] ![1, 512, 704] inb_S1x1024x704_S1x512x704_0_512_0

/-- Every row of a block is in one of its halves. -/
theorem rows_cover (p : S1024x1024.Idx) : p ∈ topR.set ∨ p ∈ botR.set := by
  rw [Rect.mem_set_unit, Rect.mem_set_unit]
  have h0 : (p 0).val < 1024 := (p 0).isLt
  have h1 : (p 1).val < 1024 := (p 1).isLt
  by_cases h : (p 0).val < 512
  · left; refine Fin.forall_fin_two.mpr ⟨?_, ?_⟩
    · show 0 ≤ (p 0).val ∧ (p 0).val < 0 + 512; omega
    · show 0 ≤ (p 1).val ∧ (p 1).val < 0 + 1024; omega
  · right; refine Fin.forall_fin_two.mpr ⟨?_, ?_⟩
    · show 512 ≤ (p 0).val ∧ (p 0).val < 512 + 512; omega
    · show 0 ≤ (p 1).val ∧ (p 1).val < 0 + 1024; omega

/-- Every row of a block of hidden columns is in one of its halves. -/
theorem cols_cover (p : S1x1024x704.Idx) : p ∈ topC.set ∨ p ∈ botC.set := by
  rw [Rect.mem_set_unit, Rect.mem_set_unit]
  have h0 : (p 0).val < 1 := (p 0).isLt
  have h1 : (p 1).val < 1024 := (p 1).isLt
  have h2 : (p 2).val < 704 := (p 2).isLt
  by_cases h : (p 1).val < 512
  · left; intro a; fin_cases a
    · show 0 ≤ (p 0).val ∧ (p 0).val < 0 + 1; omega
    · show 0 ≤ (p 1).val ∧ (p 1).val < 0 + 512; omega
    · show 0 ≤ (p 2).val ∧ (p 2).val < 0 + 704; omega
  · right; intro a; fin_cases a
    · show 0 ≤ (p 0).val ∧ (p 0).val < 0 + 1; omega
    · show 512 ≤ (p 1).val ∧ (p 1).val < 512 + 512; omega
    · show 0 ≤ (p 2).val ∧ (p 2).val < 0 + 704; omega

/-- Two halves, one above the other. -/
def stack (a b : Vec F S512x1024 .f32) : Vec F S1024x1024 .f32 := View.canon [(⟨botR, b⟩ : View.Piece (Elt F) S1024x1024 .f32), ⟨topR, a⟩]

/-- Two halves of a block of hidden columns, one above the other. -/
def stackC (a b : Vec F S1x512x704 .bf16) : Vec F S1x1024x704 .bf16 := View.canon [(⟨botC, b⟩ : View.Piece (Elt F) S1x1024x704 .bf16), ⟨topC, a⟩]

/-- Two lists of stores that agree where the first covers. -/
theorem canon_drop {S : Shape} {e : EltTy} (r q : Rect S) (b : r.shape.Idx → Elt F e) (a : q.shape.Idx → Elt F e) (L : List (View.Piece (Elt F) S e))
    (hc : ∀ p, p ∈ r.set ∨ p ∈ q.set) :
    View.canon ((⟨r, b⟩ : View.Piece (Elt F) S e) :: ⟨q, a⟩ :: L) = View.canon [(⟨r, b⟩ : View.Piece (Elt F) S e), ⟨q, a⟩] := by
  funext p
  by_cases hb : p ∈ r.set
  · obtain ⟨x, rfl⟩ : ∃ x, r.emb x = p := r.exists_idx_of_mem hb
    rw [View.canon_cons_emb, View.canon_cons_emb]
  · rw [View.canon_cons_of_not_mem (⟨r, b⟩ : View.Piece (Elt F) S e) _ hb, View.canon_cons_of_not_mem (⟨r, b⟩ : View.Piece (Elt F) S e) _ hb]
    obtain ⟨x, rfl⟩ : ∃ x, q.emb x = p := q.exists_idx_of_mem ((hc p).resolve_left hb)
    rw [View.canon_cons_emb, View.canon_cons_emb]

/-- What a block holds after two stores that cover it. -/
theorem read_two {κ : Kind} {sp : Space} {S : Shape} {e : EltTy} (v : View sig κ sp S e) (f : v.ty.Contents (Elt F)) (r q : Rect S)
    (b : r.shape.Idx → Elt F e) (a : q.shape.Idx → Elt F e) (L : List (View.Piece (Elt F) S e)) (hc : ∀ p, p ∈ r.set ∨ p ∈ q.set) :
    View.read (Elt F) v (v.writes (Elt F) f ((⟨r, b⟩ : View.Piece (Elt F) S e) :: ⟨q, a⟩ :: L)) = View.canon [(⟨r, b⟩ : View.Piece (Elt F) S e), ⟨q, a⟩] := by
  refine (View.read_writes_eq_canon v f _ fun p => ?_).trans (canon_drop r q b a L hc)
  rcases hc p with h | h
  · exact ⟨⟨r, b⟩, List.mem_cons_self, h⟩
  · exact ⟨⟨q, a⟩, List.mem_cons_of_mem _ List.mem_cons_self, h⟩

/-- What a block holds after one store that covers it. -/
theorem read_one {κ : Kind} {sp : Space} {S : Shape} {e : EltTy} (v : View sig κ sp S e) (f : v.ty.Contents (Elt F)) (off : Fin S.rank → ℕ) (inb)
    (Z : S.Idx → Elt F e) (h0 : ∀ a, off a = 0) :
    View.read (Elt F) v (v.writes (Elt F) f [(⟨Rect.unit off S.size inb, Z⟩ : View.Piece (Elt F) S e)]) = Z := by
  refine (View.read_writes_eq_canon v f _ fun p => ⟨_, List.mem_cons_self, ?_⟩).trans (View.canon_cons_unit_lit inb Z [] h0)
  rw [Rect.mem_set_unit]
  intro a
  have := (p a).isLt
  rw [h0 a]
  omega

/-- Both halves stored, the block holds them, whatever was stored before. -/
theorem read_stack {κ : Kind} {sp : Space} (v : View sig κ sp S1024x1024 .f32) (f : v.ty.Contents (Elt F)) (a b : Vec F S512x1024 .f32) (L : List (View.Piece (Elt F) S1024x1024 .f32)) :
    View.read (Elt F) v (v.writes (Elt F) f ((⟨botR, b⟩ : View.Piece (Elt F) S1024x1024 .f32) :: ⟨topR, a⟩ :: L)) = stack a b :=
  read_two v f botR topR b a L (fun p => (rows_cover p).symm)

/-- The same of a block of hidden columns. -/
theorem read_stackC {κ : Kind} {sp : Space} (v : View sig κ sp S1x1024x704 .bf16) (f : v.ty.Contents (Elt F)) (a b : Vec F S1x512x704 .bf16) :
    View.read (Elt F) v (v.writes (Elt F) f [(⟨botC, b⟩ : View.Piece (Elt F) S1x1024x704 .bf16), ⟨topC, a⟩]) = stackC a b :=
  read_two v f botC topC b a [] (fun p => (cols_cover p).symm)

/-- A load of the whole block reads the two stored halves. -/
theorem load_stack {κ : Kind} {sp : Space} (v : View sig κ sp S1024x1024 .f32) (a b : Vec F S512x1024 .f32) (L : List (View.Piece (Elt F) S1024x1024 .f32)) (inb) :
    v.readCov ((⟨botR, b⟩ : View.Piece (Elt F) S1024x1024 .f32) :: ⟨topR, a⟩ :: L) (Rect.unit (s := S1024x1024) ![0, 0] ![1024, 1024] inb).toLoadRect = stack a b := by
  rw [View.readCov_eq_canon', canon_drop botR topR b a L (fun p => (rows_cover p).symm)]
  exact View.ld_unit_lit (S := S1024x1024) inb _ (by decide)

/-- A load of the last rows passes over a store of the first ones. -/
theorem load_skip {κ : Kind} {sp : Space} (v : View sig κ sp S1024x1024 .f32) (a : Vec F S512x1024 .f32) (L : List (View.Piece (Elt F) S1024x1024 .f32)) :
    v.readCov ((⟨topR, a⟩ : View.Piece (Elt F) S1024x1024 .f32) :: L) botR.toLoadRect = v.readCov L botR.toLoadRect :=
  View.readCov_skip v topR a L botR.toLoadRect (by decide)

/-- A load of any rows of a block stored whole. -/
theorem load_fill {κ : Kind} {sp : Space} {e : EltTy} (v : View sig κ sp S1024x1024 e) (Z : Vec F S1024x1024 e) (r : Rect S1024x1024) (inb) :
    v.readCov [(⟨Rect.unit (s := S1024x1024) ![0, 0] ![1024, 1024] inb, Z⟩ : View.Piece (Elt F) S1024x1024 e)] r.toLoadRect = View.ld Z r :=
  View.readCov_fill (s := S1024x1024) v inb Z [] r (by decide)

/-- A block stored whole. -/
theorem read_fill {κ : Kind} {sp : Space} {e : EltTy} (v : View sig κ sp S1024x1024 e) (f : v.ty.Contents (Elt F)) (Z : Vec F S1024x1024 e) (inb) :
    View.read (Elt F) v (v.writes (Elt F) f [(⟨Rect.unit (s := S1024x1024) ![0, 0] ![1024, 1024] inb, Z⟩ : View.Piece (Elt F) S1024x1024 e)]) = Z :=
  read_one (S := S1024x1024) v f ![0, 0] inb Z (by decide)

/-- The loss block stored whole. -/
theorem read_fill8 {κ : Kind} {sp : Space} {e : EltTy} (v : View sig κ sp S8x128 e) (f : v.ty.Contents (Elt F)) (Z : Vec F S8x128 e) (inb) :
    View.read (Elt F) v (v.writes (Elt F) f [(⟨Rect.unit (s := S8x128) ![0, 0] ![8, 128] inb, Z⟩ : View.Piece (Elt F) S8x128 e)]) = Z :=
  read_one (S := S8x128) v f ![0, 0] inb Z (by decide)

/-- A load from a block that nothing was stored into. -/
theorem load_held {κ : Kind} {sp : Space} {S : Shape} {e : EltTy} (m : Memref sig κ sp S e) (hm : m.IsWhole) (x : Vec F S e) (r : Rect S) :
    View.readAt (Elt F) m.view r.toLoadRect (hm.unread x) = View.ld x r := by
  rw [View.readAt_eq_ld, hm.read_unread]

/-- A whole block, loaded. -/
theorem ld_block {e : EltTy} (x : Vec F S1024x1024 e) (inb) : View.ld x (Rect.unit (s := S1024x1024) ![0, 0] ![1024, 1024] inb) = x :=
  View.ld_unit_lit (S := S1024x1024) inb x (by decide)

/-- A whole row, loaded. -/
theorem ld_row {e : EltTy} (x : Vec F S1x1024 e) (inb) : View.ld x (Rect.unit (s := S1x1024) ![0, 0] ![1, 1024] inb) = x :=
  View.ld_unit_lit (S := S1x1024) inb x (by decide)

/-- The whole loss block, loaded. -/
theorem ld_eight {e : EltTy} (x : Vec F S8x128 e) (inb) : View.ld x (Rect.unit (s := S8x128) ![0, 0] ![8, 128] inb) = x :=
  View.ld_unit_lit (S := S8x128) inb x (by decide)

/-- A whole block of weights, loaded. -/
theorem ld_weights {e : EltTy} (x : Vec F S1x704x1024 e) (inb) : View.ld x (Rect.unit (s := S1x704x1024) ![0, 0, 0] ![1, 704, 1024] inb) = x :=
  View.ld_unit_lit (S := S1x704x1024) inb x (by decide)

/-- The modulated, normalised rows as the first point of a row of blocks stores them. -/
abbrev hPoint (i : grid0.Coords) (x0 : Vec F S1024x1024 .f32) (x1 x2 x3 : Vec F S1x1024 .f32) (x11 : Vec F S1024x1024 .bf16) : Vec F S1024x1024 .bf16 :=
  if k0_cond1 i = 1#1 then k0_pay10 x0 x1 x2 x3 else x11

/-- The sum of the blocks before this one: nothing at the first point of a row of blocks. -/
abbrev sPoint (i : grid0.Coords) (x10 : Vec F S1024x1024 .f32) : Vec F S1024x1024 .f32 := if k0_cond1 i = 1#1 then k0_pay11 else x10

/-- One block's product with the hidden columns, added to the sum before it. -/
def mixPoint (x5 x6 x7 : Vec F S1x704x1024 .bf16) (h : Vec F S1024x1024 .bf16) (s : Vec F S1024x1024 .f32) : Vec F S1024x1024 .f32 :=
  stack (k0_pay2 (k0_pay14 x7) (k0_pay15 x5 (View.ld h topR)) (k0_pay16 x6 (View.ld h topR)) (View.ld s topR))
    (k0_pay5 (k0_pay14 x7) (k0_pay17 x5 (View.ld h botR)) (k0_pay18 x6 (View.ld h botR)) (View.ld s botR))

/-- The gate's hidden columns of one block. -/
def gatePoint (x5 : Vec F S1x704x1024 .bf16) (h : Vec F S1024x1024 .bf16) : Vec F S1x1024x704 .bf16 :=
  stackC (k0_pay19 x5 (View.ld h topR)) (k0_pay3 (k0_pay17 x5 (View.ld h botR)))

/-- The other hidden columns of one block. -/
def upPoint (x6 : Vec F S1x704x1024 .bf16) (h : Vec F S1024x1024 .bf16) : Vec F S1x1024x704 .bf16 :=
  stackC (k0_pay1 (k0_pay20 x6 (View.ld h topR))) (k0_pay4 (k0_pay18 x6 (View.ld h botR)))

/-- The loss block after one point: it starts at the end of the first row of blocks, grows at the end of the others, and is kept elsewhere. -/
abbrev lossPoint (i : grid0.Coords) (x0 : Vec F S1024x1024 .f32) (x4 : Vec F S1x1024 .f32) (x8 y10 : Vec F S1024x1024 .f32) (x14 : Vec F S8x128 .f32) : Vec F S8x128 .f32 :=
  if k0_cond2 i = 1#1 then (if k0_cond3 i = 1#1 then k0_pay8 x0 x4 y10 x8 else k0_pay9 x0 x4 y10 x8 x14) else x14

/-- What one point leaves in the six blocks it writes. -/
def Point (i : grid0.Coords) (x0 : Vec F S1024x1024 .f32) (x1 : Vec F S1x1024 .f32) (x2 : Vec F S1x1024 .f32) (x3 : Vec F S1x1024 .f32) (x4 : Vec F S1x1024 .f32) (x5 : Vec F S1x704x1024 .bf16) (x6 : Vec F S1x704x1024 .bf16) (x7 : Vec F S1x704x1024 .bf16) (x8 : Vec F S1024x1024 .f32) (x9 : Vec F S1024x1024 .f32) (x10 : Vec F S1024x1024 .f32) (x11 : Vec F S1024x1024 .bf16) (x14 : Vec F S8x128 .f32)
    (y9 : Vec F S1024x1024 .f32) (y10 : Vec F S1024x1024 .f32) (y11 : Vec F S1024x1024 .bf16) (y12 : Vec F S1x1024x704 .bf16) (y13 : Vec F S1x1024x704 .bf16) (y14 : Vec F S8x128 .f32) : Prop :=
  y11 = hPoint i x0 x1 x2 x3 x11
    ∧ y12 = gatePoint x5 (hPoint i x0 x1 x2 x3 x11)
    ∧ y13 = upPoint x6 (hPoint i x0 x1 x2 x3 x11)
    ∧ y10 = mixPoint x5 x6 x7 (hPoint i x0 x1 x2 x3 x11) (sPoint i x10)
    ∧ y9 = (if k0_cond2 i = 1#1 then k0_pay7 x0 x4 (mixPoint x5 x6 x7 (hPoint i x0 x1 x2 x3 x11) (sPoint i x10)) x8 else x9)
    ∧ y14 = lossPoint i x0 x4 x8 (mixPoint x5 x6 x7 (hPoint i x0 x1 x2 x3 x11) (sPoint i x10)) x14

set_option maxHeartbeats 8000000 in
/-- One point of the grid, run from the blocks it finds. -/
theorem point_run (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x704x1024 .bf16) (harg7 : arg7.IsWhole) (arg8 : Memref sig .tc .vmem S1x704x1024 .bf16) (harg8 : arg8.IsWhole) (arg9 : Memref sig .tc .vmem S1x704x1024 .bf16) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S1x1024x704 .bf16) (harg14 : arg14.IsWhole) (arg15 : Memref sig .tc .vmem S1x1024x704 .bf16) (harg15 : arg15.IsWhole) (arg16 : Memref sig .tc .vmem S8x128 .f32) (harg16 : arg16.IsWhole)
    (x0 : Vec F S1024x1024 .f32) (x1 : Vec F S1x1024 .f32) (x2 : Vec F S1x1024 .f32) (x3 : Vec F S1x1024 .f32) (x4 : Vec F S1x1024 .f32) (x5 : Vec F S1x704x1024 .bf16) (x6 : Vec F S1x704x1024 .bf16) (x7 : Vec F S1x704x1024 .bf16) (x8 : Vec F S1024x1024 .f32) (x9 : Vec F S1024x1024 .f32) (x10 : Vec F S1024x1024 .f32) (x11 : Vec F S1024x1024 .bf16) (x12 : Vec F S1x1024x704 .bf16) (x13 : Vec F S1x1024x704 .bf16) (x14 : Vec F S8x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ y9 y10 y11 y12 y13 y14, ⌜Point i x0 x1 x2 x3 x4 x5 x6 x7 x8 x9 x10 x11 x14 y9 y10 y11 y12 y13 y14⌝ ∗ owns (c : Thread nD τ) arg11 fullShare y9 ∗ owns (c : Thread nD τ) arg12 fullShare y10 ∗ owns (c : Thread nD τ) arg13 fullShare y11 ∗ owns (c : Thread nD τ) arg14 fullShare y12 ∗ owns (c : Thread nD τ) arg15 fullShare y13 ∗ owns (c : Thread nD τ) arg16 fullShare y14)) -∗ K ⟨⟩))
          ⊢ wp frame (wpE (defs₀ (F := F)) Variants.none c none) E (cc0_mlp_fwd_loss i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_mlp_fwd_loss_eq_skeleton]; unfold cc0_mlp_fwd_loss_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    by_cases hc1 : k0_cond1 i = 1#1 <;> by_cases hc2 : k0_cond2 i = 1#1 <;> by_cases hc3 : k0_cond3 i = 1#1 <;> by_cases hc4 : k0_cond4 i = 1#1
    all_goals first
      | exact absurd hc2 (by revert hc1; revert i; decide +kernel)
      | exact absurd hc4 (by revert hc3; revert i; decide +kernel)
      | skip
    all_goals
      sl_exec (disch := first | sl_exact hc1 | sl_exact hc2 | sl_exact hc3 | sl_exact hc4)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      iexists _, _, _, _, _, _; isplitr; swap
      · isplitl [H9]
        · iexists _; isplitr; swap; · iexact H9
          ipureintro; rfl
        isplitl [H10]
        · iexists _; isplitr; swap; · iexact H10
          ipureintro; rfl
        isplitl [H11]
        · iexists _; isplitr; swap; · iexact H11
          ipureintro; rfl
        isplitl [H12]
        · iexists _; isplitr; swap; · iexact H12
          ipureintro; rfl
        isplitl [H13]
        · iexists _; isplitr; swap; · iexact H13
          ipureintro; rfl
        · iexists _; isplitr; swap; · iexact H14
          ipureintro; rfl
      ipureintro
      sl_unfold_words
      dsimp only
      clear hf0 hf1 hf2 hf3 hf4 hf5 hf6 hf7 hf8 hf9 hf10 hf11 hf12 hf13 hf14
      clear K E
      simp only [read_stack, read_stackC, load_stack, load_skip, load_fill, read_fill, read_fill8, load_held, ld_block, ld_row, ld_eight, ld_weights,
        Memref.IsWhole.read_unread]
      simp only [Point, hPoint, sPoint, lossPoint, hc1, hc2, hc3, if_pos, if_neg, not_false_eq_true, reduceIte]
      refine ⟨?_, ?_, ?_, ?_, ?_, ?_⟩ <;> first | trivial | rfl

end Cert.LossIdeal.Gen

end
-- ==== Proof.LossFrame.lean ====
/- The feed-forward block with the loss: what its windows hold after every point, and its run. -/
module

public import proofs.«01_k».proof.Proof.LossBody
public import Idealize.ShloMosaic.Lib.Pipeline.FrameSuffix

@[expose] public section

set_option maxRecDepth 16384

noncomputable section

namespace Cert.LossIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The points of the grid by number. -/
def pt (n : ℕ) : Fin cfg0.N := ⟨n % 16, by rw [show cfg0.N = 16 from N_0]; omega⟩

/-- A point is the one of its number. -/
theorem pt_val (t : Fin cfg0.N) : pt t.val = t := Fin.ext (Nat.mod_eq_of_lt (lt_of_lt_of_eq t.isLt (show cfg0.N = 16 from N_0)))

/-- The modulated, normalised rows of row `i` of blocks. -/
def hAt (c : Dev nD) (i : ℕ) : Vec F S1024x1024 .bf16 := k0_pay10 (iblk m c 0 (pt (4 * i))) (iblk m c 1 (pt (4 * i))) (iblk m c 2 (pt (4 * i))) (iblk m c 3 (pt (4 * i)))

/-- The sum of the blocks' products up to point `n`, started anew at every row of blocks. -/
def mixAt (c : Dev nD) : ℕ → Vec F S1024x1024 .f32
  | 0 => mixPoint (iblk m c 5 (pt 0)) (iblk m c 6 (pt 0)) (iblk m c 7 (pt 0)) (hAt m c 0) k0_pay11
  | n + 1 => mixPoint (iblk m c 5 (pt (n + 1))) (iblk m c 6 (pt (n + 1))) (iblk m c 7 (pt (n + 1))) (hAt m c ((n + 1) / 4))
      (if (n + 1) % 4 = 0 then k0_pay11 else mixAt c n)

/-- The loss after row `i` of blocks. -/
def lossAt (c : Dev nD) : ℕ → Vec F S8x128 .f32
  | 0 => k0_pay8 (iblk m c 0 (pt 3)) (iblk m c 4 (pt 3)) (mixAt m c 3) (iblk m c 8 (pt 3))
  | i + 1 => k0_pay9 (iblk m c 0 (pt (4 * (i + 1) + 3))) (iblk m c 4 (pt (4 * (i + 1) + 3))) (mixAt m c (4 * (i + 1) + 3))
      (iblk m c 8 (pt (4 * (i + 1) + 3))) (lossAt c i)

/-- What the windows hold after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (k0_pay7 (iblk m c 0 t) (iblk m c 4 t) (mixAt m c t.val) (iblk m c 8 t) : Vec F S1024x1024 .f32)
    | ⟨10, _⟩ => (mixAt m c t.val : Vec F S1024x1024 .f32)
    | ⟨11, _⟩ => (hAt m c (t.val / 4) : Vec F S1024x1024 .bf16)
    | ⟨12, _⟩ => (gatePoint (iblk m c 5 t) (hAt m c (t.val / 4)) : Vec F S1x1024x704 .bf16)
    | ⟨13, _⟩ => (upPoint (iblk m c 6 t) (hAt m c (t.val / 4)) : Vec F S1x1024x704 .bf16)
    | ⟨14, _⟩ => (lossAt m c (t.val / 4) : Vec F S8x128 .f32)
  Φ _ := Pipeline.ΦA spec0 c
  q w := Pipeline.shareOf spec0 w
  owed _ := 0

/-- The arrays are those the region is entered with. -/
theorem A_eq (c : Dev nD) (w : Fin cfg0.W) : (dats m 0 c).A w = V m c (Pipeline.arrRef spec0 w) := by
  dsimp only [dats]

/-- What is claimed of the sum of the products. -/
theorem after10 (c : Dev nD) (t : Fin cfg0.N) : (dats m 0 c).after 10 t = mixAt m c t.val := by dsimp only [dats]
/-- What is claimed of the gate's hidden columns. -/
theorem after12 (c : Dev nD) (t : Fin cfg0.N) : (dats m 0 c).after 12 t = gatePoint (iblk m c 5 t) (hAt m c (t.val / 4)) := by dsimp only [dats]
/-- What is claimed of the other hidden columns. -/
theorem after13 (c : Dev nD) (t : Fin cfg0.N) : (dats m 0 c).after 13 t = upPoint (iblk m c 6 t) (hAt m c (t.val / 4)) := by dsimp only [dats]

/-- Where the first point of a row of blocks is. -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- Where the last point of a row of blocks is. -/
theorem last_iff : ∀ t : Fin cfg0.N, k0_cond2 (grid0.coords t) = 1#1 ↔ t.val % 4 = 3 :=
  (by decide +kernel : ∀ t : Fin grid0.N, k0_cond2 (grid0.coords t) = 1#1 ↔ t.val % 4 = 3)

/-- Where the first row of blocks is. -/
theorem row0_iff : ∀ t : Fin cfg0.N, k0_cond3 (grid0.coords t) = 1#1 ↔ t.val < 4 :=
  (by decide +kernel : ∀ t : Fin grid0.N, k0_cond3 (grid0.coords t) = 1#1 ↔ t.val < 4)

/-- The window of the loss gradient is left alone but at the last point of a row of blocks. -/
theorem idle9 : ∀ t : Fin cfg0.N, cfg0.idle 9 (cfg0.grid.coords t) = true ↔ t.val % 4 ≠ 3 :=
  (by decide +kernel : ∀ t : Fin grid0.N, idle0 9 (grid0.coords t) = true ↔ t.val % 4 ≠ 3)

/-- The window of the normalised rows is left alone but at the first point of a row of blocks. -/
theorem idle11 : ∀ t : Fin cfg0.N, cfg0.idle 11 (cfg0.grid.coords t) = true ↔ t.val % 4 ≠ 0 :=
  (by decide +kernel : ∀ t : Fin grid0.N, idle0 11 (grid0.coords t) = true ↔ t.val % 4 ≠ 0)

/-- The window of the loss is left alone but at the last point of a row of blocks. -/
theorem idle14 : ∀ t : Fin cfg0.N, cfg0.idle 14 (cfg0.grid.coords t) = true ↔ t.val % 4 ≠ 3 :=
  (by decide +kernel : ∀ t : Fin grid0.N, idle0 14 (grid0.coords t) = true ↔ t.val % 4 ≠ 3)

/-- The first point of a row of blocks leaves the normalised rows, and the others find them. -/
theorem before11 (c : Dev nD) : ∀ (n : ℕ) (t : Fin cfg0.N) (x), t.val = n → t.val % 4 ≠ 0 →
    (dats m 0 c).before 11 t x = (hAt m c (t.val / 4) : Vec F S1024x1024 .bf16)
  | 0, t, x, h, h4 => absurd (by rw [h]) h4
  | n + 1, t, x, h, h4 => by
    rw [(dats m 0 c).before_of_pos 11 t (by omega) ((cfg0.win 11).fetch_out rfl t) x,
      if_neg (fun hf => by have := (flush0_11 _).mp hf; dsimp only at this; omega)]
    unfold Dat.left
    by_cases hp : (t.val - 1) % 4 = 0
    · rw [Bool.eq_false_iff.mpr (fun hi => (idle11 _).mp hi hp)]
      show hAt m c ((t.val - 1) / 4) = _
      congr 1
      omega
    · rw [(idle11 _).mpr hp]
      refine (before11 c n _ x (by show t.val - 1 = n; omega) hp).trans ?_
      show hAt m c ((t.val - 1) / 4) = _
      congr 1
      omega

/-- The points behind a row of blocks find the loss that row left. -/
theorem before14 (c : Dev nD) : ∀ (n : ℕ) (t : Fin cfg0.N) (x), t.val = n → 4 ≤ t.val →
    (dats m 0 c).before 14 t x = (lossAt m c (t.val / 4 - 1) : Vec F S8x128 .f32)
  | 0, t, x, h, h4 => absurd h4 (by omega)
  | n + 1, t, x, h, h4 => by
    have hN : t.val < 16 := lt_of_lt_of_eq t.isLt (show cfg0.N = 16 from N_0)
    rw [(dats m 0 c).before_of_pos 14 t (by omega) ((cfg0.win 14).fetch_out rfl t) x,
      if_neg (fun hf => by have := (flush0_14 _).mp hf; dsimp only at this; omega)]
    unfold Dat.left
    by_cases hp : (t.val - 1) % 4 = 3
    · rw [Bool.eq_false_iff.mpr (fun hi => (idle14 _).mp hi hp)]
      show lossAt m c ((t.val - 1) / 4) = _
      congr 1
      omega
    · rw [(idle14 _).mpr hp]
      refine (before14 c n _ x (by show t.val - 1 = n; omega) (by show 4 ≤ t.val - 1; omega)).trans ?_
      show lossAt m c ((t.val - 1) / 4 - 1) = _
      congr 1
      omega

/-- The sum of the products is found as the point before left it. -/
theorem before10 (c : Dev nD) (t : Fin cfg0.N) (ht : t.val % 4 ≠ 0) (x) :
    (dats m 0 c).before 10 t x = (mixAt m c (t.val - 1) : Vec F S1024x1024 .f32) := by
  rw [(dats m 0 c).before_of_pos 10 t (by omega) ((cfg0.win 10).fetch_out rfl t) x,
    if_neg (fun hf => by have := (flush0_10 _).mp hf; dsimp only at this; omega)]
  rfl

/-- The values one point leaves are those claimed of it. -/
theorem point_values (c : Dev nD) (t : Fin cfg0.N) (x9 : Vec F S1024x1024 .f32) (x10 : Vec F S1024x1024 .f32) (x11 : Vec F S1024x1024 .bf16) (x14 : Vec F S8x128 .f32)
    {y9 y10 : Vec F S1024x1024 .f32} {y11 : Vec F S1024x1024 .bf16} {y12 y13 : Vec F S1x1024x704 .bf16} {y14 : Vec F S8x128 .f32}
    (h10 : t.val % 4 ≠ 0 → x10 = mixAt m c (t.val - 1)) (h11 : t.val % 4 ≠ 0 → x11 = hAt m c (t.val / 4)) (h14 : 4 ≤ t.val → x14 = lossAt m c (t.val / 4 - 1))
    (h : Point (grid0.coords t) (iblk m c 0 t) (iblk m c 1 t) (iblk m c 2 t) (iblk m c 3 t) (iblk m c 4 t) (iblk m c 5 t) (iblk m c 6 t) (iblk m c 7 t) (iblk m c 8 t)
      x9 x10 x11 x14 y9 y10 y11 y12 y13 y14) :
    y10 = mixAt m c t.val ∧ y11 = hAt m c (t.val / 4) ∧ y12 = gatePoint (iblk m c 5 t) (hAt m c (t.val / 4)) ∧ y13 = upPoint (iblk m c 6 t) (hAt m c (t.val / 4))
      ∧ (t.val % 4 ≠ 3 → y9 = x9) ∧ (t.val % 4 = 3 → y9 = k0_pay7 (iblk m c 0 t) (iblk m c 4 t) (mixAt m c t.val) (iblk m c 8 t))
      ∧ (t.val % 4 ≠ 3 → y14 = x14) ∧ (t.val % 4 = 3 → y14 = lossAt m c (t.val / 4)) := by
  have hN : t.val < 16 := lt_of_lt_of_eq t.isLt (show cfg0.N = 16 from N_0)
  obtain ⟨r11, r12, r13, r10, r9, r14⟩ := h
  have eh : hPoint (grid0.coords t) (iblk m c 0 t) (iblk m c 1 t) (iblk m c 2 t) (iblk m c 3 t) x11 = hAt m c (t.val / 4) := by
    unfold hPoint
    by_cases h0 : t.val % 4 = 0
    · rw [if_pos ((first_iff t).mpr h0)]
      unfold hAt
      rw [show 4 * (t.val / 4) = t.val by omega, pt_val]
    · rw [if_neg (fun hc => h0 ((first_iff t).mp hc)), h11 h0]
  have em : mixPoint (iblk m c 5 t) (iblk m c 6 t) (iblk m c 7 t) (hAt m c (t.val / 4)) (sPoint (grid0.coords t) x10) = mixAt m c t.val := by
    unfold sPoint
    rcases hn : t.val with _ | n
    · rw [if_pos ((first_iff t).mpr (by omega))]
      conv_rhs => unfold mixAt
      rw [show pt 0 = t by rw [← hn, pt_val]]
    · conv_rhs => unfold mixAt
      rw [show pt (n + 1) = t by rw [← hn, pt_val]]
      by_cases h0 : (n + 1) % 4 = 0
      · rw [if_pos ((first_iff t).mpr (by omega)), if_pos h0]
      · rw [if_neg (fun hc => h0 (by have := (first_iff t).mp hc; omega)), if_neg h0, h10 (by omega), show t.val - 1 = n by omega]
  rw [eh] at r11 r12 r13 r10 r9 r14
  rw [em] at r10 r9 r14
  refine ⟨r10, r11, r12, r13, fun h3 => ?_, fun h3 => ?_, fun h3 => ?_, fun h3 => ?_⟩
  · rw [r9, if_neg (fun hc => h3 ((last_iff t).mp hc))]
  · rw [r9, if_pos ((last_iff t).mpr h3)]
  · rw [r14]; exact if_neg (fun hc => h3 ((last_iff t).mp hc))
  · rw [r14]
    refine (if_pos ((last_iff t).mpr h3)).trans ?_
    by_cases h4 : t.val < 4
    · have e3 : t.val = 3 := by omega
      rw [if_pos ((row0_iff t).mpr h4), e3]
      show _ = lossAt m c 0
      conv_rhs => unfold lossAt
      rw [show pt 3 = t by rw [← e3, pt_val]]
    · rw [if_neg (fun hc => h4 ((row0_iff t).mp hc)), h14 (by omega)]
      obtain ⟨k, hk⟩ : ∃ k, t.val / 4 = k + 1 := ⟨t.val / 4 - 1, by omega⟩
      rw [hk]
      conv_rhs => unfold lossAt
      rw [show 4 * (k + 1) + 3 = t.val by omega, pt_val, Nat.add_sub_cancel]

/-- What the body hands back of a window: what it found where it is left alone, else what is claimed. -/
theorem hand_back {c : Dev nD} (dat : Dat τ (Elt F) Unit ℕ (UR sig nD τ) ℕ cfg0 c) (w : Fin cfg0.W) (t : Fin cfg0.N) (y : (cfg0.win w).block.Idx → Elt F (cfg0.win w).elt)
    (hi : cfg0.idle w (cfg0.grid.coords t) = true → (cfg0.win w).flush t = false → ∃ d, y = dat.before w t d)
    (hf : (cfg0.idle w (cfg0.grid.coords t) = true → (cfg0.win w).flush t = true) → y = dat.after w t) :
    owns c ((cfg0.win w).stage (cfg0.slots t w)) fullShare y ⊢ (dat.leavesExact w t : sProp 𝕄) := by
  unfold Dat.leavesExact
  cases e : cfg0.idle w (cfg0.grid.coords t)
  · rw [hf (fun h => absurd (e.symm.trans h) Bool.false_ne_true)]
  · cases e' : (cfg0.win w).flush t
    · obtain ⟨d, rfl⟩ := hi e e'
      iintro H; iexists d; iexact H
    · rw [hf (fun _ => e')]

/-- The body as the table of bodies holds it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body leaves at every point what is claimed. -/
theorem body (c : Dev nD) : BodyObligation (dats m 0 c) (defs₀ (F := F)) Variants.none () Set.univ := fun t => by
  have e0 := before0_0_of m (dats m 0 c) (A_eq m c 0) (fun _ => rfl) t
  have e1 := before0_1_of m (dats m 0 c) (A_eq m c 1) (fun _ => rfl) t
  have e2 := before0_2_of m (dats m 0 c) (A_eq m c 2) (fun _ => rfl) t
  have e3 := before0_3_of m (dats m 0 c) (A_eq m c 3) (fun _ => rfl) t
  have e4 := before0_4_of m (dats m 0 c) (A_eq m c 4) (fun _ => rfl) t
  have e5 := before0_5_of m (dats m 0 c) (A_eq m c 5) (fun _ => rfl) t
  have e6 := before0_6_of m (dats m 0 c) (A_eq m c 6) (fun _ => rfl) t
  have e7 := before0_7_of m (dats m 0 c) (A_eq m c 7) (fun _ => rfl) t
  have e8 := before0_8_of m (dats m 0 c) (A_eq m c 8) (fun _ => rfl) t
  rw [bigSep_W0, bigSep_W0, defs₀_row]
  refine triple_restated (P := iprop((dats m 0 c).Φ t.castSucc ∗ (dats m 0 c).owesAt () t.castSucc
    ∗ (∃ z, owns (c : Thread nD τ) (win0_0.stage (cfg0.slots t 0)) fullShare ((dats m 0 c).before 0 t z))
    ∗ (∃ z, owns (c : Thread nD τ) (win0_1.stage (cfg0.slots t 1)) fullShare ((dats m 0 c).before 1 t z))
    ∗ (∃ z, owns (c : Thread nD τ) (win0_2.stage (cfg0.slots t 2)) fullShare ((dats m 0 c).before 2 t z))
    ∗ (∃ z, owns (c : Thread nD τ) (win0_3.stage (cfg0.slots t 3)) fullShare ((dats m 0 c).before 3 t z))
    ∗ (∃ z, owns (c : Thread nD τ) (win0_4.stage (cfg0.slots t 4)) fullShare ((dats m 0 c).before 4 t z))
    ∗ (∃ z, owns (c : Thread nD τ) (win0_5.stage (cfg0.slots t 5)) fullShare ((dats m 0 c).before 5 t z))
    ∗ (∃ z, owns (c : Thread nD τ) (win0_6.stage (cfg0.slots t 6)) fullShare ((dats m 0 c).before 6 t z))
    ∗ (∃ z, owns (c : Thread nD τ) (win0_7.stage (cfg0.slots t 7)) fullShare ((dats m 0 c).before 7 t z))
    ∗ (∃ z, owns (c : Thread nD τ) (win0_8.stage (cfg0.slots t 8)) fullShare ((dats m 0 c).before 8 t z))
    ∗ (∃ z, owns (c : Thread nD τ) (win0_9.stage (cfg0.slots t 9)) fullShare ((dats m 0 c).before 9 t z))
    ∗ (∃ z, owns (c : Thread nD τ) (win0_10.stage (cfg0.slots t 10)) fullShare ((dats m 0 c).before 10 t z))
    ∗ (∃ z, owns (c : Thread nD τ) (win0_11.stage (cfg0.slots t 11)) fullShare ((dats m 0 c).before 11 t z))
    ∗ (∃ z, owns (c : Thread nD τ) (win0_12.stage (cfg0.slots t 12)) fullShare ((dats m 0 c).before 12 t z))
    ∗ (∃ z, owns (c : Thread nD τ) (win0_13.stage (cfg0.slots t 13)) fullShare ((dats m 0 c).before 13 t z))
    ∗ (∃ z, owns (c : Thread nD τ) (win0_14.stage (cfg0.slots t 14)) fullShare ((dats m 0 c).before 14 t z))))
    (Q := fun _ => iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ (dats m 0 c).leavesExact 9 t
    ∗ owns (c : Thread nD τ) (win0_10.stage (cfg0.slots t 10)) fullShare ((dats m 0 c).after 10 t)
    ∗ (dats m 0 c).leavesExact 11 t
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ (dats m 0 c).leavesExact 14 t)) ?_ rfl .rfl fun _ => .rfl
  simp only [e0, e1, e2, e3, e4, e5, e6, e7, e8]
  rw [show (dats m 0 c).Φ t.succ = (dats m 0 c).Φ t.castSucc from rfl,
    show (dats m 0 c).owesAt () t.succ = (dats m 0 c).owesAt () t.castSucc from rfl]
  iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((point_run c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) ((dats m 0 c).before 9 t d9) ((dats m 0 c).before 10 t d10) ((dats m 0 c).before 11 t d11) ((dats m 0 c).before 12 t d12) ((dats m 0 c).before 13 t d13) ((dats m 0 c).before 14 t d14)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, ⟨%y9, %y10, %y11, %y12, %y13, %y14, %hP, H9, H10, H11, H12, H13, H14⟩⟩
  obtain ⟨r10, r11, r12, r13, r9, r9', r14, r14'⟩ := point_values m c t _ _ _ _ (fun h => before10 m c t h _) (fun h => before11 m c _ t _ rfl h)
    (fun h => before14 m c _ t _ rfl h) hP
  clear hP
  have l9 := hand_back (dats m 0 c) 9 t y9 (fun hi _ => ⟨d9, r9 ((idle9 t).mp hi)⟩) (fun hf => r9' (by
    by_contra h3
    exact h3 ((flush0_9 t).mp (hf ((idle9 t).mpr h3)))))
  have l11 := hand_back (dats m 0 c) 11 t y11 (fun hi _ => ⟨d11, r11.trans (before11 m c _ t d11 rfl ((idle11 t).mp hi)).symm⟩) (fun _ => r11)
  have l14 := hand_back (dats m 0 c) 14 t y14 (fun hi _ => ⟨d14, r14 ((idle14 t).mp hi)⟩) (fun hf => r14' (by
    by_contra h3
    have := (flush0_14 t).mp (hf ((idle14 t).mpr h3))
    omega))
  have l10 : owns (c : Thread nD τ) (win0_10.stage (cfg0.slots t 10)) fullShare y10 ⊢ (owns (c : Thread nD τ) (win0_10.stage (cfg0.slots t 10)) fullShare ((dats m 0 c).after 10 t) : sProp 𝕄) := by
    rw [r10, after10]
  have l12 : owns (c : Thread nD τ) (win0_12.stage (cfg0.slots t 12)) fullShare y12 ⊢ (owns (c : Thread nD τ) (win0_12.stage (cfg0.slots t 12)) fullShare ((dats m 0 c).after 12 t) : sProp 𝕄) := by
    rw [r12, after12]
  have l13 : owns (c : Thread nD τ) (win0_13.stage (cfg0.slots t 13)) fullShare y13 ⊢ (owns (c : Thread nD τ) (win0_13.stage (cfg0.slots t 13)) fullShare ((dats m 0 c).after 13 t) : sProp 𝕄) := by
    rw [r13, after13]
  clear r9 r9' r10 r11 r12 r13 r14 r14'
  isplitl [HS]; · iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply l9; iexact H9
  isplitl [H10]; · iapply l10; iexact H10
  isplitl [H11]; · iapply l11; iexact H11
  isplitl [H12]; · iapply l12; iexact H12
  isplitl [H13]; · iapply l13; iexact H13
  iapply l14; iexact H14

variable {m}

set_option backward.isDefEq.respectTransparency.types false in
set_option maxHeartbeats 800000 in
/-- Every run ends with the arrays of the windows as claimed, the lines after the region done and no signal left. -/
theorem run_quiet : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := fun _ => .rfl) (hout := fun _ => .rfl)

/-- Every run ends with the arrays of the windows as claimed and the lines after the region done. -/
theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiet ρ)

/-- Every run leaves the arguments as they were and no signal. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run ρ)) ((θ_run defs _ _).mono (fun _ h => h.2) (run_quiet ρ))

end Cert.LossIdeal.Gen

end
-- ==== Proof.LossMath.lean ====
/- What one point of the feed-forward block with the loss computes, entry by entry: the normalised rows, the hidden columns,
   the products with the second weights, the distance to the target, and the point's part of the loss. -/
module

public import proofs.«01_k».proof.Proof.LossFrame
public import proofs.«01_k».proof.Proof.NormMath
public import proofs.«01_k».proof.Proof.Common
public import Idealize.ShloMosaic.Lib.Pipeline.ValueKit

@[expose] public section

noncomputable section

namespace Cert.Proof.LossMath

open Idealize.ShloMosaic hiding ix1 ix2 ix3 eq_ix2 eq_ix3
open Cert.LossIdeal Cert.LossIdeal.Gen Idealize.ShloMosaic.TcCoe Idealize.SL.Sem Idealize.ShloMosaic.ValueIdx
open Idealize.ShloMosaic.Tactic
open Cert.Proof.NormMath
open scoped BigOperators

/-- The activation of the gate and the other factor. -/
def swish (g u : EReal) : EReal := g * Ideal.logistic g * u

/-- A hidden entry: a row by a row of the transposed weights. -/
def hid (h : Fin 1024 → EReal) (w : Fin 1024 → EReal) : EReal := ∑ d, h d * w d

/-- The distance to the target: the residual and the gated branch less the target. -/
def dist (x g y t : EReal) : EReal := x + g * y - t

/-- The numbers 2⁻¹⁰, one half and two as the programs write them. -/
def inv : EReal := Ideal.ofBits .f32 0x3A800000#32
def half : EReal := Ideal.ofBits .f32 0x3F000000#32
def two : EReal := Ideal.ofBits .f32 0x40000000#32

/-- A row's part of the loss before the half. -/
def rowLoss (e : Fin 1024 → EReal) : EReal := (∑ d, e d * e d) * inv

/-! ## The halves of a block -/

/-- A row of the first or the last 512 rows, counted in the block. -/
def up (a : Fin 512) : Fin 1024 := ⟨a.val, by omega⟩
def down (a : Fin 512) : Fin 1024 := ⟨512 + a.val, by omega⟩

/-- Every row is in one of the halves. -/
theorem exists_row (r : Fin 1024) : (∃ a, r = up a) ∨ ∃ a, r = down a := by
  by_cases h : r.val < 512
  · exact .inl ⟨⟨r.val, h⟩, rfl⟩
  · exact .inr ⟨⟨r.val - 512, by omega⟩, Fin.ext (show r.val = 512 + (r.val - 512) by omega)⟩

/-- A row of the first half stands at its place in the block. -/
theorem emb_top (a : Fin 512) (d : Fin 1024) : topR.emb (ix2 a d) = ix2 (up a) d := by
  funext b
  match b with
  | ⟨0, _⟩ => exact Fin.ext (show 0 + 1 * a.val = a.val by omega)
  | ⟨1, _⟩ => exact Fin.ext (show 0 + 1 * d.val = d.val by omega)

/-- A row of the last half stands 512 rows further. -/
theorem emb_bot (a : Fin 512) (d : Fin 1024) : botR.emb (ix2 a d) = ix2 (down a) d := by
  funext b
  match b with
  | ⟨0, _⟩ => exact Fin.ext (show 512 + 1 * a.val = 512 + a.val by omega)
  | ⟨1, _⟩ => exact Fin.ext (show 0 + 1 * d.val = d.val by omega)

/-- The same of the first half of a block of hidden columns. -/
theorem emb_topC (a : Fin 512) (f : Fin 704) : topC.emb (ix3 (0 : Fin 1) a f) = ix3 (0 : Fin 1) (up a) f := by
  funext b
  match b with
  | ⟨0, _⟩ => rfl
  | ⟨1, _⟩ => exact Fin.ext (show 0 + 1 * a.val = a.val by omega)
  | ⟨2, _⟩ => exact Fin.ext (show 0 + 1 * f.val = f.val by omega)

/-- The same of its last half. -/
theorem emb_botC (a : Fin 512) (f : Fin 704) : botC.emb (ix3 (0 : Fin 1) a f) = ix3 (0 : Fin 1) (down a) f := by
  funext b
  match b with
  | ⟨0, _⟩ => rfl
  | ⟨1, _⟩ => exact Fin.ext (show 512 + 1 * a.val = 512 + a.val by omega)
  | ⟨2, _⟩ => exact Fin.ext (show 0 + 1 * f.val = f.val by omega)

/-- The rows above the last 512 are not among them. -/
theorem top_not (a : Fin 512) (d : Fin 1024) : ix2 (up a) d ∉ botR.set := by
  rw [Rect.mem_set_unit]
  intro h
  have h0 : 512 ≤ a.val := (h 0).1
  omega

/-- The same of a block of hidden columns. -/
theorem topC_not (a : Fin 512) (f : Fin 704) : ix3 (0 : Fin 1) (up a) f ∉ botC.set := by
  rw [Rect.mem_set_unit]
  intro h
  have h0 : 512 ≤ a.val := (h 1).1
  omega

/-- Two halves with the entries of one table are that table. -/
theorem stack_at (A B : Vec Ideal S512x1024 .f32) (P : Fin 1024 → Fin 1024 → EReal) (hA : ∀ a d, A (ix2 a d) = P (up a) d)
    (hB : ∀ a d, B (ix2 a d) = P (down a) d) (r d : Fin 1024) : stack A B (ix2 r d) = P r d := by
  unfold stack
  rcases exists_row r with ⟨a, rfl⟩ | ⟨a, rfl⟩
  · rw [View.canon_cons_of_not_mem (⟨botR, B⟩ : View.Piece (Elt Ideal) S1024x1024 .f32) _ (top_not a d), ← emb_top, View.canon_cons_emb, hA]
  · rw [← emb_bot, View.canon_cons_emb, hB]

/-- The same of hidden columns. -/
theorem stackC_at (A B : Vec Ideal S1x512x704 .bf16) (P : Fin 1024 → Fin 704 → EReal) (hA : ∀ a f, A (ix3 (0 : Fin 1) a f) = P (up a) f)
    (hB : ∀ a f, B (ix3 (0 : Fin 1) a f) = P (down a) f) (r : Fin 1024) (f : Fin 704) : stackC A B (ix3 (0 : Fin 1) r f) = P r f := by
  unfold stackC
  rcases exists_row r with ⟨a, rfl⟩ | ⟨a, rfl⟩
  · rw [View.canon_cons_of_not_mem (⟨botC, B⟩ : View.Piece (Elt Ideal) S1x1024x704 .bf16) _ (topC_not a f), ← emb_topC, View.canon_cons_emb, hA]
  · rw [← emb_botC, View.canon_cons_emb, hB]

/-- The first rows of a block, loaded. -/
theorem ld_top {e : EltTy} (x : Vec Ideal S1024x1024 e) (a : Fin 512) (d : Fin 1024) : View.ld x topR (ix2 a d) = x (ix2 (up a) d) :=
  congrArg x (emb_top a d)
/-- The last rows of a block, loaded. -/
theorem ld_bot {e : EltTy} (x : Vec Ideal S1024x1024 e) (a : Fin 512) (d : Fin 1024) : View.ld x botR (ix2 a d) = x (ix2 (down a) d) :=
  congrArg x (emb_bot a d)

/-! ## The point's products -/

/-- The row `f` of a block of weights. -/
def wrow (w : S1x704x1024.Idx → EReal) (f : Fin 704) : Fin 1024 → EReal := fun d => w (ix3 (0 : Fin 1) f d)

/-- Rows by a block of the first weights. -/
theorem first_at (w : Vec Ideal S1x704x1024 .bf16) (h : Vec Ideal S512x1024 .bf16) (a : Fin 512) (f : Fin 704) :
    k0_pay15 w h (ix2 a f) = hid (row h a) (wrow w f) := by
  unfold k0_pay15 matmul
  rw [Common.matmul_at dot_S512x1024_S704x1024_S512x704_1_1_0_0_n_n 1024 rfl rfl _ _ _ _ _ (fun k => ix2 a k) (fun k => ix2 f k)]
  · rw [show (constant S512x704 .f32 0x00000000#32 : FVec Ideal _ _) (ix2 a f) = 0 from Common.ofBits_zero, zero_add, shapeCast_self]
    refine Finset.sum_congr rfl fun k _ => congrArg (row h a k * ·) ?_
    unfold k0_pay12
    rw [shapeCast_1ab_ab_apply]
    rfl
  · intro q k hq b
    match b with
    | ⟨0, _⟩ => rfl
    | ⟨1, _⟩ => exact hq
  · intro q k hq b
    match b with
    | ⟨0, _⟩ => rfl
    | ⟨1, _⟩ => exact hq

/-- The four products of the point are the same one of other operands. -/
theorem pay16_eq (w : Vec Ideal S1x704x1024 .bf16) (h : Vec Ideal S512x1024 .bf16) : k0_pay16 w h = k0_pay15 w h := rfl
/-- Each half's product for either factor is the same function of the weights and the rows. -/
theorem pay17_eq (w : Vec Ideal S1x704x1024 .bf16) (h : Vec Ideal S512x1024 .bf16) : k0_pay17 w h = k0_pay15 w h := rfl
/-- The same of the last half. -/
theorem pay18_eq (w : Vec Ideal S1x704x1024 .bf16) (h : Vec Ideal S512x1024 .bf16) : k0_pay18 w h = k0_pay15 w h := rfl

/-- The stored hidden columns are the product's. -/
theorem lift_at (g : FVec Ideal S512x704 .f32) (a : Fin 512) (f : Fin 704) : k0_pay3 g (ix3 (0 : Fin 1) a f) = g (ix2 a f) := by
  unfold k0_pay3
  show shapeCast S1x512x704 _ shapeCasts_S512x704_S1x512x704 (ix3 (0 : Fin 1) a f) = _
  rw [shapeCast_ab_1ab_apply]
  rfl

/-- The gate's hidden columns at an index. -/
theorem gate_at (w : Vec Ideal S1x704x1024 .bf16) (h : Vec Ideal S1024x1024 .bf16) (r : Fin 1024) (f : Fin 704) :
    gatePoint w h (ix3 (0 : Fin 1) r f) = hid (row h r) (wrow w f) := by
  refine stackC_at _ _ (fun r f => hid (row h r) (wrow w f)) (fun a f => ?_) (fun a f => ?_) r f
  · refine (lift_at (k0_pay15 w (View.ld h topR)) a f).trans ?_
    rw [first_at, show row (View.ld h topR) a = row h (up a) from funext fun d => ld_top h a d]
  · refine (lift_at (k0_pay15 w (View.ld h botR)) a f).trans ?_
    rw [first_at, show row (View.ld h botR) a = row h (down a) from funext fun d => ld_bot h a d]

/-- The other hidden columns are stored in the same way. -/
theorem upPoint_eq (w : Vec Ideal S1x704x1024 .bf16) (h : Vec Ideal S1024x1024 .bf16) : upPoint w h = gatePoint w h := rfl

/-- Rows of the activation by a block of the second weights, added to what stands there. -/
theorem second_at (w : Vec Ideal S1x704x1024 .bf16) (g u : FVec Ideal S512x704 .f32) (s : Vec Ideal S512x1024 .f32) (a : Fin 512) (d : Fin 1024) :
    k0_pay2 (k0_pay14 w) g u s (ix2 a d) = s (ix2 a d) + ∑ f : Fin 704, swish (g (ix2 a f)) (u (ix2 a f)) * wrow w f d := by
  unfold k0_pay2 matmul
  show shapeCast S512x1024 s shapeCasts_S512x1024_S512x1024 (ix2 a d) + FloatOps.matmul (F := Ideal) _ _ _ _ _ (ix2 a d) = _
  rw [shapeCast_self, Common.matmul_at dot_S512x704_S704x1024_S512x1024_1_0_0_1_n_n 704 rfl rfl _ _ _ _ _ (fun k => ix2 a k) (fun k => ix2 k d)]
  · rw [show (constant S512x1024 .f32 0x00000000#32 : FVec Ideal _ _) (ix2 a d) = 0 from Common.ofBits_zero, zero_add]
    refine congrArg (s (ix2 a d) + ·) (Finset.sum_congr rfl fun k _ => congrArg (swish (g (ix2 a k)) (u (ix2 a k)) * ·) ?_)
    unfold k0_pay14
    rw [shapeCast_1ab_ab_apply]
    rfl
  · intro q k hq b
    match b with
    | ⟨0, _⟩ => rfl
    | ⟨1, _⟩ => exact hq
  · intro q k hq b
    match b with
    | ⟨0, _⟩ => exact hq
    | ⟨1, _⟩ => rfl

/-- The second half's product is the same one. -/
theorem pay5_eq (w : FVec Ideal S704x1024 .bf16) (g u : FVec Ideal S512x704 .f32) (s : Vec Ideal S512x1024 .f32) : k0_pay5 w g u s = k0_pay2 w g u s := rfl

/-- One block's product added to the sum, at an index. -/
theorem mix_at (x5 x6 x7 : Vec Ideal S1x704x1024 .bf16) (h : Vec Ideal S1024x1024 .bf16) (s : Vec Ideal S1024x1024 .f32) (r d : Fin 1024) :
    mixPoint x5 x6 x7 h s (ix2 r d)
      = s (ix2 r d) + ∑ f : Fin 704, swish (hid (row h r) (wrow x5 f)) (hid (row h r) (wrow x6 f)) * wrow x7 f d := by
  unfold mixPoint
  rw [pay5_eq, pay16_eq, pay17_eq, pay18_eq]
  refine stack_at _ _ (fun r d => s (ix2 r d) + ∑ f : Fin 704, swish (hid (row h r) (wrow x5 f)) (hid (row h r) (wrow x6 f)) * wrow x7 f d)
    (fun a d => ?_) (fun a d => ?_) r d
  · rw [second_at, ld_top]
    simp only [first_at]
    rw [show row (View.ld h topR) a = row h (up a) from funext fun d => ld_top h a d]
  · rw [second_at, ld_bot]
    simp only [first_at]
    rw [show row (View.ld h botR) a = row h (down a) from funext fun d => ld_bot h a d]

/-- The sum starts at nothing. -/
theorem zero_at (i : S1024x1024.Idx) : k0_pay11 (F := Ideal) i = 0 := Common.ofBits_zero

/-! ## The normalised rows, and the loss -/

/-- The normalised, modulated rows. -/
theorem norm_at (x : Vec Ideal S1024x1024 .f32) (w sh sc : Vec Ideal S1x1024 .f32) (r d : Fin 1024) :
    k0_pay10 x w sh sc (ix2 r d) = modulated (row x r) (row w 0) (row sh 0) (row sc 0) d := by
  unfold k0_pay10
  show x (ix2 r d) * broadcastTo S1024x1024 _ broadcasts_S1024x1_S1024x1024 (ix2 r d)
      * broadcastTo S1024x1024 (shapeCast S1x1024 w shapeCasts_S1x1024_S1x1024) broadcasts_S1x1024_S1024x1024 (ix2 r d)
      * broadcastTo S1024x1024 _ broadcasts_S1x1024_S1024x1024 (ix2 r d) + broadcastTo S1024x1024 sh broadcasts_S1x1024_S1024x1024 (ix2 r d) = _
  rw [spread, broadcastTo_1b_ab_apply, broadcastTo_1b_ab_apply, broadcastTo_1b_ab_apply, shapeCast_self]
  unfold modulated normed hat
  refine congrArg₂ (fun u v : EReal => row x r d * u * row w 0 d * (one + row sc 0 d) + v) ?_ rfl
  show Ideal.rsqrt (Ideal.div (shapeCast S1024x1 _ shapeCasts_S1024_S1024x1 (ix2 r 0)) width + tiny) = root (row x r)
  rw [shapeCast_apply _ shapeCasts_S1024_S1024x1 (ix2 r 0) (ix1 r) (by rw [Shape.rowMajor_val_two, Shape.rowMajor_val_one]; show r.val = r.val * 1 + 0; omega), sum_row]
  rfl

/-- The distance to the target. -/
theorem dist_at (x y t : Vec Ideal S1024x1024 .f32) (g : Vec Ideal S1x1024 .f32) (r d : Fin 1024) :
    k0_pay6 x g y t (ix2 r d) = dist (x (ix2 r d)) (g (ix2 0 d)) (y (ix2 r d)) (t (ix2 r d)) := by
  unfold k0_pay6
  show x (ix2 r d) + broadcastTo S1024x1024 g broadcasts_S1x1024_S1024x1024 (ix2 r d) * shapeCast S1024x1024 y shapeCasts_S1024x1024_S1024x1024 (ix2 r d) - t (ix2 r d) = _
  rw [broadcastTo_1b_ab_apply, shapeCast_self]
  rfl

/-- The loss's gradient. -/
theorem grad_at (x y t : Vec Ideal S1024x1024 .f32) (g : Vec Ideal S1x1024 .f32) (r d : Fin 1024) :
    k0_pay7 x g y t (ix2 r d) = dist (x (ix2 r d)) (g (ix2 0 d)) (y (ix2 r d)) (t (ix2 r d)) * inv := by
  rw [← dist_at]; rfl

/-- A block's part of the loss, at every entry of the loss block. -/
theorem part_at (x y t : Vec Ideal S1024x1024 .f32) (g : Vec Ideal S1x1024 .f32) (p : Fin 8) (q : Fin 128) :
    k0_pay8 x g y t (ix2 p q) = half * ∑ r, rowLoss (fun d => dist (x (ix2 r d)) (g (ix2 0 d)) (y (ix2 r d)) (t (ix2 r d))) := by
  unfold k0_pay8
  rw [broadcastTo_apply _ broadcasts_S1x1_S8x128 (ix2 p q) (ix2 0 0) (fun a => by match a with | ⟨0, _⟩ => rfl | ⟨1, _⟩ => rfl), shapeCast_self]
  show half * shapeCast S1x1 _ shapeCasts_S1_S1x1 (ix2 0 0) = _
  rw [shapeCast_apply _ shapeCasts_S1_S1x1 (ix2 0 0) (ix1 0) (by rw [Shape.rowMajor_val_two, Shape.rowMajor_val_one]; rfl), sum_col]
  refine congrArg (half * ·) (Finset.sum_congr rfl fun r _ => ?_)
  show shapeCast S1024x1 _ shapeCasts_S1024_S1024x1 (ix2 r 0) * inv = _
  rw [shapeCast_apply _ shapeCasts_S1024_S1024x1 (ix2 r 0) (ix1 r) (by rw [Shape.rowMajor_val_two, Shape.rowMajor_val_one]; show r.val = r.val * 1 + 0; omega), sum_row]
  refine congrArg (· * inv) (Finset.sum_congr rfl fun d _ => ?_)
  show k0_pay6 x g y t (ix2 r d) * k0_pay6 x g y t (ix2 r d) = _
  rw [dist_at]

/-- A later block's part is added. -/
theorem grow_at (x y t : Vec Ideal S1024x1024 .f32) (g : Vec Ideal S1x1024 .f32) (s : Vec Ideal S8x128 .f32) (i : S8x128.Idx) :
    k0_pay9 x g y t s i = s i + k0_pay8 x g y t i := by
  simp only [k0_pay9, shapeCast_self]; rfl

end Cert.Proof.LossMath

end
-- ==== Proof.LossValue.lean ====
/- The arrays that the feed-forward block with the loss leaves: the loss's gradient, the branch, the normalised rows, the hidden
   columns and the loss, entry by entry from the arrays that it is given. -/
module

public import proofs.«01_k».proof.Proof.LossMath

@[expose] public section

noncomputable section

namespace Cert.Proof.LossValue

open Idealize.ShloMosaic hiding ix1 ix2 ix3 eq_ix2 eq_ix3
open Cert.LossIdeal Cert.LossIdeal.Gen Idealize.ShloMosaic.TcCoe Idealize.SL.Sem Idealize.ShloMosaic.ValueIdx
open Idealize.ShloMosaic.Tactic
open Cert.Proof.NormMath Cert.Proof.LossMath
open Idealize.ShloMosaic.Pipeline (Dat)
open scoped BigOperators

/-- The windows' block indices: point `t` works on row block `t / 4` and on the hidden columns' block `t % 4`. -/
theorem idx_facts : ∀ t : Fin cfg0.N,
    (win0_0.index t (0 : Fin 2) = t.val / 4 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val % 4 ∧ win0_5.index t (1 : Fin 3) = 0 ∧ win0_5.index t (2 : Fin 3) = 0)
    ∧ (win0_6.index t (0 : Fin 3) = 4 + t.val % 4 ∧ win0_6.index t (1 : Fin 3) = 0 ∧ win0_6.index t (2 : Fin 3) = 0)
    ∧ (win0_7.index t (0 : Fin 3) = t.val % 4 ∧ win0_7.index t (1 : Fin 3) = 0 ∧ win0_7.index t (2 : Fin 3) = 0)
    ∧ (win0_8.index t (0 : Fin 2) = t.val / 4 ∧ win0_8.index t (1 : Fin 2) = 0)
    ∧ (win0_9.index t (0 : Fin 2) = t.val / 4 ∧ win0_9.index t (1 : Fin 2) = 0)
    ∧ (win0_10.index t (0 : Fin 2) = t.val / 4 ∧ win0_10.index t (1 : Fin 2) = 0)
    ∧ (win0_11.index t (0 : Fin 2) = t.val / 4 ∧ win0_11.index t (1 : Fin 2) = 0)
    ∧ (win0_12.index t (0 : Fin 3) = t.val % 4 ∧ win0_12.index t (1 : Fin 3) = t.val / 4 ∧ win0_12.index t (2 : Fin 3) = 0)
    ∧ (win0_13.index t (0 : Fin 3) = t.val % 4 ∧ win0_13.index t (1 : Fin 3) = t.val / 4 ∧ win0_13.index t (2 : Fin 3) = 0)
    ∧ (win0_14.index t (0 : Fin 2) = 0 ∧ win0_14.index t (1 : Fin 2) = 0) :=
  (by decide +kernel : ∀ t : Fin grid0.N, _)

/-- Row `a` of row block `i`, counted in the array. -/
def at_ (i : ℕ) (a : Fin 1024) : Fin 4096 := ⟨i % 4 * 1024 + a.val, by omega⟩

/-- The hidden columns' block `n`, among the four blocks and in either half of the eight. -/
def quarter (n : ℕ) : Fin 4 := ⟨n % 4, by omega⟩
def early (n : ℕ) : Fin 8 := ⟨n % 4, by omega⟩
def later (n : ℕ) : Fin 8 := ⟨4 + n % 4, by omega⟩

section
variable (m : (ℓ : Loc nD τ sig) → Buf (Elt Ideal) ℓ) (c : Dev nD)

abbrev aX : S4096x1024.Idx → EReal := V m c main_arg0
abbrev aN : S1x1024.Idx → EReal := V m c main_v5
abbrev aSh : S1x1024.Idx → EReal := V m c main_arg2
abbrev aSc : S1x1024.Idx → EReal := V m c main_arg3
abbrev aG : S1x1024.Idx → EReal := V m c main_arg4
abbrev aW : S8x704x1024.Idx → EReal := V m c main_v2
abbrev aD : S4x704x1024.Idx → EReal := V m c main_v4
abbrev aT : S4096x1024.Idx → EReal := V m c main_arg7

/-! ## The blocks of the arrays -/

/-- A point's rows of the residual. -/
theorem blk0 (t : Fin cfg0.N) (a d : Fin 1024) : iblk m c 0 t (ix2 a d) = aX m c (ix2 (at_ (t.val / 4) a) d) := by
  have f := idx_facts t
  have hN : t.val < 16 := lt_of_lt_of_eq t.isLt (show cfg0.N = 16 from N_0)
  refine congrArg (aX m c) (funext fun b => Fin.ext ?_)
  match b with
  | ⟨0, _⟩ => show win0_0.index t (0 : Fin 2) * 1024 + 1 * a.val = t.val / 4 % 4 * 1024 + a.val; omega
  | ⟨1, _⟩ => show win0_0.index t (1 : Fin 2) * 1024 + 1 * d.val = d.val; omega

/-- A point's rows of the target. -/
theorem blk8 (t : Fin cfg0.N) (a d : Fin 1024) : iblk m c 8 t (ix2 a d) = aT m c (ix2 (at_ (t.val / 4) a) d) := by
  have f := idx_facts t
  have hN : t.val < 16 := lt_of_lt_of_eq t.isLt (show cfg0.N = 16 from N_0)
  refine congrArg (aT m c) (funext fun b => Fin.ext ?_)
  match b with
  | ⟨0, _⟩ => show win0_8.index t (0 : Fin 2) * 1024 + 1 * a.val = t.val / 4 % 4 * 1024 + a.val; omega
  | ⟨1, _⟩ => show win0_8.index t (1 : Fin 2) * 1024 + 1 * d.val = d.val; omega

/-- The norm's weight at every point. -/
theorem blk1 (t : Fin cfg0.N) : row (iblk m c 1 t) (0 : Fin 1) = row (aN m c) 0 := by
  have f := idx_facts t
  funext d
  refine congrArg (aN m c) (funext fun b => Fin.ext ?_)
  match b with
  | ⟨0, _⟩ => show win0_1.index t (0 : Fin 2) * 1 + 1 * 0 = 0; omega
  | ⟨1, _⟩ => show win0_1.index t (1 : Fin 2) * 1024 + 1 * d.val = d.val; omega

/-- The shift at every point. -/
theorem blk2 (t : Fin cfg0.N) : row (iblk m c 2 t) (0 : Fin 1) = row (aSh m c) 0 := by
  have f := idx_facts t
  funext d
  refine congrArg (aSh m c) (funext fun b => Fin.ext ?_)
  match b with
  | ⟨0, _⟩ => show win0_2.index t (0 : Fin 2) * 1 + 1 * 0 = 0; omega
  | ⟨1, _⟩ => show win0_2.index t (1 : Fin 2) * 1024 + 1 * d.val = d.val; omega

/-- The scale at every point. -/
theorem blk3 (t : Fin cfg0.N) : row (iblk m c 3 t) (0 : Fin 1) = row (aSc m c) 0 := by
  have f := idx_facts t
  funext d
  refine congrArg (aSc m c) (funext fun b => Fin.ext ?_)
  match b with
  | ⟨0, _⟩ => show win0_3.index t (0 : Fin 2) * 1 + 1 * 0 = 0; omega
  | ⟨1, _⟩ => show win0_3.index t (1 : Fin 2) * 1024 + 1 * d.val = d.val; omega

/-- The gate of the residual at every point. -/
theorem blk4 (t : Fin cfg0.N) : row (iblk m c 4 t) (0 : Fin 1) = row (aG m c) 0 := by
  have f := idx_facts t
  funext d
  refine congrArg (aG m c) (funext fun b => Fin.ext ?_)
  match b with
  | ⟨0, _⟩ => show win0_4.index t (0 : Fin 2) * 1 + 1 * 0 = 0; omega
  | ⟨1, _⟩ => show win0_4.index t (1 : Fin 2) * 1024 + 1 * d.val = d.val; omega

/-- A point's block of the gate's weights. -/
theorem blk5 (t : Fin cfg0.N) (f : Fin 704) : wrow (iblk m c 5 t) f = fun d => aW m c (ix3 (early t.val) f d) := by
  have i := idx_facts t
  funext d
  refine congrArg (aW m c) (funext fun b => Fin.ext ?_)
  match b with
  | ⟨0, _⟩ => show win0_5.index t (0 : Fin 3) * 1 + 1 * 0 = t.val % 4; omega
  | ⟨1, _⟩ => show win0_5.index t (1 : Fin 3) * 704 + 1 * f.val = f.val; omega
  | ⟨2, _⟩ => show win0_5.index t (2 : Fin 3) * 1024 + 1 * d.val = d.val; omega

/-- A point's block of the other factor's weights. -/
theorem blk6 (t : Fin cfg0.N) (f : Fin 704) : wrow (iblk m c 6 t) f = fun d => aW m c (ix3 (later t.val) f d) := by
  have i := idx_facts t
  funext d
  refine congrArg (aW m c) (funext fun b => Fin.ext ?_)
  match b with
  | ⟨0, _⟩ => show win0_6.index t (0 : Fin 3) * 1 + 1 * 0 = 4 + t.val % 4; omega
  | ⟨1, _⟩ => show win0_6.index t (1 : Fin 3) * 704 + 1 * f.val = f.val; omega
  | ⟨2, _⟩ => show win0_6.index t (2 : Fin 3) * 1024 + 1 * d.val = d.val; omega

/-- A point's block of the second weights. -/
theorem blk7 (t : Fin cfg0.N) (f : Fin 704) : wrow (iblk m c 7 t) f = fun d => aD m c (ix3 (quarter t.val) f d) := by
  have i := idx_facts t
  funext d
  refine congrArg (aD m c) (funext fun b => Fin.ext ?_)
  match b with
  | ⟨0, _⟩ => show win0_7.index t (0 : Fin 3) * 1 + 1 * 0 = t.val % 4; omega
  | ⟨1, _⟩ => show win0_7.index t (1 : Fin 3) * 704 + 1 * f.val = f.val; omega
  | ⟨2, _⟩ => show win0_7.index t (2 : Fin 3) * 1024 + 1 * d.val = d.val; omega

/-! ## What the points leave -/

/-- The normalised, modulated row. -/
def hrow (r : Fin 4096) : Fin 1024 → EReal := modulated (row (aX m c) r) (row (aN m c) 0) (row (aSh m c) 0) (row (aSc m c) 0)

/-- The hidden entries of the gate and of the other factor, and one block's product with the second weights. -/
def gateOf (n : ℕ) (r : Fin 4096) (f : Fin 704) : EReal := hid (hrow m c r) fun d => aW m c (ix3 (early n) f d)
def upOf (n : ℕ) (r : Fin 4096) (f : Fin 704) : EReal := hid (hrow m c r) fun d => aW m c (ix3 (later n) f d)
def part (n : ℕ) (r : Fin 4096) (d : Fin 1024) : EReal := ∑ f : Fin 704, swish (gateOf m c n r f) (upOf m c n r f) * aD m c (ix3 (quarter n) f d)

/-- The branch, its distance to the target, and the loss. -/
def mixOf (r : Fin 4096) (d : Fin 1024) : EReal := ∑ s ∈ Finset.range 4, part m c s r d
def errOf (r : Fin 4096) (d : Fin 1024) : EReal := dist (aX m c (ix2 r d)) (aG m c (ix2 0 d)) (mixOf m c r d) (aT m c (ix2 r d))
def lossTo (i : ℕ) : EReal := ∑ s ∈ Finset.range i, half * ∑ a : Fin 1024, rowLoss (errOf m c (at_ s a))

/-- The normalised rows of a row of blocks. -/
theorem val_h (i : ℕ) (a : Fin 1024) : row (hAt m c i) a = hrow m c (at_ i a) := by
  funext d
  show hAt m c i (ix2 a d) = _
  unfold hAt hrow
  rw [norm_at, blk1, blk2, blk3, show row (iblk m c 0 (pt (4 * i))) a = row (aX m c) (at_ i a) from funext fun d => by
    refine (blk0 m c _ a d).trans (congrArg (fun r => aX m c (ix2 r d)) (Fin.ext ?_))
    show 4 * i % 16 / 4 % 4 * 1024 + a.val = i % 4 * 1024 + a.val
    omega]

/-- A point's gate. -/
theorem val_gate (t : Fin cfg0.N) (a : Fin 1024) (f : Fin 704) :
    gatePoint (iblk m c 5 t) (hAt m c (t.val / 4)) (ix3 (0 : Fin 1) a f) = gateOf m c t.val (at_ (t.val / 4) a) f := by
  rw [gate_at, val_h, blk5]; rfl

/-- A point's other factor. -/
theorem val_up (t : Fin cfg0.N) (a : Fin 1024) (f : Fin 704) :
    upPoint (iblk m c 6 t) (hAt m c (t.val / 4)) (ix3 (0 : Fin 1) a f) = upOf m c t.val (at_ (t.val / 4) a) f := by
  rw [upPoint_eq, gate_at, val_h, blk6]; rfl

/-- A block counted by the point or by its remainder is the same. -/
theorem part_mod (n : ℕ) (r : Fin 4096) (d : Fin 1024) : part m c (n % 4) r d = part m c n r d := by
  have e1 : early (n % 4) = early n := Fin.ext (show n % 4 % 4 = n % 4 by omega)
  have e2 : later (n % 4) = later n := Fin.ext (show 4 + n % 4 % 4 = 4 + n % 4 by omega)
  have e3 : quarter (n % 4) = quarter n := Fin.ext (show n % 4 % 4 = n % 4 by omega)
  unfold part gateOf upOf
  rw [e1, e2, e3]

/-- What a point adds to the branch. -/
theorem val_add (n : ℕ) (hn : n < 16) (s : Vec Ideal S1024x1024 .f32) (a d : Fin 1024) :
    mixPoint (iblk m c 5 (pt n)) (iblk m c 6 (pt n)) (iblk m c 7 (pt n)) (hAt m c (n / 4)) s (ix2 a d)
      = s (ix2 a d) + part m c (n % 4) (at_ (n / 4) a) d := by
  rw [mix_at, val_h, part_mod]
  refine congrArg (s (ix2 a d) + ·) (Finset.sum_congr rfl fun f _ => ?_)
  rw [blk5, blk6, blk7, show (pt n).val = n from Nat.mod_eq_of_lt hn]
  rfl

/-- The branch's sum after each point. -/
theorem val_mix : ∀ (n : ℕ), n < 16 → ∀ a d : Fin 1024,
    mixAt m c n (ix2 a d) = ∑ s ∈ Finset.range (n % 4 + 1), part m c s (at_ (n / 4) a) d
  | 0, h, a, d => by
    have e := val_add m c 0 h (k0_pay11 (F := Ideal)) a d
    rw [Nat.zero_div, Nat.zero_mod, zero_at, zero_add] at e
    rw [mixAt, Nat.zero_div, Nat.zero_mod, zero_add, Finset.sum_range_one]
    exact e
  | n + 1, h, a, d => by
    rw [mixAt, val_add m c (n + 1) h]
    by_cases h0 : (n + 1) % 4 = 0
    · rw [if_pos h0, zero_at, zero_add, h0, Finset.sum_range_one]
    · rw [if_neg h0, val_mix n (by omega) a d, Finset.sum_range_succ _ ((n + 1) % 4), show n % 4 + 1 = (n + 1) % 4 by omega,
        show n / 4 = (n + 1) / 4 by omega]

/-- The branch behind the last point of a row of blocks. -/
theorem val_mix3 (n : ℕ) (hn : n < 16) (h3 : n % 4 = 3) (a d : Fin 1024) : mixAt m c n (ix2 a d) = mixOf m c (at_ (n / 4) a) d := by
  rw [val_mix m c n hn, h3]; rfl

/-- The distance to the target behind the last point of a row of blocks. -/
theorem val_err (t : Fin cfg0.N) (h3 : t.val % 4 = 3) (a d : Fin 1024) :
    dist (iblk m c 0 t (ix2 a d)) (iblk m c 4 t (ix2 (0 : Fin 1) d)) (mixAt m c t.val (ix2 a d)) (iblk m c 8 t (ix2 a d))
      = errOf m c (at_ (t.val / 4) a) d := by
  have hN : t.val < 16 := lt_of_lt_of_eq t.isLt (show cfg0.N = 16 from N_0)
  rw [blk0, blk8, val_mix3 m c t.val hN h3, show iblk m c 4 t (ix2 (0 : Fin 1) d) = aG m c (ix2 0 d) from congrFun (blk4 m c t) d]
  rfl

/-- What a row of blocks adds to the loss. -/
theorem val_part (i : ℕ) (hi : i < 4) (p : Fin 8) (q : Fin 128) :
    k0_pay8 (iblk m c 0 (pt (4 * i + 3))) (iblk m c 4 (pt (4 * i + 3))) (mixAt m c (4 * i + 3)) (iblk m c 8 (pt (4 * i + 3))) (ix2 p q)
      = half * ∑ a : Fin 1024, rowLoss (errOf m c (at_ i a)) := by
  have e : (pt (4 * i + 3)).val = 4 * i + 3 := Nat.mod_eq_of_lt (by omega)
  rw [part_at]
  refine congrArg (half * ·) (Finset.sum_congr rfl fun a _ => congrArg rowLoss (funext fun d => ?_))
  have h := val_err m c (pt (4 * i + 3)) (by omega) a d
  rw [e] at h
  rw [h, show (4 * i + 3) / 4 = i by omega]

/-- The loss after each row of blocks. -/
theorem val_loss : ∀ (i : ℕ), i < 4 → ∀ (p : Fin 8) (q : Fin 128), lossAt m c i (ix2 p q) = lossTo m c (i + 1)
  | 0, h, p, q => by
    refine (val_part m c 0 h p q).trans ?_
    unfold lossTo
    rw [Finset.sum_range_one]
  | i + 1, h, p, q => by
    show k0_pay9 (iblk m c 0 (pt (4 * (i + 1) + 3))) (iblk m c 4 (pt (4 * (i + 1) + 3))) (mixAt m c (4 * (i + 1) + 3))
      (iblk m c 8 (pt (4 * (i + 1) + 3))) (lossAt m c i) (ix2 p q) = _
    rw [grow_at, val_loss i (by omega) p q, val_part m c (i + 1) h p q]
    unfold lossTo
    rw [Finset.sum_range_succ _ (i + 1)]

end

/-! ## The arrays at the end -/

section
variable (m : (ℓ : Loc nD τ sig) → Buf (Elt Ideal) ℓ) (c : Dev nD)

/-- A block counted by the point or by its remainder is the same. -/
theorem gateOf_mod (n : ℕ) : gateOf m c (n % 4) = gateOf m c n := by
  unfold gateOf
  rw [show early (n % 4) = early n from Fin.ext (show n % 4 % 4 = n % 4 by omega)]
/-- The same of the other factor. -/
theorem upOf_mod (n : ℕ) : upOf m c (n % 4) = upOf m c n := by
  unfold upOf
  rw [show later (n % 4) = later n from Fin.ext (show 4 + n % 4 % 4 = 4 + n % 4 by omega)]

/-- The loss's gradient at the end. -/
theorem final9 : (dats m 0 c).arrAt 9 cfg0.N = fun i : S4096x1024.Idx => errOf m c (i 0) (i 1) * LossMath.inv := by
  refine (dats m 0 c).arrAt_eq_of_cover 9 _ (fun t ht => ?_) fun (i : S4096x1024.Idx) => ?_
  · have f := idx_facts t
    have h3 : t.val % 4 = 3 := (flush0_9 t).mp ht
    have hN : t.val < 16 := lt_of_lt_of_eq t.isLt (show cfg0.N = 16 from N_0)
    funext j
    obtain ⟨a, d, rfl⟩ : ∃ (a d : Fin 1024), j = ix2 a d := ⟨j 0, j 1, eq_ix2 j⟩
    show (dats m 0 c).after 9 t (ix2 a d) = errOf m c ((win0_9.blk t).view.emb (ix2 a d) (0 : Fin 2)) ((win0_9.blk t).view.emb (ix2 a d) (1 : Fin 2)) * LossMath.inv
    rw [show (win0_9.blk t).view.emb (ix2 a d) (0 : Fin 2) = at_ (t.val / 4) a from Fin.ext (by
        show win0_9.index t (0 : Fin 2) * 1024 + 1 * a.val = t.val / 4 % 4 * 1024 + a.val; omega),
      show (win0_9.blk t).view.emb (ix2 a d) (1 : Fin 2) = d from Fin.ext (by
        show win0_9.index t (1 : Fin 2) * 1024 + 1 * d.val = d.val; omega)]
    show k0_pay7 (iblk m c 0 t) (iblk m c 4 t) (mixAt m c t.val) (iblk m c 8 t) (ix2 a d) = _
    rw [grad_at, val_err m c t h3]
  · have h0 : (i 0 : Nat) < 4096 := (i 0).isLt
    have h1 : (i 1 : Nat) < 1024 := (i 1).isLt
    have f := idx_facts (pt (4 * ((i 0 : Nat) / 1024) + 3))
    have e : (pt (4 * ((i 0 : Nat) / 1024) + 3)).val = 4 * ((i 0 : Nat) / 1024) + 3 := Nat.mod_eq_of_lt (by omega)
    refine ⟨pt (4 * ((i 0 : Nat) / 1024) + 3), (flush0_9 _).mpr (by omega), ?_⟩
    refine (ValueKit.mem_set_slice_whole_iff main_v6_0 (win0_9.rect (pt (4 * ((i 0 : Nat) / 1024) + 3))) i Rect.mem_set_unit).mpr fun b => ?_
    match b with
    | ⟨0, _⟩ =>
      show win0_9.index (pt (4 * ((i 0 : Nat) / 1024) + 3)) (0 : Fin 2) * 1024 ≤ (i 0 : Nat)
        ∧ (i 0 : Nat) < win0_9.index (pt (4 * ((i 0 : Nat) / 1024) + 3)) (0 : Fin 2) * 1024 + 1024
      omega
    | ⟨1, _⟩ =>
      show win0_9.index (pt (4 * ((i 0 : Nat) / 1024) + 3)) (1 : Fin 2) * 1024 ≤ (i 1 : Nat)
        ∧ (i 1 : Nat) < win0_9.index (pt (4 * ((i 0 : Nat) / 1024) + 3)) (1 : Fin 2) * 1024 + 1024
      omega

/-- The branch at the end. -/
theorem final10 : (dats m 0 c).arrAt 10 cfg0.N = fun i : S4096x1024.Idx => mixOf m c (i 0) (i 1) := by
  refine (dats m 0 c).arrAt_eq_of_cover 10 _ (fun t ht => ?_) fun (i : S4096x1024.Idx) => ?_
  · have f := idx_facts t
    have h3 : t.val % 4 = 3 := (flush0_10 t).mp ht
    have hN : t.val < 16 := lt_of_lt_of_eq t.isLt (show cfg0.N = 16 from N_0)
    funext j
    obtain ⟨a, d, rfl⟩ : ∃ (a d : Fin 1024), j = ix2 a d := ⟨j 0, j 1, eq_ix2 j⟩
    show (dats m 0 c).after 10 t (ix2 a d) = mixOf m c ((win0_10.blk t).view.emb (ix2 a d) (0 : Fin 2)) ((win0_10.blk t).view.emb (ix2 a d) (1 : Fin 2))
    rw [show (win0_10.blk t).view.emb (ix2 a d) (0 : Fin 2) = at_ (t.val / 4) a from Fin.ext (by
        show win0_10.index t (0 : Fin 2) * 1024 + 1 * a.val = t.val / 4 % 4 * 1024 + a.val; omega),
      show (win0_10.blk t).view.emb (ix2 a d) (1 : Fin 2) = d from Fin.ext (by
        show win0_10.index t (1 : Fin 2) * 1024 + 1 * d.val = d.val; omega)]
    rw [after10]
    exact val_mix3 m c t.val hN h3 a d
  · have h0 : (i 0 : Nat) < 4096 := (i 0).isLt
    have h1 : (i 1 : Nat) < 1024 := (i 1).isLt
    have f := idx_facts (pt (4 * ((i 0 : Nat) / 1024) + 3))
    have e : (pt (4 * ((i 0 : Nat) / 1024) + 3)).val = 4 * ((i 0 : Nat) / 1024) + 3 := Nat.mod_eq_of_lt (by omega)
    refine ⟨pt (4 * ((i 0 : Nat) / 1024) + 3), (flush0_10 _).mpr (by omega), ?_⟩
    refine (ValueKit.mem_set_slice_whole_iff main_v6_1 (win0_10.rect (pt (4 * ((i 0 : Nat) / 1024) + 3))) i Rect.mem_set_unit).mpr fun b => ?_
    match b with
    | ⟨0, _⟩ =>
      show win0_10.index (pt (4 * ((i 0 : Nat) / 1024) + 3)) (0 : Fin 2) * 1024 ≤ (i 0 : Nat)
        ∧ (i 0 : Nat) < win0_10.index (pt (4 * ((i 0 : Nat) / 1024) + 3)) (0 : Fin 2) * 1024 + 1024
      omega
    | ⟨1, _⟩ =>
      show win0_10.index (pt (4 * ((i 0 : Nat) / 1024) + 3)) (1 : Fin 2) * 1024 ≤ (i 1 : Nat)
        ∧ (i 1 : Nat) < win0_10.index (pt (4 * ((i 0 : Nat) / 1024) + 3)) (1 : Fin 2) * 1024 + 1024
      omega

/-- The normalised rows at the end. -/
theorem final11 : (dats m 0 c).arrAt 11 cfg0.N = fun i : S4096x1024.Idx => hrow m c (i 0) (i 1) := by
  refine (dats m 0 c).arrAt_eq_of_cover 11 _ (fun t ht => ?_) fun (i : S4096x1024.Idx) => ?_
  · have f := idx_facts t
    have h3 : t.val % 4 = 3 := (flush0_11 t).mp ht
    have hN : t.val < 16 := lt_of_lt_of_eq t.isLt (show cfg0.N = 16 from N_0)
    funext j
    obtain ⟨a, d, rfl⟩ : ∃ (a d : Fin 1024), j = ix2 a d := ⟨j 0, j 1, eq_ix2 j⟩
    show (dats m 0 c).after 11 t (ix2 a d) = hrow m c ((win0_11.blk t).view.emb (ix2 a d) (0 : Fin 2)) ((win0_11.blk t).view.emb (ix2 a d) (1 : Fin 2))
    rw [show (win0_11.blk t).view.emb (ix2 a d) (0 : Fin 2) = at_ (t.val / 4) a from Fin.ext (by
        show win0_11.index t (0 : Fin 2) * 1024 + 1 * a.val = t.val / 4 % 4 * 1024 + a.val; omega),
      show (win0_11.blk t).view.emb (ix2 a d) (1 : Fin 2) = d from Fin.ext (by
        show win0_11.index t (1 : Fin 2) * 1024 + 1 * d.val = d.val; omega)]
    exact congrFun (val_h m c (t.val / 4) a) d
  · have h0 : (i 0 : Nat) < 4096 := (i 0).isLt
    have h1 : (i 1 : Nat) < 1024 := (i 1).isLt
    have f := idx_facts (pt (4 * ((i 0 : Nat) / 1024) + 3))
    have e : (pt (4 * ((i 0 : Nat) / 1024) + 3)).val = 4 * ((i 0 : Nat) / 1024) + 3 := Nat.mod_eq_of_lt (by omega)
    refine ⟨pt (4 * ((i 0 : Nat) / 1024) + 3), (flush0_11 _).mpr (by omega), ?_⟩
    refine (ValueKit.mem_set_slice_whole_iff main_v6_2 (win0_11.rect (pt (4 * ((i 0 : Nat) / 1024) + 3))) i Rect.mem_set_unit).mpr fun b => ?_
    match b with
    | ⟨0, _⟩ =>
      show win0_11.index (pt (4 * ((i 0 : Nat) / 1024) + 3)) (0 : Fin 2) * 1024 ≤ (i 0 : Nat)
        ∧ (i 0 : Nat) < win0_11.index (pt (4 * ((i 0 : Nat) / 1024) + 3)) (0 : Fin 2) * 1024 + 1024
      omega
    | ⟨1, _⟩ =>
      show win0_11.index (pt (4 * ((i 0 : Nat) / 1024) + 3)) (1 : Fin 2) * 1024 ≤ (i 1 : Nat)
        ∧ (i 1 : Nat) < win0_11.index (pt (4 * ((i 0 : Nat) / 1024) + 3)) (1 : Fin 2) * 1024 + 1024
      omega

/-- The gate's hidden columns at the end. -/
theorem final12 : (dats m 0 c).arrAt 12 cfg0.N = fun i : S4x4096x704.Idx => gateOf m c (i 0 : Fin 4).val (i 1) (i 2) := by
  refine (dats m 0 c).arrAt_eq_of_cover 12 _ (fun t _ => ?_) fun (i : S4x4096x704.Idx) => ?_
  · have f := idx_facts t
    have hN : t.val < 16 := lt_of_lt_of_eq t.isLt (show cfg0.N = 16 from N_0)
    funext j
    obtain ⟨u, a, d, rfl⟩ : ∃ (u : Fin 1) (a : Fin 1024) (d : Fin 704), j = ix3 u a d := ⟨j 0, j 1, j 2, eq_ix3 j⟩
    show (dats m 0 c).after 12 t (ix3 u a d) = gateOf m c ((win0_12.blk t).view.emb (ix3 u a d) (0 : Fin 3)).val
      ((win0_12.blk t).view.emb (ix3 u a d) (1 : Fin 3)) ((win0_12.blk t).view.emb (ix3 u a d) (2 : Fin 3))
    rw [show ((win0_12.blk t).view.emb (ix3 u a d) (0 : Fin 3)).val = t.val % 4 by
        show win0_12.index t (0 : Fin 3) * 1 + 1 * u.val = t.val % 4; omega,
      show (win0_12.blk t).view.emb (ix3 u a d) (1 : Fin 3) = at_ (t.val / 4) a from Fin.ext (by
        show win0_12.index t (1 : Fin 3) * 1024 + 1 * a.val = t.val / 4 % 4 * 1024 + a.val; omega),
      show (win0_12.blk t).view.emb (ix3 u a d) (2 : Fin 3) = d from Fin.ext (by
        show win0_12.index t (2 : Fin 3) * 704 + 1 * d.val = d.val; omega), gateOf_mod, after12, Fin.eq_zero u]
    exact val_gate m c t a d
  · have h0 : (i 0 : Nat) < 4 := (i 0).isLt
    have h1 : (i 1 : Nat) < 4096 := (i 1).isLt
    have h2 : (i 2 : Nat) < 704 := (i 2).isLt
    have f := idx_facts (pt (4 * ((i 1 : Nat) / 1024) + (i 0 : Nat)))
    have e : (pt (4 * ((i 1 : Nat) / 1024) + (i 0 : Nat))).val = 4 * ((i 1 : Nat) / 1024) + (i 0 : Nat) := Nat.mod_eq_of_lt (by omega)
    refine ⟨pt (4 * ((i 1 : Nat) / 1024) + (i 0 : Nat)), flush0_12 _, ?_⟩
    refine (ValueKit.mem_set_slice_whole_iff main_v6_3 (win0_12.rect (pt (4 * ((i 1 : Nat) / 1024) + (i 0 : Nat)))) i Rect.mem_set_unit).mpr fun b => ?_
    match b with
    | ⟨0, _⟩ =>
      show win0_12.index (pt (4 * ((i 1 : Nat) / 1024) + (i 0 : Nat))) (0 : Fin 3) * 1 ≤ (i 0 : Nat)
        ∧ (i 0 : Nat) < win0_12.index (pt (4 * ((i 1 : Nat) / 1024) + (i 0 : Nat))) (0 : Fin 3) * 1 + 1
      omega
    | ⟨1, _⟩ =>
      show win0_12.index (pt (4 * ((i 1 : Nat) / 1024) + (i 0 : Nat))) (1 : Fin 3) * 1024 ≤ (i 1 : Nat)
        ∧ (i 1 : Nat) < win0_12.index (pt (4 * ((i 1 : Nat) / 1024) + (i 0 : Nat))) (1 : Fin 3) * 1024 + 1024
      omega
    | ⟨2, _⟩ =>
      show win0_12.index (pt (4 * ((i 1 : Nat) / 1024) + (i 0 : Nat))) (2 : Fin 3) * 704 ≤ (i 2 : Nat)
        ∧ (i 2 : Nat) < win0_12.index (pt (4 * ((i 1 : Nat) / 1024) + (i 0 : Nat))) (2 : Fin 3) * 704 + 704
      omega

/-- The other hidden columns at the end. -/
theorem final13 : (dats m 0 c).arrAt 13 cfg0.N = fun i : S4x4096x704.Idx => upOf m c (i 0 : Fin 4).val (i 1) (i 2) := by
  refine (dats m 0 c).arrAt_eq_of_cover 13 _ (fun t _ => ?_) fun (i : S4x4096x704.Idx) => ?_
  · have f := idx_facts t
    have hN : t.val < 16 := lt_of_lt_of_eq t.isLt (show cfg0.N = 16 from N_0)
    funext j
    obtain ⟨u, a, d, rfl⟩ : ∃ (u : Fin 1) (a : Fin 1024) (d : Fin 704), j = ix3 u a d := ⟨j 0, j 1, j 2, eq_ix3 j⟩
    show (dats m 0 c).after 13 t (ix3 u a d) = upOf m c ((win0_13.blk t).view.emb (ix3 u a d) (0 : Fin 3)).val
      ((win0_13.blk t).view.emb (ix3 u a d) (1 : Fin 3)) ((win0_13.blk t).view.emb (ix3 u a d) (2 : Fin 3))
    rw [show ((win0_13.blk t).view.emb (ix3 u a d) (0 : Fin 3)).val = t.val % 4 by
        show win0_13.index t (0 : Fin 3) * 1 + 1 * u.val = t.val % 4; omega,
      show (win0_13.blk t).view.emb (ix3 u a d) (1 : Fin 3) = at_ (t.val / 4) a from Fin.ext (by
        show win0_13.index t (1 : Fin 3) * 1024 + 1 * a.val = t.val / 4 % 4 * 1024 + a.val; omega),
      show (win0_13.blk t).view.emb (ix3 u a d) (2 : Fin 3) = d from Fin.ext (by
        show win0_13.index t (2 : Fin 3) * 704 + 1 * d.val = d.val; omega), upOf_mod, after13, Fin.eq_zero u]
    exact val_up m c t a d
  · have h0 : (i 0 : Nat) < 4 := (i 0).isLt
    have h1 : (i 1 : Nat) < 4096 := (i 1).isLt
    have h2 : (i 2 : Nat) < 704 := (i 2).isLt
    have f := idx_facts (pt (4 * ((i 1 : Nat) / 1024) + (i 0 : Nat)))
    have e : (pt (4 * ((i 1 : Nat) / 1024) + (i 0 : Nat))).val = 4 * ((i 1 : Nat) / 1024) + (i 0 : Nat) := Nat.mod_eq_of_lt (by omega)
    refine ⟨pt (4 * ((i 1 : Nat) / 1024) + (i 0 : Nat)), flush0_13 _, ?_⟩
    refine (ValueKit.mem_set_slice_whole_iff main_v6_4 (win0_13.rect (pt (4 * ((i 1 : Nat) / 1024) + (i 0 : Nat)))) i Rect.mem_set_unit).mpr fun b => ?_
    match b with
    | ⟨0, _⟩ =>
      show win0_13.index (pt (4 * ((i 1 : Nat) / 1024) + (i 0 : Nat))) (0 : Fin 3) * 1 ≤ (i 0 : Nat)
        ∧ (i 0 : Nat) < win0_13.index (pt (4 * ((i 1 : Nat) / 1024) + (i 0 : Nat))) (0 : Fin 3) * 1 + 1
      omega
    | ⟨1, _⟩ =>
      show win0_13.index (pt (4 * ((i 1 : Nat) / 1024) + (i 0 : Nat))) (1 : Fin 3) * 1024 ≤ (i 1 : Nat)
        ∧ (i 1 : Nat) < win0_13.index (pt (4 * ((i 1 : Nat) / 1024) + (i 0 : Nat))) (1 : Fin 3) * 1024 + 1024
      omega
    | ⟨2, _⟩ =>
      show win0_13.index (pt (4 * ((i 1 : Nat) / 1024) + (i 0 : Nat))) (2 : Fin 3) * 704 ≤ (i 2 : Nat)
        ∧ (i 2 : Nat) < win0_13.index (pt (4 * ((i 1 : Nat) / 1024) + (i 0 : Nat))) (2 : Fin 3) * 704 + 704
      omega

/-- The loss at the end, at every entry of its block. -/
theorem final14 : (dats m 0 c).arrAt 14 cfg0.N = fun _ => lossTo m c 4 := by
  refine (dats m 0 c).arrAt_eq_of_cover 14 _ (fun t ht => ?_) fun (i : S8x128.Idx) => ?_
  · have h15 : t.val % 16 = 15 := (flush0_14 t).mp ht
    have hN : t.val < 16 := lt_of_lt_of_eq t.isLt (show cfg0.N = 16 from N_0)
    funext j
    obtain ⟨p, q, rfl⟩ : ∃ (p : Fin 8) (q : Fin 128), j = ix2 p q := ⟨j 0, j 1, eq_ix2 j⟩
    show lossAt m c (t.val / 4) (ix2 p q) = lossTo m c 4
    rw [show t.val / 4 = 3 by omega]
    exact val_loss m c 3 (by omega) p q
  · have h0 : (i 0 : Nat) < 8 := (i 0).isLt
    have h1 : (i 1 : Nat) < 128 := (i 1).isLt
    have f := idx_facts (pt 15)
    refine ⟨pt 15, (flush0_14 _).mpr rfl, ?_⟩
    show i ∈ ((View.whole main_v6_5).slice (win0_14.rect (pt 15))).set
    rw [View.set_slice_whole, Rect.mem_set_unit]
    intro b
    match b with
    | ⟨0, _⟩ => show win0_14.index (pt 15) (0 : Fin 2) * 8 ≤ (i 0 : Nat) ∧ (i 0 : Nat) < win0_14.index (pt 15) (0 : Fin 2) * 8 + 8; omega
    | ⟨1, _⟩ => show win0_14.index (pt 15) (1 : Fin 2) * 128 ≤ (i 1 : Nat) ∧ (i 1 : Nat) < win0_14.index (pt 15) (1 : Fin 2) * 128 + 128; omega

end

end Cert.Proof.LossValue

end
-- ==== Proof.LossRef.lean ====
/- The reference of the feed-forward block with the loss, at an index: the same formulas of a row as the kernel's, the loss as
   half the sum of all rows' mean squares, and its gradient. -/
module

public import proofs.«01_k».proof.Proof.LossMath
public import proofs.«01_k».proof.Proof.MlpRef
public import proofs.«01_k».proof.Proof.Gen.LossRefIdeal.Read
public import Idealize.ShloMosaic.Lib.Pointwise.Index

@[expose] public section

noncomputable section

namespace Cert.Proof.LossRef

open Idealize.ShloMosaic hiding ix1 ix2 ix3 eq_ix2 eq_ix3
open Cert.LossRefIdeal Cert.LossRefIdeal.Read Idealize.ShloMosaic.ValueIdx
open Cert.Proof.NormMath Cert.Proof.MlpRef Cert.Proof.LossMath
open scoped BigOperators

/-! ## The constants -/

/-- The loss's constants as numbers. -/
theorem inv_eq : LossMath.inv = ((1 / 1024 : ℝ) : EReal) := by
  simp [LossMath.inv, Ideal.ofBits, Ideal.ieee]; rw [← EReal.coe_mul]; norm_num
theorem half_eq : half = ((1 / 2 : ℝ) : EReal) := by
  simp [half, Ideal.ofBits, Ideal.ieee]; rw [← EReal.coe_mul]; norm_num
theorem two_eq : two = ((2 : ℝ) : EReal) := by
  simp [two, Ideal.ofBits, Ideal.ieee]; rw [← EReal.coe_mul]; norm_num
theorem width_eq : width = ((1024 : ℝ) : EReal) := by
  simp [width, Ideal.ofBits, Ideal.ieee]; rw [← EReal.coe_mul]; norm_num

/-- To divide by the width is to multiply by its inverse. -/
theorem div_width (x : EReal) : Ideal.div x width = x * LossMath.inv := by
  have h : width ≠ 0 := by rw [width_eq]; exact_mod_cast (by norm_num : (1024 : ℝ) ≠ 0)
  unfold Ideal.div
  rw [if_neg h, inv_eq, width_eq, ← EReal.coe_inv]
  norm_num

/-- The gradient's factors together are the width's inverse. -/
theorem factor (e : EReal) : Ideal.div (half * 1) width * (two * e) = e * LossMath.inv := by
  rw [div_width, mul_one, ← mul_assoc, mul_comm _ e, half_eq, inv_eq, two_eq, ← EReal.coe_mul, ← EReal.coe_mul]
  norm_num

/-- Half of a sum of numbers that aren't negative is the sum of their halves. -/
theorem half_sum {ι : Type} (s : Finset ι) (f : ι → EReal) (h : ∀ i, 0 ≤ f i) : half * ∑ i ∈ s, f i = ∑ i ∈ s, half * f i := by
  classical
  induction s using Finset.induction_on with
  | empty => rw [Finset.sum_empty, Finset.sum_empty, mul_zero]
  | insert a s ha ih => rw [Finset.sum_insert ha, Finset.sum_insert ha, EReal.left_distrib_of_nonneg (h a) (Finset.sum_nonneg fun i _ => h i), ih]

/-- A square isn't negative. -/
theorem sq_nonneg (x : EReal) : 0 ≤ x * x := by
  rcases le_total 0 x with h | h
  · exact mul_nonneg h h
  · rw [← neg_mul_neg]
    exact mul_nonneg (EReal.neg_nonneg.mpr h) (EReal.neg_nonneg.mpr h)

/-- A row's part of the loss isn't negative. -/
theorem rowLoss_nonneg (e : Fin 1024 → EReal) : 0 ≤ rowLoss e := by
  refine mul_nonneg (Finset.sum_nonneg fun d _ => sq_nonneg (e d)) ?_
  rw [inv_eq]
  exact_mod_cast (by norm_num : (0 : ℝ) ≤ 1 / 1024)

section
variable (x0 : S4096x1024.Idx → EReal) (x1 : S1024.Idx → EReal) (x2 x3 x4 : S1x1024.Idx → EReal) (x5 : S1024x5632.Idx → EReal)
  (x6 : S2816x1024.Idx → EReal) (x7 : S4096x1024.Idx → EReal)

/-- The normalised, modulated row, a joint hidden entry of it, and the branch. -/
def hrow (r : Fin 4096) : Fin 1024 → EReal := modulated (row x0 r) (fun d => x1 (ix1 d)) (row x2 0) (row x3 0)
def joint (r : Fin 4096) (n : Fin 5632) : EReal := hid (hrow x0 x1 x2 x3 r) fun d => x5 (ix2 d n)
def mixRow (r : Fin 4096) (d : Fin 1024) : EReal :=
  ∑ n : Fin 2816, swish (joint x0 x1 x2 x3 x5 r (lo n)) (joint x0 x1 x2 x3 x5 r (hi n)) * x6 (ix2 n d)
def errRow (r : Fin 4096) (d : Fin 1024) : EReal := LossMath.dist (x0 (ix2 r d)) (x4 (ix2 0 d)) (mixRow x0 x1 x2 x3 x5 x6 r d) (x7 (ix2 r d))

/-- A row's mean square and the small constant. -/
theorem var_at (r : Fin 4096) (z : Fin 1) : val_main_v6 (F := Ideal) x0 (ix2 r z) = var (row x0 r) := by
  rw [val_main_v6_apply, val_main_v4_apply, val_main_v2_apply, val_main_v3_apply, val_main_v5_apply, val_main_v1_apply,
    val_main_cst_apply, val_main_cst_0_apply, val_main_cst_1_apply, Common.ofBits_zero, zero_add]
  refine congrArg (fun s => Ideal.div s width + tiny) (Finset.sum_congr rfl fun d _ => ?_)
  rw [show idx_main_v1 (idx_main_v2 (ix2 r z)) d = ix2 r d from funext fun a => match a with | ⟨0, _⟩ => rfl | ⟨1, _⟩ => rfl,
    val_main_v0_apply]
  rfl

/-- The normalised, modulated rows. -/
theorem norm_at (r : Fin 4096) (d : Fin 1024) : val_main_v18 (F := Ideal) x0 x1 x2 x3 (ix2 r d) = hrow x0 x1 x2 x3 r d := by
  rw [val_main_v18_apply, val_main_v16_apply, val_main_v12_apply, val_main_v9_apply, val_main_v8_apply, val_main_v7_apply,
    show idx_main_v8 (ix2 r d) = ix2 r (0 : Fin 1) from funext fun a => match a with | ⟨0, _⟩ => rfl | ⟨1, _⟩ => Fin.eq_zero _,
    var_at, val_main_v11_apply, val_main_v10_apply, val_main_v15_apply, val_main_v14_apply, val_main_v13_apply,
    val_main_cst_2_apply, val_main_v17_apply,
    show idx_main_v10 (idx_main_v11 (ix2 r d)) = ix1 d from funext fun a => match a with | ⟨0, _⟩ => rfl,
    show idx_main_v15 (ix2 r d) = ix2 (0 : Fin 1) d from funext fun a => match a with | ⟨0, _⟩ => Fin.eq_zero _ | ⟨1, _⟩ => rfl,
    show idx_main_v17 (ix2 r d) = ix2 (0 : Fin 1) d from funext fun a => match a with | ⟨0, _⟩ => Fin.eq_zero _ | ⟨1, _⟩ => rfl]
  rfl

/-- The joint hidden entries. -/
theorem joint_at (r : Fin 4096) (n : Fin 5632) : val_main_v19 (F := Ideal) x0 x1 x2 x3 x5 (ix2 r n) = joint x0 x1 x2 x3 x5 r n := by
  rw [val_main_v19_apply]
  unfold joint hid
  refine Finset.sum_congr rfl fun d _ => ?_
  rw [show lidx_main_v19 (ix2 r n) d = ix2 r d from funext fun a => match a with | ⟨0, _⟩ => rfl | ⟨1, _⟩ => rfl, norm_at]
  refine congrArg (hrow x0 x1 x2 x3 r d * ·) (congrArg x5 ?_)
  funext a; match a with | ⟨0, _⟩ => rfl | ⟨1, _⟩ => rfl

/-- The gate's hidden entries. -/
theorem gate_at (r : Fin 4096) (n : Fin 2816) : val_main_v20 (F := Ideal) x0 x1 x2 x3 x5 (ix2 r n) = joint x0 x1 x2 x3 x5 r (lo n) := by
  rw [val_main_v20_apply, show idx_main_v20 (ix2 r n) = ix2 r (lo n) from funext fun a => match a with | ⟨0, _⟩ => rfl | ⟨1, _⟩ => rfl,
    joint_at]

/-- The other factor's hidden entries. -/
theorem up_at (r : Fin 4096) (n : Fin 2816) : val_main_v21 (F := Ideal) x0 x1 x2 x3 x5 (ix2 r n) = joint x0 x1 x2 x3 x5 r (hi n) := by
  rw [val_main_v21_apply, show idx_main_v21 (ix2 r n) = ix2 r (hi n) from funext fun a => match a with
    | ⟨0, _⟩ => rfl | ⟨1, _⟩ => Fin.ext (Nat.add_comm _ _), joint_at]

/-- The host's `1 / (1 + exp (-x))` is the logistic function. -/
theorem sig_at (i) : val_main_call0_v5 (F := Ideal) x0 x1 x2 x3 x5 i = Ideal.logistic (val_main_v20 (F := Ideal) x0 x1 x2 x3 x5 i) := by
  rw [val_main_call0_v5_apply, val_main_call0_v4_apply, val_main_call0_v3_apply, val_main_call0_v2_apply, val_main_call0_v1_apply,
    val_main_call0_v0_apply, val_main_call0_cst_apply, val_main_call0_cst_0_apply, Common.ofBits_one]
  rfl

/-- The branch. -/
theorem mix_at (r : Fin 4096) (d : Fin 1024) : val_main_v24 (F := Ideal) x0 x1 x2 x3 x5 x6 (ix2 r d) = mixRow x0 x1 x2 x3 x5 x6 r d := by
  rw [val_main_v24_apply]
  refine Finset.sum_congr rfl fun n _ => ?_
  rw [show lidx_main_v24 (ix2 r d) n = ix2 r n from funext fun a => match a with | ⟨0, _⟩ => rfl | ⟨1, _⟩ => rfl,
    val_main_v23_apply, val_main_v22_apply, sig_at, gate_at, up_at]
  refine congrArg (swish (joint x0 x1 x2 x3 x5 r (lo n)) (joint x0 x1 x2 x3 x5 r (hi n)) * ·) (congrArg x6 ?_)
  funext a; match a with | ⟨0, _⟩ => rfl | ⟨1, _⟩ => rfl

/-- The distance to the target. -/
theorem err_at (r : Fin 4096) (d : Fin 1024) :
    val_main_v28 (F := Ideal) x0 x1 x2 x3 x4 x5 x6 x7 (ix2 r d) = errRow x0 x1 x2 x3 x4 x5 x6 x7 r d := by
  rw [val_main_v28_apply, val_main_v27_apply, val_main_v26_apply, val_main_v25_apply, mix_at,
    show idx_main_v25 (ix2 r d) = ix2 (0 : Fin 1) d from funext fun a => match a with | ⟨0, _⟩ => Fin.eq_zero _ | ⟨1, _⟩ => rfl]
  rfl

/-- The loss's gradient. -/
theorem grad_at (r : Fin 4096) (d : Fin 1024) :
    val_main_v42 (F := Ideal) x0 x1 x2 x3 x4 x5 x6 x7 (ix2 r d) = errRow x0 x1 x2 x3 x4 x5 x6 x7 r d * LossMath.inv := by
  rw [val_main_v42_apply, val_main_v41_apply, val_main_v40_apply, val_main_v38_apply, val_main_v37_apply, val_main_v39_apply,
    val_main_cst_8_apply, val_main_cst_9_apply, val_main_cst_10_apply, val_main_v31_apply, val_main_v30_apply, val_main_cst_3_apply,
    err_at, Common.ofBits_one]
  exact factor _

/-- The loss. -/
theorem loss_at (i : S_.Idx) :
    val_main_v36 (F := Ideal) x0 x1 x2 x3 x4 x5 x6 x7 i = ∑ r : Fin 4096, half * rowLoss (errRow x0 x1 x2 x3 x4 x5 x6 x7 r) := by
  rw [val_main_v36_apply, val_main_cst_7_apply, val_main_v35_apply, val_main_cst_6_apply, Common.ofBits_zero, zero_add, sum_idx1]
  refine Eq.trans (congrArg (half * ·) (Finset.sum_congr rfl fun r _ => ?_)) (half_sum _ _ fun r => rowLoss_nonneg _)
  rw [val_main_v34_apply, val_main_v32_apply, val_main_v33_apply, val_main_cst_4_apply, val_main_cst_5_apply, Common.ofBits_zero, zero_add]
  refine (div_width _).trans (congrArg (· * LossMath.inv) (Finset.sum_congr rfl fun d _ => ?_))
  rw [show idx_main_v32 (Idealize.ShloMosaic.ix1 r) d = ix2 r d from funext fun a => match a with | ⟨0, _⟩ => rfl | ⟨1, _⟩ => rfl,
    val_main_v29_apply, err_at]
  rfl

end

end Cert.Proof.LossRef

end
-- ==== Proof.LossRun.lean ====
/- The feed-forward block with the loss: the arrays that the kernel is given, what the lines behind it make of its arrays, and that
   these are the reference's. -/
module

public import proofs.«01_k».proof.Proof.LossValue
public import proofs.«01_k».proof.Proof.LossRef
public import proofs.«01_k».proof.Proof.MlpRun
public import proofs.«01_k».proof.Proof.Gen.LossIdeal.Frame

@[expose] public section

noncomputable section

namespace Cert.Proof.LossRun

open Idealize.ShloMosaic hiding ix1 ix2 ix3 eq_ix2 eq_ix3
open Cert.LossIdeal Cert.LossIdeal.Gen Idealize.ShloMosaic.TcCoe Idealize.SL.Sem Idealize.ShloMosaic.ValueIdx
open Cert.Proof.NormMath Cert.Proof.LossMath Cert.Proof.LossValue
open Cert.Proof.MlpRef (lo hi)
open Cert.Proof.MlpRun (at8 at4 hW hD hW_at hD_at exists_at ext2)
open scoped BigOperators

section
variable (m : (ℓ : Loc nD τ sig) → Buf (Elt Ideal) ℓ) (ρ : Dev nD → PrngReg) (c : Dev nD)

abbrev a0 : S4096x1024.Idx → EReal := m ((c : Thread nD τ).loc main_arg0)
abbrev a1 : S1024.Idx → EReal := m ((c : Thread nD τ).loc main_arg1)
abbrev a2 : S1x1024.Idx → EReal := m ((c : Thread nD τ).loc main_arg2)
abbrev a3 : S1x1024.Idx → EReal := m ((c : Thread nD τ).loc main_arg3)
abbrev a4 : S1x1024.Idx → EReal := m ((c : Thread nD τ).loc main_arg4)
abbrev a5 : S1024x5632.Idx → EReal := m ((c : Thread nD τ).loc main_arg5)
abbrev a6 : S2816x1024.Idx → EReal := m ((c : Thread nD τ).loc main_arg6)
abbrev a7 : S4096x1024.Idx → EReal := m ((c : Thread nD τ).loc main_arg7)

/-! ## The arrays in front of the kernel -/

/-- The residual that the kernel finds. -/
theorem found_x : aX m c = a0 m c := by
  show V m c main_arg0 = _
  unfold V V0
  simp only [hostOps0, List.flatten_cons, List.flatten_nil, List.append_nil]
  after_results_simp

/-- The norm's weight that the kernel finds, as a row. -/
theorem found_n (d : Fin 1024) : row (aN m c) 0 d = a1 m c (ix1 d) := by
  have e : aN m c = broadcastInDim S1x1024 ![1] bcast_S1024_S1x1024_1 (a1 m c) := by
    show V m c main_v5 = _
    unfold V V0
    simp only [hostOps0, List.flatten_cons, List.flatten_nil, List.append_nil]
    after_results_simp
  rw [e]
  exact broadcastInDim_apply _ bcast_S1024_S1x1024_1 (a1 m c) (ix2 0 d) (ix1 d) (fun a => match a with | ⟨0, _⟩ => rfl)

/-- The shift that the kernel finds. -/
theorem found_sh : aSh m c = a2 m c := by
  show V m c main_arg2 = _
  unfold V V0
  simp only [hostOps0, List.flatten_cons, List.flatten_nil, List.append_nil]
  after_results_simp

/-- The scale that the kernel finds. -/
theorem found_sc : aSc m c = a3 m c := by
  show V m c main_arg3 = _
  unfold V V0
  simp only [hostOps0, List.flatten_cons, List.flatten_nil, List.append_nil]
  after_results_simp

/-- The gate of the residual that the kernel finds. -/
theorem found_g : aG m c = a4 m c := by
  show V m c main_arg4 = _
  unfold V V0
  simp only [hostOps0, List.flatten_cons, List.flatten_nil, List.append_nil]
  after_results_simp

/-- The joint weights that the kernel finds. -/
theorem found_w : aW m c = hW (a5 m c) := by
  show V m c main_v2 = _
  unfold V V0
  simp only [hostOps0, List.flatten_cons, List.flatten_nil, List.append_nil]
  after_results_simp
  rfl

/-- The other weights that the kernel finds. -/
theorem found_d : aD m c = hD (a6 m c) := by
  show V m c main_v4 = _
  unfold V V0
  simp only [hostOps0, List.flatten_cons, List.flatten_nil, List.append_nil]
  after_results_simp
  rfl

/-- The target that the kernel finds. -/
theorem found_t : aT m c = a7 m c := by
  show V m c main_arg7 = _
  unfold V V0
  simp only [hostOps0, List.flatten_cons, List.flatten_nil, List.append_nil]
  after_results_simp

/-! ## The kernel's rows are the reference's -/

abbrev rJoint (r : Fin 4096) (n : Fin 5632) : EReal := LossRef.joint (a0 m c) (a1 m c) (a2 m c) (a3 m c) (a5 m c) r n

/-- The normalised rows are the reference's. -/
theorem hrow_eq (r : Fin 4096) : hrow m c r = LossRef.hrow (a0 m c) (a1 m c) (a2 m c) (a3 m c) r := by
  unfold hrow LossRef.hrow
  rw [found_x, show row (aN m c) 0 = fun d => a1 m c (ix1 d) from funext (found_n m c), found_sh, found_sc]

/-- The gate's hidden columns are the reference's. -/
theorem gate_eq (n : ℕ) (r : Fin 4096) (f : Fin 704) : gateOf m c n r f = rJoint m c r (lo (at4 (quarter n) f)) := by
  unfold gateOf rJoint LossRef.joint
  rw [hrow_eq, found_w]
  exact congrArg _ (funext fun d => hW_at _ _ f d)

/-- The other hidden columns are the reference's. -/
theorem up_eq (n : ℕ) (r : Fin 4096) (f : Fin 704) : upOf m c n r f = rJoint m c r (hi (at4 (quarter n) f)) := by
  unfold upOf rJoint LossRef.joint
  rw [hrow_eq, found_w, show hi (at4 (quarter n) f) = at8 (later n) f from Fin.ext (by
    show n % 4 * 704 + f.val + 2816 = (4 + n % 4) * 704 + f.val; omega)]
  exact congrArg _ (funext fun d => hW_at _ _ f d)

/-- A block by its number. -/
theorem quarter_val (j : Fin 4) : quarter j.val = j := Fin.ext (Nat.mod_eq_of_lt j.isLt)

/-- The four blocks' products together are the branch. -/
theorem mix_eq (r : Fin 4096) (d : Fin 1024) :
    mixOf m c r d = LossRef.mixRow (a0 m c) (a1 m c) (a2 m c) (a3 m c) (a5 m c) (a6 m c) r d := by
  unfold mixOf
  rw [Finset.sum_range]
  refine Eq.trans (Finset.sum_congr rfl fun j _ => ?_)
    (Fin.sum_mul_add_fin 4 704 fun n : Fin 2816 => swish (rJoint m c r (lo n)) (rJoint m c r (hi n)) * a6 m c (ix2 n d))
  unfold part
  refine Finset.sum_congr rfl fun f _ => ?_
  rw [gate_eq, up_eq, found_d, hD_at, quarter_val]
  rfl

/-- The distances to the target are the reference's. -/
theorem err_eq (r : Fin 4096) :
    errOf m c r = LossRef.errRow (a0 m c) (a1 m c) (a2 m c) (a3 m c) (a4 m c) (a5 m c) (a6 m c) (a7 m c) r := by
  funext d
  unfold errOf LossRef.errRow
  rw [mix_eq, found_x, found_g, found_t]

/-- The rows of blocks' parts together are the loss. -/
theorem loss_eq : lossTo m c 4 = ∑ r : Fin 4096,
    half * rowLoss (LossRef.errRow (a0 m c) (a1 m c) (a2 m c) (a3 m c) (a4 m c) (a5 m c) (a6 m c) (a7 m c) r) := by
  unfold lossTo
  rw [Finset.sum_range]
  refine Eq.trans (Finset.sum_congr rfl fun s _ => ?_) (Fin.sum_mul_add_fin 4 1024 fun r : Fin 4096 =>
    half * rowLoss (LossRef.errRow (a0 m c) (a1 m c) (a2 m c) (a3 m c) (a4 m c) (a5 m c) (a6 m c) (a7 m c) r))
  rw [LossRef.half_sum _ _ fun a => LossRef.rowLoss_nonneg _]
  refine Finset.sum_congr rfl fun a _ => ?_
  rw [err_eq, show at_ s.val a = ⟨s.val * 1024 + a.val, by omega⟩ from Fin.ext (by show s.val % 4 * 1024 + a.val = s.val * 1024 + a.val; omega)]

/-! ## The lines behind the kernel -/

/-- The lines behind the kernel find its arrays. -/
theorem after (w : Fin cfg0.W) :
    Pipeline.withArrays cfg0.spec c (V0 m c) (fun w => (dats m 0 c).arrAt w cfg0.N) (Proc.devRef .tc (Pipeline.arrRef cfg0.spec w)) = (dats m 0 c).arrAt w cfg0.N :=
  (dats m 0 c).withArrays_arrAt sharedIn0 (V0 m c) (A_eq m c) w

/-- The normalised rows, as those lines find them. -/
theorem after11 : Pipeline.withArrays (cfgs 0).spec c (V0 m c) (fun w => (dats m 0 c).arrAt w (cfgs 0).N) (Proc.devRef .tc main_v6_2)
    = (dats m 0 c).arrAt 11 cfg0.N := after m c 11
/-- The gate's hidden columns, as those lines find them. -/
theorem after12 : Pipeline.withArrays (cfgs 0).spec c (V0 m c) (fun w => (dats m 0 c).arrAt w (cfgs 0).N) (Proc.devRef .tc main_v6_3)
    = (dats m 0 c).arrAt 12 cfg0.N := after m c 12
/-- The other hidden columns, as those lines find them. -/
theorem after13 : Pipeline.withArrays (cfgs 0).spec c (V0 m c) (fun w => (dats m 0 c).arrAt w (cfgs 0).N) (Proc.devRef .tc main_v6_4)
    = (dats m 0 c).arrAt 13 cfg0.N := after m c 13
/-- The loss, as those lines find it. -/
theorem after14 : Pipeline.withArrays (cfgs 0).spec c (V0 m c) (fun w => (dats m 0 c).arrAt w (cfgs 0).N) (Proc.devRef .tc main_v6_5)
    = (dats m 0 c).arrAt 14 cfg0.N := after m c 14

/-- The loss's gradient. -/
theorem end_grad : (dats m 0 c).arrAt 9 cfg0.N
    = Cert.LossRefIdeal.Read.val_main_v42 (F := Ideal) (a0 m c) (a1 m c) (a2 m c) (a3 m c) (a4 m c) (a5 m c) (a6 m c) (a7 m c) := by
  rw [final9]
  refine ext2 fun r d => ?_
  rw [LossRef.grad_at, ← err_eq]

/-- The branch. -/
theorem end_mix : (dats m 0 c).arrAt 10 cfg0.N
    = Cert.LossRefIdeal.Read.val_main_v24 (F := Ideal) (a0 m c) (a1 m c) (a2 m c) (a3 m c) (a5 m c) (a6 m c) := by
  rw [final10]
  refine ext2 fun r d => ?_
  rw [LossRef.mix_at, ← mix_eq]

/-- The loss. -/
theorem end_loss : Pipeline.afterTail₀ cfgs (dats m) 0 (V0 m) [hostOps1] c main_v8
    = Cert.LossRefIdeal.Read.val_main_v36 (F := Ideal) (a0 m c) (a1 m c) (a2 m c) (a3 m c) (a4 m c) (a5 m c) (a6 m c) (a7 m c) := by
  unfold Pipeline.afterTail₀
  simp only [hostOps1, List.flatten_cons, List.flatten_nil, List.append_nil]
  after_results_simp
  rw [after14, final14]
  funext i
  rw [LossRef.loss_at, ← loss_eq]
  rfl

/-- The normalised rows. -/
theorem end_h : Pipeline.afterTail₀ cfgs (dats m) 0 (V0 m) [hostOps1] c main_v9
    = Cert.LossRefIdeal.Read.val_main_v18 (F := Ideal) (a0 m c) (a1 m c) (a2 m c) (a3 m c) := by
  unfold Pipeline.afterTail₀
  simp only [hostOps1, List.flatten_cons, List.flatten_nil, List.append_nil]
  after_results_simp
  rw [after11, final11]
  refine ext2 fun r d => ?_
  rw [LossRef.norm_at, ← hrow_eq]
  rfl

/-- The hidden columns with the blocks side by side. -/
def beside (x : FVec Ideal S4x4096x704 .bf16) : FVec Ideal S4096x2816 .f32 :=
  shapeCast S4096x2816 (transpose S4096x4x704 [1, 0, 2] (extf (F := Ideal) .f32 x bitsLt_bf16_f32) transposes_S4x4096x704_S4096x4x704_1_0_2)
    shapeCasts_S4096x4x704_S4096x2816

/-- They at an index. -/
theorem beside_at (x : FVec Ideal S4x4096x704 .bf16) (r : Fin 4096) (j : Fin 4) (f : Fin 704) : beside x (ix2 r (at4 j f)) = x (ix3 j r f) := by
  unfold beside
  rw [shapeCast_apply _ _ (ix2 r (at4 j f)) (ix3 r j f) (by
    rw [Shape.rowMajor_val_two, Shape.rowMajor_val_three]
    show (r.val * 4 + j.val) * 704 + f.val = r.val * 2816 + (j.val * 704 + f.val)
    omega)]
  exact transpose_apply _ _ _ _ _ (fun b => match b with | ⟨0, _⟩ => rfl | ⟨1, _⟩ => rfl | ⟨2, _⟩ => rfl)

/-- The gate's hidden columns. -/
theorem end_gate : Pipeline.afterTail₀ cfgs (dats m) 0 (V0 m) [hostOps1] c main_v12
    = Cert.LossRefIdeal.Read.val_main_v20 (F := Ideal) (a0 m c) (a1 m c) (a2 m c) (a3 m c) (a5 m c) := by
  refine Eq.trans (b := beside ((dats m 0 c).arrAt 12 cfg0.N)) ?_ (ext2 fun r n => ?_)
  · unfold Pipeline.afterTail₀
    simp only [hostOps1, List.flatten_cons, List.flatten_nil, List.append_nil]
    after_results_simp
    rw [after12]
    rfl
  · obtain ⟨j, f, rfl⟩ := exists_at n
    rw [beside_at, LossRef.gate_at, final12]
    exact (gate_eq m c j.val r f).trans (by rw [quarter_val])

/-- The other hidden columns. -/
theorem end_up : Pipeline.afterTail₀ cfgs (dats m) 0 (V0 m) [hostOps1] c main_v15
    = Cert.LossRefIdeal.Read.val_main_v21 (F := Ideal) (a0 m c) (a1 m c) (a2 m c) (a3 m c) (a5 m c) := by
  refine Eq.trans (b := beside ((dats m 0 c).arrAt 13 cfg0.N)) ?_ (ext2 fun r n => ?_)
  · unfold Pipeline.afterTail₀
    simp only [hostOps1, List.flatten_cons, List.flatten_nil, List.append_nil]
    after_results_simp
    rw [after13]
    rfl
  · obtain ⟨j, f, rfl⟩ := exists_at n
    rw [beside_at, LossRef.up_at, final13]
    exact (up_eq m c j.val r f).trans (by rw [quarter_val])

/-! ## The results -/

/-- The kernel's results are the reference's, of every device. -/
theorem results : θ_run defs (onTc (τ := τ) (main (F := Ideal))) ⟨m, fun _ => 0, ρ⟩ (fun r => ∀ c : Dev nD,
    r.2.mem ((c.tc : Thread nD τ).loc main_v8) = Cert.LossRefIdeal.Read.val_main_v36 (F := Ideal) (a0 m c) (a1 m c) (a2 m c) (a3 m c) (a4 m c) (a5 m c) (a6 m c) (a7 m c)
      ∧ r.2.mem ((c.tc : Thread nD τ).loc main_v6_0) = Cert.LossRefIdeal.Read.val_main_v42 (F := Ideal) (a0 m c) (a1 m c) (a2 m c) (a3 m c) (a4 m c) (a5 m c) (a6 m c) (a7 m c)
      ∧ r.2.mem ((c.tc : Thread nD τ).loc main_v6_1) = Cert.LossRefIdeal.Read.val_main_v24 (F := Ideal) (a0 m c) (a1 m c) (a2 m c) (a3 m c) (a5 m c) (a6 m c)
      ∧ r.2.mem ((c.tc : Thread nD τ).loc main_v9) = Cert.LossRefIdeal.Read.val_main_v18 (F := Ideal) (a0 m c) (a1 m c) (a2 m c) (a3 m c)
      ∧ r.2.mem ((c.tc : Thread nD τ).loc main_v12) = Cert.LossRefIdeal.Read.val_main_v20 (F := Ideal) (a0 m c) (a1 m c) (a2 m c) (a3 m c) (a5 m c)
      ∧ r.2.mem ((c.tc : Thread nD τ).loc main_v15) = Cert.LossRefIdeal.Read.val_main_v21 (F := Ideal) (a0 m c) (a1 m c) (a2 m c) (a3 m c) (a5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
      ((h.2 c).2 main_v8 (Pipeline.mem_restRefs_of main_v8 (by decide) (by decide))).trans (end_loss m c),
      ((h.2 c).1 9).trans (end_grad m c),
      ((h.2 c).1 10).trans (end_mix m c),
      ((h.2 c).2 main_v9 (Pipeline.mem_restRefs_of main_v9 (by decide) (by decide))).trans (end_h m c),
      ((h.2 c).2 main_v12 (Pipeline.mem_restRefs_of main_v12 (by decide) (by decide))).trans (end_gate m c),
      ((h.2 c).2 main_v15 (Pipeline.mem_restRefs_of main_v15 (by decide) (by decide))).trans (end_up m c),
      h.1 c⟩)
    (θ_run_and (frame_of m ρ (dats m) (A_eq m) (run ρ)) (run ρ))

end

end Cert.Proof.LossRun

end
-- ==== Proof.LossBits.lean ====
/- The frame of the compiled feed-forward kernel with the loss: its program is the idealized one's, so the run of that one is its run. -/
module

public import proofs.«01_k».proof.Defs
public import proofs.«01_k».proof.Proof.LossFrame
public import proofs.«01_k».proof.Proof.Gen.Loss.Frame
public import Idealize.ShloMosaic.Lib.Tactic

@[expose] public section

noncomputable section

namespace Cert.Proof

open Idealize.ShloMosaic Idealize.SL.Sem Idealize.ShloMosaic.Tactic

/-- Every run of the compiled kernel ends, keeps its arguments and leaves its semaphores as they were. -/
theorem frame_loss : Cert.quiescent_Loss (hLoss := Cert.Loss.Gen.facts) := by
  have e : Cert.quiescent_Loss (hLoss := Cert.Loss.Gen.facts) = (∀ (m : (ℓ : Loc Cert.LossIdeal.nD Cert.LossIdeal.τ Cert.LossIdeal.sig) → Buf (Elt Bits) ℓ)
      (g : Dev Cert.LossIdeal.nD → PrngReg), True → θ_run (Cert.LossIdeal.defs (F := Bits)) (onTc (τ := Cert.LossIdeal.τ) (Cert.LossIdeal.main (F := Bits)))
        ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ r.2.sem = fun _ => 0)) := by sl_kernel_rfl
  rw [e]
  exact fun m ρ _ => Cert.LossIdeal.Gen.quiescent (m := m) ρ

end Cert.Proof

end
-- ==== Proof.QkvStep.lean ====
/- One step of the kernel for the gradients of queries, keys and values: it runs from the blocks it finds, the contents it leaves in
   the blocks it writes, and among them the gradient of the rotary part of the keys and its weight's. -/
module

public import proofs.«01_k».proof.Defs
public import proofs.«01_k».proof.Proof.Gen.QkvIdeal.Frame.Runs
public import Idealize.ShloMosaic.Lib.Pipeline.ValueKit.Basic
public import Idealize.ShloMosaic.Lib.Pipeline.ReadBack

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The lanes' numbers. -/
abbrev lanes : IVec S1x128 32 := iota .tc S1x128 32 [1] iota_S1x128_d1_w32

section
variable (L C S : Vec F S512x128 .f32) (W : Vec F S1x128 .f32) (K : Vec F S8x512x128 .f32)

/-- The rotary part alone. -/
def part : FVec F S512x128 .f32 := k0_pay38 (k0_pay21 L) lanes k0_pay23 96#32
/-- Its inverse root mean square. -/
def kroot : FVec F S512x1 .f32 := k0_pay40 (k0_pay21 L) lanes k0_pay23 96#32
/-- That root's derivative. -/
def kdroot : FVec F S512x1 .f32 := k0_pay42 (k0_pay41 (k0_pay21 L) lanes k0_pay23 96#32)

/-- The keys' cotangent summed over the heads. -/
def summed : FVec F S512x128 .f32 :=
  k0_pay389 (k0_pay224 K) (k0_pay367 (k0_pay225 K) (k0_pay350 (k0_pay226 K) (k0_pay329 (k0_pay227 K)
    (k0_pay307 (k0_pay229 (k0_pay228 K)) (k0_pay288 (k0_pay230 (k0_pay215 K)) (k0_pay264 (k0_pay231 (k0_pay215 K)) (k0_pay232 (k0_pay215 K))))))))

/-- The zero that fills the lanes beside. -/
abbrev nil : F .f32 := Scalar.ofBits .f32 0x00000000#32

/-- The step's gradient of the rotary part. -/
def grad : FVec F S512x128 .f32 :=
  k0_pay413 (k0_pay17 W) (k0_pay37 lanes k0_pay23 96#32) (part L) (kroot L) (kdroot L) (k0_pay408 (k0_pay18 C) (summed K))
    (k0_pay409 (k0_pay19 S) (summed K)) nil (k0_pay410 (k0_pay19 S) (summed K))
/-- The step's part of the weight's gradient. -/
def wgrad : FVec F S1x128 .f32 :=
  k0_pay412 (k0_pay43 (part L) (kroot L)) (k0_pay408 (k0_pay18 C) (summed K))
    (k0_pay409 (k0_pay19 S) (summed K)) nil (k0_pay410 (k0_pay19 S) (summed K))

end

section
variable (X : Vec F S512x384 .f32) (W : Vec F S1x128 .f32) (D : Vec F S8x512x64 .f32)

/-- The rows of the keys' and values' latent after their norm. -/
def latent : FVec F S512x128 .f32 := k0_pay36 (k0_pay11 W) (k0_pay20 X)

/-- The step's part of the gradient of the values' weight: every head's product, with zeros in the other heads' places. -/
def vgrad : FVec F S8x128x64 .f32 :=
  k0_pay388 (latent X W) (k0_pay216 D) (k0_pay366 (latent X W) (k0_pay217 D) (k0_pay349
    (k0_pay328 (latent X W) (k0_pay219 D) (k0_pay306 (latent X W) (k0_pay220 D)
      (k0_pay287 (k0_pay263 (latent X W) (k0_pay222 D) (k0_pay242 (latent X W) (k0_pay223 D))) (k0_pay286 (latent X W) (k0_pay221 D)))))
    (truncf .bf16 (latent X W) bitsLt_bf16_f32) (k0_pay348 (k0_pay218 D)) (constant S128x64 .f32 0x00000000#32)))

end

section
variable (X : Vec F S512x384 .f32) (W : Vec F S1x128 .f32) (B : Vec F S8x128x128 .bf16) (K : Vec F S8x512x128 .f32)

/-- One head's keys before their norm, from its matrix. -/
def keyRows (l : FVec F S512x128 .f32) (b : FVec F S1x128x128 .bf16) : FVec F S512x128 .f32 :=
  matmul dot_S512x128_S128x128_S512x128_1_0_0_1_n_n none (truncf .bf16 l bitsLt_bf16_f32) (shapeCast S128x128 b shapeCasts_S1x128x128_S128x128)
    (constant S512x128 .f32 0x00000000#32)

/-- The inverse root of their mean square. -/
def keyRoot (k : FVec F S512x128 .f32) : FVec F S512x1 .f32 :=
  rsqrt (addf (divf (shapeCast S512x1 (multiReduction .add [1] S512 (mulf k k) 0x00000000#32 reduces_S512x128_S512 (.inl rfl) rfl) shapeCasts_S512_S512x1)
    (broadcast S512x1 (Scalar.ofBits .f32 0x42800000#32))) (broadcast S512x1 (Scalar.ofBits .f32 0x358637BD#32)))

/-- One head's part of the gradient of their norm's weight. -/
def keyPart (k : FVec F S512x128 .f32) (d : FVec F S1x512x128 .f32) : FVec F S1x128 .f32 :=
  shapeCast S1x128 (multiReduction .add [0] S128 (mulf (mulf k (broadcastTo S512x128 (keyRoot k) broadcasts_S512x1_S512x128))
    (shapeCast S512x128 d shapeCasts_S1x512x128_S512x128)) 0x00000000#32 reduces_S512x128_S128 (.inl rfl) rfl) shapeCasts_S128_S1x128

/-- One head's matrix and its rows of the cotangent. -/
def part8 (p : Nat) (h : S8x128x128.Slices ![p, 0, 0] S1x128x128) (h' : S8x512x128.Slices ![p, 0, 0] S1x512x128) : FVec F S1x128 .f32 :=
  keyPart (keyRows (latent X W) (extractStridedSlice S1x128x128 ![p, 0, 0] (k0_pay13 B) h)) (extractStridedSlice S1x512x128 ![p, 0, 0] (k0_pay215 K) h')

/-- The step's part of the gradient of the norm's weight of the keys. -/
def kgrad : FVec F S1x128 .f32 :=
  addf (addf (addf (addf (addf (addf (addf (part8 X W B K 7 slices_S8x128x128_o7_0_0_S1x128x128 slices_S8x512x128_o7_0_0_S1x512x128)
    (part8 X W B K 6 slices_S8x128x128_o6_0_0_S1x128x128 slices_S8x512x128_o6_0_0_S1x512x128))
    (part8 X W B K 5 slices_S8x128x128_o5_0_0_S1x128x128 slices_S8x512x128_o5_0_0_S1x512x128))
    (part8 X W B K 4 slices_S8x128x128_o4_0_0_S1x128x128 slices_S8x512x128_o4_0_0_S1x512x128))
    (part8 X W B K 3 slices_S8x128x128_o3_0_0_S1x128x128 slices_S8x512x128_o3_0_0_S1x512x128))
    (part8 X W B K 2 slices_S8x128x128_o2_0_0_S1x128x128 slices_S8x512x128_o2_0_0_S1x512x128))
    (part8 X W B K 1 slices_S8x128x128_o1_0_0_S1x128x128 slices_S8x512x128_o1_0_0_S1x512x128))
    (part8 X W B K 0 slices_S8x128x128_o0_0_0_S1x128x128 slices_S8x512x128_o0_0_0_S1x512x128)

end

/-- The offsets of a whole block are zero. -/
theorem zero2 : ∀ a : Fin 2, (![0, 0] : Fin 2 → ℕ) a = 0 := by decide
theorem zero3 : ∀ a : Fin 3, (![0, 0, 0] : Fin 3 → ℕ) a = 0 := by decide

/-- What a block holds after one store that covers it. -/
theorem read_whole {κ : Kind} {sp : Space} {S : Shape} {e : EltTy} (v : View sig κ sp S e) (f : v.ty.Contents (Elt F)) (off : Fin S.rank → ℕ) (inb)
    (Z : S.Idx → Elt F e) (h0 : ∀ a, off a = 0) :
    View.read (Elt F) v (v.writes (Elt F) f [(⟨Rect.unit off S.size inb, Z⟩ : View.Piece (Elt F) S e)]) = Z := by
  refine (View.read_writes_eq_canon v f _ fun p => ⟨_, List.mem_cons_self, ?_⟩).trans (View.canon_cons_unit_lit inb Z [] h0)
  rw [Rect.mem_set_unit]
  intro a
  have := (p a).isLt
  rw [h0 a]
  omega

/-- A load of a whole block that nothing was stored into. -/
theorem load_whole {κ : Kind} {sp : Space} {S : Shape} {e : EltTy} (m : Memref sig κ sp S e) (hm : m.IsWhole) (x : Vec F S e) (off : Fin S.rank → ℕ) (inb)
    (h0 : ∀ a, off a = 0) : View.readAt (Elt F) m.view (Rect.unit off S.size inb).toLoadRect (hm.unread x) = x := by
  rw [View.readAt_eq_ld, hm.read_unread]
  exact View.ld_unit_lit (S := S) inb x h0

/-- The contents of the blocks that a step writes. -/
structure Outs (F : FTy → Type) where
  o15 : Vec F S512x384 .f32
  o16 : Vec F S512x128 .f32
  o17 : Vec F S1x256 .f32
  o18 : Vec F S1x128 .f32
  o19 : Vec F S8x256x128 .f32
  o20 : Vec F S8x128x128 .f32
  o21 : Vec F S8x128x64 .f32
  o22 : Vec F S1x128 .f32
  o23 : Vec F S1x128 .f32
  o24 : Vec F S1x128 .f32

set_option maxHeartbeats 40000000 in
/-- The first step of a device runs, and what it leaves. -/
theorem first_step (c : Dev nD) (i : grid0.Coords) (arg1 : Memref sig .tc .vmem S512x384 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1x256 .f32) (harg5 : arg5.IsWhole) (arg6 : Memref sig .tc .vmem S1x128 .f32) (harg6 : arg6.IsWhole) (arg7 : Memref sig .tc .vmem S8x256x128 .bf16) (harg7 : arg7.IsWhole) (arg8 : Memref sig .tc .vmem S8x128x128 .bf16) (harg8 : arg8.IsWhole) (arg9 : Memref sig .tc .vmem S8x128x64 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S8x512x128 .f32) (harg13 : arg13.IsWhole) (arg14 : Memref sig .tc .vmem S8x512x128 .f32) (harg14 : arg14.IsWhole) (arg15 : Memref sig .tc .vmem S8x512x64 .f32) (harg15 : arg15.IsWhole) (arg16 : Memref sig .tc .vmem S512x384 .f32) (harg16 : arg16.IsWhole) (arg17 : Memref sig .tc .vmem S512x128 .f32) (harg17 : arg17.IsWhole) (arg18 : Memref sig .tc .vmem S1x256 .f32) (harg18 : arg18.IsWhole) (arg19 : Memref sig .tc .vmem S1x128 .f32) (harg19 : arg19.IsWhole) (arg20 : Memref sig .tc .vmem S8x256x128 .f32) (harg20 : arg20.IsWhole) (arg21 : Memref sig .tc .vmem S8x128x128 .f32) (harg21 : arg21.IsWhole) (arg22 : Memref sig .tc .vmem S8x128x64 .f32) (harg22 : arg22.IsWhole) (arg23 : Memref sig .tc .vmem S1x128 .f32) (harg23 : arg23.IsWhole) (arg24 : Memref sig .tc .vmem S1x128 .f32) (harg24 : arg24.IsWhole) (arg25 : Memref sig .tc .vmem S1x128 .f32) (harg25 : arg25.IsWhole) (hc0 : cond0_0 i) (hc1 : ¬cond0_1 i)
    (x0 : Vec F S512x384 .f32) (x1 : Vec F S512x128 .f32) (x2 : Vec F S512x128 .f32) (x3 : Vec F S512x128 .f32) (x4 : Vec F S1x256 .f32) (x5 : Vec F S1x128 .f32) (x6 : Vec F S8x256x128 .bf16) (x7 : Vec F S8x128x128 .bf16) (x8 : Vec F S8x128x64 .bf16) (x9 : Vec F S1x128 .f32) (x10 : Vec F S1x128 .f32) (x11 : Vec F S1x128 .f32) (x12 : Vec F S8x512x128 .f32) (x13 : Vec F S8x512x128 .f32) (x14 : Vec F S8x512x64 .f32) :
    ∃ z : Outs F, z.o16 = grad x1 x2 x3 x11 x13 ∧ z.o24 = wgrad x1 x2 x3 x13 ∧ z.o21 = vgrad x0 x5 x14 ∧ z.o23 = kgrad x0 x5 x7 x13 ∧
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare z.o15 ∗ owns (c : Thread nD τ) arg17 fullShare z.o16 ∗ owns (c : Thread nD τ) arg18 fullShare z.o17 ∗ owns (c : Thread nD τ) arg19 fullShare z.o18 ∗ owns (c : Thread nD τ) arg20 fullShare z.o19 ∗ owns (c : Thread nD τ) arg21 fullShare z.o20 ∗ owns (c : Thread nD τ) arg22 fullShare z.o21 ∗ owns (c : Thread nD τ) arg23 fullShare z.o22 ∗ owns (c : Thread nD τ) arg24 fullShare z.o23 ∗ owns (c : Thread nD τ) arg25 fullShare z.o24) -∗ K ⟨⟩))
          ⊢ wp frame (wpE (defs₀ (F := F)) Variants.none c none) E (cc0_qkv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  refine ⟨⟨?_, ?_, ?_, ?_, ?_, ?_, ?_, ?_, ?_, ?_⟩, ?grad, ?weight, ?value, ?keys, fun E K => ?run⟩
  case run =>
    simp only [cc0_qkv_bwd_eq_skeleton]; unfold cc0_qkv_bwd_skel
    simp only [k0_part35_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; swap; · iexact H15
      ipureintro; refine Eq.trans (read_whole (F := F) _ _ _ _ _ (by first | exact zero2 | exact zero3)) ?_; exact rfl
    isplitl [H16]
    · iexists _; isplitr; swap; · iexact H16
      ipureintro; refine Eq.trans (read_whole (F := F) _ _ _ _ _ (by first | exact zero2 | exact zero3)) ?_; exact rfl
    isplitl [H17]
    · iexists _; isplitr; swap; · iexact H17
      ipureintro; refine Eq.trans (read_whole (F := F) _ _ _ _ _ (by first | exact zero2 | exact zero3)) ?_; exact rfl
    isplitl [H18]
    · iexists _; isplitr; swap; · iexact H18
      ipureintro; refine Eq.trans (read_whole (F := F) _ _ _ _ _ (by first | exact zero2 | exact zero3)) ?_; exact rfl
    isplitl [H19]
    · iexists _; isplitr; swap; · iexact H19
      ipureintro; refine Eq.trans (read_whole (F := F) _ _ _ _ _ (by first | exact zero2 | exact zero3)) ?_; exact rfl
    isplitl [H20]
    · iexists _; isplitr; swap; · iexact H20
      ipureintro; refine Eq.trans (read_whole (F := F) _ _ _ _ _ (by first | exact zero2 | exact zero3)) ?_; exact rfl
    isplitl [H21]
    · iexists _; isplitr; swap; · iexact H21
      ipureintro; refine Eq.trans (read_whole (F := F) _ _ _ _ _ (by first | exact zero2 | exact zero3)) ?_; exact rfl
    isplitl [H22]
    · iexists _; isplitr; swap; · iexact H22
      ipureintro; refine Eq.trans (read_whole (F := F) _ _ _ _ _ (by first | exact zero2 | exact zero3)) ?_; exact rfl
    isplitl [H23]
    · iexists _; isplitr; swap; · iexact H23
      ipureintro; refine Eq.trans (read_whole (F := F) _ _ _ _ _ (by first | exact zero2 | exact zero3)) ?_; exact rfl
    iexists _; isplitr; swap; · iexact H24
    ipureintro; refine Eq.trans (read_whole (F := F) _ _ _ _ _ (by first | exact zero2 | exact zero3)) ?_; exact rfl
  case grad =>
    sl_unfold_words
    dsimp only
    rw [load_whole _ harg2 x1, load_whole _ harg3 x2, load_whole _ harg4 x3, load_whole _ harg12 x11, load_whole _ harg14 x13]
    · rfl
    all_goals decide
  case weight =>
    sl_unfold_words
    dsimp only
    rw [load_whole _ harg2 x1, load_whole _ harg3 x2, load_whole _ harg4 x3, load_whole _ harg14 x13]
    · rfl
    all_goals decide
  case value =>
    sl_unfold_words
    dsimp only
    rw [load_whole _ harg1 x0, load_whole _ harg6 x5, load_whole _ harg15 x14]
    · rfl
    all_goals decide
  case keys =>
    sl_unfold_words
    dsimp only
    rw [load_whole _ harg1 x0, load_whole _ harg6 x5, load_whole _ harg8 x7, load_whole _ harg14 x13]
    · rfl
    all_goals decide

set_option maxHeartbeats 40000000 in
/-- A later step runs, and what it leaves: it adds to the sums that it finds. -/
theorem next_step (c : Dev nD) (i : grid0.Coords) (arg1 : Memref sig .tc .vmem S512x384 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1x256 .f32) (harg5 : arg5.IsWhole) (arg6 : Memref sig .tc .vmem S1x128 .f32) (harg6 : arg6.IsWhole) (arg7 : Memref sig .tc .vmem S8x256x128 .bf16) (harg7 : arg7.IsWhole) (arg8 : Memref sig .tc .vmem S8x128x128 .bf16) (harg8 : arg8.IsWhole) (arg9 : Memref sig .tc .vmem S8x128x64 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S8x512x128 .f32) (harg13 : arg13.IsWhole) (arg14 : Memref sig .tc .vmem S8x512x128 .f32) (harg14 : arg14.IsWhole) (arg15 : Memref sig .tc .vmem S8x512x64 .f32) (harg15 : arg15.IsWhole) (arg16 : Memref sig .tc .vmem S512x384 .f32) (harg16 : arg16.IsWhole) (arg17 : Memref sig .tc .vmem S512x128 .f32) (harg17 : arg17.IsWhole) (arg18 : Memref sig .tc .vmem S1x256 .f32) (harg18 : arg18.IsWhole) (arg19 : Memref sig .tc .vmem S1x128 .f32) (harg19 : arg19.IsWhole) (arg20 : Memref sig .tc .vmem S8x256x128 .f32) (harg20 : arg20.IsWhole) (arg21 : Memref sig .tc .vmem S8x128x128 .f32) (harg21 : arg21.IsWhole) (arg22 : Memref sig .tc .vmem S8x128x64 .f32) (harg22 : arg22.IsWhole) (arg23 : Memref sig .tc .vmem S1x128 .f32) (harg23 : arg23.IsWhole) (arg24 : Memref sig .tc .vmem S1x128 .f32) (harg24 : arg24.IsWhole) (arg25 : Memref sig .tc .vmem S1x128 .f32) (harg25 : arg25.IsWhole) (hc0 : ¬cond0_0 i) (hc1 : cond0_1 i)
    (x0 : Vec F S512x384 .f32) (x1 : Vec F S512x128 .f32) (x2 : Vec F S512x128 .f32) (x3 : Vec F S512x128 .f32) (x4 : Vec F S1x256 .f32) (x5 : Vec F S1x128 .f32) (x6 : Vec F S8x256x128 .bf16) (x7 : Vec F S8x128x128 .bf16) (x8 : Vec F S8x128x64 .bf16) (x9 : Vec F S1x128 .f32) (x10 : Vec F S1x128 .f32) (x11 : Vec F S1x128 .f32) (x12 : Vec F S8x512x128 .f32) (x13 : Vec F S8x512x128 .f32) (x14 : Vec F S8x512x64 .f32) (xo17 : Vec F S1x256 .f32) (xo18 : Vec F S1x128 .f32) (xo19 : Vec F S8x256x128 .f32) (xo20 : Vec F S8x128x128 .f32) (xo21 : Vec F S8x128x64 .f32) (xo22 : Vec F S1x128 .f32) (xo23 : Vec F S1x128 .f32) (xo24 : Vec F S1x128 .f32) :
    ∃ z : Outs F, z.o16 = grad x1 x2 x3 x11 x13 ∧ z.o24 = k0_pay3 (wgrad x1 x2 x3 x13) xo24 ∧ z.o21 = k0_pay8 (vgrad x0 x5 x14) xo21 ∧ z.o23 = k0_pay2 (kgrad x0 x5 x7 x13) xo23 ∧
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ owns (c : Thread nD τ) arg18 fullShare xo17 ∗ owns (c : Thread nD τ) arg19 fullShare xo18 ∗ owns (c : Thread nD τ) arg20 fullShare xo19 ∗ owns (c : Thread nD τ) arg21 fullShare xo20 ∗ owns (c : Thread nD τ) arg22 fullShare xo21 ∗ owns (c : Thread nD τ) arg23 fullShare xo22 ∗ owns (c : Thread nD τ) arg24 fullShare xo23 ∗ owns (c : Thread nD τ) arg25 fullShare xo24
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare z.o15 ∗ owns (c : Thread nD τ) arg17 fullShare z.o16 ∗ owns (c : Thread nD τ) arg18 fullShare z.o17 ∗ owns (c : Thread nD τ) arg19 fullShare z.o18 ∗ owns (c : Thread nD τ) arg20 fullShare z.o19 ∗ owns (c : Thread nD τ) arg21 fullShare z.o20 ∗ owns (c : Thread nD τ) arg22 fullShare z.o21 ∗ owns (c : Thread nD τ) arg23 fullShare z.o22 ∗ owns (c : Thread nD τ) arg24 fullShare z.o23 ∗ owns (c : Thread nD τ) arg25 fullShare z.o24) -∗ K ⟨⟩))
          ⊢ wp frame (wpE (defs₀ (F := F)) Variants.none c none) E (cc0_qkv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  refine ⟨⟨?_, ?_, ?_, ?_, ?_, ?_, ?_, ?_, ?_, ?_⟩, ?grad, ?weight, ?value, ?keys, fun E K => ?run⟩
  case run =>
    simp only [cc0_qkv_bwd_eq_skeleton]; unfold cc0_qkv_bwd_skel
    simp only [k0_part35_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; swap; · iexact H15
      ipureintro; refine Eq.trans (read_whole (F := F) _ _ _ _ _ (by first | exact zero2 | exact zero3)) ?_; exact rfl
    isplitl [H16]
    · iexists _; isplitr; swap; · iexact H16
      ipureintro; refine Eq.trans (read_whole (F := F) _ _ _ _ _ (by first | exact zero2 | exact zero3)) ?_; exact rfl
    isplitl [H17]
    · iexists _; isplitr; swap; · iexact H17
      ipureintro; refine Eq.trans (read_whole (F := F) _ _ _ _ _ (by first | exact zero2 | exact zero3)) ?_; exact rfl
    isplitl [H18]
    · iexists _; isplitr; swap; · iexact H18
      ipureintro; refine Eq.trans (read_whole (F := F) _ _ _ _ _ (by first | exact zero2 | exact zero3)) ?_; exact rfl
    isplitl [H19]
    · iexists _; isplitr; swap; · iexact H19
      ipureintro; refine Eq.trans (read_whole (F := F) _ _ _ _ _ (by first | exact zero2 | exact zero3)) ?_; exact rfl
    isplitl [H20]
    · iexists _; isplitr; swap; · iexact H20
      ipureintro; refine Eq.trans (read_whole (F := F) _ _ _ _ _ (by first | exact zero2 | exact zero3)) ?_; exact rfl
    isplitl [H21]
    · iexists _; isplitr; swap; · iexact H21
      ipureintro; refine Eq.trans (read_whole (F := F) _ _ _ _ _ (by first | exact zero2 | exact zero3)) ?_; exact rfl
    isplitl [H22]
    · iexists _; isplitr; swap; · iexact H22
      ipureintro; refine Eq.trans (read_whole (F := F) _ _ _ _ _ (by first | exact zero2 | exact zero3)) ?_; exact rfl
    isplitl [H23]
    · iexists _; isplitr; swap; · iexact H23
      ipureintro; refine Eq.trans (read_whole (F := F) _ _ _ _ _ (by first | exact zero2 | exact zero3)) ?_; exact rfl
    iexists _; isplitr; swap; · iexact H24
    ipureintro; refine Eq.trans (read_whole (F := F) _ _ _ _ _ (by first | exact zero2 | exact zero3)) ?_; exact rfl
  case grad =>
    sl_unfold_words
    dsimp only
    rw [load_whole _ harg2 x1, load_whole _ harg3 x2, load_whole _ harg4 x3, load_whole _ harg12 x11, load_whole _ harg14 x13]
    · rfl
    all_goals decide
  case weight =>
    sl_unfold_words
    dsimp only
    rw [load_whole _ harg2 x1, load_whole _ harg3 x2, load_whole _ harg4 x3, load_whole _ harg14 x13, load_whole _ harg25 xo24]
    · rfl
    all_goals decide
  case value =>
    sl_unfold_words
    dsimp only
    rw [load_whole _ harg1 x0, load_whole _ harg6 x5, load_whole _ harg15 x14, load_whole _ harg22 xo21]
    · rfl
    all_goals decide
  case keys =>
    sl_unfold_words
    dsimp only
    rw [load_whole _ harg1 x0, load_whole _ harg6 x5, load_whole _ harg8 x7, load_whole _ harg14 x13, load_whole _ harg24 xo23]
    · rfl
    all_goals decide

end Cert.QkvIdeal.Gen

end
-- ==== Proof.QkvBody.lean ====
/- The gradient of the rotary part of the keys through its turn and its norm, as formulas of a row, and what one step of the
   kernel for the gradients of queries, keys and values computes of it from the blocks it reads. -/
module

public import proofs.«01_k».proof.Defs
public import proofs.«01_k».proof.Proof.NormMath
public import proofs.«01_k».proof.Proof.Common
public import proofs.«01_k».proof.Proof.QkvStep
public import Idealize.ShloMosaic.Lib.Pipeline.ValueKit
public import Idealize.ShloMosaic.Lib.Pipeline.ReadBack
public import Idealize.ShloMosaic.Lib.ValueLayoutCasts

@[expose] public section

noncomputable section

namespace Cert.Proof.QkvBody

open Idealize.ShloMosaic hiding ix1 ix2 ix3 eq_ix2 eq_ix3
open Cert.QkvIdeal Cert.QkvIdeal.Gen Idealize.ShloMosaic.TcCoe Idealize.SL.Sem Idealize.ShloMosaic.ValueIdx
open Idealize.ShloMosaic.Tactic
open Cert.Proof.NormMath (tiny mhalf sum_row sum_col spread)
open scoped BigOperators

/-! ## The formulas of a row -/

/-- The row's length. -/
def width32 : EReal := Ideal.ofBits .f32 0x42000000#32

/-- The mean square with the small number, its inverse root, and that root's derivative. -/
def var (k : Fin 32 → EReal) : EReal := Ideal.div (∑ d, k d * k d) width32 + tiny
def root (k : Fin 32 → EReal) : EReal := Ideal.rsqrt (var k)
def droot (k : Fin 32 → EReal) : EReal := mhalf * Ideal.div (root k) (var k)

/-- The first and the second half of a row. -/
def lo (e : Fin 16) : Fin 32 := ⟨e.val, by omega⟩
def hi (e : Fin 16) : Fin 32 := ⟨16 + e.val, by omega⟩

/-- A row of the cotangent turned back by the position's angles. -/
def turned (c s : Fin 16 → EReal) (g : Fin 32 → EReal) (d : Fin 32) : EReal :=
  if h : d.val < 16 then g (hi ⟨d.val, h⟩) * s ⟨d.val, h⟩ + g (lo ⟨d.val, h⟩) * c ⟨d.val, h⟩
  else g (hi ⟨d.val - 16, by omega⟩) * c ⟨d.val - 16, by omega⟩ + -g (lo ⟨d.val - 16, by omega⟩) * s ⟨d.val - 16, by omega⟩

/-- What the root mean square contributes to the cotangent of each entry, and the cotangent of the row. -/
def through (k p : Fin 32 → EReal) : EReal := Ideal.div ((∑ d, k d * p d) * droot k) width32
def drow (k p : Fin 32 → EReal) (d : Fin 32) : EReal := p d * root k + k d * through k p + through k p * k d

/-- The lanes of the rotary part. -/
def lane (d : Fin 32) : Fin 128 := ⟨64 + d.val, by omega⟩

/-! ## Pieces side by side -/

/-- Two pieces side by side, in the first. -/
theorem cat_left {n p q k : Nat} (x : (⟨2, ![n, p]⟩ : Shape).Idx → EReal) (y : (⟨2, ![n, q]⟩ : Shape).Idx → EReal)
    (hc : Shape.Concatenates [⟨2, ![n, p]⟩, ⟨2, ![n, q]⟩] ⟨2, ![n, k]⟩ 1) (a : Fin n) (j : Fin k) (i : Fin p) (h : i.val = j.val) :
    concatenate ⟨2, ![n, k]⟩ 1 [⟨⟨2, ![n, p]⟩, x⟩, ⟨⟨2, ![n, q]⟩, y⟩] hc (ix2 a j) = x (ix2 a i) :=
  concatenate_pair_apply_left (t := ⟨2, ![n, k]⟩) (s₁ := ⟨2, ![n, p]⟩) (s₂ := ⟨2, ![n, q]⟩) 1 x y hc (ix2 a j) rfl (ix2 a i)
    (fun b => match b with | ⟨0, _⟩ => rfl | ⟨1, _⟩ => h)

/-- Two pieces side by side, in the second. -/
theorem cat_right {n p q k : Nat} (x : (⟨2, ![n, p]⟩ : Shape).Idx → EReal) (y : (⟨2, ![n, q]⟩ : Shape).Idx → EReal)
    (hc : Shape.Concatenates [⟨2, ![n, p]⟩, ⟨2, ![n, q]⟩] ⟨2, ![n, k]⟩ 1) (a : Fin n) (j : Fin k) (i : Fin q) (h : i.val + p = j.val) :
    concatenate ⟨2, ![n, k]⟩ 1 [⟨⟨2, ![n, p]⟩, x⟩, ⟨⟨2, ![n, q]⟩, y⟩] hc (ix2 a j) = y (ix2 a i) :=
  concatenate_pair_apply_right (t := ⟨2, ![n, k]⟩) (s₁ := ⟨2, ![n, p]⟩) (s₂ := ⟨2, ![n, q]⟩) 1 x y hc (ix2 a j) rfl rfl (ix2 a i)
    (fun b => match b with | ⟨0, _⟩ => fun _ => rfl | ⟨1, _⟩ => fun hb => absurd rfl hb) h

/-- A part of the lanes. -/
theorem cut_at {n k p : Nat} (o : Nat) (x : (⟨2, ![n, k]⟩ : Shape).Idx → EReal) (h : (⟨2, ![n, k]⟩ : Shape).Slices ![0, o] ⟨2, ![n, p]⟩)
    (a : Fin n) (e : Fin p) (j : Fin k) (hj : j.val = o + e.val) :
    extractStridedSlice ⟨2, ![n, p]⟩ ![0, o] x h (ix2 a e) = x (ix2 a j) := by
  refine extractStridedSlice_apply (s := ⟨2, ![n, k]⟩) (t := ⟨2, ![n, p]⟩) _ _ _ _ _ fun b => ?_
  match b with
  | ⟨0, _⟩ => exact (Nat.zero_add _).symm
  | ⟨1, _⟩ => exact hj

/-! ## The lanes that count -/

/-- The lanes 64 to 95 are marked and no others. -/
theorem mask_at (a : Fin 512) (j : Fin 128) :
    k0_pay37 lanes k0_pay23 96#32 (ix2 a j) = if 64 ≤ j.val ∧ j.val < 96 then 1#1 else 0#1 := by
  simp only [k0_pay37, k0_pay24, k0_pay23, shapeCast_self]
  rw [broadcastTo_1b_ab_apply]
  show IntOp.andi (IntOp.cmpi .sge (lanes (ix2 0 j)) 64#32) (IntOp.cmpi .slt (lanes (ix2 0 j)) 96#32) = _
  rw [show lanes (ix2 0 j) = BitVec.ofNat 32 j.val from iota_single_apply ..]
  revert j
  decide +kernel

section
variable (L : Vec Ideal S512x128 .f32) (C S : Vec Ideal S512x128 .f32) (W : Vec Ideal S1x128 .f32) (K : Vec Ideal S8x512x128 .f32)

/-- The rotary part at its lanes. -/
theorem part_lane (a : Fin 512) (d : Fin 32) : part L (ix2 a (lane d)) = L (ix2 a (lane d)) := by
  unfold part
  simp only [k0_pay38, k0_pay21, shapeCast_self]
  rw [select_apply, mask_at, if_pos ⟨by show 64 ≤ 64 + d.val; omega, by show 64 + d.val < 96; omega⟩]
  rfl

/-- The other lanes are zero. -/
theorem part_off (a : Fin 512) (j : Fin 128) (h : ¬(64 ≤ j.val ∧ j.val < 96)) : part L (ix2 a j) = 0 := by
  unfold part
  simp only [k0_pay38, k0_pay21, shapeCast_self]
  rw [select_apply, mask_at, if_neg h]
  exact Cert.Proof.Common.ofBits_zero

/-- A sum over the lanes of the rotary part by anything is the sum over its lanes. -/
theorem sum_part (a : Fin 512) (y : Fin 128 → EReal) :
    ∑ j : Fin 128, part L (ix2 a j) * y j = ∑ d : Fin 32, L (ix2 a (lane d)) * y (lane d) := by
  symm
  refine Fintype.sum_of_injective lane (fun d e h => Fin.ext (by have := congrArg Fin.val h; simp only [lane] at this; omega)) _ _ (fun j hj => ?_)
    (fun d => by rw [part_lane])
  rw [part_off, zero_mul]
  intro h
  exact hj ⟨⟨j.val - 64, by omega⟩, Fin.ext (by show 64 + (j.val - 64) = j.val; omega)⟩

variable (a : Fin 512) (k : Fin 32 → EReal) (hk : ∀ d, L (ix2 a (lane d)) = k d)

include hk in
/-- The mean square. -/
theorem var_at : k0_pay39 (k0_pay21 L) lanes k0_pay23 96#32 (ix2 a 0) = var k := by
  simp only [k0_pay39]
  show Ideal.div (shapeCast S512x1 _ _ (ix2 a 0)) width32 + tiny = _
  rw [shapeCast_a_a1_apply, sum_row]
  unfold var
  refine congrArg (fun s => Ideal.div s width32 + tiny) ?_
  refine (sum_part L a fun j => part L (ix2 a j)).trans (Finset.sum_congr rfl fun d _ => ?_)
  rw [part_lane, hk]

include hk in
/-- The inverse root. -/
theorem root_at : kroot L (ix2 a 0) = root k := by
  unfold kroot
  simp only [k0_pay40]
  show Ideal.rsqrt (k0_pay39 (k0_pay21 L) lanes k0_pay23 96#32 (ix2 a 0)) = _
  rw [var_at L a k hk]; rfl

include hk in
/-- The root's derivative. -/
theorem droot_at : kdroot L (ix2 a 0) = droot k := by
  unfold kdroot
  simp only [k0_pay42, k0_pay41]
  show mhalf * Ideal.div (kroot L (ix2 a 0)) (k0_pay39 (k0_pay21 L) lanes k0_pay23 96#32 (ix2 a 0)) = _
  rw [var_at L a k hk, root_at L a k hk]; rfl

/-- One head's rows. -/
theorem head_at (p : Nat) (h : S8x512x128.Slices ![p, 0, 0] S1x512x128) (hd : Fin 8) (hp : hd.val = p) (j : Fin 128) :
    shapeCast S512x128 (extractStridedSlice S1x512x128 ![p, 0, 0] K h) shapeCasts_S1x512x128_S512x128 (ix2 a j) = K (ix3 hd a j) := by
  rw [shapeCast_1ab_ab_apply]
  refine extractStridedSlice_apply (s := S8x512x128) (t := S1x512x128) _ _ _ _ _ fun b => ?_
  match b with
  | ⟨0, _⟩ => exact hp
  | ⟨1, _⟩ => exact (Nat.zero_add _).symm
  | ⟨2, _⟩ => exact (Nat.zero_add _).symm

/-- The sum over the heads. -/
theorem summed_at (j : Fin 128) : summed K (ix2 a j) = ∑ h : Fin 8, K (ix3 h a j) := by
  unfold summed
  simp only [k0_pay389, k0_pay224, k0_pay367, k0_pay225, k0_pay350, k0_pay226, k0_pay329, k0_pay227, k0_pay307, k0_pay229, k0_pay228,
    k0_pay288, k0_pay230, k0_pay264, k0_pay231, k0_pay232, k0_pay215, shapeCast_self]
  show (shapeCast S512x128 _ _ (ix2 a j) + shapeCast S512x128 _ _ (ix2 a j) + shapeCast S512x128 _ _ (ix2 a j) + shapeCast S512x128 _ _ (ix2 a j)
    + shapeCast S512x128 _ _ (ix2 a j) + shapeCast S512x128 _ _ (ix2 a j) + shapeCast S512x128 _ _ (ix2 a j) + shapeCast S512x128 _ _ (ix2 a j) : EReal) = _
  rw [head_at K a 7 _ 7 rfl, head_at K a 6 _ 6 rfl, head_at K a 5 _ 5 rfl, head_at K a 4 _ 4 rfl, head_at K a 3 _ 3 rfl,
    head_at K a 2 _ 2 rfl, head_at K a 1 _ 1 rfl, head_at K a 0 _ 0 rfl, Fin.sum_univ_eight]
  ac_rfl

variable (c s : Fin 16 → EReal) (g : Fin 32 → EReal)
  (hc0 : ∀ e, C (ix2 a (lane (lo e))) = c e) (hc1 : ∀ e, C (ix2 a (lane (hi e))) = c e)
  (hs0 : ∀ e, S (ix2 a (lane (lo e))) = -s e) (hs1 : ∀ e, S (ix2 a (lane (hi e))) = s e)
  (hg : ∀ d, ∑ h : Fin 8, K (ix3 h a (lane d)) = g d)

/-- The cotangent turned back, over all lanes. -/
def back : FVec Ideal S512x128 .f32 :=
  k0_pay411 (k0_pay408 (k0_pay18 C) (summed K)) (k0_pay409 (k0_pay19 S) (summed K)) nil (k0_pay410 (k0_pay19 S) (summed K))

include hc0 hc1 hs0 hs1 hg in
/-- The cotangent turned back, at the lanes of the rotary part. -/
theorem back_at (d : Fin 32) : back C S K (ix2 a (lane d)) = turned c s g d := by
  have hz : ((nil : Ideal .f32) : EReal) = 0 := Cert.Proof.Common.ofBits_zero
  unfold back turned
  simp only [k0_pay411, k0_pay408, k0_pay409, k0_pay410, k0_pay407, k0_pay18, k0_pay19, shapeCast_self]
  have hd := d.isLt
  show (summed K (ix2 a (lane d)) * C (ix2 a (lane d)) + concatenate S512x128 1 _ _ (ix2 a (lane d)) + concatenate S512x128 1 _ _ (ix2 a (lane d)) : EReal) = _
  split
  · rename_i h
    obtain ⟨e, rfl⟩ : ∃ e : Fin 16, d = lo e := ⟨⟨d.val, h⟩, rfl⟩
    have he := e.isLt
    rw [cat_left _ _ _ a (lane (lo e)) (⟨64 + e.val, by omega⟩ : Fin 80) rfl,
      cat_right _ _ _ a (⟨64 + e.val, by omega⟩ : Fin 80) e (Nat.add_comm _ _),
      cut_at 80 _ _ a e (lane (hi e)) (by show 64 + (16 + e.val) = 80 + e.val; omega),
      cat_left _ _ _ a (lane (lo e)) (⟨64 + e.val, by omega⟩ : Fin 96) rfl,
      cat_left _ _ _ a (⟨64 + e.val, by omega⟩ : Fin 96) (⟨64 + e.val, by omega⟩ : Fin 80) rfl]
    have hm : mulf (summed K) (shapeCast S512x128 S shapeCasts_S512x128_S512x128) (ix2 a (lane (hi e))) = summed K (ix2 a (lane (hi e))) * S (ix2 a (lane (hi e))) := by
      rw [shapeCast_self]; rfl
    rw [hm]
    show (summed K (ix2 a (lane (lo e))) * C (ix2 a (lane (lo e))) + summed K (ix2 a (lane (hi e))) * S (ix2 a (lane (hi e))) + (nil : Ideal .f32) : EReal) = _
    rw [hz, add_zero, summed_at, summed_at, hc0, hs1, hg, hg, add_comm]
    rfl
  · rename_i h
    obtain ⟨e, rfl⟩ : ∃ e : Fin 16, d = hi e := ⟨⟨d.val - 16, by omega⟩, Fin.ext (by show d.val = 16 + (d.val - 16); omega)⟩
    have he := e.isLt
    have hq : (⟨(hi e).val - 16, by omega⟩ : Fin 16) = e := Fin.ext (by show 16 + e.val - 16 = e.val; omega)
    rw [cat_right _ _ _ a (lane (hi e)) (⟨e.val, by omega⟩ : Fin 48) (by show e.val + 80 = 64 + (16 + e.val); omega),
      cat_left _ _ _ a (lane (hi e)) (⟨80 + e.val, by omega⟩ : Fin 96) (by show 80 + e.val = 64 + (16 + e.val); omega),
      cat_right _ _ _ a (⟨80 + e.val, by omega⟩ : Fin 96) e (Nat.add_comm _ _),
      cut_at 64 _ _ a e (lane (lo e)) rfl, hq]
    have hm : mulf (summed K) (shapeCast S512x128 S shapeCasts_S512x128_S512x128) (ix2 a (lane (lo e))) = summed K (ix2 a (lane (lo e))) * S (ix2 a (lane (lo e))) := by
      rw [shapeCast_self]; rfl
    rw [hm]
    show (summed K (ix2 a (lane (hi e))) * C (ix2 a (lane (hi e))) + (nil : Ideal .f32) + summed K (ix2 a (lane (lo e))) * S (ix2 a (lane (lo e))) : EReal) = _
    rw [hz, add_zero, summed_at, summed_at, hc1, hs0, hg, hg, neg_mul_comm]

/-- A sum over one entry. -/
theorem sum_one (v : FVec Ideal S512x1 .f32) (a : Fin 512) (h1 : FKind.Formats .f32) (h2 : (0x00000000#32 : BitVec 32) = 0x00000000#32) :
    multiReduction .add [1] S512 v 0x00000000#32 reduces_S512x1_S512 h1 h2 (ix1 a) = v (ix2 a 0) :=
  (sum_row _ v a _ _).trans (Fin.sum_univ_one _)

variable (w : Fin 32 → EReal) (hw : ∀ d, W (ix2 0 (lane d)) = w d)

include hk hc0 hc1 hs0 hs1 hg hw in
/-- The step's gradient of the rotary part at its lanes. -/
theorem grad_at (d : Fin 32) : grad L C S W K (ix2 a (lane d)) = drow k (fun d => turned c s g d * w d) d := by
  have hp : ∀ j : Fin 128, mulf (back C S K) (broadcastTo S512x128 W broadcasts_S1x128_S512x128) (ix2 a j)
      = back C S K (ix2 a j) * W (ix2 0 j) := fun j => by
    show back C S K (ix2 a j) * broadcastTo S512x128 W broadcasts_S1x128_S512x128 (ix2 a j) = _
    rw [broadcastTo_1b_ab_apply]
  have ht : Ideal.div (shapeCast S512x1 (multiReduction .add [1] S512 (mulf (part L) (mulf (back C S K)
      (broadcastTo S512x128 W broadcasts_S1x128_S512x128))) 0x00000000#32 reduces_S512x128_S512 (.inl rfl) rfl) shapeCasts_S512_S512x1 (ix2 a 0)
      * kdroot L (ix2 a 0)) width32 = through k fun d => turned c s g d * w d := by
    rw [shapeCast_a_a1_apply, sum_row, droot_at L a k hk]
    refine congrArg (fun s => Ideal.div (s * droot k) width32) ?_
    refine (sum_part L a fun j => mulf (back C S K) (broadcastTo S512x128 W broadcasts_S1x128_S512x128) (ix2 a j)).trans
      (Finset.sum_congr rfl fun e _ => ?_)
    rw [hk, hp, back_at C S K a c s g hc0 hc1 hs0 hs1 hg, hw]
  unfold grad
  simp only [k0_pay413, k0_pay17, shapeCast_self]
  rw [select_apply, mask_at, if_pos ⟨by show 64 ≤ 64 + d.val; omega, by show 64 + d.val < 96; omega⟩]
  show mulf (back C S K) (broadcastTo S512x128 W broadcasts_S1x128_S512x128) (ix2 a (lane d))
      * broadcastTo S512x128 (kroot L) broadcasts_S512x1_S512x128 (ix2 a (lane d))
    + part L (ix2 a (lane d)) * broadcastTo S512x128 _ broadcasts_S512x1_S512x128 (ix2 a (lane d))
    + broadcastTo S512x128 _ broadcasts_S512x1_S512x128 (ix2 a (lane d)) * part L (ix2 a (lane d)) = _
  rw [hp, back_at C S K a c s g hc0 hc1 hs0 hs1 hg, hw, spread, root_at L a k hk, spread, shapeCast_a_a1_apply, sum_one, part_lane, hk]
  unfold drow
  exact congrArg₂ (· + ·) (congrArg₂ (· + ·) rfl (congrArg (k d * ·) ht)) (congrArg (· * k d) ht)

end

section
variable (L : Vec Ideal S512x128 .f32) (C S : Vec Ideal S512x128 .f32) (K : Vec Ideal S8x512x128 .f32)
  (k : Fin 512 → Fin 32 → EReal) (c s : Fin 512 → Fin 16 → EReal) (g : Fin 512 → Fin 32 → EReal)

/-- The step's part of the weight's gradient at the lanes of the rotary part. -/
theorem wgrad_at (hk : ∀ a d, L (ix2 a (lane d)) = k a d)
    (hc0 : ∀ a e, C (ix2 a (lane (lo e))) = c a e) (hc1 : ∀ a e, C (ix2 a (lane (hi e))) = c a e)
    (hs0 : ∀ a e, S (ix2 a (lane (lo e))) = -s a e) (hs1 : ∀ a e, S (ix2 a (lane (hi e))) = s a e)
    (hg : ∀ a d, ∑ h : Fin 8, K (ix3 h a (lane d)) = g a d) (d : Fin 32) :
    wgrad L C S K (ix2 0 (lane d)) = ∑ a : Fin 512, k a d * root (k a) * turned (c a) (s a) (g a) d := by
  unfold wgrad
  simp only [k0_pay412, k0_pay43]
  rw [shapeCast_a_1a_apply, sum_col]
  refine Finset.sum_congr rfl fun a _ => ?_
  show part L (ix2 a (lane d)) * broadcastTo S512x128 (kroot L) broadcasts_S512x1_S512x128 (ix2 a (lane d)) * back C S K (ix2 a (lane d)) = _
  rw [part_lane, hk, spread, root_at L a (k a) (hk a), back_at C S K a (c a) (s a) (g a) (hc0 a) (hc1 a) (hs0 a) (hs1 a) (hg a)]

end

/-! ## The gradient of the values' weight -/

/-- A row of the latent after its norm. -/
def width128 : EReal := Ideal.ofBits .f32 0x43000000#32
def latentRow (x w : Fin 128 → EReal) (d : Fin 128) : EReal :=
  x d * Ideal.rsqrt (Ideal.div (∑ e, x e * x e) width128 + tiny) * w d

/-- The lanes of the keys' and values' latent behind the queries'. -/
def behind (d : Fin 128) : Fin 384 := ⟨256 + d.val, by omega⟩

/-- Two arrays one behind the other, in the first. -/
theorem cat3_left {n p q r s : Nat} (x : (⟨3, ![p, r, s]⟩ : Shape).Idx → EReal) (y : (⟨3, ![q, r, s]⟩ : Shape).Idx → EReal)
    (hc : Shape.Concatenates [⟨3, ![p, r, s]⟩, ⟨3, ![q, r, s]⟩] ⟨3, ![n, r, s]⟩ 0) (h : Fin n) (c : Fin r) (v : Fin s) (i : Fin p) (hi : i.val = h.val) :
    concatenate ⟨3, ![n, r, s]⟩ 0 [⟨⟨3, ![p, r, s]⟩, x⟩, ⟨⟨3, ![q, r, s]⟩, y⟩] hc (ix3 h c v) = x (ix3 i c v) :=
  concatenate_pair_apply_left (t := ⟨3, ![n, r, s]⟩) (s₁ := ⟨3, ![p, r, s]⟩) (s₂ := ⟨3, ![q, r, s]⟩) 0 x y hc (ix3 h c v) rfl (ix3 i c v)
    (fun b => match b with | ⟨0, _⟩ => hi | ⟨1, _⟩ => rfl | ⟨2, _⟩ => rfl)

/-- Two arrays one behind the other, in the second. -/
theorem cat3_right {n p q r s : Nat} (x : (⟨3, ![p, r, s]⟩ : Shape).Idx → EReal) (y : (⟨3, ![q, r, s]⟩ : Shape).Idx → EReal)
    (hc : Shape.Concatenates [⟨3, ![p, r, s]⟩, ⟨3, ![q, r, s]⟩] ⟨3, ![n, r, s]⟩ 0) (h : Fin n) (c : Fin r) (v : Fin s) (i : Fin q) (hi : i.val + p = h.val) :
    concatenate ⟨3, ![n, r, s]⟩ 0 [⟨⟨3, ![p, r, s]⟩, x⟩, ⟨⟨3, ![q, r, s]⟩, y⟩] hc (ix3 h c v) = y (ix3 i c v) :=
  concatenate_pair_apply_right (t := ⟨3, ![n, r, s]⟩) (s₁ := ⟨3, ![p, r, s]⟩) (s₂ := ⟨3, ![q, r, s]⟩) 0 x y hc (ix3 h c v) rfl rfl (ix3 i c v)
    (fun b => match b with | ⟨0, _⟩ => fun hb => absurd rfl hb | ⟨1, _⟩ => fun _ => rfl | ⟨2, _⟩ => fun _ => rfl) hi

/-- One head's array behind `p` zero ones. -/
theorem slot_back {n p r s : Nat} (z : (⟨3, ![p, r, s]⟩ : Shape).Idx → EReal) (hz : ∀ i, z i = 0) (y : (⟨3, ![1, r, s]⟩ : Shape).Idx → EReal)
    (hc : Shape.Concatenates [⟨3, ![p, r, s]⟩, ⟨3, ![1, r, s]⟩] ⟨3, ![n, r, s]⟩ 0) (hn : n = p + 1) (h : Fin n) (c : Fin r) (v : Fin s) :
    concatenate ⟨3, ![n, r, s]⟩ 0 [⟨⟨3, ![p, r, s]⟩, z⟩, ⟨⟨3, ![1, r, s]⟩, y⟩] hc (ix3 h c v) = if h.val = p then y (ix3 0 c v) else 0 := by
  have hh := h.isLt
  split
  · rename_i e
    exact cat3_right z y hc h c v 0 (by show 0 + p = h.val; omega)
  · rename_i e
    rw [cat3_left z y hc h c v ⟨h.val, by omega⟩ rfl, hz]

/-- The same before further zero ones. -/
theorem slot_front {n m q r s p : Nat} (x : (⟨3, ![m, r, s]⟩ : Shape).Idx → EReal) (z : (⟨3, ![q, r, s]⟩ : Shape).Idx → EReal) (hz : ∀ i, z i = 0)
    (c : Fin r) (v : Fin s) (y : EReal) (hx : ∀ h : Fin m, x (ix3 h c v) = if h.val = p then y else 0) (hp : p < m)
    (hc : Shape.Concatenates [⟨3, ![m, r, s]⟩, ⟨3, ![q, r, s]⟩] ⟨3, ![n, r, s]⟩ 0) (hn : n = m + q) (h : Fin n) :
    concatenate ⟨3, ![n, r, s]⟩ 0 [⟨⟨3, ![m, r, s]⟩, x⟩, ⟨⟨3, ![q, r, s]⟩, z⟩] hc (ix3 h c v) = if h.val = p then y else 0 := by
  have hh := h.isLt
  by_cases e : h.val < m
  · rw [cat3_left x z hc h c v ⟨h.val, e⟩ rfl, hx]
  · rw [cat3_right x z hc h c v ⟨h.val - m, by omega⟩ (by show h.val - m + m = h.val; omega), hz, if_neg (by omega)]

section
variable (X : Vec Ideal S512x384 .f32) (W : Vec Ideal S1x128 .f32) (D : Vec Ideal S8x512x64 .f32)

/-- The rows of the latent after their norm. -/
theorem latent_at (a : Fin 512) (d : Fin 128) :
    latent X W (ix2 a d) = latentRow (fun e => X (ix2 a (behind e))) (fun e => W (ix2 0 e)) d := by
  have hc : ∀ e : Fin 128, k0_pay31 (k0_pay20 X) (ix2 a e) = X (ix2 a (behind e)) := fun e => by
    simp only [k0_pay31, k0_pay20, shapeCast_self]
    exact cut_at 256 X _ a e (behind e) rfl
  unfold latent
  simp only [k0_pay36, k0_pay35, k0_pay33, k0_pay11, shapeCast_self]
  show k0_pay31 (k0_pay20 X) (ix2 a d) * broadcastTo S512x128 _ broadcasts_S512x1_S512x128 (ix2 a d)
    * broadcastTo S512x128 W broadcasts_S1x128_S512x128 (ix2 a d) = _
  rw [hc, spread, broadcastTo_1b_ab_apply]
  unfold latentRow
  refine congrArg (fun s => X (ix2 a (behind d)) * s * W (ix2 0 d)) ?_
  simp only [k0_pay32]
  show Ideal.rsqrt (Ideal.div (shapeCast S512x1 _ _ (ix2 a 0)) width128 + tiny) = _
  rw [shapeCast_a_a1_apply, sum_row]
  refine congrArg (fun s => Ideal.rsqrt (Ideal.div s width128 + tiny)) (Finset.sum_congr rfl fun e _ => ?_)
  show k0_pay31 (k0_pay20 X) (ix2 a e) * k0_pay31 (k0_pay20 X) (ix2 a e) = _
  rw [hc]

/-- One head's product. -/
def headSum (l : FVec Ideal S512x128 .f32) (c : Fin 128) (v : Fin 64) (h : Fin 8) : EReal := ∑ a : Fin 512, l (ix2 a c) * D (ix3 h a v)

/-- One head's rows of the values' cotangent. -/
theorem vhead_at (p : Nat) (h : S8x512x64.Slices ![p, 0, 0] S1x512x64) (hd : Fin 8) (hp : hd.val = p) (a : Fin 512) (v : Fin 64) :
    shapeCast S512x64 (extractStridedSlice S1x512x64 ![p, 0, 0] D h) shapeCasts_S1x512x64_S512x64 (ix2 a v) = D (ix3 hd a v) := by
  rw [shapeCast_1ab_ab_apply]
  refine extractStridedSlice_apply (s := S8x512x64) (t := S1x512x64) _ _ _ _ _ fun b => ?_
  match b with
  | ⟨0, _⟩ => exact hp
  | ⟨1, _⟩ => exact (Nat.zero_add _).symm
  | ⟨2, _⟩ => exact (Nat.zero_add _).symm

/-- One head's product from its rows. -/
theorem product_at (l : FVec Ideal S512x128 .f32) (R : FVec Ideal S512x64 .f32) (hd : Fin 8) (hR : ∀ a v, R (ix2 a v) = D (ix3 hd a v))
    (c : Fin 128) (v : Fin 64) :
    shapeCast S1x128x64 (matmul dot_S512x128_S512x64_S128x64_0_0_1_1_n_n none (truncf .bf16 l bitsLt_bf16_f32) (truncf .bf16 R bitsLt_bf16_f32)
      (constant S128x64 .f32 0x00000000#32)) shapeCasts_S128x64_S1x128x64 (ix3 0 c v) = headSum D l c v hd := by
  rw [shapeCast_ab_1ab_apply]
  refine (Common.matmul_at dot_S512x128_S512x64_S128x64_0_0_1_1_n_n 512 rfl rfl _ _ _ _ _ (fun k => ix2 k c) (fun k => ix2 k v)
    (fun q k hq a => match a with | ⟨0, _⟩ => hq | ⟨1, _⟩ => rfl) (fun q k hq a => match a with | ⟨0, _⟩ => hq | ⟨1, _⟩ => rfl)).trans ?_
  refine (congrArg (· + _) Common.ofBits_zero).trans ((zero_add _).trans (Finset.sum_congr rfl fun a _ => ?_))
  exact congrArg (l (ix2 a c) * ·) (hR a v)

/-- The step's part of the gradient of the values' weight. -/
theorem vgrad_at (h : Fin 8) (c : Fin 128) (v : Fin 64) : vgrad X W D (ix3 h c v) = headSum D (latent X W) c v h := by
  have hz : ((nil : Ideal .f32) : EReal) = 0 := Common.ofBits_zero
  have e7 : k0_pay242 (latent X W) (k0_pay223 D) (ix3 h c v) = if h.val = 7 then headSum D (latent X W) c v 7 else 0 := by
    refine (slot_back (n := 8) (p := 7) _ (fun _ => hz) _ concatenates_S7x128x64_S1x128x64_S8x128x64_d0 rfl h c v).trans ?_
    exact congrArg (fun y => if h.val = 7 then y else 0) (product_at D (latent X W) _ 7 (fun a v => vhead_at D 7 _ 7 rfl a v) c v)
  unfold vgrad
  have split8 : k0_pay388 (latent X W) (k0_pay216 D) (k0_pay366 (latent X W) (k0_pay217 D) (k0_pay349
    (k0_pay328 (latent X W) (k0_pay219 D) (k0_pay306 (latent X W) (k0_pay220 D)
      (k0_pay287 (k0_pay263 (latent X W) (k0_pay222 D) (k0_pay242 (latent X W) (k0_pay223 D))) (k0_pay286 (latent X W) (k0_pay221 D)))))
    (truncf .bf16 (latent X W) bitsLt_bf16_f32) (k0_pay348 (k0_pay218 D)) (constant S128x64 .f32 0x00000000#32))) (ix3 h c v)
      = k0_pay242 (latent X W) (k0_pay223 D) (ix3 h c v)
        + (if h.val = 6 then headSum D (latent X W) c v 6 else 0) + (if h.val = 5 then headSum D (latent X W) c v 5 else 0)
        + (if h.val = 4 then headSum D (latent X W) c v 4 else 0) + (if h.val = 3 then headSum D (latent X W) c v 3 else 0)
        + (if h.val = 2 then headSum D (latent X W) c v 2 else 0) + (if h.val = 1 then headSum D (latent X W) c v 1 else 0)
        + (if h.val = 0 then headSum D (latent X W) c v 0 else 0) := by
    refine congrArg₂ (· + ·) (congrArg₂ (· + ·) (congrArg₂ (· + ·) (congrArg₂ (· + ·) (congrArg₂ (· + ·) (congrArg₂ (· + ·) (congrArg₂ (· + ·) rfl
      ?_) ?_) ?_) ?_) ?_) ?_) ?_
    · refine slot_front (n := 8) (m := 7) (q := 1) (p := 6) _ _ (fun _ => hz) c v _ (fun h => ?_) (by omega) _ rfl h
      refine (slot_back (n := 7) (p := 6) _ (fun _ => hz) _ _ rfl h c v).trans ?_
      exact congrArg (fun y => if h.val = 6 then y else 0) (product_at D (latent X W) _ 6 (fun a v => vhead_at D 6 _ 6 rfl a v) c v)
    · refine slot_front (n := 8) (m := 6) (q := 2) (p := 5) _ _ (fun _ => hz) c v _ (fun h => ?_) (by omega) _ rfl h
      refine (slot_back (n := 6) (p := 5) _ (fun _ => hz) _ _ rfl h c v).trans ?_
      exact congrArg (fun y => if h.val = 5 then y else 0) (product_at D (latent X W) _ 5 (fun a v => vhead_at D 5 _ 5 rfl a v) c v)
    · refine slot_front (n := 8) (m := 5) (q := 3) (p := 4) _ _ (fun _ => hz) c v _ (fun h => ?_) (by omega) _ rfl h
      refine (slot_back (n := 5) (p := 4) _ (fun _ => hz) _ _ rfl h c v).trans ?_
      exact congrArg (fun y => if h.val = 4 then y else 0) (product_at D (latent X W) _ 4 (fun a v => vhead_at D 4 _ 4 rfl a v) c v)
    · refine slot_front (n := 8) (m := 4) (q := 4) (p := 3) _ _ (fun _ => hz) c v _ (fun h => ?_) (by omega) _ rfl h
      refine (slot_back (n := 4) (p := 3) _ (fun _ => hz) _ _ rfl h c v).trans ?_
      exact congrArg (fun y => if h.val = 3 then y else 0) (product_at D (latent X W) _ 3 (fun a v => vhead_at D 3 _ 3 rfl a v) c v)
    · refine slot_front (n := 8) (m := 3) (q := 5) (p := 2) _ _ (fun _ => hz) c v _ (fun h => ?_) (by omega) _ rfl h
      refine (slot_back (n := 3) (p := 2) _ (fun _ => hz) _ _ rfl h c v).trans ?_
      exact congrArg (fun y => if h.val = 2 then y else 0) (product_at D (latent X W) _ 2 (fun a v => vhead_at D 2 _ 2 rfl a v) c v)
    · refine slot_front (n := 8) (m := 2) (q := 6) (p := 1) _ _ (fun _ => hz) c v _ (fun h => ?_) (by omega) _ rfl h
      refine (slot_back (n := 2) (p := 1) _ (fun _ => hz) _ _ rfl h c v).trans ?_
      exact congrArg (fun y => if h.val = 1 then y else 0) (product_at D (latent X W) _ 1 (fun a v => vhead_at D 1 _ 1 rfl a v) c v)
    · refine slot_front (n := 8) (m := 1) (q := 7) (p := 0) _ _ (fun _ => hz) c v _ (fun h => ?_) (by omega) _ rfl h
      rw [if_pos (by omega), Fin.eq_zero h]
      exact product_at D (latent X W) _ 0 (fun a v => vhead_at D 0 _ 0 rfl a v) c v
  rw [split8, e7]
  fin_cases h <;> simp

end

/-! ## The gradient of the weight of the keys' norm -/

/-- The row's length, the inverse root of a row's mean square and a row of keys from the latent and a head's matrix. -/
def width64 : EReal := Ideal.ofBits .f32 0x42800000#32
def root64 (k : Fin 64 → EReal) : EReal := Ideal.rsqrt (Ideal.div (∑ d, k d * k d) width64 + tiny)
def keyRow (l : Fin 128 → EReal) (b : Fin 128 → Fin 64 → EReal) (d : Fin 64) : EReal := ∑ c : Fin 128, l c * b c d

/-- The lanes in front. -/
def front (d : Fin 64) : Fin 128 := ⟨d.val, by omega⟩

/-- One head's keys. -/
theorem keyRows_at (l : FVec Ideal S512x128 .f32) (b : FVec Ideal S1x128x128 .bf16) (a : Fin 512) (j : Fin 128) :
    keyRows l b (ix2 a j) = ∑ c : Fin 128, l (ix2 a c) * b (ix3 0 c j) := by
  unfold keyRows
  refine (Common.matmul_at dot_S512x128_S128x128_S512x128_1_0_0_1_n_n 128 rfl rfl _ _ _ _ _ (fun k => ix2 a k) (fun k => ix2 k j)
    (fun q k hq a => match a with | ⟨0, _⟩ => rfl | ⟨1, _⟩ => hq) (fun q k hq a => match a with | ⟨0, _⟩ => hq | ⟨1, _⟩ => rfl)).trans ?_
  refine (congrArg (· + _) Common.ofBits_zero).trans ((zero_add _).trans (Finset.sum_congr rfl fun c _ => ?_))
  exact congrArg (l (ix2 a c) * ·) (shapeCast_1ab_ab_apply _ _ _ _)

section
variable (l : FVec Ideal S512x128 .f32) (b : FVec Ideal S1x128x128 .bf16) (D : FVec Ideal S1x512x128 .f32)
  (L : Fin 512 → Fin 128 → EReal) (B : Fin 128 → Fin 64 → EReal) (hl : ∀ a c, l (ix2 a c) = L a c)
  (hb : ∀ c d, b (ix3 0 c (front d)) = B c d) (hz : ∀ (c j : Fin 128), 64 ≤ j.val → b (ix3 0 c j) = 0)

include hl hb in
/-- Its keys at the lanes in front. -/
theorem keyRows_front (a : Fin 512) (d : Fin 64) : keyRows l b (ix2 a (front d)) = keyRow (L a) B d := by
  rw [keyRows_at]
  exact Finset.sum_congr rfl fun c _ => congrArg₂ (· * ·) (hl a c) (hb c d)

include hz in
/-- The other lanes are zero. -/
theorem keyRows_off (a : Fin 512) (j : Fin 128) (h : 64 ≤ j.val) : keyRows l b (ix2 a j) = 0 := by
  rw [keyRows_at]
  refine Finset.sum_eq_zero fun c _ => ?_
  rw [hz c j h, mul_zero]

include hl hb hz in
/-- The inverse root of its keys. -/
theorem keyRoot_at (a : Fin 512) : keyRoot (keyRows l b) (ix2 a 0) = root64 (keyRow (L a) B) := by
  unfold keyRoot
  show Ideal.rsqrt (Ideal.div (shapeCast S512x1 _ _ (ix2 a 0)) width64 + tiny) = _
  rw [shapeCast_a_a1_apply, sum_row]
  unfold root64
  refine congrArg (fun s => Ideal.rsqrt (Ideal.div s width64 + tiny)) ?_
  symm
  refine Fintype.sum_of_injective front (fun d e h => Fin.ext (congrArg (fun j : Fin 128 => j.val) h)) _ _ (fun j hj => ?_) (fun d => ?_)
  · show keyRows l b (ix2 a j) * keyRows l b (ix2 a j) = 0
    rw [keyRows_off l b hz a j, mul_zero]
    by_contra h
    exact hj ⟨⟨j.val, by omega⟩, rfl⟩
  · show _ = keyRows l b (ix2 a (front d)) * keyRows l b (ix2 a (front d))
    rw [keyRows_front l b L B hl hb]

include hl hb hz in
/-- One head's part. -/
theorem keyPart_at (d : Fin 64) : keyPart (keyRows l b) D (ix2 0 (front d))
    = ∑ a : Fin 512, keyRow (L a) B d * root64 (keyRow (L a) B) * D (ix3 0 a (front d)) := by
  unfold keyPart
  rw [shapeCast_a_1a_apply, sum_col]
  refine Finset.sum_congr rfl fun a _ => ?_
  show keyRows l b (ix2 a (front d)) * broadcastTo S512x128 (keyRoot (keyRows l b)) broadcasts_S512x1_S512x128 (ix2 a (front d))
    * shapeCast S512x128 D shapeCasts_S1x512x128_S512x128 (ix2 a (front d)) = _
  rw [keyRows_front l b L B hl hb, spread, keyRoot_at l b L B hl hb hz, shapeCast_1ab_ab_apply]

end

section
variable (X : Vec Ideal S512x384 .f32) (W : Vec Ideal S1x128 .f32) (B : Vec Ideal S8x128x128 .bf16) (K : Vec Ideal S8x512x128 .f32)
  (L : Fin 512 → Fin 128 → EReal) (M : Fin 8 → Fin 128 → Fin 64 → EReal)
  (hl : ∀ a c, latentRow (fun e => X (ix2 a (behind e))) (fun e => W (ix2 0 e)) c = L a c)
  (hb : ∀ h c d, B (ix3 h c (front d)) = M h c d) (hz : ∀ (h : Fin 8) (c j : Fin 128), 64 ≤ j.val → B (ix3 h c j) = 0)
include hl hb hz

/-- A head's part from its matrix and its rows of the cotangent. -/
theorem part8_at (p : Nat) (h : S8x128x128.Slices ![p, 0, 0] S1x128x128) (h' : S8x512x128.Slices ![p, 0, 0] S1x512x128) (hd : Fin 8)
    (hp : hd.val = p) (d : Fin 64) : part8 X W B K p h h' (ix2 0 (front d))
      = ∑ a : Fin 512, keyRow (L a) (M hd) d * root64 (keyRow (L a) (M hd)) * K (ix3 hd a (front d)) := by
  have e1 : ∀ c j : Fin 128, extractStridedSlice S1x128x128 ![p, 0, 0] (k0_pay13 B) h (ix3 0 c j) = B (ix3 hd c j) := fun c j => by
    simp only [k0_pay13, shapeCast_self]
    refine extractStridedSlice_apply (s := S8x128x128) (t := S1x128x128) _ _ _ _ _ fun b => ?_
    match b with
    | ⟨0, _⟩ => exact hp
    | ⟨1, _⟩ => exact (Nat.zero_add _).symm
    | ⟨2, _⟩ => exact (Nat.zero_add _).symm
  have e2 : ∀ (a : Fin 512) (j : Fin 128), extractStridedSlice S1x512x128 ![p, 0, 0] (k0_pay215 K) h' (ix3 0 a j) = K (ix3 hd a j) := fun a j => by
    simp only [k0_pay215, shapeCast_self]
    refine extractStridedSlice_apply (s := S8x512x128) (t := S1x512x128) _ _ _ _ _ fun b => ?_
    match b with
    | ⟨0, _⟩ => exact hp
    | ⟨1, _⟩ => exact (Nat.zero_add _).symm
    | ⟨2, _⟩ => exact (Nat.zero_add _).symm
  unfold part8
  refine (keyPart_at _ _ _ L (M hd) (fun a c => (latent_at X W a c).trans (hl a c)) (fun c d => (e1 c _).trans (hb hd c d))
    (fun c j hj => (e1 c j).trans (hz hd c j hj)) d).trans (Finset.sum_congr rfl fun a _ => ?_)
  rw [e2]

/-- The step's part of the gradient of the weight of the keys' norm. -/
theorem kgrad_at (d : Fin 64) : kgrad X W B K (ix2 0 (front d))
    = ∑ h : Fin 8, ∑ a : Fin 512, keyRow (L a) (M h) d * root64 (keyRow (L a) (M h)) * K (ix3 h a (front d)) := by
  unfold kgrad
  refine Eq.trans (b := (part8 X W B K 7 slices_S8x128x128_o7_0_0_S1x128x128 slices_S8x512x128_o7_0_0_S1x512x128 (ix2 0 (front d)) + _ + _ + _ + _ + _ + _ + _ : EReal))
    rfl ?_
  rw [part8_at X W B K L M hl hb hz 7 _ _ 7 rfl, part8_at X W B K L M hl hb hz 6 _ _ 6 rfl, part8_at X W B K L M hl hb hz 5 _ _ 5 rfl,
    part8_at X W B K L M hl hb hz 4 _ _ 4 rfl, part8_at X W B K L M hl hb hz 3 _ _ 3 rfl, part8_at X W B K L M hl hb hz 2 _ _ 2 rfl,
    part8_at X W B K L M hl hb hz 1 _ _ 1 rfl, part8_at X W B K L M hl hb hz 0 _ _ 0 rfl, Fin.sum_univ_eight]
  ac_rfl

end

end Cert.Proof.QkvBody

end
-- ==== Proof.QkvFrame.lean ====
/- The kernel for the gradients of queries, keys and values: what its windows hold after every point, its run, and its frame. -/
module

public import proofs.«01_k».proof.Proof.QkvStep
public import Idealize.ShloMosaic.Lib.Claim

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The points of the grid by number. -/
def pt (n : ℕ) : Fin cfg0.N := ⟨n % 8, by rw [show cfg0.N = 8 from N_0]; omega⟩

/-- A point is the one of its number. -/
theorem pt_val (t : Fin cfg0.N) : pt t.val = t := Fin.ext (Nat.mod_eq_of_lt (lt_of_lt_of_eq t.isLt (show cfg0.N = 8 from N_0)))

/-- The body at point `t`, run with `p` in the blocks of the sums, leaves `z` in the blocks it writes. -/
def Leaves (c : Dev nD) (t : Fin cfg0.N) (p z : Outs F) : Prop :=
  ∀ (E : Set ℕ) (K : PUnit → sProp 𝕄),
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t) ∗ owns (c : Thread nD τ) (ms0_12 t) fullShare (iblk m c 12 t) ∗ owns (c : Thread nD τ) (ms0_13 t) fullShare (iblk m c 13 t) ∗ owns (c : Thread nD τ) (ms0_14 t) fullShare (iblk m c 14 t) ∗ (∃ d, owns (c : Thread nD τ) (ms0_15 t) fullShare d) ∗ (∃ d, owns (c : Thread nD τ) (ms0_16 t) fullShare d) ∗ owns (c : Thread nD τ) (ms0_17 t) fullShare p.o17 ∗ owns (c : Thread nD τ) (ms0_18 t) fullShare p.o18 ∗ owns (c : Thread nD τ) (ms0_19 t) fullShare p.o19 ∗ owns (c : Thread nD τ) (ms0_20 t) fullShare p.o20 ∗ owns (c : Thread nD τ) (ms0_21 t) fullShare p.o21 ∗ owns (c : Thread nD τ) (ms0_22 t) fullShare p.o22 ∗ owns (c : Thread nD τ) (ms0_23 t) fullShare p.o23 ∗ owns (c : Thread nD τ) (ms0_24 t) fullShare p.o24
      ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t) ∗ owns (c : Thread nD τ) (ms0_12 t) fullShare (iblk m c 12 t) ∗ owns (c : Thread nD τ) (ms0_13 t) fullShare (iblk m c 13 t) ∗ owns (c : Thread nD τ) (ms0_14 t) fullShare (iblk m c 14 t) ∗ owns (c : Thread nD τ) (ms0_15 t) fullShare z.o15 ∗ owns (c : Thread nD τ) (ms0_16 t) fullShare z.o16 ∗ owns (c : Thread nD τ) (ms0_17 t) fullShare z.o17 ∗ owns (c : Thread nD τ) (ms0_18 t) fullShare z.o18 ∗ owns (c : Thread nD τ) (ms0_19 t) fullShare z.o19 ∗ owns (c : Thread nD τ) (ms0_20 t) fullShare z.o20 ∗ owns (c : Thread nD τ) (ms0_21 t) fullShare z.o21 ∗ owns (c : Thread nD τ) (ms0_22 t) fullShare z.o22 ∗ owns (c : Thread nD τ) (ms0_23 t) fullShare z.o23 ∗ owns (c : Thread nD τ) (ms0_24 t) fullShare z.o24) -∗ K ⟨⟩))
    ⊢ wp frame (wpE (defs₀ (F := F)) Variants.none c none) E (bodyAt0 t) K

/-- The step's gradient at a point. -/
def gradAt (c : Dev nD) (t : Fin cfg0.N) : Vec F S512x128 .f32 := grad (iblk m c 1 t) (iblk m c 2 t) (iblk m c 3 t) (iblk m c 11 t) (iblk m c 13 t)
/-- The step's part of the weight's gradient at a point. -/
def wgradAt (c : Dev nD) (t : Fin cfg0.N) : Vec F S1x128 .f32 := wgrad (iblk m c 1 t) (iblk m c 2 t) (iblk m c 3 t) (iblk m c 13 t)

/-- The step's part of the gradient of the values' weight at a point. -/
def vgradAt (c : Dev nD) (t : Fin cfg0.N) : Vec F S8x128x64 .f32 := vgrad (iblk m c 0 t) (iblk m c 5 t) (iblk m c 14 t)
/-- A point's part of the gradient of the weight of the keys' norm. -/
def kgradAt (c : Dev nD) (t : Fin cfg0.N) : Vec F S1x128 .f32 := kgrad (iblk m c 0 t) (iblk m c 5 t) (iblk m c 7 t) (iblk m c 13 t)

set_option maxHeartbeats 4000000 in
/-- The first point: what it leaves does not depend on what it finds in the blocks of the sums. -/
theorem first (c : Dev nD) (t : Fin cfg0.N) (h : t.val = 0) : ∃ z : Outs F, z.o16 = gradAt m c t ∧ z.o24 = wgradAt m c t ∧ z.o21 = vgradAt m c t ∧ z.o23 = kgradAt m c t ∧ ∀ p, Leaves m c t p z := by
  obtain ⟨z, hg, hw, hv, hk, hr⟩ := first_step c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) ((hcond0_0 t).mpr (by omega)) (fun h' => by have := (hcond0_1 t).mp h'; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
  refine ⟨z, hg, hw, hv, hk, fun p E K => ?_⟩
  refine BIBase.Entails.trans ?_ (hr E K)
  iintro ⟨H0, H1, H2, H3, H4, H5, H6, H7, H8, H9, H10, H11, H12, H13, H14, ⟨%d15, H15⟩, ⟨%d16, H16⟩, H17, H18, H19, H20, H21, H22, H23, H24, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  iexact Hk

set_option maxHeartbeats 4000000 in
/-- A later point. -/
theorem later (c : Dev nD) (t : Fin cfg0.N) (h : t.val ≠ 0) (p : Outs F) :
    ∃ z : Outs F, z.o16 = gradAt m c t ∧ z.o24 = k0_pay3 (wgradAt m c t) p.o24 ∧ z.o21 = k0_pay8 (vgradAt m c t) p.o21 ∧ z.o23 = k0_pay2 (kgradAt m c t) p.o23 ∧ Leaves m c t p z := by
  have hN : t.val < 8 := lt_of_lt_of_eq t.isLt (show cfg0.N = 8 from N_0)
  obtain ⟨z, hg, hw, hv, hk, hr⟩ := next_step c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (fun h' => by have := (hcond0_0 t).mp h'; omega) ((hcond0_1 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p.o17 p.o18 p.o19 p.o20 p.o21 p.o22 p.o23 p.o24
  refine ⟨z, hg, hw, hv, hk, fun E K => ?_⟩
  refine BIBase.Entails.trans ?_ (hr E K)
  iintro ⟨H0, H1, H2, H3, H4, H5, H6, H7, H8, H9, H10, H11, H12, H13, H14, ⟨%d15, H15⟩, ⟨%d16, H16⟩, H17, H18, H19, H20, H21, H22, H23, H24, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact Hk

/-- What the blocks that are written hold after point `n`. -/
def outs (c : Dev nD) : ℕ → Outs F
  | 0 => (first m c (pt 0) rfl).choose
  | n + 1 => if h : (pt (n + 1)).val = 0 then outs c n else (later m c (pt (n + 1)) h (outs c n)).choose

/-- Its values and its run. -/
theorem outs_at (c : Dev nD) (t : Fin cfg0.N) : (outs m c t.val).o16 = gradAt m c t
    ∧ (t.val = 0 → (outs m c t.val).o24 = wgradAt m c t) ∧ (t.val ≠ 0 → (outs m c t.val).o24 = k0_pay3 (wgradAt m c t) (outs m c (t.val - 1)).o24)
    ∧ (t.val = 0 → (outs m c t.val).o21 = vgradAt m c t) ∧ (t.val ≠ 0 → (outs m c t.val).o21 = k0_pay8 (vgradAt m c t) (outs m c (t.val - 1)).o21)
    ∧ (t.val = 0 → (outs m c t.val).o23 = kgradAt m c t) ∧ (t.val ≠ 0 → (outs m c t.val).o23 = k0_pay2 (kgradAt m c t) (outs m c (t.val - 1)).o23)
    ∧ ∀ p, (t.val ≠ 0 → p = outs m c (t.val - 1)) → Leaves m c t p (outs m c t.val) := by
  rcases hn : t.val with _ | n
  · have e : pt 0 = t := by rw [← hn, pt_val]
    have h := (first m c (pt 0) rfl).choose_spec
    have eo : outs m c 0 = (first m c (pt 0) rfl).choose := by conv_lhs => unfold outs
    rw [← eo, e] at h
    exact ⟨h.1, fun _ => h.2.1, fun h' => absurd rfl h', fun _ => h.2.2.1, fun h' => absurd rfl h', fun _ => h.2.2.2.1, fun h' => absurd rfl h', fun p _ => h.2.2.2.2 p⟩
  · have e : pt (n + 1) = t := by rw [← hn, pt_val]
    have h0 : (pt (n + 1)).val ≠ 0 := by rw [e, hn]; omega
    have h := (later m c (pt (n + 1)) h0 (outs m c n)).choose_spec
    have eo : outs m c (n + 1) = (later m c (pt (n + 1)) h0 (outs m c n)).choose := by
      conv_lhs => unfold outs
      rw [dif_neg h0]
    rw [← eo, e] at h
    refine ⟨h.1, fun h' => absurd h' (by omega), fun _ => h.2.1, fun h' => absurd h' (by omega), fun _ => h.2.2.1, fun h' => absurd h' (by omega), fun _ => h.2.2.2.1, fun p hp => ?_⟩
    rw [hp (by omega)]
    exact h.2.2.2.2

/-- What the windows hold after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outs m c t.val).o15
    | ⟨16, _⟩ => (outs m c t.val).o16
    | ⟨17, _⟩ => (outs m c t.val).o17
    | ⟨18, _⟩ => (outs m c t.val).o18
    | ⟨19, _⟩ => (outs m c t.val).o19
    | ⟨20, _⟩ => (outs m c t.val).o20
    | ⟨21, _⟩ => (outs m c t.val).o21
    | ⟨22, _⟩ => (outs m c t.val).o22
    | ⟨23, _⟩ => (outs m c t.val).o23
    | ⟨24, _⟩ => (outs m c t.val).o24
    | ⟨_ + 25, h⟩ => absurd h (Nat.not_lt.2 (Nat.le_add_left _ _))
  Φ _ := Pipeline.ΦA spec0 c
  q _ := fullShare
  owed _ := 0

/-- The arrays are those the region is entered with. -/
theorem A_eq (c : Dev nD) (w : Fin cfg0.W) : (dats m 0 c).A w = V m c (Pipeline.arrRef spec0 w) := by
  dsimp only [dats]

/-- No window is left alone at any point. -/
theorem live : ∀ (w : Fin 25) (t : Fin cfg0.N), cfg0.idle w (cfg0.grid.coords t) = false :=
  (by decide +kernel : ∀ (w : Fin 25) (t : Fin grid0.N), idle0 w (grid0.coords t) = false)

/-- What the body leaves of a window is what is claimed of it. -/
theorem leaves_live {c : Dev nD} (dat : Dat τ (Elt F) Unit ℕ (UR sig nD τ) ℕ cfg0 c) (w : Fin cfg0.W) (t : Fin cfg0.N) :
    (dat.leavesExact w t : sProp 𝕄) = owns c ((cfg0.win w).stage (cfg0.slots t w)) fullShare (dat.after w t) := by
  unfold Dat.leavesExact
  rw [live w t]

/-- What is claimed of window 0. -/
theorem after0 (c : Dev nD) (t : Fin cfg0.N) : (dats m 0 c).after 0 t = iblk m c 0 t := by dsimp only [dats]
/-- What is claimed of window 1. -/
theorem after1 (c : Dev nD) (t : Fin cfg0.N) : (dats m 0 c).after 1 t = iblk m c 1 t := by dsimp only [dats]
/-- What is claimed of window 2. -/
theorem after2 (c : Dev nD) (t : Fin cfg0.N) : (dats m 0 c).after 2 t = iblk m c 2 t := by dsimp only [dats]
/-- What is claimed of window 3. -/
theorem after3 (c : Dev nD) (t : Fin cfg0.N) : (dats m 0 c).after 3 t = iblk m c 3 t := by dsimp only [dats]
/-- What is claimed of window 4. -/
theorem after4 (c : Dev nD) (t : Fin cfg0.N) : (dats m 0 c).after 4 t = iblk m c 4 t := by dsimp only [dats]
/-- What is claimed of window 5. -/
theorem after5 (c : Dev nD) (t : Fin cfg0.N) : (dats m 0 c).after 5 t = iblk m c 5 t := by dsimp only [dats]
/-- What is claimed of window 6. -/
theorem after6 (c : Dev nD) (t : Fin cfg0.N) : (dats m 0 c).after 6 t = iblk m c 6 t := by dsimp only [dats]
/-- What is claimed of window 7. -/
theorem after7 (c : Dev nD) (t : Fin cfg0.N) : (dats m 0 c).after 7 t = iblk m c 7 t := by dsimp only [dats]
/-- What is claimed of window 8. -/
theorem after8 (c : Dev nD) (t : Fin cfg0.N) : (dats m 0 c).after 8 t = iblk m c 8 t := by dsimp only [dats]
/-- What is claimed of window 9. -/
theorem after9 (c : Dev nD) (t : Fin cfg0.N) : (dats m 0 c).after 9 t = iblk m c 9 t := by dsimp only [dats]
/-- What is claimed of window 10. -/
theorem after10 (c : Dev nD) (t : Fin cfg0.N) : (dats m 0 c).after 10 t = iblk m c 10 t := by dsimp only [dats]
/-- What is claimed of window 11. -/
theorem after11 (c : Dev nD) (t : Fin cfg0.N) : (dats m 0 c).after 11 t = iblk m c 11 t := by dsimp only [dats]
/-- What is claimed of window 12. -/
theorem after12 (c : Dev nD) (t : Fin cfg0.N) : (dats m 0 c).after 12 t = iblk m c 12 t := by dsimp only [dats]
/-- What is claimed of window 13. -/
theorem after13 (c : Dev nD) (t : Fin cfg0.N) : (dats m 0 c).after 13 t = iblk m c 13 t := by dsimp only [dats]
/-- What is claimed of window 14. -/
theorem after14 (c : Dev nD) (t : Fin cfg0.N) : (dats m 0 c).after 14 t = iblk m c 14 t := by dsimp only [dats]
/-- What is claimed of window 15. -/
theorem after15 (c : Dev nD) (t : Fin cfg0.N) : (dats m 0 c).after 15 t = (outs m c t.val).o15 := by dsimp only [dats]
/-- What is claimed of window 16. -/
theorem after16 (c : Dev nD) (t : Fin cfg0.N) : (dats m 0 c).after 16 t = (outs m c t.val).o16 := by dsimp only [dats]
/-- What is claimed of window 17. -/
theorem after17 (c : Dev nD) (t : Fin cfg0.N) : (dats m 0 c).after 17 t = (outs m c t.val).o17 := by dsimp only [dats]
/-- What is claimed of window 18. -/
theorem after18 (c : Dev nD) (t : Fin cfg0.N) : (dats m 0 c).after 18 t = (outs m c t.val).o18 := by dsimp only [dats]
/-- What is claimed of window 19. -/
theorem after19 (c : Dev nD) (t : Fin cfg0.N) : (dats m 0 c).after 19 t = (outs m c t.val).o19 := by dsimp only [dats]
/-- What is claimed of window 20. -/
theorem after20 (c : Dev nD) (t : Fin cfg0.N) : (dats m 0 c).after 20 t = (outs m c t.val).o20 := by dsimp only [dats]
/-- What is claimed of window 21. -/
theorem after21 (c : Dev nD) (t : Fin cfg0.N) : (dats m 0 c).after 21 t = (outs m c t.val).o21 := by dsimp only [dats]
/-- What is claimed of window 22. -/
theorem after22 (c : Dev nD) (t : Fin cfg0.N) : (dats m 0 c).after 22 t = (outs m c t.val).o22 := by dsimp only [dats]
/-- What is claimed of window 23. -/
theorem after23 (c : Dev nD) (t : Fin cfg0.N) : (dats m 0 c).after 23 t = (outs m c t.val).o23 := by dsimp only [dats]
/-- What is claimed of window 24. -/
theorem after24 (c : Dev nD) (t : Fin cfg0.N) : (dats m 0 c).after 24 t = (outs m c t.val).o24 := by dsimp only [dats]

/-- Window 17 is found as the point before left it. -/
theorem before17 (c : Dev nD) (t : Fin cfg0.N) (ht : t.val ≠ 0) (x) : (dats m 0 c).before 17 t x = (outs m c (t.val - 1)).o17 := by
  have hN : t.val < 8 := lt_of_lt_of_eq t.isLt (show cfg0.N = 8 from N_0)
  rw [(dats m 0 c).before_of_pos 17 t ht ((cfg0.win 17).fetch_out rfl t) x,
    if_neg (fun hf => by have := (flush0_17 _).mp hf; dsimp only at this; omega)]
  unfold Dat.left
  rw [live 17 _]
  exact after17 m c ⟨t.val - 1, _⟩

/-- Window 18 is found as the point before left it. -/
theorem before18 (c : Dev nD) (t : Fin cfg0.N) (ht : t.val ≠ 0) (x) : (dats m 0 c).before 18 t x = (outs m c (t.val - 1)).o18 := by
  have hN : t.val < 8 := lt_of_lt_of_eq t.isLt (show cfg0.N = 8 from N_0)
  rw [(dats m 0 c).before_of_pos 18 t ht ((cfg0.win 18).fetch_out rfl t) x,
    if_neg (fun hf => by have := (flush0_18 _).mp hf; dsimp only at this; omega)]
  unfold Dat.left
  rw [live 18 _]
  exact after18 m c ⟨t.val - 1, _⟩

/-- Window 19 is found as the point before left it. -/
theorem before19 (c : Dev nD) (t : Fin cfg0.N) (ht : t.val ≠ 0) (x) : (dats m 0 c).before 19 t x = (outs m c (t.val - 1)).o19 := by
  have hN : t.val < 8 := lt_of_lt_of_eq t.isLt (show cfg0.N = 8 from N_0)
  rw [(dats m 0 c).before_of_pos 19 t ht ((cfg0.win 19).fetch_out rfl t) x,
    if_neg (fun hf => by have := (flush0_19 _).mp hf; dsimp only at this; omega)]
  unfold Dat.left
  rw [live 19 _]
  exact after19 m c ⟨t.val - 1, _⟩

/-- Window 20 is found as the point before left it. -/
theorem before20 (c : Dev nD) (t : Fin cfg0.N) (ht : t.val ≠ 0) (x) : (dats m 0 c).before 20 t x = (outs m c (t.val - 1)).o20 := by
  have hN : t.val < 8 := lt_of_lt_of_eq t.isLt (show cfg0.N = 8 from N_0)
  rw [(dats m 0 c).before_of_pos 20 t ht ((cfg0.win 20).fetch_out rfl t) x,
    if_neg (fun hf => by have := (flush0_20 _).mp hf; dsimp only at this; omega)]
  unfold Dat.left
  rw [live 20 _]
  exact after20 m c ⟨t.val - 1, _⟩

/-- Window 21 is found as the point before left it. -/
theorem before21 (c : Dev nD) (t : Fin cfg0.N) (ht : t.val ≠ 0) (x) : (dats m 0 c).before 21 t x = (outs m c (t.val - 1)).o21 := by
  have hN : t.val < 8 := lt_of_lt_of_eq t.isLt (show cfg0.N = 8 from N_0)
  rw [(dats m 0 c).before_of_pos 21 t ht ((cfg0.win 21).fetch_out rfl t) x,
    if_neg (fun hf => by have := (flush0_21 _).mp hf; dsimp only at this; omega)]
  unfold Dat.left
  rw [live 21 _]
  exact after21 m c ⟨t.val - 1, _⟩

/-- Window 22 is found as the point before left it. -/
theorem before22 (c : Dev nD) (t : Fin cfg0.N) (ht : t.val ≠ 0) (x) : (dats m 0 c).before 22 t x = (outs m c (t.val - 1)).o22 := by
  have hN : t.val < 8 := lt_of_lt_of_eq t.isLt (show cfg0.N = 8 from N_0)
  rw [(dats m 0 c).before_of_pos 22 t ht ((cfg0.win 22).fetch_out rfl t) x,
    if_neg (fun hf => by have := (flush0_22 _).mp hf; dsimp only at this; omega)]
  unfold Dat.left
  rw [live 22 _]
  exact after22 m c ⟨t.val - 1, _⟩

/-- Window 23 is found as the point before left it. -/
theorem before23 (c : Dev nD) (t : Fin cfg0.N) (ht : t.val ≠ 0) (x) : (dats m 0 c).before 23 t x = (outs m c (t.val - 1)).o23 := by
  have hN : t.val < 8 := lt_of_lt_of_eq t.isLt (show cfg0.N = 8 from N_0)
  rw [(dats m 0 c).before_of_pos 23 t ht ((cfg0.win 23).fetch_out rfl t) x,
    if_neg (fun hf => by have := (flush0_23 _).mp hf; dsimp only at this; omega)]
  unfold Dat.left
  rw [live 23 _]
  exact after23 m c ⟨t.val - 1, _⟩

/-- Window 24 is found as the point before left it. -/
theorem before24 (c : Dev nD) (t : Fin cfg0.N) (ht : t.val ≠ 0) (x) : (dats m 0 c).before 24 t x = (outs m c (t.val - 1)).o24 := by
  have hN : t.val < 8 := lt_of_lt_of_eq t.isLt (show cfg0.N = 8 from N_0)
  rw [(dats m 0 c).before_of_pos 24 t ht ((cfg0.win 24).fetch_out rfl t) x,
    if_neg (fun hf => by have := (flush0_24 _).mp hf; dsimp only at this; omega)]
  unfold Dat.left
  rw [live 24 _]
  exact after24 m c ⟨t.val - 1, _⟩

/-- The body finds the windows at a point so, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

/-- and leaves them so. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t)

set_option maxHeartbeats 4000000 in
/-- The body at any point. -/
theorem sound (c : Dev nD) (t : Fin cfg0.N) :
    bodyPre m c t ⊢ wp frame (wpE (defs₀ (F := F)) Variants.none c none) Set.univ (bodyAt0 t) (fun _ => bodyPost m c t) := by
  have e0 := before0_0_of m (dats m 0 c) (A_eq m c 0) (after0 m c) t
  have e1 := before0_1_of m (dats m 0 c) (A_eq m c 1) (after1 m c) t
  have e2 := before0_2_of m (dats m 0 c) (A_eq m c 2) (after2 m c) t
  have e3 := before0_3_of m (dats m 0 c) (A_eq m c 3) (after3 m c) t
  have e4 := before0_4_of m (dats m 0 c) (A_eq m c 4) (after4 m c) t
  have e5 := before0_5_of m (dats m 0 c) (A_eq m c 5) (after5 m c) t
  have e6 := before0_6_of m (dats m 0 c) (A_eq m c 6) (after6 m c) t
  have e7 := before0_7_of m (dats m 0 c) (A_eq m c 7) (after7 m c) t
  have e8 := before0_8_of m (dats m 0 c) (A_eq m c 8) (after8 m c) t
  have e9 := before0_9_of m (dats m 0 c) (A_eq m c 9) (after9 m c) t
  have e10 := before0_10_of m (dats m 0 c) (A_eq m c 10) (after10 m c) t
  have e11 := before0_11_of m (dats m 0 c) (A_eq m c 11) (after11 m c) t
  have e12 := before0_12_of m (dats m 0 c) (A_eq m c 12) (after12 m c) t
  have e13 := before0_13_of m (dats m 0 c) (A_eq m c 13) (after13 m c) t
  have e14 := before0_14_of m (dats m 0 c) (A_eq m c 14) (after14 m c) t
  unfold bodyPre bodyPost
  simp only [e0, e1, e2, e3, e4, e5, e6, e7, e8, e9, e10, e11, e12, e13, e14]
  rw [show (dats m 0 c).Φ t.succ = (dats m 0 c).Φ t.castSucc from rfl,
    show (dats m 0 c).owesAt () t.succ = (dats m 0 c).owesAt () t.castSucc from rfl]
  have l0 : (dats m 0 c).leavesExact 0 t = owns (c : Thread nD τ) (ms0_0 t) fullShare (iblk m c 0 t) := (leaves_live (dats m 0 c) 0 t).trans (by rw [after0])
  have l1 : (dats m 0 c).leavesExact 1 t = owns (c : Thread nD τ) (ms0_1 t) fullShare (iblk m c 1 t) := (leaves_live (dats m 0 c) 1 t).trans (by rw [after1])
  have l2 : (dats m 0 c).leavesExact 2 t = owns (c : Thread nD τ) (ms0_2 t) fullShare (iblk m c 2 t) := (leaves_live (dats m 0 c) 2 t).trans (by rw [after2])
  have l3 : (dats m 0 c).leavesExact 3 t = owns (c : Thread nD τ) (ms0_3 t) fullShare (iblk m c 3 t) := (leaves_live (dats m 0 c) 3 t).trans (by rw [after3])
  have l4 : (dats m 0 c).leavesExact 4 t = owns (c : Thread nD τ) (ms0_4 t) fullShare (iblk m c 4 t) := (leaves_live (dats m 0 c) 4 t).trans (by rw [after4])
  have l5 : (dats m 0 c).leavesExact 5 t = owns (c : Thread nD τ) (ms0_5 t) fullShare (iblk m c 5 t) := (leaves_live (dats m 0 c) 5 t).trans (by rw [after5])
  have l6 : (dats m 0 c).leavesExact 6 t = owns (c : Thread nD τ) (ms0_6 t) fullShare (iblk m c 6 t) := (leaves_live (dats m 0 c) 6 t).trans (by rw [after6])
  have l7 : (dats m 0 c).leavesExact 7 t = owns (c : Thread nD τ) (ms0_7 t) fullShare (iblk m c 7 t) := (leaves_live (dats m 0 c) 7 t).trans (by rw [after7])
  have l8 : (dats m 0 c).leavesExact 8 t = owns (c : Thread nD τ) (ms0_8 t) fullShare (iblk m c 8 t) := (leaves_live (dats m 0 c) 8 t).trans (by rw [after8])
  have l9 : (dats m 0 c).leavesExact 9 t = owns (c : Thread nD τ) (ms0_9 t) fullShare (iblk m c 9 t) := (leaves_live (dats m 0 c) 9 t).trans (by rw [after9])
  have l10 : (dats m 0 c).leavesExact 10 t = owns (c : Thread nD τ) (ms0_10 t) fullShare (iblk m c 10 t) := (leaves_live (dats m 0 c) 10 t).trans (by rw [after10])
  have l11 : (dats m 0 c).leavesExact 11 t = owns (c : Thread nD τ) (ms0_11 t) fullShare (iblk m c 11 t) := (leaves_live (dats m 0 c) 11 t).trans (by rw [after11])
  have l12 : (dats m 0 c).leavesExact 12 t = owns (c : Thread nD τ) (ms0_12 t) fullShare (iblk m c 12 t) := (leaves_live (dats m 0 c) 12 t).trans (by rw [after12])
  have l13 : (dats m 0 c).leavesExact 13 t = owns (c : Thread nD τ) (ms0_13 t) fullShare (iblk m c 13 t) := (leaves_live (dats m 0 c) 13 t).trans (by rw [after13])
  have l14 : (dats m 0 c).leavesExact 14 t = owns (c : Thread nD τ) (ms0_14 t) fullShare (iblk m c 14 t) := (leaves_live (dats m 0 c) 14 t).trans (by rw [after14])
  have l15 : (dats m 0 c).leavesExact 15 t = owns (c : Thread nD τ) (ms0_15 t) fullShare (outs m c t.val).o15 := (leaves_live (dats m 0 c) 15 t).trans (by rw [after15])
  have l16 : (dats m 0 c).leavesExact 16 t = owns (c : Thread nD τ) (ms0_16 t) fullShare (outs m c t.val).o16 := (leaves_live (dats m 0 c) 16 t).trans (by rw [after16])
  have l17 : (dats m 0 c).leavesExact 17 t = owns (c : Thread nD τ) (ms0_17 t) fullShare (outs m c t.val).o17 := (leaves_live (dats m 0 c) 17 t).trans (by rw [after17])
  have l18 : (dats m 0 c).leavesExact 18 t = owns (c : Thread nD τ) (ms0_18 t) fullShare (outs m c t.val).o18 := (leaves_live (dats m 0 c) 18 t).trans (by rw [after18])
  have l19 : (dats m 0 c).leavesExact 19 t = owns (c : Thread nD τ) (ms0_19 t) fullShare (outs m c t.val).o19 := (leaves_live (dats m 0 c) 19 t).trans (by rw [after19])
  have l20 : (dats m 0 c).leavesExact 20 t = owns (c : Thread nD τ) (ms0_20 t) fullShare (outs m c t.val).o20 := (leaves_live (dats m 0 c) 20 t).trans (by rw [after20])
  have l21 : (dats m 0 c).leavesExact 21 t = owns (c : Thread nD τ) (ms0_21 t) fullShare (outs m c t.val).o21 := (leaves_live (dats m 0 c) 21 t).trans (by rw [after21])
  have l22 : (dats m 0 c).leavesExact 22 t = owns (c : Thread nD τ) (ms0_22 t) fullShare (outs m c t.val).o22 := (leaves_live (dats m 0 c) 22 t).trans (by rw [after22])
  have l23 : (dats m 0 c).leavesExact 23 t = owns (c : Thread nD τ) (ms0_23 t) fullShare (outs m c t.val).o23 := (leaves_live (dats m 0 c) 23 t).trans (by rw [after23])
  have l24 : (dats m 0 c).leavesExact 24 t = owns (c : Thread nD τ) (ms0_24 t) fullShare (outs m c t.val).o24 := (leaves_live (dats m 0 c) 24 t).trans (by rw [after24])
  rw [l0, l1, l2, l3, l4, l5, l6, l7, l8, l9, l10, l11, l12, l13, l14, l15, l16, l17, l18, l19, l20, l21, l22, l23, l24]
  iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  have hr := (outs_at m c t).2.2.2.2.2.2.2 ⟨(outs m c (t.val - 1)).o15, (outs m c (t.val - 1)).o16, (dats m 0 c).before 17 t d17, (dats m 0 c).before 18 t d18, (dats m 0 c).before 19 t d19, (dats m 0 c).before 20 t d20, (dats m 0 c).before 21 t d21, (dats m 0 c).before 22 t d22, (dats m 0 c).before 23 t d23, (dats m 0 c).before 24 t d24⟩ (fun h => by
    rw [before17 m c t h, before18 m c t h, before19 m c t h, before20 m c t h, before21 m c t h, before22 m c t h, before23 m c t h, before24 m c t h])
  iapply hr Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iintro ⟨H0, H1, H2, H3, H4, H5, H6, H7, H8, H9, H10, H11, H12, H13, H14, H15, H16, H17, H18, H19, H20, H21, H22, H23, H24⟩
  isplitl [HS]; · iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The body as the table of bodies holds it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The body leaves at every point what is claimed. -/
theorem body (c : Dev nD) : BodyObligation (dats (F := F) m 0 c) (defs₀ (F := F)) Variants.none () Set.univ := fun t => by
  rw [bigSep_W0, bigSep_W0, defs₀_row]
  exact triple_restated (sound m c t) rfl .rfl fun _ => .rfl

set_option backward.isDefEq.respectTransparency.types false in
set_option maxHeartbeats 800000 in
/-- Every run ends with the arrays of the windows as claimed, the lines after the region done and no signal left. -/
theorem run_quiet : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Every run ends with the arrays of the windows as claimed and the lines after the region done. -/
theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiet m ρ)

/-- Every run leaves the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run m ρ)

/-- Every run leaves the arguments as they were and no signal. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_quiet m ρ))

end Cert.QkvIdeal.Gen

end
-- ==== Proof.QkvValue.lean ====
/- The arrays that the kernel for the gradients of queries, keys and values leaves: the gradient of the rotary part of the keys row
   by row, and the gradients of both norms' weights and of the values' weight as sums over all rows. -/
module

public import proofs.«01_k».proof.Proof.QkvBody
public import proofs.«01_k».proof.Proof.QkvFrame
public import Idealize.ShloMosaic.Lib.Pipeline.ValueKit.Acc

@[expose] public section

noncomputable section

namespace Cert.Proof.QkvValue

open Idealize.ShloMosaic hiding ix1 ix2 ix3 eq_ix2 eq_ix3
open Cert.QkvIdeal Cert.QkvIdeal.Gen Idealize.ShloMosaic.TcCoe Idealize.SL.Sem Idealize.ShloMosaic.ValueIdx
open Idealize.ShloMosaic.Tactic
open Cert.Proof.QkvBody
open Idealize.ShloMosaic.Pipeline (Dat)
open scoped BigOperators

/-! ## The blocks of the arrays -/

/-- The windows' block indices: point `t` reads and writes row block `t`, and the whole of the weight and of its gradient. -/
theorem idx_facts : ∀ t : Fin cfg0.N,
    (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_11.index t (0 : Fin 2) = 0 ∧ win0_11.index t (1 : Fin 2) = 0)
    ∧ (win0_13.index t (0 : Fin 3) = 0 ∧ win0_13.index t (1 : Fin 3) = t.val ∧ win0_13.index t (2 : Fin 3) = 0)
    ∧ (win0_16.index t (0 : Fin 2) = t.val ∧ win0_16.index t (1 : Fin 2) = 0)
    ∧ (win0_24.index t (0 : Fin 2) = 0 ∧ win0_24.index t (1 : Fin 2) = 0)
    ∧ (win0_0.index t (0 : Fin 2) = t.val ∧ win0_0.index t (1 : Fin 2) = 0)
    ∧ (win0_5.index t (0 : Fin 2) = 0 ∧ win0_5.index t (1 : Fin 2) = 0)
    ∧ (win0_14.index t (0 : Fin 3) = 0 ∧ win0_14.index t (1 : Fin 3) = t.val ∧ win0_14.index t (2 : Fin 3) = 0)
    ∧ (win0_21.index t (0 : Fin 3) = 0 ∧ win0_21.index t (1 : Fin 3) = 0 ∧ win0_21.index t (2 : Fin 3) = 0)
    ∧ (win0_7.index t (0 : Fin 3) = 0 ∧ win0_7.index t (1 : Fin 3) = 0 ∧ win0_7.index t (2 : Fin 3) = 0)
    ∧ (win0_23.index t (0 : Fin 2) = 0 ∧ win0_23.index t (1 : Fin 2) = 0) :=
  (by decide +kernel : ∀ t : Fin grid0.N, _)

section
variable (m : (ℓ : Loc nD τ sig) → Buf (Elt Ideal) ℓ) (c : Dev nD) (t : Fin cfg0.N)

/-- The row of the arrays that a point's row is. -/
def at_ (t : Fin cfg0.N) (a : Fin 512) : Fin 4096 := ⟨t.val * 512 + a.val, by have : t.val < 8 := lt_of_lt_of_eq t.isLt N_0; omega⟩

/-- The rotary part of the keys, both tables, the weight and the cotangent of the keys, as the kernel finds them. -/
abbrev aL : S4096x128.Idx → EReal := V m c main_v10
abbrev aC : S4096x128.Idx → EReal := V m c main_v2
abbrev aS : S4096x128.Idx → EReal := V m c main_v6
abbrev aW : S1x128.Idx → EReal := V m c main_v29
abbrev aK : S8x4096x128.Idx → EReal := V m c main_v33

/-- A point's rows of the rotary part. -/
theorem blk1 (a : Fin 512) (d : Fin 128) : iblk m c 1 t (ix2 a d) = aL m c (ix2 (at_ t a) d) := by
  have f := idx_facts t
  refine congrArg (aL m c) (funext fun b => Fin.ext ?_)
  match b with
  | ⟨0, _⟩ => show win0_1.index t (0 : Fin 2) * 512 + 1 * a.val = t.val * 512 + a.val; omega
  | ⟨1, _⟩ => show win0_1.index t (1 : Fin 2) * 128 + 1 * d.val = d.val; omega

/-- A point's rows of the table of cosines. -/
theorem blk2 (a : Fin 512) (d : Fin 128) : iblk m c 2 t (ix2 a d) = aC m c (ix2 (at_ t a) d) := by
  have f := idx_facts t
  refine congrArg (aC m c) (funext fun b => Fin.ext ?_)
  match b with
  | ⟨0, _⟩ => show win0_2.index t (0 : Fin 2) * 512 + 1 * a.val = t.val * 512 + a.val; omega
  | ⟨1, _⟩ => show win0_2.index t (1 : Fin 2) * 128 + 1 * d.val = d.val; omega

/-- A point's rows of the table of sines. -/
theorem blk3 (a : Fin 512) (d : Fin 128) : iblk m c 3 t (ix2 a d) = aS m c (ix2 (at_ t a) d) := by
  have f := idx_facts t
  refine congrArg (aS m c) (funext fun b => Fin.ext ?_)
  match b with
  | ⟨0, _⟩ => show win0_3.index t (0 : Fin 2) * 512 + 1 * a.val = t.val * 512 + a.val; omega
  | ⟨1, _⟩ => show win0_3.index t (1 : Fin 2) * 128 + 1 * d.val = d.val; omega

/-- The weight. -/
theorem blk11 (a : Fin 1) (d : Fin 128) : iblk m c 11 t (ix2 a d) = aW m c (ix2 a d) := by
  have f := idx_facts t
  refine congrArg (aW m c) (funext fun b => Fin.ext ?_)
  match b with
  | ⟨0, _⟩ => show win0_11.index t (0 : Fin 2) * 1 + 1 * a.val = a.val; omega
  | ⟨1, _⟩ => show win0_11.index t (1 : Fin 2) * 128 + 1 * d.val = d.val; omega

/-- A point's rows of the keys' cotangent. -/
theorem blk13 (h : Fin 8) (a : Fin 512) (d : Fin 128) : iblk m c 13 t (ix3 h a d) = aK m c (ix3 h (at_ t a) d) := by
  have f := idx_facts t
  refine congrArg (aK m c) (funext fun b => Fin.ext ?_)
  match b with
  | ⟨0, _⟩ => show win0_13.index t (0 : Fin 3) * 8 + 1 * h.val = h.val; omega
  | ⟨1, _⟩ => show win0_13.index t (1 : Fin 3) * 512 + 1 * a.val = t.val * 512 + a.val; omega
  | ⟨2, _⟩ => show win0_13.index t (2 : Fin 3) * 128 + 1 * d.val = d.val; omega

/-- The latents, their norm's weight and the cotangent of the values, as the kernel finds them. -/
abbrev aX : S4096x384.Idx → EReal := V m c main_v7
abbrev aY : S1x128.Idx → EReal := V m c main_v22
abbrev aV : S8x4096x64.Idx → EReal := V m c main_arg15

/-- A point's rows of the latents. -/
theorem blk0 (a : Fin 512) (d : Fin 384) : iblk m c 0 t (ix2 a d) = aX m c (ix2 (at_ t a) d) := by
  have f := idx_facts t
  refine congrArg (aX m c) (funext fun b => Fin.ext ?_)
  match b with
  | ⟨0, _⟩ => show win0_0.index t (0 : Fin 2) * 512 + 1 * a.val = t.val * 512 + a.val; omega
  | ⟨1, _⟩ => show win0_0.index t (1 : Fin 2) * 384 + 1 * d.val = d.val; omega

/-- The weight of the latents' norm. -/
theorem blk5 (a : Fin 1) (d : Fin 128) : iblk m c 5 t (ix2 a d) = aY m c (ix2 a d) := by
  have f := idx_facts t
  refine congrArg (aY m c) (funext fun b => Fin.ext ?_)
  match b with
  | ⟨0, _⟩ => show win0_5.index t (0 : Fin 2) * 1 + 1 * a.val = a.val; omega
  | ⟨1, _⟩ => show win0_5.index t (1 : Fin 2) * 128 + 1 * d.val = d.val; omega

/-- A point's rows of the values' cotangent. -/
theorem blk14 (h : Fin 8) (a : Fin 512) (d : Fin 64) : iblk m c 14 t (ix3 h a d) = aV m c (ix3 h (at_ t a) d) := by
  have f := idx_facts t
  refine congrArg (aV m c) (funext fun b => Fin.ext ?_)
  match b with
  | ⟨0, _⟩ => show win0_14.index t (0 : Fin 3) * 8 + 1 * h.val = h.val; omega
  | ⟨1, _⟩ => show win0_14.index t (1 : Fin 3) * 512 + 1 * a.val = t.val * 512 + a.val; omega
  | ⟨2, _⟩ => show win0_14.index t (2 : Fin 3) * 64 + 1 * d.val = d.val; omega

/-- A point's part of the gradient of the values' weight. -/
theorem val_vgrad (x : Fin 4096 → Fin 128 → EReal) (w : Fin 128 → EReal) (hx : ∀ r d, aX m c (ix2 r (behind d)) = x r d)
    (hw : ∀ d, aY m c (ix2 0 d) = w d) (h : Fin 8) (e : Fin 128) (v : Fin 64) :
    vgradAt m c t (ix3 h e v) = ∑ a : Fin 512, latentRow (x (at_ t a)) w e * aV m c (ix3 h (at_ t a) v) := by
  unfold vgradAt
  refine (vgrad_at (iblk m c 0 t) (iblk m c 5 t) (iblk m c 14 t) h e v).trans (Finset.sum_congr rfl fun a _ => ?_)
  refine congrArg₂ (· * ·) ((latent_at (iblk m c 0 t) (iblk m c 5 t) a e).trans ?_) (blk14 m c t h a v)
  exact congrArg₂ (fun p q => latentRow p q e) (funext fun d => (blk0 m c t a _).trans (hx _ d)) (funext fun d => (blk5 m c t 0 d).trans (hw d))

/-- The matrices of the keys, as the kernel finds them. -/
abbrev aB : S8x128x128.Idx → EReal := V m c main_v19

/-- The block of them at a point: all of them. -/
theorem blk7 (h : Fin 8) (a d : Fin 128) : iblk m c 7 t (ix3 h a d) = aB m c (ix3 h a d) := by
  have f := idx_facts t
  refine congrArg (aB m c) (funext fun b => Fin.ext ?_)
  match b with
  | ⟨0, _⟩ => show win0_7.index t (0 : Fin 3) * 8 + 1 * h.val = h.val; omega
  | ⟨1, _⟩ => show win0_7.index t (1 : Fin 3) * 128 + 1 * a.val = a.val; omega
  | ⟨2, _⟩ => show win0_7.index t (2 : Fin 3) * 128 + 1 * d.val = d.val; omega

/-- A point's part of the gradient of the weight of the keys' norm. -/
theorem val_kgrad (x : Fin 4096 → Fin 128 → EReal) (w : Fin 128 → EReal) (M : Fin 8 → Fin 128 → Fin 64 → EReal)
    (hx : ∀ r d, aX m c (ix2 r (behind d)) = x r d) (hw : ∀ d, aY m c (ix2 0 d) = w d)
    (hb : ∀ h e d, aB m c (ix3 h e (front d)) = M h e d) (hz : ∀ (h : Fin 8) (e j : Fin 128), 64 ≤ j.val → aB m c (ix3 h e j) = 0) (d : Fin 64) :
    kgradAt m c t (ix2 0 (front d)) = ∑ a : Fin 512, ∑ h : Fin 8, keyRow (latentRow (x (at_ t a)) w) (M h) d
      * root64 (keyRow (latentRow (x (at_ t a)) w) (M h)) * aK m c (ix3 h (at_ t a) (front d)) := by
  unfold kgradAt
  refine (kgrad_at (iblk m c 0 t) (iblk m c 5 t) (iblk m c 7 t) (iblk m c 13 t) (fun a => latentRow (x (at_ t a)) w) M
    (fun a e => congrArg₂ (fun p q => latentRow p q e) (funext fun d => (blk0 m c t a _).trans (hx _ d)) (funext fun d => (blk5 m c t 0 d).trans (hw d)))
    (fun h e d => (blk7 m c t h e _).trans (hb h e d)) (fun h e j hj => (blk7 m c t h e j).trans (hz h e j hj)) d).trans ?_
  rw [Finset.sum_comm]
  exact Finset.sum_congr rfl fun a _ => Finset.sum_congr rfl fun h _ => congrArg (_ * ·) (blk13 m c t h a (front d))

/-- The block of the keys' cotangent at a point. -/
abbrev bK : S8x512x128.Idx → EReal := iblk m c 13 t

/-- A point's rows of the keys' cotangent, summed over the heads. -/
theorem sum13 (a : Fin 512) (d : Fin 128) :
    ∑ h : Fin 8, bK m c t (ix3 h a d) = ∑ h : Fin 8, aK m c (ix3 h (at_ t a) d) := by
  refine Finset.sum_congr rfl fun h _ => ?_
  exact blk13 m c t h a d

/-! ## The steps, over rows -/

section
variable (k : Fin 4096 → Fin 32 → EReal) (co si : Fin 4096 → Fin 16 → EReal) (g : Fin 4096 → Fin 32 → EReal) (w : Fin 32 → EReal)
  (hk : ∀ r d, aL m c (ix2 r (lane d)) = k r d)
  (hc0 : ∀ r e, aC m c (ix2 r (lane (lo e))) = co r e) (hc1 : ∀ r e, aC m c (ix2 r (lane (hi e))) = co r e)
  (hs0 : ∀ r e, aS m c (ix2 r (lane (lo e))) = -si r e) (hs1 : ∀ r e, aS m c (ix2 r (lane (hi e))) = si r e)
  (hg : ∀ r d, ∑ h : Fin 8, aK m c (ix3 h r (lane d)) = g r d)
include hk hc0 hc1 hs0 hs1 hg

/-- A point's rows of the gradient. -/
theorem val_grad (hw : ∀ d, aW m c (ix2 0 (lane d)) = w d) (a : Fin 512) (d : Fin 32) :
    gradAt m c t (ix2 a (lane d))
      = drow (k (at_ t a)) (fun d => turned (co (at_ t a)) (si (at_ t a)) (g (at_ t a)) d * w d) d := by
  unfold gradAt
  exact grad_at (iblk m c 1 t) (iblk m c 2 t) (iblk m c 3 t) (iblk m c 11 t) (iblk m c 13 t) a (k (at_ t a))
    (fun d => (blk1 m c t a _).trans (hk _ d)) (co (at_ t a)) (si (at_ t a)) (g (at_ t a))
    (fun e => (blk2 m c t a _).trans (hc0 _ e)) (fun e => (blk2 m c t a _).trans (hc1 _ e))
    (fun e => (blk3 m c t a _).trans (hs0 _ e)) (fun e => (blk3 m c t a _).trans (hs1 _ e))
    (fun d => (sum13 m c t a _).trans (hg _ d)) w
    (fun d => (blk11 m c t 0 _).trans (hw d)) d

/-- A point's part of the weight's gradient. -/
theorem val_wgrad (d : Fin 32) :
    wgradAt m c t (ix2 0 (lane d)) = ∑ a : Fin 512, k (at_ t a) d * root (k (at_ t a))
      * turned (co (at_ t a)) (si (at_ t a)) (g (at_ t a)) d := by
  unfold wgradAt
  exact wgrad_at (iblk m c 1 t) (iblk m c 2 t) (iblk m c 3 t) (iblk m c 13 t) (fun a => k (at_ t a)) (fun a => co (at_ t a)) (fun a => si (at_ t a)) (fun a => g (at_ t a))
    (fun a d => (blk1 m c t a _).trans (hk _ d))
    (fun a e => (blk2 m c t a _).trans (hc0 _ e)) (fun a e => (blk2 m c t a _).trans (hc1 _ e))
    (fun a e => (blk3 m c t a _).trans (hs0 _ e)) (fun a e => (blk3 m c t a _).trans (hs1 _ e))
    (fun a d => (sum13 m c t a _).trans (hg _ d)) d

end

/-- The sum grows by a step's part. -/
theorem grow (v a : Vec Ideal S1x128 .f32) : k0_pay3 v a = fun i => a i + v i := by
  funext i
  unfold k0_pay3
  simp only [shapeCast_self]
  rfl

/-- The sum of the values' weight grows by a step's part. -/
theorem vgrow (v a : Vec Ideal S8x128x64 .f32) : k0_pay8 v a = fun i => a i + v i := by
  funext i
  unfold k0_pay8
  simp only [shapeCast_self]
  rfl

/-- The sum of the weight of the keys' norm grows by a step's part. -/
theorem kgrow (v a : Vec Ideal S1x128 .f32) : k0_pay2 v a = fun i => a i + v i := by
  funext i
  unfold k0_pay2
  simp only [shapeCast_self]
  rfl

/-- Eight blocks of 512 rows are all rows. -/
theorem sum_rows (h7 : t.val % 8 = 7) (F : Fin 4096 → EReal) :
    ∑ s : Fin 8, ∑ a : Fin 512, F (at_ ⟨8 * (t.val / 8) + s.val, by have := t.isLt; omega⟩ a) = ∑ r : Fin 4096, F r := by
  have hN : t.val < 8 := lt_of_lt_of_eq t.isLt N_0
  rw [← Fin.sum_mul_add_fin 8 512 F]
  refine Finset.sum_congr rfl fun s _ => Finset.sum_congr rfl fun a _ => congrArg F (Fin.ext ?_)
  show (8 * (t.val / 8) + s.val) * 512 + a.val = s.val * 512 + a.val
  omega

/-- The sum at the last point: of all points' parts. -/
theorem total (h7 : t.val % 8 = 7) (i : S1x128.Idx) :
    (outs m c t.val).o24 i = ∑ s : Fin 8, wgradAt m c ⟨8 * (t.val / 8) + s.val, by have := t.isLt; omega⟩ i := by
  have hN : t.val < 8 := lt_of_lt_of_eq t.isLt N_0
  have h := Pipeline.eq_sum_fin_of_reset_step_apply_of_flush (M := EReal) (N := cfg0.N) (fun n _ => (outs m c n).o24) 8 (fun _ => 0)
    (fun t => wgradAt m c t)
    (fun t h0 i => by
      have hN : t.val < 8 := lt_of_lt_of_eq t.isLt N_0
      rw [zero_add]; exact congrFun ((outs_at m c t).2.1 (by omega)) i)
    (fun t h0 i => by
      have hN : t.val < 8 := lt_of_lt_of_eq t.isLt N_0
      exact congrFun (((outs_at m c t).2.2.1 (by omega)).trans (grow _ _)) i) t h7 i
  refine h.trans ?_
  rw [zero_add]

/-- The sum at the last point: of all points' parts of the weight of the keys' norm. -/
theorem ktotal (h7 : t.val % 8 = 7) (i : S1x128.Idx) :
    (outs m c t.val).o23 i = ∑ s : Fin 8, kgradAt m c ⟨8 * (t.val / 8) + s.val, by have := t.isLt; omega⟩ i := by
  have hN : t.val < 8 := lt_of_lt_of_eq t.isLt N_0
  have h := Pipeline.eq_sum_fin_of_reset_step_apply_of_flush (M := EReal) (N := cfg0.N) (fun n _ => (outs m c n).o23) 8 (fun _ => 0)
    (fun t => kgradAt m c t)
    (fun t h0 i => by
      have hN : t.val < 8 := lt_of_lt_of_eq t.isLt N_0
      rw [zero_add]; exact congrFun ((outs_at m c t).2.2.2.2.2.1 (by omega)) i)
    (fun t h0 i => by
      have hN : t.val < 8 := lt_of_lt_of_eq t.isLt N_0
      exact congrFun (((outs_at m c t).2.2.2.2.2.2.1 (by omega)).trans (kgrow _ _)) i) t h7 i
  refine h.trans ?_
  rw [zero_add]

/-- The sum at the last point: of all points' parts of the values' weight. -/
theorem vtotal (h7 : t.val % 8 = 7) (i : S8x128x64.Idx) :
    (outs m c t.val).o21 i = ∑ s : Fin 8, vgradAt m c ⟨8 * (t.val / 8) + s.val, by have := t.isLt; omega⟩ i := by
  have hN : t.val < 8 := lt_of_lt_of_eq t.isLt N_0
  have h := Pipeline.eq_sum_fin_of_reset_step_apply_of_flush (M := EReal) (N := cfg0.N) (fun n _ => (outs m c n).o21) 8 (fun _ => 0)
    (fun t => vgradAt m c t)
    (fun t h0 i => by
      have hN : t.val < 8 := lt_of_lt_of_eq t.isLt N_0
      rw [zero_add]; exact congrFun ((outs_at m c t).2.2.2.1 (by omega)) i)
    (fun t h0 i => by
      have hN : t.val < 8 := lt_of_lt_of_eq t.isLt N_0
      exact congrFun (((outs_at m c t).2.2.2.2.1 (by omega)).trans (vgrow _ _)) i) t h7 i
  refine h.trans ?_
  rw [zero_add]

end

/-! ## The arrays at the end -/

section
variable (m : (ℓ : Loc nD τ sig) → Buf (Elt Ideal) ℓ) (c : Dev nD)

/-- A row's place in its block. -/
def off (r : Fin 4096) : Fin 512 := ⟨r.val % 512, by omega⟩

/-- A row is the one at its place in its block. -/
theorem at_off (r : Fin 4096) : at_ (pt (r.val / 512)) (off r) = r :=
  Fin.ext (by show r.val / 512 % 8 * 512 + r.val % 512 = r.val; omega)

/-- The gradient of the rotary part at the end, with the lanes beside. -/
theorem final16 : (dats m 0 c).arrAt 16 cfg0.N = fun i => gradAt m c (pt ((i 0 : Nat) / 512)) (ix2 (off (i 0)) (i 1)) := by
  refine (dats m 0 c).arrAt_eq_of_cover 16 _ (fun t _ => ?_) fun i => ?_
  · have f := idx_facts t
    have hN : t.val < 8 := lt_of_lt_of_eq t.isLt N_0
    funext j
    obtain ⟨a, d, rfl⟩ : ∃ (a : Fin 512) (d : Fin 128), j = ix2 a d := ⟨j 0, j 1, eq_ix2 j⟩
    show (dats m 0 c).after 16 t (ix2 a d) = gradAt m c (pt (((win0_16.blk t).view.emb (ix2 a d) (0 : Fin 2) : Nat) / 512))
      (ix2 (off ((win0_16.blk t).view.emb (ix2 a d) (0 : Fin 2))) ((win0_16.blk t).view.emb (ix2 a d) (1 : Fin 2)))
    rw [after16, (outs_at m c t).1,
      show (win0_16.blk t).view.emb (ix2 a d) (0 : Fin 2) = at_ t a from Fin.ext (by
        show win0_16.index t (0 : Fin 2) * 512 + 1 * a.val = t.val * 512 + a.val; omega),
      show (win0_16.blk t).view.emb (ix2 a d) (1 : Fin 2) = d from Fin.ext (by
        show win0_16.index t (1 : Fin 2) * 128 + 1 * d.val = d.val; omega),
      show pt ((at_ t a : Nat) / 512) = t from Fin.ext (by show (t.val * 512 + a.val) / 512 % 8 = t.val; omega),
      show off (at_ t a) = a from Fin.ext (by show (t.val * 512 + a.val) % 512 = a.val; omega)]
  · have h0 : (i 0 : Nat) < 4096 := (i 0).isLt
    have h1 : (i 1 : Nat) < 128 := (i 1).isLt
    have f := idx_facts (pt ((i 0 : Nat) / 512))
    have e : (pt ((i 0 : Nat) / 512)).val = (i 0 : Nat) / 512 % 8 := rfl
    refine ⟨pt ((i 0 : Nat) / 512), flush0_16 _, ?_⟩
    refine (ValueKit.mem_set_slice_whole_iff main_v34_1 (win0_16.rect (pt ((i 0 : Nat) / 512))) i Rect.mem_set_unit).mpr fun b => ?_
    match b with
    | ⟨0, _⟩ => show win0_16.index (pt ((i 0 : Nat) / 512)) (0 : Fin 2) * 512 ≤ (i 0 : Nat) ∧ (i 0 : Nat) < win0_16.index (pt ((i 0 : Nat) / 512)) (0 : Fin 2) * 512 + 512; omega
    | ⟨1, _⟩ => show win0_16.index (pt ((i 0 : Nat) / 512)) (1 : Fin 2) * 128 ≤ (i 1 : Nat) ∧ (i 1 : Nat) < win0_16.index (pt ((i 0 : Nat) / 512)) (1 : Fin 2) * 128 + 128; omega

/-- The gradient of the weight at the end, with the lanes beside. -/
theorem final24 : (dats m 0 c).arrAt 24 cfg0.N = (outs m c 7).o24 := by
  refine (dats m 0 c).arrAt_eq_of_cover 24 _ (fun t ht => ?_) fun i => ?_
  · have f := idx_facts t
    have hN : t.val < 8 := lt_of_lt_of_eq t.isLt N_0
    have h7 : t.val % 8 = 7 := (flush0_24 t).mp ht
    funext j
    obtain ⟨a, d, rfl⟩ : ∃ (a : Fin 1) (d : Fin 128), j = ix2 a d := ⟨j 0, j 1, eq_ix2 j⟩
    show (dats m 0 c).after 24 t (ix2 a d) = (outs m c 7).o24 ((win0_24.blk t).view.emb (ix2 a d))
    rw [after24, show t.val = 7 by omega]
    refine congrArg (outs m c 7).o24 (funext fun b => Fin.ext ?_)
    match b with
    | ⟨0, _⟩ => show a.val = win0_24.index t (0 : Fin 2) * 1 + 1 * a.val; omega
    | ⟨1, _⟩ => show d.val = win0_24.index t (1 : Fin 2) * 128 + 1 * d.val; omega
  · have h0 : (i 0 : Nat) < 1 := (i 0).isLt
    have h1 : (i 1 : Nat) < 128 := (i 1).isLt
    have f := idx_facts (pt 7)
    refine ⟨pt 7, (flush0_24 _).mpr rfl, ?_⟩
    refine (ValueKit.mem_set_slice_whole_iff main_v34_9 (win0_24.rect (pt 7)) i Rect.mem_set_unit).mpr fun b => ?_
    match b with
    | ⟨0, _⟩ => show win0_24.index (pt 7) (0 : Fin 2) * 1 ≤ (i 0 : Nat) ∧ (i 0 : Nat) < win0_24.index (pt 7) (0 : Fin 2) * 1 + 1; omega
    | ⟨1, _⟩ => show win0_24.index (pt 7) (1 : Fin 2) * 128 ≤ (i 1 : Nat) ∧ (i 1 : Nat) < win0_24.index (pt 7) (1 : Fin 2) * 128 + 128; omega

/-- The gradient of the weight of the keys' norm at the end, with the lanes beside. -/
theorem final23 : (dats m 0 c).arrAt 23 cfg0.N = (outs m c 7).o23 := by
  refine (dats m 0 c).arrAt_eq_of_cover 23 _ (fun t ht => ?_) fun i => ?_
  · have f := idx_facts t
    have hN : t.val < 8 := lt_of_lt_of_eq t.isLt N_0
    have h7 : t.val % 8 = 7 := (flush0_23 t).mp ht
    funext j
    obtain ⟨a, d, rfl⟩ : ∃ (a : Fin 1) (d : Fin 128), j = ix2 a d := ⟨j 0, j 1, eq_ix2 j⟩
    show (dats m 0 c).after 23 t (ix2 a d) = (outs m c 7).o23 ((win0_23.blk t).view.emb (ix2 a d))
    rw [after23, show t.val = 7 by omega]
    refine congrArg (outs m c 7).o23 (funext fun b => Fin.ext ?_)
    match b with
    | ⟨0, _⟩ => show a.val = win0_23.index t (0 : Fin 2) * 1 + 1 * a.val; omega
    | ⟨1, _⟩ => show d.val = win0_23.index t (1 : Fin 2) * 128 + 1 * d.val; omega
  · have h0 : (i 0 : Nat) < 1 := (i 0).isLt
    have h1 : (i 1 : Nat) < 128 := (i 1).isLt
    have f := idx_facts (pt 7)
    refine ⟨pt 7, (flush0_23 _).mpr rfl, ?_⟩
    refine (ValueKit.mem_set_slice_whole_iff main_v34_8 (win0_23.rect (pt 7)) i Rect.mem_set_unit).mpr fun b => ?_
    match b with
    | ⟨0, _⟩ => show win0_23.index (pt 7) (0 : Fin 2) * 1 ≤ (i 0 : Nat) ∧ (i 0 : Nat) < win0_23.index (pt 7) (0 : Fin 2) * 1 + 1; omega
    | ⟨1, _⟩ => show win0_23.index (pt 7) (1 : Fin 2) * 128 ≤ (i 1 : Nat) ∧ (i 1 : Nat) < win0_23.index (pt 7) (1 : Fin 2) * 128 + 128; omega

/-- The gradient of the values' weight at the end. -/
theorem final21 : (dats m 0 c).arrAt 21 cfg0.N = (outs m c 7).o21 := by
  refine (dats m 0 c).arrAt_eq_of_cover 21 _ (fun t ht => ?_) fun i => ?_
  · have f := idx_facts t
    have hN : t.val < 8 := lt_of_lt_of_eq t.isLt N_0
    have h7 : t.val % 8 = 7 := (flush0_21 t).mp ht
    funext j
    obtain ⟨h, a, d, rfl⟩ : ∃ (h : Fin 8) (a : Fin 128) (d : Fin 64), j = ix3 h a d := ⟨j 0, j 1, j 2, eq_ix3 j⟩
    show (dats m 0 c).after 21 t (ix3 h a d) = (outs m c 7).o21 ((win0_21.blk t).view.emb (ix3 h a d))
    rw [after21, show t.val = 7 by omega]
    refine congrArg (outs m c 7).o21 (funext fun b => Fin.ext ?_)
    match b with
    | ⟨0, _⟩ => show h.val = win0_21.index t (0 : Fin 3) * 8 + 1 * h.val; omega
    | ⟨1, _⟩ => show a.val = win0_21.index t (1 : Fin 3) * 128 + 1 * a.val; omega
    | ⟨2, _⟩ => show d.val = win0_21.index t (2 : Fin 3) * 64 + 1 * d.val; omega
  · have h0 : (i 0 : Nat) < 8 := (i 0).isLt
    have h1 : (i 1 : Nat) < 128 := (i 1).isLt
    have h2 : (i 2 : Nat) < 64 := (i 2).isLt
    have f := idx_facts (pt 7)
    refine ⟨pt 7, (flush0_21 _).mpr rfl, ?_⟩
    refine (ValueKit.mem_set_slice_whole_iff main_v34_6 (win0_21.rect (pt 7)) i Rect.mem_set_unit).mpr fun b => ?_
    match b with
    | ⟨0, _⟩ => show win0_21.index (pt 7) (0 : Fin 3) * 8 ≤ (i 0 : Nat) ∧ (i 0 : Nat) < win0_21.index (pt 7) (0 : Fin 3) * 8 + 8; omega
    | ⟨1, _⟩ => show win0_21.index (pt 7) (1 : Fin 3) * 128 ≤ (i 1 : Nat) ∧ (i 1 : Nat) < win0_21.index (pt 7) (1 : Fin 3) * 128 + 128; omega
    | ⟨2, _⟩ => show win0_21.index (pt 7) (2 : Fin 3) * 64 ≤ (i 2 : Nat) ∧ (i 2 : Nat) < win0_21.index (pt 7) (2 : Fin 3) * 64 + 64; omega

end

end Cert.Proof.QkvValue
-- ==== Proof.QkvRef.lean ====
/- The reference of the gradients of the rotary part of the keys, of both norms' weights and of the values' weight, at an index: the same
   formulas of a row as the kernel's. -/
module

public import proofs.«01_k».proof.Proof.QkvBody
public import proofs.«01_k».proof.Proof.Gen.QkvRefIdeal.Read
public import Idealize.ShloMosaic.Lib.Pointwise.Reduce

@[expose] public section

noncomputable section

namespace Cert.Proof.QkvRef

open Idealize.ShloMosaic hiding ix1 ix2 ix3 eq_ix2 eq_ix3
open Cert.QkvRefIdeal Cert.QkvRefIdeal.Read Idealize.ShloMosaic.ValueIdx
open Cert.Proof.QkvBody (width32 var root droot lo hi turned through drow width128 latentRow width64 root64 keyRow)
open Cert.Proof.NormMath (tiny mhalf)
open scoped BigOperators

section
variable (x2 : S4096x32.Idx → EReal) (x3 x4 : S4096x16.Idx → EReal) (x12 : S32.Idx → EReal) (x14 : S8x4096x96.Idx → EReal)

/-- A row of the rotary part of the keys. -/
def keys (r : Fin 4096) (d : Fin 32) : EReal := x2 (ix2 r d)
/-- A row of a table of the positions. -/
def table (x : S4096x16.Idx → EReal) (r : Fin 4096) (e : Fin 16) : EReal := x (ix2 r e)
/-- A row of the cotangent of the rotary part, summed over the heads. -/
def cot (r : Fin 4096) (d : Fin 32) : EReal := ∑ h : Fin 8, x14 (ix3 h r ⟨64 + d.val, by omega⟩)
/-- The weight's entries. -/
def weight (d : Fin 32) : EReal := x12 (ix1 d)
/-- A row of the cotangent turned back. -/
abbrev back (r : Fin 4096) : Fin 32 → EReal := turned (table x3 r) (table x4 r) (cot x14 r)

/-- An index of three axes from its coordinates. -/
theorem at3 {n p q : Nat} (i : (⟨3, ![n, p, q]⟩ : Shape).Idx) (a : Fin n) (b : Fin p) (c : Fin q) (h0 : (i 0).val = a.val)
    (h1 : (i 1).val = b.val) (h2 : (i 2).val = c.val) : i = ix3 a b c := by
  funext t
  match t with
  | ⟨0, _⟩ => exact Fin.ext h0
  | ⟨1, _⟩ => exact Fin.ext h1
  | ⟨2, _⟩ => exact Fin.ext h2

/-- An index of two axes from its coordinates. -/
theorem at2 {n p : Nat} (i : (⟨2, ![n, p]⟩ : Shape).Idx) (a : Fin n) (b : Fin p) (h0 : (i 0).val = a.val)
    (h1 : (i 1).val = b.val) : i = ix2 a b := by
  funext t
  match t with
  | ⟨0, _⟩ => exact Fin.ext h0
  | ⟨1, _⟩ => exact Fin.ext h1

/-- The keys' rows under the heads' axis. -/
theorem keys_at (r : Fin 4096) (z : Fin 1) (d : Fin 32) : val_main_v88 (F := Ideal) x2 (ix3 r z d) = keys x2 r d := by
  rw [val_main_v88_apply, at2 (idx_main_v88 (ix3 r z d)) r d rfl rfl]; rfl

/-- A row's mean square and the small constant. -/
theorem var_at (r : Fin 4096) (z z' : Fin 1) : val_main_v95 (F := Ideal) x2 (ix3 r z z') = var (keys x2 r) := by
  rw [val_main_v95_apply, val_main_v93_apply, val_main_v91_apply, val_main_v92_apply, val_main_v94_apply, val_main_v90_apply,
    val_main_cst_14_apply, val_main_cst_15_apply, val_main_cst_16_apply, Common.ofBits_zero, zero_add]
  refine congrArg (fun s => Ideal.div s width32 + tiny) (Finset.sum_congr rfl fun d _ => ?_)
  rw [at3 (idx_main_v90 (idx_main_v91 (ix3 r z z')) d) r 0 d rfl (congrArg Fin.val (Fin.eq_zero _)) rfl, val_main_v89_apply, keys_at]; rfl

/-- The reciprocal root of a row. -/
theorem root_at (r : Fin 4096) (z z' : Fin 1) : val_main_v96 (F := Ideal) x2 (ix3 r z z') = root (keys x2 r) := by
  rw [val_main_v96_apply, var_at]; rfl

/-- The derivative of the reciprocal root. -/
theorem droot_at (r : Fin 4096) (z z' : Fin 1) : val_main_v99 (F := Ideal) x2 (ix3 r z z') = droot (keys x2 r) := by
  rw [val_main_v99_apply, val_main_v98_apply, val_main_cst_17_apply, val_main_v97_apply, root_at, var_at]; rfl

/-- The cotangent of the rotary part, summed over the heads. -/
theorem cot_at (r : Fin 4096) (z : Fin 1) (d : Fin 32) : val_main_v125 (F := Ideal) x14 (ix3 r z d) = cot x14 r d := by
  rw [val_main_v125_apply, val_main_v124_apply, val_main_cst_19_apply, Common.ofBits_zero, zero_add]
  refine Finset.sum_congr rfl fun h _ => ?_
  rw [val_main_v123_apply, val_main_v121_apply]
  exact congrArg x14 (at3 _ h r ⟨64 + d.val, by omega⟩ rfl rfl rfl)

/-- Its first and its second half. -/
theorem low_at (r : Fin 4096) (z : Fin 1) (e : Fin 16) : val_main_v126 (F := Ideal) x14 (ix3 r z e) = cot x14 r (lo e) := by
  rw [val_main_v126_apply, at3 (idx_main_v126 (ix3 r z e)) r z (lo e) rfl rfl rfl, cot_at]
theorem high_at (r : Fin 4096) (z : Fin 1) (e : Fin 16) : val_main_v127 (F := Ideal) x14 (ix3 r z e) = cot x14 r (hi e) := by
  rw [val_main_v127_apply, at3 (idx_main_v127 (ix3 r z e)) r z (hi e) rfl rfl rfl, cot_at]

/-- The tables under the heads' axis. -/
theorem cos_at (r : Fin 4096) (z : Fin 1) (e : Fin 16) : val_main_v0 (F := Ideal) x3 (ix3 r z e) = table x3 r e := by
  rw [val_main_v0_apply, at2 (idx_main_v0 (ix3 r z e)) r e rfl rfl]; rfl
theorem sin_at (r : Fin 4096) (z : Fin 1) (e : Fin 16) : val_main_v1 (F := Ideal) x4 (ix3 r z e) = table x4 r e := by
  rw [val_main_v1_apply, at2 (idx_main_v1 (ix3 r z e)) r e rfl rfl]; rfl

/-- The cotangent turned back. -/
theorem back_at (r : Fin 4096) (z : Fin 1) (d : Fin 32) :
    val_main_v135 (F := Ideal) x3 x4 x14 (ix3 r z d) = back x3 x4 x14 r d := by
  unfold val_main_v135 back turned
  split
  · rename_i h
    refine (concatenate_pair_apply_left (t := S4096x1x32) (s₁ := S4096x1x16) (s₂ := S4096x1x16) 2 _ _
      _ (ix3 r z d) rfl (ix3 r z ⟨d.val, h⟩)
      (fun b => match b with | ⟨0, _⟩ => rfl | ⟨1, _⟩ => rfl | ⟨2, _⟩ => rfl)).trans ?_
    rw [val_main_v134_apply, val_main_v128_apply, val_main_v133_apply, high_at, low_at, cos_at, sin_at]; rfl
  · rename_i h
    refine (concatenate_pair_apply_right (t := S4096x1x32) (s₁ := S4096x1x16) (s₂ := S4096x1x16) 2 _ _
      _ (ix3 r z d) rfl rfl (ix3 r z ⟨d.val - 16, by omega⟩)
      (fun b hb => match b with | ⟨0, _⟩ => rfl | ⟨1, _⟩ => rfl | ⟨2, _⟩ => absurd rfl hb)
      (by show d.val - 16 + 16 = d.val; omega)).trans ?_
    rw [val_main_v132_apply, val_main_v129_apply, val_main_v131_apply, val_main_v130_apply, high_at, low_at, cos_at, sin_at]; rfl

/-- A row of the cotangent by the weight. -/
abbrev scaled (r : Fin 4096) (d : Fin 32) : EReal := back x3 x4 x14 r d * weight x12 d

/-- The cotangent by the weight. -/
theorem scaled_at (r : Fin 4096) (z : Fin 1) (d : Fin 32) :
    val_main_v140 (F := Ideal) x3 x4 x12 x14 (ix3 r z d) = scaled x3 x4 x12 x14 r d := by
  rw [val_main_v140_apply, back_at, val_main_v139_apply, val_main_v102_apply]
  refine congrArg (back x3 x4 x14 r d * ·) (congrArg x12 ?_)
  funext a; match a with | ⟨0, _⟩ => rfl

/-- What the root contributes. -/
theorem through_at (r : Fin 4096) (z : Fin 1) (d : Fin 32) :
    val_main_v152 (F := Ideal) x2 x3 x4 x12 x14 (ix3 r z d) = through (keys x2 r) (scaled x3 x4 x12 x14 r) := by
  rw [val_main_v152_apply, val_main_v151_apply]
  unfold val_main_v150
  rw [hostReduceAdd_apply, Ideal.hostReduceAdd_r3_a12, val_main_cst_24_apply, Common.ofBits_zero, zero_add, Fin.sum_univ_one,
    Fin.sum_univ_one]
  refine (congrArg (val_main_v149 (F := Ideal) x2 x3 x4 x12 x14) (at3 _ r 0 0 rfl rfl rfl)).trans ?_
  rw [val_main_v149_apply, val_main_v147_apply, val_main_v148_apply,
    val_main_cst_23_apply, droot_at, val_main_v144_apply, val_main_v143_apply, val_main_cst_22_apply, Common.ofBits_zero, zero_add]
  refine congrArg (fun s => Ideal.div (s * droot (keys x2 r)) width32) (Finset.sum_congr rfl fun e _ => ?_)
  rw [at3 (idx_main_v143 _ e) r 0 e (by show ((r.val * 1 + 0) * 1 + 0) / 1 = r.val; omega) (congrArg Fin.val (Fin.eq_zero _)) rfl,
    val_main_v142_apply, keys_at, scaled_at]; rfl

/-- The gradient of the rotary part of the keys. -/
theorem drow_at (r : Fin 4096) (d : Fin 32) :
    val_main_v157 (F := Ideal) x2 x3 x4 x12 x14 (ix2 r d) = drow (keys x2 r) (scaled x3 x4 x12 x14 r) d := by
  rw [val_main_v157_apply, val_main_cst_25_apply, Common.ofBits_zero, zero_add, Fin.sum_univ_one,
    at3 (idx_main_v157 (ix2 r d) 0) r 0 d rfl rfl rfl, val_main_v156_apply, val_main_v154_apply, val_main_v155_apply,
    val_main_v146_apply, val_main_v153_apply, through_at, keys_at, scaled_at, val_main_v145_apply,
    at3 (idx_main_v145 (ix3 r 0 d)) r 0 0 rfl rfl rfl, root_at]; rfl

/-- A row of three axes of which two have one entry, from the last one. -/
theorem sum_last (h : S1x1x32.ReducesTo [0, 1] S32) (v : S1x1x32.Idx → EReal) (b : EReal) (d : Fin 32) :
    Ideal.hostReduceAdd h v b (ix1 d) = b + v (ix3 0 0 d) := by
  unfold Ideal.hostReduceAdd
  refine congrArg (b + ·) ?_
  have e : Finset.univ.filter (fun i => h.drop i = ix1 d) = {ix3 0 0 d} := by
    ext i
    rw [Finset.mem_filter, Finset.mem_singleton]
    constructor
    · intro hi
      exact at3 i 0 0 d (congrArg Fin.val (Fin.eq_zero (i 0))) (congrArg Fin.val (Fin.eq_zero (i 1)))
        (congrArg Fin.val (congrFun hi.2 (0 : Fin 1)))
    · rintro rfl
      refine ⟨Finset.mem_univ _, ?_⟩
      funext a
      match a with
      | ⟨0, _⟩ => exact Fin.ext rfl
  rw [e, Finset.sum_singleton]

/-- The gradient of the norm's weight. -/
theorem dweight_at (d : Fin 32) :
    val_main_v141 (F := Ideal) x2 x3 x4 x14 (ix1 d) = ∑ r : Fin 4096, keys x2 r d * root (keys x2 r) * back x3 x4 x14 r d := by
  unfold val_main_v141
  rw [hostReduceAdd_apply, sum_last, val_main_cst_21_apply, Common.ofBits_zero, zero_add, val_main_v138_apply, val_main_v137_apply,
    val_main_cst_20_apply, Common.ofBits_zero, zero_add]
  refine Finset.sum_congr rfl fun r _ => ?_
  rw [at3 (idx_main_v137 _ r) r 0 d rfl (congrArg Fin.val (Fin.eq_zero _)) (by first | rfl | (show (0 * 32 + d.val) % 32 = d.val; omega)),
    val_main_v136_apply, val_main_v101_apply, keys_at, back_at, val_main_v100_apply, at3 (idx_main_v100 _) r 0 0 rfl rfl rfl, root_at]; rfl

end

section
variable (x1 : S4096x128.Idx → EReal) (x7 : S128.Idx → EReal) (x8 : S128x1024.Idx → EReal) (x11 : S64.Idx → EReal) (x14 : S8x4096x96.Idx → EReal)
  (x15 : S8x4096x64.Idx → EReal)

/-- A row of the latent, and its norm's weight. -/
def latents (r : Fin 4096) (d : Fin 128) : EReal := x1 (ix2 r d)
def lweight (d : Fin 128) : EReal := x7 (ix1 d)

/-- The latent after its norm. -/
theorem latent_at (r : Fin 4096) (d : Fin 128) :
    val_main_v187 (F := Ideal) x1 x7 (ix2 r d) = latentRow (latents x1 r) (lweight x7) d := by
  rw [val_main_v187_apply, val_main_v184_apply, val_main_v183_apply, val_main_v182_apply, val_main_v181_apply, val_main_v179_apply,
    val_main_v177_apply, val_main_v178_apply, val_main_v180_apply, val_main_v176_apply, val_main_cst_29_apply, val_main_cst_30_apply,
    val_main_cst_31_apply, Common.ofBits_zero, zero_add, val_main_v186_apply, val_main_v185_apply]
  unfold latentRow
  refine congrArg₂ (· * ·) (congrArg (x1 (ix2 r d) * ·) (congrArg (fun s => Ideal.rsqrt (Ideal.div s width128 + tiny)) (Finset.sum_congr rfl fun e _ => ?_)))
    (congrArg x7 (funext fun a => match a with | ⟨0, _⟩ => rfl))
  rw [at2 (idx_main_v176 _ e) r e rfl rfl, val_main_v175_apply]; rfl

/-- The gradient of the values' weight: the latent against the values' cotangent, summed over the rows. -/
theorem dvalue_at (c : Fin 128) (h : Fin 8) (v : Fin 64) :
    val_main_v425 (F := Ideal) x1 x7 x8 x11 x14 x15 (ix3 c h v)
      = ∑ r : Fin 4096, latentRow (latents x1 r) (lweight x7) c * x15 (ix3 h r v) := by
  have hc := c.isLt
  have hh := h.isLt
  have hv := v.isLt
  have e : idx_main_v300 (idx_main_v424 (idx_main_v425 (ix3 c h v))) = ix2 (⟨h.val * 128 + (64 + v.val), by omega⟩ : Fin 1024) c :=
    at2 _ _ _ (by show ((c.val * 8 + h.val) * 128 + (64 + v.val)) % 1024 = h.val * 128 + (64 + v.val); omega)
      (by show ((c.val * 8 + h.val) * 128 + (64 + v.val)) / 1024 = c.val; omega)
  rw [val_main_v425_apply, val_main_v424_apply, val_main_v300_apply, e, val_main_v299_apply]
  refine Finset.sum_congr rfl fun r _ => ?_
  have hr := r.isLt
  rw [at2 (ridx_main_v299 _ r) r c rfl rfl, latent_at, val_main_v298_apply,
    at3 (idx_main_v298 _) r h (⟨64 + v.val, by omega⟩ : Fin 128)
      (by show (r.val * 1024 + (h.val * 128 + (64 + v.val))) / 1024 = r.val; omega)
      (by show (r.val * 1024 + (h.val * 128 + (64 + v.val))) / 128 % 8 = h.val; omega)
      (by show (r.val * 1024 + (h.val * 128 + (64 + v.val))) % 128 = 64 + v.val; omega)]
  unfold val_main_v297
  rw [concatenate_pair_apply_right (t := S4096x8x128) (s₁ := S4096x8x64) (s₂ := S4096x8x64) 2 _ _
    _ (ix3 r h (⟨64 + v.val, by omega⟩ : Fin 128)) rfl rfl (ix3 r h v)
    (fun b hb => match b with | ⟨0, _⟩ => rfl | ⟨1, _⟩ => rfl | ⟨2, _⟩ => absurd rfl hb)
    (by show v.val + 64 = 64 + v.val; omega), val_main_v277_apply, at3 (idx_main_v277 (ix3 r h v)) h r v rfl rfl rfl, mul_comm]

/-- One head's columns of the keys' weight. -/
def kmat (h : Fin 8) (c : Fin 128) (d : Fin 64) : EReal := x8 (ix2 c ⟨h.val * 128 + d.val, by omega⟩)

/-- A row of one head's keys. -/
abbrev krow (r : Fin 4096) (h : Fin 8) : Fin 64 → EReal := keyRow (latentRow (latents x1 r) (lweight x7)) (kmat x8 h)

/-- The latent after its norm, as the keys read it. -/
theorem klatent_at (r : Fin 4096) (d : Fin 128) :
    val_main_v330 (F := Ideal) x1 x7 (ix2 r d) = latentRow (latents x1 r) (lweight x7) d := by
  rw [val_main_v330_apply, val_main_v327_apply, val_main_v326_apply, val_main_v325_apply, val_main_v324_apply, val_main_v322_apply,
    val_main_v320_apply, val_main_v321_apply, val_main_v323_apply, val_main_v319_apply, val_main_cst_52_apply, val_main_cst_53_apply,
    val_main_cst_54_apply, Common.ofBits_zero, zero_add, val_main_v329_apply, val_main_v328_apply]
  unfold latentRow
  refine congrArg₂ (· * ·) (congrArg (x1 (ix2 r d) * ·) (congrArg (fun s => Ideal.rsqrt (Ideal.div s width128 + tiny)) (Finset.sum_congr rfl fun e _ => ?_)))
    (congrArg x7 (funext fun a => match a with | ⟨0, _⟩ => rfl))
  rw [at2 (idx_main_v319 _ e) r e rfl rfl, val_main_v318_apply]; rfl

/-- The keys before their norm. -/
theorem krow_at (r : Fin 4096) (h : Fin 8) (d : Fin 64) : val_main_v333 (F := Ideal) x1 x7 x8 (ix3 r h d) = krow x1 x7 x8 r h d := by
  have hr := r.isLt
  have hh := h.isLt
  have hd := d.isLt
  have e : idx_main_v332 (idx_main_v333 (ix3 r h d)) = ix2 r (⟨h.val * 128 + d.val, by omega⟩ : Fin 1024) :=
    at2 _ _ _ (by show ((r.val * 8 + h.val) * 128 + d.val) / 1024 = r.val; omega)
      (by show ((r.val * 8 + h.val) * 128 + d.val) % 1024 = h.val * 128 + d.val; omega)
  rw [val_main_v333_apply, val_main_v332_apply, e, val_main_v331_apply]
  refine Finset.sum_congr rfl fun c _ => ?_
  rw [at2 (lidx_main_v331 _ c) r c rfl rfl, klatent_at]
  exact congrArg (latentRow (latents x1 r) (lweight x7) c * ·) (congrArg x8 (at2 _ c _ rfl rfl))

/-- The inverse root of a row of keys. -/
theorem kroot_at (r : Fin 4096) (h : Fin 8) (z : Fin 1) : val_main_v381 (F := Ideal) x1 x7 x8 (ix3 r h z) = root64 (krow x1 x7 x8 r h) := by
  rw [val_main_v381_apply, val_main_v380_apply, val_main_v378_apply, val_main_v376_apply, val_main_v377_apply, val_main_v379_apply,
    val_main_v375_apply, val_main_cst_61_apply, val_main_cst_62_apply, val_main_cst_63_apply, Common.ofBits_zero, zero_add]
  refine congrArg (fun s => Ideal.rsqrt (Ideal.div s width64 + tiny)) (Finset.sum_congr rfl fun e _ => ?_)
  rw [at3 (idx_main_v375 _ e) r h e rfl rfl rfl, val_main_v374_apply, krow_at]; rfl

/-- A sum over the first two axes. -/
theorem sum_two {n p q : Nat} (hr : (⟨3, ![n, p, q]⟩ : Shape).ReducesTo [0, 1] ⟨1, ![q]⟩) (v : (⟨3, ![n, p, q]⟩ : Shape).Idx → EReal) (b : EReal)
    (d : Fin q) : Ideal.hostReduceAdd hr v b (ix1 d) = b + ∑ r : Fin n, ∑ h : Fin p, v (ix3 r h d) := by
  unfold Ideal.hostReduceAdd
  refine congrArg (b + ·) ?_
  rw [← Fintype.sum_prod_type' fun r h => v (ix3 r h d)]
  symm
  refine Finset.sum_bij (fun x _ => ix3 x.1 x.2 d) (fun x _ => ?_) (fun x _ y _ e => ?_) (fun i hi => ?_) (fun _ _ => rfl)
  · rw [Finset.mem_filter]
    refine ⟨Finset.mem_univ _, ?_⟩
    funext a
    match a with
    | ⟨0, _⟩ => exact Fin.ext rfl
  · exact Prod.ext (congrFun e (0 : Fin 3)) (congrFun e (1 : Fin 3))
  · rw [Finset.mem_filter] at hi
    exact ⟨(i 0, i 1), Finset.mem_univ _, (at3 i (i 0) (i 1) d rfl rfl (congrArg Fin.val (congrFun hi.2 (0 : Fin 1)))).symm⟩

/-- The gradient of the weight of the keys' norm: each key by its root and its cotangent, summed over rows and heads. -/
theorem dkey_at (d : Fin 64) : val_main_v423 (F := Ideal) x1 x7 x8 x14 (ix1 d)
    = ∑ r : Fin 4096, ∑ h : Fin 8, krow x1 x7 x8 r h d * root64 (krow x1 x7 x8 r h) * x14 (ix3 h r ⟨d.val, by omega⟩) := by
  unfold val_main_v423
  rw [hostReduceAdd_apply]
  refine (sum_two (n := 1) (p := 1) (q := 64) _ _ _ d).trans ?_
  rw [val_main_cst_69_apply, Common.ofBits_zero, zero_add, Fin.sum_univ_one, Fin.sum_univ_one, val_main_v422_apply]
  rw [show idx_main_v422 (ix3 0 0 d) = ix1 d from funext fun a => match a with
    | ⟨0, _⟩ => Fin.ext (by show (0 * 1 + 0) * 64 + d.val = d.val; omega)]
  unfold val_main_v421
  rw [hostReduceAdd_apply]
  refine (sum_two (n := 4096) (p := 8) (q := 64) _ _ _ d).trans ?_
  rw [val_main_cst_68_apply, Common.ofBits_zero, zero_add]
  refine Finset.sum_congr rfl fun r _ => Finset.sum_congr rfl fun h _ => ?_
  rw [val_main_v420_apply, val_main_v383_apply, val_main_v382_apply, at3 (idx_main_v382 (ix3 r h d)) r h 0 rfl rfl rfl, kroot_at, krow_at,
    val_main_v418_apply, val_main_v417_apply]
  exact congrArg (krow x1 x7 x8 r h d * root64 (krow x1 x7 x8 r h) * ·) (congrArg x14 (at3 _ h r ⟨d.val, by omega⟩ rfl rfl rfl))

end

end Cert.Proof.QkvRef
-- ==== Proof.QkvRun.lean ====
/- The gradients of the rotary part of the keys, of both norms' weights and of the values' weight: the arrays that the kernel is given, what the lines behind
   it make of its arrays, and that these are the reference's. -/
module

public import proofs.«01_k».proof.Proof.QkvValue
public import proofs.«01_k».proof.Proof.QkvRef
public import Idealize.ShloMosaic.Lib.KernelVsHost

@[expose] public section

noncomputable section

namespace Cert.Proof.QkvRun

open Idealize.ShloMosaic hiding ix1 ix2 ix3 eq_ix2 eq_ix3
open Cert.QkvIdeal Cert.QkvIdeal.Gen Idealize.ShloMosaic.TcCoe Idealize.SL.Sem Idealize.ShloMosaic.ValueIdx
open Cert.Proof.QkvBody Cert.Proof.QkvValue
open scoped BigOperators

/-! ## Arrays packed into lanes -/

/-- A number in every entry. -/
abbrev fill (s : Shape) (h : S_.BroadcastsInDim s ![]) (x : BitVec 32) : FVec Ideal s .f32 :=
  broadcastInDim s ![] h (constant (F := Ideal) S_ .f32 x)

/-- The pieces of a table: a filler, two halves and zeros. -/
abbrev halves (x : BitVec 32) (A B : FVec Ideal S4096x16 .f32) : List ((s : Shape) × (s.Idx → Ideal .f32)) :=
  [⟨S4096x64, fill S4096x64 bcast_S_S4096x64 x⟩, ⟨S4096x16, A⟩, ⟨S4096x16, B⟩, ⟨S4096x32, fill S4096x32 bcast_S_S4096x32 0x00000000#32⟩]

/-- A table in lanes. -/
def packed (x : BitVec 32) (A B : FVec Ideal S4096x16 .f32) : FVec Ideal S4096x128 .f32 :=
  concatenate S4096x128 1 (halves x A B) concatenates_S4096x64_S4096x16_S4096x16_S4096x32_S4096x128_d1

/-- The first half of a table. -/
theorem packed_lo (x : BitVec 32) (A B : FVec Ideal S4096x16 .f32) (r : Fin 4096) (e : Fin 16) :
    packed x A B (ix2 r (lane (lo e))) = A (ix2 r e) :=
  concatenate_apply_piece (t := S4096x128) 1 (halves x A B) concatenates_S4096x64_S4096x16_S4096x16_S4096x32_S4096x128_d1
    (ix2 r (lane (lo e))) 1 (by show 1 < 4; omega) S4096x16 A rfl rfl 64 rfl (ix2 r e)
    (fun b hb => match b with | ⟨0, _⟩ => rfl | ⟨1, _⟩ => absurd rfl hb) rfl

/-- The second half of a table. -/
theorem packed_hi (x : BitVec 32) (A B : FVec Ideal S4096x16 .f32) (r : Fin 4096) (e : Fin 16) :
    packed x A B (ix2 r (lane (hi e))) = B (ix2 r e) :=
  concatenate_apply_piece (t := S4096x128) 1 (halves x A B) concatenates_S4096x64_S4096x16_S4096x16_S4096x32_S4096x128_d1
    (ix2 r (lane (hi e))) 2 (by show 2 < 4; omega) S4096x16 B rfl rfl 80 rfl (ix2 r e)
    (fun b hb => match b with | ⟨0, _⟩ => rfl | ⟨1, _⟩ => absurd rfl hb) (by show 80 + e.val = 64 + (16 + e.val); omega)

/-- The pieces of the rotary part: zeros on both sides. -/
abbrev sides (A : FVec Ideal S4096x32 .f32) : List ((s : Shape) × (s.Idx → Ideal .f32)) :=
  [⟨S4096x64, fill S4096x64 bcast_S_S4096x64 0x00000000#32⟩, ⟨S4096x32, A⟩, ⟨S4096x32, fill S4096x32 bcast_S_S4096x32 0x00000000#32⟩]

/-- The rotary part in lanes. -/
def placed (A : FVec Ideal S4096x32 .f32) : FVec Ideal S4096x128 .f32 :=
  concatenate S4096x128 1 (sides A) concatenates_S4096x64_S4096x32_S4096x32_S4096x128_d1

/-- Its lanes. -/
theorem placed_at (A : FVec Ideal S4096x32 .f32) (r : Fin 4096) (d : Fin 32) : placed A (ix2 r (lane d)) = A (ix2 r d) :=
  concatenate_apply_piece (t := S4096x128) 1 (sides A) concatenates_S4096x64_S4096x32_S4096x32_S4096x128_d1
    (ix2 r (lane d)) 1 (by show 1 < 3; omega) S4096x32 A rfl rfl 64 rfl (ix2 r d)
    (fun b hb => match b with | ⟨0, _⟩ => rfl | ⟨1, _⟩ => absurd rfl hb) rfl

/-- The number that fills lanes up. -/
abbrev filler : FVec Ideal S_ .f32 := sitofp (F := Ideal) .f32 (constantI S_ 32 0#32)

/-- The weight in lanes. -/
def spaced (A : FVec Ideal S32 .f32) : FVec Ideal S1x128 .f32 :=
  broadcastInDim S1x128 ![1] bcast_S128_S1x128_1 (pad S128 ![64] ![32] ![0] A filler pads_S32_S128_64320 h_S_)

/-- Its lanes. -/
theorem spaced_at (A : FVec Ideal S32 .f32) (d : Fin 32) : spaced A (ix2 0 (lane d)) = A (ix1 d) := by
  unfold spaced
  rw [broadcastInDim_apply (s := S128) (t := S1x128) _ _ _ (ix2 0 (lane d)) (ix1 (lane d)) (fun b => match b with | ⟨0, _⟩ => rfl)]
  exact pad_apply_of_inside (s := S32) (t := S128) ![64] ![32] ![0] A filler pads_S32_S128_64320 h_S_ (ix1 (lane d)) (ix1 d)
    (fun a => match a with | ⟨0, _⟩ => show 64 + d.val = 64 + d.val * (0 + 1) by omega)

/-- The keys' cotangent in lanes. -/
def widened (A : FVec Ideal S8x4096x96 .f32) : FVec Ideal S8x4096x128 .f32 :=
  pad S8x4096x128 ![0, 0, 0] ![0, 0, 32] ![0, 0, 0] A filler pads_S8x4096x96_S8x4096x128_000_000_0320 h_S_

/-- Its lanes. -/
theorem widened_at (A : FVec Ideal S8x4096x96 .f32) (h : Fin 8) (r : Fin 4096) (d : Fin 32) :
    widened A (ix3 h r (lane d)) = A (ix3 h r ⟨64 + d.val, by omega⟩) :=
  pad_apply_of_inside (s := S8x4096x96) (t := S8x4096x128) ![0, 0, 0] ![0, 0, 32] ![0, 0, 0] A filler
    pads_S8x4096x96_S8x4096x128_000_000_0320 h_S_ (ix3 h r (lane d)) (ix3 h r ⟨64 + d.val, by omega⟩)
    (fun a => match a with
      | ⟨0, _⟩ => show h.val = 0 + h.val * (0 + 1) by omega
      | ⟨1, _⟩ => show r.val = 0 + r.val * (0 + 1) by omega
      | ⟨2, _⟩ => show 64 + d.val = 0 + (64 + d.val) * (0 + 1) by omega)

/-- Its lanes in front. -/
theorem widened_front (A : FVec Ideal S8x4096x96 .f32) (h : Fin 8) (r : Fin 4096) (d : Fin 64) :
    widened A (ix3 h r (front d)) = A (ix3 h r ⟨d.val, by omega⟩) :=
  pad_apply_of_inside (s := S8x4096x96) (t := S8x4096x128) ![0, 0, 0] ![0, 0, 32] ![0, 0, 0] A filler
    pads_S8x4096x96_S8x4096x128_000_000_0320 h_S_ (ix3 h r (front d)) (ix3 h r ⟨d.val, by omega⟩)
    (fun a => match a with
      | ⟨0, _⟩ => show h.val = 0 + h.val * (0 + 1) by omega
      | ⟨1, _⟩ => show r.val = 0 + r.val * (0 + 1) by omega
      | ⟨2, _⟩ => show d.val = 0 + d.val * (0 + 1) by omega)

/-- The heads' matrices of the keys. -/
abbrev cut (A : FVec Ideal S128x1024 .f32) : FVec Ideal S8x128x64 .bf16 :=
  extractStridedSlice S8x128x64 ![0, 0, 0] (transpose S8x128x128 [1, 0, 2]
    (shapeCast S128x8x128 (truncf .bf16 A bitsLt_bf16_f32 : FVec Ideal S128x1024 .bf16) shapeCasts_S128x1024_S128x8x128)
    transposes_S128x8x128_S8x128x128_1_0_2) slices_S8x128x128_S8x128x64_0_0_0

/-- The same with zeros behind. -/
def matrices (A : FVec Ideal S128x1024 .f32) : FVec Ideal S8x128x128 .bf16 :=
  pad S8x128x128 ![0, 0, 0] ![0, 0, 64] ![0, 0, 0] (cut A) (sitofp (F := Ideal) .bf16 (constantI S_ 32 0#32) : FVec Ideal S_ .bf16)
    pads_S8x128x64_S8x128x128_000_000_0640 h_S_

/-- Its lanes in front. -/
theorem matrices_front (A : FVec Ideal S128x1024 .f32) (h : Fin 8) (c : Fin 128) (d : Fin 64) :
    matrices A (ix3 h c (front d)) = QkvRef.kmat A h c d := by
  have hc := c.isLt
  have hh := h.isLt
  have hd := d.isLt
  unfold matrices
  refine (pad_apply_of_inside (s := S8x128x64) (t := S8x128x128) ![0, 0, 0] ![0, 0, 64] ![0, 0, 0] (cut A) _
    pads_S8x128x64_S8x128x128_000_000_0640 h_S_ (ix3 h c (front d)) (ix3 h c d)
    (fun a => match a with
      | ⟨0, _⟩ => show h.val = 0 + h.val * (0 + 1) by omega
      | ⟨1, _⟩ => show c.val = 0 + c.val * (0 + 1) by omega
      | ⟨2, _⟩ => show d.val = 0 + d.val * (0 + 1) by omega)).trans ?_
  refine (extractStridedSlice_apply (s := S8x128x128) (t := S8x128x64) ![0, 0, 0] _ slices_S8x128x128_S8x128x64_0_0_0 (ix3 h c d)
    (ix3 h c (front d)) (fun b => match b with
      | ⟨0, _⟩ => (Nat.zero_add _).symm | ⟨1, _⟩ => (Nat.zero_add _).symm | ⟨2, _⟩ => (Nat.zero_add _).symm)).trans ?_
  refine (transpose_apply (s := S128x8x128) (t := S8x128x128) [1, 0, 2] _ transposes_S128x8x128_S8x128x128_1_0_2 (ix3 h c (front d))
    (ix3 c h (front d)) (fun b => match b with | ⟨0, _⟩ => rfl | ⟨1, _⟩ => rfl | ⟨2, _⟩ => rfl)).trans ?_
  refine (shapeCast_apply _ _ (ix3 c h (front d)) (ix2 c (⟨h.val * 128 + d.val, by omega⟩ : Fin 1024)) ?_).trans rfl
  rw [Shape.rowMajor_val_two, Shape.rowMajor_val_three]
  show c.val * 1024 + (h.val * 128 + d.val) = (c.val * 8 + h.val) * 128 + d.val
  omega

/-- Its other lanes. -/
theorem matrices_off (A : FVec Ideal S128x1024 .f32) (h : Fin 8) (c j : Fin 128) (hj : 64 ≤ j.val) : matrices A (ix3 h c j) = 0 := by
  unfold matrices
  refine (pad_apply_of_not_inside (s := S8x128x64) (t := S8x128x128) ![0, 0, 0] ![0, 0, 64] ![0, 0, 0] (cut A) _
    pads_S8x128x64_S8x128x128_000_000_0640 h_S_ (ix3 h c j) (2 : Fin 3) (fun hin => ?_)).trans ?_
  · have := hin.2.2
    have h' : (j.val - 0) / (0 + 1) < 64 := this
    omega
  · exact sitofp_zero

section
variable (m : (ℓ : Loc nD τ sig) → Buf (Elt Ideal) ℓ) (ρ : Dev nD → PrngReg) (c : Dev nD)

/-- The arguments that the three gradients are computed of. -/
abbrev a2 : S4096x32.Idx → EReal := m ((c : Thread nD τ).loc main_arg2)
abbrev a3 : S4096x16.Idx → EReal := m ((c : Thread nD τ).loc main_arg3)
abbrev a4 : S4096x16.Idx → EReal := m ((c : Thread nD τ).loc main_arg4)
abbrev a12 : S32.Idx → EReal := m ((c : Thread nD τ).loc main_arg12)
abbrev a1 : S4096x128.Idx → EReal := m ((c : Thread nD τ).loc main_arg1)
abbrev a7 : S128.Idx → EReal := m ((c : Thread nD τ).loc main_arg7)
abbrev a8 : S128x1024.Idx → EReal := m ((c : Thread nD τ).loc main_arg8)
abbrev a11 : S64.Idx → EReal := m ((c : Thread nD τ).loc main_arg11)
abbrev a15 : S8x4096x64.Idx → EReal := m ((c : Thread nD τ).loc main_arg15)
/-- The queries' latent, which fills the lanes in front. -/
abbrev a0 : S4096x256.Idx → EReal := m ((c : Thread nD τ).loc main_arg0)
/-- The keys' cotangent. -/
abbrev a14 : S8x4096x96.Idx → EReal := m ((c : Thread nD τ).loc main_arg14)

/-! ## What the kernel finds -/

/-- The rotary part of the keys. -/
theorem found_l : aL m c = placed (a2 m c) := by
  show V m c main_v10 = _
  unfold V V0
  simp only [hostOps0, hostOps0_1, hostOps0_2, hostOps0_3, hostOps0_4, hostOps0_5, hostOps0_6, hostOps0_7, hostOps0_8, hostOps0_9, hostOps0_10,
    hostOps0_11, hostOps0_12, hostOps0_13, List.flatten_cons, List.flatten_nil, List.append_nil, List.cons_append, List.nil_append]
  after_results_simp
  rfl

/-- The table of cosines. -/
theorem found_c : aC m c = packed 0x3F800000#32 (a3 m c) (a3 m c) := by
  show V m c main_v2 = _
  unfold V V0
  simp only [hostOps0, hostOps0_1, hostOps0_2, hostOps0_3, hostOps0_4, hostOps0_5, hostOps0_6, hostOps0_7, hostOps0_8, hostOps0_9, hostOps0_10,
    hostOps0_11, hostOps0_12, hostOps0_13, List.flatten_cons, List.flatten_nil, List.append_nil, List.cons_append, List.nil_append]
  after_results_simp
  rfl

/-- The table of sines. -/
theorem found_s : aS m c = packed 0x00000000#32 (Host.negf (F := Ideal) (a4 m c : FVec Ideal S4096x16 .f32)) (a4 m c) := by
  show V m c main_v6 = _
  unfold V V0
  simp only [hostOps0, hostOps0_1, hostOps0_2, hostOps0_3, hostOps0_4, hostOps0_5, hostOps0_6, hostOps0_7, hostOps0_8, hostOps0_9, hostOps0_10,
    hostOps0_11, hostOps0_12, hostOps0_13, List.flatten_cons, List.flatten_nil, List.append_nil, List.cons_append, List.nil_append]
  after_results_simp
  rfl

/-- The weight. -/
theorem found_w : aW m c = spaced (a12 m c) := by
  show V m c main_v29 = _
  unfold V V0
  simp only [hostOps0, hostOps0_1, hostOps0_2, hostOps0_3, hostOps0_4, hostOps0_5, hostOps0_6, hostOps0_7, hostOps0_8, hostOps0_9, hostOps0_10,
    hostOps0_11, hostOps0_12, hostOps0_13, List.flatten_cons, List.flatten_nil, List.append_nil, List.cons_append, List.nil_append]
  after_results_simp
  rfl

/-- The keys' cotangent. -/
theorem found_k : aK m c = widened (a14 m c) := by
  show V m c main_v33 = _
  unfold V V0
  simp only [hostOps0, hostOps0_1, hostOps0_2, hostOps0_3, hostOps0_4, hostOps0_5, hostOps0_6, hostOps0_7, hostOps0_8, hostOps0_9, hostOps0_10,
    hostOps0_11, hostOps0_12, hostOps0_13, List.flatten_cons, List.flatten_nil, List.append_nil, List.cons_append, List.nil_append]
  after_results_simp
  rfl

/-- The latents side by side. -/
theorem found_x : aX m c = concatenate S4096x384 1 [⟨S4096x256, a0 m c⟩, ⟨S4096x128, a1 m c⟩] concatenates_S4096x256_S4096x128_S4096x384_d1 := by
  show V m c main_v7 = _
  unfold V V0
  simp only [hostOps0, hostOps0_1, hostOps0_2, hostOps0_3, hostOps0_4, hostOps0_5, hostOps0_6, hostOps0_7, hostOps0_8, hostOps0_9, hostOps0_10,
    hostOps0_11, hostOps0_12, hostOps0_13, List.flatten_cons, List.flatten_nil, List.append_nil, List.cons_append, List.nil_append]
  after_results_simp
  rfl

/-- The weight of the latents' norm. -/
theorem found_y : aY m c = broadcastInDim S1x128 ![1] bcast_S128_S1x128_1 (a7 m c) := by
  show V m c main_v22 = _
  unfold V V0
  simp only [hostOps0, hostOps0_1, hostOps0_2, hostOps0_3, hostOps0_4, hostOps0_5, hostOps0_6, hostOps0_7, hostOps0_8, hostOps0_9, hostOps0_10,
    hostOps0_11, hostOps0_12, hostOps0_13, List.flatten_cons, List.flatten_nil, List.append_nil, List.cons_append, List.nil_append]
  after_results_simp

/-- The values' cotangent. -/
theorem found_v : aV m c = a15 m c := by
  show V m c main_arg15 = _
  unfold V V0
  simp only [hostOps0, hostOps0_1, hostOps0_2, hostOps0_3, hostOps0_4, hostOps0_5, hostOps0_6, hostOps0_7, hostOps0_8, hostOps0_9, hostOps0_10,
    hostOps0_11, hostOps0_12, hostOps0_13, List.flatten_cons, List.flatten_nil, List.append_nil, List.cons_append, List.nil_append]
  after_results_simp

/-- The heads' matrices. -/
theorem found_b : aB m c = matrices (a8 m c) := by
  show V m c main_v19 = _
  unfold V V0
  simp only [hostOps0, hostOps0_1, hostOps0_2, hostOps0_3, hostOps0_4, hostOps0_5, hostOps0_6, hostOps0_7, hostOps0_8, hostOps0_9, hostOps0_10,
    hostOps0_11, hostOps0_12, hostOps0_13, List.flatten_cons, List.flatten_nil, List.append_nil, List.cons_append, List.nil_append]
  after_results_simp
  rfl

/-- The lanes of what it finds. -/
theorem hx (r : Fin 4096) (d : Fin 128) : aX m c (ix2 r (behind d)) = QkvRef.latents (a1 m c) r d := by
  rw [found_x]; exact cat_right (a0 m c) (a1 m c) _ r (behind d) d (Nat.add_comm _ _)
theorem hy (d : Fin 128) : aY m c (ix2 0 d) = QkvRef.lweight (a7 m c) d := by
  rw [found_y]
  exact broadcastInDim_apply (s := S128) (t := S1x128) _ _ _ (ix2 0 d) (ix1 d) (fun b => match b with | ⟨0, _⟩ => rfl)
theorem hb (h : Fin 8) (e : Fin 128) (d : Fin 64) : aB m c (ix3 h e (front d)) = QkvRef.kmat (a8 m c) h e d := by
  rw [found_b]; exact matrices_front _ h e d
theorem hz (h : Fin 8) (e j : Fin 128) (hj : 64 ≤ j.val) : aB m c (ix3 h e j) = 0 := by rw [found_b]; exact matrices_off _ h e j hj
theorem hk (r : Fin 4096) (d : Fin 32) : aL m c (ix2 r (lane d)) = QkvRef.keys (a2 m c) r d := by rw [found_l]; exact placed_at _ r d
theorem hc0 (r : Fin 4096) (e : Fin 16) : aC m c (ix2 r (lane (lo e))) = QkvRef.table (a3 m c) r e := by rw [found_c]; exact packed_lo _ _ _ r e
theorem hc1 (r : Fin 4096) (e : Fin 16) : aC m c (ix2 r (lane (hi e))) = QkvRef.table (a3 m c) r e := by rw [found_c]; exact packed_hi _ _ _ r e
theorem hs0 (r : Fin 4096) (e : Fin 16) : aS m c (ix2 r (lane (lo e))) = -QkvRef.table (a4 m c) r e := by rw [found_s]; exact packed_lo _ _ _ r e
theorem hs1 (r : Fin 4096) (e : Fin 16) : aS m c (ix2 r (lane (hi e))) = QkvRef.table (a4 m c) r e := by rw [found_s]; exact packed_hi _ _ _ r e
theorem hw (d : Fin 32) : aW m c (ix2 0 (lane d)) = QkvRef.weight (a12 m c) d := by rw [found_w]; exact spaced_at _ d
theorem hg (r : Fin 4096) (d : Fin 32) : ∑ h : Fin 8, aK m c (ix3 h r (lane d)) = QkvRef.cot (a14 m c) r d := by
  rw [found_k]; exact Finset.sum_congr rfl fun h _ => widened_at _ h r d

/-! ## What the lines behind the kernel make of its arrays -/

/-- The arrays of the windows after the region. -/
theorem after (w : Fin cfg0.W) :
    Pipeline.withArrays cfg0.spec c (V0 m c) (fun w => (dats m 0 c).arrAt w cfg0.N) (Proc.devRef .tc (Pipeline.arrRef cfg0.spec w)) = (dats m 0 c).arrAt w cfg0.N :=
  Pipeline.withArrays_arr spec0 launch0.win.arr_inj c (V0 m c) (fun w => (dats m 0 c).arrAt w (cfgs 0).N) w

/-- The gradient of the rotary part in its lanes. -/
theorem left16 : Pipeline.withArrays (cfgs 0).spec c (V0 m c) (fun w => (dats m 0 c).arrAt w (cfgs 0).N) (Proc.devRef .tc main_v34_1)
    = (dats m 0 c).arrAt 16 cfg0.N := after m c 16
/-- The gradient of the weight in its lanes. -/
theorem left24 : Pipeline.withArrays (cfgs 0).spec c (V0 m c) (fun w => (dats m 0 c).arrAt w (cfgs 0).N) (Proc.devRef .tc main_v34_9)
    = (dats m 0 c).arrAt 24 cfg0.N := after m c 24

/-- The gradient of the values' weight. -/
theorem left21 : Pipeline.withArrays (cfgs 0).spec c (V0 m c) (fun w => (dats m 0 c).arrAt w (cfgs 0).N) (Proc.devRef .tc main_v34_6)
    = (dats m 0 c).arrAt 21 cfg0.N := after m c 21

/-- The gradient of the weight of the keys' norm. -/
theorem left23 : Pipeline.withArrays (cfgs 0).spec c (V0 m c) (fun w => (dats m 0 c).arrAt w (cfgs 0).N) (Proc.devRef .tc main_v34_8)
    = (dats m 0 c).arrAt 23 cfg0.N := after m c 23

/-- The gradient of the rotary part of the keys. -/
theorem end_k : Pipeline.afterTail₀ cfgs (dats m) 0 (V0 m) [hostOps1] c main_v35
    = Cert.QkvRefIdeal.Read.val_main_v157 (F := Ideal) (a2 m c) (a3 m c) (a4 m c) (a12 m c) (a14 m c) := by
  have e : Pipeline.afterTail₀ cfgs (dats m) 0 (V0 m) [hostOps1] c main_v35
      = extractStridedSlice S4096x32 ![0, 64] ((dats m 0 c).arrAt 16 cfg0.N) slices_S4096x128_S4096x32_0_64 := by
    unfold Pipeline.afterTail₀
    simp only [hostOps1, List.flatten_cons, List.flatten_nil, List.append_nil]
    after_results_simp
    rw [left16]
  rw [e, final16]
  funext i
  obtain ⟨r, d, rfl⟩ : ∃ (r : Fin 4096) (d : Fin 32), i = ix2 r d := ⟨i 0, i 1, eq_ix2 i⟩
  rw [QkvRef.drow_at]
  refine (extractStridedSlice_apply (s := S4096x128) (t := S4096x32) ![0, 64]
    (fun i : S4096x128.Idx => gradAt m c (pt ((i 0 : Nat) / 512)) (ix2 (off (i 0)) (i 1))) slices_S4096x128_S4096x32_0_64 (ix2 r d) (ix2 r (lane d))
    (fun b => match b with | ⟨0, _⟩ => (Nat.zero_add _).symm | ⟨1, _⟩ => rfl)).trans ?_
  show gradAt m c (pt (r.val / 512)) (ix2 (off r) (lane d)) = _
  rw [val_grad m c (pt (r.val / 512)) (QkvRef.keys (a2 m c)) (QkvRef.table (a3 m c)) (QkvRef.table (a4 m c)) (QkvRef.cot (a14 m c))
    (QkvRef.weight (a12 m c)) (hk m c) (hc0 m c) (hc1 m c) (hs0 m c) (hs1 m c) (hg m c) (hw m c), at_off]

/-- The gradient of its norm's weight. -/
theorem end_w : Pipeline.afterTail₀ cfgs (dats m) 0 (V0 m) [hostOps1] c main_v37
    = Cert.QkvRefIdeal.Read.val_main_v141 (F := Ideal) (a2 m c) (a3 m c) (a4 m c) (a14 m c) := by
  have e : Pipeline.afterTail₀ cfgs (dats m) 0 (V0 m) [hostOps1] c main_v37
      = shapeCast S32 (extractStridedSlice S1x32 ![0, 64] ((dats m 0 c).arrAt 24 cfg0.N) slices_S1x128_S1x32_0_64) shapeCasts_S1x32_S32 := by
    unfold Pipeline.afterTail₀
    simp only [hostOps1, List.flatten_cons, List.flatten_nil, List.append_nil]
    after_results_simp
    rw [left24]
    rfl
  rw [e, final24]
  funext i
  obtain ⟨d, rfl⟩ : ∃ d : Fin 32, i = ix1 d := ⟨i 0, funext fun a => match a with | ⟨0, _⟩ => rfl⟩
  rw [QkvRef.dweight_at]
  refine (shapeCast_apply _ _ (ix1 d) (ix2 0 d) (by rw [Shape.rowMajor_val_two, Shape.rowMajor_val_one]; exact Nat.zero_add _)).trans ?_
  refine (extractStridedSlice_apply (s := S1x128) (t := S1x32) ![0, 64] _ slices_S1x128_S1x32_0_64 (ix2 0 d) (ix2 0 (lane d))
    (fun b => match b with | ⟨0, _⟩ => rfl | ⟨1, _⟩ => rfl)).trans ?_
  refine (total m c (pt 7) rfl (ix2 0 (lane d))).trans ?_
  refine (Finset.sum_congr rfl fun s _ => val_wgrad m c _ (QkvRef.keys (a2 m c)) (QkvRef.table (a3 m c)) (QkvRef.table (a4 m c))
    (QkvRef.cot (a14 m c)) (hk m c) (hc0 m c) (hc1 m c) (hs0 m c) (hs1 m c) (hg m c) d).trans ?_
  exact sum_rows (pt 7) rfl fun r => QkvRef.keys (a2 m c) r d * root (QkvRef.keys (a2 m c) r) * QkvRef.back (a3 m c) (a4 m c) (a14 m c) r d

/-- The gradient of the values' weight, with the heads in the middle. -/
theorem end_v : Pipeline.afterTail₀ cfgs (dats m) 0 (V0 m) [hostOps1] c main_v38
    = Cert.QkvRefIdeal.Read.val_main_v425 (F := Ideal) (a1 m c) (a7 m c) (a8 m c) (a11 m c) (a14 m c) (a15 m c) := by
  have e : Pipeline.afterTail₀ cfgs (dats m) 0 (V0 m) [hostOps1] c main_v38
      = transpose S128x8x64 [1, 0, 2] ((dats m 0 c).arrAt 21 cfg0.N) transposes_S8x128x64_S128x8x64_1_0_2 := by
    unfold Pipeline.afterTail₀
    simp only [hostOps1, List.flatten_cons, List.flatten_nil, List.append_nil]
    after_results_simp
    rw [left21]
  rw [e, final21]
  funext i
  obtain ⟨d, h, v, rfl⟩ : ∃ (d : Fin 128) (h : Fin 8) (v : Fin 64), i = ix3 d h v := ⟨i 0, i 1, i 2, eq_ix3 i⟩
  rw [QkvRef.dvalue_at]
  refine (transpose_apply (s := S8x128x64) (t := S128x8x64) [1, 0, 2] _ transposes_S8x128x64_S128x8x64_1_0_2 (ix3 d h v) (ix3 h d v)
    (fun b => match b with | ⟨0, _⟩ => rfl | ⟨1, _⟩ => rfl | ⟨2, _⟩ => rfl)).trans ?_
  refine (vtotal m c (pt 7) rfl (ix3 h d v)).trans ?_
  refine (Finset.sum_congr rfl fun s _ => val_vgrad m c _ (QkvRef.latents (a1 m c)) (QkvRef.lweight (a7 m c)) (hx m c) (hy m c) h d v).trans ?_
  refine (sum_rows (pt 7) rfl fun r => latentRow (QkvRef.latents (a1 m c) r) (QkvRef.lweight (a7 m c)) d * aV m c (ix3 h r v)).trans ?_
  rw [found_v]

/-- The gradient of the weight of the keys' norm. -/
theorem end_n : Pipeline.afterTail₀ cfgs (dats m) 0 (V0 m) [hostOps1] c main_v40
    = Cert.QkvRefIdeal.Read.val_main_v423 (F := Ideal) (a1 m c) (a7 m c) (a8 m c) (a14 m c) := by
  have e : Pipeline.afterTail₀ cfgs (dats m) 0 (V0 m) [hostOps1] c main_v40
      = shapeCast S64 (extractStridedSlice S1x64 ![0, 0] ((dats m 0 c).arrAt 23 cfg0.N) slices_S1x128_S1x64_0_0) shapeCasts_S1x64_S64 := by
    unfold Pipeline.afterTail₀
    simp only [hostOps1, List.flatten_cons, List.flatten_nil, List.append_nil]
    after_results_simp
    rw [left23]
    rfl
  rw [e, final23]
  funext i
  obtain ⟨d, rfl⟩ : ∃ d : Fin 64, i = ix1 d := ⟨i 0, funext fun a => match a with | ⟨0, _⟩ => rfl⟩
  rw [QkvRef.dkey_at]
  refine (shapeCast_apply _ _ (ix1 d) (ix2 0 d) (by rw [Shape.rowMajor_val_two, Shape.rowMajor_val_one]; exact Nat.zero_add _)).trans ?_
  refine (extractStridedSlice_apply (s := S1x128) (t := S1x64) ![0, 0] _ slices_S1x128_S1x64_0_0 (ix2 0 d) (ix2 0 (front d))
    (fun b => match b with | ⟨0, _⟩ => rfl | ⟨1, _⟩ => (Nat.zero_add _).symm)).trans ?_
  refine (ktotal m c (pt 7) rfl (ix2 0 (front d))).trans ?_
  refine (Finset.sum_congr rfl fun s _ => val_kgrad m c _ (QkvRef.latents (a1 m c)) (QkvRef.lweight (a7 m c)) (QkvRef.kmat (a8 m c))
    (hx m c) (hy m c) (hb m c) (hz m c) d).trans ?_
  refine (sum_rows (pt 7) rfl fun r => ∑ h : Fin 8, QkvRef.krow (a1 m c) (a7 m c) (a8 m c) r h d
    * root64 (QkvRef.krow (a1 m c) (a7 m c) (a8 m c) r h) * aK m c (ix3 h r (front d))).trans ?_
  rw [found_k]
  exact Finset.sum_congr rfl fun r _ => Finset.sum_congr rfl fun h _ => congrArg (_ * ·) (widened_front _ h r d)

/-- Every run of the kernel ends with the reference's gradients in the four results and the arguments as they were. -/
theorem results : θ_run defs (onTc (τ := τ) (main (F := Ideal))) ⟨m, fun _ => 0, ρ⟩ (fun r => ∀ c : Dev nD,
    r.2.mem ((c.tc : Thread nD τ).loc main_v35) = Cert.QkvRefIdeal.Read.val_main_v157 (F := Ideal) (a2 m c) (a3 m c) (a4 m c) (a12 m c) (a14 m c)
      ∧ r.2.mem ((c.tc : Thread nD τ).loc main_v37) = Cert.QkvRefIdeal.Read.val_main_v141 (F := Ideal) (a2 m c) (a3 m c) (a4 m c) (a14 m c)
      ∧ r.2.mem ((c.tc : Thread nD τ).loc main_v38) = Cert.QkvRefIdeal.Read.val_main_v425 (F := Ideal) (a1 m c) (a7 m c) (a8 m c) (a11 m c) (a14 m c) (a15 m c)
      ∧ r.2.mem ((c.tc : Thread nD τ).loc main_v40) = Cert.QkvRefIdeal.Read.val_main_v423 (F := Ideal) (a1 m c) (a7 m c) (a8 m c) (a14 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c =>
    ⟨((h.2 c).2 main_v35 (Pipeline.mem_restRefs_of main_v35 (by decide) (by decide))).trans (end_k m c),
      ((h.2 c).2 main_v37 (Pipeline.mem_restRefs_of main_v37 (by decide) (by decide))).trans (end_w m c),
      ((h.2 c).2 main_v38 (Pipeline.mem_restRefs_of main_v38 (by decide) (by decide))).trans (end_v m c),
      ((h.2 c).2 main_v40 (Pipeline.mem_restRefs_of main_v40 (by decide) (by decide))).trans (end_n m c), h.1 c⟩)
    (θ_run_and (unchanged m ρ) (run m ρ))

end

end Cert.Proof.QkvRun

end
-- ==== Proof.QkvBits.lean ====
/- The frame of the compiled kernel for the gradients of queries, keys and values: its program is the idealized one's, so the run of that one
   is its run. -/
module

public import proofs.«01_k».proof.Defs
public import proofs.«01_k».proof.Proof.QkvFrame
public import proofs.«01_k».proof.Proof.Gen.Qkv
public import Idealize.ShloMosaic.Lib.Tactic

@[expose] public section

noncomputable section

namespace Cert.Proof

open Idealize.ShloMosaic Idealize.SL.Sem Idealize.ShloMosaic.Tactic

/-- Every run of the compiled kernel ends, keeps its arguments and leaves its semaphores as they were. -/
theorem frame_qkv : Cert.quiescent_Qkv (hQkv := Cert.Qkv.Gen.facts) := by
  have e : Cert.quiescent_Qkv (hQkv := Cert.Qkv.Gen.facts) = (∀ (m : (ℓ : Loc Cert.QkvIdeal.nD Cert.QkvIdeal.τ Cert.QkvIdeal.sig) → Buf (Elt Bits) ℓ)
      (g : Dev Cert.QkvIdeal.nD → PrngReg), True → θ_run (Cert.QkvIdeal.defs (F := Bits)) (onTc (τ := Cert.QkvIdeal.τ) (Cert.QkvIdeal.main (F := Bits)))
        ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
      ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11)
      ∧ r.2.mem ((c.tc : Thread Cert.QkvIdeal.nD Cert.QkvIdeal.τ).loc Cert.QkvIdeal.main_arg12) = m ((c.tc : Thread Cert.QkvIdeal.nD Cert.QkvIdeal.τ).loc Cert.QkvIdeal.main_arg12)
      ∧ r.2.mem ((c.tc : Thread Cert.QkvIdeal.nD Cert.QkvIdeal.τ).loc Cert.QkvIdeal.main_arg13) = m ((c.tc : Thread Cert.QkvIdeal.nD Cert.QkvIdeal.τ).loc Cert.QkvIdeal.main_arg13)
      ∧ r.2.mem ((c.tc : Thread Cert.QkvIdeal.nD Cert.QkvIdeal.τ).loc Cert.QkvIdeal.main_arg14) = m ((c.tc : Thread Cert.QkvIdeal.nD Cert.QkvIdeal.τ).loc Cert.QkvIdeal.main_arg14)
      ∧ r.2.mem ((c.tc : Thread Cert.QkvIdeal.nD Cert.QkvIdeal.τ).loc Cert.QkvIdeal.main_arg15) = m ((c.tc : Thread Cert.QkvIdeal.nD Cert.QkvIdeal.τ).loc Cert.QkvIdeal.main_arg15))
      ∧ r.2.sem = fun _ => 0)) := by sl_kernel_rfl
  rw [e]
  exact fun m ρ _ => Cert.QkvIdeal.Gen.quiescent m ρ

end Cert.Proof

end
-- ==== Proof.lean ====
module

public import proofs.«01_k».proof.Defs
public import proofs.«01_k».proof.Proof.AdaValue
public import proofs.«01_k».proof.Proof.Gen.Ada.Frame
public import proofs.«01_k».proof.Proof.Gen.AdaIdeal.Value
public import proofs.«01_k».proof.Proof.Gen.AdaRefIdeal.Run
public import proofs.«01_k».proof.Proof.Gen.AdaRefIdeal.Read
public import proofs.«01_k».proof.Proof.AttnBits
public import proofs.«01_k».proof.Proof.AttnFrame
public import proofs.«01_k».proof.Proof.AttnRun
public import proofs.«01_k».proof.Proof.AttnRef
public import proofs.«01_k».proof.Proof.Finite
public import proofs.«01_k».proof.Proof.Gen.Attn.Frame
public import proofs.«01_k».proof.Proof.Gen.AttnIdeal.Frame
public import proofs.«01_k».proof.Proof.Gen.AttnRefIdeal.Run
public import proofs.«01_k».proof.Proof.Gen.AttnRefIdeal.Read
public import proofs.«01_k».proof.Proof.Gen.Pre_finite
public import proofs.«01_k».proof.Proof.MlpRun
public import proofs.«01_k».proof.Proof.Gen.Mlp.Frame
public import proofs.«01_k».proof.Proof.Gen.MlpIdeal.Frame
public import proofs.«01_k».proof.Proof.Gen.MlpRefIdeal.Run
public import proofs.«01_k».proof.Proof.Gen.MlpRefIdeal.Read
public import proofs.«01_k».proof.Proof.ProjRun
public import proofs.«01_k».proof.Proof.OutRun
public import proofs.«01_k».proof.Proof.LossRun
public import proofs.«01_k».proof.Proof.LossBits
public import proofs.«01_k».proof.Proof.QkvRun
public import proofs.«01_k».proof.Proof.QkvBits
public import proofs.«01_k».proof.Proof.Gen.Proj.Frame
public import proofs.«01_k».proof.Proof.Gen.ProjIdeal.Frame
public import proofs.«01_k».proof.Proof.Gen.ProjRefIdeal.Run
public import proofs.«01_k».proof.Proof.Gen.ProjRefIdeal.Read
public import proofs.«01_k».proof.Proof.Gen.Out.Frame
public import proofs.«01_k».proof.Proof.Gen.QkvRefIdeal.Run
public import proofs.«01_k».proof.Proof.Gen.QkvRefIdeal.Read
public import proofs.«01_k».proof.Proof.Gen.OutIdeal.Frame
public import proofs.«01_k».proof.Proof.Gen.OutRefIdeal.Run
public import proofs.«01_k».proof.Proof.Gen.OutRefIdeal.Read
public import proofs.«01_k».proof.Proof.Gen.Loss.Frame
public import proofs.«01_k».proof.Proof.Gen.LossIdeal.Frame
public import proofs.«01_k».proof.Proof.Gen.LossRefIdeal.Run
public import proofs.«01_k».proof.Proof.Gen.LossRefIdeal.Read
public import Idealize.ShloMosaic.Lib.Quiescent
public import Idealize.ShloMosaic.Adequacy
public import Idealize.ShloMosaic.Init

@[expose] public section

noncomputable section

namespace Cert.Proof

open Idealize.ShloMosaic Idealize.SL.Sem

/-- The reference of the conditioning gradient runs, keeps its arguments and declares no semaphore. -/
theorem frame_ada_ref : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

/-- The conditioning gradient: kernel and reference end with the same array. -/
theorem algebraic_ada : Cert.algebraic_AdaIdeal_AdaRefIdeal := by
  intro m ρ m' ρ' _ hagree
  refine ⟨fun c => AdaValue.G (m ((c.tc : Thread Cert.AdaIdeal.nD Cert.AdaIdeal.τ).loc Cert.AdaIdeal.main_arg0))
    (m ((c.tc : Thread Cert.AdaIdeal.nD Cert.AdaIdeal.τ).loc Cert.AdaIdeal.main_arg2)), ?_, ?_⟩
  · exact (θ_run Cert.AdaIdeal.defs _ _).mono (fun _ h c => ⟨(h c).1.trans (AdaValue.final m c), (h c).2⟩)
      (Cert.AdaIdeal.Value.run_blocks m ρ)
  · refine (θ_run Cert.AdaRefIdeal.defs _ _).mono (fun _ h c => ⟨(h c).1.trans ?_, (h c).2⟩)
      (Cert.AdaRefIdeal.Value.run (F := Ideal) m' ρ')
    rw [(hagree c).1, (hagree c).2.2]
    exact AdaValue.ref_eq _ _

/-- The reference of the attention's gradients runs, keeps its arguments and declares no semaphore. -/
theorem frame_attn_ref : Cert.quiescent_AttnRefIdeal := fun m ρ _ =>
  (θ_run Cert.AttnRefIdeal.defs _ _).mono (fun r h => ⟨fun c => (h c).2.2.2, sem_eq_zero_of_no_sems (by decide) r.2⟩)
    (Cert.AttnRefIdeal.Value.run (F := Ideal) m ρ)

/-- The idealized attention kernel is the compiled one with two constants named: the mask, minus infinity, and the logarithm of two. -/
theorem preserves_attn : Cert.preserves_Attn_AttnIdeal :=
  ⟨IdealRules.named_const.statement Cert.AttnIdeal.κ "mask" .f32 0xF149F2CA#32 ⊥ rfl,
    IdealRules.named_const.statement Cert.AttnIdeal.κ "ln2" .f32 0x3F317218#32 ((Real.log 2 : ℝ) : EReal) rfl⟩

/-- The attention's gradients: kernel and reference end with the same three arrays, the arguments being finite. -/
theorem algebraic_attn : Cert.algebraic_AttnIdeal_AttnRefIdeal_pre_finite := by
  intro m ρ m' ρ' hfin hagree
  have A : Cert.AttnIdeal.Gen.Args m (fun c => Finite.reals (m ((c.tc : Thread Cert.AttnIdeal.nD Cert.AttnIdeal.τ).loc Cert.AttnIdeal.main_arg0)))
      (fun c => Finite.reals (m ((c.tc : Thread Cert.AttnIdeal.nD Cert.AttnIdeal.τ).loc Cert.AttnIdeal.main_arg1)))
      (fun c => Finite.reals (m ((c.tc : Thread Cert.AttnIdeal.nD Cert.AttnIdeal.τ).loc Cert.AttnIdeal.main_arg2)))
      (fun c => Finite.reals (m ((c.tc : Thread Cert.AttnIdeal.nD Cert.AttnIdeal.τ).loc Cert.AttnIdeal.main_arg3))) :=
    ⟨fun c => (Finite.of_finite (hfin c)).1, fun c => (Finite.of_finite (hfin c)).2.1, fun c => (Finite.of_finite (hfin c)).2.2.1,
      fun c => (Finite.of_finite (hfin c)).2.2.2⟩
  refine ⟨_, _, _, Cert.AttnIdeal.Gen.results ρ A, ?_⟩
  refine (θ_run Cert.AttnRefIdeal.defs _ _).mono (fun _ h c => ⟨(h c).1.trans ?_, (h c).2.1.trans ?_, (h c).2.2.1.trans ?_, (h c).2.2.2⟩)
    (Cert.AttnRefIdeal.Value.run (F := Ideal) m' ρ')
  · rw [Cert.AttnRefIdeal.Read.val_main_v58_eq, (hagree c).1, (hagree c).2.1, (hagree c).2.2.1, (hagree c).2.2.2]
    exact Cert.AttnIdeal.Gen.eq_arr3 (AttnRef.queries (A.q c) (A.k c) (A.v c) (A.d c)) fun _ _ _ _ _ _ => rfl
  · rw [Cert.AttnRefIdeal.Read.val_main_v57_eq, (hagree c).1, (hagree c).2.1, (hagree c).2.2.1, (hagree c).2.2.2]
    exact Cert.AttnIdeal.Gen.eq_arr3 (AttnRef.keys (A.q c) (A.k c) (A.v c) (A.d c)) fun _ _ _ _ _ _ => rfl
  · rw [Cert.AttnRefIdeal.Read.val_main_v40_eq, (hagree c).1, (hagree c).2.1, (hagree c).2.2.2]
    exact Cert.AttnIdeal.Gen.eq_arr3 (AttnRef.values (A.q c) (A.k c) (A.d c)) fun _ _ _ _ _ _ => rfl

/-- The reference of the feed-forward block's gradients runs, keeps its arguments and declares no semaphore. -/
theorem frame_mlp_ref : Cert.quiescent_MlpRefIdeal := fun m ρ _ =>
  (θ_run Cert.MlpRefIdeal.defs _ _).mono (fun r h => ⟨fun c => (h c).2.2.2, sem_eq_zero_of_no_sems (by decide) r.2⟩)
    (Cert.MlpRefIdeal.Value.run (F := Ideal) m ρ)

/-- The feed-forward block's gradients: kernel and reference end with the same three arrays. -/
theorem algebraic_mlp : Cert.algebraic_MlpIdeal_MlpRefIdeal := by
  intro m ρ m' ρ' _ hagree
  refine ⟨_, _, _, MlpRun.results m ρ, ?_⟩
  refine (θ_run Cert.MlpRefIdeal.defs _ _).mono (fun _ h c => ⟨(h c).1.trans ?_, (h c).2.1.trans ?_, (h c).2.2.1.trans ?_, (h c).2.2.2⟩)
    (Cert.MlpRefIdeal.Value.run (F := Ideal) m' ρ')
  · rw [Cert.MlpRefIdeal.Read.val_main_v19_eq, (hagree c).1, (hagree c).2.1, (hagree c).2.2.1, (hagree c).2.2.2.1, (hagree c).2.2.2.2]
  · rw [Cert.MlpRefIdeal.Read.val_main_v18_eq, (hagree c).1, (hagree c).2.1, (hagree c).2.2.1, (hagree c).2.2.2.1, (hagree c).2.2.2.2]
  · rw [Cert.MlpRefIdeal.Read.val_main_v11_eq, (hagree c).1, (hagree c).2.1, (hagree c).2.2.2.1, (hagree c).2.2.2.2]

/-- The reference of the input projection's gradients runs, keeps its arguments and declares no semaphore. -/
theorem frame_proj_ref : Cert.quiescent_ProjRefIdeal := fun m ρ _ =>
  (θ_run Cert.ProjRefIdeal.defs _ _).mono (fun r h => ⟨fun c => (h c).2.2.2.2.2, sem_eq_zero_of_no_sems (by decide) r.2⟩)
    (Cert.ProjRefIdeal.Value.run (F := Ideal) m ρ)

/-- The input projection's gradients: kernel and reference end with the same five arrays. -/
theorem algebraic_proj : Cert.algebraic_ProjIdeal_ProjRefIdeal := by
  intro m ρ m' ρ' _ hagree
  refine ⟨_, _, _, _, _, ProjRun.results m ρ, ?_⟩
  refine (θ_run Cert.ProjRefIdeal.defs _ _).mono (fun _ h c => ⟨(h c).1.trans ?_, (h c).2.1.trans ?_, (h c).2.2.1.trans ?_, (h c).2.2.2.1.trans ?_,
    (h c).2.2.2.2.1.trans ?_, (h c).2.2.2.2.2⟩) (Cert.ProjRefIdeal.Value.run (F := Ideal) m' ρ')
  · rw [Cert.ProjRefIdeal.Read.val_main_v53_eq, (hagree c).1, (hagree c).2.1, (hagree c).2.2.2.1, (hagree c).2.2.2.2.1, (hagree c).2.2.2.2.2.1, (hagree c).2.2.2.2.2.2]
  · rw [Cert.ProjRefIdeal.Read.val_main_v38_eq, (hagree c).1, (hagree c).2.2.2.1, (hagree c).2.2.2.2.1, (hagree c).2.2.2.2.2.1]
  · rw [Cert.ProjRefIdeal.Read.val_main_v27_eq, (hagree c).2.2.2.2.1, (hagree c).2.2.2.2.2.1]
  · rw [Cert.ProjRefIdeal.Read.val_main_v30_eq, (hagree c).1, (hagree c).2.1, (hagree c).2.2.2.2.1, (hagree c).2.2.2.2.2.1]
  · rw [Cert.ProjRefIdeal.Read.val_main_v24_eq, (hagree c).1, (hagree c).2.1, (hagree c).2.2.1, (hagree c).2.2.2.1, (hagree c).2.2.2.2.2.1]

/-- The reference of the output projection's gradients runs, keeps its arguments and declares no semaphore. -/
theorem frame_out_ref : Cert.quiescent_OutRefIdeal := fun m ρ _ =>
  (θ_run Cert.OutRefIdeal.defs _ _).mono (fun r h => ⟨fun c => (h c).2.2.2.2.2.2.2.2.2.2, sem_eq_zero_of_no_sems (by decide) r.2⟩)
    (Cert.OutRefIdeal.Value.run (F := Ideal) m ρ)

set_option maxHeartbeats 2000000 in
/-- The output projection's gradients: kernel and reference end with the same ten arrays. -/
theorem algebraic_out : Cert.algebraic_OutIdeal_OutRefIdeal := by
  intro m ρ m' ρ' _ hagree
  refine ⟨_, _, _, _, _, _, _, _, _, _, OutRun.results m ρ, ?_⟩
  refine (θ_run Cert.OutRefIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_,
    (h c).2.2.2.2.2.2.2.2.2.2⟩) (Cert.OutRefIdeal.Value.run (F := Ideal) m' ρ')
  · rw [Cert.OutRefIdeal.Read.val_main_v71_eq, (hagree c).1, (hagree c).2.1, (hagree c).2.2.1, (hagree c).2.2.2.1, (hagree c).2.2.2.2.1, (hagree c).2.2.2.2.2.1, (hagree c).2.2.2.2.2.2.2.1, (hagree c).2.2.2.2.2.2.2.2.2.2.2.1, (hagree c).2.2.2.2.2.2.2.2.2.2.2.2]
  · rw [Cert.OutRefIdeal.Read.val_main_v56_eq, (hagree c).1, (hagree c).2.1, (hagree c).2.2.1, (hagree c).2.2.2.1, (hagree c).2.2.2.2.1, (hagree c).2.2.2.2.2.2.2.1, (hagree c).2.2.2.2.2.2.2.2.2.2.2.2]
  · rw [Cert.OutRefIdeal.Read.val_main_v45_eq, (hagree c).2.2.2.2.2.2.2.2.2.2.2.2]
  · rw [Cert.OutRefIdeal.Read.val_main_v48_eq, (hagree c).1, (hagree c).2.1, (hagree c).2.2.1, (hagree c).2.2.2.1, (hagree c).2.2.2.2.1, (hagree c).2.2.2.2.2.1, (hagree c).2.2.2.2.2.2.2.2.2.2.2.2]
  · rw [Cert.OutRefIdeal.Read.val_main_v83_eq, (hagree c).1, (hagree c).2.1, (hagree c).2.2.1, (hagree c).2.2.2.1, (hagree c).2.2.2.2.1, (hagree c).2.2.2.2.2.1, (hagree c).2.2.2.2.2.2.2.1, (hagree c).2.2.2.2.2.2.2.2.2.2.2.1, (hagree c).2.2.2.2.2.2.2.2.2.2.2.2]
  · rw [Cert.OutRefIdeal.Read.val_main_v85_eq, (hagree c).1, (hagree c).2.1, (hagree c).2.2.1, (hagree c).2.2.2.1, (hagree c).2.2.2.2.1, (hagree c).2.2.2.2.2.1, (hagree c).2.2.2.2.2.2.2.1, (hagree c).2.2.2.2.2.2.2.2.2.2.2.1, (hagree c).2.2.2.2.2.2.2.2.2.2.2.2]
  · rw [Cert.OutRefIdeal.Read.val_main_v81_eq, (hagree c).1, (hagree c).2.1, (hagree c).2.2.1, (hagree c).2.2.2.1, (hagree c).2.2.2.2.1, (hagree c).2.2.2.2.2.1, (hagree c).2.2.2.2.2.2.2.1, (hagree c).2.2.2.2.2.2.2.2.2.2.2.1, (hagree c).2.2.2.2.2.2.2.2.2.2.2.2]
  · rw [Cert.OutRefIdeal.Read.val_main_v76_eq, (hagree c).1, (hagree c).2.1, (hagree c).2.2.1, (hagree c).2.2.2.1, (hagree c).2.2.2.2.1, (hagree c).2.2.2.2.2.1, (hagree c).2.2.2.2.2.2.2.1, (hagree c).2.2.2.2.2.2.2.2.2.2.2.1, (hagree c).2.2.2.2.2.2.2.2.2.2.2.2]
  · rw [Cert.OutRefIdeal.Read.val_main_v43_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.2.1, (hagree c).2.2.2.2.2.2.2.2.2.2.1, (hagree c).2.2.2.2.2.2.2.2.2.2.2.1]
  · rw [Cert.OutRefIdeal.Read.val_main_v78_eq, (hagree c).1, (hagree c).2.1, (hagree c).2.2.1, (hagree c).2.2.2.1, (hagree c).2.2.2.2.1, (hagree c).2.2.2.2.2.1, (hagree c).2.2.2.2.2.2.2.1, (hagree c).2.2.2.2.2.2.2.2.2.2.2.1, (hagree c).2.2.2.2.2.2.2.2.2.2.2.2]

/-- The reference of the loss's gradient runs, keeps its arguments and declares no semaphore. -/
theorem frame_loss_ref : Cert.quiescent_LossRefIdeal := fun m ρ _ =>
  (θ_run Cert.LossRefIdeal.defs _ _).mono (fun r h => ⟨fun c => (h c).2.2.2.2.2.2, sem_eq_zero_of_no_sems (by decide) r.2⟩)
    (Cert.LossRefIdeal.Value.run (F := Ideal) m ρ)

set_option maxHeartbeats 2000000 in
/-- The feed-forward block with the loss: kernel and reference end with the same loss, the same gradient and the same four arrays
    of the forward step. -/
theorem algebraic_loss : Cert.algebraic_LossIdeal_LossRefIdeal := by
  intro m ρ m' ρ' _ hagree
  refine ⟨_, _, _, _, _, _, LossRun.results m ρ, ?_⟩
  refine (θ_run Cert.LossRefIdeal.defs _ _).mono (fun _ h c => ⟨(h c).1.trans ?_, (h c).2.1.trans ?_, (h c).2.2.1.trans ?_, (h c).2.2.2.1.trans ?_,
    (h c).2.2.2.2.1.trans ?_, (h c).2.2.2.2.2.1.trans ?_, (h c).2.2.2.2.2.2⟩) (Cert.LossRefIdeal.Value.run (F := Ideal) m' ρ')
  · rw [Cert.LossRefIdeal.Read.val_main_v36_eq, (hagree c).1, (hagree c).2.1, (hagree c).2.2.1, (hagree c).2.2.2.1, (hagree c).2.2.2.2.1, (hagree c).2.2.2.2.2.1, (hagree c).2.2.2.2.2.2.1, (hagree c).2.2.2.2.2.2.2]
  · rw [Cert.LossRefIdeal.Read.val_main_v42_eq, (hagree c).1, (hagree c).2.1, (hagree c).2.2.1, (hagree c).2.2.2.1, (hagree c).2.2.2.2.1, (hagree c).2.2.2.2.2.1, (hagree c).2.2.2.2.2.2.1, (hagree c).2.2.2.2.2.2.2]
  · rw [Cert.LossRefIdeal.Read.val_main_v24_eq, (hagree c).1, (hagree c).2.1, (hagree c).2.2.1, (hagree c).2.2.2.1, (hagree c).2.2.2.2.2.1, (hagree c).2.2.2.2.2.2.1]
  · rw [Cert.LossRefIdeal.Read.val_main_v18_eq, (hagree c).1, (hagree c).2.1, (hagree c).2.2.1, (hagree c).2.2.2.1]
  · rw [Cert.LossRefIdeal.Read.val_main_v20_eq, (hagree c).1, (hagree c).2.1, (hagree c).2.2.1, (hagree c).2.2.2.1, (hagree c).2.2.2.2.2.1]
  · rw [Cert.LossRefIdeal.Read.val_main_v21_eq, (hagree c).1, (hagree c).2.1, (hagree c).2.2.1, (hagree c).2.2.2.1, (hagree c).2.2.2.2.2.1]

/-- The reference of the rotary keys' gradients runs, keeps its arguments and declares no semaphore. -/
theorem frame_qkv_ref : Cert.quiescent_QkvRefIdeal := fun m ρ _ =>
  (θ_run Cert.QkvRefIdeal.defs _ _).mono (fun r h => ⟨fun c => (h c).2.2.2.2, sem_eq_zero_of_no_sems (by decide) r.2⟩)
    (Cert.QkvRefIdeal.Value.run (F := Ideal) m ρ)

set_option maxHeartbeats 2000000 in
/-- The gradients of the rotary part of the keys, of its norm's weight, of the values' weight and of the weight of the norm of the keys'
    other part: kernel and reference end with the same four arrays. -/
theorem algebraic_qkv : Cert.algebraic_QkvIdeal_QkvRefIdeal := by
  intro m ρ m' ρ' _ hagree
  have e2 (c : Dev Cert.QkvRefIdeal.nD) : StableHlo.launchContents m' c (Proc.tc.devRef Cert.QkvRefIdeal.main_arg2) = QkvRun.a2 m c := (hagree c).2.2.1
  have e3 (c : Dev Cert.QkvRefIdeal.nD) : StableHlo.launchContents m' c (Proc.tc.devRef Cert.QkvRefIdeal.main_arg3) = QkvRun.a3 m c := (hagree c).2.2.2.1
  have e4 (c : Dev Cert.QkvRefIdeal.nD) : StableHlo.launchContents m' c (Proc.tc.devRef Cert.QkvRefIdeal.main_arg4) = QkvRun.a4 m c := (hagree c).2.2.2.2.1
  have e12 (c : Dev Cert.QkvRefIdeal.nD) : StableHlo.launchContents m' c (Proc.tc.devRef Cert.QkvRefIdeal.main_arg12) = QkvRun.a12 m c := (hagree c).2.2.2.2.2.2.2.2.2.2.2.2.1
  have e14 (c : Dev Cert.QkvRefIdeal.nD) : StableHlo.launchContents m' c (Proc.tc.devRef Cert.QkvRefIdeal.main_arg14) = QkvRun.a14 m c := (hagree c).2.2.2.2.2.2.2.2.2.2.2.2.2.2.1
  have e1 (c : Dev Cert.QkvRefIdeal.nD) : StableHlo.launchContents m' c (Proc.tc.devRef Cert.QkvRefIdeal.main_arg1) = QkvRun.a1 m c := (hagree c).2.1
  have e7 (c : Dev Cert.QkvRefIdeal.nD) : StableHlo.launchContents m' c (Proc.tc.devRef Cert.QkvRefIdeal.main_arg7) = QkvRun.a7 m c := (hagree c).2.2.2.2.2.2.2.1
  have e8 (c : Dev Cert.QkvRefIdeal.nD) : StableHlo.launchContents m' c (Proc.tc.devRef Cert.QkvRefIdeal.main_arg8) = QkvRun.a8 m c := (hagree c).2.2.2.2.2.2.2.2.1
  have e11 (c : Dev Cert.QkvRefIdeal.nD) : StableHlo.launchContents m' c (Proc.tc.devRef Cert.QkvRefIdeal.main_arg11) = QkvRun.a11 m c := (hagree c).2.2.2.2.2.2.2.2.2.2.2.1
  have e15 (c : Dev Cert.QkvRefIdeal.nD) : StableHlo.launchContents m' c (Proc.tc.devRef Cert.QkvRefIdeal.main_arg15) = QkvRun.a15 m c := (hagree c).2.2.2.2.2.2.2.2.2.2.2.2.2.2.2
  refine ⟨_, _, _, _, QkvRun.results m ρ, ?_⟩
  refine (θ_run Cert.QkvRefIdeal.defs _ _).mono (fun _ h c => ⟨(h c).1.trans ?_, (h c).2.1.trans ?_, (h c).2.2.1.trans ?_, (h c).2.2.2.1.trans ?_, (h c).2.2.2.2⟩)
    (Cert.QkvRefIdeal.Value.run (F := Ideal) m' ρ')
  · rw [Cert.QkvRefIdeal.Read.val_main_v157_eq, e2 c, e3 c, e4 c, e12 c, e14 c]
  · rw [Cert.QkvRefIdeal.Read.val_main_v141_eq, e2 c, e3 c, e4 c, e14 c]
  · rw [Cert.QkvRefIdeal.Read.val_main_v425_eq, e1 c, e7 c, e8 c, e11 c, e14 c, e15 c]
  · rw [Cert.QkvRefIdeal.Read.val_main_v423_eq, e1 c, e7 c, e8 c, e14 c]

/-- All claims together. -/
theorem claim : Cert.Claim := ⟨Cert.Ada.Gen.facts, Cert.AdaIdeal.Gen.facts, Cert.AdaRefIdeal.Gen.facts,
  Cert.Attn.Gen.facts, Cert.AttnIdeal.Gen.facts, Cert.AttnRefIdeal.Gen.facts,
  Cert.Mlp.Gen.facts, Cert.MlpIdeal.Gen.facts, Cert.MlpRefIdeal.Gen.facts,
  Cert.Proj.Gen.facts, Cert.ProjIdeal.Gen.facts, Cert.ProjRefIdeal.Gen.facts,
  Cert.Out.Gen.facts, Cert.OutIdeal.Gen.facts, Cert.OutRefIdeal.Gen.facts,
  Cert.Loss.Gen.facts, Cert.LossIdeal.Gen.facts, Cert.LossRefIdeal.Gen.facts,
  Cert.Qkv.Gen.facts, Cert.QkvIdeal.Gen.facts, Cert.QkvRefIdeal.Gen.facts, Cert.Pre_finite.Gen.facts,
  fun m ρ _ => Cert.Ada.Gen.frame m ρ, fun m ρ _ => Cert.AdaIdeal.Gen.frame m ρ, frame_ada_ref,
  fun m ρ _ => Cert.Attn.Gen.quiescent m ρ, fun m ρ _ => Cert.AttnIdeal.Gen.quiescent m ρ, fun m ρ _ => Cert.AttnIdeal.Gen.quiescent m ρ,
  frame_attn_ref, fun m ρ _ => frame_attn_ref m ρ trivial,
  fun m ρ _ => Cert.Mlp.Gen.frame m ρ, fun m ρ _ => Cert.MlpIdeal.Gen.frame m ρ, frame_mlp_ref,
  fun m ρ _ => Cert.Proj.Gen.frame m ρ, fun m ρ _ => Cert.ProjIdeal.Gen.frame m ρ, frame_proj_ref,
  fun m ρ _ => Cert.Out.Gen.frame m ρ, fun m ρ _ => Cert.OutIdeal.Gen.frame m ρ, frame_out_ref,
  frame_loss, fun m ρ _ => Cert.LossIdeal.Gen.quiescent (m := m) ρ, frame_loss_ref,
  frame_qkv, fun m ρ _ => Cert.QkvIdeal.Gen.quiescent m ρ, frame_qkv_ref,
  trivial, algebraic_ada, preserves_attn, algebraic_attn, trivial, algebraic_mlp, trivial, algebraic_proj,
  trivial, algebraic_out, trivial, algebraic_loss, trivial, algebraic_qkv⟩

end Cert.Proof

end
